-- ==== Defs.lean ====
def Pre_LossKernel (m : (ℓ : Loc Cert.LossKernel.nD Cert.LossKernel.τ Cert.LossKernel.sig) → Buf (Elt Bits) ℓ) : Prop :=
  True

def Pre_LossKernelIdeal (m : (ℓ : Loc Cert.LossKernelIdeal.nD Cert.LossKernelIdeal.τ Cert.LossKernelIdeal.sig) → Buf (Elt Ideal) ℓ) : Prop :=
  True

def Pre_LossReferenceIdeal (m : (ℓ : Loc Cert.LossReferenceIdeal.nD Cert.LossReferenceIdeal.τ Cert.LossReferenceIdeal.sig) → Buf (Elt Ideal) ℓ) : Prop :=
  True

def Pre_NormKernel (m : (ℓ : Loc Cert.NormKernel.nD Cert.NormKernel.τ Cert.NormKernel.sig) → Buf (Elt Bits) ℓ) : Prop :=
  True

def Pre_NormKernelIdeal (m : (ℓ : Loc Cert.NormKernelIdeal.nD Cert.NormKernelIdeal.τ Cert.NormKernelIdeal.sig) → Buf (Elt Ideal) ℓ) : Prop :=
  True

def Pre_NormReferenceIdeal (m : (ℓ : Loc Cert.NormReferenceIdeal.nD Cert.NormReferenceIdeal.τ Cert.NormReferenceIdeal.sig) → Buf (Elt Ideal) ℓ) : Prop :=
  True

def Pre_RmsKernel (m : (ℓ : Loc Cert.RmsKernel.nD Cert.RmsKernel.τ Cert.RmsKernel.sig) → Buf (Elt Bits) ℓ) : Prop :=
  True

def Pre_RmsKernelIdeal (m : (ℓ : Loc Cert.RmsKernelIdeal.nD Cert.RmsKernelIdeal.τ Cert.RmsKernelIdeal.sig) → Buf (Elt Ideal) ℓ) : Prop :=
  True

def Pre_RmsReferenceIdeal (m : (ℓ : Loc Cert.RmsReferenceIdeal.nD Cert.RmsReferenceIdeal.τ Cert.RmsReferenceIdeal.sig) → Buf (Elt Ideal) ℓ) : Prop :=
  True

def Pre_GateKernel (m : (ℓ : Loc Cert.GateKernel.nD Cert.GateKernel.τ Cert.GateKernel.sig) → Buf (Elt Bits) ℓ) : Prop :=
  True

def Pre_GateKernelIdeal (m : (ℓ : Loc Cert.GateKernelIdeal.nD Cert.GateKernelIdeal.τ Cert.GateKernelIdeal.sig) → Buf (Elt Ideal) ℓ) : Prop :=
  True

def Pre_GateKernelIdeal_gate_finite [hPre_gate_finite : Cert.Pre_gate_finite.Facts] (m : (ℓ : Loc Cert.GateKernelIdeal.nD Cert.GateKernelIdeal.τ Cert.GateKernelIdeal.sig) → Buf (Elt Ideal) ℓ) : Prop :=
  ∀ c : Dev Cert.GateKernelIdeal.nD,
    (Cert.Pre_gate_finite.fn (F := Ideal) (m ((c.tc : Thread Cert.GateKernelIdeal.nD Cert.GateKernelIdeal.τ).loc Cert.GateKernelIdeal.main_arg0)) (m ((c.tc : Thread Cert.GateKernelIdeal.nD Cert.GateKernelIdeal.τ).loc Cert.GateKernelIdeal.main_arg1)) (m ((c.tc : Thread Cert.GateKernelIdeal.nD Cert.GateKernelIdeal.τ).loc Cert.GateKernelIdeal.main_arg2)) (m ((c.tc : Thread Cert.GateKernelIdeal.nD Cert.GateKernelIdeal.τ).loc Cert.GateKernelIdeal.main_arg3)) (m ((c.tc : Thread Cert.GateKernelIdeal.nD Cert.GateKernelIdeal.τ).loc Cert.GateKernelIdeal.main_arg4))).1 = (fun _ => 1#1)
    ∧ (Cert.Pre_gate_finite.fn (F := Ideal) (m ((c.tc : Thread Cert.GateKernelIdeal.nD Cert.GateKernelIdeal.τ).loc Cert.GateKernelIdeal.main_arg0)) (m ((c.tc : Thread Cert.GateKernelIdeal.nD Cert.GateKernelIdeal.τ).loc Cert.GateKernelIdeal.main_arg1)) (m ((c.tc : Thread Cert.GateKernelIdeal.nD Cert.GateKernelIdeal.τ).loc Cert.GateKernelIdeal.main_arg2)) (m ((c.tc : Thread Cert.GateKernelIdeal.nD Cert.GateKernelIdeal.τ).loc Cert.GateKernelIdeal.main_arg3)) (m ((c.tc : Thread Cert.GateKernelIdeal.nD Cert.GateKernelIdeal.τ).loc Cert.GateKernelIdeal.main_arg4))).2.1 = (fun _ => 1#1)
    ∧ (Cert.Pre_gate_finite.fn (F := Ideal) (m ((c.tc : Thread Cert.GateKernelIdeal.nD Cert.GateKernelIdeal.τ).loc Cert.GateKernelIdeal.main_arg0)) (m ((c.tc : Thread Cert.GateKernelIdeal.nD Cert.GateKernelIdeal.τ).loc Cert.GateKernelIdeal.main_arg1)) (m ((c.tc : Thread Cert.GateKernelIdeal.nD Cert.GateKernelIdeal.τ).loc Cert.GateKernelIdeal.main_arg2)) (m ((c.tc : Thread Cert.GateKernelIdeal.nD Cert.GateKernelIdeal.τ).loc Cert.GateKernelIdeal.main_arg3)) (m ((c.tc : Thread Cert.GateKernelIdeal.nD Cert.GateKernelIdeal.τ).loc Cert.GateKernelIdeal.main_arg4))).2.2.1 = (fun _ => 1#1)
    ∧ (Cert.Pre_gate_finite.fn (F := Ideal) (m ((c.tc : Thread Cert.GateKernelIdeal.nD Cert.GateKernelIdeal.τ).loc Cert.GateKernelIdeal.main_arg0)) (m ((c.tc : Thread Cert.GateKernelIdeal.nD Cert.GateKernelIdeal.τ).loc Cert.GateKernelIdeal.main_arg1)) (m ((c.tc : Thread Cert.GateKernelIdeal.nD Cert.GateKernelIdeal.τ).loc Cert.GateKernelIdeal.main_arg2)) (m ((c.tc : Thread Cert.GateKernelIdeal.nD Cert.GateKernelIdeal.τ).loc Cert.GateKernelIdeal.main_arg3)) (m ((c.tc : Thread Cert.GateKernelIdeal.nD Cert.GateKernelIdeal.τ).loc Cert.GateKernelIdeal.main_arg4))).2.2.2 = (fun _ => 1#1)

def Pre_GateReferenceIdeal (m : (ℓ : Loc Cert.GateReferenceIdeal.nD Cert.GateReferenceIdeal.τ Cert.GateReferenceIdeal.sig) → Buf (Elt Ideal) ℓ) : Prop :=
  True

def Pre_GateReferenceIdeal_gate_finite [hPre_gate_finite : Cert.Pre_gate_finite.Facts] (m : (ℓ : Loc Cert.GateReferenceIdeal.nD Cert.GateReferenceIdeal.τ Cert.GateReferenceIdeal.sig) → Buf (Elt Ideal) ℓ) : Prop :=
  ∀ c : Dev Cert.GateReferenceIdeal.nD,
    (Cert.Pre_gate_finite.fn (F := Ideal) (m ((c.tc : Thread Cert.GateReferenceIdeal.nD Cert.GateReferenceIdeal.τ).loc Cert.GateReferenceIdeal.main_arg0)) (m ((c.tc : Thread Cert.GateReferenceIdeal.nD Cert.GateReferenceIdeal.τ).loc Cert.GateReferenceIdeal.main_arg1)) (m ((c.tc : Thread Cert.GateReferenceIdeal.nD Cert.GateReferenceIdeal.τ).loc Cert.GateReferenceIdeal.main_arg2)) (m ((c.tc : Thread Cert.GateReferenceIdeal.nD Cert.GateReferenceIdeal.τ).loc Cert.GateReferenceIdeal.main_arg3)) (m ((c.tc : Thread Cert.GateReferenceIdeal.nD Cert.GateReferenceIdeal.τ).loc Cert.GateReferenceIdeal.main_arg4))).1 = (fun _ => 1#1)
    ∧ (Cert.Pre_gate_finite.fn (F := Ideal) (m ((c.tc : Thread Cert.GateReferenceIdeal.nD Cert.GateReferenceIdeal.τ).loc Cert.GateReferenceIdeal.main_arg0)) (m ((c.tc : Thread Cert.GateReferenceIdeal.nD Cert.GateReferenceIdeal.τ).loc Cert.GateReferenceIdeal.main_arg1)) (m ((c.tc : Thread Cert.GateReferenceIdeal.nD Cert.GateReferenceIdeal.τ).loc Cert.GateReferenceIdeal.main_arg2)) (m ((c.tc : Thread Cert.GateReferenceIdeal.nD Cert.GateReferenceIdeal.τ).loc Cert.GateReferenceIdeal.main_arg3)) (m ((c.tc : Thread Cert.GateReferenceIdeal.nD Cert.GateReferenceIdeal.τ).loc Cert.GateReferenceIdeal.main_arg4))).2.1 = (fun _ => 1#1)
    ∧ (Cert.Pre_gate_finite.fn (F := Ideal) (m ((c.tc : Thread Cert.GateReferenceIdeal.nD Cert.GateReferenceIdeal.τ).loc Cert.GateReferenceIdeal.main_arg0)) (m ((c.tc : Thread Cert.GateReferenceIdeal.nD Cert.GateReferenceIdeal.τ).loc Cert.GateReferenceIdeal.main_arg1)) (m ((c.tc : Thread Cert.GateReferenceIdeal.nD Cert.GateReferenceIdeal.τ).loc Cert.GateReferenceIdeal.main_arg2)) (m ((c.tc : Thread Cert.GateReferenceIdeal.nD Cert.GateReferenceIdeal.τ).loc Cert.GateReferenceIdeal.main_arg3)) (m ((c.tc : Thread Cert.GateReferenceIdeal.nD Cert.GateReferenceIdeal.τ).loc Cert.GateReferenceIdeal.main_arg4))).2.2.1 = (fun _ => 1#1)
    ∧ (Cert.Pre_gate_finite.fn (F := Ideal) (m ((c.tc : Thread Cert.GateReferenceIdeal.nD Cert.GateReferenceIdeal.τ).loc Cert.GateReferenceIdeal.main_arg0)) (m ((c.tc : Thread Cert.GateReferenceIdeal.nD Cert.GateReferenceIdeal.τ).loc Cert.GateReferenceIdeal.main_arg1)) (m ((c.tc : Thread Cert.GateReferenceIdeal.nD Cert.GateReferenceIdeal.τ).loc Cert.GateReferenceIdeal.main_arg2)) (m ((c.tc : Thread Cert.GateReferenceIdeal.nD Cert.GateReferenceIdeal.τ).loc Cert.GateReferenceIdeal.main_arg3)) (m ((c.tc : Thread Cert.GateReferenceIdeal.nD Cert.GateReferenceIdeal.τ).loc Cert.GateReferenceIdeal.main_arg4))).2.2.2 = (fun _ => 1#1)

def Pre_ConvKernel (m : (ℓ : Loc Cert.ConvKernel.nD Cert.ConvKernel.τ Cert.ConvKernel.sig) → Buf (Elt Bits) ℓ) : Prop :=
  True

def Pre_ConvKernelIdeal (m : (ℓ : Loc Cert.ConvKernelIdeal.nD Cert.ConvKernelIdeal.τ Cert.ConvKernelIdeal.sig) → Buf (Elt Ideal) ℓ) : Prop :=
  True

def Pre_ConvReferenceIdeal (m : (ℓ : Loc Cert.ConvReferenceIdeal.nD Cert.ConvReferenceIdeal.τ Cert.ConvReferenceIdeal.sig) → Buf (Elt Ideal) ℓ) : Prop :=
  True

def Pre_MixKernel (m : (ℓ : Loc Cert.MixKernel.nD Cert.MixKernel.τ Cert.MixKernel.sig) → Buf (Elt Bits) ℓ) : Prop :=
  True

def Pre_MixKernelIdeal (m : (ℓ : Loc Cert.MixKernelIdeal.nD Cert.MixKernelIdeal.τ Cert.MixKernelIdeal.sig) → Buf (Elt Ideal) ℓ) : Prop :=
  True

def Pre_MixReferenceIdeal (m : (ℓ : Loc Cert.MixReferenceIdeal.nD Cert.MixReferenceIdeal.τ Cert.MixReferenceIdeal.sig) → Buf (Elt Ideal) ℓ) : Prop :=
  True

def Pre_PoolKernel (m : (ℓ : Loc Cert.PoolKernel.nD Cert.PoolKernel.τ Cert.PoolKernel.sig) → Buf (Elt Bits) ℓ) : Prop :=
  True

def Pre_PoolKernelIdeal (m : (ℓ : Loc Cert.PoolKernelIdeal.nD Cert.PoolKernelIdeal.τ Cert.PoolKernelIdeal.sig) → Buf (Elt Ideal) ℓ) : Prop :=
  True

def Pre_PoolKernelIdeal_pool_finite [hPre_pool_finite : Cert.Pre_pool_finite.Facts] (m : (ℓ : Loc Cert.PoolKernelIdeal.nD Cert.PoolKernelIdeal.τ Cert.PoolKernelIdeal.sig) → Buf (Elt Ideal) ℓ) : Prop :=
  ∀ c : Dev Cert.PoolKernelIdeal.nD,
    (Cert.Pre_pool_finite.fn (F := Ideal) (m ((c.tc : Thread Cert.PoolKernelIdeal.nD Cert.PoolKernelIdeal.τ).loc Cert.PoolKernelIdeal.main_arg0)) (m ((c.tc : Thread Cert.PoolKernelIdeal.nD Cert.PoolKernelIdeal.τ).loc Cert.PoolKernelIdeal.main_arg1)) (m ((c.tc : Thread Cert.PoolKernelIdeal.nD Cert.PoolKernelIdeal.τ).loc Cert.PoolKernelIdeal.main_arg2)) (m ((c.tc : Thread Cert.PoolKernelIdeal.nD Cert.PoolKernelIdeal.τ).loc Cert.PoolKernelIdeal.main_arg3)) (m ((c.tc : Thread Cert.PoolKernelIdeal.nD Cert.PoolKernelIdeal.τ).loc Cert.PoolKernelIdeal.main_arg4))).1 = (fun _ => 1#1)
    ∧ (Cert.Pre_pool_finite.fn (F := Ideal) (m ((c.tc : Thread Cert.PoolKernelIdeal.nD Cert.PoolKernelIdeal.τ).loc Cert.PoolKernelIdeal.main_arg0)) (m ((c.tc : Thread Cert.PoolKernelIdeal.nD Cert.PoolKernelIdeal.τ).loc Cert.PoolKernelIdeal.main_arg1)) (m ((c.tc : Thread Cert.PoolKernelIdeal.nD Cert.PoolKernelIdeal.τ).loc Cert.PoolKernelIdeal.main_arg2)) (m ((c.tc : Thread Cert.PoolKernelIdeal.nD Cert.PoolKernelIdeal.τ).loc Cert.PoolKernelIdeal.main_arg3)) (m ((c.tc : Thread Cert.PoolKernelIdeal.nD Cert.PoolKernelIdeal.τ).loc Cert.PoolKernelIdeal.main_arg4))).2.1 = (fun _ => 1#1)
    ∧ (Cert.Pre_pool_finite.fn (F := Ideal) (m ((c.tc : Thread Cert.PoolKernelIdeal.nD Cert.PoolKernelIdeal.τ).loc Cert.PoolKernelIdeal.main_arg0)) (m ((c.tc : Thread Cert.PoolKernelIdeal.nD Cert.PoolKernelIdeal.τ).loc Cert.PoolKernelIdeal.main_arg1)) (m ((c.tc : Thread Cert.PoolKernelIdeal.nD Cert.PoolKernelIdeal.τ).loc Cert.PoolKernelIdeal.main_arg2)) (m ((c.tc : Thread Cert.PoolKernelIdeal.nD Cert.PoolKernelIdeal.τ).loc Cert.PoolKernelIdeal.main_arg3)) (m ((c.tc : Thread Cert.PoolKernelIdeal.nD Cert.PoolKernelIdeal.τ).loc Cert.PoolKernelIdeal.main_arg4))).2.2.1 = (fun _ => 1#1)
    ∧ (Cert.Pre_pool_finite.fn (F := Ideal) (m ((c.tc : Thread Cert.PoolKernelIdeal.nD Cert.PoolKernelIdeal.τ).loc Cert.PoolKernelIdeal.main_arg0)) (m ((c.tc : Thread Cert.PoolKernelIdeal.nD Cert.PoolKernelIdeal.τ).loc Cert.PoolKernelIdeal.main_arg1)) (m ((c.tc : Thread Cert.PoolKernelIdeal.nD Cert.PoolKernelIdeal.τ).loc Cert.PoolKernelIdeal.main_arg2)) (m ((c.tc : Thread Cert.PoolKernelIdeal.nD Cert.PoolKernelIdeal.τ).loc Cert.PoolKernelIdeal.main_arg3)) (m ((c.tc : Thread Cert.PoolKernelIdeal.nD Cert.PoolKernelIdeal.τ).loc Cert.PoolKernelIdeal.main_arg4))).2.2.2 = (fun _ => 1#1)

def Pre_PoolReferenceIdeal (m : (ℓ : Loc Cert.PoolReferenceIdeal.nD Cert.PoolReferenceIdeal.τ Cert.PoolReferenceIdeal.sig) → Buf (Elt Ideal) ℓ) : Prop :=
  True

def Pre_PoolReferenceIdeal_pool_finite [hPre_pool_finite : Cert.Pre_pool_finite.Facts] (m : (ℓ : Loc Cert.PoolReferenceIdeal.nD Cert.PoolReferenceIdeal.τ Cert.PoolReferenceIdeal.sig) → Buf (Elt Ideal) ℓ) : Prop :=
  ∀ c : Dev Cert.PoolReferenceIdeal.nD,
    (Cert.Pre_pool_finite.fn (F := Ideal) (m ((c.tc : Thread Cert.PoolReferenceIdeal.nD Cert.PoolReferenceIdeal.τ).loc Cert.PoolReferenceIdeal.main_arg0)) (m ((c.tc : Thread Cert.PoolReferenceIdeal.nD Cert.PoolReferenceIdeal.τ).loc Cert.PoolReferenceIdeal.main_arg1)) (m ((c.tc : Thread Cert.PoolReferenceIdeal.nD Cert.PoolReferenceIdeal.τ).loc Cert.PoolReferenceIdeal.main_arg2)) (m ((c.tc : Thread Cert.PoolReferenceIdeal.nD Cert.PoolReferenceIdeal.τ).loc Cert.PoolReferenceIdeal.main_arg3)) (m ((c.tc : Thread Cert.PoolReferenceIdeal.nD Cert.PoolReferenceIdeal.τ).loc Cert.PoolReferenceIdeal.main_arg4))).1 = (fun _ => 1#1)
    ∧ (Cert.Pre_pool_finite.fn (F := Ideal) (m ((c.tc : Thread Cert.PoolReferenceIdeal.nD Cert.PoolReferenceIdeal.τ).loc Cert.PoolReferenceIdeal.main_arg0)) (m ((c.tc : Thread Cert.PoolReferenceIdeal.nD Cert.PoolReferenceIdeal.τ).loc Cert.PoolReferenceIdeal.main_arg1)) (m ((c.tc : Thread Cert.PoolReferenceIdeal.nD Cert.PoolReferenceIdeal.τ).loc Cert.PoolReferenceIdeal.main_arg2)) (m ((c.tc : Thread Cert.PoolReferenceIdeal.nD Cert.PoolReferenceIdeal.τ).loc Cert.PoolReferenceIdeal.main_arg3)) (m ((c.tc : Thread Cert.PoolReferenceIdeal.nD Cert.PoolReferenceIdeal.τ).loc Cert.PoolReferenceIdeal.main_arg4))).2.1 = (fun _ => 1#1)
    ∧ (Cert.Pre_pool_finite.fn (F := Ideal) (m ((c.tc : Thread Cert.PoolReferenceIdeal.nD Cert.PoolReferenceIdeal.τ).loc Cert.PoolReferenceIdeal.main_arg0)) (m ((c.tc : Thread Cert.PoolReferenceIdeal.nD Cert.PoolReferenceIdeal.τ).loc Cert.PoolReferenceIdeal.main_arg1)) (m ((c.tc : Thread Cert.PoolReferenceIdeal.nD Cert.PoolReferenceIdeal.τ).loc Cert.PoolReferenceIdeal.main_arg2)) (m ((c.tc : Thread Cert.PoolReferenceIdeal.nD Cert.PoolReferenceIdeal.τ).loc Cert.PoolReferenceIdeal.main_arg3)) (m ((c.tc : Thread Cert.PoolReferenceIdeal.nD Cert.PoolReferenceIdeal.τ).loc Cert.PoolReferenceIdeal.main_arg4))).2.2.1 = (fun _ => 1#1)
    ∧ (Cert.Pre_pool_finite.fn (F := Ideal) (m ((c.tc : Thread Cert.PoolReferenceIdeal.nD Cert.PoolReferenceIdeal.τ).loc Cert.PoolReferenceIdeal.main_arg0)) (m ((c.tc : Thread Cert.PoolReferenceIdeal.nD Cert.PoolReferenceIdeal.τ).loc Cert.PoolReferenceIdeal.main_arg1)) (m ((c.tc : Thread Cert.PoolReferenceIdeal.nD Cert.PoolReferenceIdeal.τ).loc Cert.PoolReferenceIdeal.main_arg2)) (m ((c.tc : Thread Cert.PoolReferenceIdeal.nD Cert.PoolReferenceIdeal.τ).loc Cert.PoolReferenceIdeal.main_arg3)) (m ((c.tc : Thread Cert.PoolReferenceIdeal.nD Cert.PoolReferenceIdeal.τ).loc Cert.PoolReferenceIdeal.main_arg4))).2.2.2 = (fun _ => 1#1)

def Pre_AttnKernel (m : (ℓ : Loc Cert.AttnKernel.nD Cert.AttnKernel.τ Cert.AttnKernel.sig) → Buf (Elt Bits) ℓ) : Prop :=
  True

def Pre_AttnKernelIdeal (m : (ℓ : Loc Cert.AttnKernelIdeal.nD Cert.AttnKernelIdeal.τ Cert.AttnKernelIdeal.sig) → Buf (Elt Ideal) ℓ) : Prop :=
  True

def Pre_AttnKernelIdeal_attn_finite [hPre_attn_finite : Cert.Pre_attn_finite.Facts] (m : (ℓ : Loc Cert.AttnKernelIdeal.nD Cert.AttnKernelIdeal.τ Cert.AttnKernelIdeal.sig) → Buf (Elt Ideal) ℓ) : Prop :=
  ∀ c : Dev Cert.AttnKernelIdeal.nD,
    (Cert.Pre_attn_finite.fn (F := Ideal) (m ((c.tc : Thread Cert.AttnKernelIdeal.nD Cert.AttnKernelIdeal.τ).loc Cert.AttnKernelIdeal.main_arg0)) (m ((c.tc : Thread Cert.AttnKernelIdeal.nD Cert.AttnKernelIdeal.τ).loc Cert.AttnKernelIdeal.main_arg1)) (m ((c.tc : Thread Cert.AttnKernelIdeal.nD Cert.AttnKernelIdeal.τ).loc Cert.AttnKernelIdeal.main_arg2)) (m ((c.tc : Thread Cert.AttnKernelIdeal.nD Cert.AttnKernelIdeal.τ).loc Cert.AttnKernelIdeal.main_arg3))).1 = (fun _ => 1#1)
    ∧ (Cert.Pre_attn_finite.fn (F := Ideal) (m ((c.tc : Thread Cert.AttnKernelIdeal.nD Cert.AttnKernelIdeal.τ).loc Cert.AttnKernelIdeal.main_arg0)) (m ((c.tc : Thread Cert.AttnKernelIdeal.nD Cert.AttnKernelIdeal.τ).loc Cert.AttnKernelIdeal.main_arg1)) (m ((c.tc : Thread Cert.AttnKernelIdeal.nD Cert.AttnKernelIdeal.τ).loc Cert.AttnKernelIdeal.main_arg2)) (m ((c.tc : Thread Cert.AttnKernelIdeal.nD Cert.AttnKernelIdeal.τ).loc Cert.AttnKernelIdeal.main_arg3))).2.1 = (fun _ => 1#1)
    ∧ (Cert.Pre_attn_finite.fn (F := Ideal) (m ((c.tc : Thread Cert.AttnKernelIdeal.nD Cert.AttnKernelIdeal.τ).loc Cert.AttnKernelIdeal.main_arg0)) (m ((c.tc : Thread Cert.AttnKernelIdeal.nD Cert.AttnKernelIdeal.τ).loc Cert.AttnKernelIdeal.main_arg1)) (m ((c.tc : Thread Cert.AttnKernelIdeal.nD Cert.AttnKernelIdeal.τ).loc Cert.AttnKernelIdeal.main_arg2)) (m ((c.tc : Thread Cert.AttnKernelIdeal.nD Cert.AttnKernelIdeal.τ).loc Cert.AttnKernelIdeal.main_arg3))).2.2.1 = (fun _ => 1#1)
    ∧ (Cert.Pre_attn_finite.fn (F := Ideal) (m ((c.tc : Thread Cert.AttnKernelIdeal.nD Cert.AttnKernelIdeal.τ).loc Cert.AttnKernelIdeal.main_arg0)) (m ((c.tc : Thread Cert.AttnKernelIdeal.nD Cert.AttnKernelIdeal.τ).loc Cert.AttnKernelIdeal.main_arg1)) (m ((c.tc : Thread Cert.AttnKernelIdeal.nD Cert.AttnKernelIdeal.τ).loc Cert.AttnKernelIdeal.main_arg2)) (m ((c.tc : Thread Cert.AttnKernelIdeal.nD Cert.AttnKernelIdeal.τ).loc Cert.AttnKernelIdeal.main_arg3))).2.2.2 = (fun _ => 1#1)

def Pre_AttnReferenceIdeal (m : (ℓ : Loc Cert.AttnReferenceIdeal.nD Cert.AttnReferenceIdeal.τ Cert.AttnReferenceIdeal.sig) → Buf (Elt Ideal) ℓ) : Prop :=
  True

def Pre_AttnReferenceIdeal_attn_finite [hPre_attn_finite : Cert.Pre_attn_finite.Facts] (m : (ℓ : Loc Cert.AttnReferenceIdeal.nD Cert.AttnReferenceIdeal.τ Cert.AttnReferenceIdeal.sig) → Buf (Elt Ideal) ℓ) : Prop :=
  ∀ c : Dev Cert.AttnReferenceIdeal.nD,
    (Cert.Pre_attn_finite.fn (F := Ideal) (m ((c.tc : Thread Cert.AttnReferenceIdeal.nD Cert.AttnReferenceIdeal.τ).loc Cert.AttnReferenceIdeal.main_arg0)) (m ((c.tc : Thread Cert.AttnReferenceIdeal.nD Cert.AttnReferenceIdeal.τ).loc Cert.AttnReferenceIdeal.main_arg1)) (m ((c.tc : Thread Cert.AttnReferenceIdeal.nD Cert.AttnReferenceIdeal.τ).loc Cert.AttnReferenceIdeal.main_arg2)) (m ((c.tc : Thread Cert.AttnReferenceIdeal.nD Cert.AttnReferenceIdeal.τ).loc Cert.AttnReferenceIdeal.main_arg3))).1 = (fun _ => 1#1)
    ∧ (Cert.Pre_attn_finite.fn (F := Ideal) (m ((c.tc : Thread Cert.AttnReferenceIdeal.nD Cert.AttnReferenceIdeal.τ).loc Cert.AttnReferenceIdeal.main_arg0)) (m ((c.tc : Thread Cert.AttnReferenceIdeal.nD Cert.AttnReferenceIdeal.τ).loc Cert.AttnReferenceIdeal.main_arg1)) (m ((c.tc : Thread Cert.AttnReferenceIdeal.nD Cert.AttnReferenceIdeal.τ).loc Cert.AttnReferenceIdeal.main_arg2)) (m ((c.tc : Thread Cert.AttnReferenceIdeal.nD Cert.AttnReferenceIdeal.τ).loc Cert.AttnReferenceIdeal.main_arg3))).2.1 = (fun _ => 1#1)
    ∧ (Cert.Pre_attn_finite.fn (F := Ideal) (m ((c.tc : Thread Cert.AttnReferenceIdeal.nD Cert.AttnReferenceIdeal.τ).loc Cert.AttnReferenceIdeal.main_arg0)) (m ((c.tc : Thread Cert.AttnReferenceIdeal.nD Cert.AttnReferenceIdeal.τ).loc Cert.AttnReferenceIdeal.main_arg1)) (m ((c.tc : Thread Cert.AttnReferenceIdeal.nD Cert.AttnReferenceIdeal.τ).loc Cert.AttnReferenceIdeal.main_arg2)) (m ((c.tc : Thread Cert.AttnReferenceIdeal.nD Cert.AttnReferenceIdeal.τ).loc Cert.AttnReferenceIdeal.main_arg3))).2.2.1 = (fun _ => 1#1)
    ∧ (Cert.Pre_attn_finite.fn (F := Ideal) (m ((c.tc : Thread Cert.AttnReferenceIdeal.nD Cert.AttnReferenceIdeal.τ).loc Cert.AttnReferenceIdeal.main_arg0)) (m ((c.tc : Thread Cert.AttnReferenceIdeal.nD Cert.AttnReferenceIdeal.τ).loc Cert.AttnReferenceIdeal.main_arg1)) (m ((c.tc : Thread Cert.AttnReferenceIdeal.nD Cert.AttnReferenceIdeal.τ).loc Cert.AttnReferenceIdeal.main_arg2)) (m ((c.tc : Thread Cert.AttnReferenceIdeal.nD Cert.AttnReferenceIdeal.τ).loc Cert.AttnReferenceIdeal.main_arg3))).2.2.2 = (fun _ => 1#1)

def Pre_ProjKernel (m : (ℓ : Loc Cert.ProjKernel.nD Cert.ProjKernel.τ Cert.ProjKernel.sig) → Buf (Elt Bits) ℓ) : Prop :=
  True

def Pre_ProjKernelIdeal (m : (ℓ : Loc Cert.ProjKernelIdeal.nD Cert.ProjKernelIdeal.τ Cert.ProjKernelIdeal.sig) → Buf (Elt Ideal) ℓ) : Prop :=
  True

def Pre_ProjReferenceIdeal (m : (ℓ : Loc Cert.ProjReferenceIdeal.nD Cert.ProjReferenceIdeal.τ Cert.ProjReferenceIdeal.sig) → Buf (Elt Ideal) ℓ) : Prop :=
  True

def Pre_ResKernel (m : (ℓ : Loc Cert.ResKernel.nD Cert.ResKernel.τ Cert.ResKernel.sig) → Buf (Elt Bits) ℓ) : Prop :=
  True

def Pre_ResKernelIdeal (m : (ℓ : Loc Cert.ResKernelIdeal.nD Cert.ResKernelIdeal.τ Cert.ResKernelIdeal.sig) → Buf (Elt Ideal) ℓ) : Prop :=
  True

def Pre_ResReferenceIdeal (m : (ℓ : Loc Cert.ResReferenceIdeal.nD Cert.ResReferenceIdeal.τ Cert.ResReferenceIdeal.sig) → Buf (Elt Ideal) ℓ) : Prop :=
  True

def Pre_DownKernel (m : (ℓ : Loc Cert.DownKernel.nD Cert.DownKernel.τ Cert.DownKernel.sig) → Buf (Elt Bits) ℓ) : Prop :=
  True

def Pre_DownKernelIdeal (m : (ℓ : Loc Cert.DownKernelIdeal.nD Cert.DownKernelIdeal.τ Cert.DownKernelIdeal.sig) → Buf (Elt Ideal) ℓ) : Prop :=
  True

def Pre_DownReferenceIdeal (m : (ℓ : Loc Cert.DownReferenceIdeal.nD Cert.DownReferenceIdeal.τ Cert.DownReferenceIdeal.sig) → Buf (Elt Ideal) ℓ) : Prop :=
  True

def Pre_BackKernel (m : (ℓ : Loc Cert.BackKernel.nD Cert.BackKernel.τ Cert.BackKernel.sig) → Buf (Elt Bits) ℓ) : Prop :=
  True

def Pre_BackKernelIdeal (m : (ℓ : Loc Cert.BackKernelIdeal.nD Cert.BackKernelIdeal.τ Cert.BackKernelIdeal.sig) → Buf (Elt Ideal) ℓ) : Prop :=
  True

def Pre_BackReferenceIdeal (m : (ℓ : Loc Cert.BackReferenceIdeal.nD Cert.BackReferenceIdeal.τ Cert.BackReferenceIdeal.sig) → Buf (Elt Ideal) ℓ) : Prop :=
  True

def Pre_FfdhKernel (m : (ℓ : Loc Cert.FfdhKernel.nD Cert.FfdhKernel.τ Cert.FfdhKernel.sig) → Buf (Elt Bits) ℓ) : Prop :=
  True

def Pre_FfdhKernelIdeal (m : (ℓ : Loc Cert.FfdhKernelIdeal.nD Cert.FfdhKernelIdeal.τ Cert.FfdhKernelIdeal.sig) → Buf (Elt Ideal) ℓ) : Prop :=
  True

def Pre_FfdhReferenceIdeal (m : (ℓ : Loc Cert.FfdhReferenceIdeal.nD Cert.FfdhReferenceIdeal.τ Cert.FfdhReferenceIdeal.sig) → Buf (Elt Ideal) ℓ) : Prop :=
  True

def Pre_SectKernel (m : (ℓ : Loc Cert.SectKernel.nD Cert.SectKernel.τ Cert.SectKernel.sig) → Buf (Elt Bits) ℓ) : Prop :=
  True

def Pre_SectKernelIdeal (m : (ℓ : Loc Cert.SectKernelIdeal.nD Cert.SectKernelIdeal.τ Cert.SectKernelIdeal.sig) → Buf (Elt Ideal) ℓ) : Prop :=
  True

def Pre_SectReferenceIdeal (m : (ℓ : Loc Cert.SectReferenceIdeal.nD Cert.SectReferenceIdeal.τ Cert.SectReferenceIdeal.sig) → Buf (Elt Ideal) ℓ) : Prop :=
  True

def Pre_WcolKernel (m : (ℓ : Loc Cert.WcolKernel.nD Cert.WcolKernel.τ Cert.WcolKernel.sig) → Buf (Elt Bits) ℓ) : Prop :=
  True

def Pre_WcolKernelIdeal (m : (ℓ : Loc Cert.WcolKernelIdeal.nD Cert.WcolKernelIdeal.τ Cert.WcolKernelIdeal.sig) → Buf (Elt Ideal) ℓ) : Prop :=
  True

def Pre_WcolReferenceIdeal (m : (ℓ : Loc Cert.WcolReferenceIdeal.nD Cert.WcolReferenceIdeal.τ Cert.WcolReferenceIdeal.sig) → Buf (Elt Ideal) ℓ) : Prop :=
  True

def Pre_WrowKernel (m : (ℓ : Loc Cert.WrowKernel.nD Cert.WrowKernel.τ Cert.WrowKernel.sig) → Buf (Elt Bits) ℓ) : Prop :=
  True

def Pre_WrowKernelIdeal (m : (ℓ : Loc Cert.WrowKernelIdeal.nD Cert.WrowKernelIdeal.τ Cert.WrowKernelIdeal.sig) → Buf (Elt Ideal) ℓ) : Prop :=
  True

def Pre_WrowReferenceIdeal (m : (ℓ : Loc Cert.WrowReferenceIdeal.nD Cert.WrowReferenceIdeal.τ Cert.WrowReferenceIdeal.sig) → Buf (Elt Ideal) ℓ) : Prop :=
  True

def Pre_WstdKernel (m : (ℓ : Loc Cert.WstdKernel.nD Cert.WstdKernel.τ Cert.WstdKernel.sig) → Buf (Elt Bits) ℓ) : Prop :=
  True

def Pre_WstdKernelIdeal (m : (ℓ : Loc Cert.WstdKernelIdeal.nD Cert.WstdKernelIdeal.τ Cert.WstdKernelIdeal.sig) → Buf (Elt Ideal) ℓ) : Prop :=
  True

def Pre_WstdReferenceIdeal (m : (ℓ : Loc Cert.WstdReferenceIdeal.nD Cert.WstdReferenceIdeal.τ Cert.WstdReferenceIdeal.sig) → Buf (Elt Ideal) ℓ) : Prop :=
  True

def Pre_WsecKernel (m : (ℓ : Loc Cert.WsecKernel.nD Cert.WsecKernel.τ Cert.WsecKernel.sig) → Buf (Elt Bits) ℓ) : Prop :=
  True

def Pre_WsecKernelIdeal (m : (ℓ : Loc Cert.WsecKernelIdeal.nD Cert.WsecKernelIdeal.τ Cert.WsecKernelIdeal.sig) → Buf (Elt Ideal) ℓ) : Prop :=
  True

def Pre_WsecReferenceIdeal (m : (ℓ : Loc Cert.WsecReferenceIdeal.nD Cert.WsecReferenceIdeal.τ Cert.WsecReferenceIdeal.sig) → Buf (Elt Ideal) ℓ) : Prop :=
  True

def Pre_AdamKernel (m : (ℓ : Loc Cert.AdamKernel.nD Cert.AdamKernel.τ Cert.AdamKernel.sig) → Buf (Elt Bits) ℓ) : Prop :=
  True

def Pre_AdamKernelIdeal (m : (ℓ : Loc Cert.AdamKernelIdeal.nD Cert.AdamKernelIdeal.τ Cert.AdamKernelIdeal.sig) → Buf (Elt Ideal) ℓ) : Prop :=
  True

def Pre_AdamReferenceIdeal (m : (ℓ : Loc Cert.AdamReferenceIdeal.nD Cert.AdamReferenceIdeal.τ Cert.AdamReferenceIdeal.sig) → Buf (Elt Ideal) ℓ) : Prop :=
  True

def Pre_ChipKernel [hPre_chip_core : Cert.Pre_chip_core.Facts] (m : (ℓ : Loc Cert.ChipKernel.nD Cert.ChipKernel.τ Cert.ChipKernel.sig) → Buf (Elt Bits) ℓ) : Prop :=
  ∀ c : Dev Cert.ChipKernel.nD,
    (Cert.Pre_chip_core.fn (F := Bits) (m ((c.tc : Thread Cert.ChipKernel.nD Cert.ChipKernel.τ).loc Cert.ChipKernel.main_arg0)) (m ((c.tc : Thread Cert.ChipKernel.nD Cert.ChipKernel.τ).loc Cert.ChipKernel.main_arg1)) (m ((c.tc : Thread Cert.ChipKernel.nD Cert.ChipKernel.τ).loc Cert.ChipKernel.main_arg2))) = (fun _ => 1#1)

def Pre_ChipKernelIdeal [hPre_chip_core : Cert.Pre_chip_core.Facts] (m : (ℓ : Loc Cert.ChipKernelIdeal.nD Cert.ChipKernelIdeal.τ Cert.ChipKernelIdeal.sig) → Buf (Elt Ideal) ℓ) : Prop :=
  ∀ c : Dev Cert.ChipKernelIdeal.nD,
    (Cert.Pre_chip_core.fn (F := Ideal) (m ((c.tc : Thread Cert.ChipKernelIdeal.nD Cert.ChipKernelIdeal.τ).loc Cert.ChipKernelIdeal.main_arg0)) (m ((c.tc : Thread Cert.ChipKernelIdeal.nD Cert.ChipKernelIdeal.τ).loc Cert.ChipKernelIdeal.main_arg1)) (m ((c.tc : Thread Cert.ChipKernelIdeal.nD Cert.ChipKernelIdeal.τ).loc Cert.ChipKernelIdeal.main_arg2))) = (fun _ => 1#1)

def Pre_ChipReferenceIdeal [hPre_chip_core : Cert.Pre_chip_core.Facts] (m : (ℓ : Loc Cert.ChipReferenceIdeal.nD Cert.ChipReferenceIdeal.τ Cert.ChipReferenceIdeal.sig) → Buf (Elt Ideal) ℓ) : Prop :=
  ∀ c : Dev Cert.ChipReferenceIdeal.nD,
    (Cert.Pre_chip_core.fn (F := Ideal) (m ((c.tc : Thread Cert.ChipReferenceIdeal.nD Cert.ChipReferenceIdeal.τ).loc Cert.ChipReferenceIdeal.main_arg0)) (m ((c.tc : Thread Cert.ChipReferenceIdeal.nD Cert.ChipReferenceIdeal.τ).loc Cert.ChipReferenceIdeal.main_arg1)) (m ((c.tc : Thread Cert.ChipReferenceIdeal.nD Cert.ChipReferenceIdeal.τ).loc Cert.ChipReferenceIdeal.main_arg2))) = (fun _ => 1#1)

def Pre_UpdKernel [hPre_upd_chip : Cert.Pre_upd_chip.Facts] (m : (ℓ : Loc Cert.UpdKernel.nD Cert.UpdKernel.τ Cert.UpdKernel.sig) → Buf (Elt Bits) ℓ) : Prop :=
  ∀ c : Dev Cert.UpdKernel.nD,
    (Cert.Pre_upd_chip.fn (F := Bits) (m ((c.tc : Thread Cert.UpdKernel.nD Cert.UpdKernel.τ).loc Cert.UpdKernel.main_arg0)) (m ((c.tc : Thread Cert.UpdKernel.nD Cert.UpdKernel.τ).loc Cert.UpdKernel.main_arg1)) (m ((c.tc : Thread Cert.UpdKernel.nD Cert.UpdKernel.τ).loc Cert.UpdKernel.main_arg2)) (m ((c.tc : Thread Cert.UpdKernel.nD Cert.UpdKernel.τ).loc Cert.UpdKernel.main_arg3)) (m ((c.tc : Thread Cert.UpdKernel.nD Cert.UpdKernel.τ).loc Cert.UpdKernel.main_arg4)) (m ((c.tc : Thread Cert.UpdKernel.nD Cert.UpdKernel.τ).loc Cert.UpdKernel.main_arg5))) = (fun _ => 1#1)

def Pre_UpdKernelIdeal [hPre_upd_chip : Cert.Pre_upd_chip.Facts] (m : (ℓ : Loc Cert.UpdKernelIdeal.nD Cert.UpdKernelIdeal.τ Cert.UpdKernelIdeal.sig) → Buf (Elt Ideal) ℓ) : Prop :=
  ∀ c : Dev Cert.UpdKernelIdeal.nD,
    (Cert.Pre_upd_chip.fn (F := Ideal) (m ((c.tc : Thread Cert.UpdKernelIdeal.nD Cert.UpdKernelIdeal.τ).loc Cert.UpdKernelIdeal.main_arg0)) (m ((c.tc : Thread Cert.UpdKernelIdeal.nD Cert.UpdKernelIdeal.τ).loc Cert.UpdKernelIdeal.main_arg1)) (m ((c.tc : Thread Cert.UpdKernelIdeal.nD Cert.UpdKernelIdeal.τ).loc Cert.UpdKernelIdeal.main_arg2)) (m ((c.tc : Thread Cert.UpdKernelIdeal.nD Cert.UpdKernelIdeal.τ).loc Cert.UpdKernelIdeal.main_arg3)) (m ((c.tc : Thread Cert.UpdKernelIdeal.nD Cert.UpdKernelIdeal.τ).loc Cert.UpdKernelIdeal.main_arg4)) (m ((c.tc : Thread Cert.UpdKernelIdeal.nD Cert.UpdKernelIdeal.τ).loc Cert.UpdKernelIdeal.main_arg5))) = (fun _ => 1#1)

def Pre_UpdReferenceIdeal [hPre_upd_chip : Cert.Pre_upd_chip.Facts] (m : (ℓ : Loc Cert.UpdReferenceIdeal.nD Cert.UpdReferenceIdeal.τ Cert.UpdReferenceIdeal.sig) → Buf (Elt Ideal) ℓ) : Prop :=
  ∀ c : Dev Cert.UpdReferenceIdeal.nD,
    (Cert.Pre_upd_chip.fn (F := Ideal) (m ((c.tc : Thread Cert.UpdReferenceIdeal.nD Cert.UpdReferenceIdeal.τ).loc Cert.UpdReferenceIdeal.main_arg0)) (m ((c.tc : Thread Cert.UpdReferenceIdeal.nD Cert.UpdReferenceIdeal.τ).loc Cert.UpdReferenceIdeal.main_arg1)) (m ((c.tc : Thread Cert.UpdReferenceIdeal.nD Cert.UpdReferenceIdeal.τ).loc Cert.UpdReferenceIdeal.main_arg2)) (m ((c.tc : Thread Cert.UpdReferenceIdeal.nD Cert.UpdReferenceIdeal.τ).loc Cert.UpdReferenceIdeal.main_arg3)) (m ((c.tc : Thread Cert.UpdReferenceIdeal.nD Cert.UpdReferenceIdeal.τ).loc Cert.UpdReferenceIdeal.main_arg4)) (m ((c.tc : Thread Cert.UpdReferenceIdeal.nD Cert.UpdReferenceIdeal.τ).loc Cert.UpdReferenceIdeal.main_arg5))) = (fun _ => 1#1)

def quiescent_LossKernel [hLossKernel : Cert.LossKernel.Facts] : Prop :=
  ∀ (m : (ℓ : Loc Cert.LossKernel.nD Cert.LossKernel.τ Cert.LossKernel.sig) → Buf (Elt Bits) ℓ) (g : Dev Cert.LossKernel.nD → PrngReg), Pre_LossKernel m →
    θ_run (Cert.LossKernel.defs (F := Bits)) (onTc (τ := Cert.LossKernel.τ) (Cert.LossKernel.main (F := Bits))) ⟨m, fun _ => 0, g⟩ (fun r => (∀ c : Dev Cert.LossKernel.nD,
      r.2.mem ((c.tc : Thread Cert.LossKernel.nD Cert.LossKernel.τ).loc Cert.LossKernel.main_arg0) = m ((c.tc : Thread Cert.LossKernel.nD Cert.LossKernel.τ).loc Cert.LossKernel.main_arg0)
      ∧ r.2.mem ((c.tc : Thread Cert.LossKernel.nD Cert.LossKernel.τ).loc Cert.LossKernel.main_arg1) = m ((c.tc : Thread Cert.LossKernel.nD Cert.LossKernel.τ).loc Cert.LossKernel.main_arg1))
      ∧ r.2.sem = fun _ => 0)

def quiescent_LossKernelIdeal [hLossKernelIdeal : Cert.LossKernelIdeal.Facts] : Prop :=
  ∀ (m : (ℓ : Loc Cert.LossKernelIdeal.nD Cert.LossKernelIdeal.τ Cert.LossKernelIdeal.sig) → Buf (Elt Ideal) ℓ) (g : Dev Cert.LossKernelIdeal.nD → PrngReg), Pre_LossKernelIdeal m →
    θ_run (Cert.LossKernelIdeal.defs (F := Ideal)) (onTc (τ := Cert.LossKernelIdeal.τ) (Cert.LossKernelIdeal.main (F := Ideal))) ⟨m, fun _ => 0, g⟩ (fun r => (∀ c : Dev Cert.LossKernelIdeal.nD,
      r.2.mem ((c.tc : Thread Cert.LossKernelIdeal.nD Cert.LossKernelIdeal.τ).loc Cert.LossKernelIdeal.main_arg0) = m ((c.tc : Thread Cert.LossKernelIdeal.nD Cert.LossKernelIdeal.τ).loc Cert.LossKernelIdeal.main_arg0)
      ∧ r.2.mem ((c.tc : Thread Cert.LossKernelIdeal.nD Cert.LossKernelIdeal.τ).loc Cert.LossKernelIdeal.main_arg1) = m ((c.tc : Thread Cert.LossKernelIdeal.nD Cert.LossKernelIdeal.τ).loc Cert.LossKernelIdeal.main_arg1))
      ∧ r.2.sem = fun _ => 0)

def quiescent_LossReferenceIdeal [hLossReferenceIdeal : Cert.LossReferenceIdeal.Facts] : Prop :=
  ∀ (m : (ℓ : Loc Cert.LossReferenceIdeal.nD Cert.LossReferenceIdeal.τ Cert.LossReferenceIdeal.sig) → Buf (Elt Ideal) ℓ) (g : Dev Cert.LossReferenceIdeal.nD → PrngReg), Pre_LossReferenceIdeal m →
    θ_run (Cert.LossReferenceIdeal.defs (F := Ideal)) (onTc (τ := Cert.LossReferenceIdeal.τ) (Cert.LossReferenceIdeal.main (F := Ideal))) ⟨m, fun _ => 0, g⟩ (fun r => (∀ c : Dev Cert.LossReferenceIdeal.nD,
      r.2.mem ((c.tc : Thread Cert.LossReferenceIdeal.nD Cert.LossReferenceIdeal.τ).loc Cert.LossReferenceIdeal.main_arg0) = m ((c.tc : Thread Cert.LossReferenceIdeal.nD Cert.LossReferenceIdeal.τ).loc Cert.LossReferenceIdeal.main_arg0)
      ∧ r.2.mem ((c.tc : Thread Cert.LossReferenceIdeal.nD Cert.LossReferenceIdeal.τ).loc Cert.LossReferenceIdeal.main_arg1) = m ((c.tc : Thread Cert.LossReferenceIdeal.nD Cert.LossReferenceIdeal.τ).loc Cert.LossReferenceIdeal.main_arg1))
      ∧ r.2.sem = fun _ => 0)

def quiescent_NormKernel [hNormKernel : Cert.NormKernel.Facts] : Prop :=
  ∀ (m : (ℓ : Loc Cert.NormKernel.nD Cert.NormKernel.τ Cert.NormKernel.sig) → Buf (Elt Bits) ℓ) (g : Dev Cert.NormKernel.nD → PrngReg), Pre_NormKernel m →
    θ_run (Cert.NormKernel.defs (F := Bits)) (onTc (τ := Cert.NormKernel.τ) (Cert.NormKernel.main (F := Bits))) ⟨m, fun _ => 0, g⟩ (fun r => (∀ c : Dev Cert.NormKernel.nD,
      r.2.mem ((c.tc : Thread Cert.NormKernel.nD Cert.NormKernel.τ).loc Cert.NormKernel.main_arg0) = m ((c.tc : Thread Cert.NormKernel.nD Cert.NormKernel.τ).loc Cert.NormKernel.main_arg0)
      ∧ r.2.mem ((c.tc : Thread Cert.NormKernel.nD Cert.NormKernel.τ).loc Cert.NormKernel.main_arg1) = m ((c.tc : Thread Cert.NormKernel.nD Cert.NormKernel.τ).loc Cert.NormKernel.main_arg1)
      ∧ r.2.mem ((c.tc : Thread Cert.NormKernel.nD Cert.NormKernel.τ).loc Cert.NormKernel.main_arg2) = m ((c.tc : Thread Cert.NormKernel.nD Cert.NormKernel.τ).loc Cert.NormKernel.main_arg2)
      ∧ r.2.mem ((c.tc : Thread Cert.NormKernel.nD Cert.NormKernel.τ).loc Cert.NormKernel.main_arg3) = m ((c.tc : Thread Cert.NormKernel.nD Cert.NormKernel.τ).loc Cert.NormKernel.main_arg3))
      ∧ r.2.sem = fun _ => 0)

def quiescent_NormKernelIdeal [hNormKernelIdeal : Cert.NormKernelIdeal.Facts] : Prop :=
  ∀ (m : (ℓ : Loc Cert.NormKernelIdeal.nD Cert.NormKernelIdeal.τ Cert.NormKernelIdeal.sig) → Buf (Elt Ideal) ℓ) (g : Dev Cert.NormKernelIdeal.nD → PrngReg), Pre_NormKernelIdeal m →
    θ_run (Cert.NormKernelIdeal.defs (F := Ideal)) (onTc (τ := Cert.NormKernelIdeal.τ) (Cert.NormKernelIdeal.main (F := Ideal))) ⟨m, fun _ => 0, g⟩ (fun r => (∀ c : Dev Cert.NormKernelIdeal.nD,
      r.2.mem ((c.tc : Thread Cert.NormKernelIdeal.nD Cert.NormKernelIdeal.τ).loc Cert.NormKernelIdeal.main_arg0) = m ((c.tc : Thread Cert.NormKernelIdeal.nD Cert.NormKernelIdeal.τ).loc Cert.NormKernelIdeal.main_arg0)
      ∧ r.2.mem ((c.tc : Thread Cert.NormKernelIdeal.nD Cert.NormKernelIdeal.τ).loc Cert.NormKernelIdeal.main_arg1) = m ((c.tc : Thread Cert.NormKernelIdeal.nD Cert.NormKernelIdeal.τ).loc Cert.NormKernelIdeal.main_arg1)
      ∧ r.2.mem ((c.tc : Thread Cert.NormKernelIdeal.nD Cert.NormKernelIdeal.τ).loc Cert.NormKernelIdeal.main_arg2) = m ((c.tc : Thread Cert.NormKernelIdeal.nD Cert.NormKernelIdeal.τ).loc Cert.NormKernelIdeal.main_arg2)
      ∧ r.2.mem ((c.tc : Thread Cert.NormKernelIdeal.nD Cert.NormKernelIdeal.τ).loc Cert.NormKernelIdeal.main_arg3) = m ((c.tc : Thread Cert.NormKernelIdeal.nD Cert.NormKernelIdeal.τ).loc Cert.NormKernelIdeal.main_arg3))
      ∧ r.2.sem = fun _ => 0)

def quiescent_NormReferenceIdeal [hNormReferenceIdeal : Cert.NormReferenceIdeal.Facts] : Prop :=
  ∀ (m : (ℓ : Loc Cert.NormReferenceIdeal.nD Cert.NormReferenceIdeal.τ Cert.NormReferenceIdeal.sig) → Buf (Elt Ideal) ℓ) (g : Dev Cert.NormReferenceIdeal.nD → PrngReg), Pre_NormReferenceIdeal m →
    θ_run (Cert.NormReferenceIdeal.defs (F := Ideal)) (onTc (τ := Cert.NormReferenceIdeal.τ) (Cert.NormReferenceIdeal.main (F := Ideal))) ⟨m, fun _ => 0, g⟩ (fun r => (∀ c : Dev Cert.NormReferenceIdeal.nD,
      r.2.mem ((c.tc : Thread Cert.NormReferenceIdeal.nD Cert.NormReferenceIdeal.τ).loc Cert.NormReferenceIdeal.main_arg0) = m ((c.tc : Thread Cert.NormReferenceIdeal.nD Cert.NormReferenceIdeal.τ).loc Cert.NormReferenceIdeal.main_arg0)
      ∧ r.2.mem ((c.tc : Thread Cert.NormReferenceIdeal.nD Cert.NormReferenceIdeal.τ).loc Cert.NormReferenceIdeal.main_arg1) = m ((c.tc : Thread Cert.NormReferenceIdeal.nD Cert.NormReferenceIdeal.τ).loc Cert.NormReferenceIdeal.main_arg1)
      ∧ r.2.mem ((c.tc : Thread Cert.NormReferenceIdeal.nD Cert.NormReferenceIdeal.τ).loc Cert.NormReferenceIdeal.main_arg2) = m ((c.tc : Thread Cert.NormReferenceIdeal.nD Cert.NormReferenceIdeal.τ).loc Cert.NormReferenceIdeal.main_arg2)
      ∧ r.2.mem ((c.tc : Thread Cert.NormReferenceIdeal.nD Cert.NormReferenceIdeal.τ).loc Cert.NormReferenceIdeal.main_arg3) = m ((c.tc : Thread Cert.NormReferenceIdeal.nD Cert.NormReferenceIdeal.τ).loc Cert.NormReferenceIdeal.main_arg3))
      ∧ r.2.sem = fun _ => 0)

def quiescent_RmsKernel [hRmsKernel : Cert.RmsKernel.Facts] : Prop :=
  ∀ (m : (ℓ : Loc Cert.RmsKernel.nD Cert.RmsKernel.τ Cert.RmsKernel.sig) → Buf (Elt Bits) ℓ) (g : Dev Cert.RmsKernel.nD → PrngReg), Pre_RmsKernel m →
    θ_run (Cert.RmsKernel.defs (F := Bits)) (onTc (τ := Cert.RmsKernel.τ) (Cert.RmsKernel.main (F := Bits))) ⟨m, fun _ => 0, g⟩ (fun r => (∀ c : Dev Cert.RmsKernel.nD,
      r.2.mem ((c.tc : Thread Cert.RmsKernel.nD Cert.RmsKernel.τ).loc Cert.RmsKernel.main_arg0) = m ((c.tc : Thread Cert.RmsKernel.nD Cert.RmsKernel.τ).loc Cert.RmsKernel.main_arg0)
      ∧ r.2.mem ((c.tc : Thread Cert.RmsKernel.nD Cert.RmsKernel.τ).loc Cert.RmsKernel.main_arg1) = m ((c.tc : Thread Cert.RmsKernel.nD Cert.RmsKernel.τ).loc Cert.RmsKernel.main_arg1))
      ∧ r.2.sem = fun _ => 0)

def quiescent_RmsKernelIdeal [hRmsKernelIdeal : Cert.RmsKernelIdeal.Facts] : Prop :=
  ∀ (m : (ℓ : Loc Cert.RmsKernelIdeal.nD Cert.RmsKernelIdeal.τ Cert.RmsKernelIdeal.sig) → Buf (Elt Ideal) ℓ) (g : Dev Cert.RmsKernelIdeal.nD → PrngReg), Pre_RmsKernelIdeal m →
    θ_run (Cert.RmsKernelIdeal.defs (F := Ideal)) (onTc (τ := Cert.RmsKernelIdeal.τ) (Cert.RmsKernelIdeal.main (F := Ideal))) ⟨m, fun _ => 0, g⟩ (fun r => (∀ c : Dev Cert.RmsKernelIdeal.nD,
      r.2.mem ((c.tc : Thread Cert.RmsKernelIdeal.nD Cert.RmsKernelIdeal.τ).loc Cert.RmsKernelIdeal.main_arg0) = m ((c.tc : Thread Cert.RmsKernelIdeal.nD Cert.RmsKernelIdeal.τ).loc Cert.RmsKernelIdeal.main_arg0)
      ∧ r.2.mem ((c.tc : Thread Cert.RmsKernelIdeal.nD Cert.RmsKernelIdeal.τ).loc Cert.RmsKernelIdeal.main_arg1) = m ((c.tc : Thread Cert.RmsKernelIdeal.nD Cert.RmsKernelIdeal.τ).loc Cert.RmsKernelIdeal.main_arg1))
      ∧ r.2.sem = fun _ => 0)

def quiescent_RmsReferenceIdeal [hRmsReferenceIdeal : Cert.RmsReferenceIdeal.Facts] : Prop :=
  ∀ (m : (ℓ : Loc Cert.RmsReferenceIdeal.nD Cert.RmsReferenceIdeal.τ Cert.RmsReferenceIdeal.sig) → Buf (Elt Ideal) ℓ) (g : Dev Cert.RmsReferenceIdeal.nD → PrngReg), Pre_RmsReferenceIdeal m →
    θ_run (Cert.RmsReferenceIdeal.defs (F := Ideal)) (onTc (τ := Cert.RmsReferenceIdeal.τ) (Cert.RmsReferenceIdeal.main (F := Ideal))) ⟨m, fun _ => 0, g⟩ (fun r => (∀ c : Dev Cert.RmsReferenceIdeal.nD,
      r.2.mem ((c.tc : Thread Cert.RmsReferenceIdeal.nD Cert.RmsReferenceIdeal.τ).loc Cert.RmsReferenceIdeal.main_arg0) = m ((c.tc : Thread Cert.RmsReferenceIdeal.nD Cert.RmsReferenceIdeal.τ).loc Cert.RmsReferenceIdeal.main_arg0)
      ∧ r.2.mem ((c.tc : Thread Cert.RmsReferenceIdeal.nD Cert.RmsReferenceIdeal.τ).loc Cert.RmsReferenceIdeal.main_arg1) = m ((c.tc : Thread Cert.RmsReferenceIdeal.nD Cert.RmsReferenceIdeal.τ).loc Cert.RmsReferenceIdeal.main_arg1))
      ∧ r.2.sem = fun _ => 0)

def quiescent_GateKernel [hGateKernel : Cert.GateKernel.Facts] : Prop :=
  ∀ (m : (ℓ : Loc Cert.GateKernel.nD Cert.GateKernel.τ Cert.GateKernel.sig) → Buf (Elt Bits) ℓ) (g : Dev Cert.GateKernel.nD → PrngReg), Pre_GateKernel m →
    θ_run (Cert.GateKernel.defs (F := Bits)) (onTc (τ := Cert.GateKernel.τ) (Cert.GateKernel.main (F := Bits))) ⟨m, fun _ => 0, g⟩ (fun r => (∀ c : Dev Cert.GateKernel.nD,
      r.2.mem ((c.tc : Thread Cert.GateKernel.nD Cert.GateKernel.τ).loc Cert.GateKernel.main_arg0) = m ((c.tc : Thread Cert.GateKernel.nD Cert.GateKernel.τ).loc Cert.GateKernel.main_arg0)
      ∧ r.2.mem ((c.tc : Thread Cert.GateKernel.nD Cert.GateKernel.τ).loc Cert.GateKernel.main_arg1) = m ((c.tc : Thread Cert.GateKernel.nD Cert.GateKernel.τ).loc Cert.GateKernel.main_arg1)
      ∧ r.2.mem ((c.tc : Thread Cert.GateKernel.nD Cert.GateKernel.τ).loc Cert.GateKernel.main_arg2) = m ((c.tc : Thread Cert.GateKernel.nD Cert.GateKernel.τ).loc Cert.GateKernel.main_arg2)
      ∧ r.2.mem ((c.tc : Thread Cert.GateKernel.nD Cert.GateKernel.τ).loc Cert.GateKernel.main_arg3) = m ((c.tc : Thread Cert.GateKernel.nD Cert.GateKernel.τ).loc Cert.GateKernel.main_arg3)
      ∧ r.2.mem ((c.tc : Thread Cert.GateKernel.nD Cert.GateKernel.τ).loc Cert.GateKernel.main_arg4) = m ((c.tc : Thread Cert.GateKernel.nD Cert.GateKernel.τ).loc Cert.GateKernel.main_arg4))
      ∧ r.2.sem = fun _ => 0)

def quiescent_GateKernelIdeal [hGateKernelIdeal : Cert.GateKernelIdeal.Facts] : Prop :=
  ∀ (m : (ℓ : Loc Cert.GateKernelIdeal.nD Cert.GateKernelIdeal.τ Cert.GateKernelIdeal.sig) → Buf (Elt Ideal) ℓ) (g : Dev Cert.GateKernelIdeal.nD → PrngReg), Pre_GateKernelIdeal m →
    θ_run (Cert.GateKernelIdeal.defs (F := Ideal)) (onTc (τ := Cert.GateKernelIdeal.τ) (Cert.GateKernelIdeal.main (F := Ideal))) ⟨m, fun _ => 0, g⟩ (fun r => (∀ c : Dev Cert.GateKernelIdeal.nD,
      r.2.mem ((c.tc : Thread Cert.GateKernelIdeal.nD Cert.GateKernelIdeal.τ).loc Cert.GateKernelIdeal.main_arg0) = m ((c.tc : Thread Cert.GateKernelIdeal.nD Cert.GateKernelIdeal.τ).loc Cert.GateKernelIdeal.main_arg0)
      ∧ r.2.mem ((c.tc : Thread Cert.GateKernelIdeal.nD Cert.GateKernelIdeal.τ).loc Cert.GateKernelIdeal.main_arg1) = m ((c.tc : Thread Cert.GateKernelIdeal.nD Cert.GateKernelIdeal.τ).loc Cert.GateKernelIdeal.main_arg1)
      ∧ r.2.mem ((c.tc : Thread Cert.GateKernelIdeal.nD Cert.GateKernelIdeal.τ).loc Cert.GateKernelIdeal.main_arg2) = m ((c.tc : Thread Cert.GateKernelIdeal.nD Cert.GateKernelIdeal.τ).loc Cert.GateKernelIdeal.main_arg2)
      ∧ r.2.mem ((c.tc : Thread Cert.GateKernelIdeal.nD Cert.GateKernelIdeal.τ).loc Cert.GateKernelIdeal.main_arg3) = m ((c.tc : Thread Cert.GateKernelIdeal.nD Cert.GateKernelIdeal.τ).loc Cert.GateKernelIdeal.main_arg3)
      ∧ r.2.mem ((c.tc : Thread Cert.GateKernelIdeal.nD Cert.GateKernelIdeal.τ).loc Cert.GateKernelIdeal.main_arg4) = m ((c.tc : Thread Cert.GateKernelIdeal.nD Cert.GateKernelIdeal.τ).loc Cert.GateKernelIdeal.main_arg4))
      ∧ r.2.sem = fun _ => 0)

def quiescent_GateKernelIdeal_pre_gate_finite [hGateKernelIdeal : Cert.GateKernelIdeal.Facts] [hPre_gate_finite : Cert.Pre_gate_finite.Facts] : Prop :=
  ∀ (m : (ℓ : Loc Cert.GateKernelIdeal.nD Cert.GateKernelIdeal.τ Cert.GateKernelIdeal.sig) → Buf (Elt Ideal) ℓ) (g : Dev Cert.GateKernelIdeal.nD → PrngReg), Pre_GateKernelIdeal_gate_finite m →
    θ_run (Cert.GateKernelIdeal.defs (F := Ideal)) (onTc (τ := Cert.GateKernelIdeal.τ) (Cert.GateKernelIdeal.main (F := Ideal))) ⟨m, fun _ => 0, g⟩ (fun r => (∀ c : Dev Cert.GateKernelIdeal.nD,
      r.2.mem ((c.tc : Thread Cert.GateKernelIdeal.nD Cert.GateKernelIdeal.τ).loc Cert.GateKernelIdeal.main_arg0) = m ((c.tc : Thread Cert.GateKernelIdeal.nD Cert.GateKernelIdeal.τ).loc Cert.GateKernelIdeal.main_arg0)
      ∧ r.2.mem ((c.tc : Thread Cert.GateKernelIdeal.nD Cert.GateKernelIdeal.τ).loc Cert.GateKernelIdeal.main_arg1) = m ((c.tc : Thread Cert.GateKernelIdeal.nD Cert.GateKernelIdeal.τ).loc Cert.GateKernelIdeal.main_arg1)
      ∧ r.2.mem ((c.tc : Thread Cert.GateKernelIdeal.nD Cert.GateKernelIdeal.τ).loc Cert.GateKernelIdeal.main_arg2) = m ((c.tc : Thread Cert.GateKernelIdeal.nD Cert.GateKernelIdeal.τ).loc Cert.GateKernelIdeal.main_arg2)
      ∧ r.2.mem ((c.tc : Thread Cert.GateKernelIdeal.nD Cert.GateKernelIdeal.τ).loc Cert.GateKernelIdeal.main_arg3) = m ((c.tc : Thread Cert.GateKernelIdeal.nD Cert.GateKernelIdeal.τ).loc Cert.GateKernelIdeal.main_arg3)
      ∧ r.2.mem ((c.tc : Thread Cert.GateKernelIdeal.nD Cert.GateKernelIdeal.τ).loc Cert.GateKernelIdeal.main_arg4) = m ((c.tc : Thread Cert.GateKernelIdeal.nD Cert.GateKernelIdeal.τ).loc Cert.GateKernelIdeal.main_arg4))
      ∧ r.2.sem = fun _ => 0)

def quiescent_GateReferenceIdeal [hGateReferenceIdeal : Cert.GateReferenceIdeal.Facts] : Prop :=
  ∀ (m : (ℓ : Loc Cert.GateReferenceIdeal.nD Cert.GateReferenceIdeal.τ Cert.GateReferenceIdeal.sig) → Buf (Elt Ideal) ℓ) (g : Dev Cert.GateReferenceIdeal.nD → PrngReg), Pre_GateReferenceIdeal m →
    θ_run (Cert.GateReferenceIdeal.defs (F := Ideal)) (onTc (τ := Cert.GateReferenceIdeal.τ) (Cert.GateReferenceIdeal.main (F := Ideal))) ⟨m, fun _ => 0, g⟩ (fun r => (∀ c : Dev Cert.GateReferenceIdeal.nD,
      r.2.mem ((c.tc : Thread Cert.GateReferenceIdeal.nD Cert.GateReferenceIdeal.τ).loc Cert.GateReferenceIdeal.main_arg0) = m ((c.tc : Thread Cert.GateReferenceIdeal.nD Cert.GateReferenceIdeal.τ).loc Cert.GateReferenceIdeal.main_arg0)
      ∧ r.2.mem ((c.tc : Thread Cert.GateReferenceIdeal.nD Cert.GateReferenceIdeal.τ).loc Cert.GateReferenceIdeal.main_arg1) = m ((c.tc : Thread Cert.GateReferenceIdeal.nD Cert.GateReferenceIdeal.τ).loc Cert.GateReferenceIdeal.main_arg1)
      ∧ r.2.mem ((c.tc : Thread Cert.GateReferenceIdeal.nD Cert.GateReferenceIdeal.τ).loc Cert.GateReferenceIdeal.main_arg2) = m ((c.tc : Thread Cert.GateReferenceIdeal.nD Cert.GateReferenceIdeal.τ).loc Cert.GateReferenceIdeal.main_arg2)
      ∧ r.2.mem ((c.tc : Thread Cert.GateReferenceIdeal.nD Cert.GateReferenceIdeal.τ).loc Cert.GateReferenceIdeal.main_arg3) = m ((c.tc : Thread Cert.GateReferenceIdeal.nD Cert.GateReferenceIdeal.τ).loc Cert.GateReferenceIdeal.main_arg3)
      ∧ r.2.mem ((c.tc : Thread Cert.GateReferenceIdeal.nD Cert.GateReferenceIdeal.τ).loc Cert.GateReferenceIdeal.main_arg4) = m ((c.tc : Thread Cert.GateReferenceIdeal.nD Cert.GateReferenceIdeal.τ).loc Cert.GateReferenceIdeal.main_arg4))
      ∧ r.2.sem = fun _ => 0)

def quiescent_GateReferenceIdeal_pre_gate_finite [hGateReferenceIdeal : Cert.GateReferenceIdeal.Facts] [hPre_gate_finite : Cert.Pre_gate_finite.Facts] : Prop :=
  ∀ (m : (ℓ : Loc Cert.GateReferenceIdeal.nD Cert.GateReferenceIdeal.τ Cert.GateReferenceIdeal.sig) → Buf (Elt Ideal) ℓ) (g : Dev Cert.GateReferenceIdeal.nD → PrngReg), Pre_GateReferenceIdeal_gate_finite m →
    θ_run (Cert.GateReferenceIdeal.defs (F := Ideal)) (onTc (τ := Cert.GateReferenceIdeal.τ) (Cert.GateReferenceIdeal.main (F := Ideal))) ⟨m, fun _ => 0, g⟩ (fun r => (∀ c : Dev Cert.GateReferenceIdeal.nD,
      r.2.mem ((c.tc : Thread Cert.GateReferenceIdeal.nD Cert.GateReferenceIdeal.τ).loc Cert.GateReferenceIdeal.main_arg0) = m ((c.tc : Thread Cert.GateReferenceIdeal.nD Cert.GateReferenceIdeal.τ).loc Cert.GateReferenceIdeal.main_arg0)
      ∧ r.2.mem ((c.tc : Thread Cert.GateReferenceIdeal.nD Cert.GateReferenceIdeal.τ).loc Cert.GateReferenceIdeal.main_arg1) = m ((c.tc : Thread Cert.GateReferenceIdeal.nD Cert.GateReferenceIdeal.τ).loc Cert.GateReferenceIdeal.main_arg1)
      ∧ r.2.mem ((c.tc : Thread Cert.GateReferenceIdeal.nD Cert.GateReferenceIdeal.τ).loc Cert.GateReferenceIdeal.main_arg2) = m ((c.tc : Thread Cert.GateReferenceIdeal.nD Cert.GateReferenceIdeal.τ).loc Cert.GateReferenceIdeal.main_arg2)
      ∧ r.2.mem ((c.tc : Thread Cert.GateReferenceIdeal.nD Cert.GateReferenceIdeal.τ).loc Cert.GateReferenceIdeal.main_arg3) = m ((c.tc : Thread Cert.GateReferenceIdeal.nD Cert.GateReferenceIdeal.τ).loc Cert.GateReferenceIdeal.main_arg3)
      ∧ r.2.mem ((c.tc : Thread Cert.GateReferenceIdeal.nD Cert.GateReferenceIdeal.τ).loc Cert.GateReferenceIdeal.main_arg4) = m ((c.tc : Thread Cert.GateReferenceIdeal.nD Cert.GateReferenceIdeal.τ).loc Cert.GateReferenceIdeal.main_arg4))
      ∧ r.2.sem = fun _ => 0)

def quiescent_ConvKernel [hConvKernel : Cert.ConvKernel.Facts] : Prop :=
  ∀ (m : (ℓ : Loc Cert.ConvKernel.nD Cert.ConvKernel.τ Cert.ConvKernel.sig) → Buf (Elt Bits) ℓ) (g : Dev Cert.ConvKernel.nD → PrngReg), Pre_ConvKernel m →
    θ_run (Cert.ConvKernel.defs (F := Bits)) (onTc (τ := Cert.ConvKernel.τ) (Cert.ConvKernel.main (F := Bits))) ⟨m, fun _ => 0, g⟩ (fun r => (∀ c : Dev Cert.ConvKernel.nD,
      r.2.mem ((c.tc : Thread Cert.ConvKernel.nD Cert.ConvKernel.τ).loc Cert.ConvKernel.main_arg0) = m ((c.tc : Thread Cert.ConvKernel.nD Cert.ConvKernel.τ).loc Cert.ConvKernel.main_arg0)
      ∧ r.2.mem ((c.tc : Thread Cert.ConvKernel.nD Cert.ConvKernel.τ).loc Cert.ConvKernel.main_arg1) = m ((c.tc : Thread Cert.ConvKernel.nD Cert.ConvKernel.τ).loc Cert.ConvKernel.main_arg1)
      ∧ r.2.mem ((c.tc : Thread Cert.ConvKernel.nD Cert.ConvKernel.τ).loc Cert.ConvKernel.main_arg2) = m ((c.tc : Thread Cert.ConvKernel.nD Cert.ConvKernel.τ).loc Cert.ConvKernel.main_arg2))
      ∧ r.2.sem = fun _ => 0)

def quiescent_ConvKernelIdeal [hConvKernelIdeal : Cert.ConvKernelIdeal.Facts] : Prop :=
  ∀ (m : (ℓ : Loc Cert.ConvKernelIdeal.nD Cert.ConvKernelIdeal.τ Cert.ConvKernelIdeal.sig) → Buf (Elt Ideal) ℓ) (g : Dev Cert.ConvKernelIdeal.nD → PrngReg), Pre_ConvKernelIdeal m →
    θ_run (Cert.ConvKernelIdeal.defs (F := Ideal)) (onTc (τ := Cert.ConvKernelIdeal.τ) (Cert.ConvKernelIdeal.main (F := Ideal))) ⟨m, fun _ => 0, g⟩ (fun r => (∀ c : Dev Cert.ConvKernelIdeal.nD,
      r.2.mem ((c.tc : Thread Cert.ConvKernelIdeal.nD Cert.ConvKernelIdeal.τ).loc Cert.ConvKernelIdeal.main_arg0) = m ((c.tc : Thread Cert.ConvKernelIdeal.nD Cert.ConvKernelIdeal.τ).loc Cert.ConvKernelIdeal.main_arg0)
      ∧ r.2.mem ((c.tc : Thread Cert.ConvKernelIdeal.nD Cert.ConvKernelIdeal.τ).loc Cert.ConvKernelIdeal.main_arg1) = m ((c.tc : Thread Cert.ConvKernelIdeal.nD Cert.ConvKernelIdeal.τ).loc Cert.ConvKernelIdeal.main_arg1)
      ∧ r.2.mem ((c.tc : Thread Cert.ConvKernelIdeal.nD Cert.ConvKernelIdeal.τ).loc Cert.ConvKernelIdeal.main_arg2) = m ((c.tc : Thread Cert.ConvKernelIdeal.nD Cert.ConvKernelIdeal.τ).loc Cert.ConvKernelIdeal.main_arg2))
      ∧ r.2.sem = fun _ => 0)

def quiescent_ConvReferenceIdeal [hConvReferenceIdeal : Cert.ConvReferenceIdeal.Facts] : Prop :=
  ∀ (m : (ℓ : Loc Cert.ConvReferenceIdeal.nD Cert.ConvReferenceIdeal.τ Cert.ConvReferenceIdeal.sig) → Buf (Elt Ideal) ℓ) (g : Dev Cert.ConvReferenceIdeal.nD → PrngReg), Pre_ConvReferenceIdeal m →
    θ_run (Cert.ConvReferenceIdeal.defs (F := Ideal)) (onTc (τ := Cert.ConvReferenceIdeal.τ) (Cert.ConvReferenceIdeal.main (F := Ideal))) ⟨m, fun _ => 0, g⟩ (fun r => (∀ c : Dev Cert.ConvReferenceIdeal.nD,
      r.2.mem ((c.tc : Thread Cert.ConvReferenceIdeal.nD Cert.ConvReferenceIdeal.τ).loc Cert.ConvReferenceIdeal.main_arg0) = m ((c.tc : Thread Cert.ConvReferenceIdeal.nD Cert.ConvReferenceIdeal.τ).loc Cert.ConvReferenceIdeal.main_arg0)
      ∧ r.2.mem ((c.tc : Thread Cert.ConvReferenceIdeal.nD Cert.ConvReferenceIdeal.τ).loc Cert.ConvReferenceIdeal.main_arg1) = m ((c.tc : Thread Cert.ConvReferenceIdeal.nD Cert.ConvReferenceIdeal.τ).loc Cert.ConvReferenceIdeal.main_arg1)
      ∧ r.2.mem ((c.tc : Thread Cert.ConvReferenceIdeal.nD Cert.ConvReferenceIdeal.τ).loc Cert.ConvReferenceIdeal.main_arg2) = m ((c.tc : Thread Cert.ConvReferenceIdeal.nD Cert.ConvReferenceIdeal.τ).loc Cert.ConvReferenceIdeal.main_arg2))
      ∧ r.2.sem = fun _ => 0)

def quiescent_MixKernel [hMixKernel : Cert.MixKernel.Facts] : Prop :=
  ∀ (m : (ℓ : Loc Cert.MixKernel.nD Cert.MixKernel.τ Cert.MixKernel.sig) → Buf (Elt Bits) ℓ) (g : Dev Cert.MixKernel.nD → PrngReg), Pre_MixKernel m →
    θ_run (Cert.MixKernel.defs (F := Bits)) (onTc (τ := Cert.MixKernel.τ) (Cert.MixKernel.main (F := Bits))) ⟨m, fun _ => 0, g⟩ (fun r => (∀ c : Dev Cert.MixKernel.nD,
      r.2.mem ((c.tc : Thread Cert.MixKernel.nD Cert.MixKernel.τ).loc Cert.MixKernel.main_arg0) = m ((c.tc : Thread Cert.MixKernel.nD Cert.MixKernel.τ).loc Cert.MixKernel.main_arg0)
      ∧ r.2.mem ((c.tc : Thread Cert.MixKernel.nD Cert.MixKernel.τ).loc Cert.MixKernel.main_arg1) = m ((c.tc : Thread Cert.MixKernel.nD Cert.MixKernel.τ).loc Cert.MixKernel.main_arg1))
      ∧ r.2.sem = fun _ => 0)

def quiescent_MixKernelIdeal [hMixKernelIdeal : Cert.MixKernelIdeal.Facts] : Prop :=
  ∀ (m : (ℓ : Loc Cert.MixKernelIdeal.nD Cert.MixKernelIdeal.τ Cert.MixKernelIdeal.sig) → Buf (Elt Ideal) ℓ) (g : Dev Cert.MixKernelIdeal.nD → PrngReg), Pre_MixKernelIdeal m →
    θ_run (Cert.MixKernelIdeal.defs (F := Ideal)) (onTc (τ := Cert.MixKernelIdeal.τ) (Cert.MixKernelIdeal.main (F := Ideal))) ⟨m, fun _ => 0, g⟩ (fun r => (∀ c : Dev Cert.MixKernelIdeal.nD,
      r.2.mem ((c.tc : Thread Cert.MixKernelIdeal.nD Cert.MixKernelIdeal.τ).loc Cert.MixKernelIdeal.main_arg0) = m ((c.tc : Thread Cert.MixKernelIdeal.nD Cert.MixKernelIdeal.τ).loc Cert.MixKernelIdeal.main_arg0)
      ∧ r.2.mem ((c.tc : Thread Cert.MixKernelIdeal.nD Cert.MixKernelIdeal.τ).loc Cert.MixKernelIdeal.main_arg1) = m ((c.tc : Thread Cert.MixKernelIdeal.nD Cert.MixKernelIdeal.τ).loc Cert.MixKernelIdeal.main_arg1))
      ∧ r.2.sem = fun _ => 0)

def quiescent_MixReferenceIdeal [hMixReferenceIdeal : Cert.MixReferenceIdeal.Facts] : Prop :=
  ∀ (m : (ℓ : Loc Cert.MixReferenceIdeal.nD Cert.MixReferenceIdeal.τ Cert.MixReferenceIdeal.sig) → Buf (Elt Ideal) ℓ) (g : Dev Cert.MixReferenceIdeal.nD → PrngReg), Pre_MixReferenceIdeal m →
    θ_run (Cert.MixReferenceIdeal.defs (F := Ideal)) (onTc (τ := Cert.MixReferenceIdeal.τ) (Cert.MixReferenceIdeal.main (F := Ideal))) ⟨m, fun _ => 0, g⟩ (fun r => (∀ c : Dev Cert.MixReferenceIdeal.nD,
      r.2.mem ((c.tc : Thread Cert.MixReferenceIdeal.nD Cert.MixReferenceIdeal.τ).loc Cert.MixReferenceIdeal.main_arg0) = m ((c.tc : Thread Cert.MixReferenceIdeal.nD Cert.MixReferenceIdeal.τ).loc Cert.MixReferenceIdeal.main_arg0)
      ∧ r.2.mem ((c.tc : Thread Cert.MixReferenceIdeal.nD Cert.MixReferenceIdeal.τ).loc Cert.MixReferenceIdeal.main_arg1) = m ((c.tc : Thread Cert.MixReferenceIdeal.nD Cert.MixReferenceIdeal.τ).loc Cert.MixReferenceIdeal.main_arg1))
      ∧ r.2.sem = fun _ => 0)

def quiescent_PoolKernel [hPoolKernel : Cert.PoolKernel.Facts] : Prop :=
  ∀ (m : (ℓ : Loc Cert.PoolKernel.nD Cert.PoolKernel.τ Cert.PoolKernel.sig) → Buf (Elt Bits) ℓ) (g : Dev Cert.PoolKernel.nD → PrngReg), Pre_PoolKernel m →
    θ_run (Cert.PoolKernel.defs (F := Bits)) (onTc (τ := Cert.PoolKernel.τ) (Cert.PoolKernel.main (F := Bits))) ⟨m, fun _ => 0, g⟩ (fun r => (∀ c : Dev Cert.PoolKernel.nD,
      r.2.mem ((c.tc : Thread Cert.PoolKernel.nD Cert.PoolKernel.τ).loc Cert.PoolKernel.main_arg0) = m ((c.tc : Thread Cert.PoolKernel.nD Cert.PoolKernel.τ).loc Cert.PoolKernel.main_arg0)
      ∧ r.2.mem ((c.tc : Thread Cert.PoolKernel.nD Cert.PoolKernel.τ).loc Cert.PoolKernel.main_arg1) = m ((c.tc : Thread Cert.PoolKernel.nD Cert.PoolKernel.τ).loc Cert.PoolKernel.main_arg1)
      ∧ r.2.mem ((c.tc : Thread Cert.PoolKernel.nD Cert.PoolKernel.τ).loc Cert.PoolKernel.main_arg2) = m ((c.tc : Thread Cert.PoolKernel.nD Cert.PoolKernel.τ).loc Cert.PoolKernel.main_arg2)
      ∧ r.2.mem ((c.tc : Thread Cert.PoolKernel.nD Cert.PoolKernel.τ).loc Cert.PoolKernel.main_arg3) = m ((c.tc : Thread Cert.PoolKernel.nD Cert.PoolKernel.τ).loc Cert.PoolKernel.main_arg3)
      ∧ r.2.mem ((c.tc : Thread Cert.PoolKernel.nD Cert.PoolKernel.τ).loc Cert.PoolKernel.main_arg4) = m ((c.tc : Thread Cert.PoolKernel.nD Cert.PoolKernel.τ).loc Cert.PoolKernel.main_arg4))
      ∧ r.2.sem = fun _ => 0)

def quiescent_PoolKernelIdeal [hPoolKernelIdeal : Cert.PoolKernelIdeal.Facts] : Prop :=
  ∀ (m : (ℓ : Loc Cert.PoolKernelIdeal.nD Cert.PoolKernelIdeal.τ Cert.PoolKernelIdeal.sig) → Buf (Elt Ideal) ℓ) (g : Dev Cert.PoolKernelIdeal.nD → PrngReg), Pre_PoolKernelIdeal m →
    θ_run (Cert.PoolKernelIdeal.defs (F := Ideal)) (onTc (τ := Cert.PoolKernelIdeal.τ) (Cert.PoolKernelIdeal.main (F := Ideal))) ⟨m, fun _ => 0, g⟩ (fun r => (∀ c : Dev Cert.PoolKernelIdeal.nD,
      r.2.mem ((c.tc : Thread Cert.PoolKernelIdeal.nD Cert.PoolKernelIdeal.τ).loc Cert.PoolKernelIdeal.main_arg0) = m ((c.tc : Thread Cert.PoolKernelIdeal.nD Cert.PoolKernelIdeal.τ).loc Cert.PoolKernelIdeal.main_arg0)
      ∧ r.2.mem ((c.tc : Thread Cert.PoolKernelIdeal.nD Cert.PoolKernelIdeal.τ).loc Cert.PoolKernelIdeal.main_arg1) = m ((c.tc : Thread Cert.PoolKernelIdeal.nD Cert.PoolKernelIdeal.τ).loc Cert.PoolKernelIdeal.main_arg1)
      ∧ r.2.mem ((c.tc : Thread Cert.PoolKernelIdeal.nD Cert.PoolKernelIdeal.τ).loc Cert.PoolKernelIdeal.main_arg2) = m ((c.tc : Thread Cert.PoolKernelIdeal.nD Cert.PoolKernelIdeal.τ).loc Cert.PoolKernelIdeal.main_arg2)
      ∧ r.2.mem ((c.tc : Thread Cert.PoolKernelIdeal.nD Cert.PoolKernelIdeal.τ).loc Cert.PoolKernelIdeal.main_arg3) = m ((c.tc : Thread Cert.PoolKernelIdeal.nD Cert.PoolKernelIdeal.τ).loc Cert.PoolKernelIdeal.main_arg3)
      ∧ r.2.mem ((c.tc : Thread Cert.PoolKernelIdeal.nD Cert.PoolKernelIdeal.τ).loc Cert.PoolKernelIdeal.main_arg4) = m ((c.tc : Thread Cert.PoolKernelIdeal.nD Cert.PoolKernelIdeal.τ).loc Cert.PoolKernelIdeal.main_arg4))
      ∧ r.2.sem = fun _ => 0)

def quiescent_PoolKernelIdeal_pre_pool_finite [hPoolKernelIdeal : Cert.PoolKernelIdeal.Facts] [hPre_pool_finite : Cert.Pre_pool_finite.Facts] : Prop :=
  ∀ (m : (ℓ : Loc Cert.PoolKernelIdeal.nD Cert.PoolKernelIdeal.τ Cert.PoolKernelIdeal.sig) → Buf (Elt Ideal) ℓ) (g : Dev Cert.PoolKernelIdeal.nD → PrngReg), Pre_PoolKernelIdeal_pool_finite m →
    θ_run (Cert.PoolKernelIdeal.defs (F := Ideal)) (onTc (τ := Cert.PoolKernelIdeal.τ) (Cert.PoolKernelIdeal.main (F := Ideal))) ⟨m, fun _ => 0, g⟩ (fun r => (∀ c : Dev Cert.PoolKernelIdeal.nD,
      r.2.mem ((c.tc : Thread Cert.PoolKernelIdeal.nD Cert.PoolKernelIdeal.τ).loc Cert.PoolKernelIdeal.main_arg0) = m ((c.tc : Thread Cert.PoolKernelIdeal.nD Cert.PoolKernelIdeal.τ).loc Cert.PoolKernelIdeal.main_arg0)
      ∧ r.2.mem ((c.tc : Thread Cert.PoolKernelIdeal.nD Cert.PoolKernelIdeal.τ).loc Cert.PoolKernelIdeal.main_arg1) = m ((c.tc : Thread Cert.PoolKernelIdeal.nD Cert.PoolKernelIdeal.τ).loc Cert.PoolKernelIdeal.main_arg1)
      ∧ r.2.mem ((c.tc : Thread Cert.PoolKernelIdeal.nD Cert.PoolKernelIdeal.τ).loc Cert.PoolKernelIdeal.main_arg2) = m ((c.tc : Thread Cert.PoolKernelIdeal.nD Cert.PoolKernelIdeal.τ).loc Cert.PoolKernelIdeal.main_arg2)
      ∧ r.2.mem ((c.tc : Thread Cert.PoolKernelIdeal.nD Cert.PoolKernelIdeal.τ).loc Cert.PoolKernelIdeal.main_arg3) = m ((c.tc : Thread Cert.PoolKernelIdeal.nD Cert.PoolKernelIdeal.τ).loc Cert.PoolKernelIdeal.main_arg3)
      ∧ r.2.mem ((c.tc : Thread Cert.PoolKernelIdeal.nD Cert.PoolKernelIdeal.τ).loc Cert.PoolKernelIdeal.main_arg4) = m ((c.tc : Thread Cert.PoolKernelIdeal.nD Cert.PoolKernelIdeal.τ).loc Cert.PoolKernelIdeal.main_arg4))
      ∧ r.2.sem = fun _ => 0)

def quiescent_PoolReferenceIdeal [hPoolReferenceIdeal : Cert.PoolReferenceIdeal.Facts] : Prop :=
  ∀ (m : (ℓ : Loc Cert.PoolReferenceIdeal.nD Cert.PoolReferenceIdeal.τ Cert.PoolReferenceIdeal.sig) → Buf (Elt Ideal) ℓ) (g : Dev Cert.PoolReferenceIdeal.nD → PrngReg), Pre_PoolReferenceIdeal m →
    θ_run (Cert.PoolReferenceIdeal.defs (F := Ideal)) (onTc (τ := Cert.PoolReferenceIdeal.τ) (Cert.PoolReferenceIdeal.main (F := Ideal))) ⟨m, fun _ => 0, g⟩ (fun r => (∀ c : Dev Cert.PoolReferenceIdeal.nD,
      r.2.mem ((c.tc : Thread Cert.PoolReferenceIdeal.nD Cert.PoolReferenceIdeal.τ).loc Cert.PoolReferenceIdeal.main_arg0) = m ((c.tc : Thread Cert.PoolReferenceIdeal.nD Cert.PoolReferenceIdeal.τ).loc Cert.PoolReferenceIdeal.main_arg0)
      ∧ r.2.mem ((c.tc : Thread Cert.PoolReferenceIdeal.nD Cert.PoolReferenceIdeal.τ).loc Cert.PoolReferenceIdeal.main_arg1) = m ((c.tc : Thread Cert.PoolReferenceIdeal.nD Cert.PoolReferenceIdeal.τ).loc Cert.PoolReferenceIdeal.main_arg1)
      ∧ r.2.mem ((c.tc : Thread Cert.PoolReferenceIdeal.nD Cert.PoolReferenceIdeal.τ).loc Cert.PoolReferenceIdeal.main_arg2) = m ((c.tc : Thread Cert.PoolReferenceIdeal.nD Cert.PoolReferenceIdeal.τ).loc Cert.PoolReferenceIdeal.main_arg2)
      ∧ r.2.mem ((c.tc : Thread Cert.PoolReferenceIdeal.nD Cert.PoolReferenceIdeal.τ).loc Cert.PoolReferenceIdeal.main_arg3) = m ((c.tc : Thread Cert.PoolReferenceIdeal.nD Cert.PoolReferenceIdeal.τ).loc Cert.PoolReferenceIdeal.main_arg3)
      ∧ r.2.mem ((c.tc : Thread Cert.PoolReferenceIdeal.nD Cert.PoolReferenceIdeal.τ).loc Cert.PoolReferenceIdeal.main_arg4) = m ((c.tc : Thread Cert.PoolReferenceIdeal.nD Cert.PoolReferenceIdeal.τ).loc Cert.PoolReferenceIdeal.main_arg4))
      ∧ r.2.sem = fun _ => 0)

def quiescent_PoolReferenceIdeal_pre_pool_finite [hPoolReferenceIdeal : Cert.PoolReferenceIdeal.Facts] [hPre_pool_finite : Cert.Pre_pool_finite.Facts] : Prop :=
  ∀ (m : (ℓ : Loc Cert.PoolReferenceIdeal.nD Cert.PoolReferenceIdeal.τ Cert.PoolReferenceIdeal.sig) → Buf (Elt Ideal) ℓ) (g : Dev Cert.PoolReferenceIdeal.nD → PrngReg), Pre_PoolReferenceIdeal_pool_finite m →
    θ_run (Cert.PoolReferenceIdeal.defs (F := Ideal)) (onTc (τ := Cert.PoolReferenceIdeal.τ) (Cert.PoolReferenceIdeal.main (F := Ideal))) ⟨m, fun _ => 0, g⟩ (fun r => (∀ c : Dev Cert.PoolReferenceIdeal.nD,
      r.2.mem ((c.tc : Thread Cert.PoolReferenceIdeal.nD Cert.PoolReferenceIdeal.τ).loc Cert.PoolReferenceIdeal.main_arg0) = m ((c.tc : Thread Cert.PoolReferenceIdeal.nD Cert.PoolReferenceIdeal.τ).loc Cert.PoolReferenceIdeal.main_arg0)
      ∧ r.2.mem ((c.tc : Thread Cert.PoolReferenceIdeal.nD Cert.PoolReferenceIdeal.τ).loc Cert.PoolReferenceIdeal.main_arg1) = m ((c.tc : Thread Cert.PoolReferenceIdeal.nD Cert.PoolReferenceIdeal.τ).loc Cert.PoolReferenceIdeal.main_arg1)
      ∧ r.2.mem ((c.tc : Thread Cert.PoolReferenceIdeal.nD Cert.PoolReferenceIdeal.τ).loc Cert.PoolReferenceIdeal.main_arg2) = m ((c.tc : Thread Cert.PoolReferenceIdeal.nD Cert.PoolReferenceIdeal.τ).loc Cert.PoolReferenceIdeal.main_arg2)
      ∧ r.2.mem ((c.tc : Thread Cert.PoolReferenceIdeal.nD Cert.PoolReferenceIdeal.τ).loc Cert.PoolReferenceIdeal.main_arg3) = m ((c.tc : Thread Cert.PoolReferenceIdeal.nD Cert.PoolReferenceIdeal.τ).loc Cert.PoolReferenceIdeal.main_arg3)
      ∧ r.2.mem ((c.tc : Thread Cert.PoolReferenceIdeal.nD Cert.PoolReferenceIdeal.τ).loc Cert.PoolReferenceIdeal.main_arg4) = m ((c.tc : Thread Cert.PoolReferenceIdeal.nD Cert.PoolReferenceIdeal.τ).loc Cert.PoolReferenceIdeal.main_arg4))
      ∧ r.2.sem = fun _ => 0)

def quiescent_AttnKernel [hAttnKernel : Cert.AttnKernel.Facts] : Prop :=
  ∀ (m : (ℓ : Loc Cert.AttnKernel.nD Cert.AttnKernel.τ Cert.AttnKernel.sig) → Buf (Elt Bits) ℓ) (g : Dev Cert.AttnKernel.nD → PrngReg), Pre_AttnKernel m →
    θ_run (Cert.AttnKernel.defs (F := Bits)) (onTc (τ := Cert.AttnKernel.τ) (Cert.AttnKernel.main (F := Bits))) ⟨m, fun _ => 0, g⟩ (fun r => (∀ c : Dev Cert.AttnKernel.nD,
      r.2.mem ((c.tc : Thread Cert.AttnKernel.nD Cert.AttnKernel.τ).loc Cert.AttnKernel.main_arg0) = m ((c.tc : Thread Cert.AttnKernel.nD Cert.AttnKernel.τ).loc Cert.AttnKernel.main_arg0)
      ∧ r.2.mem ((c.tc : Thread Cert.AttnKernel.nD Cert.AttnKernel.τ).loc Cert.AttnKernel.main_arg1) = m ((c.tc : Thread Cert.AttnKernel.nD Cert.AttnKernel.τ).loc Cert.AttnKernel.main_arg1)
      ∧ r.2.mem ((c.tc : Thread Cert.AttnKernel.nD Cert.AttnKernel.τ).loc Cert.AttnKernel.main_arg2) = m ((c.tc : Thread Cert.AttnKernel.nD Cert.AttnKernel.τ).loc Cert.AttnKernel.main_arg2)
      ∧ r.2.mem ((c.tc : Thread Cert.AttnKernel.nD Cert.AttnKernel.τ).loc Cert.AttnKernel.main_arg3) = m ((c.tc : Thread Cert.AttnKernel.nD Cert.AttnKernel.τ).loc Cert.AttnKernel.main_arg3))
      ∧ r.2.sem = fun _ => 0)

def quiescent_AttnKernelIdeal [hAttnKernelIdeal : Cert.AttnKernelIdeal.Facts] : Prop :=
  ∀ (m : (ℓ : Loc Cert.AttnKernelIdeal.nD Cert.AttnKernelIdeal.τ Cert.AttnKernelIdeal.sig) → Buf (Elt Ideal) ℓ) (g : Dev Cert.AttnKernelIdeal.nD → PrngReg), Pre_AttnKernelIdeal m →
    θ_run (Cert.AttnKernelIdeal.defs (F := Ideal)) (onTc (τ := Cert.AttnKernelIdeal.τ) (Cert.AttnKernelIdeal.main (F := Ideal))) ⟨m, fun _ => 0, g⟩ (fun r => (∀ c : Dev Cert.AttnKernelIdeal.nD,
      r.2.mem ((c.tc : Thread Cert.AttnKernelIdeal.nD Cert.AttnKernelIdeal.τ).loc Cert.AttnKernelIdeal.main_arg0) = m ((c.tc : Thread Cert.AttnKernelIdeal.nD Cert.AttnKernelIdeal.τ).loc Cert.AttnKernelIdeal.main_arg0)
      ∧ r.2.mem ((c.tc : Thread Cert.AttnKernelIdeal.nD Cert.AttnKernelIdeal.τ).loc Cert.AttnKernelIdeal.main_arg1) = m ((c.tc : Thread Cert.AttnKernelIdeal.nD Cert.AttnKernelIdeal.τ).loc Cert.AttnKernelIdeal.main_arg1)
      ∧ r.2.mem ((c.tc : Thread Cert.AttnKernelIdeal.nD Cert.AttnKernelIdeal.τ).loc Cert.AttnKernelIdeal.main_arg2) = m ((c.tc : Thread Cert.AttnKernelIdeal.nD Cert.AttnKernelIdeal.τ).loc Cert.AttnKernelIdeal.main_arg2)
      ∧ r.2.mem ((c.tc : Thread Cert.AttnKernelIdeal.nD Cert.AttnKernelIdeal.τ).loc Cert.AttnKernelIdeal.main_arg3) = m ((c.tc : Thread Cert.AttnKernelIdeal.nD Cert.AttnKernelIdeal.τ).loc Cert.AttnKernelIdeal.main_arg3))
      ∧ r.2.sem = fun _ => 0)

def quiescent_AttnKernelIdeal_pre_attn_finite [hAttnKernelIdeal : Cert.AttnKernelIdeal.Facts] [hPre_attn_finite : Cert.Pre_attn_finite.Facts] : Prop :=
  ∀ (m : (ℓ : Loc Cert.AttnKernelIdeal.nD Cert.AttnKernelIdeal.τ Cert.AttnKernelIdeal.sig) → Buf (Elt Ideal) ℓ) (g : Dev Cert.AttnKernelIdeal.nD → PrngReg), Pre_AttnKernelIdeal_attn_finite m →
    θ_run (Cert.AttnKernelIdeal.defs (F := Ideal)) (onTc (τ := Cert.AttnKernelIdeal.τ) (Cert.AttnKernelIdeal.main (F := Ideal))) ⟨m, fun _ => 0, g⟩ (fun r => (∀ c : Dev Cert.AttnKernelIdeal.nD,
      r.2.mem ((c.tc : Thread Cert.AttnKernelIdeal.nD Cert.AttnKernelIdeal.τ).loc Cert.AttnKernelIdeal.main_arg0) = m ((c.tc : Thread Cert.AttnKernelIdeal.nD Cert.AttnKernelIdeal.τ).loc Cert.AttnKernelIdeal.main_arg0)
      ∧ r.2.mem ((c.tc : Thread Cert.AttnKernelIdeal.nD Cert.AttnKernelIdeal.τ).loc Cert.AttnKernelIdeal.main_arg1) = m ((c.tc : Thread Cert.AttnKernelIdeal.nD Cert.AttnKernelIdeal.τ).loc Cert.AttnKernelIdeal.main_arg1)
      ∧ r.2.mem ((c.tc : Thread Cert.AttnKernelIdeal.nD Cert.AttnKernelIdeal.τ).loc Cert.AttnKernelIdeal.main_arg2) = m ((c.tc : Thread Cert.AttnKernelIdeal.nD Cert.AttnKernelIdeal.τ).loc Cert.AttnKernelIdeal.main_arg2)
      ∧ r.2.mem ((c.tc : Thread Cert.AttnKernelIdeal.nD Cert.AttnKernelIdeal.τ).loc Cert.AttnKernelIdeal.main_arg3) = m ((c.tc : Thread Cert.AttnKernelIdeal.nD Cert.AttnKernelIdeal.τ).loc Cert.AttnKernelIdeal.main_arg3))
      ∧ r.2.sem = fun _ => 0)

def quiescent_AttnReferenceIdeal [hAttnReferenceIdeal : Cert.AttnReferenceIdeal.Facts] : Prop :=
  ∀ (m : (ℓ : Loc Cert.AttnReferenceIdeal.nD Cert.AttnReferenceIdeal.τ Cert.AttnReferenceIdeal.sig) → Buf (Elt Ideal) ℓ) (g : Dev Cert.AttnReferenceIdeal.nD → PrngReg), Pre_AttnReferenceIdeal m →
    θ_run (Cert.AttnReferenceIdeal.defs (F := Ideal)) (onTc (τ := Cert.AttnReferenceIdeal.τ) (Cert.AttnReferenceIdeal.main (F := Ideal))) ⟨m, fun _ => 0, g⟩ (fun r => (∀ c : Dev Cert.AttnReferenceIdeal.nD,
      r.2.mem ((c.tc : Thread Cert.AttnReferenceIdeal.nD Cert.AttnReferenceIdeal.τ).loc Cert.AttnReferenceIdeal.main_arg0) = m ((c.tc : Thread Cert.AttnReferenceIdeal.nD Cert.AttnReferenceIdeal.τ).loc Cert.AttnReferenceIdeal.main_arg0)
      ∧ r.2.mem ((c.tc : Thread Cert.AttnReferenceIdeal.nD Cert.AttnReferenceIdeal.τ).loc Cert.AttnReferenceIdeal.main_arg1) = m ((c.tc : Thread Cert.AttnReferenceIdeal.nD Cert.AttnReferenceIdeal.τ).loc Cert.AttnReferenceIdeal.main_arg1)
      ∧ r.2.mem ((c.tc : Thread Cert.AttnReferenceIdeal.nD Cert.AttnReferenceIdeal.τ).loc Cert.AttnReferenceIdeal.main_arg2) = m ((c.tc : Thread Cert.AttnReferenceIdeal.nD Cert.AttnReferenceIdeal.τ).loc Cert.AttnReferenceIdeal.main_arg2)
      ∧ r.2.mem ((c.tc : Thread Cert.AttnReferenceIdeal.nD Cert.AttnReferenceIdeal.τ).loc Cert.AttnReferenceIdeal.main_arg3) = m ((c.tc : Thread Cert.AttnReferenceIdeal.nD Cert.AttnReferenceIdeal.τ).loc Cert.AttnReferenceIdeal.main_arg3))
      ∧ r.2.sem = fun _ => 0)

def quiescent_AttnReferenceIdeal_pre_attn_finite [hAttnReferenceIdeal : Cert.AttnReferenceIdeal.Facts] [hPre_attn_finite : Cert.Pre_attn_finite.Facts] : Prop :=
  ∀ (m : (ℓ : Loc Cert.AttnReferenceIdeal.nD Cert.AttnReferenceIdeal.τ Cert.AttnReferenceIdeal.sig) → Buf (Elt Ideal) ℓ) (g : Dev Cert.AttnReferenceIdeal.nD → PrngReg), Pre_AttnReferenceIdeal_attn_finite m →
    θ_run (Cert.AttnReferenceIdeal.defs (F := Ideal)) (onTc (τ := Cert.AttnReferenceIdeal.τ) (Cert.AttnReferenceIdeal.main (F := Ideal))) ⟨m, fun _ => 0, g⟩ (fun r => (∀ c : Dev Cert.AttnReferenceIdeal.nD,
      r.2.mem ((c.tc : Thread Cert.AttnReferenceIdeal.nD Cert.AttnReferenceIdeal.τ).loc Cert.AttnReferenceIdeal.main_arg0) = m ((c.tc : Thread Cert.AttnReferenceIdeal.nD Cert.AttnReferenceIdeal.τ).loc Cert.AttnReferenceIdeal.main_arg0)
      ∧ r.2.mem ((c.tc : Thread Cert.AttnReferenceIdeal.nD Cert.AttnReferenceIdeal.τ).loc Cert.AttnReferenceIdeal.main_arg1) = m ((c.tc : Thread Cert.AttnReferenceIdeal.nD Cert.AttnReferenceIdeal.τ).loc Cert.AttnReferenceIdeal.main_arg1)
      ∧ r.2.mem ((c.tc : Thread Cert.AttnReferenceIdeal.nD Cert.AttnReferenceIdeal.τ).loc Cert.AttnReferenceIdeal.main_arg2) = m ((c.tc : Thread Cert.AttnReferenceIdeal.nD Cert.AttnReferenceIdeal.τ).loc Cert.AttnReferenceIdeal.main_arg2)
      ∧ r.2.mem ((c.tc : Thread Cert.AttnReferenceIdeal.nD Cert.AttnReferenceIdeal.τ).loc Cert.AttnReferenceIdeal.main_arg3) = m ((c.tc : Thread Cert.AttnReferenceIdeal.nD Cert.AttnReferenceIdeal.τ).loc Cert.AttnReferenceIdeal.main_arg3))
      ∧ r.2.sem = fun _ => 0)

def quiescent_ProjKernel [hProjKernel : Cert.ProjKernel.Facts] : Prop :=
  ∀ (m : (ℓ : Loc Cert.ProjKernel.nD Cert.ProjKernel.τ Cert.ProjKernel.sig) → Buf (Elt Bits) ℓ) (g : Dev Cert.ProjKernel.nD → PrngReg), Pre_ProjKernel m →
    θ_run (Cert.ProjKernel.defs (F := Bits)) (onTc (τ := Cert.ProjKernel.τ) (Cert.ProjKernel.main (F := Bits))) ⟨m, fun _ => 0, g⟩ (fun r => (∀ c : Dev Cert.ProjKernel.nD,
      r.2.mem ((c.tc : Thread Cert.ProjKernel.nD Cert.ProjKernel.τ).loc Cert.ProjKernel.main_arg0) = m ((c.tc : Thread Cert.ProjKernel.nD Cert.ProjKernel.τ).loc Cert.ProjKernel.main_arg0)
      ∧ r.2.mem ((c.tc : Thread Cert.ProjKernel.nD Cert.ProjKernel.τ).loc Cert.ProjKernel.main_arg1) = m ((c.tc : Thread Cert.ProjKernel.nD Cert.ProjKernel.τ).loc Cert.ProjKernel.main_arg1))
      ∧ r.2.sem = fun _ => 0)

def quiescent_ProjKernelIdeal [hProjKernelIdeal : Cert.ProjKernelIdeal.Facts] : Prop :=
  ∀ (m : (ℓ : Loc Cert.ProjKernelIdeal.nD Cert.ProjKernelIdeal.τ Cert.ProjKernelIdeal.sig) → Buf (Elt Ideal) ℓ) (g : Dev Cert.ProjKernelIdeal.nD → PrngReg), Pre_ProjKernelIdeal m →
    θ_run (Cert.ProjKernelIdeal.defs (F := Ideal)) (onTc (τ := Cert.ProjKernelIdeal.τ) (Cert.ProjKernelIdeal.main (F := Ideal))) ⟨m, fun _ => 0, g⟩ (fun r => (∀ c : Dev Cert.ProjKernelIdeal.nD,
      r.2.mem ((c.tc : Thread Cert.ProjKernelIdeal.nD Cert.ProjKernelIdeal.τ).loc Cert.ProjKernelIdeal.main_arg0) = m ((c.tc : Thread Cert.ProjKernelIdeal.nD Cert.ProjKernelIdeal.τ).loc Cert.ProjKernelIdeal.main_arg0)
      ∧ r.2.mem ((c.tc : Thread Cert.ProjKernelIdeal.nD Cert.ProjKernelIdeal.τ).loc Cert.ProjKernelIdeal.main_arg1) = m ((c.tc : Thread Cert.ProjKernelIdeal.nD Cert.ProjKernelIdeal.τ).loc Cert.ProjKernelIdeal.main_arg1))
      ∧ r.2.sem = fun _ => 0)

def quiescent_ProjReferenceIdeal [hProjReferenceIdeal : Cert.ProjReferenceIdeal.Facts] : Prop :=
  ∀ (m : (ℓ : Loc Cert.ProjReferenceIdeal.nD Cert.ProjReferenceIdeal.τ Cert.ProjReferenceIdeal.sig) → Buf (Elt Ideal) ℓ) (g : Dev Cert.ProjReferenceIdeal.nD → PrngReg), Pre_ProjReferenceIdeal m →
    θ_run (Cert.ProjReferenceIdeal.defs (F := Ideal)) (onTc (τ := Cert.ProjReferenceIdeal.τ) (Cert.ProjReferenceIdeal.main (F := Ideal))) ⟨m, fun _ => 0, g⟩ (fun r => (∀ c : Dev Cert.ProjReferenceIdeal.nD,
      r.2.mem ((c.tc : Thread Cert.ProjReferenceIdeal.nD Cert.ProjReferenceIdeal.τ).loc Cert.ProjReferenceIdeal.main_arg0) = m ((c.tc : Thread Cert.ProjReferenceIdeal.nD Cert.ProjReferenceIdeal.τ).loc Cert.ProjReferenceIdeal.main_arg0)
      ∧ r.2.mem ((c.tc : Thread Cert.ProjReferenceIdeal.nD Cert.ProjReferenceIdeal.τ).loc Cert.ProjReferenceIdeal.main_arg1) = m ((c.tc : Thread Cert.ProjReferenceIdeal.nD Cert.ProjReferenceIdeal.τ).loc Cert.ProjReferenceIdeal.main_arg1))
      ∧ r.2.sem = fun _ => 0)

def quiescent_ResKernel [hResKernel : Cert.ResKernel.Facts] : Prop :=
  ∀ (m : (ℓ : Loc Cert.ResKernel.nD Cert.ResKernel.τ Cert.ResKernel.sig) → Buf (Elt Bits) ℓ) (g : Dev Cert.ResKernel.nD → PrngReg), Pre_ResKernel m →
    θ_run (Cert.ResKernel.defs (F := Bits)) (onTc (τ := Cert.ResKernel.τ) (Cert.ResKernel.main (F := Bits))) ⟨m, fun _ => 0, g⟩ (fun r => (∀ c : Dev Cert.ResKernel.nD,
      r.2.mem ((c.tc : Thread Cert.ResKernel.nD Cert.ResKernel.τ).loc Cert.ResKernel.main_arg0) = m ((c.tc : Thread Cert.ResKernel.nD Cert.ResKernel.τ).loc Cert.ResKernel.main_arg0)
      ∧ r.2.mem ((c.tc : Thread Cert.ResKernel.nD Cert.ResKernel.τ).loc Cert.ResKernel.main_arg1) = m ((c.tc : Thread Cert.ResKernel.nD Cert.ResKernel.τ).loc Cert.ResKernel.main_arg1)
      ∧ r.2.mem ((c.tc : Thread Cert.ResKernel.nD Cert.ResKernel.τ).loc Cert.ResKernel.main_arg2) = m ((c.tc : Thread Cert.ResKernel.nD Cert.ResKernel.τ).loc Cert.ResKernel.main_arg2))
      ∧ r.2.sem = fun _ => 0)

def quiescent_ResKernelIdeal [hResKernelIdeal : Cert.ResKernelIdeal.Facts] : Prop :=
  ∀ (m : (ℓ : Loc Cert.ResKernelIdeal.nD Cert.ResKernelIdeal.τ Cert.ResKernelIdeal.sig) → Buf (Elt Ideal) ℓ) (g : Dev Cert.ResKernelIdeal.nD → PrngReg), Pre_ResKernelIdeal m →
    θ_run (Cert.ResKernelIdeal.defs (F := Ideal)) (onTc (τ := Cert.ResKernelIdeal.τ) (Cert.ResKernelIdeal.main (F := Ideal))) ⟨m, fun _ => 0, g⟩ (fun r => (∀ c : Dev Cert.ResKernelIdeal.nD,
      r.2.mem ((c.tc : Thread Cert.ResKernelIdeal.nD Cert.ResKernelIdeal.τ).loc Cert.ResKernelIdeal.main_arg0) = m ((c.tc : Thread Cert.ResKernelIdeal.nD Cert.ResKernelIdeal.τ).loc Cert.ResKernelIdeal.main_arg0)
      ∧ r.2.mem ((c.tc : Thread Cert.ResKernelIdeal.nD Cert.ResKernelIdeal.τ).loc Cert.ResKernelIdeal.main_arg1) = m ((c.tc : Thread Cert.ResKernelIdeal.nD Cert.ResKernelIdeal.τ).loc Cert.ResKernelIdeal.main_arg1)
      ∧ r.2.mem ((c.tc : Thread Cert.ResKernelIdeal.nD Cert.ResKernelIdeal.τ).loc Cert.ResKernelIdeal.main_arg2) = m ((c.tc : Thread Cert.ResKernelIdeal.nD Cert.ResKernelIdeal.τ).loc Cert.ResKernelIdeal.main_arg2))
      ∧ r.2.sem = fun _ => 0)

def quiescent_ResReferenceIdeal [hResReferenceIdeal : Cert.ResReferenceIdeal.Facts] : Prop :=
  ∀ (m : (ℓ : Loc Cert.ResReferenceIdeal.nD Cert.ResReferenceIdeal.τ Cert.ResReferenceIdeal.sig) → Buf (Elt Ideal) ℓ) (g : Dev Cert.ResReferenceIdeal.nD → PrngReg), Pre_ResReferenceIdeal m →
    θ_run (Cert.ResReferenceIdeal.defs (F := Ideal)) (onTc (τ := Cert.ResReferenceIdeal.τ) (Cert.ResReferenceIdeal.main (F := Ideal))) ⟨m, fun _ => 0, g⟩ (fun r => (∀ c : Dev Cert.ResReferenceIdeal.nD,
      r.2.mem ((c.tc : Thread Cert.ResReferenceIdeal.nD Cert.ResReferenceIdeal.τ).loc Cert.ResReferenceIdeal.main_arg0) = m ((c.tc : Thread Cert.ResReferenceIdeal.nD Cert.ResReferenceIdeal.τ).loc Cert.ResReferenceIdeal.main_arg0)
      ∧ r.2.mem ((c.tc : Thread Cert.ResReferenceIdeal.nD Cert.ResReferenceIdeal.τ).loc Cert.ResReferenceIdeal.main_arg1) = m ((c.tc : Thread Cert.ResReferenceIdeal.nD Cert.ResReferenceIdeal.τ).loc Cert.ResReferenceIdeal.main_arg1)
      ∧ r.2.mem ((c.tc : Thread Cert.ResReferenceIdeal.nD Cert.ResReferenceIdeal.τ).loc Cert.ResReferenceIdeal.main_arg2) = m ((c.tc : Thread Cert.ResReferenceIdeal.nD Cert.ResReferenceIdeal.τ).loc Cert.ResReferenceIdeal.main_arg2))
      ∧ r.2.sem = fun _ => 0)

def quiescent_DownKernel [hDownKernel : Cert.DownKernel.Facts] : Prop :=
  ∀ (m : (ℓ : Loc Cert.DownKernel.nD Cert.DownKernel.τ Cert.DownKernel.sig) → Buf (Elt Bits) ℓ) (g : Dev Cert.DownKernel.nD → PrngReg), Pre_DownKernel m →
    θ_run (Cert.DownKernel.defs (F := Bits)) (onTc (τ := Cert.DownKernel.τ) (Cert.DownKernel.main (F := Bits))) ⟨m, fun _ => 0, g⟩ (fun r => (∀ c : Dev Cert.DownKernel.nD,
      r.2.mem ((c.tc : Thread Cert.DownKernel.nD Cert.DownKernel.τ).loc Cert.DownKernel.main_arg0) = m ((c.tc : Thread Cert.DownKernel.nD Cert.DownKernel.τ).loc Cert.DownKernel.main_arg0)
      ∧ r.2.mem ((c.tc : Thread Cert.DownKernel.nD Cert.DownKernel.τ).loc Cert.DownKernel.main_arg1) = m ((c.tc : Thread Cert.DownKernel.nD Cert.DownKernel.τ).loc Cert.DownKernel.main_arg1)
      ∧ r.2.mem ((c.tc : Thread Cert.DownKernel.nD Cert.DownKernel.τ).loc Cert.DownKernel.main_arg2) = m ((c.tc : Thread Cert.DownKernel.nD Cert.DownKernel.τ).loc Cert.DownKernel.main_arg2))
      ∧ r.2.sem = fun _ => 0)

def quiescent_DownKernelIdeal [hDownKernelIdeal : Cert.DownKernelIdeal.Facts] : Prop :=
  ∀ (m : (ℓ : Loc Cert.DownKernelIdeal.nD Cert.DownKernelIdeal.τ Cert.DownKernelIdeal.sig) → Buf (Elt Ideal) ℓ) (g : Dev Cert.DownKernelIdeal.nD → PrngReg), Pre_DownKernelIdeal m →
    θ_run (Cert.DownKernelIdeal.defs (F := Ideal)) (onTc (τ := Cert.DownKernelIdeal.τ) (Cert.DownKernelIdeal.main (F := Ideal))) ⟨m, fun _ => 0, g⟩ (fun r => (∀ c : Dev Cert.DownKernelIdeal.nD,
      r.2.mem ((c.tc : Thread Cert.DownKernelIdeal.nD Cert.DownKernelIdeal.τ).loc Cert.DownKernelIdeal.main_arg0) = m ((c.tc : Thread Cert.DownKernelIdeal.nD Cert.DownKernelIdeal.τ).loc Cert.DownKernelIdeal.main_arg0)
      ∧ r.2.mem ((c.tc : Thread Cert.DownKernelIdeal.nD Cert.DownKernelIdeal.τ).loc Cert.DownKernelIdeal.main_arg1) = m ((c.tc : Thread Cert.DownKernelIdeal.nD Cert.DownKernelIdeal.τ).loc Cert.DownKernelIdeal.main_arg1)
      ∧ r.2.mem ((c.tc : Thread Cert.DownKernelIdeal.nD Cert.DownKernelIdeal.τ).loc Cert.DownKernelIdeal.main_arg2) = m ((c.tc : Thread Cert.DownKernelIdeal.nD Cert.DownKernelIdeal.τ).loc Cert.DownKernelIdeal.main_arg2))
      ∧ r.2.sem = fun _ => 0)

def quiescent_DownReferenceIdeal [hDownReferenceIdeal : Cert.DownReferenceIdeal.Facts] : Prop :=
  ∀ (m : (ℓ : Loc Cert.DownReferenceIdeal.nD Cert.DownReferenceIdeal.τ Cert.DownReferenceIdeal.sig) → Buf (Elt Ideal) ℓ) (g : Dev Cert.DownReferenceIdeal.nD → PrngReg), Pre_DownReferenceIdeal m →
    θ_run (Cert.DownReferenceIdeal.defs (F := Ideal)) (onTc (τ := Cert.DownReferenceIdeal.τ) (Cert.DownReferenceIdeal.main (F := Ideal))) ⟨m, fun _ => 0, g⟩ (fun r => (∀ c : Dev Cert.DownReferenceIdeal.nD,
      r.2.mem ((c.tc : Thread Cert.DownReferenceIdeal.nD Cert.DownReferenceIdeal.τ).loc Cert.DownReferenceIdeal.main_arg0) = m ((c.tc : Thread Cert.DownReferenceIdeal.nD Cert.DownReferenceIdeal.τ).loc Cert.DownReferenceIdeal.main_arg0)
      ∧ r.2.mem ((c.tc : Thread Cert.DownReferenceIdeal.nD Cert.DownReferenceIdeal.τ).loc Cert.DownReferenceIdeal.main_arg1) = m ((c.tc : Thread Cert.DownReferenceIdeal.nD Cert.DownReferenceIdeal.τ).loc Cert.DownReferenceIdeal.main_arg1)
      ∧ r.2.mem ((c.tc : Thread Cert.DownReferenceIdeal.nD Cert.DownReferenceIdeal.τ).loc Cert.DownReferenceIdeal.main_arg2) = m ((c.tc : Thread Cert.DownReferenceIdeal.nD Cert.DownReferenceIdeal.τ).loc Cert.DownReferenceIdeal.main_arg2))
      ∧ r.2.sem = fun _ => 0)

def quiescent_BackKernel [hBackKernel : Cert.BackKernel.Facts] : Prop :=
  ∀ (m : (ℓ : Loc Cert.BackKernel.nD Cert.BackKernel.τ Cert.BackKernel.sig) → Buf (Elt Bits) ℓ) (g : Dev Cert.BackKernel.nD → PrngReg), Pre_BackKernel m →
    θ_run (Cert.BackKernel.defs (F := Bits)) (onTc (τ := Cert.BackKernel.τ) (Cert.BackKernel.main (F := Bits))) ⟨m, fun _ => 0, g⟩ (fun r => (∀ c : Dev Cert.BackKernel.nD,
      r.2.mem ((c.tc : Thread Cert.BackKernel.nD Cert.BackKernel.τ).loc Cert.BackKernel.main_arg0) = m ((c.tc : Thread Cert.BackKernel.nD Cert.BackKernel.τ).loc Cert.BackKernel.main_arg0)
      ∧ r.2.mem ((c.tc : Thread Cert.BackKernel.nD Cert.BackKernel.τ).loc Cert.BackKernel.main_arg1) = m ((c.tc : Thread Cert.BackKernel.nD Cert.BackKernel.τ).loc Cert.BackKernel.main_arg1))
      ∧ r.2.sem = fun _ => 0)

def quiescent_BackKernelIdeal [hBackKernelIdeal : Cert.BackKernelIdeal.Facts] : Prop :=
  ∀ (m : (ℓ : Loc Cert.BackKernelIdeal.nD Cert.BackKernelIdeal.τ Cert.BackKernelIdeal.sig) → Buf (Elt Ideal) ℓ) (g : Dev Cert.BackKernelIdeal.nD → PrngReg), Pre_BackKernelIdeal m →
    θ_run (Cert.BackKernelIdeal.defs (F := Ideal)) (onTc (τ := Cert.BackKernelIdeal.τ) (Cert.BackKernelIdeal.main (F := Ideal))) ⟨m, fun _ => 0, g⟩ (fun r => (∀ c : Dev Cert.BackKernelIdeal.nD,
      r.2.mem ((c.tc : Thread Cert.BackKernelIdeal.nD Cert.BackKernelIdeal.τ).loc Cert.BackKernelIdeal.main_arg0) = m ((c.tc : Thread Cert.BackKernelIdeal.nD Cert.BackKernelIdeal.τ).loc Cert.BackKernelIdeal.main_arg0)
      ∧ r.2.mem ((c.tc : Thread Cert.BackKernelIdeal.nD Cert.BackKernelIdeal.τ).loc Cert.BackKernelIdeal.main_arg1) = m ((c.tc : Thread Cert.BackKernelIdeal.nD Cert.BackKernelIdeal.τ).loc Cert.BackKernelIdeal.main_arg1))
      ∧ r.2.sem = fun _ => 0)

def quiescent_BackReferenceIdeal [hBackReferenceIdeal : Cert.BackReferenceIdeal.Facts] : Prop :=
  ∀ (m : (ℓ : Loc Cert.BackReferenceIdeal.nD Cert.BackReferenceIdeal.τ Cert.BackReferenceIdeal.sig) → Buf (Elt Ideal) ℓ) (g : Dev Cert.BackReferenceIdeal.nD → PrngReg), Pre_BackReferenceIdeal m →
    θ_run (Cert.BackReferenceIdeal.defs (F := Ideal)) (onTc (τ := Cert.BackReferenceIdeal.τ) (Cert.BackReferenceIdeal.main (F := Ideal))) ⟨m, fun _ => 0, g⟩ (fun r => (∀ c : Dev Cert.BackReferenceIdeal.nD,
      r.2.mem ((c.tc : Thread Cert.BackReferenceIdeal.nD Cert.BackReferenceIdeal.τ).loc Cert.BackReferenceIdeal.main_arg0) = m ((c.tc : Thread Cert.BackReferenceIdeal.nD Cert.BackReferenceIdeal.τ).loc Cert.BackReferenceIdeal.main_arg0)
      ∧ r.2.mem ((c.tc : Thread Cert.BackReferenceIdeal.nD Cert.BackReferenceIdeal.τ).loc Cert.BackReferenceIdeal.main_arg1) = m ((c.tc : Thread Cert.BackReferenceIdeal.nD Cert.BackReferenceIdeal.τ).loc Cert.BackReferenceIdeal.main_arg1))
      ∧ r.2.sem = fun _ => 0)

def quiescent_FfdhKernel [hFfdhKernel : Cert.FfdhKernel.Facts] : Prop :=
  ∀ (m : (ℓ : Loc Cert.FfdhKernel.nD Cert.FfdhKernel.τ Cert.FfdhKernel.sig) → Buf (Elt Bits) ℓ) (g : Dev Cert.FfdhKernel.nD → PrngReg), Pre_FfdhKernel m →
    θ_run (Cert.FfdhKernel.defs (F := Bits)) (onTc (τ := Cert.FfdhKernel.τ) (Cert.FfdhKernel.main (F := Bits))) ⟨m, fun _ => 0, g⟩ (fun r => (∀ c : Dev Cert.FfdhKernel.nD,
      r.2.mem ((c.tc : Thread Cert.FfdhKernel.nD Cert.FfdhKernel.τ).loc Cert.FfdhKernel.main_arg0) = m ((c.tc : Thread Cert.FfdhKernel.nD Cert.FfdhKernel.τ).loc Cert.FfdhKernel.main_arg0)
      ∧ r.2.mem ((c.tc : Thread Cert.FfdhKernel.nD Cert.FfdhKernel.τ).loc Cert.FfdhKernel.main_arg1) = m ((c.tc : Thread Cert.FfdhKernel.nD Cert.FfdhKernel.τ).loc Cert.FfdhKernel.main_arg1)
      ∧ r.2.mem ((c.tc : Thread Cert.FfdhKernel.nD Cert.FfdhKernel.τ).loc Cert.FfdhKernel.main_arg2) = m ((c.tc : Thread Cert.FfdhKernel.nD Cert.FfdhKernel.τ).loc Cert.FfdhKernel.main_arg2)
      ∧ r.2.mem ((c.tc : Thread Cert.FfdhKernel.nD Cert.FfdhKernel.τ).loc Cert.FfdhKernel.main_arg3) = m ((c.tc : Thread Cert.FfdhKernel.nD Cert.FfdhKernel.τ).loc Cert.FfdhKernel.main_arg3))
      ∧ r.2.sem = fun _ => 0)

def quiescent_FfdhKernelIdeal [hFfdhKernelIdeal : Cert.FfdhKernelIdeal.Facts] : Prop :=
  ∀ (m : (ℓ : Loc Cert.FfdhKernelIdeal.nD Cert.FfdhKernelIdeal.τ Cert.FfdhKernelIdeal.sig) → Buf (Elt Ideal) ℓ) (g : Dev Cert.FfdhKernelIdeal.nD → PrngReg), Pre_FfdhKernelIdeal m →
    θ_run (Cert.FfdhKernelIdeal.defs (F := Ideal)) (onTc (τ := Cert.FfdhKernelIdeal.τ) (Cert.FfdhKernelIdeal.main (F := Ideal))) ⟨m, fun _ => 0, g⟩ (fun r => (∀ c : Dev Cert.FfdhKernelIdeal.nD,
      r.2.mem ((c.tc : Thread Cert.FfdhKernelIdeal.nD Cert.FfdhKernelIdeal.τ).loc Cert.FfdhKernelIdeal.main_arg0) = m ((c.tc : Thread Cert.FfdhKernelIdeal.nD Cert.FfdhKernelIdeal.τ).loc Cert.FfdhKernelIdeal.main_arg0)
      ∧ r.2.mem ((c.tc : Thread Cert.FfdhKernelIdeal.nD Cert.FfdhKernelIdeal.τ).loc Cert.FfdhKernelIdeal.main_arg1) = m ((c.tc : Thread Cert.FfdhKernelIdeal.nD Cert.FfdhKernelIdeal.τ).loc Cert.FfdhKernelIdeal.main_arg1)
      ∧ r.2.mem ((c.tc : Thread Cert.FfdhKernelIdeal.nD Cert.FfdhKernelIdeal.τ).loc Cert.FfdhKernelIdeal.main_arg2) = m ((c.tc : Thread Cert.FfdhKernelIdeal.nD Cert.FfdhKernelIdeal.τ).loc Cert.FfdhKernelIdeal.main_arg2)
      ∧ r.2.mem ((c.tc : Thread Cert.FfdhKernelIdeal.nD Cert.FfdhKernelIdeal.τ).loc Cert.FfdhKernelIdeal.main_arg3) = m ((c.tc : Thread Cert.FfdhKernelIdeal.nD Cert.FfdhKernelIdeal.τ).loc Cert.FfdhKernelIdeal.main_arg3))
      ∧ r.2.sem = fun _ => 0)

def quiescent_FfdhReferenceIdeal [hFfdhReferenceIdeal : Cert.FfdhReferenceIdeal.Facts] : Prop :=
  ∀ (m : (ℓ : Loc Cert.FfdhReferenceIdeal.nD Cert.FfdhReferenceIdeal.τ Cert.FfdhReferenceIdeal.sig) → Buf (Elt Ideal) ℓ) (g : Dev Cert.FfdhReferenceIdeal.nD → PrngReg), Pre_FfdhReferenceIdeal m →
    θ_run (Cert.FfdhReferenceIdeal.defs (F := Ideal)) (onTc (τ := Cert.FfdhReferenceIdeal.τ) (Cert.FfdhReferenceIdeal.main (F := Ideal))) ⟨m, fun _ => 0, g⟩ (fun r => (∀ c : Dev Cert.FfdhReferenceIdeal.nD,
      r.2.mem ((c.tc : Thread Cert.FfdhReferenceIdeal.nD Cert.FfdhReferenceIdeal.τ).loc Cert.FfdhReferenceIdeal.main_arg0) = m ((c.tc : Thread Cert.FfdhReferenceIdeal.nD Cert.FfdhReferenceIdeal.τ).loc Cert.FfdhReferenceIdeal.main_arg0)
      ∧ r.2.mem ((c.tc : Thread Cert.FfdhReferenceIdeal.nD Cert.FfdhReferenceIdeal.τ).loc Cert.FfdhReferenceIdeal.main_arg1) = m ((c.tc : Thread Cert.FfdhReferenceIdeal.nD Cert.FfdhReferenceIdeal.τ).loc Cert.FfdhReferenceIdeal.main_arg1)
      ∧ r.2.mem ((c.tc : Thread Cert.FfdhReferenceIdeal.nD Cert.FfdhReferenceIdeal.τ).loc Cert.FfdhReferenceIdeal.main_arg2) = m ((c.tc : Thread Cert.FfdhReferenceIdeal.nD Cert.FfdhReferenceIdeal.τ).loc Cert.FfdhReferenceIdeal.main_arg2)
      ∧ r.2.mem ((c.tc : Thread Cert.FfdhReferenceIdeal.nD Cert.FfdhReferenceIdeal.τ).loc Cert.FfdhReferenceIdeal.main_arg3) = m ((c.tc : Thread Cert.FfdhReferenceIdeal.nD Cert.FfdhReferenceIdeal.τ).loc Cert.FfdhReferenceIdeal.main_arg3))
      ∧ r.2.sem = fun _ => 0)

def quiescent_SectKernel [hSectKernel : Cert.SectKernel.Facts] : Prop :=
  ∀ (m : (ℓ : Loc Cert.SectKernel.nD Cert.SectKernel.τ Cert.SectKernel.sig) → Buf (Elt Bits) ℓ) (g : Dev Cert.SectKernel.nD → PrngReg), Pre_SectKernel m →
    θ_run (Cert.SectKernel.defs (F := Bits)) (onTc (τ := Cert.SectKernel.τ) (Cert.SectKernel.main (F := Bits))) ⟨m, fun _ => 0, g⟩ (fun r => (∀ c : Dev Cert.SectKernel.nD,
      r.2.mem ((c.tc : Thread Cert.SectKernel.nD Cert.SectKernel.τ).loc Cert.SectKernel.main_arg0) = m ((c.tc : Thread Cert.SectKernel.nD Cert.SectKernel.τ).loc Cert.SectKernel.main_arg0)
      ∧ r.2.mem ((c.tc : Thread Cert.SectKernel.nD Cert.SectKernel.τ).loc Cert.SectKernel.main_arg1) = m ((c.tc : Thread Cert.SectKernel.nD Cert.SectKernel.τ).loc Cert.SectKernel.main_arg1))
      ∧ r.2.sem = fun _ => 0)

def quiescent_SectKernelIdeal [hSectKernelIdeal : Cert.SectKernelIdeal.Facts] : Prop :=
  ∀ (m : (ℓ : Loc Cert.SectKernelIdeal.nD Cert.SectKernelIdeal.τ Cert.SectKernelIdeal.sig) → Buf (Elt Ideal) ℓ) (g : Dev Cert.SectKernelIdeal.nD → PrngReg), Pre_SectKernelIdeal m →
    θ_run (Cert.SectKernelIdeal.defs (F := Ideal)) (onTc (τ := Cert.SectKernelIdeal.τ) (Cert.SectKernelIdeal.main (F := Ideal))) ⟨m, fun _ => 0, g⟩ (fun r => (∀ c : Dev Cert.SectKernelIdeal.nD,
      r.2.mem ((c.tc : Thread Cert.SectKernelIdeal.nD Cert.SectKernelIdeal.τ).loc Cert.SectKernelIdeal.main_arg0) = m ((c.tc : Thread Cert.SectKernelIdeal.nD Cert.SectKernelIdeal.τ).loc Cert.SectKernelIdeal.main_arg0)
      ∧ r.2.mem ((c.tc : Thread Cert.SectKernelIdeal.nD Cert.SectKernelIdeal.τ).loc Cert.SectKernelIdeal.main_arg1) = m ((c.tc : Thread Cert.SectKernelIdeal.nD Cert.SectKernelIdeal.τ).loc Cert.SectKernelIdeal.main_arg1))
      ∧ r.2.sem = fun _ => 0)

def quiescent_SectReferenceIdeal [hSectReferenceIdeal : Cert.SectReferenceIdeal.Facts] : Prop :=
  ∀ (m : (ℓ : Loc Cert.SectReferenceIdeal.nD Cert.SectReferenceIdeal.τ Cert.SectReferenceIdeal.sig) → Buf (Elt Ideal) ℓ) (g : Dev Cert.SectReferenceIdeal.nD → PrngReg), Pre_SectReferenceIdeal m →
    θ_run (Cert.SectReferenceIdeal.defs (F := Ideal)) (onTc (τ := Cert.SectReferenceIdeal.τ) (Cert.SectReferenceIdeal.main (F := Ideal))) ⟨m, fun _ => 0, g⟩ (fun r => (∀ c : Dev Cert.SectReferenceIdeal.nD,
      r.2.mem ((c.tc : Thread Cert.SectReferenceIdeal.nD Cert.SectReferenceIdeal.τ).loc Cert.SectReferenceIdeal.main_arg0) = m ((c.tc : Thread Cert.SectReferenceIdeal.nD Cert.SectReferenceIdeal.τ).loc Cert.SectReferenceIdeal.main_arg0)
      ∧ r.2.mem ((c.tc : Thread Cert.SectReferenceIdeal.nD Cert.SectReferenceIdeal.τ).loc Cert.SectReferenceIdeal.main_arg1) = m ((c.tc : Thread Cert.SectReferenceIdeal.nD Cert.SectReferenceIdeal.τ).loc Cert.SectReferenceIdeal.main_arg1))
      ∧ r.2.sem = fun _ => 0)

def quiescent_WcolKernel [hWcolKernel : Cert.WcolKernel.Facts] : Prop :=
  ∀ (m : (ℓ : Loc Cert.WcolKernel.nD Cert.WcolKernel.τ Cert.WcolKernel.sig) → Buf (Elt Bits) ℓ) (g : Dev Cert.WcolKernel.nD → PrngReg), Pre_WcolKernel m →
    θ_run (Cert.WcolKernel.defs (F := Bits)) (onTc (τ := Cert.WcolKernel.τ) (Cert.WcolKernel.main (F := Bits))) ⟨m, fun _ => 0, g⟩ (fun r => (∀ c : Dev Cert.WcolKernel.nD,
      r.2.mem ((c.tc : Thread Cert.WcolKernel.nD Cert.WcolKernel.τ).loc Cert.WcolKernel.main_arg0) = m ((c.tc : Thread Cert.WcolKernel.nD Cert.WcolKernel.τ).loc Cert.WcolKernel.main_arg0)
      ∧ r.2.mem ((c.tc : Thread Cert.WcolKernel.nD Cert.WcolKernel.τ).loc Cert.WcolKernel.main_arg1) = m ((c.tc : Thread Cert.WcolKernel.nD Cert.WcolKernel.τ).loc Cert.WcolKernel.main_arg1)
      ∧ r.2.mem ((c.tc : Thread Cert.WcolKernel.nD Cert.WcolKernel.τ).loc Cert.WcolKernel.main_arg2) = m ((c.tc : Thread Cert.WcolKernel.nD Cert.WcolKernel.τ).loc Cert.WcolKernel.main_arg2))
      ∧ r.2.sem = fun _ => 0)

def quiescent_WcolKernelIdeal [hWcolKernelIdeal : Cert.WcolKernelIdeal.Facts] : Prop :=
  ∀ (m : (ℓ : Loc Cert.WcolKernelIdeal.nD Cert.WcolKernelIdeal.τ Cert.WcolKernelIdeal.sig) → Buf (Elt Ideal) ℓ) (g : Dev Cert.WcolKernelIdeal.nD → PrngReg), Pre_WcolKernelIdeal m →
    θ_run (Cert.WcolKernelIdeal.defs (F := Ideal)) (onTc (τ := Cert.WcolKernelIdeal.τ) (Cert.WcolKernelIdeal.main (F := Ideal))) ⟨m, fun _ => 0, g⟩ (fun r => (∀ c : Dev Cert.WcolKernelIdeal.nD,
      r.2.mem ((c.tc : Thread Cert.WcolKernelIdeal.nD Cert.WcolKernelIdeal.τ).loc Cert.WcolKernelIdeal.main_arg0) = m ((c.tc : Thread Cert.WcolKernelIdeal.nD Cert.WcolKernelIdeal.τ).loc Cert.WcolKernelIdeal.main_arg0)
      ∧ r.2.mem ((c.tc : Thread Cert.WcolKernelIdeal.nD Cert.WcolKernelIdeal.τ).loc Cert.WcolKernelIdeal.main_arg1) = m ((c.tc : Thread Cert.WcolKernelIdeal.nD Cert.WcolKernelIdeal.τ).loc Cert.WcolKernelIdeal.main_arg1)
      ∧ r.2.mem ((c.tc : Thread Cert.WcolKernelIdeal.nD Cert.WcolKernelIdeal.τ).loc Cert.WcolKernelIdeal.main_arg2) = m ((c.tc : Thread Cert.WcolKernelIdeal.nD Cert.WcolKernelIdeal.τ).loc Cert.WcolKernelIdeal.main_arg2))
      ∧ r.2.sem = fun _ => 0)

def quiescent_WcolReferenceIdeal [hWcolReferenceIdeal : Cert.WcolReferenceIdeal.Facts] : Prop :=
  ∀ (m : (ℓ : Loc Cert.WcolReferenceIdeal.nD Cert.WcolReferenceIdeal.τ Cert.WcolReferenceIdeal.sig) → Buf (Elt Ideal) ℓ) (g : Dev Cert.WcolReferenceIdeal.nD → PrngReg), Pre_WcolReferenceIdeal m →
    θ_run (Cert.WcolReferenceIdeal.defs (F := Ideal)) (onTc (τ := Cert.WcolReferenceIdeal.τ) (Cert.WcolReferenceIdeal.main (F := Ideal))) ⟨m, fun _ => 0, g⟩ (fun r => (∀ c : Dev Cert.WcolReferenceIdeal.nD,
      r.2.mem ((c.tc : Thread Cert.WcolReferenceIdeal.nD Cert.WcolReferenceIdeal.τ).loc Cert.WcolReferenceIdeal.main_arg0) = m ((c.tc : Thread Cert.WcolReferenceIdeal.nD Cert.WcolReferenceIdeal.τ).loc Cert.WcolReferenceIdeal.main_arg0)
      ∧ r.2.mem ((c.tc : Thread Cert.WcolReferenceIdeal.nD Cert.WcolReferenceIdeal.τ).loc Cert.WcolReferenceIdeal.main_arg1) = m ((c.tc : Thread Cert.WcolReferenceIdeal.nD Cert.WcolReferenceIdeal.τ).loc Cert.WcolReferenceIdeal.main_arg1)
      ∧ r.2.mem ((c.tc : Thread Cert.WcolReferenceIdeal.nD Cert.WcolReferenceIdeal.τ).loc Cert.WcolReferenceIdeal.main_arg2) = m ((c.tc : Thread Cert.WcolReferenceIdeal.nD Cert.WcolReferenceIdeal.τ).loc Cert.WcolReferenceIdeal.main_arg2))
      ∧ r.2.sem = fun _ => 0)

def quiescent_WrowKernel [hWrowKernel : Cert.WrowKernel.Facts] : Prop :=
  ∀ (m : (ℓ : Loc Cert.WrowKernel.nD Cert.WrowKernel.τ Cert.WrowKernel.sig) → Buf (Elt Bits) ℓ) (g : Dev Cert.WrowKernel.nD → PrngReg), Pre_WrowKernel m →
    θ_run (Cert.WrowKernel.defs (F := Bits)) (onTc (τ := Cert.WrowKernel.τ) (Cert.WrowKernel.main (F := Bits))) ⟨m, fun _ => 0, g⟩ (fun r => (∀ c : Dev Cert.WrowKernel.nD,
      r.2.mem ((c.tc : Thread Cert.WrowKernel.nD Cert.WrowKernel.τ).loc Cert.WrowKernel.main_arg0) = m ((c.tc : Thread Cert.WrowKernel.nD Cert.WrowKernel.τ).loc Cert.WrowKernel.main_arg0)
      ∧ r.2.mem ((c.tc : Thread Cert.WrowKernel.nD Cert.WrowKernel.τ).loc Cert.WrowKernel.main_arg1) = m ((c.tc : Thread Cert.WrowKernel.nD Cert.WrowKernel.τ).loc Cert.WrowKernel.main_arg1))
      ∧ r.2.sem = fun _ => 0)

def quiescent_WrowKernelIdeal [hWrowKernelIdeal : Cert.WrowKernelIdeal.Facts] : Prop :=
  ∀ (m : (ℓ : Loc Cert.WrowKernelIdeal.nD Cert.WrowKernelIdeal.τ Cert.WrowKernelIdeal.sig) → Buf (Elt Ideal) ℓ) (g : Dev Cert.WrowKernelIdeal.nD → PrngReg), Pre_WrowKernelIdeal m →
    θ_run (Cert.WrowKernelIdeal.defs (F := Ideal)) (onTc (τ := Cert.WrowKernelIdeal.τ) (Cert.WrowKernelIdeal.main (F := Ideal))) ⟨m, fun _ => 0, g⟩ (fun r => (∀ c : Dev Cert.WrowKernelIdeal.nD,
      r.2.mem ((c.tc : Thread Cert.WrowKernelIdeal.nD Cert.WrowKernelIdeal.τ).loc Cert.WrowKernelIdeal.main_arg0) = m ((c.tc : Thread Cert.WrowKernelIdeal.nD Cert.WrowKernelIdeal.τ).loc Cert.WrowKernelIdeal.main_arg0)
      ∧ r.2.mem ((c.tc : Thread Cert.WrowKernelIdeal.nD Cert.WrowKernelIdeal.τ).loc Cert.WrowKernelIdeal.main_arg1) = m ((c.tc : Thread Cert.WrowKernelIdeal.nD Cert.WrowKernelIdeal.τ).loc Cert.WrowKernelIdeal.main_arg1))
      ∧ r.2.sem = fun _ => 0)

def quiescent_WrowReferenceIdeal [hWrowReferenceIdeal : Cert.WrowReferenceIdeal.Facts] : Prop :=
  ∀ (m : (ℓ : Loc Cert.WrowReferenceIdeal.nD Cert.WrowReferenceIdeal.τ Cert.WrowReferenceIdeal.sig) → Buf (Elt Ideal) ℓ) (g : Dev Cert.WrowReferenceIdeal.nD → PrngReg), Pre_WrowReferenceIdeal m →
    θ_run (Cert.WrowReferenceIdeal.defs (F := Ideal)) (onTc (τ := Cert.WrowReferenceIdeal.τ) (Cert.WrowReferenceIdeal.main (F := Ideal))) ⟨m, fun _ => 0, g⟩ (fun r => (∀ c : Dev Cert.WrowReferenceIdeal.nD,
      r.2.mem ((c.tc : Thread Cert.WrowReferenceIdeal.nD Cert.WrowReferenceIdeal.τ).loc Cert.WrowReferenceIdeal.main_arg0) = m ((c.tc : Thread Cert.WrowReferenceIdeal.nD Cert.WrowReferenceIdeal.τ).loc Cert.WrowReferenceIdeal.main_arg0)
      ∧ r.2.mem ((c.tc : Thread Cert.WrowReferenceIdeal.nD Cert.WrowReferenceIdeal.τ).loc Cert.WrowReferenceIdeal.main_arg1) = m ((c.tc : Thread Cert.WrowReferenceIdeal.nD Cert.WrowReferenceIdeal.τ).loc Cert.WrowReferenceIdeal.main_arg1))
      ∧ r.2.sem = fun _ => 0)

def quiescent_WstdKernel [hWstdKernel : Cert.WstdKernel.Facts] : Prop :=
  ∀ (m : (ℓ : Loc Cert.WstdKernel.nD Cert.WstdKernel.τ Cert.WstdKernel.sig) → Buf (Elt Bits) ℓ) (g : Dev Cert.WstdKernel.nD → PrngReg), Pre_WstdKernel m →
    θ_run (Cert.WstdKernel.defs (F := Bits)) (onTc (τ := Cert.WstdKernel.τ) (Cert.WstdKernel.main (F := Bits))) ⟨m, fun _ => 0, g⟩ (fun r => (∀ c : Dev Cert.WstdKernel.nD,
      r.2.mem ((c.tc : Thread Cert.WstdKernel.nD Cert.WstdKernel.τ).loc Cert.WstdKernel.main_arg0) = m ((c.tc : Thread Cert.WstdKernel.nD Cert.WstdKernel.τ).loc Cert.WstdKernel.main_arg0)
      ∧ r.2.mem ((c.tc : Thread Cert.WstdKernel.nD Cert.WstdKernel.τ).loc Cert.WstdKernel.main_arg1) = m ((c.tc : Thread Cert.WstdKernel.nD Cert.WstdKernel.τ).loc Cert.WstdKernel.main_arg1))
      ∧ r.2.sem = fun _ => 0)

def quiescent_WstdKernelIdeal [hWstdKernelIdeal : Cert.WstdKernelIdeal.Facts] : Prop :=
  ∀ (m : (ℓ : Loc Cert.WstdKernelIdeal.nD Cert.WstdKernelIdeal.τ Cert.WstdKernelIdeal.sig) → Buf (Elt Ideal) ℓ) (g : Dev Cert.WstdKernelIdeal.nD → PrngReg), Pre_WstdKernelIdeal m →
    θ_run (Cert.WstdKernelIdeal.defs (F := Ideal)) (onTc (τ := Cert.WstdKernelIdeal.τ) (Cert.WstdKernelIdeal.main (F := Ideal))) ⟨m, fun _ => 0, g⟩ (fun r => (∀ c : Dev Cert.WstdKernelIdeal.nD,
      r.2.mem ((c.tc : Thread Cert.WstdKernelIdeal.nD Cert.WstdKernelIdeal.τ).loc Cert.WstdKernelIdeal.main_arg0) = m ((c.tc : Thread Cert.WstdKernelIdeal.nD Cert.WstdKernelIdeal.τ).loc Cert.WstdKernelIdeal.main_arg0)
      ∧ r.2.mem ((c.tc : Thread Cert.WstdKernelIdeal.nD Cert.WstdKernelIdeal.τ).loc Cert.WstdKernelIdeal.main_arg1) = m ((c.tc : Thread Cert.WstdKernelIdeal.nD Cert.WstdKernelIdeal.τ).loc Cert.WstdKernelIdeal.main_arg1))
      ∧ r.2.sem = fun _ => 0)

def quiescent_WstdReferenceIdeal [hWstdReferenceIdeal : Cert.WstdReferenceIdeal.Facts] : Prop :=
  ∀ (m : (ℓ : Loc Cert.WstdReferenceIdeal.nD Cert.WstdReferenceIdeal.τ Cert.WstdReferenceIdeal.sig) → Buf (Elt Ideal) ℓ) (g : Dev Cert.WstdReferenceIdeal.nD → PrngReg), Pre_WstdReferenceIdeal m →
    θ_run (Cert.WstdReferenceIdeal.defs (F := Ideal)) (onTc (τ := Cert.WstdReferenceIdeal.τ) (Cert.WstdReferenceIdeal.main (F := Ideal))) ⟨m, fun _ => 0, g⟩ (fun r => (∀ c : Dev Cert.WstdReferenceIdeal.nD,
      r.2.mem ((c.tc : Thread Cert.WstdReferenceIdeal.nD Cert.WstdReferenceIdeal.τ).loc Cert.WstdReferenceIdeal.main_arg0) = m ((c.tc : Thread Cert.WstdReferenceIdeal.nD Cert.WstdReferenceIdeal.τ).loc Cert.WstdReferenceIdeal.main_arg0)
      ∧ r.2.mem ((c.tc : Thread Cert.WstdReferenceIdeal.nD Cert.WstdReferenceIdeal.τ).loc Cert.WstdReferenceIdeal.main_arg1) = m ((c.tc : Thread Cert.WstdReferenceIdeal.nD Cert.WstdReferenceIdeal.τ).loc Cert.WstdReferenceIdeal.main_arg1))
      ∧ r.2.sem = fun _ => 0)

def quiescent_WsecKernel [hWsecKernel : Cert.WsecKernel.Facts] : Prop :=
  ∀ (m : (ℓ : Loc Cert.WsecKernel.nD Cert.WsecKernel.τ Cert.WsecKernel.sig) → Buf (Elt Bits) ℓ) (g : Dev Cert.WsecKernel.nD → PrngReg), Pre_WsecKernel m →
    θ_run (Cert.WsecKernel.defs (F := Bits)) (onTc (τ := Cert.WsecKernel.τ) (Cert.WsecKernel.main (F := Bits))) ⟨m, fun _ => 0, g⟩ (fun r => (∀ c : Dev Cert.WsecKernel.nD,
      r.2.mem ((c.tc : Thread Cert.WsecKernel.nD Cert.WsecKernel.τ).loc Cert.WsecKernel.main_arg0) = m ((c.tc : Thread Cert.WsecKernel.nD Cert.WsecKernel.τ).loc Cert.WsecKernel.main_arg0)
      ∧ r.2.mem ((c.tc : Thread Cert.WsecKernel.nD Cert.WsecKernel.τ).loc Cert.WsecKernel.main_arg1) = m ((c.tc : Thread Cert.WsecKernel.nD Cert.WsecKernel.τ).loc Cert.WsecKernel.main_arg1))
      ∧ r.2.sem = fun _ => 0)

def quiescent_WsecKernelIdeal [hWsecKernelIdeal : Cert.WsecKernelIdeal.Facts] : Prop :=
  ∀ (m : (ℓ : Loc Cert.WsecKernelIdeal.nD Cert.WsecKernelIdeal.τ Cert.WsecKernelIdeal.sig) → Buf (Elt Ideal) ℓ) (g : Dev Cert.WsecKernelIdeal.nD → PrngReg), Pre_WsecKernelIdeal m →
    θ_run (Cert.WsecKernelIdeal.defs (F := Ideal)) (onTc (τ := Cert.WsecKernelIdeal.τ) (Cert.WsecKernelIdeal.main (F := Ideal))) ⟨m, fun _ => 0, g⟩ (fun r => (∀ c : Dev Cert.WsecKernelIdeal.nD,
      r.2.mem ((c.tc : Thread Cert.WsecKernelIdeal.nD Cert.WsecKernelIdeal.τ).loc Cert.WsecKernelIdeal.main_arg0) = m ((c.tc : Thread Cert.WsecKernelIdeal.nD Cert.WsecKernelIdeal.τ).loc Cert.WsecKernelIdeal.main_arg0)
      ∧ r.2.mem ((c.tc : Thread Cert.WsecKernelIdeal.nD Cert.WsecKernelIdeal.τ).loc Cert.WsecKernelIdeal.main_arg1) = m ((c.tc : Thread Cert.WsecKernelIdeal.nD Cert.WsecKernelIdeal.τ).loc Cert.WsecKernelIdeal.main_arg1))
      ∧ r.2.sem = fun _ => 0)

def quiescent_WsecReferenceIdeal [hWsecReferenceIdeal : Cert.WsecReferenceIdeal.Facts] : Prop :=
  ∀ (m : (ℓ : Loc Cert.WsecReferenceIdeal.nD Cert.WsecReferenceIdeal.τ Cert.WsecReferenceIdeal.sig) → Buf (Elt Ideal) ℓ) (g : Dev Cert.WsecReferenceIdeal.nD → PrngReg), Pre_WsecReferenceIdeal m →
    θ_run (Cert.WsecReferenceIdeal.defs (F := Ideal)) (onTc (τ := Cert.WsecReferenceIdeal.τ) (Cert.WsecReferenceIdeal.main (F := Ideal))) ⟨m, fun _ => 0, g⟩ (fun r => (∀ c : Dev Cert.WsecReferenceIdeal.nD,
      r.2.mem ((c.tc : Thread Cert.WsecReferenceIdeal.nD Cert.WsecReferenceIdeal.τ).loc Cert.WsecReferenceIdeal.main_arg0) = m ((c.tc : Thread Cert.WsecReferenceIdeal.nD Cert.WsecReferenceIdeal.τ).loc Cert.WsecReferenceIdeal.main_arg0)
      ∧ r.2.mem ((c.tc : Thread Cert.WsecReferenceIdeal.nD Cert.WsecReferenceIdeal.τ).loc Cert.WsecReferenceIdeal.main_arg1) = m ((c.tc : Thread Cert.WsecReferenceIdeal.nD Cert.WsecReferenceIdeal.τ).loc Cert.WsecReferenceIdeal.main_arg1))
      ∧ r.2.sem = fun _ => 0)

def quiescent_AdamKernel [hAdamKernel : Cert.AdamKernel.Facts] : Prop :=
  ∀ (m : (ℓ : Loc Cert.AdamKernel.nD Cert.AdamKernel.τ Cert.AdamKernel.sig) → Buf (Elt Bits) ℓ) (g : Dev Cert.AdamKernel.nD → PrngReg), Pre_AdamKernel m →
    θ_run (Cert.AdamKernel.defs (F := Bits)) (onTc (τ := Cert.AdamKernel.τ) (Cert.AdamKernel.main (F := Bits))) ⟨m, fun _ => 0, g⟩ (fun r => (∀ c : Dev Cert.AdamKernel.nD,
      r.2.mem ((c.tc : Thread Cert.AdamKernel.nD Cert.AdamKernel.τ).loc Cert.AdamKernel.main_arg0) = m ((c.tc : Thread Cert.AdamKernel.nD Cert.AdamKernel.τ).loc Cert.AdamKernel.main_arg0)
      ∧ r.2.mem ((c.tc : Thread Cert.AdamKernel.nD Cert.AdamKernel.τ).loc Cert.AdamKernel.main_arg1) = m ((c.tc : Thread Cert.AdamKernel.nD Cert.AdamKernel.τ).loc Cert.AdamKernel.main_arg1)
      ∧ r.2.mem ((c.tc : Thread Cert.AdamKernel.nD Cert.AdamKernel.τ).loc Cert.AdamKernel.main_arg2) = m ((c.tc : Thread Cert.AdamKernel.nD Cert.AdamKernel.τ).loc Cert.AdamKernel.main_arg2)
      ∧ r.2.mem ((c.tc : Thread Cert.AdamKernel.nD Cert.AdamKernel.τ).loc Cert.AdamKernel.main_arg3) = m ((c.tc : Thread Cert.AdamKernel.nD Cert.AdamKernel.τ).loc Cert.AdamKernel.main_arg3))
      ∧ r.2.sem = fun _ => 0)

def quiescent_AdamKernelIdeal [hAdamKernelIdeal : Cert.AdamKernelIdeal.Facts] : Prop :=
  ∀ (m : (ℓ : Loc Cert.AdamKernelIdeal.nD Cert.AdamKernelIdeal.τ Cert.AdamKernelIdeal.sig) → Buf (Elt Ideal) ℓ) (g : Dev Cert.AdamKernelIdeal.nD → PrngReg), Pre_AdamKernelIdeal m →
    θ_run (Cert.AdamKernelIdeal.defs (F := Ideal)) (onTc (τ := Cert.AdamKernelIdeal.τ) (Cert.AdamKernelIdeal.main (F := Ideal))) ⟨m, fun _ => 0, g⟩ (fun r => (∀ c : Dev Cert.AdamKernelIdeal.nD,
      r.2.mem ((c.tc : Thread Cert.AdamKernelIdeal.nD Cert.AdamKernelIdeal.τ).loc Cert.AdamKernelIdeal.main_arg0) = m ((c.tc : Thread Cert.AdamKernelIdeal.nD Cert.AdamKernelIdeal.τ).loc Cert.AdamKernelIdeal.main_arg0)
      ∧ r.2.mem ((c.tc : Thread Cert.AdamKernelIdeal.nD Cert.AdamKernelIdeal.τ).loc Cert.AdamKernelIdeal.main_arg1) = m ((c.tc : Thread Cert.AdamKernelIdeal.nD Cert.AdamKernelIdeal.τ).loc Cert.AdamKernelIdeal.main_arg1)
      ∧ r.2.mem ((c.tc : Thread Cert.AdamKernelIdeal.nD Cert.AdamKernelIdeal.τ).loc Cert.AdamKernelIdeal.main_arg2) = m ((c.tc : Thread Cert.AdamKernelIdeal.nD Cert.AdamKernelIdeal.τ).loc Cert.AdamKernelIdeal.main_arg2)
      ∧ r.2.mem ((c.tc : Thread Cert.AdamKernelIdeal.nD Cert.AdamKernelIdeal.τ).loc Cert.AdamKernelIdeal.main_arg3) = m ((c.tc : Thread Cert.AdamKernelIdeal.nD Cert.AdamKernelIdeal.τ).loc Cert.AdamKernelIdeal.main_arg3))
      ∧ r.2.sem = fun _ => 0)

def quiescent_AdamReferenceIdeal [hAdamReferenceIdeal : Cert.AdamReferenceIdeal.Facts] : Prop :=
  ∀ (m : (ℓ : Loc Cert.AdamReferenceIdeal.nD Cert.AdamReferenceIdeal.τ Cert.AdamReferenceIdeal.sig) → Buf (Elt Ideal) ℓ) (g : Dev Cert.AdamReferenceIdeal.nD → PrngReg), Pre_AdamReferenceIdeal m →
    θ_run (Cert.AdamReferenceIdeal.defs (F := Ideal)) (onTc (τ := Cert.AdamReferenceIdeal.τ) (Cert.AdamReferenceIdeal.main (F := Ideal))) ⟨m, fun _ => 0, g⟩ (fun r => (∀ c : Dev Cert.AdamReferenceIdeal.nD,
      r.2.mem ((c.tc : Thread Cert.AdamReferenceIdeal.nD Cert.AdamReferenceIdeal.τ).loc Cert.AdamReferenceIdeal.main_arg0) = m ((c.tc : Thread Cert.AdamReferenceIdeal.nD Cert.AdamReferenceIdeal.τ).loc Cert.AdamReferenceIdeal.main_arg0)
      ∧ r.2.mem ((c.tc : Thread Cert.AdamReferenceIdeal.nD Cert.AdamReferenceIdeal.τ).loc Cert.AdamReferenceIdeal.main_arg1) = m ((c.tc : Thread Cert.AdamReferenceIdeal.nD Cert.AdamReferenceIdeal.τ).loc Cert.AdamReferenceIdeal.main_arg1)
      ∧ r.2.mem ((c.tc : Thread Cert.AdamReferenceIdeal.nD Cert.AdamReferenceIdeal.τ).loc Cert.AdamReferenceIdeal.main_arg2) = m ((c.tc : Thread Cert.AdamReferenceIdeal.nD Cert.AdamReferenceIdeal.τ).loc Cert.AdamReferenceIdeal.main_arg2)
      ∧ r.2.mem ((c.tc : Thread Cert.AdamReferenceIdeal.nD Cert.AdamReferenceIdeal.τ).loc Cert.AdamReferenceIdeal.main_arg3) = m ((c.tc : Thread Cert.AdamReferenceIdeal.nD Cert.AdamReferenceIdeal.τ).loc Cert.AdamReferenceIdeal.main_arg3))
      ∧ r.2.sem = fun _ => 0)

def quiescent_ChipKernel [hChipKernel : Cert.ChipKernel.Facts] [hPre_chip_core : Cert.Pre_chip_core.Facts] : Prop :=
  ∀ (m : (ℓ : Loc Cert.ChipKernel.nD Cert.ChipKernel.τ Cert.ChipKernel.sig) → Buf (Elt Bits) ℓ) (g : Dev Cert.ChipKernel.nD → PrngReg), Pre_ChipKernel m →
    θ_run (Cert.ChipKernel.defs (F := Bits)) (onTc (τ := Cert.ChipKernel.τ) (Cert.ChipKernel.main (F := Bits))) ⟨m, fun _ => 0, g⟩ (fun r => (∀ c : Dev Cert.ChipKernel.nD,
      r.2.mem ((c.tc : Thread Cert.ChipKernel.nD Cert.ChipKernel.τ).loc Cert.ChipKernel.main_arg0) = m ((c.tc : Thread Cert.ChipKernel.nD Cert.ChipKernel.τ).loc Cert.ChipKernel.main_arg0)
      ∧ r.2.mem ((c.tc : Thread Cert.ChipKernel.nD Cert.ChipKernel.τ).loc Cert.ChipKernel.main_arg1) = m ((c.tc : Thread Cert.ChipKernel.nD Cert.ChipKernel.τ).loc Cert.ChipKernel.main_arg1)
      ∧ r.2.mem ((c.tc : Thread Cert.ChipKernel.nD Cert.ChipKernel.τ).loc Cert.ChipKernel.main_arg2) = m ((c.tc : Thread Cert.ChipKernel.nD Cert.ChipKernel.τ).loc Cert.ChipKernel.main_arg2))
      ∧ r.2.sem = fun _ => 0)

def quiescent_ChipKernelIdeal [hChipKernelIdeal : Cert.ChipKernelIdeal.Facts] [hPre_chip_core : Cert.Pre_chip_core.Facts] : Prop :=
  ∀ (m : (ℓ : Loc Cert.ChipKernelIdeal.nD Cert.ChipKernelIdeal.τ Cert.ChipKernelIdeal.sig) → Buf (Elt Ideal) ℓ) (g : Dev Cert.ChipKernelIdeal.nD → PrngReg), Pre_ChipKernelIdeal m →
    θ_run (Cert.ChipKernelIdeal.defs (F := Ideal)) (onTc (τ := Cert.ChipKernelIdeal.τ) (Cert.ChipKernelIdeal.main (F := Ideal))) ⟨m, fun _ => 0, g⟩ (fun r => (∀ c : Dev Cert.ChipKernelIdeal.nD,
      r.2.mem ((c.tc : Thread Cert.ChipKernelIdeal.nD Cert.ChipKernelIdeal.τ).loc Cert.ChipKernelIdeal.main_arg0) = m ((c.tc : Thread Cert.ChipKernelIdeal.nD Cert.ChipKernelIdeal.τ).loc Cert.ChipKernelIdeal.main_arg0)
      ∧ r.2.mem ((c.tc : Thread Cert.ChipKernelIdeal.nD Cert.ChipKernelIdeal.τ).loc Cert.ChipKernelIdeal.main_arg1) = m ((c.tc : Thread Cert.ChipKernelIdeal.nD Cert.ChipKernelIdeal.τ).loc Cert.ChipKernelIdeal.main_arg1)
      ∧ r.2.mem ((c.tc : Thread Cert.ChipKernelIdeal.nD Cert.ChipKernelIdeal.τ).loc Cert.ChipKernelIdeal.main_arg2) = m ((c.tc : Thread Cert.ChipKernelIdeal.nD Cert.ChipKernelIdeal.τ).loc Cert.ChipKernelIdeal.main_arg2))
      ∧ r.2.sem = fun _ => 0)

def quiescent_ChipReferenceIdeal [hChipReferenceIdeal : Cert.ChipReferenceIdeal.Facts] [hPre_chip_core : Cert.Pre_chip_core.Facts] : Prop :=
  ∀ (m : (ℓ : Loc Cert.ChipReferenceIdeal.nD Cert.ChipReferenceIdeal.τ Cert.ChipReferenceIdeal.sig) → Buf (Elt Ideal) ℓ) (g : Dev Cert.ChipReferenceIdeal.nD → PrngReg), Pre_ChipReferenceIdeal m →
    θ_run (Cert.ChipReferenceIdeal.defs (F := Ideal)) (onTc (τ := Cert.ChipReferenceIdeal.τ) (Cert.ChipReferenceIdeal.main (F := Ideal))) ⟨m, fun _ => 0, g⟩ (fun r => (∀ c : Dev Cert.ChipReferenceIdeal.nD,
      r.2.mem ((c.tc : Thread Cert.ChipReferenceIdeal.nD Cert.ChipReferenceIdeal.τ).loc Cert.ChipReferenceIdeal.main_arg0) = m ((c.tc : Thread Cert.ChipReferenceIdeal.nD Cert.ChipReferenceIdeal.τ).loc Cert.ChipReferenceIdeal.main_arg0)
      ∧ r.2.mem ((c.tc : Thread Cert.ChipReferenceIdeal.nD Cert.ChipReferenceIdeal.τ).loc Cert.ChipReferenceIdeal.main_arg1) = m ((c.tc : Thread Cert.ChipReferenceIdeal.nD Cert.ChipReferenceIdeal.τ).loc Cert.ChipReferenceIdeal.main_arg1)
      ∧ r.2.mem ((c.tc : Thread Cert.ChipReferenceIdeal.nD Cert.ChipReferenceIdeal.τ).loc Cert.ChipReferenceIdeal.main_arg2) = m ((c.tc : Thread Cert.ChipReferenceIdeal.nD Cert.ChipReferenceIdeal.τ).loc Cert.ChipReferenceIdeal.main_arg2))
      ∧ r.2.sem = fun _ => 0)

def quiescent_UpdKernel [hUpdKernel : Cert.UpdKernel.Facts] [hPre_upd_chip : Cert.Pre_upd_chip.Facts] : Prop :=
  ∀ (m : (ℓ : Loc Cert.UpdKernel.nD Cert.UpdKernel.τ Cert.UpdKernel.sig) → Buf (Elt Bits) ℓ) (g : Dev Cert.UpdKernel.nD → PrngReg), Pre_UpdKernel m →
    θ_run (Cert.UpdKernel.defs (F := Bits)) (onTc (τ := Cert.UpdKernel.τ) (Cert.UpdKernel.main (F := Bits))) ⟨m, fun _ => 0, g⟩ (fun r => (∀ c : Dev Cert.UpdKernel.nD,
      r.2.mem ((c.tc : Thread Cert.UpdKernel.nD Cert.UpdKernel.τ).loc Cert.UpdKernel.main_arg0) = m ((c.tc : Thread Cert.UpdKernel.nD Cert.UpdKernel.τ).loc Cert.UpdKernel.main_arg0)
      ∧ r.2.mem ((c.tc : Thread Cert.UpdKernel.nD Cert.UpdKernel.τ).loc Cert.UpdKernel.main_arg1) = m ((c.tc : Thread Cert.UpdKernel.nD Cert.UpdKernel.τ).loc Cert.UpdKernel.main_arg1)
      ∧ r.2.mem ((c.tc : Thread Cert.UpdKernel.nD Cert.UpdKernel.τ).loc Cert.UpdKernel.main_arg2) = m ((c.tc : Thread Cert.UpdKernel.nD Cert.UpdKernel.τ).loc Cert.UpdKernel.main_arg2)
      ∧ r.2.mem ((c.tc : Thread Cert.UpdKernel.nD Cert.UpdKernel.τ).loc Cert.UpdKernel.main_arg3) = m ((c.tc : Thread Cert.UpdKernel.nD Cert.UpdKernel.τ).loc Cert.UpdKernel.main_arg3)
      ∧ r.2.mem ((c.tc : Thread Cert.UpdKernel.nD Cert.UpdKernel.τ).loc Cert.UpdKernel.main_arg4) = m ((c.tc : Thread Cert.UpdKernel.nD Cert.UpdKernel.τ).loc Cert.UpdKernel.main_arg4)
      ∧ r.2.mem ((c.tc : Thread Cert.UpdKernel.nD Cert.UpdKernel.τ).loc Cert.UpdKernel.main_arg5) = m ((c.tc : Thread Cert.UpdKernel.nD Cert.UpdKernel.τ).loc Cert.UpdKernel.main_arg5))
      ∧ r.2.sem = fun _ => 0)

def quiescent_UpdKernelIdeal [hUpdKernelIdeal : Cert.UpdKernelIdeal.Facts] [hPre_upd_chip : Cert.Pre_upd_chip.Facts] : Prop :=
  ∀ (m : (ℓ : Loc Cert.UpdKernelIdeal.nD Cert.UpdKernelIdeal.τ Cert.UpdKernelIdeal.sig) → Buf (Elt Ideal) ℓ) (g : Dev Cert.UpdKernelIdeal.nD → PrngReg), Pre_UpdKernelIdeal m →
    θ_run (Cert.UpdKernelIdeal.defs (F := Ideal)) (onTc (τ := Cert.UpdKernelIdeal.τ) (Cert.UpdKernelIdeal.main (F := Ideal))) ⟨m, fun _ => 0, g⟩ (fun r => (∀ c : Dev Cert.UpdKernelIdeal.nD,
      r.2.mem ((c.tc : Thread Cert.UpdKernelIdeal.nD Cert.UpdKernelIdeal.τ).loc Cert.UpdKernelIdeal.main_arg0) = m ((c.tc : Thread Cert.UpdKernelIdeal.nD Cert.UpdKernelIdeal.τ).loc Cert.UpdKernelIdeal.main_arg0)
      ∧ r.2.mem ((c.tc : Thread Cert.UpdKernelIdeal.nD Cert.UpdKernelIdeal.τ).loc Cert.UpdKernelIdeal.main_arg1) = m ((c.tc : Thread Cert.UpdKernelIdeal.nD Cert.UpdKernelIdeal.τ).loc Cert.UpdKernelIdeal.main_arg1)
      ∧ r.2.mem ((c.tc : Thread Cert.UpdKernelIdeal.nD Cert.UpdKernelIdeal.τ).loc Cert.UpdKernelIdeal.main_arg2) = m ((c.tc : Thread Cert.UpdKernelIdeal.nD Cert.UpdKernelIdeal.τ).loc Cert.UpdKernelIdeal.main_arg2)
      ∧ r.2.mem ((c.tc : Thread Cert.UpdKernelIdeal.nD Cert.UpdKernelIdeal.τ).loc Cert.UpdKernelIdeal.main_arg3) = m ((c.tc : Thread Cert.UpdKernelIdeal.nD Cert.UpdKernelIdeal.τ).loc Cert.UpdKernelIdeal.main_arg3)
      ∧ r.2.mem ((c.tc : Thread Cert.UpdKernelIdeal.nD Cert.UpdKernelIdeal.τ).loc Cert.UpdKernelIdeal.main_arg4) = m ((c.tc : Thread Cert.UpdKernelIdeal.nD Cert.UpdKernelIdeal.τ).loc Cert.UpdKernelIdeal.main_arg4)
      ∧ r.2.mem ((c.tc : Thread Cert.UpdKernelIdeal.nD Cert.UpdKernelIdeal.τ).loc Cert.UpdKernelIdeal.main_arg5) = m ((c.tc : Thread Cert.UpdKernelIdeal.nD Cert.UpdKernelIdeal.τ).loc Cert.UpdKernelIdeal.main_arg5))
      ∧ r.2.sem = fun _ => 0)

def quiescent_UpdReferenceIdeal [hUpdReferenceIdeal : Cert.UpdReferenceIdeal.Facts] [hPre_upd_chip : Cert.Pre_upd_chip.Facts] : Prop :=
  ∀ (m : (ℓ : Loc Cert.UpdReferenceIdeal.nD Cert.UpdReferenceIdeal.τ Cert.UpdReferenceIdeal.sig) → Buf (Elt Ideal) ℓ) (g : Dev Cert.UpdReferenceIdeal.nD → PrngReg), Pre_UpdReferenceIdeal m →
    θ_run (Cert.UpdReferenceIdeal.defs (F := Ideal)) (onTc (τ := Cert.UpdReferenceIdeal.τ) (Cert.UpdReferenceIdeal.main (F := Ideal))) ⟨m, fun _ => 0, g⟩ (fun r => (∀ c : Dev Cert.UpdReferenceIdeal.nD,
      r.2.mem ((c.tc : Thread Cert.UpdReferenceIdeal.nD Cert.UpdReferenceIdeal.τ).loc Cert.UpdReferenceIdeal.main_arg0) = m ((c.tc : Thread Cert.UpdReferenceIdeal.nD Cert.UpdReferenceIdeal.τ).loc Cert.UpdReferenceIdeal.main_arg0)
      ∧ r.2.mem ((c.tc : Thread Cert.UpdReferenceIdeal.nD Cert.UpdReferenceIdeal.τ).loc Cert.UpdReferenceIdeal.main_arg1) = m ((c.tc : Thread Cert.UpdReferenceIdeal.nD Cert.UpdReferenceIdeal.τ).loc Cert.UpdReferenceIdeal.main_arg1)
      ∧ r.2.mem ((c.tc : Thread Cert.UpdReferenceIdeal.nD Cert.UpdReferenceIdeal.τ).loc Cert.UpdReferenceIdeal.main_arg2) = m ((c.tc : Thread Cert.UpdReferenceIdeal.nD Cert.UpdReferenceIdeal.τ).loc Cert.UpdReferenceIdeal.main_arg2)
      ∧ r.2.mem ((c.tc : Thread Cert.UpdReferenceIdeal.nD Cert.UpdReferenceIdeal.τ).loc Cert.UpdReferenceIdeal.main_arg3) = m ((c.tc : Thread Cert.UpdReferenceIdeal.nD Cert.UpdReferenceIdeal.τ).loc Cert.UpdReferenceIdeal.main_arg3)
      ∧ r.2.mem ((c.tc : Thread Cert.UpdReferenceIdeal.nD Cert.UpdReferenceIdeal.τ).loc Cert.UpdReferenceIdeal.main_arg4) = m ((c.tc : Thread Cert.UpdReferenceIdeal.nD Cert.UpdReferenceIdeal.τ).loc Cert.UpdReferenceIdeal.main_arg4)
      ∧ r.2.mem ((c.tc : Thread Cert.UpdReferenceIdeal.nD Cert.UpdReferenceIdeal.τ).loc Cert.UpdReferenceIdeal.main_arg5) = m ((c.tc : Thread Cert.UpdReferenceIdeal.nD Cert.UpdReferenceIdeal.τ).loc Cert.UpdReferenceIdeal.main_arg5))
      ∧ r.2.sem = fun _ => 0)

def preserves_LossKernel_LossKernelIdeal : Prop :=
  True

def algebraic_LossKernelIdeal_LossReferenceIdeal [hLossKernelIdeal : Cert.LossKernelIdeal.Facts] [hLossReferenceIdeal : Cert.LossReferenceIdeal.Facts] : Prop :=
  ∀ (m : (ℓ : Loc Cert.LossKernelIdeal.nD Cert.LossKernelIdeal.τ Cert.LossKernelIdeal.sig) → Buf (Elt Ideal) ℓ) (g : Dev Cert.LossKernelIdeal.nD → PrngReg)
    (m' : (ℓ : Loc Cert.LossReferenceIdeal.nD Cert.LossReferenceIdeal.τ Cert.LossReferenceIdeal.sig) → Buf (Elt Ideal) ℓ) (g' : Dev Cert.LossReferenceIdeal.nD → PrngReg), Pre_LossKernelIdeal m →
    (∀ c : Dev Cert.LossKernelIdeal.nD,
      m' ((c.tc : Thread Cert.LossReferenceIdeal.nD Cert.LossReferenceIdeal.τ).loc Cert.LossReferenceIdeal.main_arg0) = m ((c.tc : Thread Cert.LossKernelIdeal.nD Cert.LossKernelIdeal.τ).loc Cert.LossKernelIdeal.main_arg0)
      ∧ m' ((c.tc : Thread Cert.LossReferenceIdeal.nD Cert.LossReferenceIdeal.τ).loc Cert.LossReferenceIdeal.main_arg1) = m ((c.tc : Thread Cert.LossKernelIdeal.nD Cert.LossKernelIdeal.τ).loc Cert.LossKernelIdeal.main_arg1)) →
    ∃ (v0 : (c : Dev Cert.LossKernelIdeal.nD) → Buf (Elt Ideal) ((c.tc : Thread Cert.LossKernelIdeal.nD Cert.LossKernelIdeal.τ).loc Cert.LossKernelIdeal.main_v0_0)) (v1 : (c : Dev Cert.LossKernelIdeal.nD) → Buf (Elt Ideal) ((c.tc : Thread Cert.LossKernelIdeal.nD Cert.LossKernelIdeal.τ).loc Cert.LossKernelIdeal.main_v0_1)) (v2 : (c : Dev Cert.LossKernelIdeal.nD) → Buf (Elt Ideal) ((c.tc : Thread Cert.LossKernelIdeal.nD Cert.LossKernelIdeal.τ).loc Cert.LossKernelIdeal.main_v4)),
      θ_run (Cert.LossKernelIdeal.defs (F := Ideal)) (onTc (τ := Cert.LossKernelIdeal.τ) (Cert.LossKernelIdeal.main (F := Ideal))) ⟨m, fun _ => 0, g⟩ (fun r => ∀ c : Dev Cert.LossKernelIdeal.nD,
          r.2.mem ((c.tc : Thread Cert.LossKernelIdeal.nD Cert.LossKernelIdeal.τ).loc Cert.LossKernelIdeal.main_v0_0) = v0 c
          ∧ r.2.mem ((c.tc : Thread Cert.LossKernelIdeal.nD Cert.LossKernelIdeal.τ).loc Cert.LossKernelIdeal.main_v0_1) = v1 c
          ∧ r.2.mem ((c.tc : Thread Cert.LossKernelIdeal.nD Cert.LossKernelIdeal.τ).loc Cert.LossKernelIdeal.main_v4) = v2 c
          ∧ r.2.mem ((c.tc : Thread Cert.LossKernelIdeal.nD Cert.LossKernelIdeal.τ).loc Cert.LossKernelIdeal.main_arg0) = m ((c.tc : Thread Cert.LossKernelIdeal.nD Cert.LossKernelIdeal.τ).loc Cert.LossKernelIdeal.main_arg0)
          ∧ r.2.mem ((c.tc : Thread Cert.LossKernelIdeal.nD Cert.LossKernelIdeal.τ).loc Cert.LossKernelIdeal.main_arg1) = m ((c.tc : Thread Cert.LossKernelIdeal.nD Cert.LossKernelIdeal.τ).loc Cert.LossKernelIdeal.main_arg1))
      ∧ θ_run (Cert.LossReferenceIdeal.defs (F := Ideal)) (onTc (τ := Cert.LossReferenceIdeal.τ) (Cert.LossReferenceIdeal.main (F := Ideal))) ⟨m', fun _ => 0, g'⟩ (fun r => ∀ c : Dev Cert.LossReferenceIdeal.nD,
          r.2.mem ((c.tc : Thread Cert.LossReferenceIdeal.nD Cert.LossReferenceIdeal.τ).loc Cert.LossReferenceIdeal.main_v14) = v0 c
          ∧ r.2.mem ((c.tc : Thread Cert.LossReferenceIdeal.nD Cert.LossReferenceIdeal.τ).loc Cert.LossReferenceIdeal.main_v15) = v1 c
          ∧ r.2.mem ((c.tc : Thread Cert.LossReferenceIdeal.nD Cert.LossReferenceIdeal.τ).loc Cert.LossReferenceIdeal.main_v16) = v2 c
          ∧ r.2.mem ((c.tc : Thread Cert.LossReferenceIdeal.nD Cert.LossReferenceIdeal.τ).loc Cert.LossReferenceIdeal.main_arg0) = m' ((c.tc : Thread Cert.LossReferenceIdeal.nD Cert.LossReferenceIdeal.τ).loc Cert.LossReferenceIdeal.main_arg0)
          ∧ r.2.mem ((c.tc : Thread Cert.LossReferenceIdeal.nD Cert.LossReferenceIdeal.τ).loc Cert.LossReferenceIdeal.main_arg1) = m' ((c.tc : Thread Cert.LossReferenceIdeal.nD Cert.LossReferenceIdeal.τ).loc Cert.LossReferenceIdeal.main_arg1))

def preserves_NormKernel_NormKernelIdeal : Prop :=
  True

def algebraic_NormKernelIdeal_NormReferenceIdeal [hNormKernelIdeal : Cert.NormKernelIdeal.Facts] [hNormReferenceIdeal : Cert.NormReferenceIdeal.Facts] : Prop :=
  ∀ (m : (ℓ : Loc Cert.NormKernelIdeal.nD Cert.NormKernelIdeal.τ Cert.NormKernelIdeal.sig) → Buf (Elt Ideal) ℓ) (g : Dev Cert.NormKernelIdeal.nD → PrngReg)
    (m' : (ℓ : Loc Cert.NormReferenceIdeal.nD Cert.NormReferenceIdeal.τ Cert.NormReferenceIdeal.sig) → Buf (Elt Ideal) ℓ) (g' : Dev Cert.NormReferenceIdeal.nD → PrngReg), Pre_NormKernelIdeal m →
    (∀ c : Dev Cert.NormKernelIdeal.nD,
      m' ((c.tc : Thread Cert.NormReferenceIdeal.nD Cert.NormReferenceIdeal.τ).loc Cert.NormReferenceIdeal.main_arg0) = m ((c.tc : Thread Cert.NormKernelIdeal.nD Cert.NormKernelIdeal.τ).loc Cert.NormKernelIdeal.main_arg0)
      ∧ m' ((c.tc : Thread Cert.NormReferenceIdeal.nD Cert.NormReferenceIdeal.τ).loc Cert.NormReferenceIdeal.main_arg1) = m ((c.tc : Thread Cert.NormKernelIdeal.nD Cert.NormKernelIdeal.τ).loc Cert.NormKernelIdeal.main_arg1)
      ∧ m' ((c.tc : Thread Cert.NormReferenceIdeal.nD Cert.NormReferenceIdeal.τ).loc Cert.NormReferenceIdeal.main_arg2) = m ((c.tc : Thread Cert.NormKernelIdeal.nD Cert.NormKernelIdeal.τ).loc Cert.NormKernelIdeal.main_arg2)
      ∧ m' ((c.tc : Thread Cert.NormReferenceIdeal.nD Cert.NormReferenceIdeal.τ).loc Cert.NormReferenceIdeal.main_arg3) = m ((c.tc : Thread Cert.NormKernelIdeal.nD Cert.NormKernelIdeal.τ).loc Cert.NormKernelIdeal.main_arg3)) →
    ∃ (v0 : (c : Dev Cert.NormKernelIdeal.nD) → Buf (Elt Ideal) ((c.tc : Thread Cert.NormKernelIdeal.nD Cert.NormKernelIdeal.τ).loc Cert.NormKernelIdeal.main_v0_0)) (v1 : (c : Dev Cert.NormKernelIdeal.nD) → Buf (Elt Ideal) ((c.tc : Thread Cert.NormKernelIdeal.nD Cert.NormKernelIdeal.τ).loc Cert.NormKernelIdeal.main_v0_1)) (v2 : (c : Dev Cert.NormKernelIdeal.nD) → Buf (Elt Ideal) ((c.tc : Thread Cert.NormKernelIdeal.nD Cert.NormKernelIdeal.τ).loc Cert.NormKernelIdeal.main_v0_2)),
      θ_run (Cert.NormKernelIdeal.defs (F := Ideal)) (onTc (τ := Cert.NormKernelIdeal.τ) (Cert.NormKernelIdeal.main (F := Ideal))) ⟨m, fun _ => 0, g⟩ (fun r => ∀ c : Dev Cert.NormKernelIdeal.nD,
          r.2.mem ((c.tc : Thread Cert.NormKernelIdeal.nD Cert.NormKernelIdeal.τ).loc Cert.NormKernelIdeal.main_v0_0) = v0 c
          ∧ r.2.mem ((c.tc : Thread Cert.NormKernelIdeal.nD Cert.NormKernelIdeal.τ).loc Cert.NormKernelIdeal.main_v0_1) = v1 c
          ∧ r.2.mem ((c.tc : Thread Cert.NormKernelIdeal.nD Cert.NormKernelIdeal.τ).loc Cert.NormKernelIdeal.main_v0_2) = v2 c
          ∧ r.2.mem ((c.tc : Thread Cert.NormKernelIdeal.nD Cert.NormKernelIdeal.τ).loc Cert.NormKernelIdeal.main_arg0) = m ((c.tc : Thread Cert.NormKernelIdeal.nD Cert.NormKernelIdeal.τ).loc Cert.NormKernelIdeal.main_arg0)
          ∧ r.2.mem ((c.tc : Thread Cert.NormKernelIdeal.nD Cert.NormKernelIdeal.τ).loc Cert.NormKernelIdeal.main_arg1) = m ((c.tc : Thread Cert.NormKernelIdeal.nD Cert.NormKernelIdeal.τ).loc Cert.NormKernelIdeal.main_arg1)
          ∧ r.2.mem ((c.tc : Thread Cert.NormKernelIdeal.nD Cert.NormKernelIdeal.τ).loc Cert.NormKernelIdeal.main_arg2) = m ((c.tc : Thread Cert.NormKernelIdeal.nD Cert.NormKernelIdeal.τ).loc Cert.NormKernelIdeal.main_arg2)
          ∧ r.2.mem ((c.tc : Thread Cert.NormKernelIdeal.nD Cert.NormKernelIdeal.τ).loc Cert.NormKernelIdeal.main_arg3) = m ((c.tc : Thread Cert.NormKernelIdeal.nD Cert.NormKernelIdeal.τ).loc Cert.NormKernelIdeal.main_arg3))
      ∧ θ_run (Cert.NormReferenceIdeal.defs (F := Ideal)) (onTc (τ := Cert.NormReferenceIdeal.τ) (Cert.NormReferenceIdeal.main (F := Ideal))) ⟨m', fun _ => 0, g'⟩ (fun r => ∀ c : Dev Cert.NormReferenceIdeal.nD,
          r.2.mem ((c.tc : Thread Cert.NormReferenceIdeal.nD Cert.NormReferenceIdeal.τ).loc Cert.NormReferenceIdeal.main_v34) = v0 c
          ∧ r.2.mem ((c.tc : Thread Cert.NormReferenceIdeal.nD Cert.NormReferenceIdeal.τ).loc Cert.NormReferenceIdeal.main_v35) = v1 c
          ∧ r.2.mem ((c.tc : Thread Cert.NormReferenceIdeal.nD Cert.NormReferenceIdeal.τ).loc Cert.NormReferenceIdeal.main_v17) = v2 c
          ∧ r.2.mem ((c.tc : Thread Cert.NormReferenceIdeal.nD Cert.NormReferenceIdeal.τ).loc Cert.NormReferenceIdeal.main_arg0) = m' ((c.tc : Thread Cert.NormReferenceIdeal.nD Cert.NormReferenceIdeal.τ).loc Cert.NormReferenceIdeal.main_arg0)
          ∧ r.2.mem ((c.tc : Thread Cert.NormReferenceIdeal.nD Cert.NormReferenceIdeal.τ).loc Cert.NormReferenceIdeal.main_arg1) = m' ((c.tc : Thread Cert.NormReferenceIdeal.nD Cert.NormReferenceIdeal.τ).loc Cert.NormReferenceIdeal.main_arg1)
          ∧ r.2.mem ((c.tc : Thread Cert.NormReferenceIdeal.nD Cert.NormReferenceIdeal.τ).loc Cert.NormReferenceIdeal.main_arg2) = m' ((c.tc : Thread Cert.NormReferenceIdeal.nD Cert.NormReferenceIdeal.τ).loc Cert.NormReferenceIdeal.main_arg2)
          ∧ r.2.mem ((c.tc : Thread Cert.NormReferenceIdeal.nD Cert.NormReferenceIdeal.τ).loc Cert.NormReferenceIdeal.main_arg3) = m' ((c.tc : Thread Cert.NormReferenceIdeal.nD Cert.NormReferenceIdeal.τ).loc Cert.NormReferenceIdeal.main_arg3))

def preserves_RmsKernel_RmsKernelIdeal : Prop :=
  True

def algebraic_RmsKernelIdeal_RmsReferenceIdeal [hRmsKernelIdeal : Cert.RmsKernelIdeal.Facts] [hRmsReferenceIdeal : Cert.RmsReferenceIdeal.Facts] : Prop :=
  ∀ (m : (ℓ : Loc Cert.RmsKernelIdeal.nD Cert.RmsKernelIdeal.τ Cert.RmsKernelIdeal.sig) → Buf (Elt Ideal) ℓ) (g : Dev Cert.RmsKernelIdeal.nD → PrngReg)
    (m' : (ℓ : Loc Cert.RmsReferenceIdeal.nD Cert.RmsReferenceIdeal.τ Cert.RmsReferenceIdeal.sig) → Buf (Elt Ideal) ℓ) (g' : Dev Cert.RmsReferenceIdeal.nD → PrngReg), Pre_RmsKernelIdeal m →
    (∀ c : Dev Cert.RmsKernelIdeal.nD,
      m' ((c.tc : Thread Cert.RmsReferenceIdeal.nD Cert.RmsReferenceIdeal.τ).loc Cert.RmsReferenceIdeal.main_arg0) = m ((c.tc : Thread Cert.RmsKernelIdeal.nD Cert.RmsKernelIdeal.τ).loc Cert.RmsKernelIdeal.main_arg0)
      ∧ m' ((c.tc : Thread Cert.RmsReferenceIdeal.nD Cert.RmsReferenceIdeal.τ).loc Cert.RmsReferenceIdeal.main_arg1) = m ((c.tc : Thread Cert.RmsKernelIdeal.nD Cert.RmsKernelIdeal.τ).loc Cert.RmsKernelIdeal.main_arg1)) →
    ∃ (v0 : (c : Dev Cert.RmsKernelIdeal.nD) → Buf (Elt Ideal) ((c.tc : Thread Cert.RmsKernelIdeal.nD Cert.RmsKernelIdeal.τ).loc Cert.RmsKernelIdeal.main_v0)),
      θ_run (Cert.RmsKernelIdeal.defs (F := Ideal)) (onTc (τ := Cert.RmsKernelIdeal.τ) (Cert.RmsKernelIdeal.main (F := Ideal))) ⟨m, fun _ => 0, g⟩ (fun r => ∀ c : Dev Cert.RmsKernelIdeal.nD,
          r.2.mem ((c.tc : Thread Cert.RmsKernelIdeal.nD Cert.RmsKernelIdeal.τ).loc Cert.RmsKernelIdeal.main_v0) = v0 c
          ∧ r.2.mem ((c.tc : Thread Cert.RmsKernelIdeal.nD Cert.RmsKernelIdeal.τ).loc Cert.RmsKernelIdeal.main_arg0) = m ((c.tc : Thread Cert.RmsKernelIdeal.nD Cert.RmsKernelIdeal.τ).loc Cert.RmsKernelIdeal.main_arg0)
          ∧ r.2.mem ((c.tc : Thread Cert.RmsKernelIdeal.nD Cert.RmsKernelIdeal.τ).loc Cert.RmsKernelIdeal.main_arg1) = m ((c.tc : Thread Cert.RmsKernelIdeal.nD Cert.RmsKernelIdeal.τ).loc Cert.RmsKernelIdeal.main_arg1))
      ∧ θ_run (Cert.RmsReferenceIdeal.defs (F := Ideal)) (onTc (τ := Cert.RmsReferenceIdeal.τ) (Cert.RmsReferenceIdeal.main (F := Ideal))) ⟨m', fun _ => 0, g'⟩ (fun r => ∀ c : Dev Cert.RmsReferenceIdeal.nD,
          r.2.mem ((c.tc : Thread Cert.RmsReferenceIdeal.nD Cert.RmsReferenceIdeal.τ).loc Cert.RmsReferenceIdeal.main_v12) = v0 c
          ∧ r.2.mem ((c.tc : Thread Cert.RmsReferenceIdeal.nD Cert.RmsReferenceIdeal.τ).loc Cert.RmsReferenceIdeal.main_arg0) = m' ((c.tc : Thread Cert.RmsReferenceIdeal.nD Cert.RmsReferenceIdeal.τ).loc Cert.RmsReferenceIdeal.main_arg0)
          ∧ r.2.mem ((c.tc : Thread Cert.RmsReferenceIdeal.nD Cert.RmsReferenceIdeal.τ).loc Cert.RmsReferenceIdeal.main_arg1) = m' ((c.tc : Thread Cert.RmsReferenceIdeal.nD Cert.RmsReferenceIdeal.τ).loc Cert.RmsReferenceIdeal.main_arg1))

def preserves_GateKernel_GateKernelIdeal : Prop :=
  True

def algebraic_GateKernelIdeal_GateReferenceIdeal_pre_gate_finite [hGateKernelIdeal : Cert.GateKernelIdeal.Facts] [hGateReferenceIdeal : Cert.GateReferenceIdeal.Facts] [hPre_gate_finite : Cert.Pre_gate_finite.Facts] : Prop :=
  ∀ (m : (ℓ : Loc Cert.GateKernelIdeal.nD Cert.GateKernelIdeal.τ Cert.GateKernelIdeal.sig) → Buf (Elt Ideal) ℓ) (g : Dev Cert.GateKernelIdeal.nD → PrngReg)
    (m' : (ℓ : Loc Cert.GateReferenceIdeal.nD Cert.GateReferenceIdeal.τ Cert.GateReferenceIdeal.sig) → Buf (Elt Ideal) ℓ) (g' : Dev Cert.GateReferenceIdeal.nD → PrngReg), Pre_GateKernelIdeal_gate_finite m →
    (∀ c : Dev Cert.GateKernelIdeal.nD,
      m' ((c.tc : Thread Cert.GateReferenceIdeal.nD Cert.GateReferenceIdeal.τ).loc Cert.GateReferenceIdeal.main_arg0) = m ((c.tc : Thread Cert.GateKernelIdeal.nD Cert.GateKernelIdeal.τ).loc Cert.GateKernelIdeal.main_arg0)
      ∧ m' ((c.tc : Thread Cert.GateReferenceIdeal.nD Cert.GateReferenceIdeal.τ).loc Cert.GateReferenceIdeal.main_arg1) = m ((c.tc : Thread Cert.GateKernelIdeal.nD Cert.GateKernelIdeal.τ).loc Cert.GateKernelIdeal.main_arg1)
      ∧ m' ((c.tc : Thread Cert.GateReferenceIdeal.nD Cert.GateReferenceIdeal.τ).loc Cert.GateReferenceIdeal.main_arg2) = m ((c.tc : Thread Cert.GateKernelIdeal.nD Cert.GateKernelIdeal.τ).loc Cert.GateKernelIdeal.main_arg2)
      ∧ m' ((c.tc : Thread Cert.GateReferenceIdeal.nD Cert.GateReferenceIdeal.τ).loc Cert.GateReferenceIdeal.main_arg3) = m ((c.tc : Thread Cert.GateKernelIdeal.nD Cert.GateKernelIdeal.τ).loc Cert.GateKernelIdeal.main_arg3)
      ∧ m' ((c.tc : Thread Cert.GateReferenceIdeal.nD Cert.GateReferenceIdeal.τ).loc Cert.GateReferenceIdeal.main_arg4) = m ((c.tc : Thread Cert.GateKernelIdeal.nD Cert.GateKernelIdeal.τ).loc Cert.GateKernelIdeal.main_arg4)) →
    ∃ (v0 : (c : Dev Cert.GateKernelIdeal.nD) → Buf (Elt Ideal) ((c.tc : Thread Cert.GateKernelIdeal.nD Cert.GateKernelIdeal.τ).loc Cert.GateKernelIdeal.main_v11_0)) (v1 : (c : Dev Cert.GateKernelIdeal.nD) → Buf (Elt Ideal) ((c.tc : Thread Cert.GateKernelIdeal.nD Cert.GateKernelIdeal.τ).loc Cert.GateKernelIdeal.main_v11_1)) (v2 : (c : Dev Cert.GateKernelIdeal.nD) → Buf (Elt Ideal) ((c.tc : Thread Cert.GateKernelIdeal.nD Cert.GateKernelIdeal.τ).loc Cert.GateKernelIdeal.main_v7_2)),
      θ_run (Cert.GateKernelIdeal.defs (F := Ideal)) (onTc (τ := Cert.GateKernelIdeal.τ) (Cert.GateKernelIdeal.main (F := Ideal))) ⟨m, fun _ => 0, g⟩ (fun r => ∀ c : Dev Cert.GateKernelIdeal.nD,
          r.2.mem ((c.tc : Thread Cert.GateKernelIdeal.nD Cert.GateKernelIdeal.τ).loc Cert.GateKernelIdeal.main_v11_0) = v0 c
          ∧ r.2.mem ((c.tc : Thread Cert.GateKernelIdeal.nD Cert.GateKernelIdeal.τ).loc Cert.GateKernelIdeal.main_v11_1) = v1 c
          ∧ r.2.mem ((c.tc : Thread Cert.GateKernelIdeal.nD Cert.GateKernelIdeal.τ).loc Cert.GateKernelIdeal.main_v7_2) = v2 c
          ∧ r.2.mem ((c.tc : Thread Cert.GateKernelIdeal.nD Cert.GateKernelIdeal.τ).loc Cert.GateKernelIdeal.main_arg0) = m ((c.tc : Thread Cert.GateKernelIdeal.nD Cert.GateKernelIdeal.τ).loc Cert.GateKernelIdeal.main_arg0)
          ∧ r.2.mem ((c.tc : Thread Cert.GateKernelIdeal.nD Cert.GateKernelIdeal.τ).loc Cert.GateKernelIdeal.main_arg1) = m ((c.tc : Thread Cert.GateKernelIdeal.nD Cert.GateKernelIdeal.τ).loc Cert.GateKernelIdeal.main_arg1)
          ∧ r.2.mem ((c.tc : Thread Cert.GateKernelIdeal.nD Cert.GateKernelIdeal.τ).loc Cert.GateKernelIdeal.main_arg2) = m ((c.tc : Thread Cert.GateKernelIdeal.nD Cert.GateKernelIdeal.τ).loc Cert.GateKernelIdeal.main_arg2)
          ∧ r.2.mem ((c.tc : Thread Cert.GateKernelIdeal.nD Cert.GateKernelIdeal.τ).loc Cert.GateKernelIdeal.main_arg3) = m ((c.tc : Thread Cert.GateKernelIdeal.nD Cert.GateKernelIdeal.τ).loc Cert.GateKernelIdeal.main_arg3)
          ∧ r.2.mem ((c.tc : Thread Cert.GateKernelIdeal.nD Cert.GateKernelIdeal.τ).loc Cert.GateKernelIdeal.main_arg4) = m ((c.tc : Thread Cert.GateKernelIdeal.nD Cert.GateKernelIdeal.τ).loc Cert.GateKernelIdeal.main_arg4))
      ∧ θ_run (Cert.GateReferenceIdeal.defs (F := Ideal)) (onTc (τ := Cert.GateReferenceIdeal.τ) (Cert.GateReferenceIdeal.main (F := Ideal))) ⟨m', fun _ => 0, g'⟩ (fun r => ∀ c : Dev Cert.GateReferenceIdeal.nD,
          r.2.mem ((c.tc : Thread Cert.GateReferenceIdeal.nD Cert.GateReferenceIdeal.τ).loc Cert.GateReferenceIdeal.main_v11) = v0 c
          ∧ r.2.mem ((c.tc : Thread Cert.GateReferenceIdeal.nD Cert.GateReferenceIdeal.τ).loc Cert.GateReferenceIdeal.main_v14) = v1 c
          ∧ r.2.mem ((c.tc : Thread Cert.GateReferenceIdeal.nD Cert.GateReferenceIdeal.τ).loc Cert.GateReferenceIdeal.main_v17) = v2 c
          ∧ r.2.mem ((c.tc : Thread Cert.GateReferenceIdeal.nD Cert.GateReferenceIdeal.τ).loc Cert.GateReferenceIdeal.main_arg0) = m' ((c.tc : Thread Cert.GateReferenceIdeal.nD Cert.GateReferenceIdeal.τ).loc Cert.GateReferenceIdeal.main_arg0)
          ∧ r.2.mem ((c.tc : Thread Cert.GateReferenceIdeal.nD Cert.GateReferenceIdeal.τ).loc Cert.GateReferenceIdeal.main_arg1) = m' ((c.tc : Thread Cert.GateReferenceIdeal.nD Cert.GateReferenceIdeal.τ).loc Cert.GateReferenceIdeal.main_arg1)
          ∧ r.2.mem ((c.tc : Thread Cert.GateReferenceIdeal.nD Cert.GateReferenceIdeal.τ).loc Cert.GateReferenceIdeal.main_arg2) = m' ((c.tc : Thread Cert.GateReferenceIdeal.nD Cert.GateReferenceIdeal.τ).loc Cert.GateReferenceIdeal.main_arg2)
          ∧ r.2.mem ((c.tc : Thread Cert.GateReferenceIdeal.nD Cert.GateReferenceIdeal.τ).loc Cert.GateReferenceIdeal.main_arg3) = m' ((c.tc : Thread Cert.GateReferenceIdeal.nD Cert.GateReferenceIdeal.τ).loc Cert.GateReferenceIdeal.main_arg3)
          ∧ r.2.mem ((c.tc : Thread Cert.GateReferenceIdeal.nD Cert.GateReferenceIdeal.τ).loc Cert.GateReferenceIdeal.main_arg4) = m' ((c.tc : Thread Cert.GateReferenceIdeal.nD Cert.GateReferenceIdeal.τ).loc Cert.GateReferenceIdeal.main_arg4))

def preserves_ConvKernel_ConvKernelIdeal : Prop :=
  True

def algebraic_ConvKernelIdeal_ConvReferenceIdeal [hConvKernelIdeal : Cert.ConvKernelIdeal.Facts] [hConvReferenceIdeal : Cert.ConvReferenceIdeal.Facts] : Prop :=
  ∀ (m : (ℓ : Loc Cert.ConvKernelIdeal.nD Cert.ConvKernelIdeal.τ Cert.ConvKernelIdeal.sig) → Buf (Elt Ideal) ℓ) (g : Dev Cert.ConvKernelIdeal.nD → PrngReg)
    (m' : (ℓ : Loc Cert.ConvReferenceIdeal.nD Cert.ConvReferenceIdeal.τ Cert.ConvReferenceIdeal.sig) → Buf (Elt Ideal) ℓ) (g' : Dev Cert.ConvReferenceIdeal.nD → PrngReg), Pre_ConvKernelIdeal m →
    (∀ c : Dev Cert.ConvKernelIdeal.nD,
      m' ((c.tc : Thread Cert.ConvReferenceIdeal.nD Cert.ConvReferenceIdeal.τ).loc Cert.ConvReferenceIdeal.main_arg0) = m ((c.tc : Thread Cert.ConvKernelIdeal.nD Cert.ConvKernelIdeal.τ).loc Cert.ConvKernelIdeal.main_arg0)
      ∧ m' ((c.tc : Thread Cert.ConvReferenceIdeal.nD Cert.ConvReferenceIdeal.τ).loc Cert.ConvReferenceIdeal.main_arg1) = m ((c.tc : Thread Cert.ConvKernelIdeal.nD Cert.ConvKernelIdeal.τ).loc Cert.ConvKernelIdeal.main_arg1)
      ∧ m' ((c.tc : Thread Cert.ConvReferenceIdeal.nD Cert.ConvReferenceIdeal.τ).loc Cert.ConvReferenceIdeal.main_arg2) = m ((c.tc : Thread Cert.ConvKernelIdeal.nD Cert.ConvKernelIdeal.τ).loc Cert.ConvKernelIdeal.main_arg2)) →
    ∃ (v0 : (c : Dev Cert.ConvKernelIdeal.nD) → Buf (Elt Ideal) ((c.tc : Thread Cert.ConvKernelIdeal.nD Cert.ConvKernelIdeal.τ).loc Cert.ConvKernelIdeal.main_v2_0)) (v1 : (c : Dev Cert.ConvKernelIdeal.nD) → Buf (Elt Ideal) ((c.tc : Thread Cert.ConvKernelIdeal.nD Cert.ConvKernelIdeal.τ).loc Cert.ConvKernelIdeal.main_v3)),
      θ_run (Cert.ConvKernelIdeal.defs (F := Ideal)) (onTc (τ := Cert.ConvKernelIdeal.τ) (Cert.ConvKernelIdeal.main (F := Ideal))) ⟨m, fun _ => 0, g⟩ (fun r => ∀ c : Dev Cert.ConvKernelIdeal.nD,
          r.2.mem ((c.tc : Thread Cert.ConvKernelIdeal.nD Cert.ConvKernelIdeal.τ).loc Cert.ConvKernelIdeal.main_v2_0) = v0 c
          ∧ r.2.mem ((c.tc : Thread Cert.ConvKernelIdeal.nD Cert.ConvKernelIdeal.τ).loc Cert.ConvKernelIdeal.main_v3) = v1 c
          ∧ r.2.mem ((c.tc : Thread Cert.ConvKernelIdeal.nD Cert.ConvKernelIdeal.τ).loc Cert.ConvKernelIdeal.main_arg0) = m ((c.tc : Thread Cert.ConvKernelIdeal.nD Cert.ConvKernelIdeal.τ).loc Cert.ConvKernelIdeal.main_arg0)
          ∧ r.2.mem ((c.tc : Thread Cert.ConvKernelIdeal.nD Cert.ConvKernelIdeal.τ).loc Cert.ConvKernelIdeal.main_arg1) = m ((c.tc : Thread Cert.ConvKernelIdeal.nD Cert.ConvKernelIdeal.τ).loc Cert.ConvKernelIdeal.main_arg1)
          ∧ r.2.mem ((c.tc : Thread Cert.ConvKernelIdeal.nD Cert.ConvKernelIdeal.τ).loc Cert.ConvKernelIdeal.main_arg2) = m ((c.tc : Thread Cert.ConvKernelIdeal.nD Cert.ConvKernelIdeal.τ).loc Cert.ConvKernelIdeal.main_arg2))
      ∧ θ_run (Cert.ConvReferenceIdeal.defs (F := Ideal)) (onTc (τ := Cert.ConvReferenceIdeal.τ) (Cert.ConvReferenceIdeal.main (F := Ideal))) ⟨m', fun _ => 0, g'⟩ (fun r => ∀ c : Dev Cert.ConvReferenceIdeal.nD,
          r.2.mem ((c.tc : Thread Cert.ConvReferenceIdeal.nD Cert.ConvReferenceIdeal.τ).loc Cert.ConvReferenceIdeal.main_v66) = v0 c
          ∧ r.2.mem ((c.tc : Thread Cert.ConvReferenceIdeal.nD Cert.ConvReferenceIdeal.τ).loc Cert.ConvReferenceIdeal.main_v47) = v1 c
          ∧ r.2.mem ((c.tc : Thread Cert.ConvReferenceIdeal.nD Cert.ConvReferenceIdeal.τ).loc Cert.ConvReferenceIdeal.main_arg0) = m' ((c.tc : Thread Cert.ConvReferenceIdeal.nD Cert.ConvReferenceIdeal.τ).loc Cert.ConvReferenceIdeal.main_arg0)
          ∧ r.2.mem ((c.tc : Thread Cert.ConvReferenceIdeal.nD Cert.ConvReferenceIdeal.τ).loc Cert.ConvReferenceIdeal.main_arg1) = m' ((c.tc : Thread Cert.ConvReferenceIdeal.nD Cert.ConvReferenceIdeal.τ).loc Cert.ConvReferenceIdeal.main_arg1)
          ∧ r.2.mem ((c.tc : Thread Cert.ConvReferenceIdeal.nD Cert.ConvReferenceIdeal.τ).loc Cert.ConvReferenceIdeal.main_arg2) = m' ((c.tc : Thread Cert.ConvReferenceIdeal.nD Cert.ConvReferenceIdeal.τ).loc Cert.ConvReferenceIdeal.main_arg2))

def preserves_MixKernel_MixKernelIdeal : Prop :=
  True

def algebraic_MixKernelIdeal_MixReferenceIdeal [hMixKernelIdeal : Cert.MixKernelIdeal.Facts] [hMixReferenceIdeal : Cert.MixReferenceIdeal.Facts] : Prop :=
  ∀ (m : (ℓ : Loc Cert.MixKernelIdeal.nD Cert.MixKernelIdeal.τ Cert.MixKernelIdeal.sig) → Buf (Elt Ideal) ℓ) (g : Dev Cert.MixKernelIdeal.nD → PrngReg)
    (m' : (ℓ : Loc Cert.MixReferenceIdeal.nD Cert.MixReferenceIdeal.τ Cert.MixReferenceIdeal.sig) → Buf (Elt Ideal) ℓ) (g' : Dev Cert.MixReferenceIdeal.nD → PrngReg), Pre_MixKernelIdeal m →
    (∀ c : Dev Cert.MixKernelIdeal.nD,
      m' ((c.tc : Thread Cert.MixReferenceIdeal.nD Cert.MixReferenceIdeal.τ).loc Cert.MixReferenceIdeal.main_arg0) = m ((c.tc : Thread Cert.MixKernelIdeal.nD Cert.MixKernelIdeal.τ).loc Cert.MixKernelIdeal.main_arg0)
      ∧ m' ((c.tc : Thread Cert.MixReferenceIdeal.nD Cert.MixReferenceIdeal.τ).loc Cert.MixReferenceIdeal.main_arg1) = m ((c.tc : Thread Cert.MixKernelIdeal.nD Cert.MixKernelIdeal.τ).loc Cert.MixKernelIdeal.main_arg1)) →
    ∃ (v0 : (c : Dev Cert.MixKernelIdeal.nD) → Buf (Elt Ideal) ((c.tc : Thread Cert.MixKernelIdeal.nD Cert.MixKernelIdeal.τ).loc Cert.MixKernelIdeal.main_v2)),
      θ_run (Cert.MixKernelIdeal.defs (F := Ideal)) (onTc (τ := Cert.MixKernelIdeal.τ) (Cert.MixKernelIdeal.main (F := Ideal))) ⟨m, fun _ => 0, g⟩ (fun r => ∀ c : Dev Cert.MixKernelIdeal.nD,
          r.2.mem ((c.tc : Thread Cert.MixKernelIdeal.nD Cert.MixKernelIdeal.τ).loc Cert.MixKernelIdeal.main_v2) = v0 c
          ∧ r.2.mem ((c.tc : Thread Cert.MixKernelIdeal.nD Cert.MixKernelIdeal.τ).loc Cert.MixKernelIdeal.main_arg0) = m ((c.tc : Thread Cert.MixKernelIdeal.nD Cert.MixKernelIdeal.τ).loc Cert.MixKernelIdeal.main_arg0)
          ∧ r.2.mem ((c.tc : Thread Cert.MixKernelIdeal.nD Cert.MixKernelIdeal.τ).loc Cert.MixKernelIdeal.main_arg1) = m ((c.tc : Thread Cert.MixKernelIdeal.nD Cert.MixKernelIdeal.τ).loc Cert.MixKernelIdeal.main_arg1))
      ∧ θ_run (Cert.MixReferenceIdeal.defs (F := Ideal)) (onTc (τ := Cert.MixReferenceIdeal.τ) (Cert.MixReferenceIdeal.main (F := Ideal))) ⟨m', fun _ => 0, g'⟩ (fun r => ∀ c : Dev Cert.MixReferenceIdeal.nD,
          r.2.mem ((c.tc : Thread Cert.MixReferenceIdeal.nD Cert.MixReferenceIdeal.τ).loc Cert.MixReferenceIdeal.main_v24) = v0 c
          ∧ r.2.mem ((c.tc : Thread Cert.MixReferenceIdeal.nD Cert.MixReferenceIdeal.τ).loc Cert.MixReferenceIdeal.main_arg0) = m' ((c.tc : Thread Cert.MixReferenceIdeal.nD Cert.MixReferenceIdeal.τ).loc Cert.MixReferenceIdeal.main_arg0)
          ∧ r.2.mem ((c.tc : Thread Cert.MixReferenceIdeal.nD Cert.MixReferenceIdeal.τ).loc Cert.MixReferenceIdeal.main_arg1) = m' ((c.tc : Thread Cert.MixReferenceIdeal.nD Cert.MixReferenceIdeal.τ).loc Cert.MixReferenceIdeal.main_arg1))

def preserves_PoolKernel_PoolKernelIdeal : Prop :=
  True

def algebraic_PoolKernelIdeal_PoolReferenceIdeal_pre_pool_finite [hPoolKernelIdeal : Cert.PoolKernelIdeal.Facts] [hPoolReferenceIdeal : Cert.PoolReferenceIdeal.Facts] [hPre_pool_finite : Cert.Pre_pool_finite.Facts] : Prop :=
  ∀ (m : (ℓ : Loc Cert.PoolKernelIdeal.nD Cert.PoolKernelIdeal.τ Cert.PoolKernelIdeal.sig) → Buf (Elt Ideal) ℓ) (g : Dev Cert.PoolKernelIdeal.nD → PrngReg)
    (m' : (ℓ : Loc Cert.PoolReferenceIdeal.nD Cert.PoolReferenceIdeal.τ Cert.PoolReferenceIdeal.sig) → Buf (Elt Ideal) ℓ) (g' : Dev Cert.PoolReferenceIdeal.nD → PrngReg), Pre_PoolKernelIdeal_pool_finite m →
    (∀ c : Dev Cert.PoolKernelIdeal.nD,
      m' ((c.tc : Thread Cert.PoolReferenceIdeal.nD Cert.PoolReferenceIdeal.τ).loc Cert.PoolReferenceIdeal.main_arg0) = m ((c.tc : Thread Cert.PoolKernelIdeal.nD Cert.PoolKernelIdeal.τ).loc Cert.PoolKernelIdeal.main_arg0)
      ∧ m' ((c.tc : Thread Cert.PoolReferenceIdeal.nD Cert.PoolReferenceIdeal.τ).loc Cert.PoolReferenceIdeal.main_arg1) = m ((c.tc : Thread Cert.PoolKernelIdeal.nD Cert.PoolKernelIdeal.τ).loc Cert.PoolKernelIdeal.main_arg1)
      ∧ m' ((c.tc : Thread Cert.PoolReferenceIdeal.nD Cert.PoolReferenceIdeal.τ).loc Cert.PoolReferenceIdeal.main_arg2) = m ((c.tc : Thread Cert.PoolKernelIdeal.nD Cert.PoolKernelIdeal.τ).loc Cert.PoolKernelIdeal.main_arg2)
      ∧ m' ((c.tc : Thread Cert.PoolReferenceIdeal.nD Cert.PoolReferenceIdeal.τ).loc Cert.PoolReferenceIdeal.main_arg3) = m ((c.tc : Thread Cert.PoolKernelIdeal.nD Cert.PoolKernelIdeal.τ).loc Cert.PoolKernelIdeal.main_arg3)
      ∧ m' ((c.tc : Thread Cert.PoolReferenceIdeal.nD Cert.PoolReferenceIdeal.τ).loc Cert.PoolReferenceIdeal.main_arg4) = m ((c.tc : Thread Cert.PoolKernelIdeal.nD Cert.PoolKernelIdeal.τ).loc Cert.PoolKernelIdeal.main_arg4)) →
    ∃ (v0 : (c : Dev Cert.PoolKernelIdeal.nD) → Buf (Elt Ideal) ((c.tc : Thread Cert.PoolKernelIdeal.nD Cert.PoolKernelIdeal.τ).loc Cert.PoolKernelIdeal.main_v1_0)) (v1 : (c : Dev Cert.PoolKernelIdeal.nD) → Buf (Elt Ideal) ((c.tc : Thread Cert.PoolKernelIdeal.nD Cert.PoolKernelIdeal.τ).loc Cert.PoolKernelIdeal.main_v2_0)) (v2 : (c : Dev Cert.PoolKernelIdeal.nD) → Buf (Elt Ideal) ((c.tc : Thread Cert.PoolKernelIdeal.nD Cert.PoolKernelIdeal.τ).loc Cert.PoolKernelIdeal.main_v2_1)) (v3 : (c : Dev Cert.PoolKernelIdeal.nD) → Buf (Elt Ideal) ((c.tc : Thread Cert.PoolKernelIdeal.nD Cert.PoolKernelIdeal.τ).loc Cert.PoolKernelIdeal.main_v2_2)),
      θ_run (Cert.PoolKernelIdeal.defs (F := Ideal)) (onTc (τ := Cert.PoolKernelIdeal.τ) (Cert.PoolKernelIdeal.main (F := Ideal))) ⟨m, fun _ => 0, g⟩ (fun r => ∀ c : Dev Cert.PoolKernelIdeal.nD,
          r.2.mem ((c.tc : Thread Cert.PoolKernelIdeal.nD Cert.PoolKernelIdeal.τ).loc Cert.PoolKernelIdeal.main_v1_0) = v0 c
          ∧ r.2.mem ((c.tc : Thread Cert.PoolKernelIdeal.nD Cert.PoolKernelIdeal.τ).loc Cert.PoolKernelIdeal.main_v2_0) = v1 c
          ∧ r.2.mem ((c.tc : Thread Cert.PoolKernelIdeal.nD Cert.PoolKernelIdeal.τ).loc Cert.PoolKernelIdeal.main_v2_1) = v2 c
          ∧ r.2.mem ((c.tc : Thread Cert.PoolKernelIdeal.nD Cert.PoolKernelIdeal.τ).loc Cert.PoolKernelIdeal.main_v2_2) = v3 c
          ∧ r.2.mem ((c.tc : Thread Cert.PoolKernelIdeal.nD Cert.PoolKernelIdeal.τ).loc Cert.PoolKernelIdeal.main_arg0) = m ((c.tc : Thread Cert.PoolKernelIdeal.nD Cert.PoolKernelIdeal.τ).loc Cert.PoolKernelIdeal.main_arg0)
          ∧ r.2.mem ((c.tc : Thread Cert.PoolKernelIdeal.nD Cert.PoolKernelIdeal.τ).loc Cert.PoolKernelIdeal.main_arg1) = m ((c.tc : Thread Cert.PoolKernelIdeal.nD Cert.PoolKernelIdeal.τ).loc Cert.PoolKernelIdeal.main_arg1)
          ∧ r.2.mem ((c.tc : Thread Cert.PoolKernelIdeal.nD Cert.PoolKernelIdeal.τ).loc Cert.PoolKernelIdeal.main_arg2) = m ((c.tc : Thread Cert.PoolKernelIdeal.nD Cert.PoolKernelIdeal.τ).loc Cert.PoolKernelIdeal.main_arg2)
          ∧ r.2.mem ((c.tc : Thread Cert.PoolKernelIdeal.nD Cert.PoolKernelIdeal.τ).loc Cert.PoolKernelIdeal.main_arg3) = m ((c.tc : Thread Cert.PoolKernelIdeal.nD Cert.PoolKernelIdeal.τ).loc Cert.PoolKernelIdeal.main_arg3)
          ∧ r.2.mem ((c.tc : Thread Cert.PoolKernelIdeal.nD Cert.PoolKernelIdeal.τ).loc Cert.PoolKernelIdeal.main_arg4) = m ((c.tc : Thread Cert.PoolKernelIdeal.nD Cert.PoolKernelIdeal.τ).loc Cert.PoolKernelIdeal.main_arg4))
      ∧ θ_run (Cert.PoolReferenceIdeal.defs (F := Ideal)) (onTc (τ := Cert.PoolReferenceIdeal.τ) (Cert.PoolReferenceIdeal.main (F := Ideal))) ⟨m', fun _ => 0, g'⟩ (fun r => ∀ c : Dev Cert.PoolReferenceIdeal.nD,
          r.2.mem ((c.tc : Thread Cert.PoolReferenceIdeal.nD Cert.PoolReferenceIdeal.τ).loc Cert.PoolReferenceIdeal.main_v83) = v0 c
          ∧ r.2.mem ((c.tc : Thread Cert.PoolReferenceIdeal.nD Cert.PoolReferenceIdeal.τ).loc Cert.PoolReferenceIdeal.main_v159) = v1 c
          ∧ r.2.mem ((c.tc : Thread Cert.PoolReferenceIdeal.nD Cert.PoolReferenceIdeal.τ).loc Cert.PoolReferenceIdeal.main_v94) = v2 c
          ∧ r.2.mem ((c.tc : Thread Cert.PoolReferenceIdeal.nD Cert.PoolReferenceIdeal.τ).loc Cert.PoolReferenceIdeal.main_v86) = v3 c
          ∧ r.2.mem ((c.tc : Thread Cert.PoolReferenceIdeal.nD Cert.PoolReferenceIdeal.τ).loc Cert.PoolReferenceIdeal.main_arg0) = m' ((c.tc : Thread Cert.PoolReferenceIdeal.nD Cert.PoolReferenceIdeal.τ).loc Cert.PoolReferenceIdeal.main_arg0)
          ∧ r.2.mem ((c.tc : Thread Cert.PoolReferenceIdeal.nD Cert.PoolReferenceIdeal.τ).loc Cert.PoolReferenceIdeal.main_arg1) = m' ((c.tc : Thread Cert.PoolReferenceIdeal.nD Cert.PoolReferenceIdeal.τ).loc Cert.PoolReferenceIdeal.main_arg1)
          ∧ r.2.mem ((c.tc : Thread Cert.PoolReferenceIdeal.nD Cert.PoolReferenceIdeal.τ).loc Cert.PoolReferenceIdeal.main_arg2) = m' ((c.tc : Thread Cert.PoolReferenceIdeal.nD Cert.PoolReferenceIdeal.τ).loc Cert.PoolReferenceIdeal.main_arg2)
          ∧ r.2.mem ((c.tc : Thread Cert.PoolReferenceIdeal.nD Cert.PoolReferenceIdeal.τ).loc Cert.PoolReferenceIdeal.main_arg3) = m' ((c.tc : Thread Cert.PoolReferenceIdeal.nD Cert.PoolReferenceIdeal.τ).loc Cert.PoolReferenceIdeal.main_arg3)
          ∧ r.2.mem ((c.tc : Thread Cert.PoolReferenceIdeal.nD Cert.PoolReferenceIdeal.τ).loc Cert.PoolReferenceIdeal.main_arg4) = m' ((c.tc : Thread Cert.PoolReferenceIdeal.nD Cert.PoolReferenceIdeal.τ).loc Cert.PoolReferenceIdeal.main_arg4))

def preserves_AttnKernel_AttnKernelIdeal : Prop :=
  True

def algebraic_AttnKernelIdeal_AttnReferenceIdeal_pre_attn_finite [hAttnKernelIdeal : Cert.AttnKernelIdeal.Facts] [hAttnReferenceIdeal : Cert.AttnReferenceIdeal.Facts] [hPre_attn_finite : Cert.Pre_attn_finite.Facts] : Prop :=
  ∀ (m : (ℓ : Loc Cert.AttnKernelIdeal.nD Cert.AttnKernelIdeal.τ Cert.AttnKernelIdeal.sig) → Buf (Elt Ideal) ℓ) (g : Dev Cert.AttnKernelIdeal.nD → PrngReg)
    (m' : (ℓ : Loc Cert.AttnReferenceIdeal.nD Cert.AttnReferenceIdeal.τ Cert.AttnReferenceIdeal.sig) → Buf (Elt Ideal) ℓ) (g' : Dev Cert.AttnReferenceIdeal.nD → PrngReg), Pre_AttnKernelIdeal_attn_finite m →
    (∀ c : Dev Cert.AttnKernelIdeal.nD,
      m' ((c.tc : Thread Cert.AttnReferenceIdeal.nD Cert.AttnReferenceIdeal.τ).loc Cert.AttnReferenceIdeal.main_arg0) = m ((c.tc : Thread Cert.AttnKernelIdeal.nD Cert.AttnKernelIdeal.τ).loc Cert.AttnKernelIdeal.main_arg0)
      ∧ m' ((c.tc : Thread Cert.AttnReferenceIdeal.nD Cert.AttnReferenceIdeal.τ).loc Cert.AttnReferenceIdeal.main_arg1) = m ((c.tc : Thread Cert.AttnKernelIdeal.nD Cert.AttnKernelIdeal.τ).loc Cert.AttnKernelIdeal.main_arg1)
      ∧ m' ((c.tc : Thread Cert.AttnReferenceIdeal.nD Cert.AttnReferenceIdeal.τ).loc Cert.AttnReferenceIdeal.main_arg2) = m ((c.tc : Thread Cert.AttnKernelIdeal.nD Cert.AttnKernelIdeal.τ).loc Cert.AttnKernelIdeal.main_arg2)
      ∧ m' ((c.tc : Thread Cert.AttnReferenceIdeal.nD Cert.AttnReferenceIdeal.τ).loc Cert.AttnReferenceIdeal.main_arg3) = m ((c.tc : Thread Cert.AttnKernelIdeal.nD Cert.AttnKernelIdeal.τ).loc Cert.AttnKernelIdeal.main_arg3)) →
    ∃ (v0 : (c : Dev Cert.AttnKernelIdeal.nD) → Buf (Elt Ideal) ((c.tc : Thread Cert.AttnKernelIdeal.nD Cert.AttnKernelIdeal.τ).loc Cert.AttnKernelIdeal.main_v2_0)) (v1 : (c : Dev Cert.AttnKernelIdeal.nD) → Buf (Elt Ideal) ((c.tc : Thread Cert.AttnKernelIdeal.nD Cert.AttnKernelIdeal.τ).loc Cert.AttnKernelIdeal.main_v4_0)) (v2 : (c : Dev Cert.AttnKernelIdeal.nD) → Buf (Elt Ideal) ((c.tc : Thread Cert.AttnKernelIdeal.nD Cert.AttnKernelIdeal.τ).loc Cert.AttnKernelIdeal.main_v4_1)) (v3 : (c : Dev Cert.AttnKernelIdeal.nD) → Buf (Elt Ideal) ((c.tc : Thread Cert.AttnKernelIdeal.nD Cert.AttnKernelIdeal.τ).loc Cert.AttnKernelIdeal.main_v4_2)),
      θ_run (Cert.AttnKernelIdeal.defs (F := Ideal)) (onTc (τ := Cert.AttnKernelIdeal.τ) (Cert.AttnKernelIdeal.main (F := Ideal))) ⟨m, fun _ => 0, g⟩ (fun r => ∀ c : Dev Cert.AttnKernelIdeal.nD,
          r.2.mem ((c.tc : Thread Cert.AttnKernelIdeal.nD Cert.AttnKernelIdeal.τ).loc Cert.AttnKernelIdeal.main_v2_0) = v0 c
          ∧ r.2.mem ((c.tc : Thread Cert.AttnKernelIdeal.nD Cert.AttnKernelIdeal.τ).loc Cert.AttnKernelIdeal.main_v4_0) = v1 c
          ∧ r.2.mem ((c.tc : Thread Cert.AttnKernelIdeal.nD Cert.AttnKernelIdeal.τ).loc Cert.AttnKernelIdeal.main_v4_1) = v2 c
          ∧ r.2.mem ((c.tc : Thread Cert.AttnKernelIdeal.nD Cert.AttnKernelIdeal.τ).loc Cert.AttnKernelIdeal.main_v4_2) = v3 c
          ∧ r.2.mem ((c.tc : Thread Cert.AttnKernelIdeal.nD Cert.AttnKernelIdeal.τ).loc Cert.AttnKernelIdeal.main_arg0) = m ((c.tc : Thread Cert.AttnKernelIdeal.nD Cert.AttnKernelIdeal.τ).loc Cert.AttnKernelIdeal.main_arg0)
          ∧ r.2.mem ((c.tc : Thread Cert.AttnKernelIdeal.nD Cert.AttnKernelIdeal.τ).loc Cert.AttnKernelIdeal.main_arg1) = m ((c.tc : Thread Cert.AttnKernelIdeal.nD Cert.AttnKernelIdeal.τ).loc Cert.AttnKernelIdeal.main_arg1)
          ∧ r.2.mem ((c.tc : Thread Cert.AttnKernelIdeal.nD Cert.AttnKernelIdeal.τ).loc Cert.AttnKernelIdeal.main_arg2) = m ((c.tc : Thread Cert.AttnKernelIdeal.nD Cert.AttnKernelIdeal.τ).loc Cert.AttnKernelIdeal.main_arg2)
          ∧ r.2.mem ((c.tc : Thread Cert.AttnKernelIdeal.nD Cert.AttnKernelIdeal.τ).loc Cert.AttnKernelIdeal.main_arg3) = m ((c.tc : Thread Cert.AttnKernelIdeal.nD Cert.AttnKernelIdeal.τ).loc Cert.AttnKernelIdeal.main_arg3))
      ∧ θ_run (Cert.AttnReferenceIdeal.defs (F := Ideal)) (onTc (τ := Cert.AttnReferenceIdeal.τ) (Cert.AttnReferenceIdeal.main (F := Ideal))) ⟨m', fun _ => 0, g'⟩ (fun r => ∀ c : Dev Cert.AttnReferenceIdeal.nD,
          r.2.mem ((c.tc : Thread Cert.AttnReferenceIdeal.nD Cert.AttnReferenceIdeal.τ).loc Cert.AttnReferenceIdeal.main_v59) = v0 c
          ∧ r.2.mem ((c.tc : Thread Cert.AttnReferenceIdeal.nD Cert.AttnReferenceIdeal.τ).loc Cert.AttnReferenceIdeal.main_v134) = v1 c
          ∧ r.2.mem ((c.tc : Thread Cert.AttnReferenceIdeal.nD Cert.AttnReferenceIdeal.τ).loc Cert.AttnReferenceIdeal.main_v110) = v2 c
          ∧ r.2.mem ((c.tc : Thread Cert.AttnReferenceIdeal.nD Cert.AttnReferenceIdeal.τ).loc Cert.AttnReferenceIdeal.main_v88) = v3 c
          ∧ r.2.mem ((c.tc : Thread Cert.AttnReferenceIdeal.nD Cert.AttnReferenceIdeal.τ).loc Cert.AttnReferenceIdeal.main_arg0) = m' ((c.tc : Thread Cert.AttnReferenceIdeal.nD Cert.AttnReferenceIdeal.τ).loc Cert.AttnReferenceIdeal.main_arg0)
          ∧ r.2.mem ((c.tc : Thread Cert.AttnReferenceIdeal.nD Cert.AttnReferenceIdeal.τ).loc Cert.AttnReferenceIdeal.main_arg1) = m' ((c.tc : Thread Cert.AttnReferenceIdeal.nD Cert.AttnReferenceIdeal.τ).loc Cert.AttnReferenceIdeal.main_arg1)
          ∧ r.2.mem ((c.tc : Thread Cert.AttnReferenceIdeal.nD Cert.AttnReferenceIdeal.τ).loc Cert.AttnReferenceIdeal.main_arg2) = m' ((c.tc : Thread Cert.AttnReferenceIdeal.nD Cert.AttnReferenceIdeal.τ).loc Cert.AttnReferenceIdeal.main_arg2)
          ∧ r.2.mem ((c.tc : Thread Cert.AttnReferenceIdeal.nD Cert.AttnReferenceIdeal.τ).loc Cert.AttnReferenceIdeal.main_arg3) = m' ((c.tc : Thread Cert.AttnReferenceIdeal.nD Cert.AttnReferenceIdeal.τ).loc Cert.AttnReferenceIdeal.main_arg3))

def preserves_ProjKernel_ProjKernelIdeal : Prop :=
  True

def algebraic_ProjKernelIdeal_ProjReferenceIdeal [hProjKernelIdeal : Cert.ProjKernelIdeal.Facts] [hProjReferenceIdeal : Cert.ProjReferenceIdeal.Facts] : Prop :=
  ∀ (m : (ℓ : Loc Cert.ProjKernelIdeal.nD Cert.ProjKernelIdeal.τ Cert.ProjKernelIdeal.sig) → Buf (Elt Ideal) ℓ) (g : Dev Cert.ProjKernelIdeal.nD → PrngReg)
    (m' : (ℓ : Loc Cert.ProjReferenceIdeal.nD Cert.ProjReferenceIdeal.τ Cert.ProjReferenceIdeal.sig) → Buf (Elt Ideal) ℓ) (g' : Dev Cert.ProjReferenceIdeal.nD → PrngReg), Pre_ProjKernelIdeal m →
    (∀ c : Dev Cert.ProjKernelIdeal.nD,
      m' ((c.tc : Thread Cert.ProjReferenceIdeal.nD Cert.ProjReferenceIdeal.τ).loc Cert.ProjReferenceIdeal.main_arg0) = m ((c.tc : Thread Cert.ProjKernelIdeal.nD Cert.ProjKernelIdeal.τ).loc Cert.ProjKernelIdeal.main_arg0)
      ∧ m' ((c.tc : Thread Cert.ProjReferenceIdeal.nD Cert.ProjReferenceIdeal.τ).loc Cert.ProjReferenceIdeal.main_arg1) = m ((c.tc : Thread Cert.ProjKernelIdeal.nD Cert.ProjKernelIdeal.τ).loc Cert.ProjKernelIdeal.main_arg1)) →
    ∃ (v0 : (c : Dev Cert.ProjKernelIdeal.nD) → Buf (Elt Ideal) ((c.tc : Thread Cert.ProjKernelIdeal.nD Cert.ProjKernelIdeal.τ).loc Cert.ProjKernelIdeal.main_v4)),
      θ_run (Cert.ProjKernelIdeal.defs (F := Ideal)) (onTc (τ := Cert.ProjKernelIdeal.τ) (Cert.ProjKernelIdeal.main (F := Ideal))) ⟨m, fun _ => 0, g⟩ (fun r => ∀ c : Dev Cert.ProjKernelIdeal.nD,
          r.2.mem ((c.tc : Thread Cert.ProjKernelIdeal.nD Cert.ProjKernelIdeal.τ).loc Cert.ProjKernelIdeal.main_v4) = v0 c
          ∧ r.2.mem ((c.tc : Thread Cert.ProjKernelIdeal.nD Cert.ProjKernelIdeal.τ).loc Cert.ProjKernelIdeal.main_arg0) = m ((c.tc : Thread Cert.ProjKernelIdeal.nD Cert.ProjKernelIdeal.τ).loc Cert.ProjKernelIdeal.main_arg0)
          ∧ r.2.mem ((c.tc : Thread Cert.ProjKernelIdeal.nD Cert.ProjKernelIdeal.τ).loc Cert.ProjKernelIdeal.main_arg1) = m ((c.tc : Thread Cert.ProjKernelIdeal.nD Cert.ProjKernelIdeal.τ).loc Cert.ProjKernelIdeal.main_arg1))
      ∧ θ_run (Cert.ProjReferenceIdeal.defs (F := Ideal)) (onTc (τ := Cert.ProjReferenceIdeal.τ) (Cert.ProjReferenceIdeal.main (F := Ideal))) ⟨m', fun _ => 0, g'⟩ (fun r => ∀ c : Dev Cert.ProjReferenceIdeal.nD,
          r.2.mem ((c.tc : Thread Cert.ProjReferenceIdeal.nD Cert.ProjReferenceIdeal.τ).loc Cert.ProjReferenceIdeal.main_v2) = v0 c
          ∧ r.2.mem ((c.tc : Thread Cert.ProjReferenceIdeal.nD Cert.ProjReferenceIdeal.τ).loc Cert.ProjReferenceIdeal.main_arg0) = m' ((c.tc : Thread Cert.ProjReferenceIdeal.nD Cert.ProjReferenceIdeal.τ).loc Cert.ProjReferenceIdeal.main_arg0)
          ∧ r.2.mem ((c.tc : Thread Cert.ProjReferenceIdeal.nD Cert.ProjReferenceIdeal.τ).loc Cert.ProjReferenceIdeal.main_arg1) = m' ((c.tc : Thread Cert.ProjReferenceIdeal.nD Cert.ProjReferenceIdeal.τ).loc Cert.ProjReferenceIdeal.main_arg1))

def preserves_ResKernel_ResKernelIdeal : Prop :=
  True

def algebraic_ResKernelIdeal_ResReferenceIdeal [hResKernelIdeal : Cert.ResKernelIdeal.Facts] [hResReferenceIdeal : Cert.ResReferenceIdeal.Facts] : Prop :=
  ∀ (m : (ℓ : Loc Cert.ResKernelIdeal.nD Cert.ResKernelIdeal.τ Cert.ResKernelIdeal.sig) → Buf (Elt Ideal) ℓ) (g : Dev Cert.ResKernelIdeal.nD → PrngReg)
    (m' : (ℓ : Loc Cert.ResReferenceIdeal.nD Cert.ResReferenceIdeal.τ Cert.ResReferenceIdeal.sig) → Buf (Elt Ideal) ℓ) (g' : Dev Cert.ResReferenceIdeal.nD → PrngReg), Pre_ResKernelIdeal m →
    (∀ c : Dev Cert.ResKernelIdeal.nD,
      m' ((c.tc : Thread Cert.ResReferenceIdeal.nD Cert.ResReferenceIdeal.τ).loc Cert.ResReferenceIdeal.main_arg0) = m ((c.tc : Thread Cert.ResKernelIdeal.nD Cert.ResKernelIdeal.τ).loc Cert.ResKernelIdeal.main_arg0)
      ∧ m' ((c.tc : Thread Cert.ResReferenceIdeal.nD Cert.ResReferenceIdeal.τ).loc Cert.ResReferenceIdeal.main_arg1) = m ((c.tc : Thread Cert.ResKernelIdeal.nD Cert.ResKernelIdeal.τ).loc Cert.ResKernelIdeal.main_arg1)
      ∧ m' ((c.tc : Thread Cert.ResReferenceIdeal.nD Cert.ResReferenceIdeal.τ).loc Cert.ResReferenceIdeal.main_arg2) = m ((c.tc : Thread Cert.ResKernelIdeal.nD Cert.ResKernelIdeal.τ).loc Cert.ResKernelIdeal.main_arg2)) →
    ∃ (v0 : (c : Dev Cert.ResKernelIdeal.nD) → Buf (Elt Ideal) ((c.tc : Thread Cert.ResKernelIdeal.nD Cert.ResKernelIdeal.τ).loc Cert.ResKernelIdeal.main_v2)),
      θ_run (Cert.ResKernelIdeal.defs (F := Ideal)) (onTc (τ := Cert.ResKernelIdeal.τ) (Cert.ResKernelIdeal.main (F := Ideal))) ⟨m, fun _ => 0, g⟩ (fun r => ∀ c : Dev Cert.ResKernelIdeal.nD,
          r.2.mem ((c.tc : Thread Cert.ResKernelIdeal.nD Cert.ResKernelIdeal.τ).loc Cert.ResKernelIdeal.main_v2) = v0 c
          ∧ r.2.mem ((c.tc : Thread Cert.ResKernelIdeal.nD Cert.ResKernelIdeal.τ).loc Cert.ResKernelIdeal.main_arg0) = m ((c.tc : Thread Cert.ResKernelIdeal.nD Cert.ResKernelIdeal.τ).loc Cert.ResKernelIdeal.main_arg0)
          ∧ r.2.mem ((c.tc : Thread Cert.ResKernelIdeal.nD Cert.ResKernelIdeal.τ).loc Cert.ResKernelIdeal.main_arg1) = m ((c.tc : Thread Cert.ResKernelIdeal.nD Cert.ResKernelIdeal.τ).loc Cert.ResKernelIdeal.main_arg1)
          ∧ r.2.mem ((c.tc : Thread Cert.ResKernelIdeal.nD Cert.ResKernelIdeal.τ).loc Cert.ResKernelIdeal.main_arg2) = m ((c.tc : Thread Cert.ResKernelIdeal.nD Cert.ResKernelIdeal.τ).loc Cert.ResKernelIdeal.main_arg2))
      ∧ θ_run (Cert.ResReferenceIdeal.defs (F := Ideal)) (onTc (τ := Cert.ResReferenceIdeal.τ) (Cert.ResReferenceIdeal.main (F := Ideal))) ⟨m', fun _ => 0, g'⟩ (fun r => ∀ c : Dev Cert.ResReferenceIdeal.nD,
          r.2.mem ((c.tc : Thread Cert.ResReferenceIdeal.nD Cert.ResReferenceIdeal.τ).loc Cert.ResReferenceIdeal.main_v1) = v0 c
          ∧ r.2.mem ((c.tc : Thread Cert.ResReferenceIdeal.nD Cert.ResReferenceIdeal.τ).loc Cert.ResReferenceIdeal.main_arg0) = m' ((c.tc : Thread Cert.ResReferenceIdeal.nD Cert.ResReferenceIdeal.τ).loc Cert.ResReferenceIdeal.main_arg0)
          ∧ r.2.mem ((c.tc : Thread Cert.ResReferenceIdeal.nD Cert.ResReferenceIdeal.τ).loc Cert.ResReferenceIdeal.main_arg1) = m' ((c.tc : Thread Cert.ResReferenceIdeal.nD Cert.ResReferenceIdeal.τ).loc Cert.ResReferenceIdeal.main_arg1)
          ∧ r.2.mem ((c.tc : Thread Cert.ResReferenceIdeal.nD Cert.ResReferenceIdeal.τ).loc Cert.ResReferenceIdeal.main_arg2) = m' ((c.tc : Thread Cert.ResReferenceIdeal.nD Cert.ResReferenceIdeal.τ).loc Cert.ResReferenceIdeal.main_arg2))

def preserves_DownKernel_DownKernelIdeal : Prop :=
  True

def algebraic_DownKernelIdeal_DownReferenceIdeal [hDownKernelIdeal : Cert.DownKernelIdeal.Facts] [hDownReferenceIdeal : Cert.DownReferenceIdeal.Facts] : Prop :=
  ∀ (m : (ℓ : Loc Cert.DownKernelIdeal.nD Cert.DownKernelIdeal.τ Cert.DownKernelIdeal.sig) → Buf (Elt Ideal) ℓ) (g : Dev Cert.DownKernelIdeal.nD → PrngReg)
    (m' : (ℓ : Loc Cert.DownReferenceIdeal.nD Cert.DownReferenceIdeal.τ Cert.DownReferenceIdeal.sig) → Buf (Elt Ideal) ℓ) (g' : Dev Cert.DownReferenceIdeal.nD → PrngReg), Pre_DownKernelIdeal m →
    (∀ c : Dev Cert.DownKernelIdeal.nD,
      m' ((c.tc : Thread Cert.DownReferenceIdeal.nD Cert.DownReferenceIdeal.τ).loc Cert.DownReferenceIdeal.main_arg0) = m ((c.tc : Thread Cert.DownKernelIdeal.nD Cert.DownKernelIdeal.τ).loc Cert.DownKernelIdeal.main_arg0)
      ∧ m' ((c.tc : Thread Cert.DownReferenceIdeal.nD Cert.DownReferenceIdeal.τ).loc Cert.DownReferenceIdeal.main_arg1) = m ((c.tc : Thread Cert.DownKernelIdeal.nD Cert.DownKernelIdeal.τ).loc Cert.DownKernelIdeal.main_arg1)
      ∧ m' ((c.tc : Thread Cert.DownReferenceIdeal.nD Cert.DownReferenceIdeal.τ).loc Cert.DownReferenceIdeal.main_arg2) = m ((c.tc : Thread Cert.DownKernelIdeal.nD Cert.DownKernelIdeal.τ).loc Cert.DownKernelIdeal.main_arg2)) →
    ∃ (v0 : (c : Dev Cert.DownKernelIdeal.nD) → Buf (Elt Ideal) ((c.tc : Thread Cert.DownKernelIdeal.nD Cert.DownKernelIdeal.τ).loc Cert.DownKernelIdeal.main_v5)),
      θ_run (Cert.DownKernelIdeal.defs (F := Ideal)) (onTc (τ := Cert.DownKernelIdeal.τ) (Cert.DownKernelIdeal.main (F := Ideal))) ⟨m, fun _ => 0, g⟩ (fun r => ∀ c : Dev Cert.DownKernelIdeal.nD,
          r.2.mem ((c.tc : Thread Cert.DownKernelIdeal.nD Cert.DownKernelIdeal.τ).loc Cert.DownKernelIdeal.main_v5) = v0 c
          ∧ r.2.mem ((c.tc : Thread Cert.DownKernelIdeal.nD Cert.DownKernelIdeal.τ).loc Cert.DownKernelIdeal.main_arg0) = m ((c.tc : Thread Cert.DownKernelIdeal.nD Cert.DownKernelIdeal.τ).loc Cert.DownKernelIdeal.main_arg0)
          ∧ r.2.mem ((c.tc : Thread Cert.DownKernelIdeal.nD Cert.DownKernelIdeal.τ).loc Cert.DownKernelIdeal.main_arg1) = m ((c.tc : Thread Cert.DownKernelIdeal.nD Cert.DownKernelIdeal.τ).loc Cert.DownKernelIdeal.main_arg1)
          ∧ r.2.mem ((c.tc : Thread Cert.DownKernelIdeal.nD Cert.DownKernelIdeal.τ).loc Cert.DownKernelIdeal.main_arg2) = m ((c.tc : Thread Cert.DownKernelIdeal.nD Cert.DownKernelIdeal.τ).loc Cert.DownKernelIdeal.main_arg2))
      ∧ θ_run (Cert.DownReferenceIdeal.defs (F := Ideal)) (onTc (τ := Cert.DownReferenceIdeal.τ) (Cert.DownReferenceIdeal.main (F := Ideal))) ⟨m', fun _ => 0, g'⟩ (fun r => ∀ c : Dev Cert.DownReferenceIdeal.nD,
          r.2.mem ((c.tc : Thread Cert.DownReferenceIdeal.nD Cert.DownReferenceIdeal.τ).loc Cert.DownReferenceIdeal.main_v1) = v0 c
          ∧ r.2.mem ((c.tc : Thread Cert.DownReferenceIdeal.nD Cert.DownReferenceIdeal.τ).loc Cert.DownReferenceIdeal.main_arg0) = m' ((c.tc : Thread Cert.DownReferenceIdeal.nD Cert.DownReferenceIdeal.τ).loc Cert.DownReferenceIdeal.main_arg0)
          ∧ r.2.mem ((c.tc : Thread Cert.DownReferenceIdeal.nD Cert.DownReferenceIdeal.τ).loc Cert.DownReferenceIdeal.main_arg1) = m' ((c.tc : Thread Cert.DownReferenceIdeal.nD Cert.DownReferenceIdeal.τ).loc Cert.DownReferenceIdeal.main_arg1)
          ∧ r.2.mem ((c.tc : Thread Cert.DownReferenceIdeal.nD Cert.DownReferenceIdeal.τ).loc Cert.DownReferenceIdeal.main_arg2) = m' ((c.tc : Thread Cert.DownReferenceIdeal.nD Cert.DownReferenceIdeal.τ).loc Cert.DownReferenceIdeal.main_arg2))

def preserves_BackKernel_BackKernelIdeal : Prop :=
  True

def algebraic_BackKernelIdeal_BackReferenceIdeal [hBackKernelIdeal : Cert.BackKernelIdeal.Facts] [hBackReferenceIdeal : Cert.BackReferenceIdeal.Facts] : Prop :=
  ∀ (m : (ℓ : Loc Cert.BackKernelIdeal.nD Cert.BackKernelIdeal.τ Cert.BackKernelIdeal.sig) → Buf (Elt Ideal) ℓ) (g : Dev Cert.BackKernelIdeal.nD → PrngReg)
    (m' : (ℓ : Loc Cert.BackReferenceIdeal.nD Cert.BackReferenceIdeal.τ Cert.BackReferenceIdeal.sig) → Buf (Elt Ideal) ℓ) (g' : Dev Cert.BackReferenceIdeal.nD → PrngReg), Pre_BackKernelIdeal m →
    (∀ c : Dev Cert.BackKernelIdeal.nD,
      m' ((c.tc : Thread Cert.BackReferenceIdeal.nD Cert.BackReferenceIdeal.τ).loc Cert.BackReferenceIdeal.main_arg0) = m ((c.tc : Thread Cert.BackKernelIdeal.nD Cert.BackKernelIdeal.τ).loc Cert.BackKernelIdeal.main_arg0)
      ∧ m' ((c.tc : Thread Cert.BackReferenceIdeal.nD Cert.BackReferenceIdeal.τ).loc Cert.BackReferenceIdeal.main_arg1) = m ((c.tc : Thread Cert.BackKernelIdeal.nD Cert.BackKernelIdeal.τ).loc Cert.BackKernelIdeal.main_arg1)) →
    ∃ (v0 : (c : Dev Cert.BackKernelIdeal.nD) → Buf (Elt Ideal) ((c.tc : Thread Cert.BackKernelIdeal.nD Cert.BackKernelIdeal.τ).loc Cert.BackKernelIdeal.main_v3)),
      θ_run (Cert.BackKernelIdeal.defs (F := Ideal)) (onTc (τ := Cert.BackKernelIdeal.τ) (Cert.BackKernelIdeal.main (F := Ideal))) ⟨m, fun _ => 0, g⟩ (fun r => ∀ c : Dev Cert.BackKernelIdeal.nD,
          r.2.mem ((c.tc : Thread Cert.BackKernelIdeal.nD Cert.BackKernelIdeal.τ).loc Cert.BackKernelIdeal.main_v3) = v0 c
          ∧ r.2.mem ((c.tc : Thread Cert.BackKernelIdeal.nD Cert.BackKernelIdeal.τ).loc Cert.BackKernelIdeal.main_arg0) = m ((c.tc : Thread Cert.BackKernelIdeal.nD Cert.BackKernelIdeal.τ).loc Cert.BackKernelIdeal.main_arg0)
          ∧ r.2.mem ((c.tc : Thread Cert.BackKernelIdeal.nD Cert.BackKernelIdeal.τ).loc Cert.BackKernelIdeal.main_arg1) = m ((c.tc : Thread Cert.BackKernelIdeal.nD Cert.BackKernelIdeal.τ).loc Cert.BackKernelIdeal.main_arg1))
      ∧ θ_run (Cert.BackReferenceIdeal.defs (F := Ideal)) (onTc (τ := Cert.BackReferenceIdeal.τ) (Cert.BackReferenceIdeal.main (F := Ideal))) ⟨m', fun _ => 0, g'⟩ (fun r => ∀ c : Dev Cert.BackReferenceIdeal.nD,
          r.2.mem ((c.tc : Thread Cert.BackReferenceIdeal.nD Cert.BackReferenceIdeal.τ).loc Cert.BackReferenceIdeal.main_v0) = v0 c
          ∧ r.2.mem ((c.tc : Thread Cert.BackReferenceIdeal.nD Cert.BackReferenceIdeal.τ).loc Cert.BackReferenceIdeal.main_arg0) = m' ((c.tc : Thread Cert.BackReferenceIdeal.nD Cert.BackReferenceIdeal.τ).loc Cert.BackReferenceIdeal.main_arg0)
          ∧ r.2.mem ((c.tc : Thread Cert.BackReferenceIdeal.nD Cert.BackReferenceIdeal.τ).loc Cert.BackReferenceIdeal.main_arg1) = m' ((c.tc : Thread Cert.BackReferenceIdeal.nD Cert.BackReferenceIdeal.τ).loc Cert.BackReferenceIdeal.main_arg1))

def preserves_FfdhKernel_FfdhKernelIdeal : Prop :=
  True

def algebraic_FfdhKernelIdeal_FfdhReferenceIdeal [hFfdhKernelIdeal : Cert.FfdhKernelIdeal.Facts] [hFfdhReferenceIdeal : Cert.FfdhReferenceIdeal.Facts] : Prop :=
  ∀ (m : (ℓ : Loc Cert.FfdhKernelIdeal.nD Cert.FfdhKernelIdeal.τ Cert.FfdhKernelIdeal.sig) → Buf (Elt Ideal) ℓ) (g : Dev Cert.FfdhKernelIdeal.nD → PrngReg)
    (m' : (ℓ : Loc Cert.FfdhReferenceIdeal.nD Cert.FfdhReferenceIdeal.τ Cert.FfdhReferenceIdeal.sig) → Buf (Elt Ideal) ℓ) (g' : Dev Cert.FfdhReferenceIdeal.nD → PrngReg), Pre_FfdhKernelIdeal m →
    (∀ c : Dev Cert.FfdhKernelIdeal.nD,
      m' ((c.tc : Thread Cert.FfdhReferenceIdeal.nD Cert.FfdhReferenceIdeal.τ).loc Cert.FfdhReferenceIdeal.main_arg0) = m ((c.tc : Thread Cert.FfdhKernelIdeal.nD Cert.FfdhKernelIdeal.τ).loc Cert.FfdhKernelIdeal.main_arg0)
      ∧ m' ((c.tc : Thread Cert.FfdhReferenceIdeal.nD Cert.FfdhReferenceIdeal.τ).loc Cert.FfdhReferenceIdeal.main_arg1) = m ((c.tc : Thread Cert.FfdhKernelIdeal.nD Cert.FfdhKernelIdeal.τ).loc Cert.FfdhKernelIdeal.main_arg1)
      ∧ m' ((c.tc : Thread Cert.FfdhReferenceIdeal.nD Cert.FfdhReferenceIdeal.τ).loc Cert.FfdhReferenceIdeal.main_arg2) = m ((c.tc : Thread Cert.FfdhKernelIdeal.nD Cert.FfdhKernelIdeal.τ).loc Cert.FfdhKernelIdeal.main_arg2)
      ∧ m' ((c.tc : Thread Cert.FfdhReferenceIdeal.nD Cert.FfdhReferenceIdeal.τ).loc Cert.FfdhReferenceIdeal.main_arg3) = m ((c.tc : Thread Cert.FfdhKernelIdeal.nD Cert.FfdhKernelIdeal.τ).loc Cert.FfdhKernelIdeal.main_arg3)) →
    ∃ (v0 : (c : Dev Cert.FfdhKernelIdeal.nD) → Buf (Elt Ideal) ((c.tc : Thread Cert.FfdhKernelIdeal.nD Cert.FfdhKernelIdeal.τ).loc Cert.FfdhKernelIdeal.main_v12)),
      θ_run (Cert.FfdhKernelIdeal.defs (F := Ideal)) (onTc (τ := Cert.FfdhKernelIdeal.τ) (Cert.FfdhKernelIdeal.main (F := Ideal))) ⟨m, fun _ => 0, g⟩ (fun r => ∀ c : Dev Cert.FfdhKernelIdeal.nD,
          r.2.mem ((c.tc : Thread Cert.FfdhKernelIdeal.nD Cert.FfdhKernelIdeal.τ).loc Cert.FfdhKernelIdeal.main_v12) = v0 c
          ∧ r.2.mem ((c.tc : Thread Cert.FfdhKernelIdeal.nD Cert.FfdhKernelIdeal.τ).loc Cert.FfdhKernelIdeal.main_arg0) = m ((c.tc : Thread Cert.FfdhKernelIdeal.nD Cert.FfdhKernelIdeal.τ).loc Cert.FfdhKernelIdeal.main_arg0)
          ∧ r.2.mem ((c.tc : Thread Cert.FfdhKernelIdeal.nD Cert.FfdhKernelIdeal.τ).loc Cert.FfdhKernelIdeal.main_arg1) = m ((c.tc : Thread Cert.FfdhKernelIdeal.nD Cert.FfdhKernelIdeal.τ).loc Cert.FfdhKernelIdeal.main_arg1)
          ∧ r.2.mem ((c.tc : Thread Cert.FfdhKernelIdeal.nD Cert.FfdhKernelIdeal.τ).loc Cert.FfdhKernelIdeal.main_arg2) = m ((c.tc : Thread Cert.FfdhKernelIdeal.nD Cert.FfdhKernelIdeal.τ).loc Cert.FfdhKernelIdeal.main_arg2)
          ∧ r.2.mem ((c.tc : Thread Cert.FfdhKernelIdeal.nD Cert.FfdhKernelIdeal.τ).loc Cert.FfdhKernelIdeal.main_arg3) = m ((c.tc : Thread Cert.FfdhKernelIdeal.nD Cert.FfdhKernelIdeal.τ).loc Cert.FfdhKernelIdeal.main_arg3))
      ∧ θ_run (Cert.FfdhReferenceIdeal.defs (F := Ideal)) (onTc (τ := Cert.FfdhReferenceIdeal.τ) (Cert.FfdhReferenceIdeal.main (F := Ideal))) ⟨m', fun _ => 0, g'⟩ (fun r => ∀ c : Dev Cert.FfdhReferenceIdeal.nD,
          r.2.mem ((c.tc : Thread Cert.FfdhReferenceIdeal.nD Cert.FfdhReferenceIdeal.τ).loc Cert.FfdhReferenceIdeal.main_v2) = v0 c
          ∧ r.2.mem ((c.tc : Thread Cert.FfdhReferenceIdeal.nD Cert.FfdhReferenceIdeal.τ).loc Cert.FfdhReferenceIdeal.main_arg0) = m' ((c.tc : Thread Cert.FfdhReferenceIdeal.nD Cert.FfdhReferenceIdeal.τ).loc Cert.FfdhReferenceIdeal.main_arg0)
          ∧ r.2.mem ((c.tc : Thread Cert.FfdhReferenceIdeal.nD Cert.FfdhReferenceIdeal.τ).loc Cert.FfdhReferenceIdeal.main_arg1) = m' ((c.tc : Thread Cert.FfdhReferenceIdeal.nD Cert.FfdhReferenceIdeal.τ).loc Cert.FfdhReferenceIdeal.main_arg1)
          ∧ r.2.mem ((c.tc : Thread Cert.FfdhReferenceIdeal.nD Cert.FfdhReferenceIdeal.τ).loc Cert.FfdhReferenceIdeal.main_arg2) = m' ((c.tc : Thread Cert.FfdhReferenceIdeal.nD Cert.FfdhReferenceIdeal.τ).loc Cert.FfdhReferenceIdeal.main_arg2)
          ∧ r.2.mem ((c.tc : Thread Cert.FfdhReferenceIdeal.nD Cert.FfdhReferenceIdeal.τ).loc Cert.FfdhReferenceIdeal.main_arg3) = m' ((c.tc : Thread Cert.FfdhReferenceIdeal.nD Cert.FfdhReferenceIdeal.τ).loc Cert.FfdhReferenceIdeal.main_arg3))

def preserves_SectKernel_SectKernelIdeal : Prop :=
  True

def algebraic_SectKernelIdeal_SectReferenceIdeal [hSectKernelIdeal : Cert.SectKernelIdeal.Facts] [hSectReferenceIdeal : Cert.SectReferenceIdeal.Facts] : Prop :=
  ∀ (m : (ℓ : Loc Cert.SectKernelIdeal.nD Cert.SectKernelIdeal.τ Cert.SectKernelIdeal.sig) → Buf (Elt Ideal) ℓ) (g : Dev Cert.SectKernelIdeal.nD → PrngReg)
    (m' : (ℓ : Loc Cert.SectReferenceIdeal.nD Cert.SectReferenceIdeal.τ Cert.SectReferenceIdeal.sig) → Buf (Elt Ideal) ℓ) (g' : Dev Cert.SectReferenceIdeal.nD → PrngReg), Pre_SectKernelIdeal m →
    (∀ c : Dev Cert.SectKernelIdeal.nD,
      m' ((c.tc : Thread Cert.SectReferenceIdeal.nD Cert.SectReferenceIdeal.τ).loc Cert.SectReferenceIdeal.main_arg0) = m ((c.tc : Thread Cert.SectKernelIdeal.nD Cert.SectKernelIdeal.τ).loc Cert.SectKernelIdeal.main_arg0)
      ∧ m' ((c.tc : Thread Cert.SectReferenceIdeal.nD Cert.SectReferenceIdeal.τ).loc Cert.SectReferenceIdeal.main_arg1) = m ((c.tc : Thread Cert.SectKernelIdeal.nD Cert.SectKernelIdeal.τ).loc Cert.SectKernelIdeal.main_arg1)) →
    ∃ (v0 : (c : Dev Cert.SectKernelIdeal.nD) → Buf (Elt Ideal) ((c.tc : Thread Cert.SectKernelIdeal.nD Cert.SectKernelIdeal.τ).loc Cert.SectKernelIdeal.main_v4)),
      θ_run (Cert.SectKernelIdeal.defs (F := Ideal)) (onTc (τ := Cert.SectKernelIdeal.τ) (Cert.SectKernelIdeal.main (F := Ideal))) ⟨m, fun _ => 0, g⟩ (fun r => ∀ c : Dev Cert.SectKernelIdeal.nD,
          r.2.mem ((c.tc : Thread Cert.SectKernelIdeal.nD Cert.SectKernelIdeal.τ).loc Cert.SectKernelIdeal.main_v4) = v0 c
          ∧ r.2.mem ((c.tc : Thread Cert.SectKernelIdeal.nD Cert.SectKernelIdeal.τ).loc Cert.SectKernelIdeal.main_arg0) = m ((c.tc : Thread Cert.SectKernelIdeal.nD Cert.SectKernelIdeal.τ).loc Cert.SectKernelIdeal.main_arg0)
          ∧ r.2.mem ((c.tc : Thread Cert.SectKernelIdeal.nD Cert.SectKernelIdeal.τ).loc Cert.SectKernelIdeal.main_arg1) = m ((c.tc : Thread Cert.SectKernelIdeal.nD Cert.SectKernelIdeal.τ).loc Cert.SectKernelIdeal.main_arg1))
      ∧ θ_run (Cert.SectReferenceIdeal.defs (F := Ideal)) (onTc (τ := Cert.SectReferenceIdeal.τ) (Cert.SectReferenceIdeal.main (F := Ideal))) ⟨m', fun _ => 0, g'⟩ (fun r => ∀ c : Dev Cert.SectReferenceIdeal.nD,
          r.2.mem ((c.tc : Thread Cert.SectReferenceIdeal.nD Cert.SectReferenceIdeal.τ).loc Cert.SectReferenceIdeal.main_v0) = v0 c
          ∧ r.2.mem ((c.tc : Thread Cert.SectReferenceIdeal.nD Cert.SectReferenceIdeal.τ).loc Cert.SectReferenceIdeal.main_arg0) = m' ((c.tc : Thread Cert.SectReferenceIdeal.nD Cert.SectReferenceIdeal.τ).loc Cert.SectReferenceIdeal.main_arg0)
          ∧ r.2.mem ((c.tc : Thread Cert.SectReferenceIdeal.nD Cert.SectReferenceIdeal.τ).loc Cert.SectReferenceIdeal.main_arg1) = m' ((c.tc : Thread Cert.SectReferenceIdeal.nD Cert.SectReferenceIdeal.τ).loc Cert.SectReferenceIdeal.main_arg1))

def preserves_WcolKernel_WcolKernelIdeal : Prop :=
  True

def algebraic_WcolKernelIdeal_WcolReferenceIdeal [hWcolKernelIdeal : Cert.WcolKernelIdeal.Facts] [hWcolReferenceIdeal : Cert.WcolReferenceIdeal.Facts] : Prop :=
  ∀ (m : (ℓ : Loc Cert.WcolKernelIdeal.nD Cert.WcolKernelIdeal.τ Cert.WcolKernelIdeal.sig) → Buf (Elt Ideal) ℓ) (g : Dev Cert.WcolKernelIdeal.nD → PrngReg)
    (m' : (ℓ : Loc Cert.WcolReferenceIdeal.nD Cert.WcolReferenceIdeal.τ Cert.WcolReferenceIdeal.sig) → Buf (Elt Ideal) ℓ) (g' : Dev Cert.WcolReferenceIdeal.nD → PrngReg), Pre_WcolKernelIdeal m →
    (∀ c : Dev Cert.WcolKernelIdeal.nD,
      m' ((c.tc : Thread Cert.WcolReferenceIdeal.nD Cert.WcolReferenceIdeal.τ).loc Cert.WcolReferenceIdeal.main_arg0) = m ((c.tc : Thread Cert.WcolKernelIdeal.nD Cert.WcolKernelIdeal.τ).loc Cert.WcolKernelIdeal.main_arg0)
      ∧ m' ((c.tc : Thread Cert.WcolReferenceIdeal.nD Cert.WcolReferenceIdeal.τ).loc Cert.WcolReferenceIdeal.main_arg1) = m ((c.tc : Thread Cert.WcolKernelIdeal.nD Cert.WcolKernelIdeal.τ).loc Cert.WcolKernelIdeal.main_arg1)
      ∧ m' ((c.tc : Thread Cert.WcolReferenceIdeal.nD Cert.WcolReferenceIdeal.τ).loc Cert.WcolReferenceIdeal.main_arg2) = m ((c.tc : Thread Cert.WcolKernelIdeal.nD Cert.WcolKernelIdeal.τ).loc Cert.WcolKernelIdeal.main_arg2)) →
    ∃ (v0 : (c : Dev Cert.WcolKernelIdeal.nD) → Buf (Elt Ideal) ((c.tc : Thread Cert.WcolKernelIdeal.nD Cert.WcolKernelIdeal.τ).loc Cert.WcolKernelIdeal.main_v7_0)) (v1 : (c : Dev Cert.WcolKernelIdeal.nD) → Buf (Elt Ideal) ((c.tc : Thread Cert.WcolKernelIdeal.nD Cert.WcolKernelIdeal.τ).loc Cert.WcolKernelIdeal.main_v7_1)),
      θ_run (Cert.WcolKernelIdeal.defs (F := Ideal)) (onTc (τ := Cert.WcolKernelIdeal.τ) (Cert.WcolKernelIdeal.main (F := Ideal))) ⟨m, fun _ => 0, g⟩ (fun r => ∀ c : Dev Cert.WcolKernelIdeal.nD,
          r.2.mem ((c.tc : Thread Cert.WcolKernelIdeal.nD Cert.WcolKernelIdeal.τ).loc Cert.WcolKernelIdeal.main_v7_0) = v0 c
          ∧ r.2.mem ((c.tc : Thread Cert.WcolKernelIdeal.nD Cert.WcolKernelIdeal.τ).loc Cert.WcolKernelIdeal.main_v7_1) = v1 c
          ∧ r.2.mem ((c.tc : Thread Cert.WcolKernelIdeal.nD Cert.WcolKernelIdeal.τ).loc Cert.WcolKernelIdeal.main_arg0) = m ((c.tc : Thread Cert.WcolKernelIdeal.nD Cert.WcolKernelIdeal.τ).loc Cert.WcolKernelIdeal.main_arg0)
          ∧ r.2.mem ((c.tc : Thread Cert.WcolKernelIdeal.nD Cert.WcolKernelIdeal.τ).loc Cert.WcolKernelIdeal.main_arg1) = m ((c.tc : Thread Cert.WcolKernelIdeal.nD Cert.WcolKernelIdeal.τ).loc Cert.WcolKernelIdeal.main_arg1)
          ∧ r.2.mem ((c.tc : Thread Cert.WcolKernelIdeal.nD Cert.WcolKernelIdeal.τ).loc Cert.WcolKernelIdeal.main_arg2) = m ((c.tc : Thread Cert.WcolKernelIdeal.nD Cert.WcolKernelIdeal.τ).loc Cert.WcolKernelIdeal.main_arg2))
      ∧ θ_run (Cert.WcolReferenceIdeal.defs (F := Ideal)) (onTc (τ := Cert.WcolReferenceIdeal.τ) (Cert.WcolReferenceIdeal.main (F := Ideal))) ⟨m', fun _ => 0, g'⟩ (fun r => ∀ c : Dev Cert.WcolReferenceIdeal.nD,
          r.2.mem ((c.tc : Thread Cert.WcolReferenceIdeal.nD Cert.WcolReferenceIdeal.τ).loc Cert.WcolReferenceIdeal.main_v5) = v0 c
          ∧ r.2.mem ((c.tc : Thread Cert.WcolReferenceIdeal.nD Cert.WcolReferenceIdeal.τ).loc Cert.WcolReferenceIdeal.main_v7) = v1 c
          ∧ r.2.mem ((c.tc : Thread Cert.WcolReferenceIdeal.nD Cert.WcolReferenceIdeal.τ).loc Cert.WcolReferenceIdeal.main_arg0) = m' ((c.tc : Thread Cert.WcolReferenceIdeal.nD Cert.WcolReferenceIdeal.τ).loc Cert.WcolReferenceIdeal.main_arg0)
          ∧ r.2.mem ((c.tc : Thread Cert.WcolReferenceIdeal.nD Cert.WcolReferenceIdeal.τ).loc Cert.WcolReferenceIdeal.main_arg1) = m' ((c.tc : Thread Cert.WcolReferenceIdeal.nD Cert.WcolReferenceIdeal.τ).loc Cert.WcolReferenceIdeal.main_arg1)
          ∧ r.2.mem ((c.tc : Thread Cert.WcolReferenceIdeal.nD Cert.WcolReferenceIdeal.τ).loc Cert.WcolReferenceIdeal.main_arg2) = m' ((c.tc : Thread Cert.WcolReferenceIdeal.nD Cert.WcolReferenceIdeal.τ).loc Cert.WcolReferenceIdeal.main_arg2))

def preserves_WrowKernel_WrowKernelIdeal : Prop :=
  True

def algebraic_WrowKernelIdeal_WrowReferenceIdeal [hWrowKernelIdeal : Cert.WrowKernelIdeal.Facts] [hWrowReferenceIdeal : Cert.WrowReferenceIdeal.Facts] : Prop :=
  ∀ (m : (ℓ : Loc Cert.WrowKernelIdeal.nD Cert.WrowKernelIdeal.τ Cert.WrowKernelIdeal.sig) → Buf (Elt Ideal) ℓ) (g : Dev Cert.WrowKernelIdeal.nD → PrngReg)
    (m' : (ℓ : Loc Cert.WrowReferenceIdeal.nD Cert.WrowReferenceIdeal.τ Cert.WrowReferenceIdeal.sig) → Buf (Elt Ideal) ℓ) (g' : Dev Cert.WrowReferenceIdeal.nD → PrngReg), Pre_WrowKernelIdeal m →
    (∀ c : Dev Cert.WrowKernelIdeal.nD,
      m' ((c.tc : Thread Cert.WrowReferenceIdeal.nD Cert.WrowReferenceIdeal.τ).loc Cert.WrowReferenceIdeal.main_arg0) = m ((c.tc : Thread Cert.WrowKernelIdeal.nD Cert.WrowKernelIdeal.τ).loc Cert.WrowKernelIdeal.main_arg0)
      ∧ m' ((c.tc : Thread Cert.WrowReferenceIdeal.nD Cert.WrowReferenceIdeal.τ).loc Cert.WrowReferenceIdeal.main_arg1) = m ((c.tc : Thread Cert.WrowKernelIdeal.nD Cert.WrowKernelIdeal.τ).loc Cert.WrowKernelIdeal.main_arg1)) →
    ∃ (v0 : (c : Dev Cert.WrowKernelIdeal.nD) → Buf (Elt Ideal) ((c.tc : Thread Cert.WrowKernelIdeal.nD Cert.WrowKernelIdeal.τ).loc Cert.WrowKernelIdeal.main_v4)),
      θ_run (Cert.WrowKernelIdeal.defs (F := Ideal)) (onTc (τ := Cert.WrowKernelIdeal.τ) (Cert.WrowKernelIdeal.main (F := Ideal))) ⟨m, fun _ => 0, g⟩ (fun r => ∀ c : Dev Cert.WrowKernelIdeal.nD,
          r.2.mem ((c.tc : Thread Cert.WrowKernelIdeal.nD Cert.WrowKernelIdeal.τ).loc Cert.WrowKernelIdeal.main_v4) = v0 c
          ∧ r.2.mem ((c.tc : Thread Cert.WrowKernelIdeal.nD Cert.WrowKernelIdeal.τ).loc Cert.WrowKernelIdeal.main_arg0) = m ((c.tc : Thread Cert.WrowKernelIdeal.nD Cert.WrowKernelIdeal.τ).loc Cert.WrowKernelIdeal.main_arg0)
          ∧ r.2.mem ((c.tc : Thread Cert.WrowKernelIdeal.nD Cert.WrowKernelIdeal.τ).loc Cert.WrowKernelIdeal.main_arg1) = m ((c.tc : Thread Cert.WrowKernelIdeal.nD Cert.WrowKernelIdeal.τ).loc Cert.WrowKernelIdeal.main_arg1))
      ∧ θ_run (Cert.WrowReferenceIdeal.defs (F := Ideal)) (onTc (τ := Cert.WrowReferenceIdeal.τ) (Cert.WrowReferenceIdeal.main (F := Ideal))) ⟨m', fun _ => 0, g'⟩ (fun r => ∀ c : Dev Cert.WrowReferenceIdeal.nD,
          r.2.mem ((c.tc : Thread Cert.WrowReferenceIdeal.nD Cert.WrowReferenceIdeal.τ).loc Cert.WrowReferenceIdeal.main_v2) = v0 c
          ∧ r.2.mem ((c.tc : Thread Cert.WrowReferenceIdeal.nD Cert.WrowReferenceIdeal.τ).loc Cert.WrowReferenceIdeal.main_arg0) = m' ((c.tc : Thread Cert.WrowReferenceIdeal.nD Cert.WrowReferenceIdeal.τ).loc Cert.WrowReferenceIdeal.main_arg0)
          ∧ r.2.mem ((c.tc : Thread Cert.WrowReferenceIdeal.nD Cert.WrowReferenceIdeal.τ).loc Cert.WrowReferenceIdeal.main_arg1) = m' ((c.tc : Thread Cert.WrowReferenceIdeal.nD Cert.WrowReferenceIdeal.τ).loc Cert.WrowReferenceIdeal.main_arg1))

def preserves_WstdKernel_WstdKernelIdeal : Prop :=
  True

def algebraic_WstdKernelIdeal_WstdReferenceIdeal [hWstdKernelIdeal : Cert.WstdKernelIdeal.Facts] [hWstdReferenceIdeal : Cert.WstdReferenceIdeal.Facts] : Prop :=
  ∀ (m : (ℓ : Loc Cert.WstdKernelIdeal.nD Cert.WstdKernelIdeal.τ Cert.WstdKernelIdeal.sig) → Buf (Elt Ideal) ℓ) (g : Dev Cert.WstdKernelIdeal.nD → PrngReg)
    (m' : (ℓ : Loc Cert.WstdReferenceIdeal.nD Cert.WstdReferenceIdeal.τ Cert.WstdReferenceIdeal.sig) → Buf (Elt Ideal) ℓ) (g' : Dev Cert.WstdReferenceIdeal.nD → PrngReg), Pre_WstdKernelIdeal m →
    (∀ c : Dev Cert.WstdKernelIdeal.nD,
      m' ((c.tc : Thread Cert.WstdReferenceIdeal.nD Cert.WstdReferenceIdeal.τ).loc Cert.WstdReferenceIdeal.main_arg0) = m ((c.tc : Thread Cert.WstdKernelIdeal.nD Cert.WstdKernelIdeal.τ).loc Cert.WstdKernelIdeal.main_arg0)
      ∧ m' ((c.tc : Thread Cert.WstdReferenceIdeal.nD Cert.WstdReferenceIdeal.τ).loc Cert.WstdReferenceIdeal.main_arg1) = m ((c.tc : Thread Cert.WstdKernelIdeal.nD Cert.WstdKernelIdeal.τ).loc Cert.WstdKernelIdeal.main_arg1)) →
    ∃ (v0 : (c : Dev Cert.WstdKernelIdeal.nD) → Buf (Elt Ideal) ((c.tc : Thread Cert.WstdKernelIdeal.nD Cert.WstdKernelIdeal.τ).loc Cert.WstdKernelIdeal.main_v2)),
      θ_run (Cert.WstdKernelIdeal.defs (F := Ideal)) (onTc (τ := Cert.WstdKernelIdeal.τ) (Cert.WstdKernelIdeal.main (F := Ideal))) ⟨m, fun _ => 0, g⟩ (fun r => ∀ c : Dev Cert.WstdKernelIdeal.nD,
          r.2.mem ((c.tc : Thread Cert.WstdKernelIdeal.nD Cert.WstdKernelIdeal.τ).loc Cert.WstdKernelIdeal.main_v2) = v0 c
          ∧ r.2.mem ((c.tc : Thread Cert.WstdKernelIdeal.nD Cert.WstdKernelIdeal.τ).loc Cert.WstdKernelIdeal.main_arg0) = m ((c.tc : Thread Cert.WstdKernelIdeal.nD Cert.WstdKernelIdeal.τ).loc Cert.WstdKernelIdeal.main_arg0)
          ∧ r.2.mem ((c.tc : Thread Cert.WstdKernelIdeal.nD Cert.WstdKernelIdeal.τ).loc Cert.WstdKernelIdeal.main_arg1) = m ((c.tc : Thread Cert.WstdKernelIdeal.nD Cert.WstdKernelIdeal.τ).loc Cert.WstdKernelIdeal.main_arg1))
      ∧ θ_run (Cert.WstdReferenceIdeal.defs (F := Ideal)) (onTc (τ := Cert.WstdReferenceIdeal.τ) (Cert.WstdReferenceIdeal.main (F := Ideal))) ⟨m', fun _ => 0, g'⟩ (fun r => ∀ c : Dev Cert.WstdReferenceIdeal.nD,
          r.2.mem ((c.tc : Thread Cert.WstdReferenceIdeal.nD Cert.WstdReferenceIdeal.τ).loc Cert.WstdReferenceIdeal.main_v1) = v0 c
          ∧ r.2.mem ((c.tc : Thread Cert.WstdReferenceIdeal.nD Cert.WstdReferenceIdeal.τ).loc Cert.WstdReferenceIdeal.main_arg0) = m' ((c.tc : Thread Cert.WstdReferenceIdeal.nD Cert.WstdReferenceIdeal.τ).loc Cert.WstdReferenceIdeal.main_arg0)
          ∧ r.2.mem ((c.tc : Thread Cert.WstdReferenceIdeal.nD Cert.WstdReferenceIdeal.τ).loc Cert.WstdReferenceIdeal.main_arg1) = m' ((c.tc : Thread Cert.WstdReferenceIdeal.nD Cert.WstdReferenceIdeal.τ).loc Cert.WstdReferenceIdeal.main_arg1))

def preserves_WsecKernel_WsecKernelIdeal : Prop :=
  True

def algebraic_WsecKernelIdeal_WsecReferenceIdeal [hWsecKernelIdeal : Cert.WsecKernelIdeal.Facts] [hWsecReferenceIdeal : Cert.WsecReferenceIdeal.Facts] : Prop :=
  ∀ (m : (ℓ : Loc Cert.WsecKernelIdeal.nD Cert.WsecKernelIdeal.τ Cert.WsecKernelIdeal.sig) → Buf (Elt Ideal) ℓ) (g : Dev Cert.WsecKernelIdeal.nD → PrngReg)
    (m' : (ℓ : Loc Cert.WsecReferenceIdeal.nD Cert.WsecReferenceIdeal.τ Cert.WsecReferenceIdeal.sig) → Buf (Elt Ideal) ℓ) (g' : Dev Cert.WsecReferenceIdeal.nD → PrngReg), Pre_WsecKernelIdeal m →
    (∀ c : Dev Cert.WsecKernelIdeal.nD,
      m' ((c.tc : Thread Cert.WsecReferenceIdeal.nD Cert.WsecReferenceIdeal.τ).loc Cert.WsecReferenceIdeal.main_arg0) = m ((c.tc : Thread Cert.WsecKernelIdeal.nD Cert.WsecKernelIdeal.τ).loc Cert.WsecKernelIdeal.main_arg0)
      ∧ m' ((c.tc : Thread Cert.WsecReferenceIdeal.nD Cert.WsecReferenceIdeal.τ).loc Cert.WsecReferenceIdeal.main_arg1) = m ((c.tc : Thread Cert.WsecKernelIdeal.nD Cert.WsecKernelIdeal.τ).loc Cert.WsecKernelIdeal.main_arg1)) →
    ∃ (v0 : (c : Dev Cert.WsecKernelIdeal.nD) → Buf (Elt Ideal) ((c.tc : Thread Cert.WsecKernelIdeal.nD Cert.WsecKernelIdeal.τ).loc Cert.WsecKernelIdeal.main_v4)),
      θ_run (Cert.WsecKernelIdeal.defs (F := Ideal)) (onTc (τ := Cert.WsecKernelIdeal.τ) (Cert.WsecKernelIdeal.main (F := Ideal))) ⟨m, fun _ => 0, g⟩ (fun r => ∀ c : Dev Cert.WsecKernelIdeal.nD,
          r.2.mem ((c.tc : Thread Cert.WsecKernelIdeal.nD Cert.WsecKernelIdeal.τ).loc Cert.WsecKernelIdeal.main_v4) = v0 c
          ∧ r.2.mem ((c.tc : Thread Cert.WsecKernelIdeal.nD Cert.WsecKernelIdeal.τ).loc Cert.WsecKernelIdeal.main_arg0) = m ((c.tc : Thread Cert.WsecKernelIdeal.nD Cert.WsecKernelIdeal.τ).loc Cert.WsecKernelIdeal.main_arg0)
          ∧ r.2.mem ((c.tc : Thread Cert.WsecKernelIdeal.nD Cert.WsecKernelIdeal.τ).loc Cert.WsecKernelIdeal.main_arg1) = m ((c.tc : Thread Cert.WsecKernelIdeal.nD Cert.WsecKernelIdeal.τ).loc Cert.WsecKernelIdeal.main_arg1))
      ∧ θ_run (Cert.WsecReferenceIdeal.defs (F := Ideal)) (onTc (τ := Cert.WsecReferenceIdeal.τ) (Cert.WsecReferenceIdeal.main (F := Ideal))) ⟨m', fun _ => 0, g'⟩ (fun r => ∀ c : Dev Cert.WsecReferenceIdeal.nD,
          r.2.mem ((c.tc : Thread Cert.WsecReferenceIdeal.nD Cert.WsecReferenceIdeal.τ).loc Cert.WsecReferenceIdeal.main_v3) = v0 c
          ∧ r.2.mem ((c.tc : Thread Cert.WsecReferenceIdeal.nD Cert.WsecReferenceIdeal.τ).loc Cert.WsecReferenceIdeal.main_arg0) = m' ((c.tc : Thread Cert.WsecReferenceIdeal.nD Cert.WsecReferenceIdeal.τ).loc Cert.WsecReferenceIdeal.main_arg0)
          ∧ r.2.mem ((c.tc : Thread Cert.WsecReferenceIdeal.nD Cert.WsecReferenceIdeal.τ).loc Cert.WsecReferenceIdeal.main_arg1) = m' ((c.tc : Thread Cert.WsecReferenceIdeal.nD Cert.WsecReferenceIdeal.τ).loc Cert.WsecReferenceIdeal.main_arg1))

def preserves_AdamKernel_AdamKernelIdeal : Prop :=
  True

def algebraic_AdamKernelIdeal_AdamReferenceIdeal [hAdamKernelIdeal : Cert.AdamKernelIdeal.Facts] [hAdamReferenceIdeal : Cert.AdamReferenceIdeal.Facts] : Prop :=
  ∀ (m : (ℓ : Loc Cert.AdamKernelIdeal.nD Cert.AdamKernelIdeal.τ Cert.AdamKernelIdeal.sig) → Buf (Elt Ideal) ℓ) (g : Dev Cert.AdamKernelIdeal.nD → PrngReg)
    (m' : (ℓ : Loc Cert.AdamReferenceIdeal.nD Cert.AdamReferenceIdeal.τ Cert.AdamReferenceIdeal.sig) → Buf (Elt Ideal) ℓ) (g' : Dev Cert.AdamReferenceIdeal.nD → PrngReg), Pre_AdamKernelIdeal m →
    (∀ c : Dev Cert.AdamKernelIdeal.nD,
      m' ((c.tc : Thread Cert.AdamReferenceIdeal.nD Cert.AdamReferenceIdeal.τ).loc Cert.AdamReferenceIdeal.main_arg0) = m ((c.tc : Thread Cert.AdamKernelIdeal.nD Cert.AdamKernelIdeal.τ).loc Cert.AdamKernelIdeal.main_arg0)
      ∧ m' ((c.tc : Thread Cert.AdamReferenceIdeal.nD Cert.AdamReferenceIdeal.τ).loc Cert.AdamReferenceIdeal.main_arg1) = m ((c.tc : Thread Cert.AdamKernelIdeal.nD Cert.AdamKernelIdeal.τ).loc Cert.AdamKernelIdeal.main_arg1)
      ∧ m' ((c.tc : Thread Cert.AdamReferenceIdeal.nD Cert.AdamReferenceIdeal.τ).loc Cert.AdamReferenceIdeal.main_arg2) = m ((c.tc : Thread Cert.AdamKernelIdeal.nD Cert.AdamKernelIdeal.τ).loc Cert.AdamKernelIdeal.main_arg2)
      ∧ m' ((c.tc : Thread Cert.AdamReferenceIdeal.nD Cert.AdamReferenceIdeal.τ).loc Cert.AdamReferenceIdeal.main_arg3) = m ((c.tc : Thread Cert.AdamKernelIdeal.nD Cert.AdamKernelIdeal.τ).loc Cert.AdamKernelIdeal.main_arg3)) →
    ∃ (v0 : (c : Dev Cert.AdamKernelIdeal.nD) → Buf (Elt Ideal) ((c.tc : Thread Cert.AdamKernelIdeal.nD Cert.AdamKernelIdeal.τ).loc Cert.AdamKernelIdeal.main_v0_0)) (v1 : (c : Dev Cert.AdamKernelIdeal.nD) → Buf (Elt Ideal) ((c.tc : Thread Cert.AdamKernelIdeal.nD Cert.AdamKernelIdeal.τ).loc Cert.AdamKernelIdeal.main_v0_1)) (v2 : (c : Dev Cert.AdamKernelIdeal.nD) → Buf (Elt Ideal) ((c.tc : Thread Cert.AdamKernelIdeal.nD Cert.AdamKernelIdeal.τ).loc Cert.AdamKernelIdeal.main_v0_2)),
      θ_run (Cert.AdamKernelIdeal.defs (F := Ideal)) (onTc (τ := Cert.AdamKernelIdeal.τ) (Cert.AdamKernelIdeal.main (F := Ideal))) ⟨m, fun _ => 0, g⟩ (fun r => ∀ c : Dev Cert.AdamKernelIdeal.nD,
          r.2.mem ((c.tc : Thread Cert.AdamKernelIdeal.nD Cert.AdamKernelIdeal.τ).loc Cert.AdamKernelIdeal.main_v0_0) = v0 c
          ∧ r.2.mem ((c.tc : Thread Cert.AdamKernelIdeal.nD Cert.AdamKernelIdeal.τ).loc Cert.AdamKernelIdeal.main_v0_1) = v1 c
          ∧ r.2.mem ((c.tc : Thread Cert.AdamKernelIdeal.nD Cert.AdamKernelIdeal.τ).loc Cert.AdamKernelIdeal.main_v0_2) = v2 c
          ∧ r.2.mem ((c.tc : Thread Cert.AdamKernelIdeal.nD Cert.AdamKernelIdeal.τ).loc Cert.AdamKernelIdeal.main_arg0) = m ((c.tc : Thread Cert.AdamKernelIdeal.nD Cert.AdamKernelIdeal.τ).loc Cert.AdamKernelIdeal.main_arg0)
          ∧ r.2.mem ((c.tc : Thread Cert.AdamKernelIdeal.nD Cert.AdamKernelIdeal.τ).loc Cert.AdamKernelIdeal.main_arg1) = m ((c.tc : Thread Cert.AdamKernelIdeal.nD Cert.AdamKernelIdeal.τ).loc Cert.AdamKernelIdeal.main_arg1)
          ∧ r.2.mem ((c.tc : Thread Cert.AdamKernelIdeal.nD Cert.AdamKernelIdeal.τ).loc Cert.AdamKernelIdeal.main_arg2) = m ((c.tc : Thread Cert.AdamKernelIdeal.nD Cert.AdamKernelIdeal.τ).loc Cert.AdamKernelIdeal.main_arg2)
          ∧ r.2.mem ((c.tc : Thread Cert.AdamKernelIdeal.nD Cert.AdamKernelIdeal.τ).loc Cert.AdamKernelIdeal.main_arg3) = m ((c.tc : Thread Cert.AdamKernelIdeal.nD Cert.AdamKernelIdeal.τ).loc Cert.AdamKernelIdeal.main_arg3))
      ∧ θ_run (Cert.AdamReferenceIdeal.defs (F := Ideal)) (onTc (τ := Cert.AdamReferenceIdeal.τ) (Cert.AdamReferenceIdeal.main (F := Ideal))) ⟨m', fun _ => 0, g'⟩ (fun r => ∀ c : Dev Cert.AdamReferenceIdeal.nD,
          r.2.mem ((c.tc : Thread Cert.AdamReferenceIdeal.nD Cert.AdamReferenceIdeal.τ).loc Cert.AdamReferenceIdeal.main_v23) = v0 c
          ∧ r.2.mem ((c.tc : Thread Cert.AdamReferenceIdeal.nD Cert.AdamReferenceIdeal.τ).loc Cert.AdamReferenceIdeal.main_v4) = v1 c
          ∧ r.2.mem ((c.tc : Thread Cert.AdamReferenceIdeal.nD Cert.AdamReferenceIdeal.τ).loc Cert.AdamReferenceIdeal.main_v10) = v2 c
          ∧ r.2.mem ((c.tc : Thread Cert.AdamReferenceIdeal.nD Cert.AdamReferenceIdeal.τ).loc Cert.AdamReferenceIdeal.main_arg0) = m' ((c.tc : Thread Cert.AdamReferenceIdeal.nD Cert.AdamReferenceIdeal.τ).loc Cert.AdamReferenceIdeal.main_arg0)
          ∧ r.2.mem ((c.tc : Thread Cert.AdamReferenceIdeal.nD Cert.AdamReferenceIdeal.τ).loc Cert.AdamReferenceIdeal.main_arg1) = m' ((c.tc : Thread Cert.AdamReferenceIdeal.nD Cert.AdamReferenceIdeal.τ).loc Cert.AdamReferenceIdeal.main_arg1)
          ∧ r.2.mem ((c.tc : Thread Cert.AdamReferenceIdeal.nD Cert.AdamReferenceIdeal.τ).loc Cert.AdamReferenceIdeal.main_arg2) = m' ((c.tc : Thread Cert.AdamReferenceIdeal.nD Cert.AdamReferenceIdeal.τ).loc Cert.AdamReferenceIdeal.main_arg2)
          ∧ r.2.mem ((c.tc : Thread Cert.AdamReferenceIdeal.nD Cert.AdamReferenceIdeal.τ).loc Cert.AdamReferenceIdeal.main_arg3) = m' ((c.tc : Thread Cert.AdamReferenceIdeal.nD Cert.AdamReferenceIdeal.τ).loc Cert.AdamReferenceIdeal.main_arg3))

def preserves_ChipKernel_ChipKernelIdeal : Prop :=
  True

def algebraic_ChipKernelIdeal_ChipReferenceIdeal [hChipKernelIdeal : Cert.ChipKernelIdeal.Facts] [hChipReferenceIdeal : Cert.ChipReferenceIdeal.Facts] [hPre_chip_core : Cert.Pre_chip_core.Facts] : Prop :=
  ∀ (m : (ℓ : Loc Cert.ChipKernelIdeal.nD Cert.ChipKernelIdeal.τ Cert.ChipKernelIdeal.sig) → Buf (Elt Ideal) ℓ) (g : Dev Cert.ChipKernelIdeal.nD → PrngReg)
    (m' : (ℓ : Loc Cert.ChipReferenceIdeal.nD Cert.ChipReferenceIdeal.τ Cert.ChipReferenceIdeal.sig) → Buf (Elt Ideal) ℓ) (g' : Dev Cert.ChipReferenceIdeal.nD → PrngReg), Pre_ChipKernelIdeal m →
    (∀ c : Dev Cert.ChipKernelIdeal.nD,
      m' ((c.tc : Thread Cert.ChipReferenceIdeal.nD Cert.ChipReferenceIdeal.τ).loc Cert.ChipReferenceIdeal.main_arg0) = m ((c.tc : Thread Cert.ChipKernelIdeal.nD Cert.ChipKernelIdeal.τ).loc Cert.ChipKernelIdeal.main_arg0)
      ∧ m' ((c.tc : Thread Cert.ChipReferenceIdeal.nD Cert.ChipReferenceIdeal.τ).loc Cert.ChipReferenceIdeal.main_arg1) = m ((c.tc : Thread Cert.ChipKernelIdeal.nD Cert.ChipKernelIdeal.τ).loc Cert.ChipKernelIdeal.main_arg1)
      ∧ m' ((c.tc : Thread Cert.ChipReferenceIdeal.nD Cert.ChipReferenceIdeal.τ).loc Cert.ChipReferenceIdeal.main_arg2) = m ((c.tc : Thread Cert.ChipKernelIdeal.nD Cert.ChipKernelIdeal.τ).loc Cert.ChipKernelIdeal.main_arg2)) →
    ∃ (v0 : (c : Dev Cert.ChipKernelIdeal.nD) → Buf (Elt Ideal) ((c.tc : Thread Cert.ChipKernelIdeal.nD Cert.ChipKernelIdeal.τ).loc Cert.ChipKernelIdeal.main_v0)),
      θ_run (Cert.ChipKernelIdeal.defs (F := Ideal)) (onTc (τ := Cert.ChipKernelIdeal.τ) (Cert.ChipKernelIdeal.main (F := Ideal))) ⟨m, fun _ => 0, g⟩ (fun r => ∀ c : Dev Cert.ChipKernelIdeal.nD,
          r.2.mem ((c.tc : Thread Cert.ChipKernelIdeal.nD Cert.ChipKernelIdeal.τ).loc Cert.ChipKernelIdeal.main_v0) = v0 c
          ∧ r.2.mem ((c.tc : Thread Cert.ChipKernelIdeal.nD Cert.ChipKernelIdeal.τ).loc Cert.ChipKernelIdeal.main_arg0) = m ((c.tc : Thread Cert.ChipKernelIdeal.nD Cert.ChipKernelIdeal.τ).loc Cert.ChipKernelIdeal.main_arg0)
          ∧ r.2.mem ((c.tc : Thread Cert.ChipKernelIdeal.nD Cert.ChipKernelIdeal.τ).loc Cert.ChipKernelIdeal.main_arg1) = m ((c.tc : Thread Cert.ChipKernelIdeal.nD Cert.ChipKernelIdeal.τ).loc Cert.ChipKernelIdeal.main_arg1)
          ∧ r.2.mem ((c.tc : Thread Cert.ChipKernelIdeal.nD Cert.ChipKernelIdeal.τ).loc Cert.ChipKernelIdeal.main_arg2) = m ((c.tc : Thread Cert.ChipKernelIdeal.nD Cert.ChipKernelIdeal.τ).loc Cert.ChipKernelIdeal.main_arg2))
      ∧ θ_run (Cert.ChipReferenceIdeal.defs (F := Ideal)) (onTc (τ := Cert.ChipReferenceIdeal.τ) (Cert.ChipReferenceIdeal.main (F := Ideal))) ⟨m', fun _ => 0, g'⟩ (fun r => ∀ c : Dev Cert.ChipReferenceIdeal.nD,
          r.2.mem ((c.tc : Thread Cert.ChipReferenceIdeal.nD Cert.ChipReferenceIdeal.τ).loc Cert.ChipReferenceIdeal.main_v6) = v0 c
          ∧ r.2.mem ((c.tc : Thread Cert.ChipReferenceIdeal.nD Cert.ChipReferenceIdeal.τ).loc Cert.ChipReferenceIdeal.main_arg0) = m' ((c.tc : Thread Cert.ChipReferenceIdeal.nD Cert.ChipReferenceIdeal.τ).loc Cert.ChipReferenceIdeal.main_arg0)
          ∧ r.2.mem ((c.tc : Thread Cert.ChipReferenceIdeal.nD Cert.ChipReferenceIdeal.τ).loc Cert.ChipReferenceIdeal.main_arg1) = m' ((c.tc : Thread Cert.ChipReferenceIdeal.nD Cert.ChipReferenceIdeal.τ).loc Cert.ChipReferenceIdeal.main_arg1)
          ∧ r.2.mem ((c.tc : Thread Cert.ChipReferenceIdeal.nD Cert.ChipReferenceIdeal.τ).loc Cert.ChipReferenceIdeal.main_arg2) = m' ((c.tc : Thread Cert.ChipReferenceIdeal.nD Cert.ChipReferenceIdeal.τ).loc Cert.ChipReferenceIdeal.main_arg2))

def preserves_UpdKernel_UpdKernelIdeal : Prop :=
  True

def algebraic_UpdKernelIdeal_UpdReferenceIdeal [hUpdKernelIdeal : Cert.UpdKernelIdeal.Facts] [hUpdReferenceIdeal : Cert.UpdReferenceIdeal.Facts] [hPre_upd_chip : Cert.Pre_upd_chip.Facts] : Prop :=
  ∀ (m : (ℓ : Loc Cert.UpdKernelIdeal.nD Cert.UpdKernelIdeal.τ Cert.UpdKernelIdeal.sig) → Buf (Elt Ideal) ℓ) (g : Dev Cert.UpdKernelIdeal.nD → PrngReg)
    (m' : (ℓ : Loc Cert.UpdReferenceIdeal.nD Cert.UpdReferenceIdeal.τ Cert.UpdReferenceIdeal.sig) → Buf (Elt Ideal) ℓ) (g' : Dev Cert.UpdReferenceIdeal.nD → PrngReg), Pre_UpdKernelIdeal m →
    (∀ c : Dev Cert.UpdKernelIdeal.nD,
      m' ((c.tc : Thread Cert.UpdReferenceIdeal.nD Cert.UpdReferenceIdeal.τ).loc Cert.UpdReferenceIdeal.main_arg0) = m ((c.tc : Thread Cert.UpdKernelIdeal.nD Cert.UpdKernelIdeal.τ).loc Cert.UpdKernelIdeal.main_arg0)
      ∧ m' ((c.tc : Thread Cert.UpdReferenceIdeal.nD Cert.UpdReferenceIdeal.τ).loc Cert.UpdReferenceIdeal.main_arg1) = m ((c.tc : Thread Cert.UpdKernelIdeal.nD Cert.UpdKernelIdeal.τ).loc Cert.UpdKernelIdeal.main_arg1)
      ∧ m' ((c.tc : Thread Cert.UpdReferenceIdeal.nD Cert.UpdReferenceIdeal.τ).loc Cert.UpdReferenceIdeal.main_arg2) = m ((c.tc : Thread Cert.UpdKernelIdeal.nD Cert.UpdKernelIdeal.τ).loc Cert.UpdKernelIdeal.main_arg2)
      ∧ m' ((c.tc : Thread Cert.UpdReferenceIdeal.nD Cert.UpdReferenceIdeal.τ).loc Cert.UpdReferenceIdeal.main_arg3) = m ((c.tc : Thread Cert.UpdKernelIdeal.nD Cert.UpdKernelIdeal.τ).loc Cert.UpdKernelIdeal.main_arg3)
      ∧ m' ((c.tc : Thread Cert.UpdReferenceIdeal.nD Cert.UpdReferenceIdeal.τ).loc Cert.UpdReferenceIdeal.main_arg4) = m ((c.tc : Thread Cert.UpdKernelIdeal.nD Cert.UpdKernelIdeal.τ).loc Cert.UpdKernelIdeal.main_arg4)
      ∧ m' ((c.tc : Thread Cert.UpdReferenceIdeal.nD Cert.UpdReferenceIdeal.τ).loc Cert.UpdReferenceIdeal.main_arg5) = m ((c.tc : Thread Cert.UpdKernelIdeal.nD Cert.UpdKernelIdeal.τ).loc Cert.UpdKernelIdeal.main_arg5)) →
    ∃ (v0 : (c : Dev Cert.UpdKernelIdeal.nD) → Buf (Elt Ideal) ((c.tc : Thread Cert.UpdKernelIdeal.nD Cert.UpdKernelIdeal.τ).loc Cert.UpdKernelIdeal.main_v0_0)) (v1 : (c : Dev Cert.UpdKernelIdeal.nD) → Buf (Elt Ideal) ((c.tc : Thread Cert.UpdKernelIdeal.nD Cert.UpdKernelIdeal.τ).loc Cert.UpdKernelIdeal.main_v0_1)) (v2 : (c : Dev Cert.UpdKernelIdeal.nD) → Buf (Elt Ideal) ((c.tc : Thread Cert.UpdKernelIdeal.nD Cert.UpdKernelIdeal.τ).loc Cert.UpdKernelIdeal.main_v0_2)) (v3 : (c : Dev Cert.UpdKernelIdeal.nD) → Buf (Elt Ideal) ((c.tc : Thread Cert.UpdKernelIdeal.nD Cert.UpdKernelIdeal.τ).loc Cert.UpdKernelIdeal.main_v0_3)),
      θ_run (Cert.UpdKernelIdeal.defs (F := Ideal)) (onTc (τ := Cert.UpdKernelIdeal.τ) (Cert.UpdKernelIdeal.main (F := Ideal))) ⟨m, fun _ => 0, g⟩ (fun r => ∀ c : Dev Cert.UpdKernelIdeal.nD,
          r.2.mem ((c.tc : Thread Cert.UpdKernelIdeal.nD Cert.UpdKernelIdeal.τ).loc Cert.UpdKernelIdeal.main_v0_0) = v0 c
          ∧ r.2.mem ((c.tc : Thread Cert.UpdKernelIdeal.nD Cert.UpdKernelIdeal.τ).loc Cert.UpdKernelIdeal.main_v0_1) = v1 c
          ∧ r.2.mem ((c.tc : Thread Cert.UpdKernelIdeal.nD Cert.UpdKernelIdeal.τ).loc Cert.UpdKernelIdeal.main_v0_2) = v2 c
          ∧ r.2.mem ((c.tc : Thread Cert.UpdKernelIdeal.nD Cert.UpdKernelIdeal.τ).loc Cert.UpdKernelIdeal.main_v0_3) = v3 c
          ∧ r.2.mem ((c.tc : Thread Cert.UpdKernelIdeal.nD Cert.UpdKernelIdeal.τ).loc Cert.UpdKernelIdeal.main_arg0) = m ((c.tc : Thread Cert.UpdKernelIdeal.nD Cert.UpdKernelIdeal.τ).loc Cert.UpdKernelIdeal.main_arg0)
          ∧ r.2.mem ((c.tc : Thread Cert.UpdKernelIdeal.nD Cert.UpdKernelIdeal.τ).loc Cert.UpdKernelIdeal.main_arg1) = m ((c.tc : Thread Cert.UpdKernelIdeal.nD Cert.UpdKernelIdeal.τ).loc Cert.UpdKernelIdeal.main_arg1)
          ∧ r.2.mem ((c.tc : Thread Cert.UpdKernelIdeal.nD Cert.UpdKernelIdeal.τ).loc Cert.UpdKernelIdeal.main_arg2) = m ((c.tc : Thread Cert.UpdKernelIdeal.nD Cert.UpdKernelIdeal.τ).loc Cert.UpdKernelIdeal.main_arg2)
          ∧ r.2.mem ((c.tc : Thread Cert.UpdKernelIdeal.nD Cert.UpdKernelIdeal.τ).loc Cert.UpdKernelIdeal.main_arg3) = m ((c.tc : Thread Cert.UpdKernelIdeal.nD Cert.UpdKernelIdeal.τ).loc Cert.UpdKernelIdeal.main_arg3)
          ∧ r.2.mem ((c.tc : Thread Cert.UpdKernelIdeal.nD Cert.UpdKernelIdeal.τ).loc Cert.UpdKernelIdeal.main_arg4) = m ((c.tc : Thread Cert.UpdKernelIdeal.nD Cert.UpdKernelIdeal.τ).loc Cert.UpdKernelIdeal.main_arg4)
          ∧ r.2.mem ((c.tc : Thread Cert.UpdKernelIdeal.nD Cert.UpdKernelIdeal.τ).loc Cert.UpdKernelIdeal.main_arg5) = m ((c.tc : Thread Cert.UpdKernelIdeal.nD Cert.UpdKernelIdeal.τ).loc Cert.UpdKernelIdeal.main_arg5))
      ∧ θ_run (Cert.UpdReferenceIdeal.defs (F := Ideal)) (onTc (τ := Cert.UpdReferenceIdeal.τ) (Cert.UpdReferenceIdeal.main (F := Ideal))) ⟨m', fun _ => 0, g'⟩ (fun r => ∀ c : Dev Cert.UpdReferenceIdeal.nD,
          r.2.mem ((c.tc : Thread Cert.UpdReferenceIdeal.nD Cert.UpdReferenceIdeal.τ).loc Cert.UpdReferenceIdeal.main_v7) = v0 c
          ∧ r.2.mem ((c.tc : Thread Cert.UpdReferenceIdeal.nD Cert.UpdReferenceIdeal.τ).loc Cert.UpdReferenceIdeal.main_v31) = v1 c
          ∧ r.2.mem ((c.tc : Thread Cert.UpdReferenceIdeal.nD Cert.UpdReferenceIdeal.τ).loc Cert.UpdReferenceIdeal.main_v12) = v2 c
          ∧ r.2.mem ((c.tc : Thread Cert.UpdReferenceIdeal.nD Cert.UpdReferenceIdeal.τ).loc Cert.UpdReferenceIdeal.main_v18) = v3 c
          ∧ r.2.mem ((c.tc : Thread Cert.UpdReferenceIdeal.nD Cert.UpdReferenceIdeal.τ).loc Cert.UpdReferenceIdeal.main_arg0) = m' ((c.tc : Thread Cert.UpdReferenceIdeal.nD Cert.UpdReferenceIdeal.τ).loc Cert.UpdReferenceIdeal.main_arg0)
          ∧ r.2.mem ((c.tc : Thread Cert.UpdReferenceIdeal.nD Cert.UpdReferenceIdeal.τ).loc Cert.UpdReferenceIdeal.main_arg1) = m' ((c.tc : Thread Cert.UpdReferenceIdeal.nD Cert.UpdReferenceIdeal.τ).loc Cert.UpdReferenceIdeal.main_arg1)
          ∧ r.2.mem ((c.tc : Thread Cert.UpdReferenceIdeal.nD Cert.UpdReferenceIdeal.τ).loc Cert.UpdReferenceIdeal.main_arg2) = m' ((c.tc : Thread Cert.UpdReferenceIdeal.nD Cert.UpdReferenceIdeal.τ).loc Cert.UpdReferenceIdeal.main_arg2)
          ∧ r.2.mem ((c.tc : Thread Cert.UpdReferenceIdeal.nD Cert.UpdReferenceIdeal.τ).loc Cert.UpdReferenceIdeal.main_arg3) = m' ((c.tc : Thread Cert.UpdReferenceIdeal.nD Cert.UpdReferenceIdeal.τ).loc Cert.UpdReferenceIdeal.main_arg3)
          ∧ r.2.mem ((c.tc : Thread Cert.UpdReferenceIdeal.nD Cert.UpdReferenceIdeal.τ).loc Cert.UpdReferenceIdeal.main_arg4) = m' ((c.tc : Thread Cert.UpdReferenceIdeal.nD Cert.UpdReferenceIdeal.τ).loc Cert.UpdReferenceIdeal.main_arg4)
          ∧ r.2.mem ((c.tc : Thread Cert.UpdReferenceIdeal.nD Cert.UpdReferenceIdeal.τ).loc Cert.UpdReferenceIdeal.main_arg5) = m' ((c.tc : Thread Cert.UpdReferenceIdeal.nD Cert.UpdReferenceIdeal.τ).loc Cert.UpdReferenceIdeal.main_arg5))

def Claim : Prop :=
  ∃ (hLossKernel : Cert.LossKernel.Facts) (hLossKernelIdeal : Cert.LossKernelIdeal.Facts) (hLossReferenceIdeal : Cert.LossReferenceIdeal.Facts) (hNormKernel : Cert.NormKernel.Facts) (hNormKernelIdeal : Cert.NormKernelIdeal.Facts) (hNormReferenceIdeal : Cert.NormReferenceIdeal.Facts) (hRmsKernel : Cert.RmsKernel.Facts) (hRmsKernelIdeal : Cert.RmsKernelIdeal.Facts) (hRmsReferenceIdeal : Cert.RmsReferenceIdeal.Facts) (hGateKernel : Cert.GateKernel.Facts) (hGateKernelIdeal : Cert.GateKernelIdeal.Facts) (hGateReferenceIdeal : Cert.GateReferenceIdeal.Facts) (hConvKernel : Cert.ConvKernel.Facts) (hConvKernelIdeal : Cert.ConvKernelIdeal.Facts) (hConvReferenceIdeal : Cert.ConvReferenceIdeal.Facts) (hMixKernel : Cert.MixKernel.Facts) (hMixKernelIdeal : Cert.MixKernelIdeal.Facts) (hMixReferenceIdeal : Cert.MixReferenceIdeal.Facts) (hPoolKernel : Cert.PoolKernel.Facts) (hPoolKernelIdeal : Cert.PoolKernelIdeal.Facts) (hPoolReferenceIdeal : Cert.PoolReferenceIdeal.Facts) (hAttnKernel : Cert.AttnKernel.Facts) (hAttnKernelIdeal : Cert.AttnKernelIdeal.Facts) (hAttnReferenceIdeal : Cert.AttnReferenceIdeal.Facts) (hProjKernel : Cert.ProjKernel.Facts) (hProjKernelIdeal : Cert.ProjKernelIdeal.Facts) (hProjReferenceIdeal : Cert.ProjReferenceIdeal.Facts) (hResKernel : Cert.ResKernel.Facts) (hResKernelIdeal : Cert.ResKernelIdeal.Facts) (hResReferenceIdeal : Cert.ResReferenceIdeal.Facts) (hDownKernel : Cert.DownKernel.Facts) (hDownKernelIdeal : Cert.DownKernelIdeal.Facts) (hDownReferenceIdeal : Cert.DownReferenceIdeal.Facts) (hBackKernel : Cert.BackKernel.Facts) (hBackKernelIdeal : Cert.BackKernelIdeal.Facts) (hBackReferenceIdeal : Cert.BackReferenceIdeal.Facts) (hFfdhKernel : Cert.FfdhKernel.Facts) (hFfdhKernelIdeal : Cert.FfdhKernelIdeal.Facts) (hFfdhReferenceIdeal : Cert.FfdhReferenceIdeal.Facts) (hSectKernel : Cert.SectKernel.Facts) (hSectKernelIdeal : Cert.SectKernelIdeal.Facts) (hSectReferenceIdeal : Cert.SectReferenceIdeal.Facts) (hWcolKernel : Cert.WcolKernel.Facts) (hWcolKernelIdeal : Cert.WcolKernelIdeal.Facts) (hWcolReferenceIdeal : Cert.WcolReferenceIdeal.Facts) (hWrowKernel : Cert.WrowKernel.Facts) (hWrowKernelIdeal : Cert.WrowKernelIdeal.Facts) (hWrowReferenceIdeal : Cert.WrowReferenceIdeal.Facts) (hWstdKernel : Cert.WstdKernel.Facts) (hWstdKernelIdeal : Cert.WstdKernelIdeal.Facts) (hWstdReferenceIdeal : Cert.WstdReferenceIdeal.Facts) (hWsecKernel : Cert.WsecKernel.Facts) (hWsecKernelIdeal : Cert.WsecKernelIdeal.Facts) (hWsecReferenceIdeal : Cert.WsecReferenceIdeal.Facts) (hAdamKernel : Cert.AdamKernel.Facts) (hAdamKernelIdeal : Cert.AdamKernelIdeal.Facts) (hAdamReferenceIdeal : Cert.AdamReferenceIdeal.Facts) (hChipKernel : Cert.ChipKernel.Facts) (hChipKernelIdeal : Cert.ChipKernelIdeal.Facts) (hChipReferenceIdeal : Cert.ChipReferenceIdeal.Facts) (hUpdKernel : Cert.UpdKernel.Facts) (hUpdKernelIdeal : Cert.UpdKernelIdeal.Facts) (hUpdReferenceIdeal : Cert.UpdReferenceIdeal.Facts) (hPre_gate_finite : Cert.Pre_gate_finite.Facts) (hPre_pool_finite : Cert.Pre_pool_finite.Facts) (hPre_attn_finite : Cert.Pre_attn_finite.Facts) (hPre_chip_core : Cert.Pre_chip_core.Facts) (hPre_upd_chip : Cert.Pre_upd_chip.Facts),
    quiescent_LossKernel (hLossKernel := hLossKernel)
    ∧ quiescent_LossKernelIdeal (hLossKernelIdeal := hLossKernelIdeal)
    ∧ quiescent_LossReferenceIdeal (hLossReferenceIdeal := hLossReferenceIdeal)
    ∧ quiescent_NormKernel (hNormKernel := hNormKernel)
    ∧ quiescent_NormKernelIdeal (hNormKernelIdeal := hNormKernelIdeal)
    ∧ quiescent_NormReferenceIdeal (hNormReferenceIdeal := hNormReferenceIdeal)
    ∧ quiescent_RmsKernel (hRmsKernel := hRmsKernel)
    ∧ quiescent_RmsKernelIdeal (hRmsKernelIdeal := hRmsKernelIdeal)
    ∧ quiescent_RmsReferenceIdeal (hRmsReferenceIdeal := hRmsReferenceIdeal)
    ∧ quiescent_GateKernel (hGateKernel := hGateKernel)
    ∧ quiescent_GateKernelIdeal (hGateKernelIdeal := hGateKernelIdeal)
    ∧ quiescent_GateKernelIdeal_pre_gate_finite (hGateKernelIdeal := hGateKernelIdeal) (hPre_gate_finite := hPre_gate_finite)
    ∧ quiescent_GateReferenceIdeal (hGateReferenceIdeal := hGateReferenceIdeal)
    ∧ quiescent_GateReferenceIdeal_pre_gate_finite (hGateReferenceIdeal := hGateReferenceIdeal) (hPre_gate_finite := hPre_gate_finite)
    ∧ quiescent_ConvKernel (hConvKernel := hConvKernel)
    ∧ quiescent_ConvKernelIdeal (hConvKernelIdeal := hConvKernelIdeal)
    ∧ quiescent_ConvReferenceIdeal (hConvReferenceIdeal := hConvReferenceIdeal)
    ∧ quiescent_MixKernel (hMixKernel := hMixKernel)
    ∧ quiescent_MixKernelIdeal (hMixKernelIdeal := hMixKernelIdeal)
    ∧ quiescent_MixReferenceIdeal (hMixReferenceIdeal := hMixReferenceIdeal)
    ∧ quiescent_PoolKernel (hPoolKernel := hPoolKernel)
    ∧ quiescent_PoolKernelIdeal (hPoolKernelIdeal := hPoolKernelIdeal)
    ∧ quiescent_PoolKernelIdeal_pre_pool_finite (hPoolKernelIdeal := hPoolKernelIdeal) (hPre_pool_finite := hPre_pool_finite)
    ∧ quiescent_PoolReferenceIdeal (hPoolReferenceIdeal := hPoolReferenceIdeal)
    ∧ quiescent_PoolReferenceIdeal_pre_pool_finite (hPoolReferenceIdeal := hPoolReferenceIdeal) (hPre_pool_finite := hPre_pool_finite)
    ∧ quiescent_AttnKernel (hAttnKernel := hAttnKernel)
    ∧ quiescent_AttnKernelIdeal (hAttnKernelIdeal := hAttnKernelIdeal)
    ∧ quiescent_AttnKernelIdeal_pre_attn_finite (hAttnKernelIdeal := hAttnKernelIdeal) (hPre_attn_finite := hPre_attn_finite)
    ∧ quiescent_AttnReferenceIdeal (hAttnReferenceIdeal := hAttnReferenceIdeal)
    ∧ quiescent_AttnReferenceIdeal_pre_attn_finite (hAttnReferenceIdeal := hAttnReferenceIdeal) (hPre_attn_finite := hPre_attn_finite)
    ∧ quiescent_ProjKernel (hProjKernel := hProjKernel)
    ∧ quiescent_ProjKernelIdeal (hProjKernelIdeal := hProjKernelIdeal)
    ∧ quiescent_ProjReferenceIdeal (hProjReferenceIdeal := hProjReferenceIdeal)
    ∧ quiescent_ResKernel (hResKernel := hResKernel)
    ∧ quiescent_ResKernelIdeal (hResKernelIdeal := hResKernelIdeal)
    ∧ quiescent_ResReferenceIdeal (hResReferenceIdeal := hResReferenceIdeal)
    ∧ quiescent_DownKernel (hDownKernel := hDownKernel)
    ∧ quiescent_DownKernelIdeal (hDownKernelIdeal := hDownKernelIdeal)
    ∧ quiescent_DownReferenceIdeal (hDownReferenceIdeal := hDownReferenceIdeal)
    ∧ quiescent_BackKernel (hBackKernel := hBackKernel)
    ∧ quiescent_BackKernelIdeal (hBackKernelIdeal := hBackKernelIdeal)
    ∧ quiescent_BackReferenceIdeal (hBackReferenceIdeal := hBackReferenceIdeal)
    ∧ quiescent_FfdhKernel (hFfdhKernel := hFfdhKernel)
    ∧ quiescent_FfdhKernelIdeal (hFfdhKernelIdeal := hFfdhKernelIdeal)
    ∧ quiescent_FfdhReferenceIdeal (hFfdhReferenceIdeal := hFfdhReferenceIdeal)
    ∧ quiescent_SectKernel (hSectKernel := hSectKernel)
    ∧ quiescent_SectKernelIdeal (hSectKernelIdeal := hSectKernelIdeal)
    ∧ quiescent_SectReferenceIdeal (hSectReferenceIdeal := hSectReferenceIdeal)
    ∧ quiescent_WcolKernel (hWcolKernel := hWcolKernel)
    ∧ quiescent_WcolKernelIdeal (hWcolKernelIdeal := hWcolKernelIdeal)
    ∧ quiescent_WcolReferenceIdeal (hWcolReferenceIdeal := hWcolReferenceIdeal)
    ∧ quiescent_WrowKernel (hWrowKernel := hWrowKernel)
    ∧ quiescent_WrowKernelIdeal (hWrowKernelIdeal := hWrowKernelIdeal)
    ∧ quiescent_WrowReferenceIdeal (hWrowReferenceIdeal := hWrowReferenceIdeal)
    ∧ quiescent_WstdKernel (hWstdKernel := hWstdKernel)
    ∧ quiescent_WstdKernelIdeal (hWstdKernelIdeal := hWstdKernelIdeal)
    ∧ quiescent_WstdReferenceIdeal (hWstdReferenceIdeal := hWstdReferenceIdeal)
    ∧ quiescent_WsecKernel (hWsecKernel := hWsecKernel)
    ∧ quiescent_WsecKernelIdeal (hWsecKernelIdeal := hWsecKernelIdeal)
    ∧ quiescent_WsecReferenceIdeal (hWsecReferenceIdeal := hWsecReferenceIdeal)
    ∧ quiescent_AdamKernel (hAdamKernel := hAdamKernel)
    ∧ quiescent_AdamKernelIdeal (hAdamKernelIdeal := hAdamKernelIdeal)
    ∧ quiescent_AdamReferenceIdeal (hAdamReferenceIdeal := hAdamReferenceIdeal)
    ∧ quiescent_ChipKernel (hChipKernel := hChipKernel) (hPre_chip_core := hPre_chip_core)
    ∧ quiescent_ChipKernelIdeal (hChipKernelIdeal := hChipKernelIdeal) (hPre_chip_core := hPre_chip_core)
    ∧ quiescent_ChipReferenceIdeal (hChipReferenceIdeal := hChipReferenceIdeal) (hPre_chip_core := hPre_chip_core)
    ∧ quiescent_UpdKernel (hUpdKernel := hUpdKernel) (hPre_upd_chip := hPre_upd_chip)
    ∧ quiescent_UpdKernelIdeal (hUpdKernelIdeal := hUpdKernelIdeal) (hPre_upd_chip := hPre_upd_chip)
    ∧ quiescent_UpdReferenceIdeal (hUpdReferenceIdeal := hUpdReferenceIdeal) (hPre_upd_chip := hPre_upd_chip)
    ∧ preserves_LossKernel_LossKernelIdeal
    ∧ algebraic_LossKernelIdeal_LossReferenceIdeal (hLossKernelIdeal := hLossKernelIdeal) (hLossReferenceIdeal := hLossReferenceIdeal)
    ∧ preserves_NormKernel_NormKernelIdeal
    ∧ algebraic_NormKernelIdeal_NormReferenceIdeal (hNormKernelIdeal := hNormKernelIdeal) (hNormReferenceIdeal := hNormReferenceIdeal)
    ∧ preserves_RmsKernel_RmsKernelIdeal
    ∧ algebraic_RmsKernelIdeal_RmsReferenceIdeal (hRmsKernelIdeal := hRmsKernelIdeal) (hRmsReferenceIdeal := hRmsReferenceIdeal)
    ∧ preserves_GateKernel_GateKernelIdeal
    ∧ algebraic_GateKernelIdeal_GateReferenceIdeal_pre_gate_finite (hGateKernelIdeal := hGateKernelIdeal) (hGateReferenceIdeal := hGateReferenceIdeal) (hPre_gate_finite := hPre_gate_finite)
    ∧ preserves_ConvKernel_ConvKernelIdeal
    ∧ algebraic_ConvKernelIdeal_ConvReferenceIdeal (hConvKernelIdeal := hConvKernelIdeal) (hConvReferenceIdeal := hConvReferenceIdeal)
    ∧ preserves_MixKernel_MixKernelIdeal
    ∧ algebraic_MixKernelIdeal_MixReferenceIdeal (hMixKernelIdeal := hMixKernelIdeal) (hMixReferenceIdeal := hMixReferenceIdeal)
    ∧ preserves_PoolKernel_PoolKernelIdeal
    ∧ algebraic_PoolKernelIdeal_PoolReferenceIdeal_pre_pool_finite (hPoolKernelIdeal := hPoolKernelIdeal) (hPoolReferenceIdeal := hPoolReferenceIdeal) (hPre_pool_finite := hPre_pool_finite)
    ∧ preserves_AttnKernel_AttnKernelIdeal
    ∧ algebraic_AttnKernelIdeal_AttnReferenceIdeal_pre_attn_finite (hAttnKernelIdeal := hAttnKernelIdeal) (hAttnReferenceIdeal := hAttnReferenceIdeal) (hPre_attn_finite := hPre_attn_finite)
    ∧ preserves_ProjKernel_ProjKernelIdeal
    ∧ algebraic_ProjKernelIdeal_ProjReferenceIdeal (hProjKernelIdeal := hProjKernelIdeal) (hProjReferenceIdeal := hProjReferenceIdeal)
    ∧ preserves_ResKernel_ResKernelIdeal
    ∧ algebraic_ResKernelIdeal_ResReferenceIdeal (hResKernelIdeal := hResKernelIdeal) (hResReferenceIdeal := hResReferenceIdeal)
    ∧ preserves_DownKernel_DownKernelIdeal
    ∧ algebraic_DownKernelIdeal_DownReferenceIdeal (hDownKernelIdeal := hDownKernelIdeal) (hDownReferenceIdeal := hDownReferenceIdeal)
    ∧ preserves_BackKernel_BackKernelIdeal
    ∧ algebraic_BackKernelIdeal_BackReferenceIdeal (hBackKernelIdeal := hBackKernelIdeal) (hBackReferenceIdeal := hBackReferenceIdeal)
    ∧ preserves_FfdhKernel_FfdhKernelIdeal
    ∧ algebraic_FfdhKernelIdeal_FfdhReferenceIdeal (hFfdhKernelIdeal := hFfdhKernelIdeal) (hFfdhReferenceIdeal := hFfdhReferenceIdeal)
    ∧ preserves_SectKernel_SectKernelIdeal
    ∧ algebraic_SectKernelIdeal_SectReferenceIdeal (hSectKernelIdeal := hSectKernelIdeal) (hSectReferenceIdeal := hSectReferenceIdeal)
    ∧ preserves_WcolKernel_WcolKernelIdeal
    ∧ algebraic_WcolKernelIdeal_WcolReferenceIdeal (hWcolKernelIdeal := hWcolKernelIdeal) (hWcolReferenceIdeal := hWcolReferenceIdeal)
    ∧ preserves_WrowKernel_WrowKernelIdeal
    ∧ algebraic_WrowKernelIdeal_WrowReferenceIdeal (hWrowKernelIdeal := hWrowKernelIdeal) (hWrowReferenceIdeal := hWrowReferenceIdeal)
    ∧ preserves_WstdKernel_WstdKernelIdeal
    ∧ algebraic_WstdKernelIdeal_WstdReferenceIdeal (hWstdKernelIdeal := hWstdKernelIdeal) (hWstdReferenceIdeal := hWstdReferenceIdeal)
    ∧ preserves_WsecKernel_WsecKernelIdeal
    ∧ algebraic_WsecKernelIdeal_WsecReferenceIdeal (hWsecKernelIdeal := hWsecKernelIdeal) (hWsecReferenceIdeal := hWsecReferenceIdeal)
    ∧ preserves_AdamKernel_AdamKernelIdeal
    ∧ algebraic_AdamKernelIdeal_AdamReferenceIdeal (hAdamKernelIdeal := hAdamKernelIdeal) (hAdamReferenceIdeal := hAdamReferenceIdeal)
    ∧ preserves_ChipKernel_ChipKernelIdeal
    ∧ algebraic_ChipKernelIdeal_ChipReferenceIdeal (hChipKernelIdeal := hChipKernelIdeal) (hChipReferenceIdeal := hChipReferenceIdeal) (hPre_chip_core := hPre_chip_core)
    ∧ preserves_UpdKernel_UpdKernelIdeal
    ∧ algebraic_UpdKernelIdeal_UpdReferenceIdeal (hUpdKernelIdeal := hUpdKernelIdeal) (hUpdReferenceIdeal := hUpdReferenceIdeal) (hPre_upd_chip := hPre_upd_chip)
-- ==== Pre_attn_finite.lean ====
abbrev S4096x6144 : Shape := ⟨2, ![4096, 6144]⟩
abbrev S1x128 : Shape := ⟨2, ![1, 128]⟩
abbrev S4096x2048 : Shape := ⟨2, ![4096, 2048]⟩
abbrev S_ : Shape := ⟨0, ![]⟩

class Facts : Prop where
  bcast_S_S4096x6144 : S_.BroadcastsInDim S4096x6144 (![] : Fin 0 → Fin S4096x6144.rank)
  bcast_S_S1x128 : S_.BroadcastsInDim S1x128 (![] : Fin 0 → Fin S1x128.rank)
  bcast_S_S4096x2048 : S_.BroadcastsInDim S4096x2048 (![] : Fin 0 → Fin S4096x2048.rank)

variable [Facts]

def fn {F : FTy → Type} [FloatOps F] (main_arg0 : FVec F S4096x6144 .f32) (main_arg1 : FVec F S1x128 .f32) (main_arg2 : FVec F S1x128 .f32) (main_arg3 : FVec F S4096x2048 .f32) : IVec S4096x6144 1 × IVec S1x128 1 × IVec S1x128 1 × IVec S4096x2048 1 :=
  let main_v0 : FVec F S4096x6144 .f32 := Host.absf main_arg0
  let main_cst : FVec F S_ .f32 := constant S_ .f32 0x7F800000#32
  let main_v1 : FVec F S4096x6144 .f32 := broadcastInDim S4096x6144 ![] bcast_S_S4096x6144 main_cst
  let main_v2 : IVec S4096x6144 1 := cmpf .olt main_v0 main_v1
  let main_v3 : FVec F S1x128 .f32 := Host.absf main_arg1
  let main_cst_0 : FVec F S_ .f32 := constant S_ .f32 0x7F800000#32
  let main_v4 : FVec F S1x128 .f32 := broadcastInDim S1x128 ![] bcast_S_S1x128 main_cst_0
  let main_v5 : IVec S1x128 1 := cmpf .olt main_v3 main_v4
  let main_v6 : FVec F S1x128 .f32 := Host.absf main_arg2
  let main_cst_1 : FVec F S_ .f32 := constant S_ .f32 0x7F800000#32
  let main_v7 : FVec F S1x128 .f32 := broadcastInDim S1x128 ![] bcast_S_S1x128 main_cst_1
  let main_v8 : IVec S1x128 1 := cmpf .olt main_v6 main_v7
  let main_v9 : FVec F S4096x2048 .f32 := Host.absf main_arg3
  let main_cst_2 : FVec F S_ .f32 := constant S_ .f32 0x7F800000#32
  let main_v10 : FVec F S4096x2048 .f32 := broadcastInDim S4096x2048 ![] bcast_S_S4096x2048 main_cst_2
  let main_v11 : IVec S4096x2048 1 := cmpf .olt main_v9 main_v10
  (main_v2, main_v5, main_v8, main_v11)
-- ==== Pre_chip_core.lean ====
abbrev S1 : Shape := ⟨1, ![1]⟩
abbrev S8x2048x768 : Shape := ⟨3, ![8, 2048, 768]⟩
abbrev S4x2048x768 : Shape := ⟨3, ![4, 2048, 768]⟩
abbrev S_ : Shape := ⟨0, ![]⟩

class Facts : Prop where
  shapeCasts_S1_S_ : S1.ShapeCasts S_

variable [Facts]

def fn {F : FTy → Type} [FloatOps F] (main_arg0 : IVec S1 32) (main_arg1 : FVec F S8x2048x768 .f32) (main_arg2 : FVec F S4x2048x768 .f32) : IVec S_ 1 :=
  let main_v0 : IVec S_ 32 := shapeCast S_ main_arg0 shapeCasts_S1_S_
  let main_c : IVec S_ 32 := constantI S_ 32 0#32
  let main_v1 : IVec S_ 1 := cmpi .sge main_v0 main_c
  let main_v2 : IVec S_ 32 := shapeCast S_ main_arg0 shapeCasts_S1_S_
  let main_c_0 : IVec S_ 32 := constantI S_ 32 2#32
  let main_v3 : IVec S_ 1 := cmpi .slt main_v2 main_c_0
  let main_v4 : IVec S_ 1 := andi main_v1 main_v3
  main_v4
-- ==== Pre_gate_finite.lean ====
abbrev S4096x2048 : Shape := ⟨2, ![4096, 2048]⟩
abbrev S2048x5632 : Shape := ⟨2, ![2048, 5632]⟩
abbrev S5632x2048 : Shape := ⟨2, ![5632, 2048]⟩
abbrev S_ : Shape := ⟨0, ![]⟩

class Facts : Prop where
  bcast_S_S4096x2048 : S_.BroadcastsInDim S4096x2048 (![] : Fin 0 → Fin S4096x2048.rank)
  bcast_S_S2048x5632 : S_.BroadcastsInDim S2048x5632 (![] : Fin 0 → Fin S2048x5632.rank)
  bcast_S_S5632x2048 : S_.BroadcastsInDim S5632x2048 (![] : Fin 0 → Fin S5632x2048.rank)

variable [Facts]

def fn {F : FTy → Type} [FloatOps F] (main_arg0 : FVec F S4096x2048 .f32) (main_arg1 : FVec F S2048x5632 .f32) (main_arg2 : FVec F S2048x5632 .f32) (main_arg3 : FVec F S5632x2048 .f32) (main_arg4 : FVec F S4096x2048 .f32) : IVec S4096x2048 1 × IVec S2048x5632 1 × IVec S5632x2048 1 × IVec S4096x2048 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_v3 : FVec F S2048x5632 .f32 := Host.absf main_arg2
  let main_cst_0 : FVec F S_ .f32 := constant S_ .f32 0x7F800000#32
  let main_v4 : FVec F S2048x5632 .f32 := broadcastInDim S2048x5632 ![] bcast_S_S2048x5632 main_cst_0
  let main_v5 : IVec S2048x5632 1 := cmpf .olt main_v3 main_v4
  let main_v6 : FVec F S5632x2048 .f32 := Host.absf main_arg3
  let main_cst_1 : FVec F S_ .f32 := constant S_ .f32 0x7F800000#32
  let main_v7 : FVec F S5632x2048 .f32 := broadcastInDim S5632x2048 ![] bcast_S_S5632x2048 main_cst_1
  let main_v8 : IVec S5632x2048 1 := cmpf .olt main_v6 main_v7
  let main_v9 : FVec F S4096x2048 .f32 := Host.absf main_arg4
  let main_cst_2 : FVec F S_ .f32 := constant S_ .f32 0x7F800000#32
  let main_v10 : FVec F S4096x2048 .f32 := broadcastInDim S4096x2048 ![] bcast_S_S4096x2048 main_cst_2
  let main_v11 : IVec S4096x2048 1 := cmpf .olt main_v9 main_v10
  (main_v2, main_v5, main_v8, main_v11)
-- ==== Pre_pool_finite.lean ====
abbrev S4096x2048 : Shape := ⟨2, ![4096, 2048]⟩
abbrev S4x512x512 : Shape := ⟨3, ![4, 512, 512]⟩
abbrev S1x2048 : Shape := ⟨2, ![1, 2048]⟩
abbrev S_ : Shape := ⟨0, ![]⟩

class Facts : Prop where
  bcast_S_S4096x2048 : S_.BroadcastsInDim S4096x2048 (![] : Fin 0 → Fin S4096x2048.rank)
  bcast_S_S4x512x512 : S_.BroadcastsInDim S4x512x512 (![] : Fin 0 → Fin S4x512x512.rank)
  bcast_S_S1x2048 : S_.BroadcastsInDim S1x2048 (![] : Fin 0 → Fin S1x2048.rank)

variable [Facts]

def fn {F : FTy → Type} [FloatOps F] (main_arg0 : FVec F S4096x2048 .f32) (main_arg1 : FVec F S4096x2048 .f32) (main_arg2 : FVec F S4x512x512 .f32) (main_arg3 : FVec F S1x2048 .f32) (main_arg4 : FVec F S4096x2048 .f32) : IVec S4096x2048 1 × IVec S4x512x512 1 × IVec S1x2048 1 × IVec S4096x2048 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_v3 : FVec F S4x512x512 .f32 := Host.absf main_arg2
  let main_cst_0 : FVec F S_ .f32 := constant S_ .f32 0x7F800000#32
  let main_v4 : FVec F S4x512x512 .f32 := broadcastInDim S4x512x512 ![] bcast_S_S4x512x512 main_cst_0
  let main_v5 : IVec S4x512x512 1 := cmpf .olt main_v3 main_v4
  let main_v6 : FVec F S1x2048 .f32 := Host.absf main_arg3
  let main_cst_1 : FVec F S_ .f32 := constant S_ .f32 0x7F800000#32
  let main_v7 : FVec F S1x2048 .f32 := broadcastInDim S1x2048 ![] bcast_S_S1x2048 main_cst_1
  let main_v8 : IVec S1x2048 1 := cmpf .olt main_v6 main_v7
  let main_v9 : FVec F S4096x2048 .f32 := Host.absf main_arg4
  let main_cst_2 : FVec F S_ .f32 := constant S_ .f32 0x7F800000#32
  let main_v10 : FVec F S4096x2048 .f32 := broadcastInDim S4096x2048 ![] bcast_S_S4096x2048 main_cst_2
  let main_v11 : IVec S4096x2048 1 := cmpf .olt main_v9 main_v10
  (main_v2, main_v5, main_v8, main_v11)
-- ==== Pre_upd_chip.lean ====
abbrev S1 : Shape := ⟨1, ![1]⟩
abbrev S4x2048x768 : Shape := ⟨3, ![4, 2048, 768]⟩
abbrev S1x2048x768 : Shape := ⟨3, ![1, 2048, 768]⟩
abbrev S_ : Shape := ⟨0, ![]⟩

class Facts : Prop where
  shapeCasts_S1_S_ : S1.ShapeCasts S_

variable [Facts]

def fn {F : FTy → Type} [FloatOps F] (main_arg0 : IVec S1 32) (main_arg1 : FVec F S4x2048x768 .bf16) (main_arg2 : FVec F S4x2048x768 .bf16) (main_arg3 : FVec F S1x2048x768 .f32) (main_arg4 : FVec F S1x2048x768 .f32) (main_arg5 : FVec F S1x2048x768 .f32) : IVec S_ 1 :=
  let main_v0 : IVec S_ 32 := shapeCast S_ main_arg0 shapeCasts_S1_S_
  let main_c : IVec S_ 32 := constantI S_ 32 0#32
  let main_v1 : IVec S_ 1 := cmpi .sge main_v0 main_c
  let main_v2 : IVec S_ 32 := shapeCast S_ main_arg0 shapeCasts_S1_S_
  let main_c_0 : IVec S_ 32 := constantI S_ 32 4#32
  let main_v3 : IVec S_ 1 := cmpi .slt main_v2 main_c_0
  let main_v4 : IVec S_ 1 := andi main_v1 main_v3
  main_v4
-- ==== LossKernel.lean ====
abbrev S4096x2048 : Shape := ⟨2, ![4096, 2048]⟩
abbrev S8x128 : Shape := ⟨2, ![8, 128]⟩
abbrev S256x2048 : Shape := ⟨2, ![256, 2048]⟩
abbrev S32x8x2048 : Shape := ⟨3, ![32, 8, 2048]⟩
abbrev S8x2048 : Shape := ⟨2, ![8, 2048]⟩
abbrev S_ : Shape := ⟨0, ![]⟩
abbrev S128 : Shape := ⟨1, ![128]⟩
abbrev S1x128 : Shape := ⟨2, ![1, 128]⟩
abbrev S1 : Shape := ⟨1, ![1]⟩
abbrev S1x1 : Shape := ⟨2, ![1, 1]⟩

abbrev nBuf : Space → Nat
  | .hbm => 11
  | .vmem => 9
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S4096x2048, .bf16⟩
  | .hbm, ⟨4, _⟩ => ⟨S8x128, .f32⟩
  | .hbm, ⟨5, _⟩ => ⟨S_, .f32⟩
  | .hbm, ⟨6, _⟩ => ⟨S128, .f32⟩
  | .hbm, ⟨7, _⟩ => ⟨S1x128, .f32⟩
  | .hbm, ⟨8, _⟩ => ⟨S_, .f32⟩
  | .hbm, ⟨9, _⟩ => ⟨S1, .f32⟩
  | .hbm, ⟨10, _⟩ => ⟨S1x1, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .bf16⟩
  | .local _ .vmem, ⟨7, _⟩ => ⟨S256x2048, .bf16⟩
  | .local _ .vmem, ⟨8, _⟩ => ⟨S8x128, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== LossReferenceIdeal.lean ====
abbrev S4096x2048 : Shape := ⟨2, ![4096, 2048]⟩
abbrev S_ : Shape := ⟨0, ![]⟩
abbrev S4096 : Shape := ⟨1, ![4096]⟩
abbrev S1x1 : Shape := ⟨2, ![1, 1]⟩

abbrev nBuf : Space → Nat
  | .hbm => 27
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S4096x2048, .f32⟩
  | .hbm, ⟨4, _⟩ => ⟨S_, .f32⟩
  | .hbm, ⟨5, _⟩ => ⟨S4096x2048, .f32⟩
  | .hbm, ⟨6, _⟩ => ⟨S4096x2048, .f32⟩
  | .hbm, ⟨7, _⟩ => ⟨S_, .f32⟩
  | .hbm, ⟨8, _⟩ => ⟨S4096, .f32⟩
  | .hbm, ⟨9, _⟩ => ⟨S_, .f32⟩
  | .hbm, ⟨10, _⟩ => ⟨S4096, .f32⟩
  | .hbm, ⟨11, _⟩ => ⟨S4096, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S4096, .f32⟩
  | .hbm, ⟨20, _⟩ => ⟨S_, .f32⟩
  | .hbm, ⟨21, _⟩ => ⟨S4096, .f32⟩
  | .hbm, ⟨22, _⟩ => ⟨S4096, .f32⟩
  | .hbm, ⟨23, _⟩ => ⟨S4096x2048, .f32⟩
  | .hbm, ⟨24, _⟩ => ⟨S4096x2048, .f32⟩
  | .hbm, ⟨25, _⟩ => ⟨S4096x2048, .bf16⟩
  | .hbm, ⟨26, _⟩ => ⟨S1x1, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_cst_3 : Ref sig .tc := ⟨.hbm, 14, rfl⟩
abbrev main_v8 : Ref sig .tc := ⟨.hbm, 15, rfl⟩
abbrev main_cst_4 : Ref sig .tc := ⟨.hbm, 16, rfl⟩
abbrev main_cst_5 : Ref sig .tc := ⟨.hbm, 17, rfl⟩
abbrev main_v9 : Ref sig .tc := ⟨.hbm, 18, rfl⟩
abbrev main_v10 : Ref sig .tc := ⟨.hbm, 19, rfl⟩
abbrev main_cst_6 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩

abbrev nD : Nat := 1
abbrev τ : Topo := Topo.v7x

variable {F : FTy → Type} [FloatOps F]
-- ==== NormKernel.lean ====
abbrev S4096x2048 : Shape := ⟨2, ![4096, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩
abbrev S2048 : Shape := ⟨1, ![2048]⟩

abbrev nBuf : Space → Nat
  | .hbm => 7
  | .vmem => 12
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S4096x2048, .f32⟩
  | .hbm, ⟨3, _⟩ => ⟨S4096x2048, .f32⟩
  | .hbm, ⟨4, _⟩ => ⟨S4096x2048, .f32⟩
  | .hbm, ⟨5, _⟩ => ⟨S4096x2048, .bf16⟩
  | .hbm, ⟨6, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S1x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .bf16⟩
  | .local _ .vmem, ⟨10, _⟩ => ⟨S256x2048, .bf16⟩
  | .local _ .vmem, ⟨11, _⟩ => ⟨S1x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== NormReferenceIdeal.lean ====
abbrev S4096x2048 : Shape := ⟨2, ![4096, 2048]⟩
abbrev S1x2048 : Shape := ⟨2, ![1, 2048]⟩
abbrev S_ : Shape := ⟨0, ![]⟩
abbrev S4096 : Shape := ⟨1, ![4096]⟩
abbrev S4096x1 : Shape := ⟨2, ![4096, 1]⟩
abbrev S2048 : Shape := ⟨1, ![2048]⟩

abbrev nBuf : Space → Nat
  | .hbm => 48
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S4096x2048, .f32⟩
  | .hbm, ⟨3, _⟩ => ⟨S4096x2048, .f32⟩
  | .hbm, ⟨4, _⟩ => ⟨S4096x2048, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x2048, .f32⟩
  | .hbm, ⟨20, _⟩ => ⟨S4096x2048, .f32⟩
  | .hbm, ⟨21, _⟩ => ⟨S4096x2048, .f32⟩
  | .hbm, ⟨22, _⟩ => ⟨S4096x2048, .f32⟩
  | .hbm, ⟨23, _⟩ => ⟨S4096x2048, .f32⟩
  | .hbm, ⟨24, _⟩ => ⟨S_, .f32⟩
  | .hbm, ⟨25, _⟩ => ⟨S2048, .f32⟩
  | .hbm, ⟨26, _⟩ => ⟨S1x2048, .f32⟩
  | .hbm, ⟨27, _⟩ => ⟨S4096x2048, .f32⟩
  | .hbm, ⟨28, _⟩ => ⟨S4096x2048, .f32⟩
  | .hbm, ⟨29, _⟩ => ⟨S4096x2048, .f32⟩
  | .hbm, ⟨30, _⟩ => ⟨S_, .f32⟩
  | .hbm, ⟨31, _⟩ => ⟨S4096, .f32⟩
  | .hbm, ⟨32, _⟩ => ⟨S4096x1, .f32⟩
  | .hbm, ⟨33, _⟩ => ⟨S4096x2048, .f32⟩
  | .hbm, ⟨34, _⟩ => ⟨S4096x2048, .f32⟩
  | .hbm, ⟨35, _⟩ => ⟨S4096x2048, .f32⟩
  | .hbm, ⟨36, _⟩ => ⟨S4096x1, .f32⟩
  | .hbm, ⟨37, _⟩ => ⟨S_, .f32⟩
  | .hbm, ⟨38, _⟩ => ⟨S4096x1, .f32⟩
  | .hbm, ⟨39, _⟩ => ⟨S4096x1, .f32⟩
  | .hbm, ⟨40, _⟩ => ⟨S_, .f32⟩
  | .hbm, ⟨41, _⟩ => ⟨S4096, .f32⟩
  | .hbm, ⟨42, _⟩ => ⟨S4096x2048, .f32⟩
  | .hbm, ⟨43, _⟩ => ⟨S4096x2048, .f32⟩
  | .hbm, ⟨44, _⟩ => ⟨S4096x2048, .f32⟩
  | .hbm, ⟨45, _⟩ => ⟨S4096x2048, .f32⟩
  | .hbm, ⟨46, _⟩ => ⟨S4096x2048, .f32⟩
  | .hbm, ⟨47, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_5 : Ref sig .tc := ⟨.hbm, 37, rfl⟩
abbrev main_v27 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩

abbrev nD : Nat := 1
abbrev τ : Topo := Topo.v7x

variable {F : FTy → Type} [FloatOps F]
-- ==== RmsKernel.lean ====
abbrev S4096x2048 : Shape := ⟨2, ![4096, 2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 3
  | .vmem => 5
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S4096x2048, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .bf16⟩
  | .local _ .vmem, ⟨4, _⟩ => ⟨S512x2048, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== RmsReferenceIdeal.lean ====
abbrev S4096x2048 : Shape := ⟨2, ![4096, 2048]⟩
abbrev S1x2048 : Shape := ⟨2, ![1, 2048]⟩
abbrev S_ : Shape := ⟨0, ![]⟩
abbrev S4096 : Shape := ⟨1, ![4096]⟩
abbrev S4096x1 : Shape := ⟨2, ![4096, 1]⟩

abbrev nBuf : Space → Nat
  | .hbm => 18
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S4096x2048, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S_, .f32⟩
  | .hbm, ⟨7, _⟩ => ⟨S4096x1, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S4096x1, .f32⟩
  | .hbm, ⟨13, _⟩ => ⟨S4096x2048, .f32⟩
  | .hbm, ⟨14, _⟩ => ⟨S4096x2048, .f32⟩
  | .hbm, ⟨15, _⟩ => ⟨S4096x2048, .f32⟩
  | .hbm, ⟨16, _⟩ => ⟨S4096x2048, .f32⟩
  | .hbm, ⟨17, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== GateKernel.lean ====
abbrev S4096x2048 : Shape := ⟨2, ![4096, 2048]⟩
abbrev S2048x5632 : Shape := ⟨2, ![2048, 5632]⟩
abbrev S5632x2048 : Shape := ⟨2, ![5632, 2048]⟩
abbrev S2048x8x704 : Shape := ⟨3, ![2048, 8, 704]⟩
abbrev S8x2048x704 : Shape := ⟨3, ![8, 2048, 704]⟩
abbrev S8x4096x704 : Shape := ⟨3, ![8, 4096, 704]⟩
abbrev S1024x2048 : Shape := ⟨2, ![1024, 2048]⟩
abbrev S1x2048x704 : Shape := ⟨3, ![1, 2048, 704]⟩
abbrev S1x1024x704 : Shape := ⟨3, ![1, 1024, 704]⟩
abbrev S2048x704 : Shape := ⟨2, ![2048, 704]⟩
abbrev S1024x704 : Shape := ⟨2, ![1024, 704]⟩
abbrev S8x704x2048 : Shape := ⟨3, ![8, 704, 2048]⟩
abbrev S1x704x2048 : Shape := ⟨3, ![1, 704, 2048]⟩
abbrev S704x2048 : Shape := ⟨2, ![704, 2048]⟩

abbrev nBuf : Space → Nat
  | .hbm => 20
  | .vmem => 24
  | .smem => 0
  | _ => 0

abbrev bufTy : (tb : Table) → Fin (tcTables nBuf tb) → BufTy
  | .hbm, ⟨0, _⟩ => ⟨S4096x2048, .f32⟩
  | .hbm, ⟨1, _⟩ => ⟨S2048x5632, .f32⟩
  | .hbm, ⟨2, _⟩ => ⟨S2048x5632, .f32⟩
  | .hbm, ⟨3, _⟩ => ⟨S5632x2048, .f32⟩
  | .hbm, ⟨4, _⟩ => ⟨S4096x2048, .f32⟩
  | .hbm, ⟨5, _⟩ => ⟨S4096x2048, .bf16⟩
  | .hbm, ⟨6, _⟩ => ⟨S2048x8x704, .f32⟩
  | .hbm, ⟨7, _⟩ => ⟨S8x2048x704, .f32⟩
  | .hbm, ⟨8, _⟩ => ⟨S8x2048x704, .bf16⟩
  | .hbm, ⟨9, _⟩ => ⟨S2048x8x704, .f32⟩
  | .hbm, ⟨10, _⟩ => ⟨S8x2048x704, .f32⟩
  | .hbm, ⟨11, _⟩ => ⟨S8x2048x704, .bf16⟩
  | .hbm, ⟨12, _⟩ => ⟨S8x4096x704, .f32⟩
  | .hbm, ⟨13, _⟩ => ⟨S8x4096x704, .f32⟩
  | .hbm, ⟨14, _⟩ => ⟨S8x4096x704, .bf16⟩
  | .hbm, ⟨15, _⟩ => ⟨S4096x2048, .bf16⟩
  | .hbm, ⟨16, _⟩ => ⟨S8x704x2048, .f32⟩
  | .hbm, ⟨17, _⟩ => ⟨S8x704x2048, .bf16⟩
  | .hbm, ⟨18, _⟩ => ⟨S8x4096x704, .bf16⟩
  | .hbm, ⟨19, _⟩ => ⟨S8x4096x704, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x704, .bf16⟩
  | .local _ .vmem, ⟨3, _⟩ => ⟨S1x2048x704, .bf16⟩
  | .local _ .vmem, ⟨4, _⟩ => ⟨S1x2048x704, .bf16⟩
  | .local _ .vmem, ⟨5, _⟩ => ⟨S1x2048x704, .bf16⟩
  | .local _ .vmem, ⟨6, _⟩ => ⟨S1x1024x704, .f32⟩
  | .local _ .vmem, ⟨7, _⟩ => ⟨S1x1024x704, .f32⟩
  | .local _ .vmem, ⟨8, _⟩ => ⟨S1x1024x704, .f32⟩
  | .local _ .vmem, ⟨9, _⟩ => ⟨S1x1024x704, .f32⟩
  | .local _ .vmem, ⟨10, _⟩ => ⟨S1x1024x704, .bf16⟩
  | .local _ .vmem, ⟨11, _⟩ => ⟨S1x1024x704, .bf16⟩
  | .local _ .vmem, ⟨12, _⟩ => ⟨S1024x2048, .bf16⟩
  | .local _ .vmem, ⟨13, _⟩ => ⟨S1024x2048, .bf16⟩
  | .local _ .vmem, ⟨14, _⟩ => ⟨S1x704x2048, .bf16⟩
  | .local _ .vmem, ⟨15, _⟩ => ⟨S1x704x2048, .bf16⟩
  | .local _ .vmem, ⟨16, _⟩ => ⟨S1x1024x704, .f32⟩
  | .local _ .vmem, ⟨17, _⟩ => ⟨S1x1024x704, .f32⟩
  | .local _ .vmem, ⟨18, _⟩ => ⟨S1x1024x704, .f32⟩
  | .local _ .vmem, ⟨19, _⟩ => ⟨S1x1024x704, .f32⟩
  | .local _ .vmem, ⟨20, _⟩ => ⟨S1x1024x704, .bf16⟩
  | .local _ .vmem, ⟨21, _⟩ => ⟨S1x1024x704, .bf16⟩
  | .local _ .vmem, ⟨22, _⟩ => ⟨S1x1024x704, .bf16⟩
  | .local _ .vmem, ⟨23, _⟩ => ⟨S1x1024x704, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7_0 : Ref sig .tc := ⟨.hbm, 12, rfl⟩
abbrev main_v7_1 : Ref sig .tc := ⟨.hbm, 13, rfl⟩
abbrev main_v7_2 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11_0 : Ref sig .tc := ⟨.hbm, 18, rfl⟩
abbrev main_v11_1 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg3_1 : Ref sig .tc := ⟨.vmem, 19, rfl⟩
abbrev cc1_stg4_0 : Ref sig .tc := ⟨.vmem, 20, rfl⟩
abbrev cc1_stg4_1 : Ref sig .tc := ⟨.vmem, 21, rfl⟩
abbrev cc1_stg5_0 : Ref sig .tc := ⟨.vmem, 22, rfl⟩
abbrev cc1_stg5_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem3_1 : DmaSem sig := 19
abbrev cc1_sem4_0 : DmaSem sig := 20
abbrev cc1_sem4_1 : DmaSem sig := 21
abbrev cc1_sem5_0 : DmaSem sig := 22
abbrev cc1_sem5_1 : DmaSem sig := 23

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024x704 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x704 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1024x704 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev grid1 : Pipeline.Grid := ⟨2, ![8, 4], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1024x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S1x704x2048 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x1024x704 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x1024x704 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1x1024x704 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S1x1024x704 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]
-- ==== GateReferenceIdeal.lean ====
abbrev S4096x2048 : Shape := ⟨2, ![4096, 2048]⟩
abbrev S2048x5632 : Shape := ⟨2, ![2048, 5632]⟩
abbrev S5632x2048 : Shape := ⟨2, ![5632, 2048]⟩
abbrev S4096x5632 : Shape := ⟨2, ![4096, 5632]⟩
abbrev S_ : Shape := ⟨0, ![]⟩
abbrev S4096x8x704 : Shape := ⟨3, ![4096, 8, 704]⟩
abbrev S8x4096x704 : Shape := ⟨3, ![8, 4096, 704]⟩

abbrev nBuf : Space → Nat
  | .hbm => 38
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x5632, .f32⟩
  | .hbm, ⟨2, _⟩ => ⟨S2048x5632, .f32⟩
  | .hbm, ⟨3, _⟩ => ⟨S5632x2048, .f32⟩
  | .hbm, ⟨4, _⟩ => ⟨S4096x2048, .f32⟩
  | .hbm, ⟨5, _⟩ => ⟨S4096x5632, .f32⟩
  | .hbm, ⟨6, _⟩ => ⟨S4096x5632, .f32⟩
  | .hbm, ⟨7, _⟩ => ⟨S4096x5632, .f32⟩
  | .hbm, ⟨8, _⟩ => ⟨S4096x5632, .f32⟩
  | .hbm, ⟨9, _⟩ => ⟨S_, .f32⟩
  | .hbm, ⟨10, _⟩ => ⟨S4096x5632, .f32⟩
  | .hbm, ⟨11, _⟩ => ⟨S4096x5632, .f32⟩
  | .hbm, ⟨12, _⟩ => ⟨S_, .f32⟩
  | .hbm, ⟨13, _⟩ => ⟨S4096x5632, .f32⟩
  | .hbm, ⟨14, _⟩ => ⟨S4096x5632, .f32⟩
  | .hbm, ⟨15, _⟩ => ⟨S_, .f32⟩
  | .hbm, ⟨16, _⟩ => ⟨S4096x5632, .f32⟩
  | .hbm, ⟨17, _⟩ => ⟨S4096x5632, .f32⟩
  | .hbm, ⟨18, _⟩ => ⟨S4096x5632, .f32⟩
  | .hbm, ⟨19, _⟩ => ⟨S4096x5632, .f32⟩
  | .hbm, ⟨20, _⟩ => ⟨S4096x5632, .f32⟩
  | .hbm, ⟨21, _⟩ => ⟨S4096x2048, .f32⟩
  | .hbm, ⟨22, _⟩ => ⟨S4096x5632, .f32⟩
  | .hbm, ⟨23, _⟩ => ⟨S4096x5632, .f32⟩
  | .hbm, ⟨24, _⟩ => ⟨S4096x5632, .f32⟩
  | .hbm, ⟨25, _⟩ => ⟨S4096x5632, .f32⟩
  | .hbm, ⟨26, _⟩ => ⟨S4096x5632, .f32⟩
  | .hbm, ⟨27, _⟩ => ⟨S4096x5632, .f32⟩
  | .hbm, ⟨28, _⟩ => ⟨S4096x5632, .f32⟩
  | .hbm, ⟨29, _⟩ => ⟨S4096x8x704, .f32⟩
  | .hbm, ⟨30, _⟩ => ⟨S8x4096x704, .f32⟩
  | .hbm, ⟨31, _⟩ => ⟨S8x4096x704, .bf16⟩
  | .hbm, ⟨32, _⟩ => ⟨S4096x8x704, .f32⟩
  | .hbm, ⟨33, _⟩ => ⟨S8x4096x704, .f32⟩
  | .hbm, ⟨34, _⟩ => ⟨S8x4096x704, .bf16⟩
  | .hbm, ⟨35, _⟩ => ⟨S4096x8x704, .f32⟩
  | .hbm, ⟨36, _⟩ => ⟨S8x4096x704, .f32⟩
  | .hbm, ⟨37, _⟩ => ⟨S8x4096x704, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_v2_2 : Ref sig .tc := ⟨.hbm, 14, rfl⟩
abbrev main_call0_cst_1 : Ref sig .tc := ⟨.hbm, 15, rfl⟩
abbrev main_call0_v6 : Ref sig .tc := ⟨.hbm, 16, rfl⟩
abbrev main_call0_v7 : Ref sig .tc := ⟨.hbm, 17, rfl⟩
abbrev main_v2_1 : Ref sig .tc := ⟨.hbm, 18, rfl⟩
abbrev main_v2_0 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_call1_v0 : Ref sig .tc := ⟨.hbm, 25, rfl⟩
abbrev main_call1_v1 : Ref sig .tc := ⟨.hbm, 26, rfl⟩
abbrev main_call1_v2 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩

abbrev nD : Nat := 1
abbrev τ : Topo := Topo.v7x

variable {F : FTy → Type} [FloatOps F]
-- ==== ConvKernel.lean ====
abbrev S4096x6144 : Shape := ⟨2, ![4096, 6144]⟩
abbrev S3x2048 : Shape := ⟨2, ![3, 2048]⟩
abbrev S4096x2048 : Shape := ⟨2, ![4096, 2048]⟩
abbrev S4096x8x768 : Shape := ⟨3, ![4096, 8, 768]⟩
abbrev S8x4096x768 : Shape := ⟨3, ![8, 4096, 768]⟩
abbrev S3x4096x2048 : Shape := ⟨3, ![3, 4096, 2048]⟩
abbrev S8x2048 : Shape := ⟨2, ![8, 2048]⟩
abbrev S512x256 : Shape := ⟨2, ![512, 256]⟩
abbrev S8x256 : Shape := ⟨2, ![8, 256]⟩
abbrev S1x512x256 : Shape := ⟨3, ![1, 512, 256]⟩
abbrev S1x8x256 : Shape := ⟨3, ![1, 8, 256]⟩
abbrev S3x256 : Shape := ⟨2, ![3, 256]⟩
abbrev S3x512x256 : Shape := ⟨3, ![3, 512, 256]⟩
abbrev S1x256 : Shape := ⟨2, ![1, 256]⟩
abbrev S520x256 : Shape := ⟨2, ![520, 256]⟩
abbrev S256 : Shape := ⟨1, ![256]⟩
abbrev S5x256 : Shape := ⟨2, ![5, 256]⟩

abbrev nBuf : Space → Nat
  | .hbm => 8
  | .vmem => 22
  | .smem => 0
  | _ => 0

abbrev bufTy : (tb : Table) → Fin (tcTables nBuf tb) → BufTy
  | .hbm, ⟨0, _⟩ => ⟨S4096x6144, .f32⟩
  | .hbm, ⟨1, _⟩ => ⟨S3x2048, .f32⟩
  | .hbm, ⟨2, _⟩ => ⟨S4096x2048, .f32⟩
  | .hbm, ⟨3, _⟩ => ⟨S4096x8x768, .f32⟩
  | .hbm, ⟨4, _⟩ => ⟨S8x4096x768, .f32⟩
  | .hbm, ⟨5, _⟩ => ⟨S3x4096x2048, .bf16⟩
  | .hbm, ⟨6, _⟩ => ⟨S8x2048, .f32⟩
  | .hbm, ⟨7, _⟩ => ⟨S3x2048, .f32⟩
  | .local _ .vmem, ⟨0, _⟩ => ⟨S512x256, .f32⟩
  | .local _ .vmem, ⟨1, _⟩ => ⟨S512x256, .f32⟩
  | .local _ .vmem, ⟨2, _⟩ => ⟨S8x256, .f32⟩
  | .local _ .vmem, ⟨3, _⟩ => ⟨S8x256, .f32⟩
  | .local _ .vmem, ⟨4, _⟩ => ⟨S1x512x256, .f32⟩
  | .local _ .vmem, ⟨5, _⟩ => ⟨S1x512x256, .f32⟩
  | .local _ .vmem, ⟨6, _⟩ => ⟨S1x8x256, .f32⟩
  | .local _ .vmem, ⟨7, _⟩ => ⟨S1x8x256, .f32⟩
  | .local _ .vmem, ⟨8, _⟩ => ⟨S1x512x256, .f32⟩
  | .local _ .vmem, ⟨9, _⟩ => ⟨S1x512x256, .f32⟩
  | .local _ .vmem, ⟨10, _⟩ => ⟨S1x512x256, .f32⟩
  | .local _ .vmem, ⟨11, _⟩ => ⟨S1x512x256, .f32⟩
  | .local _ .vmem, ⟨12, _⟩ => ⟨S1x8x256, .f32⟩
  | .local _ .vmem, ⟨13, _⟩ => ⟨S1x8x256, .f32⟩
  | .local _ .vmem, ⟨14, _⟩ => ⟨S1x8x256, .f32⟩
  | .local _ .vmem, ⟨15, _⟩ => ⟨S1x8x256, .f32⟩
  | .local _ .vmem, ⟨16, _⟩ => ⟨S3x256, .f32⟩
  | .local _ .vmem, ⟨17, _⟩ => ⟨S3x256, .f32⟩
  | .local _ .vmem, ⟨18, _⟩ => ⟨S3x512x256, .bf16⟩
  | .local _ .vmem, ⟨19, _⟩ => ⟨S3x512x256, .bf16⟩
  | .local _ .vmem, ⟨20, _⟩ => ⟨S8x256, .f32⟩
  | .local _ .vmem, ⟨21, _⟩ => ⟨S8x256, .f32⟩
  | _, _ => ⟨S4096x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c64_i32 : BitVec 32 := 64#32
  let v1 : BitVec 32 := Scalar.muli v0 c64_i32
  let c511_i32 : BitVec 32 := 511#32
  let v2 : BitVec 32 := Scalar.minsi v1 c511_i32
  let c0_i32 : BitVec 32 := 0#32
  ![v2.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c3_i32 : BitVec 32 := 3#32
  let v1 : BitVec 32 := Scalar.divsi v0 c3_i32
  let c0_i32_0 : BitVec 32 := 0#32
  let v2 : BitVec 1 := Scalar.cmpi .sgt v0 c0_i32_0
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c0_i32_2 : BitVec 32 := 0#32
  let v7 : BitVec 1 := Scalar.cmpi .sgt c3_i32 c0_i32_2
  let v8 : BitVec 32 := Scalar.extui v7
  let c0_i32_3 : BitVec 32 := 0#32
  let v9 : BitVec 1 := Scalar.cmpi .slt c3_i32 c0_i32_3
  let v10 : BitVec 32 := Scalar.extui v9
  let v11 : BitVec 32 := Scalar.subi v8 v10
  let v12 : BitVec 1 := Scalar.cmpi .ne v6 v11
  let v13 : BitVec 32 := Scalar.remsi v0 c3_i32
  let c0_i32_4 : BitVec 32 := 0#32
  let v14 : BitVec 1 := Scalar.cmpi .ne v13 c0_i32_4
  let v15 : BitVec 1 := Scalar.andi v12 v14
  let c1_i32 : BitVec 32 := 1#32
  let v16 : BitVec 32 := Scalar.subi v1 c1_i32
  let v17 : BitVec 32 := Scalar.select v15 v16 v1
  let c3_i32_5 : BitVec 32 := 3#32
  let c0_i32_6 : BitVec 32 := 0#32
  let v18 : BitVec 1 := Scalar.cmpi .eq c3_i32_5 c0_i32_6
  let c1_i32_7 : BitVec 32 := 1#32
  let v19 : BitVec 32 := Scalar.select v18 c1_i32_7 c3_i32_5
  let v20 : BitVec 32 := Scalar.remsi v0 v19
  let c0_i32_8 : BitVec 32 := 0#32
  let v21 : BitVec 1 := Scalar.cmpi .ne v20 c0_i32_8
  let c0_i32_9 : BitVec 32 := 0#32
  let v22 : BitVec 1 := Scalar.cmpi .slt v20 c0_i32_9
  let c0_i32_10 : BitVec 32 := 0#32
  let v23 : BitVec 1 := Scalar.cmpi .slt v19 c0_i32_10
  let v24 : BitVec 1 := Scalar.xori v22 v23
  let v25 : BitVec 1 := Scalar.andi v24 v21
  let v26 : BitVec 32 := Scalar.addi v20 v19
  let v27 : BitVec 32 := Scalar.select v25 v26 v20
  let c0_i32_11 : BitVec 32 := 0#32
  ![v17.toNat, arg1.toNat, v27.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c3_i32 : BitVec 32 := 3#32
  let v1 : BitVec 32 := Scalar.divsi v0 c3_i32
  let c0_i32_0 : BitVec 32 := 0#32
  let v2 : BitVec 1 := Scalar.cmpi .sgt v0 c0_i32_0
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c0_i32_2 : BitVec 32 := 0#32
  let v7 : BitVec 1 := Scalar.cmpi .sgt c3_i32 c0_i32_2
  let v8 : BitVec 32 := Scalar.extui v7
  let c0_i32_3 : BitVec 32 := 0#32
  let v9 : BitVec 1 := Scalar.cmpi .slt c3_i32 c0_i32_3
  let v10 : BitVec 32 := Scalar.extui v9
  let v11 : BitVec 32 := Scalar.subi v8 v10
  let v12 : BitVec 1 := Scalar.cmpi .ne v6 v11
  let v13 : BitVec 32 := Scalar.remsi v0 c3_i32
  let c0_i32_4 : BitVec 32 := 0#32
  let v14 : BitVec 1 := Scalar.cmpi .ne v13 c0_i32_4
  let v15 : BitVec 1 := Scalar.andi v12 v14
  let c1_i32 : BitVec 32 := 1#32
  let v16 : BitVec 32 := Scalar.subi v1 c1_i32
  let v17 : BitVec 32 := Scalar.select v15 v16 v1
  let c1_i32_5 : BitVec 32 := 1#32
  let v18 : BitVec 32 := Scalar.addi arg1 c1_i32_5
  let c64_i32 : BitVec 32 := 64#32
  let v19 : BitVec 32 := Scalar.muli v18 c64_i32
  let c511_i32 : BitVec 32 := 511#32
  let v20 : BitVec 32 := Scalar.minsi v19 c511_i32
  let c3_i32_6 : BitVec 32 := 3#32
  let c0_i32_7 : BitVec 32 := 0#32
  let v21 : BitVec 1 := Scalar.cmpi .eq c3_i32_6 c0_i32_7
  let c1_i32_8 : BitVec 32 := 1#32
  let v22 : BitVec 32 := Scalar.select v21 c1_i32_8 c3_i32_6
  let v23 : BitVec 32 := Scalar.remsi v0 v22
  let c0_i32_9 : BitVec 32 := 0#32
  let v24 : BitVec 1 := Scalar.cmpi .ne v23 c0_i32_9
  let c0_i32_10 : BitVec 32 := 0#32
  let v25 : BitVec 1 := Scalar.cmpi .slt v23 c0_i32_10
  let c0_i32_11 : BitVec 32 := 0#32
  let v26 : BitVec 1 := Scalar.cmpi .slt v22 c0_i32_11
  let v27 : BitVec 1 := Scalar.xori v25 v26
  let v28 : BitVec 1 := Scalar.andi v27 v24
  let v29 : BitVec 32 := Scalar.addi v23 v22
  let v30 : BitVec 32 := Scalar.select v28 v29 v23
  let c0_i32_12 : BitVec 32 := 0#32
  ![v17.toNat, v20.toNat, v30.toNat]

def cc0_transform_4 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c3_i32 : BitVec 32 := 3#32
  let v1 : BitVec 32 := Scalar.divsi v0 c3_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c3_i32 c0_i32_1
  let v8 : BitVec 32 := Scalar.extui v7
  let c0_i32_2 : BitVec 32 := 0#32
  let v9 : BitVec 1 := Scalar.cmpi .slt c3_i32 c0_i32_2
  let v10 : BitVec 32 := Scalar.extui v9
  let v11 : BitVec 32 := Scalar.subi v8 v10
  let v12 : BitVec 1 := Scalar.cmpi .ne v6 v11
  let v13 : BitVec 32 := Scalar.remsi v0 c3_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c3_i32_4 : BitVec 32 := 3#32
  let c0_i32_5 : BitVec 32 := 0#32
  let v18 : BitVec 1 := Scalar.cmpi .eq c3_i32_4 c0_i32_5
  let c1_i32_6 : BitVec 32 := 1#32
  let v19 : BitVec 32 := Scalar.select v18 c1_i32_6 c3_i32_4
  let v20 : BitVec 32 := Scalar.remsi v0 v19
  let c0_i32_7 : BitVec 32 := 0#32
  let v21 : BitVec 1 := Scalar.cmpi .ne v20 c0_i32_7
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let v25 : BitVec 1 := Scalar.andi v24 v21
  let v26 : BitVec 32 := Scalar.addi v20 v19
  let v27 : BitVec 32 := Scalar.select v25 v26 v20
  let c0_i32_10 : BitVec 32 := 0#32
  ![v17.toNat, arg1.toNat, v27.toNat]

def cc0_transform_5 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c3_i32 : BitVec 32 := 3#32
  let v1 : BitVec 32 := Scalar.divsi v0 c3_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c3_i32 c0_i32_1
  let v8 : BitVec 32 := Scalar.extui v7
  let c0_i32_2 : BitVec 32 := 0#32
  let v9 : BitVec 1 := Scalar.cmpi .slt c3_i32 c0_i32_2
  let v10 : BitVec 32 := Scalar.extui v9
  let v11 : BitVec 32 := Scalar.subi v8 v10
  let v12 : BitVec 1 := Scalar.cmpi .ne v6 v11
  let v13 : BitVec 32 := Scalar.remsi v0 c3_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c3_i32_4 : BitVec 32 := 3#32
  let c0_i32_5 : BitVec 32 := 0#32
  let v18 : BitVec 1 := Scalar.cmpi .eq c3_i32_4 c0_i32_5
  let c1_i32_6 : BitVec 32 := 1#32
  let v19 : BitVec 32 := Scalar.select v18 c1_i32_6 c3_i32_4
  let v20 : BitVec 32 := Scalar.remsi v0 v19
  let c0_i32_7 : BitVec 32 := 0#32
  let v21 : BitVec 1 := Scalar.cmpi .ne v20 c0_i32_7
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let v25 : BitVec 1 := Scalar.andi v24 v21
  let v26 : BitVec 32 := Scalar.addi v20 v19
  let v27 : BitVec 32 := Scalar.select v25 v26 v20
  let c0_i32_10 : BitVec 32 := 0#32
  ![v17.toNat, arg1.toNat, v27.toNat]

def cc0_transform_6 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c3_i32 : BitVec 32 := 3#32
  let v1 : BitVec 32 := Scalar.divsi v0 c3_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c3_i32 c0_i32_1
  let v8 : BitVec 32 := Scalar.extui v7
  let c0_i32_2 : BitVec 32 := 0#32
  let v9 : BitVec 1 := Scalar.cmpi .slt c3_i32 c0_i32_2
  let v10 : BitVec 32 := Scalar.extui v9
  let v11 : BitVec 32 := Scalar.subi v8 v10
  let v12 : BitVec 1 := Scalar.cmpi .ne v6 v11
  let v13 : BitVec 32 := Scalar.remsi v0 c3_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c64_i32 : BitVec 32 := 64#32
  let v18 : BitVec 32 := Scalar.muli arg1 c64_i32
  let c1_i32_4 : BitVec 32 := 1#32
  let v19 : BitVec 32 := Scalar.subi v18 c1_i32_4
  let c0_i32_5 : BitVec 32 := 0#32
  let v20 : BitVec 32 := Scalar.maxsi v19 c0_i32_5
  let c3_i32_6 : BitVec 32 := 3#32
  let c0_i32_7 : BitVec 32 := 0#32
  let v21 : BitVec 1 := Scalar.cmpi .eq c3_i32_6 c0_i32_7
  let c1_i32_8 : BitVec 32 := 1#32
  let v22 : BitVec 32 := Scalar.select v21 c1_i32_8 c3_i32_6
  let v23 : BitVec 32 := Scalar.remsi v0 v22
  let c0_i32_9 : BitVec 32 := 0#32
  let v24 : BitVec 1 := Scalar.cmpi .ne v23 c0_i32_9
  let c0_i32_10 : BitVec 32 := 0#32
  let v25 : BitVec 1 := Scalar.cmpi .slt v23 c0_i32_10
  let c0_i32_11 : BitVec 32 := 0#32
  let v26 : BitVec 1 := Scalar.cmpi .slt v22 c0_i32_11
  let v27 : BitVec 1 := Scalar.xori v25 v26
  let v28 : BitVec 1 := Scalar.andi v27 v24
  let v29 : BitVec 32 := Scalar.addi v23 v22
  let v30 : BitVec 32 := Scalar.select v28 v29 v23
  let c0_i32_12 : BitVec 32 := 0#32
  ![v17.toNat, v20.toNat, v30.toNat]

def cc0_transform_7 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c3_i32 : BitVec 32 := 3#32
  let v1 : BitVec 32 := Scalar.divsi v0 c3_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c3_i32 c0_i32_1
  let v8 : BitVec 32 := Scalar.extui v7
  let c0_i32_2 : BitVec 32 := 0#32
  let v9 : BitVec 1 := Scalar.cmpi .slt c3_i32 c0_i32_2
  let v10 : BitVec 32 := Scalar.extui v9
  let v11 : BitVec 32 := Scalar.subi v8 v10
  let v12 : BitVec 1 := Scalar.cmpi .ne v6 v11
  let v13 : BitVec 32 := Scalar.remsi v0 c3_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c64_i32 : BitVec 32 := 64#32
  let v18 : BitVec 32 := Scalar.muli arg1 c64_i32
  let c1_i32_4 : BitVec 32 := 1#32
  let v19 : BitVec 32 := Scalar.subi v18 c1_i32_4
  let c0_i32_5 : BitVec 32 := 0#32
  let v20 : BitVec 32 := Scalar.maxsi v19 c0_i32_5
  let c3_i32_6 : BitVec 32 := 3#32
  let c0_i32_7 : BitVec 32 := 0#32
  let v21 : BitVec 1 := Scalar.cmpi .eq c3_i32_6 c0_i32_7
  let c1_i32_8 : BitVec 32 := 1#32
  let v22 : BitVec 32 := Scalar.select v21 c1_i32_8 c3_i32_6
  let v23 : BitVec 32 := Scalar.remsi v0 v22
  let c0_i32_9 : BitVec 32 := 0#32
  let v24 : BitVec 1 := Scalar.cmpi .ne v23 c0_i32_9
  let c0_i32_10 : BitVec 32 := 0#32
  let v25 : BitVec 1 := Scalar.cmpi .slt v23 c0_i32_10
  let c0_i32_11 : BitVec 32 := 0#32
  let v26 : BitVec 1 := Scalar.cmpi .slt v22 c0_i32_11
  let v27 : BitVec 1 := Scalar.xori v25 v26
  let v28 : BitVec 1 := Scalar.andi v27 v24
  let v29 : BitVec 32 := Scalar.addi v23 v22
  let v30 : BitVec 32 := Scalar.select v28 v29 v23
  let c0_i32_12 : BitVec 32 := 0#32
  ![v17.toNat, v20.toNat, v30.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x8x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x8x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S3x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S3x512x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S8x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]
-- ==== ConvReferenceIdeal.lean ====
abbrev S4096x6144 : Shape := ⟨2, ![4096, 6144]⟩
abbrev S3x2048 : Shape := ⟨2, ![3, 2048]⟩
abbrev S4096x2048 : Shape := ⟨2, ![4096, 2048]⟩
abbrev S1x2048 : Shape := ⟨2, ![1, 2048]⟩
abbrev S_ : Shape := ⟨0, ![]⟩
abbrev S4095x2048 : Shape := ⟨2, ![4095, 2048]⟩
abbrev S2x2048 : Shape := ⟨2, ![2, 2048]⟩
abbrev S4094x2048 : Shape := ⟨2, ![4094, 2048]⟩
abbrev S2048 : Shape := ⟨1, ![2048]⟩
abbrev S1x4096x2048 : Shape := ⟨3, ![1, 4096, 2048]⟩
abbrev S3x4096x2048 : Shape := ⟨3, ![3, 4096, 2048]⟩

abbrev nBuf : Space → Nat
  | .hbm => 82
  | .vmem => 0
  | .smem => 0
  | _ => 0

abbrev bufTy : (tb : Table) → Fin (tcTables nBuf tb) → BufTy
  | .hbm, ⟨0, _⟩ => ⟨S4096x6144, .f32⟩
  | .hbm, ⟨1, _⟩ => ⟨S3x2048, .f32⟩
  | .hbm, ⟨2, _⟩ => ⟨S4096x2048, .f32⟩
  | .hbm, ⟨3, _⟩ => ⟨S4096x2048, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S1x2048, .f32⟩
  | .hbm, ⟨8, _⟩ => ⟨S_, .f32⟩
  | .hbm, ⟨9, _⟩ => ⟨S1x2048, .f32⟩
  | .hbm, ⟨10, _⟩ => ⟨S4095x2048, .f32⟩
  | .hbm, ⟨11, _⟩ => ⟨S4096x2048, .f32⟩
  | .hbm, ⟨12, _⟩ => ⟨S_, .f32⟩
  | .hbm, ⟨13, _⟩ => ⟨S1x2048, .f32⟩
  | .hbm, ⟨14, _⟩ => ⟨S2x2048, .f32⟩
  | .hbm, ⟨15, _⟩ => ⟨S_, .f32⟩
  | .hbm, ⟨16, _⟩ => ⟨S2x2048, .f32⟩
  | .hbm, ⟨17, _⟩ => ⟨S4094x2048, .f32⟩
  | .hbm, ⟨18, _⟩ => ⟨S4096x2048, .f32⟩
  | .hbm, ⟨19, _⟩ => ⟨S_, .f32⟩
  | .hbm, ⟨20, _⟩ => ⟨S2x2048, .f32⟩
  | .hbm, ⟨21, _⟩ => ⟨S1x2048, .f32⟩
  | .hbm, ⟨22, _⟩ => ⟨S4096x2048, .f32⟩
  | .hbm, ⟨23, _⟩ => ⟨S4096x2048, .f32⟩
  | .hbm, ⟨24, _⟩ => ⟨S1x2048, .f32⟩
  | .hbm, ⟨25, _⟩ => ⟨S4096x2048, .f32⟩
  | .hbm, ⟨26, _⟩ => ⟨S4096x2048, .f32⟩
  | .hbm, ⟨27, _⟩ => ⟨S4096x2048, .f32⟩
  | .hbm, ⟨28, _⟩ => ⟨S1x2048, .f32⟩
  | .hbm, ⟨29, _⟩ => ⟨S4096x2048, .f32⟩
  | .hbm, ⟨30, _⟩ => ⟨S4096x2048, .f32⟩
  | .hbm, ⟨31, _⟩ => ⟨S4096x2048, .f32⟩
  | .hbm, ⟨32, _⟩ => ⟨S4096x2048, .f32⟩
  | .hbm, ⟨33, _⟩ => ⟨S4096x2048, .f32⟩
  | .hbm, ⟨34, _⟩ => ⟨S4096x2048, .f32⟩
  | .hbm, ⟨35, _⟩ => ⟨S4096x2048, .f32⟩
  | .hbm, ⟨36, _⟩ => ⟨S_, .f32⟩
  | .hbm, ⟨37, _⟩ => ⟨S2048, .f32⟩
  | .hbm, ⟨38, _⟩ => ⟨S1x2048, .f32⟩
  | .hbm, ⟨39, _⟩ => ⟨S4096x2048, .f32⟩
  | .hbm, ⟨40, _⟩ => ⟨S4096x2048, .f32⟩
  | .hbm, ⟨41, _⟩ => ⟨S_, .f32⟩
  | .hbm, ⟨42, _⟩ => ⟨S3x2048, .f32⟩
  | .hbm, ⟨43, _⟩ => ⟨S4096x2048, .f32⟩
  | .hbm, ⟨44, _⟩ => ⟨S_, .f32⟩
  | .hbm, ⟨45, _⟩ => ⟨S2048, .f32⟩
  | .hbm, ⟨46, _⟩ => ⟨S1x2048, .f32⟩
  | .hbm, ⟨47, _⟩ => ⟨S4096x2048, .f32⟩
  | .hbm, ⟨48, _⟩ => ⟨S4096x2048, .f32⟩
  | .hbm, ⟨49, _⟩ => ⟨S_, .f32⟩
  | .hbm, ⟨50, _⟩ => ⟨S3x2048, .f32⟩
  | .hbm, ⟨51, _⟩ => ⟨S3x2048, .f32⟩
  | .hbm, ⟨52, _⟩ => ⟨S4096x2048, .f32⟩
  | .hbm, ⟨53, _⟩ => ⟨S_, .f32⟩
  | .hbm, ⟨54, _⟩ => ⟨S2048, .f32⟩
  | .hbm, ⟨55, _⟩ => ⟨S1x2048, .f32⟩
  | .hbm, ⟨56, _⟩ => ⟨S4096x2048, .f32⟩
  | .hbm, ⟨57, _⟩ => ⟨S4096x2048, .f32⟩
  | .hbm, ⟨58, _⟩ => ⟨S_, .f32⟩
  | .hbm, ⟨59, _⟩ => ⟨S3x2048, .f32⟩
  | .hbm, ⟨60, _⟩ => ⟨S3x2048, .f32⟩
  | .hbm, ⟨61, _⟩ => ⟨S2x2048, .f32⟩
  | .hbm, ⟨62, _⟩ => ⟨S4094x2048, .f32⟩
  | .hbm, ⟨63, _⟩ => ⟨S_, .f32⟩
  | .hbm, ⟨64, _⟩ => ⟨S4096x2048, .f32⟩
  | .hbm, ⟨65, _⟩ => ⟨S4096x2048, .f32⟩
  | .hbm, ⟨66, _⟩ => ⟨S1x2048, .f32⟩
  | .hbm, ⟨67, _⟩ => ⟨S4095x2048, .f32⟩
  | .hbm, ⟨68, _⟩ => ⟨S_, .f32⟩
  | .hbm, ⟨69, _⟩ => ⟨S4096x2048, .f32⟩
  | .hbm, ⟨70, _⟩ => ⟨S4096x2048, .f32⟩
  | .hbm, ⟨71, _⟩ => ⟨S4096x2048, .f32⟩
  | .hbm, ⟨72, _⟩ => ⟨S4096x2048, .f32⟩
  | .hbm, ⟨73, _⟩ => ⟨S4096x6144, .f32⟩
  | .hbm, ⟨74, _⟩ => ⟨S4096x2048, .f32⟩
  | .hbm, ⟨75, _⟩ => ⟨S4096x2048, .f32⟩
  | .hbm, ⟨76, _⟩ => ⟨S4096x2048, .f32⟩
  | .hbm, ⟨77, _⟩ => ⟨S1x4096x2048, .f32⟩
  | .hbm, ⟨78, _⟩ => ⟨S1x4096x2048, .f32⟩
  | .hbm, ⟨79, _⟩ => ⟨S1x4096x2048, .f32⟩
  | .hbm, ⟨80, _⟩ => ⟨S3x4096x2048, .f32⟩
  | .hbm, ⟨81, _⟩ => ⟨S3x4096x2048, .bf16⟩
  | _, _ => ⟨S4096x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_cst_3 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_cst_4 : Ref sig .tc := ⟨.hbm, 41, rfl⟩
abbrev main_v33 : Ref sig .tc := ⟨.hbm, 42, rfl⟩
abbrev main_v34 : Ref sig .tc := ⟨.hbm, 43, rfl⟩
abbrev main_cst_5 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_cst_6 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_cst_7 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_cst_8 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_cst_9 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_cst_10 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩

abbrev nD : Nat := 1
abbrev τ : Topo := Topo.v7x

variable {F : FTy → Type} [FloatOps F]
-- ==== MixKernel.lean ====
abbrev S4096x6144 : Shape := ⟨2, ![4096, 6144]⟩
abbrev S3x2048 : Shape := ⟨2, ![3, 2048]⟩
abbrev S4096x8x768 : Shape := ⟨3, ![4096, 8, 768]⟩
abbrev S8x4096x768 : Shape := ⟨3, ![8, 4096, 768]⟩
abbrev S4096x2048 : Shape := ⟨2, ![4096, 2048]⟩
abbrev S1x512x256 : Shape := ⟨3, ![1, 512, 256]⟩
abbrev S1x8x256 : Shape := ⟨3, ![1, 8, 256]⟩
abbrev S3x256 : Shape := ⟨2, ![3, 256]⟩
abbrev S512x256 : Shape := ⟨2, ![512, 256]⟩
abbrev S8x256 : Shape := ⟨2, ![8, 256]⟩
abbrev S520x256 : Shape := ⟨2, ![520, 256]⟩
abbrev S1x256 : Shape := ⟨2, ![1, 256]⟩

abbrev nBuf : Space → Nat
  | .hbm => 5
  | .vmem => 14
  | .smem => 0
  | _ => 0

abbrev bufTy : (tb : Table) → Fin (tcTables nBuf tb) → BufTy
  | .hbm, ⟨0, _⟩ => ⟨S4096x6144, .f32⟩
  | .hbm, ⟨1, _⟩ => ⟨S3x2048, .f32⟩
  | .hbm, ⟨2, _⟩ => ⟨S4096x8x768, .f32⟩
  | .hbm, ⟨3, _⟩ => ⟨S8x4096x768, .f32⟩
  | .hbm, ⟨4, _⟩ => ⟨S4096x2048, .bf16⟩
  | .local _ .vmem, ⟨0, _⟩ => ⟨S1x512x256, .f32⟩
  | .local _ .vmem, ⟨1, _⟩ => ⟨S1x512x256, .f32⟩
  | .local _ .vmem, ⟨2, _⟩ => ⟨S1x512x256, .f32⟩
  | .local _ .vmem, ⟨3, _⟩ => ⟨S1x512x256, .f32⟩
  | .local _ .vmem, ⟨4, _⟩ => ⟨S1x512x256, .f32⟩
  | .local _ .vmem, ⟨5, _⟩ => ⟨S1x512x256, .f32⟩
  | .local _ .vmem, ⟨6, _⟩ => ⟨S1x8x256, .f32⟩
  | .local _ .vmem, ⟨7, _⟩ => ⟨S1x8x256, .f32⟩
  | .local _ .vmem, ⟨8, _⟩ => ⟨S1x8x256, .f32⟩
  | .local _ .vmem, ⟨9, _⟩ => ⟨S1x8x256, .f32⟩
  | .local _ .vmem, ⟨10, _⟩ => ⟨S3x256, .f32⟩
  | .local _ .vmem, ⟨11, _⟩ => ⟨S3x256, .f32⟩
  | .local _ .vmem, ⟨12, _⟩ => ⟨S512x256, .bf16⟩
  | .local _ .vmem, ⟨13, _⟩ => ⟨S512x256, .bf16⟩
  | _, _ => ⟨S4096x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c3_i32 : BitVec 32 := 3#32
  let v1 : BitVec 32 := Scalar.divsi v0 c3_i32
  let c0_i32_0 : BitVec 32 := 0#32
  let v2 : BitVec 1 := Scalar.cmpi .sgt v0 c0_i32_0
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c0_i32_2 : BitVec 32 := 0#32
  let v7 : BitVec 1 := Scalar.cmpi .sgt c3_i32 c0_i32_2
  let v8 : BitVec 32 := Scalar.extui v7
  let c0_i32_3 : BitVec 32 := 0#32
  let v9 : BitVec 1 := Scalar.cmpi .slt c3_i32 c0_i32_3
  let v10 : BitVec 32 := Scalar.extui v9
  let v11 : BitVec 32 := Scalar.subi v8 v10
  let v12 : BitVec 1 := Scalar.cmpi .ne v6 v11
  let v13 : BitVec 32 := Scalar.remsi v0 c3_i32
  let c0_i32_4 : BitVec 32 := 0#32
  let v14 : BitVec 1 := Scalar.cmpi .ne v13 c0_i32_4
  let v15 : BitVec 1 := Scalar.andi v12 v14
  let c1_i32 : BitVec 32 := 1#32
  let v16 : BitVec 32 := Scalar.subi v1 c1_i32
  let v17 : BitVec 32 := Scalar.select v15 v16 v1
  let c3_i32_5 : BitVec 32 := 3#32
  let c0_i32_6 : BitVec 32 := 0#32
  let v18 : BitVec 1 := Scalar.cmpi .eq c3_i32_5 c0_i32_6
  let c1_i32_7 : BitVec 32 := 1#32
  let v19 : BitVec 32 := Scalar.select v18 c1_i32_7 c3_i32_5
  let v20 : BitVec 32 := Scalar.remsi v0 v19
  let c0_i32_8 : BitVec 32 := 0#32
  let v21 : BitVec 1 := Scalar.cmpi .ne v20 c0_i32_8
  let c0_i32_9 : BitVec 32 := 0#32
  let v22 : BitVec 1 := Scalar.cmpi .slt v20 c0_i32_9
  let c0_i32_10 : BitVec 32 := 0#32
  let v23 : BitVec 1 := Scalar.cmpi .slt v19 c0_i32_10
  let v24 : BitVec 1 := Scalar.xori v22 v23
  let v25 : BitVec 1 := Scalar.andi v24 v21
  let v26 : BitVec 32 := Scalar.addi v20 v19
  let v27 : BitVec 32 := Scalar.select v25 v26 v20
  let c0_i32_11 : BitVec 32 := 0#32
  ![v17.toNat, arg1.toNat, v27.toNat]

def cc0_transform_1 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c3_i32 : BitVec 32 := 3#32
  let v1 : BitVec 32 := Scalar.divsi v0 c3_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c3_i32 c0_i32_1
  let v8 : BitVec 32 := Scalar.extui v7
  let c0_i32_2 : BitVec 32 := 0#32
  let v9 : BitVec 1 := Scalar.cmpi .slt c3_i32 c0_i32_2
  let v10 : BitVec 32 := Scalar.extui v9
  let v11 : BitVec 32 := Scalar.subi v8 v10
  let v12 : BitVec 1 := Scalar.cmpi .ne v6 v11
  let v13 : BitVec 32 := Scalar.remsi v0 c3_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c3_i32_4 : BitVec 32 := 3#32
  let c0_i32_5 : BitVec 32 := 0#32
  let v18 : BitVec 1 := Scalar.cmpi .eq c3_i32_4 c0_i32_5
  let c1_i32_6 : BitVec 32 := 1#32
  let v19 : BitVec 32 := Scalar.select v18 c1_i32_6 c3_i32_4
  let v20 : BitVec 32 := Scalar.remsi v0 v19
  let c0_i32_7 : BitVec 32 := 0#32
  let v21 : BitVec 1 := Scalar.cmpi .ne v20 c0_i32_7
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let v25 : BitVec 1 := Scalar.andi v24 v21
  let v26 : BitVec 32 := Scalar.addi v20 v19
  let v27 : BitVec 32 := Scalar.select v25 v26 v20
  let c0_i32_10 : BitVec 32 := 0#32
  ![v17.toNat, arg1.toNat, v27.toNat]

def cc0_transform_2 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c3_i32 : BitVec 32 := 3#32
  let v1 : BitVec 32 := Scalar.divsi v0 c3_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c3_i32 c0_i32_1
  let v8 : BitVec 32 := Scalar.extui v7
  let c0_i32_2 : BitVec 32 := 0#32
  let v9 : BitVec 1 := Scalar.cmpi .slt c3_i32 c0_i32_2
  let v10 : BitVec 32 := Scalar.extui v9
  let v11 : BitVec 32 := Scalar.subi v8 v10
  let v12 : BitVec 1 := Scalar.cmpi .ne v6 v11
  let v13 : BitVec 32 := Scalar.remsi v0 c3_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c3_i32_4 : BitVec 32 := 3#32
  let c0_i32_5 : BitVec 32 := 0#32
  let v18 : BitVec 1 := Scalar.cmpi .eq c3_i32_4 c0_i32_5
  let c1_i32_6 : BitVec 32 := 1#32
  let v19 : BitVec 32 := Scalar.select v18 c1_i32_6 c3_i32_4
  let v20 : BitVec 32 := Scalar.remsi v0 v19
  let c0_i32_7 : BitVec 32 := 0#32
  let v21 : BitVec 1 := Scalar.cmpi .ne v20 c0_i32_7
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let v25 : BitVec 1 := Scalar.andi v24 v21
  let v26 : BitVec 32 := Scalar.addi v20 v19
  let v27 : BitVec 32 := Scalar.select v25 v26 v20
  let c0_i32_10 : BitVec 32 := 0#32
  ![v17.toNat, arg1.toNat, v27.toNat]

def cc0_transform_3 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c3_i32 : BitVec 32 := 3#32
  let v1 : BitVec 32 := Scalar.divsi v0 c3_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c3_i32 c0_i32_1
  let v8 : BitVec 32 := Scalar.extui v7
  let c0_i32_2 : BitVec 32 := 0#32
  let v9 : BitVec 1 := Scalar.cmpi .slt c3_i32 c0_i32_2
  let v10 : BitVec 32 := Scalar.extui v9
  let v11 : BitVec 32 := Scalar.subi v8 v10
  let v12 : BitVec 1 := Scalar.cmpi .ne v6 v11
  let v13 : BitVec 32 := Scalar.remsi v0 c3_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c64_i32 : BitVec 32 := 64#32
  let v18 : BitVec 32 := Scalar.muli arg1 c64_i32
  let c1_i32_4 : BitVec 32 := 1#32
  let v19 : BitVec 32 := Scalar.subi v18 c1_i32_4
  let c0_i32_5 : BitVec 32 := 0#32
  let v20 : BitVec 32 := Scalar.maxsi v19 c0_i32_5
  let c3_i32_6 : BitVec 32 := 3#32
  let c0_i32_7 : BitVec 32 := 0#32
  let v21 : BitVec 1 := Scalar.cmpi .eq c3_i32_6 c0_i32_7
  let c1_i32_8 : BitVec 32 := 1#32
  let v22 : BitVec 32 := Scalar.select v21 c1_i32_8 c3_i32_6
  let v23 : BitVec 32 := Scalar.remsi v0 v22
  let c0_i32_9 : BitVec 32 := 0#32
  let v24 : BitVec 1 := Scalar.cmpi .ne v23 c0_i32_9
  let c0_i32_10 : BitVec 32 := 0#32
  let v25 : BitVec 1 := Scalar.cmpi .slt v23 c0_i32_10
  let c0_i32_11 : BitVec 32 := 0#32
  let v26 : BitVec 1 := Scalar.cmpi .slt v22 c0_i32_11
  let v27 : BitVec 1 := Scalar.xori v25 v26
  let v28 : BitVec 1 := Scalar.andi v27 v24
  let v29 : BitVec 32 := Scalar.addi v23 v22
  let v30 : BitVec 32 := Scalar.select v28 v29 v23
  let c0_i32_12 : BitVec 32 := 0#32
  ![v17.toNat, v20.toNat, v30.toNat]

def cc0_transform_4 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c3_i32 : BitVec 32 := 3#32
  let v1 : BitVec 32 := Scalar.divsi v0 c3_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c3_i32 c0_i32_1
  let v8 : BitVec 32 := Scalar.extui v7
  let c0_i32_2 : BitVec 32 := 0#32
  let v9 : BitVec 1 := Scalar.cmpi .slt c3_i32 c0_i32_2
  let v10 : BitVec 32 := Scalar.extui v9
  let v11 : BitVec 32 := Scalar.subi v8 v10
  let v12 : BitVec 1 := Scalar.cmpi .ne v6 v11
  let v13 : BitVec 32 := Scalar.remsi v0 c3_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c64_i32 : BitVec 32 := 64#32
  let v18 : BitVec 32 := Scalar.muli arg1 c64_i32
  let c1_i32_4 : BitVec 32 := 1#32
  let v19 : BitVec 32 := Scalar.subi v18 c1_i32_4
  let c0_i32_5 : BitVec 32 := 0#32
  let v20 : BitVec 32 := Scalar.maxsi v19 c0_i32_5
  let c3_i32_6 : BitVec 32 := 3#32
  let c0_i32_7 : BitVec 32 := 0#32
  let v21 : BitVec 1 := Scalar.cmpi .eq c3_i32_6 c0_i32_7
  let c1_i32_8 : BitVec 32 := 1#32
  let v22 : BitVec 32 := Scalar.select v21 c1_i32_8 c3_i32_6
  let v23 : BitVec 32 := Scalar.remsi v0 v22
  let c0_i32_9 : BitVec 32 := 0#32
  let v24 : BitVec 1 := Scalar.cmpi .ne v23 c0_i32_9
  let c0_i32_10 : BitVec 32 := 0#32
  let v25 : BitVec 1 := Scalar.cmpi .slt v23 c0_i32_10
  let c0_i32_11 : BitVec 32 := 0#32
  let v26 : BitVec 1 := Scalar.cmpi .slt v22 c0_i32_11
  let v27 : BitVec 1 := Scalar.xori v25 v26
  let v28 : BitVec 1 := Scalar.andi v27 v24
  let v29 : BitVec 32 := Scalar.addi v23 v22
  let v30 : BitVec 32 := Scalar.select v28 v29 v23
  let c0_i32_12 : BitVec 32 := 0#32
  ![v17.toNat, v20.toNat, v30.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1x512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x8x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S3x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== MixReferenceIdeal.lean ====
abbrev S4096x6144 : Shape := ⟨2, ![4096, 6144]⟩
abbrev S3x2048 : Shape := ⟨2, ![3, 2048]⟩
abbrev S4096x2048 : Shape := ⟨2, ![4096, 2048]⟩
abbrev S1x2048 : Shape := ⟨2, ![1, 2048]⟩
abbrev S_ : Shape := ⟨0, ![]⟩
abbrev S4095x2048 : Shape := ⟨2, ![4095, 2048]⟩
abbrev S2x2048 : Shape := ⟨2, ![2, 2048]⟩
abbrev S4094x2048 : Shape := ⟨2, ![4094, 2048]⟩

abbrev nBuf : Space → Nat
  | .hbm => 29
  | .vmem => 0
  | .smem => 0
  | _ => 0

abbrev bufTy : (tb : Table) → Fin (tcTables nBuf tb) → BufTy
  | .hbm, ⟨0, _⟩ => ⟨S4096x6144, .f32⟩
  | .hbm, ⟨1, _⟩ => ⟨S3x2048, .f32⟩
  | .hbm, ⟨2, _⟩ => ⟨S4096x2048, .f32⟩
  | .hbm, ⟨3, _⟩ => ⟨S4096x2048, .f32⟩
  | .hbm, ⟨4, _⟩ => ⟨S4096x2048, .f32⟩
  | .hbm, ⟨5, _⟩ => ⟨S4096x2048, .f32⟩
  | .hbm, ⟨6, _⟩ => ⟨S1x2048, .f32⟩
  | .hbm, ⟨7, _⟩ => ⟨S_, .f32⟩
  | .hbm, ⟨8, _⟩ => ⟨S1x2048, .f32⟩
  | .hbm, ⟨9, _⟩ => ⟨S4095x2048, .f32⟩
  | .hbm, ⟨10, _⟩ => ⟨S4096x2048, .f32⟩
  | .hbm, ⟨11, _⟩ => ⟨S2x2048, .f32⟩
  | .hbm, ⟨12, _⟩ => ⟨S_, .f32⟩
  | .hbm, ⟨13, _⟩ => ⟨S2x2048, .f32⟩
  | .hbm, ⟨14, _⟩ => ⟨S4094x2048, .f32⟩
  | .hbm, ⟨15, _⟩ => ⟨S4096x2048, .f32⟩
  | .hbm, ⟨16, _⟩ => ⟨S1x2048, .f32⟩
  | .hbm, ⟨17, _⟩ => ⟨S4096x2048, .f32⟩
  | .hbm, ⟨18, _⟩ => ⟨S4096x2048, .f32⟩
  | .hbm, ⟨19, _⟩ => ⟨S1x2048, .f32⟩
  | .hbm, ⟨20, _⟩ => ⟨S4096x2048, .f32⟩
  | .hbm, ⟨21, _⟩ => ⟨S4096x2048, .f32⟩
  | .hbm, ⟨22, _⟩ => ⟨S4096x2048, .f32⟩
  | .hbm, ⟨23, _⟩ => ⟨S1x2048, .f32⟩
  | .hbm, ⟨24, _⟩ => ⟨S4096x2048, .f32⟩
  | .hbm, ⟨25, _⟩ => ⟨S4096x2048, .f32⟩
  | .hbm, ⟨26, _⟩ => ⟨S4096x2048, .f32⟩
  | .hbm, ⟨27, _⟩ => ⟨S4096x2048, .f32⟩
  | .hbm, ⟨28, _⟩ => ⟨S4096x2048, .bf16⟩
  | _, _ => ⟨S4096x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩

abbrev nD : Nat := 1
abbrev τ : Topo := Topo.v7x

variable {F : FTy → Type} [FloatOps F]
-- ==== PoolKernel.lean ====
abbrev S4096x2048 : Shape := ⟨2, ![4096, 2048]⟩
abbrev S4x512x512 : Shape := ⟨3, ![4, 512, 512]⟩
abbrev S1x2048 : Shape := ⟨2, ![1, 2048]⟩
abbrev S512x512 : Shape := ⟨2, ![512, 512]⟩
abbrev S16x512 : Shape := ⟨2, ![16, 512]⟩
abbrev S1x512x512 : Shape := ⟨3, ![1, 512, 512]⟩
abbrev S1x512 : Shape := ⟨2, ![1, 512]⟩
abbrev S528x512 : Shape := ⟨2, ![528, 512]⟩
abbrev S512x1 : Shape := ⟨2, ![512, 1]⟩
abbrev S528x1 : Shape := ⟨2, ![528, 1]⟩
abbrev S512 : Shape := ⟨1, ![512]⟩

abbrev nBuf : Space → Nat
  | .hbm => 11
  | .vmem => 30
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4x512x512, .f32⟩
  | .hbm, ⟨3, _⟩ => ⟨S1x2048, .f32⟩
  | .hbm, ⟨4, _⟩ => ⟨S4096x2048, .f32⟩
  | .hbm, ⟨5, _⟩ => ⟨S4x512x512, .bf16⟩
  | .hbm, ⟨6, _⟩ => ⟨S4096x2048, .f32⟩
  | .hbm, ⟨7, _⟩ => ⟨S4096x2048, .bf16⟩
  | .hbm, ⟨8, _⟩ => ⟨S4096x2048, .f32⟩
  | .hbm, ⟨9, _⟩ => ⟨S4x512x512, .f32⟩
  | .hbm, ⟨10, _⟩ => ⟨S1x2048, .f32⟩
  | .local _ .vmem, ⟨0, _⟩ => ⟨S512x512, .f32⟩
  | .local _ .vmem, ⟨1, _⟩ => ⟨S512x512, .f32⟩
  | .local _ .vmem, ⟨2, _⟩ => ⟨S16x512, .f32⟩
  | .local _ .vmem, ⟨3, _⟩ => ⟨S16x512, .f32⟩
  | .local _ .vmem, ⟨4, _⟩ => ⟨S512x512, .f32⟩
  | .local _ .vmem, ⟨5, _⟩ => ⟨S512x512, .f32⟩
  | .local _ .vmem, ⟨6, _⟩ => ⟨S1x512x512, .bf16⟩
  | .local _ .vmem, ⟨7, _⟩ => ⟨S1x512x512, .bf16⟩
  | .local _ .vmem, ⟨8, _⟩ => ⟨S1x512, .f32⟩
  | .local _ .vmem, ⟨9, _⟩ => ⟨S1x512, .f32⟩
  | .local _ .vmem, ⟨10, _⟩ => ⟨S512x512, .f32⟩
  | .local _ .vmem, ⟨11, _⟩ => ⟨S512x512, .f32⟩
  | .local _ .vmem, ⟨12, _⟩ => ⟨S512x512, .bf16⟩
  | .local _ .vmem, ⟨13, _⟩ => ⟨S512x512, .bf16⟩
  | .local _ .vmem, ⟨14, _⟩ => ⟨S512x512, .f32⟩
  | .local _ .vmem, ⟨15, _⟩ => ⟨S512x512, .f32⟩
  | .local _ .vmem, ⟨16, _⟩ => ⟨S16x512, .f32⟩
  | .local _ .vmem, ⟨17, _⟩ => ⟨S16x512, .f32⟩
  | .local _ .vmem, ⟨18, _⟩ => ⟨S512x512, .bf16⟩
  | .local _ .vmem, ⟨19, _⟩ => ⟨S512x512, .bf16⟩
  | .local _ .vmem, ⟨20, _⟩ => ⟨S1x512x512, .bf16⟩
  | .local _ .vmem, ⟨21, _⟩ => ⟨S1x512x512, .bf16⟩
  | .local _ .vmem, ⟨22, _⟩ => ⟨S1x512, .f32⟩
  | .local _ .vmem, ⟨23, _⟩ => ⟨S1x512, .f32⟩
  | .local _ .vmem, ⟨24, _⟩ => ⟨S512x512, .f32⟩
  | .local _ .vmem, ⟨25, _⟩ => ⟨S512x512, .f32⟩
  | .local _ .vmem, ⟨26, _⟩ => ⟨S1x512x512, .f32⟩
  | .local _ .vmem, ⟨27, _⟩ => ⟨S1x512x512, .f32⟩
  | .local _ .vmem, ⟨28, _⟩ => ⟨S1x512, .f32⟩
  | .local _ .vmem, ⟨29, _⟩ => ⟨S1x512, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v2_0 : Ref sig .tc := ⟨.hbm, 8, rfl⟩
abbrev main_v2_1 : Ref sig .tc := ⟨.hbm, 9, rfl⟩
abbrev main_v2_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg3_1 : Ref sig .tc := ⟨.vmem, 21, rfl⟩
abbrev cc1_stg4_0 : Ref sig .tc := ⟨.vmem, 22, rfl⟩
abbrev cc1_stg4_1 : Ref sig .tc := ⟨.vmem, 23, rfl⟩
abbrev cc1_stg5_0 : Ref sig .tc := ⟨.vmem, 24, rfl⟩
abbrev cc1_stg5_1 : Ref sig .tc := ⟨.vmem, 25, rfl⟩
abbrev cc1_stg6_0 : Ref sig .tc := ⟨.vmem, 26, rfl⟩
abbrev cc1_stg6_1 : Ref sig .tc := ⟨.vmem, 27, rfl⟩
abbrev cc1_stg7_0 : Ref sig .tc := ⟨.vmem, 28, rfl⟩
abbrev cc1_stg7_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem3_1 : DmaSem sig := 21
abbrev cc1_sem4_0 : DmaSem sig := 22
abbrev cc1_sem4_1 : DmaSem sig := 23
abbrev cc1_sem5_0 : DmaSem sig := 24
abbrev cc1_sem5_1 : DmaSem sig := 25
abbrev cc1_sem6_0 : DmaSem sig := 26
abbrev cc1_sem6_1 : DmaSem sig := 27
abbrev cc1_sem7_0 : DmaSem sig := 28
abbrev cc1_sem7_1 : DmaSem sig := 29

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  ![v2.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev grid1 : Pipeline.Grid := ⟨2, ![4, 8], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_1 (i : grid1.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c32_i32 : BitVec 32 := 32#32
  let v1 : BitVec 32 := Scalar.muli v0 c32_i32
  let c255_i32 : BitVec 32 := 255#32
  let v2 : BitVec 32 := Scalar.minsi v1 c255_i32
  let c0_i32 : BitVec 32 := 0#32
  ![v2.toNat, arg0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_6 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage1_0 : Fin 2 → Memref sig .tc .vmem S512x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S16x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S512x512 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x512x512 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S1x512 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 2 → Memref sig .tc .vmem S512x512 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S1x512x512 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, false]

abbrev stage1_7 : Fin 2 → Memref sig .tc .vmem S1x512 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, false]
-- ==== PoolReferenceIdeal.lean ====
abbrev S4096x2048 : Shape := ⟨2, ![4096, 2048]⟩
abbrev S4x512x512 : Shape := ⟨3, ![4, 512, 512]⟩
abbrev S1x2048 : Shape := ⟨2, ![1, 2048]⟩
abbrev S4096x4x512 : Shape := ⟨3, ![4096, 4, 512]⟩
abbrev S_ : Shape := ⟨0, ![]⟩
abbrev S4096 : Shape := ⟨1, ![4096]⟩
abbrev S4096x1x512 : Shape := ⟨3, ![4096, 1, 512]⟩
abbrev S4096x512 : Shape := ⟨2, ![4096, 512]⟩
abbrev S2x512 : Shape := ⟨2, ![2, 512]⟩
abbrev S4094x512 : Shape := ⟨2, ![4094, 512]⟩
abbrev S4096x1 : Shape := ⟨2, ![4096, 1]⟩
abbrev S4x512 : Shape := ⟨2, ![4, 512]⟩
abbrev S4092x512 : Shape := ⟨2, ![4092, 512]⟩
abbrev S8x512 : Shape := ⟨2, ![8, 512]⟩
abbrev S4088x512 : Shape := ⟨2, ![4088, 512]⟩
abbrev S16x512 : Shape := ⟨2, ![16, 512]⟩
abbrev S4080x512 : Shape := ⟨2, ![4080, 512]⟩
abbrev S4x512x4096 : Shape := ⟨3, ![4, 512, 4096]⟩
abbrev S2048 : Shape := ⟨1, ![2048]⟩
abbrev S4x4096x512 : Shape := ⟨3, ![4, 4096, 512]⟩

abbrev nBuf : Space → Nat
  | .hbm => 195
  | .vmem => 0
  | .smem => 0
  | _ => 0

abbrev hbmTy0_0 (i : Nat) : BufTy := match i % 128 with
  | 0 => ⟨S4096x2048, .f32⟩
  | 1 => ⟨S4096x2048, .f32⟩
  | 2 => ⟨S4x512x512, .f32⟩
  | 3 => ⟨S1x2048, .f32⟩
  | 4 => ⟨S4096x2048, .f32⟩
  | 5 => ⟨S4096x4x512, .f32⟩
  | 6 => ⟨S_, .f32⟩
  | 7 => ⟨S_, .f32⟩
  | 8 => ⟨S4096x4x512, .f32⟩
  | 9 => ⟨S4096, .i32⟩
  | 10 => ⟨S_, .i32⟩
  | 11 => ⟨S4096, .i32⟩
  | 12 => ⟨S4096, .i32⟩
  | 13 => ⟨S4096x1x512, .f32⟩
  | 14 => ⟨S4096x512, .f32⟩
  | 15 => ⟨S2x512, .f32⟩
  | 16 => ⟨S_, .f32⟩
  | 17 => ⟨S2x512, .f32⟩
  | 18 => ⟨S4094x512, .f32⟩
  | 19 => ⟨S4096x512, .f32⟩
  | 20 => ⟨S_, .f32⟩
  | 21 => ⟨S2x512, .f32⟩
  | 22 => ⟨S_, .i32⟩
  | 23 => ⟨S4096, .i32⟩
  | 24 => ⟨S4096, .i32⟩
  | 25 => ⟨S4096, .f32⟩
  | 26 => ⟨S4096x1, .f32⟩
  | 27 => ⟨S4096x512, .f32⟩
  | 28 => ⟨S4096x512, .f32⟩
  | 29 => ⟨S4096x512, .f32⟩
  | 30 => ⟨S4096x1x512, .f32⟩
  | 31 => ⟨S4096x512, .f32⟩
  | 32 => ⟨S4096x512, .f32⟩
  | 33 => ⟨S4096x1x512, .f32⟩
  | 34 => ⟨S4096x512, .f32⟩
  | 35 => ⟨S4x512, .f32⟩
  | 36 => ⟨S_, .f32⟩
  | 37 => ⟨S4x512, .f32⟩
  | 38 => ⟨S4092x512, .f32⟩
  | 39 => ⟨S4096x512, .f32⟩
  | 40 => ⟨S_, .f32⟩
  | 41 => ⟨S4x512, .f32⟩
  | 42 => ⟨S_, .i32⟩
  | 43 => ⟨S4096, .i32⟩
  | 44 => ⟨S4096, .i32⟩
  | 45 => ⟨S4096, .f32⟩
  | 46 => ⟨S4096x1, .f32⟩
  | 47 => ⟨S4096x512, .f32⟩
  | 48 => ⟨S4096x512, .f32⟩
  | 49 => ⟨S4096x512, .f32⟩
  | 50 => ⟨S4096x1x512, .f32⟩
  | 51 => ⟨S4096x512, .f32⟩
  | 52 => ⟨S4096x512, .f32⟩
  | 53 => ⟨S4096x1x512, .f32⟩
  | 54 => ⟨S4096x512, .f32⟩
  | 55 => ⟨S8x512, .f32⟩
  | 56 => ⟨S_, .f32⟩
  | 57 => ⟨S8x512, .f32⟩
  | 58 => ⟨S4088x512, .f32⟩
  | 59 => ⟨S4096x512, .f32⟩
  | 60 => ⟨S_, .f32⟩
  | 61 => ⟨S8x512, .f32⟩
  | 62 => ⟨S_, .i32⟩
  | 63 => ⟨S4096, .i32⟩
  | 64 => ⟨S4096, .i32⟩
  | 65 => ⟨S4096, .f32⟩
  | 66 => ⟨S4096x1, .f32⟩
  | 67 => ⟨S4096x512, .f32⟩
  | 68 => ⟨S4096x512, .f32⟩
  | 69 => ⟨S4096x512, .f32⟩
  | 70 => ⟨S4096x1x512, .f32⟩
  | 71 => ⟨S4096x512, .f32⟩
  | 72 => ⟨S4096x512, .f32⟩
  | 73 => ⟨S4096x1x512, .f32⟩
  | 74 => ⟨S4096x512, .f32⟩
  | 75 => ⟨S16x512, .f32⟩
  | 76 => ⟨S_, .f32⟩
  | 77 => ⟨S16x512, .f32⟩
  | 78 => ⟨S4080x512, .f32⟩
  | 79 => ⟨S4096x512, .f32⟩
  | 80 => ⟨S_, .f32⟩
  | 81 => ⟨S16x512, .f32⟩
  | 82 => ⟨S_, .i32⟩
  | 83 => ⟨S4096, .i32⟩
  | 84 => ⟨S4096, .i32⟩
  | 85 => ⟨S4096, .f32⟩
  | 86 => ⟨S4096x1, .f32⟩
  | 87 => ⟨S4096x512, .f32⟩
  | 88 => ⟨S4096x512, .f32⟩
  | 89 => ⟨S4096x512, .f32⟩
  | 90 => ⟨S4096x1x512, .f32⟩
  | 91 => ⟨S4096x512, .f32⟩
  | 92 => ⟨S4096x512, .f32⟩
  | 93 => ⟨S4096x1x512, .f32⟩
  | 94 => ⟨S4096x1x512, .f32⟩
  | 95 => ⟨S4096x1x512, .f32⟩
  | 96 => ⟨S4096x1x512, .f32⟩
  | 97 => ⟨S4096x4x512, .f32⟩
  | 98 => ⟨S4x512x4096, .f32⟩
  | 99 => ⟨S4096x4x512, .f32⟩
  | 100 => ⟨S4096x2048, .f32⟩
  | 101 => ⟨S4096x2048, .f32⟩
  | 102 => ⟨S4096x2048, .f32⟩
  | 103 => ⟨S4096x2048, .f32⟩
  | 104 => ⟨S4096x2048, .f32⟩
  | 105 => ⟨S_, .f32⟩
  | 106 => ⟨S2048, .f32⟩
  | 107 => ⟨S1x2048, .f32⟩
  | 108 => ⟨S4096x2048, .f32⟩
  | 109 => ⟨S4096x2048, .f32⟩
  | 110 => ⟨S4096x4x512, .f32⟩
  | 111 => ⟨S4x512x4096, .f32⟩
  | 112 => ⟨S4x4096x512, .f32⟩
  | 113 => ⟨S4096x4x512, .f32⟩
  | 114 => ⟨S4x512x512, .f32⟩
  | 115 => ⟨S4x512x512, .f32⟩
  | 116 => ⟨S4096x1x512, .f32⟩
  | 117 => ⟨S4096x512, .f32⟩
  | 118 => ⟨S4096x1x512, .f32⟩
  | 119 => ⟨S4096x512, .f32⟩
  | 120 => ⟨S4096x1x512, .f32⟩
  | 121 => ⟨S4096x512, .f32⟩
  | 122 => ⟨S4096x1x512, .f32⟩
  | 123 => ⟨S4096x512, .f32⟩
  | 124 => ⟨S4096x512, .f32⟩
  | 125 => ⟨S4096x1x512, .f32⟩
  | 126 => ⟨S_, .f32⟩
  | 127 => ⟨S4096x4x512, .f32⟩
  | _ => ⟨S4096x2048, .f32⟩

abbrev hbmTy0_1 (i : Nat) : BufTy := match i % 128 with
  | 0 => ⟨S4096x512, .f32⟩
  | 1 => ⟨S4096x512, .f32⟩
  | 2 => ⟨S4096x512, .f32⟩
  | 3 => ⟨S16x512, .f32⟩
  | 4 => ⟨S4080x512, .f32⟩
  | 5 => ⟨S_, .f32⟩
  | 6 => ⟨S4096x512, .f32⟩
  | 7 => ⟨S4096x512, .f32⟩
  | 8 => ⟨S4096x1x512, .f32⟩
  | 9 => ⟨S_, .f32⟩
  | 10 => ⟨S4096x4x512, .f32⟩
  | 11 => ⟨S4096x512, .f32⟩
  | 12 => ⟨S4096x1x512, .f32⟩
  | 13 => ⟨S_, .f32⟩
  | 14 => ⟨S4096x4x512, .f32⟩
  | 15 => ⟨S4096x4x512, .f32⟩
  | 16 => ⟨S4096x512, .f32⟩
  | 17 => ⟨S4096x512, .f32⟩
  | 18 => ⟨S4096x512, .f32⟩
  | 19 => ⟨S8x512, .f32⟩
  | 20 => ⟨S4088x512, .f32⟩
  | 21 => ⟨S_, .f32⟩
  | 22 => ⟨S4096x512, .f32⟩
  | 23 => ⟨S4096x512, .f32⟩
  | 24 => ⟨S4096x1x512, .f32⟩
  | 25 => ⟨S_, .f32⟩
  | 26 => ⟨S4096x4x512, .f32⟩
  | 27 => ⟨S4096x4x512, .f32⟩
  | 28 => ⟨S4096x512, .f32⟩
  | 29 => ⟨S4096x1x512, .f32⟩
  | 30 => ⟨S_, .f32⟩
  | 31 => ⟨S4096x4x512, .f32⟩
  | 32 => ⟨S4096x4x512, .f32⟩
  | 33 => ⟨S4096x512, .f32⟩
  | 34 => ⟨S4096x512, .f32⟩
  | 35 => ⟨S4096x512, .f32⟩
  | 36 => ⟨S4x512, .f32⟩
  | 37 => ⟨S4092x512, .f32⟩
  | 38 => ⟨S_, .f32⟩
  | 39 => ⟨S4096x512, .f32⟩
  | 40 => ⟨S4096x512, .f32⟩
  | 41 => ⟨S4096x1x512, .f32⟩
  | 42 => ⟨S_, .f32⟩
  | 43 => ⟨S4096x4x512, .f32⟩
  | 44 => ⟨S4096x4x512, .f32⟩
  | 45 => ⟨S4096x512, .f32⟩
  | 46 => ⟨S4096x1x512, .f32⟩
  | 47 => ⟨S_, .f32⟩
  | 48 => ⟨S4096x4x512, .f32⟩
  | 49 => ⟨S4096x4x512, .f32⟩
  | 50 => ⟨S4096x512, .f32⟩
  | 51 => ⟨S4096x512, .f32⟩
  | 52 => ⟨S4096x512, .f32⟩
  | 53 => ⟨S2x512, .f32⟩
  | 54 => ⟨S4094x512, .f32⟩
  | 55 => ⟨S_, .f32⟩
  | 56 => ⟨S4096x512, .f32⟩
  | 57 => ⟨S4096x512, .f32⟩
  | 58 => ⟨S4096x1x512, .f32⟩
  | 59 => ⟨S_, .f32⟩
  | 60 => ⟨S4096x4x512, .f32⟩
  | 61 => ⟨S4096x4x512, .f32⟩
  | 62 => ⟨S_, .f32⟩
  | 63 => ⟨S_, .f32⟩
  | 64 => ⟨S4096x4x512, .f32⟩
  | 65 => ⟨S4096x4x512, .f32⟩
  | 66 => ⟨S4096x2048, .f32⟩
  | _ => ⟨S4096x2048, .f32⟩

abbrev hbmTy (i : Nat) : BufTy := match i / 128 with
  | 0 => hbmTy0_0 i
  | 1 => hbmTy0_1 i
  | _ => ⟨S4096x2048, .f32⟩

abbrev bufTy : (tb : Table) → Fin (tcTables nBuf tb) → BufTy
  | .hbm, ⟨i, _⟩ => hbmTy i
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_call0_call0_cst : Ref sig .tc := ⟨.hbm, 6, rfl⟩
abbrev main_call0_call0_v0 : Ref sig .tc := ⟨.hbm, 7, rfl⟩
abbrev main_v1 : Ref sig .tc := ⟨.hbm, 8, rfl⟩
abbrev main_v2 : Ref sig .tc := ⟨.hbm, 9, rfl⟩
abbrev main_c : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_0 : Ref sig .tc := ⟨.hbm, 20, rfl⟩
abbrev main_v11 : Ref sig .tc := ⟨.hbm, 21, rfl⟩
abbrev main_c_1 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_2 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_3 : Ref sig .tc := ⟨.hbm, 40, rfl⟩
abbrev main_v28 : Ref sig .tc := ⟨.hbm, 41, rfl⟩
abbrev main_c_4 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_cst_5 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_cst_6 : Ref sig .tc := ⟨.hbm, 60, rfl⟩
abbrev main_v45 : Ref sig .tc := ⟨.hbm, 61, rfl⟩
abbrev main_c_7 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_cst_8 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_cst_9 : Ref sig .tc := ⟨.hbm, 80, rfl⟩
abbrev main_v62 : Ref sig .tc := ⟨.hbm, 81, rfl⟩
abbrev main_c_10 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_cst_11 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩
abbrev main_v92 : Ref sig .tc := ⟨.hbm, 113, rfl⟩
abbrev main_v93 : Ref sig .tc := ⟨.hbm, 114, rfl⟩
abbrev main_v94 : Ref sig .tc := ⟨.hbm, 115, rfl⟩
abbrev main_v95 : Ref sig .tc := ⟨.hbm, 116, rfl⟩
abbrev main_v96 : Ref sig .tc := ⟨.hbm, 117, rfl⟩
abbrev main_v97 : Ref sig .tc := ⟨.hbm, 118, rfl⟩
abbrev main_v98 : Ref sig .tc := ⟨.hbm, 119, rfl⟩
abbrev main_v99 : Ref sig .tc := ⟨.hbm, 120, rfl⟩
abbrev main_v100 : Ref sig .tc := ⟨.hbm, 121, rfl⟩
abbrev main_v101 : Ref sig .tc := ⟨.hbm, 122, rfl⟩
abbrev main_v102 : Ref sig .tc := ⟨.hbm, 123, rfl⟩
abbrev main_v103 : Ref sig .tc := ⟨.hbm, 124, rfl⟩
abbrev main_v104 : Ref sig .tc := ⟨.hbm, 125, rfl⟩
abbrev main_cst_12 : Ref sig .tc := ⟨.hbm, 126, rfl⟩
abbrev main_v105 : Ref sig .tc := ⟨.hbm, 127, rfl⟩
abbrev main_v106 : Ref sig .tc := ⟨.hbm, 128, rfl⟩
abbrev main_v107 : Ref sig .tc := ⟨.hbm, 129, rfl⟩
abbrev main_v108 : Ref sig .tc := ⟨.hbm, 130, rfl⟩
abbrev main_v109 : Ref sig .tc := ⟨.hbm, 131, rfl⟩
abbrev main_v110 : Ref sig .tc := ⟨.hbm, 132, rfl⟩
abbrev main_cst_13 : Ref sig .tc := ⟨.hbm, 133, rfl⟩
abbrev main_v111 : Ref sig .tc := ⟨.hbm, 134, rfl⟩
abbrev main_v112 : Ref sig .tc := ⟨.hbm, 135, rfl⟩
abbrev main_v113 : Ref sig .tc := ⟨.hbm, 136, rfl⟩
abbrev main_cst_14 : Ref sig .tc := ⟨.hbm, 137, rfl⟩
abbrev main_v114 : Ref sig .tc := ⟨.hbm, 138, rfl⟩
abbrev main_v115 : Ref sig .tc := ⟨.hbm, 139, rfl⟩
abbrev main_v116 : Ref sig .tc := ⟨.hbm, 140, rfl⟩
abbrev main_cst_15 : Ref sig .tc := ⟨.hbm, 141, rfl⟩
abbrev main_v117 : Ref sig .tc := ⟨.hbm, 142, rfl⟩
abbrev main_v118 : Ref sig .tc := ⟨.hbm, 143, rfl⟩
abbrev main_v119 : Ref sig .tc := ⟨.hbm, 144, rfl⟩
abbrev main_v120 : Ref sig .tc := ⟨.hbm, 145, rfl⟩
abbrev main_v121 : Ref sig .tc := ⟨.hbm, 146, rfl⟩
abbrev main_v122 : Ref sig .tc := ⟨.hbm, 147, rfl⟩
abbrev main_v123 : Ref sig .tc := ⟨.hbm, 148, rfl⟩
abbrev main_cst_16 : Ref sig .tc := ⟨.hbm, 149, rfl⟩
abbrev main_v124 : Ref sig .tc := ⟨.hbm, 150, rfl⟩
abbrev main_v125 : Ref sig .tc := ⟨.hbm, 151, rfl⟩
abbrev main_v126 : Ref sig .tc := ⟨.hbm, 152, rfl⟩
abbrev main_cst_17 : Ref sig .tc := ⟨.hbm, 153, rfl⟩
abbrev main_v127 : Ref sig .tc := ⟨.hbm, 154, rfl⟩
abbrev main_v128 : Ref sig .tc := ⟨.hbm, 155, rfl⟩
abbrev main_v129 : Ref sig .tc := ⟨.hbm, 156, rfl⟩
abbrev main_v130 : Ref sig .tc := ⟨.hbm, 157, rfl⟩
abbrev main_cst_18 : Ref sig .tc := ⟨.hbm, 158, rfl⟩
abbrev main_v131 : Ref sig .tc := ⟨.hbm, 159, rfl⟩
abbrev main_v132 : Ref sig .tc := ⟨.hbm, 160, rfl⟩
abbrev main_v133 : Ref sig .tc := ⟨.hbm, 161, rfl⟩
abbrev main_v134 : Ref sig .tc := ⟨.hbm, 162, rfl⟩
abbrev main_v135 : Ref sig .tc := ⟨.hbm, 163, rfl⟩
abbrev main_v136 : Ref sig .tc := ⟨.hbm, 164, rfl⟩
abbrev main_v137 : Ref sig .tc := ⟨.hbm, 165, rfl⟩
abbrev main_cst_19 : Ref sig .tc := ⟨.hbm, 166, rfl⟩
abbrev main_v138 : Ref sig .tc := ⟨.hbm, 167, rfl⟩
abbrev main_v139 : Ref sig .tc := ⟨.hbm, 168, rfl⟩
abbrev main_v140 : Ref sig .tc := ⟨.hbm, 169, rfl⟩
abbrev main_cst_20 : Ref sig .tc := ⟨.hbm, 170, rfl⟩
abbrev main_v141 : Ref sig .tc := ⟨.hbm, 171, rfl⟩
abbrev main_v142 : Ref sig .tc := ⟨.hbm, 172, rfl⟩
abbrev main_v143 : Ref sig .tc := ⟨.hbm, 173, rfl⟩
abbrev main_v144 : Ref sig .tc := ⟨.hbm, 174, rfl⟩
abbrev main_cst_21 : Ref sig .tc := ⟨.hbm, 175, rfl⟩
abbrev main_v145 : Ref sig .tc := ⟨.hbm, 176, rfl⟩
abbrev main_v146 : Ref sig .tc := ⟨.hbm, 177, rfl⟩
abbrev main_v147 : Ref sig .tc := ⟨.hbm, 178, rfl⟩
abbrev main_v148 : Ref sig .tc := ⟨.hbm, 179, rfl⟩
abbrev main_v149 : Ref sig .tc := ⟨.hbm, 180, rfl⟩
abbrev main_v150 : Ref sig .tc := ⟨.hbm, 181, rfl⟩
abbrev main_v151 : Ref sig .tc := ⟨.hbm, 182, rfl⟩
abbrev main_cst_22 : Ref sig .tc := ⟨.hbm, 183, rfl⟩
abbrev main_v152 : Ref sig .tc := ⟨.hbm, 184, rfl⟩
abbrev main_v153 : Ref sig .tc := ⟨.hbm, 185, rfl⟩
abbrev main_v154 : Ref sig .tc := ⟨.hbm, 186, rfl⟩
abbrev main_cst_23 : Ref sig .tc := ⟨.hbm, 187, rfl⟩
abbrev main_v155 : Ref sig .tc := ⟨.hbm, 188, rfl⟩
abbrev main_v156 : Ref sig .tc := ⟨.hbm, 189, rfl⟩
abbrev main_call1_call0_cst : Ref sig .tc := ⟨.hbm, 190, rfl⟩
abbrev main_call1_call0_v0 : Ref sig .tc := ⟨.hbm, 191, rfl⟩
abbrev main_v157 : Ref sig .tc := ⟨.hbm, 192, rfl⟩
abbrev main_v158 : Ref sig .tc := ⟨.hbm, 193, rfl⟩
abbrev main_v159 : Ref sig .tc := ⟨.hbm, 194, rfl⟩

abbrev nD : Nat := 1
abbrev τ : Topo := Topo.v7x

variable {F : FTy → Type} [FloatOps F]
-- ==== AttnKernel.lean ====
abbrev S4096x6144 : Shape := ⟨2, ![4096, 6144]⟩
abbrev S1x128 : Shape := ⟨2, ![1, 128]⟩
abbrev S4096x2048 : Shape := ⟨2, ![4096, 2048]⟩
abbrev S4096x8x768 : Shape := ⟨3, ![4096, 8, 768]⟩
abbrev S8x4096x768 : Shape := ⟨3, ![8, 4096, 768]⟩
abbrev S1x4096x128 : Shape := ⟨3, ![1, 4096, 128]⟩
abbrev S4096x128 : Shape := ⟨2, ![4096, 128]⟩
abbrev S1x512x128 : Shape := ⟨3, ![1, 512, 128]⟩
abbrev S512x128 : Shape := ⟨2, ![512, 128]⟩
abbrev S512 : Shape := ⟨1, ![512]⟩
abbrev S512x1 : Shape := ⟨2, ![512, 1]⟩
abbrev S128x256 : Shape := ⟨2, ![128, 256]⟩
abbrev S512x512 : Shape := ⟨2, ![512, 512]⟩
abbrev S512x256 : Shape := ⟨2, ![512, 256]⟩
abbrev S3x4096x2048 : Shape := ⟨3, ![3, 4096, 2048]⟩
abbrev S3x4096x128 : Shape := ⟨3, ![3, 4096, 128]⟩
abbrev S128 : Shape := ⟨1, ![128]⟩

abbrev nBuf : Space → Nat
  | .hbm => 12
  | .vmem => 37
  | .smem => 0
  | _ => 0

abbrev bufTy : (tb : Table) → Fin (tcTables nBuf tb) → BufTy
  | .hbm, ⟨0, _⟩ => ⟨S4096x6144, .f32⟩
  | .hbm, ⟨1, _⟩ => ⟨S1x128, .f32⟩
  | .hbm, ⟨2, _⟩ => ⟨S1x128, .f32⟩
  | .hbm, ⟨3, _⟩ => ⟨S4096x2048, .f32⟩
  | .hbm, ⟨4, _⟩ => ⟨S4096x8x768, .f32⟩
  | .hbm, ⟨5, _⟩ => ⟨S8x4096x768, .f32⟩
  | .hbm, ⟨6, _⟩ => ⟨S4096x2048, .f32⟩
  | .hbm, ⟨7, _⟩ => ⟨S4096x2048, .bf16⟩
  | .hbm, ⟨8, _⟩ => ⟨S4096x2048, .bf16⟩
  | .hbm, ⟨9, _⟩ => ⟨S3x4096x2048, .bf16⟩
  | .hbm, ⟨10, _⟩ => ⟨S1x128, .f32⟩
  | .hbm, ⟨11, _⟩ => ⟨S1x128, .f32⟩
  | .local _ .vmem, ⟨0, _⟩ => ⟨S1x4096x128, .f32⟩
  | .local _ .vmem, ⟨1, _⟩ => ⟨S1x4096x128, .f32⟩
  | .local _ .vmem, ⟨2, _⟩ => ⟨S1x4096x128, .f32⟩
  | .local _ .vmem, ⟨3, _⟩ => ⟨S1x4096x128, .f32⟩
  | .local _ .vmem, ⟨4, _⟩ => ⟨S1x4096x128, .f32⟩
  | .local _ .vmem, ⟨5, _⟩ => ⟨S1x4096x128, .f32⟩
  | .local _ .vmem, ⟨6, _⟩ => ⟨S1x128, .f32⟩
  | .local _ .vmem, ⟨7, _⟩ => ⟨S1x128, .f32⟩
  | .local _ .vmem, ⟨8, _⟩ => ⟨S4096x128, .f32⟩
  | .local _ .vmem, ⟨9, _⟩ => ⟨S4096x128, .f32⟩
  | .local _ .vmem, ⟨10, _⟩ => ⟨S4096x128, .bf16⟩
  | .local _ .vmem, ⟨11, _⟩ => ⟨S4096x128, .bf16⟩
  | .local _ .vmem, ⟨12, _⟩ => ⟨S4096x128, .bf16⟩
  | .local _ .vmem, ⟨13, _⟩ => ⟨S4096x128, .bf16⟩
  | .local _ .vmem, ⟨14, _⟩ => ⟨S4096x128, .bf16⟩
  | .local _ .vmem, ⟨15, _⟩ => ⟨S1x4096x128, .f32⟩
  | .local _ .vmem, ⟨16, _⟩ => ⟨S1x4096x128, .f32⟩
  | .local _ .vmem, ⟨17, _⟩ => ⟨S1x4096x128, .f32⟩
  | .local _ .vmem, ⟨18, _⟩ => ⟨S1x4096x128, .f32⟩
  | .local _ .vmem, ⟨19, _⟩ => ⟨S1x4096x128, .f32⟩
  | .local _ .vmem, ⟨20, _⟩ => ⟨S1x4096x128, .f32⟩
  | .local _ .vmem, ⟨21, _⟩ => ⟨S1x128, .f32⟩
  | .local _ .vmem, ⟨22, _⟩ => ⟨S1x128, .f32⟩
  | .local _ .vmem, ⟨23, _⟩ => ⟨S4096x128, .bf16⟩
  | .local _ .vmem, ⟨24, _⟩ => ⟨S4096x128, .bf16⟩
  | .local _ .vmem, ⟨25, _⟩ => ⟨S4096x128, .f32⟩
  | .local _ .vmem, ⟨26, _⟩ => ⟨S4096x128, .f32⟩
  | .local _ .vmem, ⟨27, _⟩ => ⟨S3x4096x128, .bf16⟩
  | .local _ .vmem, ⟨28, _⟩ => ⟨S3x4096x128, .bf16⟩
  | .local _ .vmem, ⟨29, _⟩ => ⟨S1x128, .f32⟩
  | .local _ .vmem, ⟨30, _⟩ => ⟨S1x128, .f32⟩
  | .local _ .vmem, ⟨31, _⟩ => ⟨S4096x128, .bf16⟩
  | .local _ .vmem, ⟨32, _⟩ => ⟨S4096x128, .bf16⟩
  | .local _ .vmem, ⟨33, _⟩ => ⟨S4096x128, .bf16⟩
  | .local _ .vmem, ⟨34, _⟩ => ⟨S4096x128, .f32⟩
  | .local _ .vmem, ⟨35, _⟩ => ⟨S4096x128, .f32⟩
  | .local _ .vmem, ⟨36, _⟩ => ⟨S4096x128, .f32⟩
  | _, _ => ⟨S4096x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc1_stg0_0 : Ref sig .tc := ⟨.vmem, 15, rfl⟩
abbrev cc1_stg0_1 : Ref sig .tc := ⟨.vmem, 16, rfl⟩
abbrev cc1_stg1_0 : Ref sig .tc := ⟨.vmem, 17, rfl⟩
abbrev cc1_stg1_1 : Ref sig .tc := ⟨.vmem, 18, rfl⟩
abbrev cc1_stg2_0 : Ref sig .tc := ⟨.vmem, 19, rfl⟩
abbrev cc1_stg2_1 : Ref sig .tc := ⟨.vmem, 20, rfl⟩
abbrev cc1_stg3_0 : Ref sig .tc := ⟨.vmem, 21, rfl⟩
abbrev cc1_stg4_0 : Ref sig .tc := ⟨.vmem, 22, rfl⟩
abbrev cc1_stg5_0 : Ref sig .tc := ⟨.vmem, 23, rfl⟩
abbrev cc1_stg5_1 : Ref sig .tc := ⟨.vmem, 24, rfl⟩
abbrev cc1_stg6_0 : Ref sig .tc := ⟨.vmem, 25, rfl⟩
abbrev cc1_stg6_1 : Ref sig .tc := ⟨.vmem, 26, rfl⟩
abbrev cc1_stg7_0 : Ref sig .tc := ⟨.vmem, 27, rfl⟩
abbrev cc1_stg7_1 : Ref sig .tc := ⟨.vmem, 28, rfl⟩
abbrev cc1_stg8_0 : Ref sig .tc := ⟨.vmem, 29, rfl⟩
abbrev cc1_stg9_0 : Ref sig .tc := ⟨.vmem, 30, rfl⟩
abbrev cc1_scratch0 : Ref sig .tc := ⟨.vmem, 31, rfl⟩
abbrev cc1_scratch1 : Ref sig .tc := ⟨.vmem, 32, rfl⟩
abbrev cc1_scratch2 : Ref sig .tc := ⟨.vmem, 33, rfl⟩
abbrev cc1_scratch3 : Ref sig .tc := ⟨.vmem, 34, rfl⟩
abbrev cc1_scratch4 : Ref sig .tc := ⟨.vmem, 35, rfl⟩
abbrev cc1_scratch5 : Ref sig .tc := ⟨.vmem, 36, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem4_0 : DmaSem sig := 19
abbrev cc1_sem5_0 : DmaSem sig := 20
abbrev cc1_sem5_1 : DmaSem sig := 21
abbrev cc1_sem6_0 : DmaSem sig := 22
abbrev cc1_sem6_1 : DmaSem sig := 23
abbrev cc1_sem7_0 : DmaSem sig := 24
abbrev cc1_sem7_1 : DmaSem sig := 25
abbrev cc1_sem8_0 : DmaSem sig := 26
abbrev cc1_sem9_0 : DmaSem sig := 27

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32 : BitVec 32 := 0#32
  let c8_i32 : BitVec 32 := 8#32
  let v0 : BitVec 32 := Scalar.addi c0_i32 c8_i32
  let c1_i32 : BitVec 32 := 1#32
  ⟨c0_i32, v0, c1_i32⟩
def k0_mult1 (k0_t1 : Fin k0_t1_loop.trips) : BitVec 32 :=
  let c0_i32 : BitVec 32 := 0#32
  let c1_i32 : BitVec 32 := 1#32
  let arg11 : BitVec 32 := Scf.iv c0_i32 c1_i32 k0_t1
  let c512_i32 : BitVec 32 := 512#32
  let v22 : BitVec 32 := Scalar.muli arg11 c512_i32
  v22
def k0_off1 (k0_t1 : Fin k0_t1_loop.trips) : Fin 3 → Nat :=
  let c0_14 : Index := 0#32
  let c0_i32 : BitVec 32 := 0#32
  let c1_i32 : BitVec 32 := 1#32
  let arg11 : BitVec 32 := Scf.iv c0_i32 c1_i32 k0_t1
  let c512_i32 : BitVec 32 := 512#32
  let v22 : BitVec 32 := Scalar.muli arg11 c512_i32
  let v23 : BitVec 32 := v22
  let v24 : Index := Scalar.indexCast v23
  let c0_15 : Index := 0#32
  ![0, v24.toNat, 0]
def k0_off2 (k0_t1 : Fin k0_t1_loop.trips) : Fin 2 → Nat :=
  let c0_i32 : BitVec 32 := 0#32
  let c1_i32 : BitVec 32 := 1#32
  let arg11 : BitVec 32 := Scf.iv c0_i32 c1_i32 k0_t1
  let c512_i32 : BitVec 32 := 512#32
  let v22 : BitVec 32 := Scalar.muli arg11 c512_i32
  let v23 : BitVec 32 := v22
  let v41 : Index := Scalar.indexCast v23
  let c0_21 : Index := 0#32
  ![v41.toNat, 0]
@[reducible] def k0_t2_loop : Scf.Loop 32 :=
  let c0_i32_1 : BitVec 32 := 0#32
  let c8_i32_2 : BitVec 32 := 8#32
  let v1 : BitVec 32 := Scalar.addi c0_i32_1 c8_i32_2
  let c1_i32_3 : BitVec 32 := 1#32
  ⟨c0_i32_1, v1, c1_i32_3⟩
def k0_mult2 (k0_t2 : Fin k0_t2_loop.trips) : BitVec 32 :=
  let c0_i32_1 : BitVec 32 := 0#32
  let c1_i32_3 : BitVec 32 := 1#32
  let arg11 : BitVec 32 := Scf.iv c0_i32_1 c1_i32_3 k0_t2
  let c512_i32 : BitVec 32 := 512#32
  let v22 : BitVec 32 := Scalar.muli arg11 c512_i32
  v22
def k0_off3 (k0_t2 : Fin k0_t2_loop.trips) : Fin 3 → Nat :=
  let c0_14 : Index := 0#32
  let c0_i32_1 : BitVec 32 := 0#32
  let c1_i32_3 : BitVec 32 := 1#32
  let arg11 : BitVec 32 := Scf.iv c0_i32_1 c1_i32_3 k0_t2
  let c512_i32 : BitVec 32 := 512#32
  let v22 : BitVec 32 := Scalar.muli arg11 c512_i32
  let v23 : BitVec 32 := v22
  let v24 : Index := Scalar.indexCast v23
  let c0_15 : Index := 0#32
  ![0, v24.toNat, 0]
def k0_off4 (k0_t2 : Fin k0_t2_loop.trips) : Fin 2 → Nat :=
  let c0_i32_1 : BitVec 32 := 0#32
  let c1_i32_3 : BitVec 32 := 1#32
  let arg11 : BitVec 32 := Scf.iv c0_i32_1 c1_i32_3 k0_t2
  let c512_i32 : BitVec 32 := 512#32
  let v22 : BitVec 32 := Scalar.muli arg11 c512_i32
  let v23 : BitVec 32 := v22
  let v41 : Index := Scalar.indexCast v23
  let c0_21 : Index := 0#32
  ![v41.toNat, 0]
@[reducible] def k0_t3_loop : Scf.Loop 32 :=
  let c0_i32_10 : BitVec 32 := 0#32
  let c8_i32_11 : BitVec 32 := 8#32
  let v21 : BitVec 32 := Scalar.addi c0_i32_10 c8_i32_11
  let c1_i32_12 : BitVec 32 := 1#32
  ⟨c0_i32_10, v21, c1_i32_12⟩
def k0_mult3 (k0_t3 : Fin k0_t3_loop.trips) : BitVec 32 :=
  let c0_i32_10 : BitVec 32 := 0#32
  let c1_i32_12 : BitVec 32 := 1#32
  let arg11 : BitVec 32 := Scf.iv c0_i32_10 c1_i32_12 k0_t3
  let c512_i32 : BitVec 32 := 512#32
  let v22 : BitVec 32 := Scalar.muli arg11 c512_i32
  v22
def k0_off5 (k0_t3 : Fin k0_t3_loop.trips) : Fin 2 → Nat :=
  let c0_i32_10 : BitVec 32 := 0#32
  let c1_i32_12 : BitVec 32 := 1#32
  let arg11 : BitVec 32 := Scf.iv c0_i32_10 c1_i32_12 k0_t3
  let c512_i32 : BitVec 32 := 512#32
  let v22 : BitVec 32 := Scalar.muli arg11 c512_i32
  let v23 : BitVec 32 := v22
  let v24 : Index := Scalar.indexCast v23
  let c0_14 : Index := 0#32
  ![v24.toNat, 0]
def k0_mult4 (k0_t3 : Fin k0_t3_loop.trips) : BitVec 32 :=
  let c0_i32_10 : BitVec 32 := 0#32
  let c1_i32_12 : BitVec 32 := 1#32
  let arg11 : BitVec 32 := Scf.iv c0_i32_10 c1_i32_12 k0_t3
  let c512_i32_16 : BitVec 32 := 512#32
  let v27 : BitVec 32 := Scalar.muli arg11 c512_i32_16
  v27
@[reducible] def k0_t4_loop (k0_t3 : Fin k0_t3_loop.trips) : Scf.Loop 32 :=
  let c0_i32_36 : BitVec 32 := 0#32
  let c0_i32_10 : BitVec 32 := 0#32
  let c1_i32_12 : BitVec 32 := 1#32
  let arg11 : BitVec 32 := Scf.iv c0_i32_10 c1_i32_12 k0_t3
  let v108 : BitVec 32 := Scalar.subi arg11 c0_i32_36
  let c1_i32_37 : BitVec 32 := 1#32
  let v110 : BitVec 32 := Scalar.divsi v108 c1_i32_37
  let v111 : BitVec 32 := Scalar.muli v110 c1_i32_37
  let v112 : BitVec 32 := Scalar.addi c0_i32_36 v111
  let c1_i32_38 : BitVec 32 := 1#32
  ⟨c0_i32_36, v112, c1_i32_38⟩
def k0_mult5 (k0_t3 : Fin k0_t3_loop.trips) (k0_t4 : Fin (k0_t4_loop k0_t3).trips) : BitVec 32 :=
  let c0_i32_10 : BitVec 32 := 0#32
  let c1_i32_12 : BitVec 32 := 1#32
  let arg11 : BitVec 32 := Scf.iv c0_i32_10 c1_i32_12 k0_t3
  let c1_i32_42 : BitVec 32 := 1#32
  let v120 : BitVec 32 := Scalar.subi arg11 c1_i32_42
  let c0_i32_36 : BitVec 32 := 0#32
  let c1_i32_38 : BitVec 32 := 1#32
  let arg12 : BitVec 32 := Scf.iv c0_i32_36 c1_i32_38 k0_t4
  let v121 : BitVec 32 := Scalar.subi v120 arg12
  let c512_i32_43 : BitVec 32 := 512#32
  let v122 : BitVec 32 := Scalar.muli v121 c512_i32_43
  v122
def k0_off6 (k0_t3 : Fin k0_t3_loop.trips) (k0_t4 : Fin (k0_t4_loop k0_t3).trips) : Fin 2 → Nat :=
  let c0_i32_10 : BitVec 32 := 0#32
  let c1_i32_12 : BitVec 32 := 1#32
  let arg11 : BitVec 32 := Scf.iv c0_i32_10 c1_i32_12 k0_t3
  let c1_i32_42 : BitVec 32 := 1#32
  let v120 : BitVec 32 := Scalar.subi arg11 c1_i32_42
  let c0_i32_36 : BitVec 32 := 0#32
  let c1_i32_38 : BitVec 32 := 1#32
  let arg12 : BitVec 32 := Scf.iv c0_i32_36 c1_i32_38 k0_t4
  let v121 : BitVec 32 := Scalar.subi v120 arg12
  let c512_i32_43 : BitVec 32 := 512#32
  let v122 : BitVec 32 := Scalar.muli v121 c512_i32_43
  let v123 : BitVec 32 := v122
  let v124 : Index := Scalar.indexCast v123
  let c0_44 : Index := 0#32
  ![v124.toNat, 0]
@[reducible] def k0_t5_loop (k0_t3 : Fin k0_t3_loop.trips) : Scf.Loop 32 :=
  let c0_i32_36 : BitVec 32 := 0#32
  let c0_i32_10 : BitVec 32 := 0#32
  let c1_i32_12 : BitVec 32 := 1#32
  let arg11 : BitVec 32 := Scf.iv c0_i32_10 c1_i32_12 k0_t3
  let v108 : BitVec 32 := Scalar.subi arg11 c0_i32_36
  let c1_i32_37 : BitVec 32 := 1#32
  let v110 : BitVec 32 := Scalar.divsi v108 c1_i32_37
  let v111 : BitVec 32 := Scalar.muli v110 c1_i32_37
  let v112 : BitVec 32 := Scalar.addi c0_i32_36 v111
  let v109 : BitVec 32 := Scalar.addi c0_i32_36 v108
  let c1_i32_39 : BitVec 32 := 1#32
  ⟨v112, v109, c1_i32_39⟩
def k0_mult6 (k0_t3 : Fin k0_t3_loop.trips) (k0_t5 : Fin (k0_t5_loop k0_t3).trips) : BitVec 32 :=
  let c0_i32_10 : BitVec 32 := 0#32
  let c1_i32_12 : BitVec 32 := 1#32
  let arg11 : BitVec 32 := Scf.iv c0_i32_10 c1_i32_12 k0_t3
  let c1_i32_42 : BitVec 32 := 1#32
  let v120 : BitVec 32 := Scalar.subi arg11 c1_i32_42
  let c0_i32_36 : BitVec 32 := 0#32
  let v108 : BitVec 32 := Scalar.subi arg11 c0_i32_36
  let c1_i32_37 : BitVec 32 := 1#32
  let v110 : BitVec 32 := Scalar.divsi v108 c1_i32_37
  let v111 : BitVec 32 := Scalar.muli v110 c1_i32_37
  let v112 : BitVec 32 := Scalar.addi c0_i32_36 v111
  let c1_i32_39 : BitVec 32 := 1#32
  let arg12 : BitVec 32 := Scf.iv v112 c1_i32_39 k0_t5
  let v121 : BitVec 32 := Scalar.subi v120 arg12
  let c512_i32_43 : BitVec 32 := 512#32
  let v122 : BitVec 32 := Scalar.muli v121 c512_i32_43
  v122
def k0_off7 (k0_t3 : Fin k0_t3_loop.trips) (k0_t5 : Fin (k0_t5_loop k0_t3).trips) : Fin 2 → Nat :=
  let c0_i32_10 : BitVec 32 := 0#32
  let c1_i32_12 : BitVec 32 := 1#32
  let arg11 : BitVec 32 := Scf.iv c0_i32_10 c1_i32_12 k0_t3
  let c1_i32_42 : BitVec 32 := 1#32
  let v120 : BitVec 32 := Scalar.subi arg11 c1_i32_42
  let c0_i32_36 : BitVec 32 := 0#32
  let v108 : BitVec 32 := Scalar.subi arg11 c0_i32_36
  let c1_i32_37 : BitVec 32 := 1#32
  let v110 : BitVec 32 := Scalar.divsi v108 c1_i32_37
  let v111 : BitVec 32 := Scalar.muli v110 c1_i32_37
  let v112 : BitVec 32 := Scalar.addi c0_i32_36 v111
  let c1_i32_39 : BitVec 32 := 1#32
  let arg12 : BitVec 32 := Scf.iv v112 c1_i32_39 k0_t5
  let v121 : BitVec 32 := Scalar.subi v120 arg12
  let c512_i32_43 : BitVec 32 := 512#32
  let v122 : BitVec 32 := Scalar.muli v121 c512_i32_43
  let v123 : BitVec 32 := v122
  let v124 : Index := Scalar.indexCast v123
  let c0_44 : Index := 0#32
  ![v124.toNat, 0]
def cc0_transform_0 (i : grid0.Coords) : Fin 3 → Nat :=
  let arg0 : BitVec 32 := BitVec.ofNat 32 (i 0).val
  let c0_i32 : BitVec 32 := 0#32
  let v0 : BitVec 32 := Scalar.addi c0_i32 arg0
  let c6_i32 : BitVec 32 := 6#32
  let v1 : BitVec 32 := Scalar.divsi v0 c6_i32
  let c0_i32_0 : BitVec 32 := 0#32
  let v2 : BitVec 1 := Scalar.cmpi .sgt v0 c0_i32_0
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c0_i32_2 : BitVec 32 := 0#32
  let v7 : BitVec 1 := Scalar.cmpi .sgt c6_i32 c0_i32_2
  let v8 : BitVec 32 := Scalar.extui v7
  let c0_i32_3 : BitVec 32 := 0#32
  let v9 : BitVec 1 := Scalar.cmpi .slt c6_i32 c0_i32_3
  let v10 : BitVec 32 := Scalar.extui v9
  let v11 : BitVec 32 := Scalar.subi v8 v10
  let v12 : BitVec 1 := Scalar.cmpi .ne v6 v11
  let v13 : BitVec 32 := Scalar.remsi v0 c6_i32
  let c0_i32_4 : BitVec 32 := 0#32
  let v14 : BitVec 1 := Scalar.cmpi .ne v13 c0_i32_4
  let v15 : BitVec 1 := Scalar.andi v12 v14
  let c1_i32 : BitVec 32 := 1#32
  let v16 : BitVec 32 := Scalar.subi v1 c1_i32
  let v17 : BitVec 32 := Scalar.select v15 v16 v1
  let c0_i32_5 : BitVec 32 := 0#32
  let v18 : BitVec 32 := Scalar.addi c0_i32_5 arg0
  let c6_i32_6 : BitVec 32 := 6#32
  let c0_i32_7 : BitVec 32 := 0#32
  let v19 : BitVec 1 := Scalar.cmpi .eq c6_i32_6 c0_i32_7
  let c1_i32_8 : BitVec 32 := 1#32
  let v20 : BitVec 32 := Scalar.select v19 c1_i32_8 c6_i32_6
  let v21 : BitVec 32 := Scalar.remsi v18 v20
  let c0_i32_9 : BitVec 32 := 0#32
  let v22 : BitVec 1 := Scalar.cmpi .ne v21 c0_i32_9
  let c0_i32_10 : BitVec 32 := 0#32
  let v23 : BitVec 1 := Scalar.cmpi .slt v21 c0_i32_10
  let c0_i32_11 : BitVec 32 := 0#32
  let v24 : BitVec 1 := Scalar.cmpi .slt v20 c0_i32_11
  let v25 : BitVec 1 := Scalar.xori v23 v24
  let v26 : BitVec 1 := Scalar.andi v25 v22
  let v27 : BitVec 32 := Scalar.addi v21 v20
  let v28 : BitVec 32 := Scalar.select v26 v27 v21
  let c0_i32_12 : BitVec 32 := 0#32
  let c0_i32_13 : BitVec 32 := 0#32
  ![v17.toNat, c0_i32_12.toNat, v28.toNat]

def cc0_transform_1 (i : grid0.Coords) : Fin 3 → Nat :=
  let arg0 : BitVec 32 := BitVec.ofNat 32 (i 0).val
  let c16_i32 : BitVec 32 := 16#32
  let v0 : BitVec 32 := Scalar.addi c16_i32 arg0
  let c6_i32 : BitVec 32 := 6#32
  let v1 : BitVec 32 := Scalar.divsi v0 c6_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c6_i32 c0_i32_1
  let v8 : BitVec 32 := Scalar.extui v7
  let c0_i32_2 : BitVec 32 := 0#32
  let v9 : BitVec 1 := Scalar.cmpi .slt c6_i32 c0_i32_2
  let v10 : BitVec 32 := Scalar.extui v9
  let v11 : BitVec 32 := Scalar.subi v8 v10
  let v12 : BitVec 1 := Scalar.cmpi .ne v6 v11
  let v13 : BitVec 32 := Scalar.remsi v0 c6_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c16_i32_4 : BitVec 32 := 16#32
  let v18 : BitVec 32 := Scalar.addi c16_i32_4 arg0
  let c6_i32_5 : BitVec 32 := 6#32
  let c0_i32_6 : BitVec 32 := 0#32
  let v19 : BitVec 1 := Scalar.cmpi .eq c6_i32_5 c0_i32_6
  let c1_i32_7 : BitVec 32 := 1#32
  let v20 : BitVec 32 := Scalar.select v19 c1_i32_7 c6_i32_5
  let v21 : BitVec 32 := Scalar.remsi v18 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c0_i32_11 : BitVec 32 := 0#32
  let c0_i32_12 : BitVec 32 := 0#32
  ![v17.toNat, c0_i32_11.toNat, v28.toNat]

def cc0_transform_2 (i : grid0.Coords) : Fin 3 → Nat :=
  let arg0 : BitVec 32 := BitVec.ofNat 32 (i 0).val
  let c32_i32 : BitVec 32 := 32#32
  let v0 : BitVec 32 := Scalar.addi c32_i32 arg0
  let c6_i32 : BitVec 32 := 6#32
  let v1 : BitVec 32 := Scalar.divsi v0 c6_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c6_i32 c0_i32_1
  let v8 : BitVec 32 := Scalar.extui v7
  let c0_i32_2 : BitVec 32 := 0#32
  let v9 : BitVec 1 := Scalar.cmpi .slt c6_i32 c0_i32_2
  let v10 : BitVec 32 := Scalar.extui v9
  let v11 : BitVec 32 := Scalar.subi v8 v10
  let v12 : BitVec 1 := Scalar.cmpi .ne v6 v11
  let v13 : BitVec 32 := Scalar.remsi v0 c6_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c32_i32_4 : BitVec 32 := 32#32
  let v18 : BitVec 32 := Scalar.addi c32_i32_4 arg0
  let c6_i32_5 : BitVec 32 := 6#32
  let c0_i32_6 : BitVec 32 := 0#32
  let v19 : BitVec 1 := Scalar.cmpi .eq c6_i32_5 c0_i32_6
  let c1_i32_7 : BitVec 32 := 1#32
  let v20 : BitVec 32 := Scalar.select v19 c1_i32_7 c6_i32_5
  let v21 : BitVec 32 := Scalar.remsi v18 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c0_i32_11 : BitVec 32 := 0#32
  let c0_i32_12 : BitVec 32 := 0#32
  ![v17.toNat, c0_i32_11.toNat, v28.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1x4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x4096x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S4096x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4096x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![16], ![false]⟩

@[reducible] def k1_t1_loop : Scf.Loop 32 :=
  let c0_i32 : BitVec 32 := 0#32
  let c8_i32 : BitVec 32 := 8#32
  let v0 : BitVec 32 := Scalar.addi c0_i32 c8_i32
  let c1_i32 : BitVec 32 := 1#32
  ⟨c0_i32, v0, c1_i32⟩
def k1_mult1 (k1_t1 : Fin k1_t1_loop.trips) : BitVec 32 :=
  let c0_i32 : BitVec 32 := 0#32
  let c1_i32 : BitVec 32 := 1#32
  let arg17 : BitVec 32 := Scf.iv c0_i32 c1_i32 k1_t1
  let c512_i32 : BitVec 32 := 512#32
  let v40 : BitVec 32 := Scalar.muli arg17 c512_i32
  v40
def k1_off1 (k1_t1 : Fin k1_t1_loop.trips) : Fin 3 → Nat :=
  let c0_34 : Index := 0#32
  let c0_i32 : BitVec 32 := 0#32
  let c1_i32 : BitVec 32 := 1#32
  let arg17 : BitVec 32 := Scf.iv c0_i32 c1_i32 k1_t1
  let c512_i32 : BitVec 32 := 512#32
  let v40 : BitVec 32 := Scalar.muli arg17 c512_i32
  let v41 : BitVec 32 := v40
  let v42 : Index := Scalar.indexCast v41
  let c0_35 : Index := 0#32
  ![0, v42.toNat, 0]
def k1_off2 (k1_t1 : Fin k1_t1_loop.trips) : Fin 2 → Nat :=
  let c0_i32 : BitVec 32 := 0#32
  let c1_i32 : BitVec 32 := 1#32
  let arg17 : BitVec 32 := Scf.iv c0_i32 c1_i32 k1_t1
  let c512_i32 : BitVec 32 := 512#32
  let v40 : BitVec 32 := Scalar.muli arg17 c512_i32
  let v41 : BitVec 32 := v40
  let v59 : Index := Scalar.indexCast v41
  let c0_41 : Index := 0#32
  ![v59.toNat, 0]
@[reducible] def k1_t2_loop : Scf.Loop 32 :=
  let c0_i32_1 : BitVec 32 := 0#32
  let c8_i32_2 : BitVec 32 := 8#32
  let v1 : BitVec 32 := Scalar.addi c0_i32_1 c8_i32_2
  let c1_i32_3 : BitVec 32 := 1#32
  ⟨c0_i32_1, v1, c1_i32_3⟩
def k1_mult2 (k1_t2 : Fin k1_t2_loop.trips) : BitVec 32 :=
  let c0_i32_1 : BitVec 32 := 0#32
  let c1_i32_3 : BitVec 32 := 1#32
  let arg17 : BitVec 32 := Scf.iv c0_i32_1 c1_i32_3 k1_t2
  let c512_i32 : BitVec 32 := 512#32
  let v40 : BitVec 32 := Scalar.muli arg17 c512_i32
  v40
def k1_off3 (k1_t2 : Fin k1_t2_loop.trips) : Fin 3 → Nat :=
  let c0_34 : Index := 0#32
  let c0_i32_1 : BitVec 32 := 0#32
  let c1_i32_3 : BitVec 32 := 1#32
  let arg17 : BitVec 32 := Scf.iv c0_i32_1 c1_i32_3 k1_t2
  let c512_i32 : BitVec 32 := 512#32
  let v40 : BitVec 32 := Scalar.muli arg17 c512_i32
  let v41 : BitVec 32 := v40
  let v42 : Index := Scalar.indexCast v41
  let c0_35 : Index := 0#32
  ![0, v42.toNat, 0]
def k1_off4 (k1_t2 : Fin k1_t2_loop.trips) : Fin 2 → Nat :=
  let c0_i32_1 : BitVec 32 := 0#32
  let c1_i32_3 : BitVec 32 := 1#32
  let arg17 : BitVec 32 := Scf.iv c0_i32_1 c1_i32_3 k1_t2
  let c512_i32 : BitVec 32 := 512#32
  let v40 : BitVec 32 := Scalar.muli arg17 c512_i32
  let v41 : BitVec 32 := v40
  let v59 : Index := Scalar.indexCast v41
  let c0_41 : Index := 0#32
  ![v59.toNat, 0]
@[reducible] def k1_t3_loop : Scf.Loop 32 :=
  let c0_i32_16 : BitVec 32 := 0#32
  let c8_i32_17 : BitVec 32 := 8#32
  let v29 : BitVec 32 := Scalar.addi c0_i32_16 c8_i32_17
  let c1_i32_18 : BitVec 32 := 1#32
  ⟨c0_i32_16, v29, c1_i32_18⟩
def k1_mult3 (k1_t3 : Fin k1_t3_loop.trips) : BitVec 32 :=
  let c0_i32_16 : BitVec 32 := 0#32
  let c1_i32_18 : BitVec 32 := 1#32
  let arg17 : BitVec 32 := Scf.iv c0_i32_16 c1_i32_18 k1_t3
  let c512_i32 : BitVec 32 := 512#32
  let v40 : BitVec 32 := Scalar.muli arg17 c512_i32
  v40
def k1_off5 (k1_t3 : Fin k1_t3_loop.trips) : Fin 2 → Nat :=
  let c0_i32_16 : BitVec 32 := 0#32
  let c1_i32_18 : BitVec 32 := 1#32
  let arg17 : BitVec 32 := Scf.iv c0_i32_16 c1_i32_18 k1_t3
  let c512_i32 : BitVec 32 := 512#32
  let v40 : BitVec 32 := Scalar.muli arg17 c512_i32
  let v41 : BitVec 32 := v40
  let v42 : Index := Scalar.indexCast v41
  let c0_34 : Index := 0#32
  ![v42.toNat, 0]
def k1_mult4 (k1_t3 : Fin k1_t3_loop.trips) : BitVec 32 :=
  let c0_i32_16 : BitVec 32 := 0#32
  let c1_i32_18 : BitVec 32 := 1#32
  let arg17 : BitVec 32 := Scf.iv c0_i32_16 c1_i32_18 k1_t3
  let c512_i32_39 : BitVec 32 := 512#32
  let v55 : BitVec 32 := Scalar.muli arg17 c512_i32_39
  v55
@[reducible] def k1_t4_loop (k1_t3 : Fin k1_t3_loop.trips) : Scf.Loop 32 :=
  let c0_i32_77 : BitVec 32 := 0#32
  let c0_i32_16 : BitVec 32 := 0#32
  let c1_i32_18 : BitVec 32 := 1#32
  let arg17 : BitVec 32 := Scf.iv c0_i32_16 c1_i32_18 k1_t3
  let v218 : BitVec 32 := Scalar.subi arg17 c0_i32_77
  let c1_i32_78 : BitVec 32 := 1#32
  let v220 : BitVec 32 := Scalar.divsi v218 c1_i32_78
  let v221 : BitVec 32 := Scalar.muli v220 c1_i32_78
  let v222 : BitVec 32 := Scalar.addi c0_i32_77 v221
  let c1_i32_79 : BitVec 32 := 1#32
  ⟨c0_i32_77, v222, c1_i32_79⟩
def k1_mult5 (k1_t3 : Fin k1_t3_loop.trips) (k1_t4 : Fin (k1_t4_loop k1_t3).trips) : BitVec 32 :=
  let c0_i32_16 : BitVec 32 := 0#32
  let c1_i32_18 : BitVec 32 := 1#32
  let arg17 : BitVec 32 := Scf.iv c0_i32_16 c1_i32_18 k1_t3
  let c1_i32_82 : BitVec 32 := 1#32
  let v229 : BitVec 32 := Scalar.subi arg17 c1_i32_82
  let c0_i32_77 : BitVec 32 := 0#32
  let c1_i32_79 : BitVec 32 := 1#32
  let arg18 : BitVec 32 := Scf.iv c0_i32_77 c1_i32_79 k1_t4
  let v230 : BitVec 32 := Scalar.subi v229 arg18
  let c512_i32_83 : BitVec 32 := 512#32
  let v231 : BitVec 32 := Scalar.muli v230 c512_i32_83
  v231
def k1_off6 (k1_t3 : Fin k1_t3_loop.trips) (k1_t4 : Fin (k1_t4_loop k1_t3).trips) : Fin 2 → Nat :=
  let c0_i32_16 : BitVec 32 := 0#32
  let c1_i32_18 : BitVec 32 := 1#32
  let arg17 : BitVec 32 := Scf.iv c0_i32_16 c1_i32_18 k1_t3
  let c1_i32_82 : BitVec 32 := 1#32
  let v229 : BitVec 32 := Scalar.subi arg17 c1_i32_82
  let c0_i32_77 : BitVec 32 := 0#32
  let c1_i32_79 : BitVec 32 := 1#32
  let arg18 : BitVec 32 := Scf.iv c0_i32_77 c1_i32_79 k1_t4
  let v230 : BitVec 32 := Scalar.subi v229 arg18
  let c512_i32_83 : BitVec 32 := 512#32
  let v231 : BitVec 32 := Scalar.muli v230 c512_i32_83
  let v232 : BitVec 32 := v231
  let v233 : Index := Scalar.indexCast v232
  let c0_84 : Index := 0#32
  ![v233.toNat, 0]
@[reducible] def k1_t5_loop (k1_t3 : Fin k1_t3_loop.trips) : Scf.Loop 32 :=
  let c0_i32_77 : BitVec 32 := 0#32
  let c0_i32_16 : BitVec 32 := 0#32
  let c1_i32_18 : BitVec 32 := 1#32
  let arg17 : BitVec 32 := Scf.iv c0_i32_16 c1_i32_18 k1_t3
  let v218 : BitVec 32 := Scalar.subi arg17 c0_i32_77
  let c1_i32_78 : BitVec 32 := 1#32
  let v220 : BitVec 32 := Scalar.divsi v218 c1_i32_78
  let v221 : BitVec 32 := Scalar.muli v220 c1_i32_78
  let v222 : BitVec 32 := Scalar.addi c0_i32_77 v221
  let v219 : BitVec 32 := Scalar.addi c0_i32_77 v218
  let c1_i32_80 : BitVec 32 := 1#32
  ⟨v222, v219, c1_i32_80⟩
def k1_mult6 (k1_t3 : Fin k1_t3_loop.trips) (k1_t5 : Fin (k1_t5_loop k1_t3).trips) : BitVec 32 :=
  let c0_i32_16 : BitVec 32 := 0#32
  let c1_i32_18 : BitVec 32 := 1#32
  let arg17 : BitVec 32 := Scf.iv c0_i32_16 c1_i32_18 k1_t3
  let c1_i32_82 : BitVec 32 := 1#32
  let v229 : BitVec 32 := Scalar.subi arg17 c1_i32_82
  let c0_i32_77 : BitVec 32 := 0#32
  let v218 : BitVec 32 := Scalar.subi arg17 c0_i32_77
  let c1_i32_78 : BitVec 32 := 1#32
  let v220 : BitVec 32 := Scalar.divsi v218 c1_i32_78
  let v221 : BitVec 32 := Scalar.muli v220 c1_i32_78
  let v222 : BitVec 32 := Scalar.addi c0_i32_77 v221
  let c1_i32_80 : BitVec 32 := 1#32
  let arg18 : BitVec 32 := Scf.iv v222 c1_i32_80 k1_t5
  let v230 : BitVec 32 := Scalar.subi v229 arg18
  let c512_i32_83 : BitVec 32 := 512#32
  let v231 : BitVec 32 := Scalar.muli v230 c512_i32_83
  v231
def k1_off7 (k1_t3 : Fin k1_t3_loop.trips) (k1_t5 : Fin (k1_t5_loop k1_t3).trips) : Fin 2 → Nat :=
  let c0_i32_16 : BitVec 32 := 0#32
  let c1_i32_18 : BitVec 32 := 1#32
  let arg17 : BitVec 32 := Scf.iv c0_i32_16 c1_i32_18 k1_t3
  let c1_i32_82 : BitVec 32 := 1#32
  let v229 : BitVec 32 := Scalar.subi arg17 c1_i32_82
  let c0_i32_77 : BitVec 32 := 0#32
  let v218 : BitVec 32 := Scalar.subi arg17 c0_i32_77
  let c1_i32_78 : BitVec 32 := 1#32
  let v220 : BitVec 32 := Scalar.divsi v218 c1_i32_78
  let v221 : BitVec 32 := Scalar.muli v220 c1_i32_78
  let v222 : BitVec 32 := Scalar.addi c0_i32_77 v221
  let c1_i32_80 : BitVec 32 := 1#32
  let arg18 : BitVec 32 := Scf.iv v222 c1_i32_80 k1_t5
  let v230 : BitVec 32 := Scalar.subi v229 arg18
  let c512_i32_83 : BitVec 32 := 512#32
  let v231 : BitVec 32 := Scalar.muli v230 c512_i32_83
  let v232 : BitVec 32 := v231
  let v233 : Index := Scalar.indexCast v232
  let c0_84 : Index := 0#32
  ![v233.toNat, 0]
@[reducible] def k1_t6_loop : Scf.Loop 32 :=
  let c0_i32_22 : BitVec 32 := 0#32
  let c8_i32_23 : BitVec 32 := 8#32
  let v33 : BitVec 32 := Scalar.addi c0_i32_22 c8_i32_23
  let c1_i32_24 : BitVec 32 := 1#32
  ⟨c0_i32_22, v33, c1_i32_24⟩
def k1_mult7 (k1_t6 : Fin k1_t6_loop.trips) : BitVec 32 :=
  let c0_i32_22 : BitVec 32 := 0#32
  let c1_i32_24 : BitVec 32 := 1#32
  let arg17 : BitVec 32 := Scf.iv c0_i32_22 c1_i32_24 k1_t6
  let c512_i32 : BitVec 32 := 512#32
  let v40 : BitVec 32 := Scalar.muli arg17 c512_i32
  v40
def k1_off8 (k1_t6 : Fin k1_t6_loop.trips) : Fin 3 → Nat :=
  let c0_34 : Index := 0#32
  let c0_i32_22 : BitVec 32 := 0#32
  let c1_i32_24 : BitVec 32 := 1#32
  let arg17 : BitVec 32 := Scf.iv c0_i32_22 c1_i32_24 k1_t6
  let c512_i32 : BitVec 32 := 512#32
  let v40 : BitVec 32 := Scalar.muli arg17 c512_i32
  let v41 : BitVec 32 := v40
  let v42 : Index := Scalar.indexCast v41
  let c0_35 : Index := 0#32
  ![0, v42.toNat, 0]
def k1_off9 (k1_t6 : Fin k1_t6_loop.trips) : Fin 2 → Nat :=
  let c0_i32_22 : BitVec 32 := 0#32
  let c1_i32_24 : BitVec 32 := 1#32
  let arg17 : BitVec 32 := Scf.iv c0_i32_22 c1_i32_24 k1_t6
  let c512_i32 : BitVec 32 := 512#32
  let v40 : BitVec 32 := Scalar.muli arg17 c512_i32
  let v41 : BitVec 32 := v40
  let v55 : Index := Scalar.indexCast v41
  let c0_39 : Index := 0#32
  ![v55.toNat, 0]
def k1_off10 (k1_t6 : Fin k1_t6_loop.trips) : Fin 3 → Nat :=
  let c0_44 : Index := 0#32
  let c0_i32_22 : BitVec 32 := 0#32
  let c1_i32_24 : BitVec 32 := 1#32
  let arg17 : BitVec 32 := Scf.iv c0_i32_22 c1_i32_24 k1_t6
  let c512_i32 : BitVec 32 := 512#32
  let v40 : BitVec 32 := Scalar.muli arg17 c512_i32
  let v41 : BitVec 32 := v40
  let v71 : Index := Scalar.indexCast v41
  let c0_45 : Index := 0#32
  ![0, v71.toNat, 0]
@[reducible] def k1_t7_loop : Scf.Loop 32 :=
  let c0_i32_26 : BitVec 32 := 0#32
  let c8_i32_27 : BitVec 32 := 8#32
  let v34 : BitVec 32 := Scalar.addi c0_i32_26 c8_i32_27
  let c1_i32_28 : BitVec 32 := 1#32
  ⟨c0_i32_26, v34, c1_i32_28⟩
def k1_mult8 (k1_t7 : Fin k1_t7_loop.trips) : BitVec 32 :=
  let c0_i32_26 : BitVec 32 := 0#32
  let c1_i32_28 : BitVec 32 := 1#32
  let arg17 : BitVec 32 := Scf.iv c0_i32_26 c1_i32_28 k1_t7
  let c512_i32 : BitVec 32 := 512#32
  let v40 : BitVec 32 := Scalar.muli arg17 c512_i32
  v40
def k1_off11 (k1_t7 : Fin k1_t7_loop.trips) : Fin 3 → Nat :=
  let c0_34 : Index := 0#32
  let c0_i32_26 : BitVec 32 := 0#32
  let c1_i32_28 : BitVec 32 := 1#32
  let arg17 : BitVec 32 := Scf.iv c0_i32_26 c1_i32_28 k1_t7
  let c512_i32 : BitVec 32 := 512#32
  let v40 : BitVec 32 := Scalar.muli arg17 c512_i32
  let v41 : BitVec 32 := v40
  let v42 : Index := Scalar.indexCast v41
  let c0_35 : Index := 0#32
  ![0, v42.toNat, 0]
def k1_off12 (k1_t7 : Fin k1_t7_loop.trips) : Fin 2 → Nat :=
  let c0_i32_26 : BitVec 32 := 0#32
  let c1_i32_28 : BitVec 32 := 1#32
  let arg17 : BitVec 32 := Scf.iv c0_i32_26 c1_i32_28 k1_t7
  let c512_i32 : BitVec 32 := 512#32
  let v40 : BitVec 32 := Scalar.muli arg17 c512_i32
  let v41 : BitVec 32 := v40
  let v55 : Index := Scalar.indexCast v41
  let c0_39 : Index := 0#32
  ![v55.toNat, 0]
def k1_off13 (k1_t7 : Fin k1_t7_loop.trips) : Fin 3 → Nat :=
  let c1 : Index := 1#32
  let c0_i32_26 : BitVec 32 := 0#32
  let c1_i32_28 : BitVec 32 := 1#32
  let arg17 : BitVec 32 := Scf.iv c0_i32_26 c1_i32_28 k1_t7
  let c512_i32 : BitVec 32 := 512#32
  let v40 : BitVec 32 := Scalar.muli arg17 c512_i32
  let v41 : BitVec 32 := v40
  let v71 : Index := Scalar.indexCast v41
  let c0_44 : Index := 0#32
  ![1, v71.toNat, 0]
def cc1_transform_0 (i : grid1.Coords) : Fin 3 → Nat :=
  let arg0 : BitVec 32 := BitVec.ofNat 32 (i 0).val
  let c0_i32 : BitVec 32 := 0#32
  let v0 : BitVec 32 := Scalar.addi c0_i32 arg0
  let c6_i32 : BitVec 32 := 6#32
  let v1 : BitVec 32 := Scalar.divsi v0 c6_i32
  let c0_i32_0 : BitVec 32 := 0#32
  let v2 : BitVec 1 := Scalar.cmpi .sgt v0 c0_i32_0
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c0_i32_2 : BitVec 32 := 0#32
  let v7 : BitVec 1 := Scalar.cmpi .sgt c6_i32 c0_i32_2
  let v8 : BitVec 32 := Scalar.extui v7
  let c0_i32_3 : BitVec 32 := 0#32
  let v9 : BitVec 1 := Scalar.cmpi .slt c6_i32 c0_i32_3
  let v10 : BitVec 32 := Scalar.extui v9
  let v11 : BitVec 32 := Scalar.subi v8 v10
  let v12 : BitVec 1 := Scalar.cmpi .ne v6 v11
  let v13 : BitVec 32 := Scalar.remsi v0 c6_i32
  let c0_i32_4 : BitVec 32 := 0#32
  let v14 : BitVec 1 := Scalar.cmpi .ne v13 c0_i32_4
  let v15 : BitVec 1 := Scalar.andi v12 v14
  let c1_i32 : BitVec 32 := 1#32
  let v16 : BitVec 32 := Scalar.subi v1 c1_i32
  let v17 : BitVec 32 := Scalar.select v15 v16 v1
  let c0_i32_5 : BitVec 32 := 0#32
  let v18 : BitVec 32 := Scalar.addi c0_i32_5 arg0
  let c6_i32_6 : BitVec 32 := 6#32
  let c0_i32_7 : BitVec 32 := 0#32
  let v19 : BitVec 1 := Scalar.cmpi .eq c6_i32_6 c0_i32_7
  let c1_i32_8 : BitVec 32 := 1#32
  let v20 : BitVec 32 := Scalar.select v19 c1_i32_8 c6_i32_6
  let v21 : BitVec 32 := Scalar.remsi v18 v20
  let c0_i32_9 : BitVec 32 := 0#32
  let v22 : BitVec 1 := Scalar.cmpi .ne v21 c0_i32_9
  let c0_i32_10 : BitVec 32 := 0#32
  let v23 : BitVec 1 := Scalar.cmpi .slt v21 c0_i32_10
  let c0_i32_11 : BitVec 32 := 0#32
  let v24 : BitVec 1 := Scalar.cmpi .slt v20 c0_i32_11
  let v25 : BitVec 1 := Scalar.xori v23 v24
  let v26 : BitVec 1 := Scalar.andi v25 v22
  let v27 : BitVec 32 := Scalar.addi v21 v20
  let v28 : BitVec 32 := Scalar.select v26 v27 v21
  let c0_i32_12 : BitVec 32 := 0#32
  let c0_i32_13 : BitVec 32 := 0#32
  ![v17.toNat, c0_i32_12.toNat, v28.toNat]

def cc1_transform_1 (i : grid1.Coords) : Fin 3 → Nat :=
  let arg0 : BitVec 32 := BitVec.ofNat 32 (i 0).val
  let c16_i32 : BitVec 32 := 16#32
  let v0 : BitVec 32 := Scalar.addi c16_i32 arg0
  let c6_i32 : BitVec 32 := 6#32
  let v1 : BitVec 32 := Scalar.divsi v0 c6_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c6_i32 c0_i32_1
  let v8 : BitVec 32 := Scalar.extui v7
  let c0_i32_2 : BitVec 32 := 0#32
  let v9 : BitVec 1 := Scalar.cmpi .slt c6_i32 c0_i32_2
  let v10 : BitVec 32 := Scalar.extui v9
  let v11 : BitVec 32 := Scalar.subi v8 v10
  let v12 : BitVec 1 := Scalar.cmpi .ne v6 v11
  let v13 : BitVec 32 := Scalar.remsi v0 c6_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c16_i32_4 : BitVec 32 := 16#32
  let v18 : BitVec 32 := Scalar.addi c16_i32_4 arg0
  let c6_i32_5 : BitVec 32 := 6#32
  let c0_i32_6 : BitVec 32 := 0#32
  let v19 : BitVec 1 := Scalar.cmpi .eq c6_i32_5 c0_i32_6
  let c1_i32_7 : BitVec 32 := 1#32
  let v20 : BitVec 32 := Scalar.select v19 c1_i32_7 c6_i32_5
  let v21 : BitVec 32 := Scalar.remsi v18 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c0_i32_11 : BitVec 32 := 0#32
  let c0_i32_12 : BitVec 32 := 0#32
  ![v17.toNat, c0_i32_11.toNat, v28.toNat]

def cc1_transform_2 (i : grid1.Coords) : Fin 3 → Nat :=
  let arg0 : BitVec 32 := BitVec.ofNat 32 (i 0).val
  let c32_i32 : BitVec 32 := 32#32
  let v0 : BitVec 32 := Scalar.addi c32_i32 arg0
  let c6_i32 : BitVec 32 := 6#32
  let v1 : BitVec 32 := Scalar.divsi v0 c6_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c6_i32 c0_i32_1
  let v8 : BitVec 32 := Scalar.extui v7
  let c0_i32_2 : BitVec 32 := 0#32
  let v9 : BitVec 1 := Scalar.cmpi .slt c6_i32 c0_i32_2
  let v10 : BitVec 32 := Scalar.extui v9
  let v11 : BitVec 32 := Scalar.subi v8 v10
  let v12 : BitVec 1 := Scalar.cmpi .ne v6 v11
  let v13 : BitVec 32 := Scalar.remsi v0 c6_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c32_i32_4 : BitVec 32 := 32#32
  let v18 : BitVec 32 := Scalar.addi c32_i32_4 arg0
  let c6_i32_5 : BitVec 32 := 6#32
  let c0_i32_6 : BitVec 32 := 0#32
  let v19 : BitVec 1 := Scalar.cmpi .eq c6_i32_5 c0_i32_6
  let c1_i32_7 : BitVec 32 := 1#32
  let v20 : BitVec 32 := Scalar.select v19 c1_i32_7 c6_i32_5
  let v21 : BitVec 32 := Scalar.remsi v18 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c0_i32_11 : BitVec 32 := 0#32
  let c0_i32_12 : BitVec 32 := 0#32
  ![v17.toNat, c0_i32_11.toNat, v28.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_7 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S1x4096x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x4096x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x4096x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S4096x128 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S4096x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S3x4096x128 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 1 → Memref sig .tc .vmem S1x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x128 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]
-- ==== AttnReferenceIdeal.lean ====
abbrev S4096x6144 : Shape := ⟨2, ![4096, 6144]⟩
abbrev S1x128 : Shape := ⟨2, ![1, 128]⟩
abbrev S4096x2048 : Shape := ⟨2, ![4096, 2048]⟩
abbrev S4096x16x128 : Shape := ⟨3, ![4096, 16, 128]⟩
abbrev S_ : Shape := ⟨0, ![]⟩
abbrev S4096x16 : Shape := ⟨2, ![4096, 16]⟩
abbrev S4096x16x1 : Shape := ⟨3, ![4096, 16, 1]⟩
abbrev S1x1x128 : Shape := ⟨3, ![1, 1, 128]⟩
abbrev S16x4096x4096 : Shape := ⟨3, ![16, 4096, 4096]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S16x128x4096 : Shape := ⟨3, ![16, 128, 4096]⟩
abbrev S16x4096x128 : Shape := ⟨3, ![16, 4096, 128]⟩
abbrev S128 : Shape := ⟨1, ![128]⟩
abbrev S1x4096x2048 : Shape := ⟨3, ![1, 4096, 2048]⟩
abbrev S3x4096x2048 : Shape := ⟨3, ![3, 4096, 2048]⟩

abbrev nBuf : Space → Nat
  | .hbm => 277
  | .vmem => 0
  | .smem => 0
  | _ => 0

abbrev hbmTy0_0 (i : Nat) : BufTy := match i % 128 with
  | 0 => ⟨S4096x6144, .f32⟩
  | 1 => ⟨S1x128, .f32⟩
  | 2 => ⟨S1x128, .f32⟩
  | 3 => ⟨S4096x2048, .f32⟩
  | 4 => ⟨S4096x2048, .f32⟩
  | 5 => ⟨S4096x2048, .f32⟩
  | 6 => ⟨S4096x2048, .f32⟩
  | 7 => ⟨S4096x16x128, .f32⟩
  | 8 => ⟨S4096x16x128, .f32⟩
  | 9 => ⟨S_, .f32⟩
  | 10 => ⟨S4096x16, .f32⟩
  | 11 => ⟨S4096x16x1, .f32⟩
  | 12 => ⟨S_, .f32⟩
  | 13 => ⟨S4096x16x1, .f32⟩
  | 14 => ⟨S4096x16x1, .f32⟩
  | 15 => ⟨S_, .f32⟩
  | 16 => ⟨S4096x16x1, .f32⟩
  | 17 => ⟨S4096x16x1, .f32⟩
  | 18 => ⟨S4096x16x1, .f32⟩
  | 19 => ⟨S4096x16x1, .f32⟩
  | 20 => ⟨S_, .f32⟩
  | 21 => ⟨S4096x16x1, .f32⟩
  | 22 => ⟨S4096x16x1, .f32⟩
  | 23 => ⟨S4096x16x128, .f32⟩
  | 24 => ⟨S4096x16x128, .f32⟩
  | 25 => ⟨S1x1x128, .f32⟩
  | 26 => ⟨S4096x16x128, .f32⟩
  | 27 => ⟨S4096x16x128, .f32⟩
  | 28 => ⟨S4096x16x128, .f32⟩
  | 29 => ⟨S4096x16x128, .f32⟩
  | 30 => ⟨S_, .f32⟩
  | 31 => ⟨S4096x16, .f32⟩
  | 32 => ⟨S4096x16x1, .f32⟩
  | 33 => ⟨S_, .f32⟩
  | 34 => ⟨S4096x16x1, .f32⟩
  | 35 => ⟨S4096x16x1, .f32⟩
  | 36 => ⟨S_, .f32⟩
  | 37 => ⟨S4096x16x1, .f32⟩
  | 38 => ⟨S4096x16x1, .f32⟩
  | 39 => ⟨S4096x16x1, .f32⟩
  | 40 => ⟨S4096x16x1, .f32⟩
  | 41 => ⟨S_, .f32⟩
  | 42 => ⟨S4096x16x1, .f32⟩
  | 43 => ⟨S4096x16x1, .f32⟩
  | 44 => ⟨S4096x16x128, .f32⟩
  | 45 => ⟨S4096x16x128, .f32⟩
  | 46 => ⟨S1x1x128, .f32⟩
  | 47 => ⟨S4096x16x128, .f32⟩
  | 48 => ⟨S4096x16x128, .f32⟩
  | 49 => ⟨S4096x16x128, .f32⟩
  | 50 => ⟨S16x4096x4096, .f32⟩
  | 51 => ⟨S_, .f32⟩
  | 52 => ⟨S16x4096x4096, .f32⟩
  | 53 => ⟨S16x4096x4096, .f32⟩
  | 54 => ⟨S4096, .i32⟩
  | 55 => ⟨S1x4096, .i32⟩
  | 56 => ⟨S4096, .i32⟩
  | 57 => ⟨S4096x1, .i32⟩
  | 58 => ⟨S4096x4096, .i32⟩
  | 59 => ⟨S4096x4096, .i32⟩
  | 60 => ⟨S4096x4096, .i1⟩
  | 61 => ⟨S16x4096x4096, .f32⟩
  | 62 => ⟨S16x4096x4096, .f32⟩
  | 63 => ⟨S_, .f32⟩
  | 64 => ⟨S16x4096x4096, .f32⟩
  | 65 => ⟨S16x4096x4096, .f32⟩
  | 66 => ⟨S16x4096x4096, .f32⟩
  | 67 => ⟨S16x4096x4096, .f32⟩
  | 68 => ⟨S16x4096x4096, .i1⟩
  | 69 => ⟨S16x4096x4096, .f32⟩
  | 70 => ⟨S16x4096x4096, .f32⟩
  | 71 => ⟨S16x4096x4096, .f32⟩
  | 72 => ⟨S16x4096x4096, .f32⟩
  | 73 => ⟨S16x4096x4096, .f32⟩
  | 74 => ⟨S16x4096x4096, .f32⟩
  | 75 => ⟨S16x4096x4096, .f32⟩
  | 76 => ⟨S16x4096x4096, .f32⟩
  | 77 => ⟨S_, .f32⟩
  | 78 => ⟨S16x4096x4096, .f32⟩
  | 79 => ⟨S16x4096x4096, .i1⟩
  | 80 => ⟨S_, .f32⟩
  | 81 => ⟨S16x4096x4096, .f32⟩
  | 82 => ⟨S16x4096x4096, .f32⟩
  | 83 => ⟨S_, .f32⟩
  | 84 => ⟨S16x4096x4096, .f32⟩
  | 85 => ⟨S16x4096x4096, .i1⟩
  | 86 => ⟨S_, .f32⟩
  | 87 => ⟨S16x4096x4096, .f32⟩
  | 88 => ⟨S16x4096x4096, .f32⟩
  | 89 => ⟨S16x4096x4096, .f32⟩
  | 90 => ⟨S16x4096x4096, .f32⟩
  | 91 => ⟨S_, .f32⟩
  | 92 => ⟨S_, .f32⟩
  | 93 => ⟨S_, .i1⟩
  | 94 => ⟨S_, .f32⟩
  | 95 => ⟨S_, .f32⟩
  | 96 => ⟨S_, .f32⟩
  | 97 => ⟨S_, .f32⟩
  | 98 => ⟨S16x4096x4096, .f32⟩
  | 99 => ⟨S16x4096x4096, .i1⟩
  | 100 => ⟨S_, .f32⟩
  | 101 => ⟨S16x4096x4096, .f32⟩
  | 102 => ⟨S16x4096x4096, .f32⟩
  | 103 => ⟨S16x4096x4096, .f32⟩
  | 104 => ⟨S16x4096x4096, .f32⟩
  | 105 => ⟨S16x4096x4096, .f32⟩
  | 106 => ⟨S_, .f32⟩
  | 107 => ⟨S16x4096x4096, .f32⟩
  | 108 => ⟨S16x4096x4096, .f32⟩
  | 109 => ⟨S16x4096x4096, .f32⟩
  | 110 => ⟨S_, .f32⟩
  | 111 => ⟨S_, .f32⟩
  | 112 => ⟨S16x4096x4096, .i1⟩
  | 113 => ⟨S16x4096x4096, .f32⟩
  | 114 => ⟨S16x4096x4096, .f32⟩
  | 115 => ⟨S_, .f32⟩
  | 116 => ⟨S16x4096x4096, .f32⟩
  | 117 => ⟨S_, .f32⟩
  | 118 => ⟨S_, .f32⟩
  | 119 => ⟨S16x4096x4096, .f32⟩
  | 120 => ⟨S16x4096x4096, .f32⟩
  | 121 => ⟨S16x4096x4096, .f32⟩
  | 122 => ⟨S_, .f32⟩
  | 123 => ⟨S16x4096x4096, .f32⟩
  | 124 => ⟨S16x4096x4096, .f32⟩
  | 125 => ⟨S16x4096x4096, .f32⟩
  | 126 => ⟨S16x4096x4096, .f32⟩
  | 127 => ⟨S16x4096x4096, .i1⟩
  | _ => ⟨S4096x6144, .f32⟩

abbrev hbmTy0_1 (i : Nat) : BufTy := match i % 128 with
  | 0 => ⟨S16x4096x4096, .f32⟩
  | 1 => ⟨S16x4096x4096, .f32⟩
  | 2 => ⟨S16x4096x4096, .f32⟩
  | 3 => ⟨S16x4096x4096, .f32⟩
  | 4 => ⟨S16x4096x4096, .f32⟩
  | 5 => ⟨S16x4096x4096, .f32⟩
  | 6 => ⟨S16x4096x4096, .f32⟩
  | 7 => ⟨S16x4096x4096, .f32⟩
  | 8 => ⟨S_, .f32⟩
  | 9 => ⟨S16x4096x4096, .f32⟩
  | 10 => ⟨S16x4096x4096, .i1⟩
  | 11 => ⟨S_, .f32⟩
  | 12 => ⟨S16x4096x4096, .f32⟩
  | 13 => ⟨S16x4096x4096, .f32⟩
  | 14 => ⟨S_, .f32⟩
  | 15 => ⟨S16x4096x4096, .f32⟩
  | 16 => ⟨S16x4096x4096, .i1⟩
  | 17 => ⟨S_, .f32⟩
  | 18 => ⟨S16x4096x4096, .f32⟩
  | 19 => ⟨S16x4096x4096, .f32⟩
  | 20 => ⟨S16x4096x4096, .f32⟩
  | 21 => ⟨S16x4096x4096, .f32⟩
  | 22 => ⟨S_, .f32⟩
  | 23 => ⟨S_, .f32⟩
  | 24 => ⟨S_, .i1⟩
  | 25 => ⟨S_, .f32⟩
  | 26 => ⟨S_, .f32⟩
  | 27 => ⟨S_, .f32⟩
  | 28 => ⟨S_, .f32⟩
  | 29 => ⟨S16x4096x4096, .f32⟩
  | 30 => ⟨S16x4096x4096, .i1⟩
  | 31 => ⟨S_, .f32⟩
  | 32 => ⟨S16x4096x4096, .f32⟩
  | 33 => ⟨S16x4096x4096, .f32⟩
  | 34 => ⟨S16x4096x4096, .f32⟩
  | 35 => ⟨S16x4096x4096, .f32⟩
  | 36 => ⟨S16x4096x4096, .f32⟩
  | 37 => ⟨S_, .f32⟩
  | 38 => ⟨S16x4096x4096, .f32⟩
  | 39 => ⟨S16x4096x4096, .f32⟩
  | 40 => ⟨S16x4096x4096, .f32⟩
  | 41 => ⟨S16x4096x4096, .f32⟩
  | 42 => ⟨S16x4096x4096, .f32⟩
  | 43 => ⟨S_, .f32⟩
  | 44 => ⟨S_, .f32⟩
  | 45 => ⟨S16x4096x4096, .i1⟩
  | 46 => ⟨S16x4096x4096, .f32⟩
  | 47 => ⟨S16x4096x4096, .f32⟩
  | 48 => ⟨S_, .f32⟩
  | 49 => ⟨S16x4096x4096, .f32⟩
  | 50 => ⟨S16x128x4096, .f32⟩
  | 51 => ⟨S4096x16x128, .f32⟩
  | 52 => ⟨S4096x2048, .f32⟩
  | 53 => ⟨S4096x16x128, .f32⟩
  | 54 => ⟨S16x128x4096, .f32⟩
  | 55 => ⟨S16x4096x4096, .f32⟩
  | 56 => ⟨S16x128x4096, .f32⟩
  | 57 => ⟨S4096x16x128, .f32⟩
  | 58 => ⟨S_, .f32⟩
  | 59 => ⟨S16x4096x4096, .f32⟩
  | 60 => ⟨S16x4096x4096, .f32⟩
  | 61 => ⟨S16x4096x4096, .f32⟩
  | 62 => ⟨S16x4096x4096, .f32⟩
  | 63 => ⟨S16x4096x4096, .f32⟩
  | 64 => ⟨S16x4096x4096, .f32⟩
  | 65 => ⟨S16x4096x4096, .f32⟩
  | 66 => ⟨S_, .f32⟩
  | 67 => ⟨S_, .f32⟩
  | 68 => ⟨S16x4096x4096, .f32⟩
  | 69 => ⟨S16x4096x4096, .f32⟩
  | 70 => ⟨S_, .f32⟩
  | 71 => ⟨S16x4096x4096, .f32⟩
  | 72 => ⟨S16x4096x4096, .f32⟩
  | 73 => ⟨S16x4096x4096, .f32⟩
  | 74 => ⟨S16x4096x4096, .f32⟩
  | 75 => ⟨S16x4096x4096, .f32⟩
  | 76 => ⟨S16x4096x4096, .f32⟩
  | 77 => ⟨S16x4096x4096, .f32⟩
  | 78 => ⟨S_, .f32⟩
  | 79 => ⟨S16x4096x4096, .f32⟩
  | 80 => ⟨S16x4096x4096, .f32⟩
  | 81 => ⟨S16x4096x128, .f32⟩
  | 82 => ⟨S4096x16x128, .f32⟩
  | 83 => ⟨S16x4096x128, .f32⟩
  | 84 => ⟨S4096x16x128, .f32⟩
  | 85 => ⟨S4096x2048, .f32⟩
  | 86 => ⟨S4096x16x128, .f32⟩
  | 87 => ⟨S_, .f32⟩
  | 88 => ⟨S128, .f32⟩
  | 89 => ⟨S1x1x128, .f32⟩
  | 90 => ⟨S4096x16x128, .f32⟩
  | 91 => ⟨S4096x16x128, .f32⟩
  | 92 => ⟨S_, .f32⟩
  | 93 => ⟨S128, .f32⟩
  | 94 => ⟨S1x128, .f32⟩
  | 95 => ⟨S4096x16x128, .f32⟩
  | 96 => ⟨S_, .f32⟩
  | 97 => ⟨S4096x16, .f32⟩
  | 98 => ⟨S4096x16x1, .f32⟩
  | 99 => ⟨S4096x16x128, .f32⟩
  | 100 => ⟨S4096x16x128, .f32⟩
  | 101 => ⟨S4096x16x1, .f32⟩
  | 102 => ⟨S_, .f32⟩
  | 103 => ⟨S4096x16x1, .f32⟩
  | 104 => ⟨S4096x16x1, .f32⟩
  | 105 => ⟨S_, .f32⟩
  | 106 => ⟨S4096x16, .f32⟩
  | 107 => ⟨S4096x16x128, .f32⟩
  | 108 => ⟨S4096x16x128, .f32⟩
  | 109 => ⟨S4096x16x128, .f32⟩
  | 110 => ⟨S4096x16x128, .f32⟩
  | 111 => ⟨S4096x16x128, .f32⟩
  | 112 => ⟨S4096x2048, .f32⟩
  | 113 => ⟨S4096x16x128, .f32⟩
  | 114 => ⟨S_, .f32⟩
  | 115 => ⟨S128, .f32⟩
  | 116 => ⟨S1x1x128, .f32⟩
  | 117 => ⟨S4096x16x128, .f32⟩
  | 118 => ⟨S4096x16x128, .f32⟩
  | 119 => ⟨S_, .f32⟩
  | 120 => ⟨S128, .f32⟩
  | 121 => ⟨S1x128, .f32⟩
  | 122 => ⟨S4096x16x128, .f32⟩
  | 123 => ⟨S_, .f32⟩
  | 124 => ⟨S4096x16, .f32⟩
  | 125 => ⟨S4096x16x1, .f32⟩
  | 126 => ⟨S4096x16x128, .f32⟩
  | 127 => ⟨S4096x16x128, .f32⟩
  | _ => ⟨S4096x6144, .f32⟩

abbrev hbmTy0_2 (i : Nat) : BufTy := match i % 128 with
  | 0 => ⟨S4096x16x1, .f32⟩
  | 1 => ⟨S_, .f32⟩
  | 2 => ⟨S4096x16x1, .f32⟩
  | 3 => ⟨S4096x16x1, .f32⟩
  | 4 => ⟨S_, .f32⟩
  | 5 => ⟨S4096x16, .f32⟩
  | 6 => ⟨S4096x16x128, .f32⟩
  | 7 => ⟨S4096x16x128, .f32⟩
  | 8 => ⟨S4096x16x128, .f32⟩
  | 9 => ⟨S4096x16x128, .f32⟩
  | 10 => ⟨S4096x16x128, .f32⟩
  | 11 => ⟨S4096x2048, .f32⟩
  | 12 => ⟨S4096x6144, .f32⟩
  | 13 => ⟨S4096x2048, .f32⟩
  | 14 => ⟨S4096x2048, .f32⟩
  | 15 => ⟨S4096x2048, .f32⟩
  | 16 => ⟨S1x4096x2048, .f32⟩
  | 17 => ⟨S1x4096x2048, .f32⟩
  | 18 => ⟨S1x4096x2048, .f32⟩
  | 19 => ⟨S3x4096x2048, .f32⟩
  | 20 => ⟨S3x4096x2048, .bf16⟩
  | _ => ⟨S4096x6144, .f32⟩

abbrev hbmTy (i : Nat) : BufTy := match i / 128 with
  | 0 => hbmTy0_0 i
  | 1 => hbmTy0_1 i
  | 2 => hbmTy0_2 i
  | _ => ⟨S4096x6144, .f32⟩

abbrev bufTy : (tb : Table) → Fin (tcTables nBuf tb) → BufTy
  | .hbm, ⟨i, _⟩ => hbmTy i
  | _, _ => ⟨S4096x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_3 : Ref sig .tc := ⟨.hbm, 30, rfl⟩
abbrev main_v22 : Ref sig .tc := ⟨.hbm, 31, rfl⟩
abbrev main_v23 : Ref sig .tc := ⟨.hbm, 32, rfl⟩
abbrev main_cst_4 : Ref sig .tc := ⟨.hbm, 33, rfl⟩
abbrev main_v24 : Ref sig .tc := ⟨.hbm, 34, rfl⟩
abbrev main_v25 : Ref sig .tc := ⟨.hbm, 35, rfl⟩
abbrev main_cst_5 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_6 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_cst_7 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_call0_v0 : Ref sig .tc := ⟨.hbm, 62, rfl⟩
abbrev main_call0_call0_cst : Ref sig .tc := ⟨.hbm, 63, rfl⟩
abbrev main_call0_call0_v0 : Ref sig .tc := ⟨.hbm, 64, rfl⟩
abbrev main_call0_call0_v1 : Ref sig .tc := ⟨.hbm, 65, rfl⟩
abbrev main_call0_call0_v2 : Ref sig .tc := ⟨.hbm, 66, rfl⟩
abbrev main_call0_call0_v3 : Ref sig .tc := ⟨.hbm, 67, rfl⟩
abbrev main_call0_call0_v4 : Ref sig .tc := ⟨.hbm, 68, rfl⟩
abbrev main_call0_call0_v5 : Ref sig .tc := ⟨.hbm, 69, rfl⟩
abbrev main_call0_call0_v6 : Ref sig .tc := ⟨.hbm, 70, rfl⟩
abbrev main_call0_call0_v7 : Ref sig .tc := ⟨.hbm, 71, rfl⟩
abbrev main_call0_call0_v8 : Ref sig .tc := ⟨.hbm, 72, rfl⟩
abbrev main_call0_call0_v9 : Ref sig .tc := ⟨.hbm, 73, rfl⟩
abbrev main_call0_call0_v10 : Ref sig .tc := ⟨.hbm, 74, rfl⟩
abbrev main_call0_call0_v11 : Ref sig .tc := ⟨.hbm, 75, rfl⟩
abbrev main_call0_v1_0 : Ref sig .tc := ⟨.hbm, 76, rfl⟩
abbrev main_call0_call0_cst_0 : Ref sig .tc := ⟨.hbm, 77, rfl⟩
abbrev main_call0_call0_v13 : Ref sig .tc := ⟨.hbm, 78, rfl⟩
abbrev main_call0_call0_v14 : Ref sig .tc := ⟨.hbm, 79, rfl⟩
abbrev main_call0_call0_cst_1 : Ref sig .tc := ⟨.hbm, 80, rfl⟩
abbrev main_call0_call0_v15 : Ref sig .tc := ⟨.hbm, 81, rfl⟩
abbrev main_call0_call0_v16 : Ref sig .tc := ⟨.hbm, 82, rfl⟩
abbrev main_call0_call0_cst_2 : Ref sig .tc := ⟨.hbm, 83, rfl⟩
abbrev main_call0_call0_v17 : Ref sig .tc := ⟨.hbm, 84, rfl⟩
abbrev main_call0_call0_v18 : Ref sig .tc := ⟨.hbm, 85, rfl⟩
abbrev main_call0_call0_cst_3 : Ref sig .tc := ⟨.hbm, 86, rfl⟩
abbrev main_call0_call0_v19 : Ref sig .tc := ⟨.hbm, 87, rfl⟩
abbrev main_call0_call0_v20 : Ref sig .tc := ⟨.hbm, 88, rfl⟩
abbrev main_call0_call0_v21 : Ref sig .tc := ⟨.hbm, 89, rfl⟩
abbrev main_v49_1 : Ref sig .tc := ⟨.hbm, 90, rfl⟩
abbrev main_call0_call0_cst_4 : Ref sig .tc := ⟨.hbm, 91, rfl⟩
abbrev main_call0_call0_cst_5 : Ref sig .tc := ⟨.hbm, 92, rfl⟩
abbrev main_call0_call0_v23 : Ref sig .tc := ⟨.hbm, 93, rfl⟩
abbrev main_call0_call0_cst_6 : Ref sig .tc := ⟨.hbm, 94, rfl⟩
abbrev main_call0_call0_cst_7 : Ref sig .tc := ⟨.hbm, 95, rfl⟩
abbrev main_call0_call0_v24 : Ref sig .tc := ⟨.hbm, 96, rfl⟩
abbrev main_call0_call0_cst_8 : Ref sig .tc := ⟨.hbm, 97, rfl⟩
abbrev main_call0_call0_v25 : Ref sig .tc := ⟨.hbm, 98, rfl⟩
abbrev main_call0_call0_v26 : Ref sig .tc := ⟨.hbm, 99, rfl⟩
abbrev main_call0_call0_cst_9 : Ref sig .tc := ⟨.hbm, 100, rfl⟩
abbrev main_call0_call0_v27 : Ref sig .tc := ⟨.hbm, 101, rfl⟩
abbrev main_call0_call0_v28 : Ref sig .tc := ⟨.hbm, 102, rfl⟩
abbrev main_call0_call0_v29 : Ref sig .tc := ⟨.hbm, 103, rfl⟩
abbrev main_call0_call0_v30 : Ref sig .tc := ⟨.hbm, 104, rfl⟩
abbrev main_call0_call0_v31 : Ref sig .tc := ⟨.hbm, 105, rfl⟩
abbrev main_call0_call0_cst_10 : Ref sig .tc := ⟨.hbm, 106, rfl⟩
abbrev main_call0_call0_v32 : Ref sig .tc := ⟨.hbm, 107, rfl⟩
abbrev main_v49_2 : Ref sig .tc := ⟨.hbm, 108, rfl⟩
abbrev main_v49_0 : Ref sig .tc := ⟨.hbm, 109, rfl⟩
abbrev main_cst_8 : Ref sig .tc := ⟨.hbm, 110, rfl⟩
abbrev main_call1_v0 : Ref sig .tc := ⟨.hbm, 111, rfl⟩
abbrev main_v50_1 : Ref sig .tc := ⟨.hbm, 112, rfl⟩
abbrev main_call1_v2 : Ref sig .tc := ⟨.hbm, 113, rfl⟩
abbrev main_v50_0 : Ref sig .tc := ⟨.hbm, 114, rfl⟩
abbrev main_call1_cst : Ref sig .tc := ⟨.hbm, 115, rfl⟩
abbrev main_v50_2 : Ref sig .tc := ⟨.hbm, 116, rfl⟩
abbrev main_call2_cst : Ref sig .tc := ⟨.hbm, 117, rfl⟩
abbrev main_call2_v0 : Ref sig .tc := ⟨.hbm, 118, rfl⟩
abbrev main_v51 : Ref sig .tc := ⟨.hbm, 119, rfl⟩
abbrev main_v52 : Ref sig .tc := ⟨.hbm, 120, rfl⟩
abbrev main_call3_v0 : Ref sig .tc := ⟨.hbm, 121, rfl⟩
abbrev main_call3_call0_cst : Ref sig .tc := ⟨.hbm, 122, rfl⟩
abbrev main_call3_call0_v0 : Ref sig .tc := ⟨.hbm, 123, rfl⟩
abbrev main_call3_call0_v1 : Ref sig .tc := ⟨.hbm, 124, rfl⟩
abbrev main_call3_call0_v2 : Ref sig .tc := ⟨.hbm, 125, rfl⟩
abbrev main_call3_call0_v3 : Ref sig .tc := ⟨.hbm, 126, rfl⟩
abbrev main_call3_call0_v4 : Ref sig .tc := ⟨.hbm, 127, rfl⟩
abbrev main_call3_call0_v5 : Ref sig .tc := ⟨.hbm, 128, rfl⟩
abbrev main_call3_call0_v6 : Ref sig .tc := ⟨.hbm, 129, rfl⟩
abbrev main_call3_call0_v7 : Ref sig .tc := ⟨.hbm, 130, rfl⟩
abbrev main_call3_call0_v8 : Ref sig .tc := ⟨.hbm, 131, rfl⟩
abbrev main_call3_call0_v9 : Ref sig .tc := ⟨.hbm, 132, rfl⟩
abbrev main_call3_call0_v10 : Ref sig .tc := ⟨.hbm, 133, rfl⟩
abbrev main_call3_call0_v11 : Ref sig .tc := ⟨.hbm, 134, rfl⟩
abbrev main_call3_v1_0 : Ref sig .tc := ⟨.hbm, 135, rfl⟩
abbrev main_call3_call0_cst_0 : Ref sig .tc := ⟨.hbm, 136, rfl⟩
abbrev main_call3_call0_v13 : Ref sig .tc := ⟨.hbm, 137, rfl⟩
abbrev main_call3_call0_v14 : Ref sig .tc := ⟨.hbm, 138, rfl⟩
abbrev main_call3_call0_cst_1 : Ref sig .tc := ⟨.hbm, 139, rfl⟩
abbrev main_call3_call0_v15 : Ref sig .tc := ⟨.hbm, 140, rfl⟩
abbrev main_call3_call0_v16 : Ref sig .tc := ⟨.hbm, 141, rfl⟩
abbrev main_call3_call0_cst_2 : Ref sig .tc := ⟨.hbm, 142, rfl⟩
abbrev main_call3_call0_v17 : Ref sig .tc := ⟨.hbm, 143, rfl⟩
abbrev main_call3_call0_v18 : Ref sig .tc := ⟨.hbm, 144, rfl⟩
abbrev main_call3_call0_cst_3 : Ref sig .tc := ⟨.hbm, 145, rfl⟩
abbrev main_call3_call0_v19 : Ref sig .tc := ⟨.hbm, 146, rfl⟩
abbrev main_call3_call0_v20 : Ref sig .tc := ⟨.hbm, 147, rfl⟩
abbrev main_call3_call0_v21 : Ref sig .tc := ⟨.hbm, 148, rfl⟩
abbrev main_v53_1 : Ref sig .tc := ⟨.hbm, 149, rfl⟩
abbrev main_call3_call0_cst_4 : Ref sig .tc := ⟨.hbm, 150, rfl⟩
abbrev main_call3_call0_cst_5 : Ref sig .tc := ⟨.hbm, 151, rfl⟩
abbrev main_call3_call0_v23 : Ref sig .tc := ⟨.hbm, 152, rfl⟩
abbrev main_call3_call0_cst_6 : Ref sig .tc := ⟨.hbm, 153, rfl⟩
abbrev main_call3_call0_cst_7 : Ref sig .tc := ⟨.hbm, 154, rfl⟩
abbrev main_call3_call0_v24 : Ref sig .tc := ⟨.hbm, 155, rfl⟩
abbrev main_call3_call0_cst_8 : Ref sig .tc := ⟨.hbm, 156, rfl⟩
abbrev main_call3_call0_v25 : Ref sig .tc := ⟨.hbm, 157, rfl⟩
abbrev main_call3_call0_v26 : Ref sig .tc := ⟨.hbm, 158, rfl⟩
abbrev main_call3_call0_cst_9 : Ref sig .tc := ⟨.hbm, 159, rfl⟩
abbrev main_call3_call0_v27 : Ref sig .tc := ⟨.hbm, 160, rfl⟩
abbrev main_call3_call0_v28 : Ref sig .tc := ⟨.hbm, 161, rfl⟩
abbrev main_call3_call0_v29 : Ref sig .tc := ⟨.hbm, 162, rfl⟩
abbrev main_call3_call0_v30 : Ref sig .tc := ⟨.hbm, 163, rfl⟩
abbrev main_call3_call0_v31 : Ref sig .tc := ⟨.hbm, 164, rfl⟩
abbrev main_call3_call0_cst_10 : Ref sig .tc := ⟨.hbm, 165, rfl⟩
abbrev main_call3_call0_v32 : Ref sig .tc := ⟨.hbm, 166, rfl⟩
abbrev main_v53_2 : Ref sig .tc := ⟨.hbm, 167, rfl⟩
abbrev main_v53_0 : Ref sig .tc := ⟨.hbm, 168, rfl⟩
abbrev main_v54 : Ref sig .tc := ⟨.hbm, 169, rfl⟩
abbrev main_v55 : Ref sig .tc := ⟨.hbm, 170, rfl⟩
abbrev main_cst_9 : Ref sig .tc := ⟨.hbm, 171, rfl⟩
abbrev main_call4_v0 : Ref sig .tc := ⟨.hbm, 172, rfl⟩
abbrev main_v56_1 : Ref sig .tc := ⟨.hbm, 173, rfl⟩
abbrev main_call4_v2 : Ref sig .tc := ⟨.hbm, 174, rfl⟩
abbrev main_v56_0 : Ref sig .tc := ⟨.hbm, 175, rfl⟩
abbrev main_call4_cst : Ref sig .tc := ⟨.hbm, 176, rfl⟩
abbrev main_v56_2 : Ref sig .tc := ⟨.hbm, 177, rfl⟩
abbrev main_v57 : Ref sig .tc := ⟨.hbm, 178, rfl⟩
abbrev main_v58 : Ref sig .tc := ⟨.hbm, 179, rfl⟩
abbrev main_v59 : Ref sig .tc := ⟨.hbm, 180, rfl⟩
abbrev main_v60 : Ref sig .tc := ⟨.hbm, 181, rfl⟩
abbrev main_v61 : Ref sig .tc := ⟨.hbm, 182, rfl⟩
abbrev main_v62 : Ref sig .tc := ⟨.hbm, 183, rfl⟩
abbrev main_v63 : Ref sig .tc := ⟨.hbm, 184, rfl⟩
abbrev main_v64 : Ref sig .tc := ⟨.hbm, 185, rfl⟩
abbrev main_call5_cst : Ref sig .tc := ⟨.hbm, 186, rfl⟩
abbrev main_call5_v0 : Ref sig .tc := ⟨.hbm, 187, rfl⟩
abbrev main_v65 : Ref sig .tc := ⟨.hbm, 188, rfl⟩
abbrev main_v66 : Ref sig .tc := ⟨.hbm, 189, rfl⟩
abbrev main_call6_v0 : Ref sig .tc := ⟨.hbm, 190, rfl⟩
abbrev main_call6_v1 : Ref sig .tc := ⟨.hbm, 191, rfl⟩
abbrev main_v67 : Ref sig .tc := ⟨.hbm, 192, rfl⟩
abbrev main_v68 : Ref sig .tc := ⟨.hbm, 193, rfl⟩
abbrev main_call7_cst : Ref sig .tc := ⟨.hbm, 194, rfl⟩
abbrev main_call7_v0 : Ref sig .tc := ⟨.hbm, 195, rfl⟩
abbrev main_v69 : Ref sig .tc := ⟨.hbm, 196, rfl⟩
abbrev main_v70 : Ref sig .tc := ⟨.hbm, 197, rfl⟩
abbrev main_call8_cst : Ref sig .tc := ⟨.hbm, 198, rfl⟩
abbrev main_call8_v0 : Ref sig .tc := ⟨.hbm, 199, rfl⟩
abbrev main_v71 : Ref sig .tc := ⟨.hbm, 200, rfl⟩
abbrev main_call9_v0 : Ref sig .tc := ⟨.hbm, 201, rfl⟩
abbrev main_call9_v1 : Ref sig .tc := ⟨.hbm, 202, rfl⟩
abbrev main_v72 : Ref sig .tc := ⟨.hbm, 203, rfl⟩
abbrev main_v73 : Ref sig .tc := ⟨.hbm, 204, rfl⟩
abbrev main_v74 : Ref sig .tc := ⟨.hbm, 205, rfl⟩
abbrev main_cst_10 : Ref sig .tc := ⟨.hbm, 206, rfl⟩
abbrev main_v75 : Ref sig .tc := ⟨.hbm, 207, rfl⟩
abbrev main_v76 : Ref sig .tc := ⟨.hbm, 208, rfl⟩
abbrev main_v77 : Ref sig .tc := ⟨.hbm, 209, rfl⟩
abbrev main_v78 : Ref sig .tc := ⟨.hbm, 210, rfl⟩
abbrev main_v79 : Ref sig .tc := ⟨.hbm, 211, rfl⟩
abbrev main_v80 : Ref sig .tc := ⟨.hbm, 212, rfl⟩
abbrev main_v81 : Ref sig .tc := ⟨.hbm, 213, rfl⟩
abbrev main_v82 : Ref sig .tc := ⟨.hbm, 214, rfl⟩
abbrev main_cst_11 : Ref sig .tc := ⟨.hbm, 215, rfl⟩
abbrev main_v83 : Ref sig .tc := ⟨.hbm, 216, rfl⟩
abbrev main_v84 : Ref sig .tc := ⟨.hbm, 217, rfl⟩
abbrev main_v85 : Ref sig .tc := ⟨.hbm, 218, rfl⟩
abbrev main_v86 : Ref sig .tc := ⟨.hbm, 219, rfl⟩
abbrev main_cst_12 : Ref sig .tc := ⟨.hbm, 220, rfl⟩
abbrev main_v87 : Ref sig .tc := ⟨.hbm, 221, rfl⟩
abbrev main_v88 : Ref sig .tc := ⟨.hbm, 222, rfl⟩
abbrev main_v89 : Ref sig .tc := ⟨.hbm, 223, rfl⟩
abbrev main_cst_13 : Ref sig .tc := ⟨.hbm, 224, rfl⟩
abbrev main_v90 : Ref sig .tc := ⟨.hbm, 225, rfl⟩
abbrev main_v91 : Ref sig .tc := ⟨.hbm, 226, rfl⟩
abbrev main_v92 : Ref sig .tc := ⟨.hbm, 227, rfl⟩
abbrev main_v93 : Ref sig .tc := ⟨.hbm, 228, rfl⟩
abbrev main_v94 : Ref sig .tc := ⟨.hbm, 229, rfl⟩
abbrev main_cst_14 : Ref sig .tc := ⟨.hbm, 230, rfl⟩
abbrev main_v95 : Ref sig .tc := ⟨.hbm, 231, rfl⟩
abbrev main_v96 : Ref sig .tc := ⟨.hbm, 232, rfl⟩
abbrev main_cst_15 : Ref sig .tc := ⟨.hbm, 233, rfl⟩
abbrev main_v97 : Ref sig .tc := ⟨.hbm, 234, rfl⟩
abbrev main_v98 : Ref sig .tc := ⟨.hbm, 235, rfl⟩
abbrev main_v99 : Ref sig .tc := ⟨.hbm, 236, rfl⟩
abbrev main_v100 : Ref sig .tc := ⟨.hbm, 237, rfl⟩
abbrev main_v101 : Ref sig .tc := ⟨.hbm, 238, rfl⟩
abbrev main_v102 : Ref sig .tc := ⟨.hbm, 239, rfl⟩
abbrev main_v103 : Ref sig .tc := ⟨.hbm, 240, rfl⟩
abbrev main_v104 : Ref sig .tc := ⟨.hbm, 241, rfl⟩
abbrev main_cst_16 : Ref sig .tc := ⟨.hbm, 242, rfl⟩
abbrev main_v105 : Ref sig .tc := ⟨.hbm, 243, rfl⟩
abbrev main_v106 : Ref sig .tc := ⟨.hbm, 244, rfl⟩
abbrev main_v107 : Ref sig .tc := ⟨.hbm, 245, rfl⟩
abbrev main_v108 : Ref sig .tc := ⟨.hbm, 246, rfl⟩
abbrev main_cst_17 : Ref sig .tc := ⟨.hbm, 247, rfl⟩
abbrev main_v109 : Ref sig .tc := ⟨.hbm, 248, rfl⟩
abbrev main_v110 : Ref sig .tc := ⟨.hbm, 249, rfl⟩
abbrev main_v111 : Ref sig .tc := ⟨.hbm, 250, rfl⟩
abbrev main_cst_18 : Ref sig .tc := ⟨.hbm, 251, rfl⟩
abbrev main_v112 : Ref sig .tc := ⟨.hbm, 252, rfl⟩
abbrev main_v113 : Ref sig .tc := ⟨.hbm, 253, rfl⟩
abbrev main_v114 : Ref sig .tc := ⟨.hbm, 254, rfl⟩
abbrev main_v115 : Ref sig .tc := ⟨.hbm, 255, rfl⟩
abbrev main_v116 : Ref sig .tc := ⟨.hbm, 256, rfl⟩
abbrev main_cst_19 : Ref sig .tc := ⟨.hbm, 257, rfl⟩
abbrev main_v117 : Ref sig .tc := ⟨.hbm, 258, rfl⟩
abbrev main_v118 : Ref sig .tc := ⟨.hbm, 259, rfl⟩
abbrev main_cst_20 : Ref sig .tc := ⟨.hbm, 260, rfl⟩
abbrev main_v119 : Ref sig .tc := ⟨.hbm, 261, rfl⟩
abbrev main_v120 : Ref sig .tc := ⟨.hbm, 262, rfl⟩
abbrev main_v121 : Ref sig .tc := ⟨.hbm, 263, rfl⟩
abbrev main_v122 : Ref sig .tc := ⟨.hbm, 264, rfl⟩
abbrev main_v123 : Ref sig .tc := ⟨.hbm, 265, rfl⟩
abbrev main_v124 : Ref sig .tc := ⟨.hbm, 266, rfl⟩
abbrev main_v125 : Ref sig .tc := ⟨.hbm, 267, rfl⟩
abbrev main_v126 : Ref sig .tc := ⟨.hbm, 268, rfl⟩
abbrev main_v127 : Ref sig .tc := ⟨.hbm, 269, rfl⟩
abbrev main_v128 : Ref sig .tc := ⟨.hbm, 270, rfl⟩
abbrev main_v129 : Ref sig .tc := ⟨.hbm, 271, rfl⟩
abbrev main_v130 : Ref sig .tc := ⟨.hbm, 272, rfl⟩
abbrev main_v131 : Ref sig .tc := ⟨.hbm, 273, rfl⟩
abbrev main_v132 : Ref sig .tc := ⟨.hbm, 274, rfl⟩
abbrev main_v133 : Ref sig .tc := ⟨.hbm, 275, rfl⟩
abbrev main_v134 : Ref sig .tc := ⟨.hbm, 276, rfl⟩

abbrev nD : Nat := 1
abbrev τ : Topo := Topo.v7x

variable {F : FTy → Type} [FloatOps F]
-- ==== ProjKernel.lean ====
abbrev S4096x2048 : Shape := ⟨2, ![4096, 2048]⟩
abbrev S2048x6144 : Shape := ⟨2, ![2048, 6144]⟩
abbrev S2048x8x768 : Shape := ⟨3, ![2048, 8, 768]⟩
abbrev S8x2048x768 : Shape := ⟨3, ![8, 2048, 768]⟩
abbrev S8x4096x768 : Shape := ⟨3, ![8, 4096, 768]⟩
abbrev S1024x2048 : Shape := ⟨2, ![1024, 2048]⟩
abbrev S1x2048x768 : Shape := ⟨3, ![1, 2048, 768]⟩
abbrev S1x1024x768 : Shape := ⟨3, ![1, 1024, 768]⟩
abbrev S2048x768 : Shape := ⟨2, ![2048, 768]⟩
abbrev S1024x768 : Shape := ⟨2, ![1024, 768]⟩

abbrev nBuf : Space → Nat
  | .hbm => 7
  | .vmem => 6
  | .smem => 0
  | _ => 0

abbrev bufTy : (tb : Table) → Fin (tcTables nBuf tb) → BufTy
  | .hbm, ⟨0, _⟩ => ⟨S4096x2048, .f32⟩
  | .hbm, ⟨1, _⟩ => ⟨S2048x6144, .f32⟩
  | .hbm, ⟨2, _⟩ => ⟨S2048x8x768, .f32⟩
  | .hbm, ⟨3, _⟩ => ⟨S8x2048x768, .f32⟩
  | .hbm, ⟨4, _⟩ => ⟨S4096x2048, .bf16⟩
  | .hbm, ⟨5, _⟩ => ⟨S8x2048x768, .bf16⟩
  | .hbm, ⟨6, _⟩ => ⟨S8x4096x768, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x768, .bf16⟩
  | .local _ .vmem, ⟨3, _⟩ => ⟨S1x2048x768, .bf16⟩
  | .local _ .vmem, ⟨4, _⟩ => ⟨S1x1024x768, .f32⟩
  | .local _ .vmem, ⟨5, _⟩ => ⟨S1x1024x768, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ProjReferenceIdeal.lean ====
abbrev S4096x2048 : Shape := ⟨2, ![4096, 2048]⟩
abbrev S2048x6144 : Shape := ⟨2, ![2048, 6144]⟩
abbrev S4096x6144 : Shape := ⟨2, ![4096, 6144]⟩
abbrev S4096x8x768 : Shape := ⟨3, ![4096, 8, 768]⟩
abbrev S8x4096x768 : Shape := ⟨3, ![8, 4096, 768]⟩

abbrev nBuf : Space → Nat
  | .hbm => 5
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x6144, .f32⟩
  | .hbm, ⟨2, _⟩ => ⟨S4096x6144, .f32⟩
  | .hbm, ⟨3, _⟩ => ⟨S4096x8x768, .f32⟩
  | .hbm, ⟨4, _⟩ => ⟨S8x4096x768, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== ResKernel.lean ====
abbrev S4096x2048 : Shape := ⟨2, ![4096, 2048]⟩
abbrev S2048x2048 : Shape := ⟨2, ![2048, 2048]⟩
abbrev S512x2048 : Shape := ⟨2, ![512, 2048]⟩
abbrev S2048x1024 : Shape := ⟨2, ![2048, 1024]⟩
abbrev S512x1024 : Shape := ⟨2, ![512, 1024]⟩

abbrev nBuf : Space → Nat
  | .hbm => 6
  | .vmem => 8
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S4096x2048, .f32⟩
  | .hbm, ⟨3, _⟩ => ⟨S4096x2048, .bf16⟩
  | .hbm, ⟨4, _⟩ => ⟨S2048x2048, .bf16⟩
  | .hbm, ⟨5, _⟩ => ⟨S4096x2048, .f32⟩
  | .local _ .vmem, ⟨0, _⟩ => ⟨S512x2048, .bf16⟩
  | .local _ .vmem, ⟨1, _⟩ => ⟨S512x2048, .bf16⟩
  | .local _ .vmem, ⟨2, _⟩ => ⟨S2048x1024, .bf16⟩
  | .local _ .vmem, ⟨3, _⟩ => ⟨S2048x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ResReferenceIdeal.lean ====
abbrev S4096x2048 : Shape := ⟨2, ![4096, 2048]⟩
abbrev S2048x2048 : Shape := ⟨2, ![2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S4096x2048, .f32⟩
  | .hbm, ⟨3, _⟩ => ⟨S4096x2048, .f32⟩
  | .hbm, ⟨4, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== DownKernel.lean ====
abbrev S4096x5632 : Shape := ⟨2, ![4096, 5632]⟩
abbrev S5632x2048 : Shape := ⟨2, ![5632, 2048]⟩
abbrev S4096x2048 : Shape := ⟨2, ![4096, 2048]⟩
abbrev S4096x8x704 : Shape := ⟨3, ![4096, 8, 704]⟩
abbrev S8x4096x704 : Shape := ⟨3, ![8, 4096, 704]⟩
abbrev S8x704x2048 : Shape := ⟨3, ![8, 704, 2048]⟩
abbrev S2x1024x704 : Shape := ⟨3, ![2, 1024, 704]⟩
abbrev S2x704x1024 : Shape := ⟨3, ![2, 704, 1024]⟩
abbrev S1024x1024 : Shape := ⟨2, ![1024, 1024]⟩
abbrev S1x1024x704 : Shape := ⟨3, ![1, 1024, 704]⟩
abbrev S1024x704 : Shape := ⟨2, ![1024, 704]⟩
abbrev S1x704x1024 : Shape := ⟨3, ![1, 704, 1024]⟩
abbrev S704x1024 : Shape := ⟨2, ![704, 1024]⟩

abbrev nBuf : Space → Nat
  | .hbm => 9
  | .vmem => 9
  | .smem => 0
  | _ => 0

abbrev bufTy : (tb : Table) → Fin (tcTables nBuf tb) → BufTy
  | .hbm, ⟨0, _⟩ => ⟨S4096x5632, .f32⟩
  | .hbm, ⟨1, _⟩ => ⟨S5632x2048, .f32⟩
  | .hbm, ⟨2, _⟩ => ⟨S4096x2048, .f32⟩
  | .hbm, ⟨3, _⟩ => ⟨S4096x8x704, .f32⟩
  | .hbm, ⟨4, _⟩ => ⟨S8x4096x704, .f32⟩
  | .hbm, ⟨5, _⟩ => ⟨S8x4096x704, .bf16⟩
  | .hbm, ⟨6, _⟩ => ⟨S8x704x2048, .f32⟩
  | .hbm, ⟨7, _⟩ => ⟨S8x704x2048, .bf16⟩
  | .hbm, ⟨8, _⟩ => ⟨S4096x2048, .f32⟩
  | .local _ .vmem, ⟨0, _⟩ => ⟨S2x1024x704, .bf16⟩
  | .local _ .vmem, ⟨1, _⟩ => ⟨S2x1024x704, .bf16⟩
  | .local _ .vmem, ⟨2, _⟩ => ⟨S2x704x1024, .bf16⟩
  | .local _ .vmem, ⟨3, _⟩ => ⟨S2x704x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S4096x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 4], ![false, false, false]⟩

def k0_cond2 (i : grid0.Coords) : BitVec 1 :=
  let arg2 : BitVec 32 := BitVec.ofNat 32 (i 2).val
  let c3_i32 : BitVec 32 := 3#32
  let v21 : BitVec 1 := Scalar.cmpi .eq arg2 c3_i32
  let v22 : BitVec 32 := Scalar.extui v21
  let c0_i32_17 : BitVec 32 := 0#32
  let v23 : BitVec 1 := Scalar.cmpi .ne v22 c0_i32_17
  v23

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg0.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2x1024x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2x704x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DownReferenceIdeal.lean ====
abbrev S4096x5632 : Shape := ⟨2, ![4096, 5632]⟩
abbrev S5632x2048 : Shape := ⟨2, ![5632, 2048]⟩
abbrev S4096x2048 : Shape := ⟨2, ![4096, 2048]⟩

abbrev nBuf : Space → Nat
  | .hbm => 5
  | .vmem => 0
  | .smem => 0
  | _ => 0

abbrev bufTy : (tb : Table) → Fin (tcTables nBuf tb) → BufTy
  | .hbm, ⟨0, _⟩ => ⟨S4096x5632, .f32⟩
  | .hbm, ⟨1, _⟩ => ⟨S5632x2048, .f32⟩
  | .hbm, ⟨2, _⟩ => ⟨S4096x2048, .f32⟩
  | .hbm, ⟨3, _⟩ => ⟨S4096x2048, .f32⟩
  | .hbm, ⟨4, _⟩ => ⟨S4096x2048, .f32⟩
  | _, _ => ⟨S4096x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== BackKernel.lean ====
abbrev S4096x2048 : Shape := ⟨2, ![4096, 2048]⟩
abbrev S2048x2048 : Shape := ⟨2, ![2048, 2048]⟩
abbrev S8x256x2048 : Shape := ⟨3, ![8, 256, 2048]⟩
abbrev S1024x2048 : Shape := ⟨2, ![1024, 2048]⟩
abbrev S1x256x2048 : Shape := ⟨3, ![1, 256, 2048]⟩
abbrev S1024x256 : Shape := ⟨2, ![1024, 256]⟩
abbrev S256x2048 : Shape := ⟨2, ![256, 2048]⟩

abbrev nBuf : Space → Nat
  | .hbm => 6
  | .vmem => 6
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S4096x2048, .bf16⟩
  | .hbm, ⟨3, _⟩ => ⟨S8x256x2048, .f32⟩
  | .hbm, ⟨4, _⟩ => ⟨S8x256x2048, .bf16⟩
  | .hbm, ⟨5, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S1x256x2048, .bf16⟩
  | .local _ .vmem, ⟨3, _⟩ => ⟨S1x256x2048, .bf16⟩
  | .local _ .vmem, ⟨4, _⟩ => ⟨S1024x256, .f32⟩
  | .local _ .vmem, ⟨5, _⟩ => ⟨S1024x256, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== BackReferenceIdeal.lean ====
abbrev S4096x2048 : Shape := ⟨2, ![4096, 2048]⟩
abbrev S2048x2048 : Shape := ⟨2, ![2048, 2048]⟩

abbrev nBuf : Space → Nat
  | .hbm => 3
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== FfdhKernel.lean ====
abbrev S4096x5632 : Shape := ⟨2, ![4096, 5632]⟩
abbrev S2048x5632 : Shape := ⟨2, ![2048, 5632]⟩
abbrev S4096x8x704 : Shape := ⟨3, ![4096, 8, 704]⟩
abbrev S8x4096x704 : Shape := ⟨3, ![8, 4096, 704]⟩
abbrev S2048x8x704 : Shape := ⟨3, ![2048, 8, 704]⟩
abbrev S8x2048x704 : Shape := ⟨3, ![8, 2048, 704]⟩
abbrev S4096x2048 : Shape := ⟨2, ![4096, 2048]⟩
abbrev S2x1024x704 : Shape := ⟨3, ![2, 1024, 704]⟩
abbrev S1024x1024 : Shape := ⟨2, ![1024, 1024]⟩
abbrev S1x1024x704 : Shape := ⟨3, ![1, 1024, 704]⟩
abbrev S1024x704 : Shape := ⟨2, ![1024, 704]⟩

abbrev nBuf : Space → Nat
  | .hbm => 17
  | .vmem => 11
  | .smem => 0
  | _ => 0

abbrev bufTy : (tb : Table) → Fin (tcTables nBuf tb) → BufTy
  | .hbm, ⟨0, _⟩ => ⟨S4096x5632, .f32⟩
  | .hbm, ⟨1, _⟩ => ⟨S4096x5632, .f32⟩
  | .hbm, ⟨2, _⟩ => ⟨S2048x5632, .f32⟩
  | .hbm, ⟨3, _⟩ => ⟨S2048x5632, .f32⟩
  | .hbm, ⟨4, _⟩ => ⟨S4096x8x704, .f32⟩
  | .hbm, ⟨5, _⟩ => ⟨S8x4096x704, .f32⟩
  | .hbm, ⟨6, _⟩ => ⟨S8x4096x704, .bf16⟩
  | .hbm, ⟨7, _⟩ => ⟨S4096x8x704, .f32⟩
  | .hbm, ⟨8, _⟩ => ⟨S8x4096x704, .f32⟩
  | .hbm, ⟨9, _⟩ => ⟨S8x4096x704, .bf16⟩
  | .hbm, ⟨10, _⟩ => ⟨S2048x8x704, .f32⟩
  | .hbm, ⟨11, _⟩ => ⟨S8x2048x704, .f32⟩
  | .hbm, ⟨12, _⟩ => ⟨S8x2048x704, .bf16⟩
  | .hbm, ⟨13, _⟩ => ⟨S2048x8x704, .f32⟩
  | .hbm, ⟨14, _⟩ => ⟨S8x2048x704, .f32⟩
  | .hbm, ⟨15, _⟩ => ⟨S8x2048x704, .bf16⟩
  | .hbm, ⟨16, _⟩ => ⟨S4096x2048, .f32⟩
  | .local _ .vmem, ⟨0, _⟩ => ⟨S2x1024x704, .bf16⟩
  | .local _ .vmem, ⟨1, _⟩ => ⟨S2x1024x704, .bf16⟩
  | .local _ .vmem, ⟨2, _⟩ => ⟨S2x1024x704, .bf16⟩
  | .local _ .vmem, ⟨3, _⟩ => ⟨S2x1024x704, .bf16⟩
  | .local _ .vmem, ⟨4, _⟩ => ⟨S2x1024x704, .bf16⟩
  | .local _ .vmem, ⟨5, _⟩ => ⟨S2x1024x704, .bf16⟩
  | .local _ .vmem, ⟨6, _⟩ => ⟨S2x1024x704, .bf16⟩
  | .local _ .vmem, ⟨7, _⟩ => ⟨S2x1024x704, .bf16⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | _, _ => ⟨S4096x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![4, 2, 4], ![false, false, false]⟩

def k0_cond2 (i : grid0.Coords) : BitVec 1 :=
  let arg2 : BitVec 32 := BitVec.ofNat 32 (i 2).val
  let c3_i32 : BitVec 32 := 3#32
  let v33 : BitVec 1 := Scalar.cmpi .eq arg2 c3_i32
  let v34 : BitVec 32 := Scalar.extui v33
  let c0_i32_31 : BitVec 32 := 0#32
  let v35 : BitVec 1 := Scalar.cmpi .ne v34 c0_i32_31
  v35

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg0.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg0.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2x1024x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2x1024x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S2x1024x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S2x1024x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== FfdhReferenceIdeal.lean ====
abbrev S4096x5632 : Shape := ⟨2, ![4096, 5632]⟩
abbrev S2048x5632 : Shape := ⟨2, ![2048, 5632]⟩
abbrev S4096x2048 : Shape := ⟨2, ![4096, 2048]⟩

abbrev nBuf : Space → Nat
  | .hbm => 7
  | .vmem => 0
  | .smem => 0
  | _ => 0

abbrev bufTy : (tb : Table) → Fin (tcTables nBuf tb) → BufTy
  | .hbm, ⟨0, _⟩ => ⟨S4096x5632, .f32⟩
  | .hbm, ⟨1, _⟩ => ⟨S4096x5632, .f32⟩
  | .hbm, ⟨2, _⟩ => ⟨S2048x5632, .f32⟩
  | .hbm, ⟨3, _⟩ => ⟨S2048x5632, .f32⟩
  | .hbm, ⟨4, _⟩ => ⟨S4096x2048, .f32⟩
  | .hbm, ⟨5, _⟩ => ⟨S4096x2048, .f32⟩
  | .hbm, ⟨6, _⟩ => ⟨S4096x2048, .f32⟩
  | _, _ => ⟨S4096x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩

abbrev nD : Nat := 1
abbrev τ : Topo := Topo.v7x

variable {F : FTy → Type} [FloatOps F]
-- ==== SectKernel.lean ====
abbrev S4096x6144 : Shape := ⟨2, ![4096, 6144]⟩
abbrev S2048x6144 : Shape := ⟨2, ![2048, 6144]⟩
abbrev S4096x3x2048 : Shape := ⟨3, ![4096, 3, 2048]⟩
abbrev S3x4096x2048 : Shape := ⟨3, ![3, 4096, 2048]⟩
abbrev S4096x2048 : Shape := ⟨2, ![4096, 2048]⟩
abbrev S1x1024x2048 : Shape := ⟨3, ![1, 1024, 2048]⟩
abbrev S1024x2048 : Shape := ⟨2, ![1024, 2048]⟩
abbrev S1024x1024 : Shape := ⟨2, ![1024, 1024]⟩

abbrev nBuf : Space → Nat
  | .hbm => 7
  | .vmem => 7
  | .smem => 0
  | _ => 0

abbrev bufTy : (tb : Table) → Fin (tcTables nBuf tb) → BufTy
  | .hbm, ⟨0, _⟩ => ⟨S4096x6144, .f32⟩
  | .hbm, ⟨1, _⟩ => ⟨S2048x6144, .f32⟩
  | .hbm, ⟨2, _⟩ => ⟨S4096x3x2048, .f32⟩
  | .hbm, ⟨3, _⟩ => ⟨S3x4096x2048, .f32⟩
  | .hbm, ⟨4, _⟩ => ⟨S3x4096x2048, .bf16⟩
  | .hbm, ⟨5, _⟩ => ⟨S2048x6144, .bf16⟩
  | .hbm, ⟨6, _⟩ => ⟨S4096x2048, .f32⟩
  | .local _ .vmem, ⟨0, _⟩ => ⟨S1x1024x2048, .bf16⟩
  | .local _ .vmem, ⟨1, _⟩ => ⟨S1x1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 3], ![false, false, false]⟩

def k0_cond2 (i : grid0.Coords) : BitVec 1 :=
  let arg2 : BitVec 32 := BitVec.ofNat 32 (i 2).val
  let c2_i32 : BitVec 32 := 2#32
  let v13 : BitVec 1 := Scalar.cmpi .eq arg2 c2_i32
  let v14 : BitVec 32 := Scalar.extui v13
  let c0_i32_9 : BitVec 32 := 0#32
  let v15 : BitVec 1 := Scalar.cmpi .ne v14 c0_i32_9
  v15

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1x1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== SectReferenceIdeal.lean ====
abbrev S4096x6144 : Shape := ⟨2, ![4096, 6144]⟩
abbrev S2048x6144 : Shape := ⟨2, ![2048, 6144]⟩
abbrev S4096x2048 : Shape := ⟨2, ![4096, 2048]⟩

abbrev nBuf : Space → Nat
  | .hbm => 3
  | .vmem => 0
  | .smem => 0
  | _ => 0

abbrev bufTy : (tb : Table) → Fin (tcTables nBuf tb) → BufTy
  | .hbm, ⟨0, _⟩ => ⟨S4096x6144, .f32⟩
  | .hbm, ⟨1, _⟩ => ⟨S2048x6144, .f32⟩
  | .hbm, ⟨2, _⟩ => ⟨S4096x2048, .f32⟩
  | _, _ => ⟨S4096x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== WcolKernel.lean ====
abbrev S4096x2048 : Shape := ⟨2, ![4096, 2048]⟩
abbrev S4096x5632 : Shape := ⟨2, ![4096, 5632]⟩
abbrev S4096x8x704 : Shape := ⟨3, ![4096, 8, 704]⟩
abbrev S8x4096x704 : Shape := ⟨3, ![8, 4096, 704]⟩
abbrev S8x2048x704 : Shape := ⟨3, ![8, 2048, 704]⟩
abbrev S2048x1024 : Shape := ⟨2, ![2048, 1024]⟩
abbrev S1x2048x704 : Shape := ⟨3, ![1, 2048, 704]⟩
abbrev S1x1024x704 : Shape := ⟨3, ![1, 1024, 704]⟩
abbrev S1024x704 : Shape := ⟨2, ![1024, 704]⟩
abbrev S2048x704 : Shape := ⟨2, ![2048, 704]⟩

abbrev nBuf : Space → Nat
  | .hbm => 12
  | .vmem => 12
  | .smem => 0
  | _ => 0

abbrev bufTy : (tb : Table) → Fin (tcTables nBuf tb) → BufTy
  | .hbm, ⟨0, _⟩ => ⟨S4096x2048, .f32⟩
  | .hbm, ⟨1, _⟩ => ⟨S4096x5632, .f32⟩
  | .hbm, ⟨2, _⟩ => ⟨S4096x5632, .f32⟩
  | .hbm, ⟨3, _⟩ => ⟨S4096x2048, .bf16⟩
  | .hbm, ⟨4, _⟩ => ⟨S4096x8x704, .f32⟩
  | .hbm, ⟨5, _⟩ => ⟨S8x4096x704, .f32⟩
  | .hbm, ⟨6, _⟩ => ⟨S8x4096x704, .bf16⟩
  | .hbm, ⟨7, _⟩ => ⟨S4096x8x704, .f32⟩
  | .hbm, ⟨8, _⟩ => ⟨S8x4096x704, .f32⟩
  | .hbm, ⟨9, _⟩ => ⟨S8x4096x704, .bf16⟩
  | .hbm, ⟨10, _⟩ => ⟨S8x2048x704, .f32⟩
  | .hbm, ⟨11, _⟩ => ⟨S8x2048x704, .f32⟩
  | .local _ .vmem, ⟨0, _⟩ => ⟨S2048x1024, .bf16⟩
  | .local _ .vmem, ⟨1, _⟩ => ⟨S2048x1024, .bf16⟩
  | .local _ .vmem, ⟨2, _⟩ => ⟨S1x2048x704, .bf16⟩
  | .local _ .vmem, ⟨3, _⟩ => ⟨S1x2048x704, .bf16⟩
  | .local _ .vmem, ⟨4, _⟩ => ⟨S1x2048x704, .bf16⟩
  | .local _ .vmem, ⟨5, _⟩ => ⟨S1x2048x704, .bf16⟩
  | .local _ .vmem, ⟨6, _⟩ => ⟨S1x1024x704, .f32⟩
  | .local _ .vmem, ⟨7, _⟩ => ⟨S1x1024x704, .f32⟩
  | .local _ .vmem, ⟨8, _⟩ => ⟨S1x1024x704, .f32⟩
  | .local _ .vmem, ⟨9, _⟩ => ⟨S1x1024x704, .f32⟩
  | .local _ .vmem, ⟨10, _⟩ => ⟨S1024x704, .f32⟩
  | .local _ .vmem, ⟨11, _⟩ => ⟨S1024x704, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7_0 : Ref sig .tc := ⟨.hbm, 10, rfl⟩
abbrev main_v7_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![8, 2, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_9 : BitVec 32 := 0#32
  let v15 : BitVec 1 := Scalar.cmpi .ne v14 c0_i32_9
  v15

def k0_cond4 (i : grid0.Coords) : BitVec 1 :=
  let arg2 : BitVec 32 := BitVec.ofNat 32 (i 2).val
  let c1_i32_20 : BitVec 32 := 1#32
  let v27 : BitVec 1 := Scalar.cmpi .eq arg2 c1_i32_20
  let v28 : BitVec 32 := Scalar.extui v27
  let c0_i32_21 : BitVec 32 := 0#32
  let v29 : BitVec 1 := Scalar.cmpi .ne v28 c0_i32_21
  v29

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1x2048x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x2048x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x1024x704 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x1024x704 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== WcolReferenceIdeal.lean ====
abbrev S4096x2048 : Shape := ⟨2, ![4096, 2048]⟩
abbrev S4096x5632 : Shape := ⟨2, ![4096, 5632]⟩
abbrev S5632x2048 : Shape := ⟨2, ![5632, 2048]⟩
abbrev S2048x5632 : Shape := ⟨2, ![2048, 5632]⟩
abbrev S2048x8x704 : Shape := ⟨3, ![2048, 8, 704]⟩
abbrev S8x2048x704 : Shape := ⟨3, ![8, 2048, 704]⟩

abbrev nBuf : Space → Nat
  | .hbm => 11
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x5632, .f32⟩
  | .hbm, ⟨2, _⟩ => ⟨S4096x5632, .f32⟩
  | .hbm, ⟨3, _⟩ => ⟨S5632x2048, .f32⟩
  | .hbm, ⟨4, _⟩ => ⟨S2048x5632, .f32⟩
  | .hbm, ⟨5, _⟩ => ⟨S5632x2048, .f32⟩
  | .hbm, ⟨6, _⟩ => ⟨S2048x5632, .f32⟩
  | .hbm, ⟨7, _⟩ => ⟨S2048x8x704, .f32⟩
  | .hbm, ⟨8, _⟩ => ⟨S8x2048x704, .f32⟩
  | .hbm, ⟨9, _⟩ => ⟨S2048x8x704, .f32⟩
  | .hbm, ⟨10, _⟩ => ⟨S8x2048x704, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== WrowKernel.lean ====
abbrev S4096x5632 : Shape := ⟨2, ![4096, 5632]⟩
abbrev S4096x2048 : Shape := ⟨2, ![4096, 2048]⟩
abbrev S4096x8x704 : Shape := ⟨3, ![4096, 8, 704]⟩
abbrev S8x4096x704 : Shape := ⟨3, ![8, 4096, 704]⟩
abbrev S8x704x2048 : Shape := ⟨3, ![8, 704, 2048]⟩
abbrev S1x2048x704 : Shape := ⟨3, ![1, 2048, 704]⟩
abbrev S2048x1024 : Shape := ⟨2, ![2048, 1024]⟩
abbrev S1x704x1024 : Shape := ⟨3, ![1, 704, 1024]⟩
abbrev S704x1024 : Shape := ⟨2, ![704, 1024]⟩
abbrev S2048x704 : Shape := ⟨2, ![2048, 704]⟩

abbrev nBuf : Space → Nat
  | .hbm => 7
  | .vmem => 7
  | .smem => 0
  | _ => 0

abbrev bufTy : (tb : Table) → Fin (tcTables nBuf tb) → BufTy
  | .hbm, ⟨0, _⟩ => ⟨S4096x5632, .f32⟩
  | .hbm, ⟨1, _⟩ => ⟨S4096x2048, .f32⟩
  | .hbm, ⟨2, _⟩ => ⟨S4096x8x704, .f32⟩
  | .hbm, ⟨3, _⟩ => ⟨S8x4096x704, .f32⟩
  | .hbm, ⟨4, _⟩ => ⟨S8x4096x704, .bf16⟩
  | .hbm, ⟨5, _⟩ => ⟨S4096x2048, .bf16⟩
  | .hbm, ⟨6, _⟩ => ⟨S8x704x2048, .f32⟩
  | .local _ .vmem, ⟨0, _⟩ => ⟨S1x2048x704, .bf16⟩
  | .local _ .vmem, ⟨1, _⟩ => ⟨S1x2048x704, .bf16⟩
  | .local _ .vmem, ⟨2, _⟩ => ⟨S2048x1024, .bf16⟩
  | .local _ .vmem, ⟨3, _⟩ => ⟨S2048x1024, .bf16⟩
  | .local _ .vmem, ⟨4, _⟩ => ⟨S1x704x1024, .f32⟩
  | .local _ .vmem, ⟨5, _⟩ => ⟨S1x704x1024, .f32⟩
  | .local _ .vmem, ⟨6, _⟩ => ⟨S704x1024, .f32⟩
  | _, _ => ⟨S4096x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_9 : BitVec 32 := 0#32
  let v15 : BitVec 1 := Scalar.cmpi .ne v14 c0_i32_9
  v15

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

abbrev stage0_0 : Fin 2 → Memref sig .tc .vmem S1x2048x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x704x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== WrowReferenceIdeal.lean ====
abbrev S4096x5632 : Shape := ⟨2, ![4096, 5632]⟩
abbrev S4096x2048 : Shape := ⟨2, ![4096, 2048]⟩
abbrev S2048x5632 : Shape := ⟨2, ![2048, 5632]⟩
abbrev S5632x2048 : Shape := ⟨2, ![5632, 2048]⟩
abbrev S8x704x2048 : Shape := ⟨3, ![8, 704, 2048]⟩

abbrev nBuf : Space → Nat
  | .hbm => 5
  | .vmem => 0
  | .smem => 0
  | _ => 0

abbrev bufTy : (tb : Table) → Fin (tcTables nBuf tb) → BufTy
  | .hbm, ⟨0, _⟩ => ⟨S4096x5632, .f32⟩
  | .hbm, ⟨1, _⟩ => ⟨S4096x2048, .f32⟩
  | .hbm, ⟨2, _⟩ => ⟨S2048x5632, .f32⟩
  | .hbm, ⟨3, _⟩ => ⟨S5632x2048, .f32⟩
  | .hbm, ⟨4, _⟩ => ⟨S8x704x2048, .f32⟩
  | _, _ => ⟨S4096x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== WstdKernel.lean ====
abbrev S4096x2048 : Shape := ⟨2, ![4096, 2048]⟩
abbrev S2048x2048 : Shape := ⟨2, ![2048, 2048]⟩
abbrev S2048x1024 : Shape := ⟨2, ![2048, 1024]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .bf16⟩
  | .hbm, ⟨3, _⟩ => ⟨S4096x2048, .bf16⟩
  | .hbm, ⟨4, _⟩ => ⟨S2048x2048, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== WstdReferenceIdeal.lean ====
abbrev S4096x2048 : Shape := ⟨2, ![4096, 2048]⟩
abbrev S2048x2048 : Shape := ⟨2, ![2048, 2048]⟩

abbrev nBuf : Space → Nat
  | .hbm => 4
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S2048x2048, .f32⟩
  | .hbm, ⟨3, _⟩ => ⟨S2048x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== WsecKernel.lean ====
abbrev S4096x2048 : Shape := ⟨2, ![4096, 2048]⟩
abbrev S4096x6144 : Shape := ⟨2, ![4096, 6144]⟩
abbrev S4096x3x2048 : Shape := ⟨3, ![4096, 3, 2048]⟩
abbrev S3x4096x2048 : Shape := ⟨3, ![3, 4096, 2048]⟩
abbrev S8x2048x768 : Shape := ⟨3, ![8, 2048, 768]⟩
abbrev S4096x1024 : Shape := ⟨2, ![4096, 1024]⟩
abbrev S1x4096x256 : Shape := ⟨3, ![1, 4096, 256]⟩
abbrev S1x1024x256 : Shape := ⟨3, ![1, 1024, 256]⟩
abbrev S1024x256 : Shape := ⟨2, ![1024, 256]⟩
abbrev S4096x256 : Shape := ⟨2, ![4096, 256]⟩

abbrev nBuf : Space → Nat
  | .hbm => 7
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S4096x6144, .f32⟩
  | .hbm, ⟨2, _⟩ => ⟨S4096x3x2048, .f32⟩
  | .hbm, ⟨3, _⟩ => ⟨S3x4096x2048, .f32⟩
  | .hbm, ⟨4, _⟩ => ⟨S4096x2048, .bf16⟩
  | .hbm, ⟨5, _⟩ => ⟨S3x4096x2048, .bf16⟩
  | .hbm, ⟨6, _⟩ => ⟨S8x2048x768, .f32⟩
  | .local _ .vmem, ⟨0, _⟩ => ⟨S4096x1024, .bf16⟩
  | .local _ .vmem, ⟨1, _⟩ => ⟨S4096x1024, .bf16⟩
  | .local _ .vmem, ⟨2, _⟩ => ⟨S1x4096x256, .bf16⟩
  | .local _ .vmem, ⟨3, _⟩ => ⟨S1x4096x256, .bf16⟩
  | .local _ .vmem, ⟨4, _⟩ => ⟨S1x1024x256, .f32⟩
  | .local _ .vmem, ⟨5, _⟩ => ⟨S1x1024x256, .f32⟩
  | .local _ .vmem, ⟨6, _⟩ => ⟨S1024x256, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 24, 1], ![false, false, false]⟩

def k0_cond2 (i : grid0.Coords) : BitVec 1 :=
  let arg2 : BitVec 32 := BitVec.ofNat 32 (i 2).val
  let c0_i32_9 : BitVec 32 := 0#32
  let v13 : BitVec 1 := Scalar.cmpi .eq arg2 c0_i32_9
  let v14 : BitVec 32 := Scalar.extui v13
  let c0_i32_10 : BitVec 32 := 0#32
  let v15 : BitVec 1 := Scalar.cmpi .ne v14 c0_i32_10
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.divsi arg1 c8_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg1 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.divsi arg1 c3_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c3_i32 c0_i32_1
  let v7 : BitVec 32 := Scalar.extui v6
  let c0_i32_2 : BitVec 32 := 0#32
  let v8 : BitVec 1 := Scalar.cmpi .slt c3_i32 c0_i32_2
  let v9 : BitVec 32 := Scalar.extui v8
  let v10 : BitVec 32 := Scalar.subi v7 v9
  let v11 : BitVec 1 := Scalar.cmpi .ne v5 v10
  let v12 : BitVec 32 := Scalar.remsi arg1 c3_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c3_i32_4 : BitVec 32 := 3#32
  let c0_i32_5 : BitVec 32 := 0#32
  let v17 : BitVec 1 := Scalar.cmpi .eq c3_i32_4 c0_i32_5
  let c1_i32_6 : BitVec 32 := 1#32
  let v18 : BitVec 32 := Scalar.select v17 c1_i32_6 c3_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== WsecReferenceIdeal.lean ====
abbrev S4096x2048 : Shape := ⟨2, ![4096, 2048]⟩
abbrev S4096x6144 : Shape := ⟨2, ![4096, 6144]⟩
abbrev S6144x2048 : Shape := ⟨2, ![6144, 2048]⟩
abbrev S2048x6144 : Shape := ⟨2, ![2048, 6144]⟩
abbrev S2048x8x768 : Shape := ⟨3, ![2048, 8, 768]⟩
abbrev S8x2048x768 : Shape := ⟨3, ![8, 2048, 768]⟩

abbrev nBuf : Space → Nat
  | .hbm => 6
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x6144, .f32⟩
  | .hbm, ⟨2, _⟩ => ⟨S6144x2048, .f32⟩
  | .hbm, ⟨3, _⟩ => ⟨S2048x6144, .f32⟩
  | .hbm, ⟨4, _⟩ => ⟨S2048x8x768, .f32⟩
  | .hbm, ⟨5, _⟩ => ⟨S8x2048x768, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== AdamKernel.lean ====
abbrev S160x128 : Shape := ⟨2, ![160, 128]⟩

abbrev nBuf : Space → Nat
  | .hbm => 7
  | .vmem => 7
  | .smem => 0
  | _ => 0

abbrev bufTy : (tb : Table) → Fin (tcTables nBuf tb) → BufTy
  | .hbm, ⟨0, _⟩ => ⟨S160x128, .f32⟩
  | .hbm, ⟨1, _⟩ => ⟨S160x128, .f32⟩
  | .hbm, ⟨2, _⟩ => ⟨S160x128, .f32⟩
  | .hbm, ⟨3, _⟩ => ⟨S160x128, .f32⟩
  | .hbm, ⟨4, _⟩ => ⟨S160x128, .f32⟩
  | .hbm, ⟨5, _⟩ => ⟨S160x128, .f32⟩
  | .hbm, ⟨6, _⟩ => ⟨S160x128, .f32⟩
  | .local _ .vmem, ⟨0, _⟩ => ⟨S160x128, .f32⟩
  | .local _ .vmem, ⟨1, _⟩ => ⟨S160x128, .f32⟩
  | .local _ .vmem, ⟨2, _⟩ => ⟨S160x128, .f32⟩
  | .local _ .vmem, ⟨3, _⟩ => ⟨S160x128, .f32⟩
  | .local _ .vmem, ⟨4, _⟩ => ⟨S160x128, .f32⟩
  | .local _ .vmem, ⟨5, _⟩ => ⟨S160x128, .f32⟩
  | .local _ .vmem, ⟨6, _⟩ => ⟨S160x128, .f32⟩
  | _, _ => ⟨S160x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S160x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S160x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S160x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S160x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S160x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S160x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S160x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== AdamReferenceIdeal.lean ====
abbrev S160x128 : Shape := ⟨2, ![160, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S160x128, .f32⟩
  | .hbm, ⟨1, _⟩ => ⟨S160x128, .f32⟩
  | .hbm, ⟨2, _⟩ => ⟨S160x128, .f32⟩
  | .hbm, ⟨3, _⟩ => ⟨S160x128, .f32⟩
  | .hbm, ⟨4, _⟩ => ⟨S_, .f32⟩
  | .hbm, ⟨5, _⟩ => ⟨S160x128, .f32⟩
  | .hbm, ⟨6, _⟩ => ⟨S160x128, .f32⟩
  | .hbm, ⟨7, _⟩ => ⟨S_, .f32⟩
  | .hbm, ⟨8, _⟩ => ⟨S160x128, .f32⟩
  | .hbm, ⟨9, _⟩ => ⟨S160x128, .f32⟩
  | .hbm, ⟨10, _⟩ => ⟨S160x128, .f32⟩
  | .hbm, ⟨11, _⟩ => ⟨S_, .f32⟩
  | .hbm, ⟨12, _⟩ => ⟨S160x128, .f32⟩
  | .hbm, ⟨13, _⟩ => ⟨S160x128, .f32⟩
  | .hbm, ⟨14, _⟩ => ⟨S160x128, .f32⟩
  | .hbm, ⟨15, _⟩ => ⟨S_, .f32⟩
  | .hbm, ⟨16, _⟩ => ⟨S160x128, .f32⟩
  | .hbm, ⟨17, _⟩ => ⟨S160x128, .f32⟩
  | .hbm, ⟨18, _⟩ => ⟨S160x128, .f32⟩
  | .hbm, ⟨19, _⟩ => ⟨S_, .f32⟩
  | .hbm, ⟨20, _⟩ => ⟨S160x128, .f32⟩
  | .hbm, ⟨21, _⟩ => ⟨S160x128, .f32⟩
  | .hbm, ⟨22, _⟩ => ⟨S_, .f32⟩
  | .hbm, ⟨23, _⟩ => ⟨S160x128, .f32⟩
  | .hbm, ⟨24, _⟩ => ⟨S160x128, .f32⟩
  | .hbm, ⟨25, _⟩ => ⟨S160x128, .f32⟩
  | .hbm, ⟨26, _⟩ => ⟨S_, .f32⟩
  | .hbm, ⟨27, _⟩ => ⟨S160x128, .f32⟩
  | .hbm, ⟨28, _⟩ => ⟨S160x128, .f32⟩
  | .hbm, ⟨29, _⟩ => ⟨S160x128, .f32⟩
  | .hbm, ⟨30, _⟩ => ⟨S_, .f32⟩
  | .hbm, ⟨31, _⟩ => ⟨S160x128, .f32⟩
  | .hbm, ⟨32, _⟩ => ⟨S160x128, .f32⟩
  | .hbm, ⟨33, _⟩ => ⟨S160x128, .f32⟩
  | .hbm, ⟨34, _⟩ => ⟨S_, .f32⟩
  | .hbm, ⟨35, _⟩ => ⟨S160x128, .f32⟩
  | .hbm, ⟨36, _⟩ => ⟨S160x128, .f32⟩
  | _, _ => ⟨S160x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== ChipKernel.lean ====
abbrev S1 : Shape := ⟨1, ![1]⟩
abbrev S8x2048x768 : Shape := ⟨3, ![8, 2048, 768]⟩
abbrev S4x2048x768 : Shape := ⟨3, ![4, 2048, 768]⟩
abbrev S1x512x768 : Shape := ⟨3, ![1, 512, 768]⟩
abbrev S512x768 : Shape := ⟨2, ![512, 768]⟩

abbrev nBuf : Space → Nat
  | .hbm => 3
  | .vmem => 6
  | .smem => 1
  | _ => 0

abbrev bufTy : (tb : Table) → Fin (tcTables nBuf tb) → BufTy
  | .hbm, ⟨0, _⟩ => ⟨S8x2048x768, .f32⟩
  | .hbm, ⟨1, _⟩ => ⟨S4x2048x768, .f32⟩
  | .hbm, ⟨2, _⟩ => ⟨S4x2048x768, .bf16⟩
  | .local _ .vmem, ⟨0, _⟩ => ⟨S1x512x768, .f32⟩
  | .local _ .vmem, ⟨1, _⟩ => ⟨S1x512x768, .f32⟩
  | .local _ .vmem, ⟨2, _⟩ => ⟨S1x512x768, .f32⟩
  | .local _ .vmem, ⟨3, _⟩ => ⟨S1x512x768, .f32⟩
  | .local _ .vmem, ⟨4, _⟩ => ⟨S1x512x768, .bf16⟩
  | .local _ .vmem, ⟨5, _⟩ => ⟨S1x512x768, .bf16⟩
  | .local _ .smem, ⟨0, _⟩ => ⟨S1, .i32⟩
  | _, _ => ⟨S8x2048x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_v0 : Ref sig .tc := ⟨.hbm, 2, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg0
  let c0 : Index := 0#32
  let v1 : BitVec 32 := pf.at 0 (Rect.unit (s := S1) ![0] S1.size inb_S1_S1_0) numel1_S1
  let v2 : BitVec 32 := Scalar.addi v0 v1
  let c0_i32 : BitVec 32 := 0#32
  let c0_i32_0 : BitVec 32 := 0#32
  ![v2.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ChipReferenceIdeal.lean ====
abbrev S1 : Shape := ⟨1, ![1]⟩
abbrev S8x2048x768 : Shape := ⟨3, ![8, 2048, 768]⟩
abbrev S4x2048x768 : Shape := ⟨3, ![4, 2048, 768]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S1, .i32⟩
  | .hbm, ⟨1, _⟩ => ⟨S8x2048x768, .f32⟩
  | .hbm, ⟨2, _⟩ => ⟨S4x2048x768, .f32⟩
  | .hbm, ⟨3, _⟩ => ⟨S_, .i32⟩
  | .hbm, ⟨4, _⟩ => ⟨S_, .i32⟩
  | .hbm, ⟨5, _⟩ => ⟨S_, .i1⟩
  | .hbm, ⟨6, _⟩ => ⟨S4x2048x768, .f32⟩
  | .hbm, ⟨7, _⟩ => ⟨S4x2048x768, .f32⟩
  | .hbm, ⟨8, _⟩ => ⟨S4x2048x768, .f32⟩
  | .hbm, ⟨9, _⟩ => ⟨S4x2048x768, .f32⟩
  | .hbm, ⟨10, _⟩ => ⟨S4x2048x768, .bf16⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== UpdKernel.lean ====
abbrev S1 : Shape := ⟨1, ![1]⟩
abbrev S4x2048x768 : Shape := ⟨3, ![4, 2048, 768]⟩
abbrev S1x2048x768 : Shape := ⟨3, ![1, 2048, 768]⟩
abbrev S1x256x768 : Shape := ⟨3, ![1, 256, 768]⟩
abbrev S4x256x768 : Shape := ⟨3, ![4, 256, 768]⟩
abbrev S256x768 : Shape := ⟨2, ![256, 768]⟩

abbrev nBuf : Space → Nat
  | .hbm => 9
  | .vmem => 18
  | .smem => 1
  | _ => 0

abbrev bufTy : (tb : Table) → Fin (tcTables nBuf tb) → BufTy
  | .hbm, ⟨0, _⟩ => ⟨S4x2048x768, .bf16⟩
  | .hbm, ⟨1, _⟩ => ⟨S4x2048x768, .bf16⟩
  | .hbm, ⟨2, _⟩ => ⟨S1x2048x768, .f32⟩
  | .hbm, ⟨3, _⟩ => ⟨S1x2048x768, .f32⟩
  | .hbm, ⟨4, _⟩ => ⟨S1x2048x768, .f32⟩
  | .hbm, ⟨5, _⟩ => ⟨S1x2048x768, .f32⟩
  | .hbm, ⟨6, _⟩ => ⟨S1x2048x768, .f32⟩
  | .hbm, ⟨7, _⟩ => ⟨S1x2048x768, .f32⟩
  | .hbm, ⟨8, _⟩ => ⟨S1x2048x768, .f32⟩
  | .local _ .vmem, ⟨0, _⟩ => ⟨S1x256x768, .bf16⟩
  | .local _ .vmem, ⟨1, _⟩ => ⟨S1x256x768, .bf16⟩
  | .local _ .vmem, ⟨2, _⟩ => ⟨S4x256x768, .bf16⟩
  | .local _ .vmem, ⟨3, _⟩ => ⟨S4x256x768, .bf16⟩
  | .local _ .vmem, ⟨4, _⟩ => ⟨S1x256x768, .f32⟩
  | .local _ .vmem, ⟨5, _⟩ => ⟨S1x256x768, .f32⟩
  | .local _ .vmem, ⟨6, _⟩ => ⟨S1x256x768, .f32⟩
  | .local _ .vmem, ⟨7, _⟩ => ⟨S1x256x768, .f32⟩
  | .local _ .vmem, ⟨8, _⟩ => ⟨S1x256x768, .f32⟩
  | .local _ .vmem, ⟨9, _⟩ => ⟨S1x256x768, .f32⟩
  | .local _ .vmem, ⟨10, _⟩ => ⟨S1x256x768, .f32⟩
  | .local _ .vmem, ⟨11, _⟩ => ⟨S1x256x768, .f32⟩
  | .local _ .vmem, ⟨12, _⟩ => ⟨S1x256x768, .f32⟩
  | .local _ .vmem, ⟨13, _⟩ => ⟨S1x256x768, .f32⟩
  | .local _ .vmem, ⟨14, _⟩ => ⟨S1x256x768, .f32⟩
  | .local _ .vmem, ⟨15, _⟩ => ⟨S1x256x768, .f32⟩
  | .local _ .vmem, ⟨16, _⟩ => ⟨S1x256x768, .f32⟩
  | .local _ .vmem, ⟨17, _⟩ => ⟨S1x256x768, .f32⟩
  | .local _ .smem, ⟨0, _⟩ => ⟨S1, .i32⟩
  | _, _ => ⟨S4x2048x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![8], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x256x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x256x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x256x768 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== UpdReferenceIdeal.lean ====
abbrev S1 : Shape := ⟨1, ![1]⟩
abbrev S4x2048x768 : Shape := ⟨3, ![4, 2048, 768]⟩
abbrev S1x2048x768 : Shape := ⟨3, ![1, 2048, 768]⟩
abbrev S_ : Shape := ⟨0, ![]⟩
abbrev S2048x768 : Shape := ⟨2, ![2048, 768]⟩

abbrev nBuf : Space → Nat
  | .hbm => 48
  | .vmem => 0
  | .smem => 0
  | _ => 0

abbrev bufTy : (tb : Table) → Fin (tcTables nBuf tb) → BufTy
  | .hbm, ⟨0, _⟩ => ⟨S1, .i32⟩
  | .hbm, ⟨1, _⟩ => ⟨S4x2048x768, .bf16⟩
  | .hbm, ⟨2, _⟩ => ⟨S4x2048x768, .bf16⟩
  | .hbm, ⟨3, _⟩ => ⟨S1x2048x768, .f32⟩
  | .hbm, ⟨4, _⟩ => ⟨S1x2048x768, .f32⟩
  | .hbm, ⟨5, _⟩ => ⟨S1x2048x768, .f32⟩
  | .hbm, ⟨6, _⟩ => ⟨S4x2048x768, .i32⟩
  | .hbm, ⟨7, _⟩ => ⟨S_, .i32⟩
  | .hbm, ⟨8, _⟩ => ⟨S4x2048x768, .i32⟩
  | .hbm, ⟨9, _⟩ => ⟨S4x2048x768, .i1⟩
  | .hbm, ⟨10, _⟩ => ⟨S4x2048x768, .bf16⟩
  | .hbm, ⟨11, _⟩ => ⟨S4x2048x768, .f32⟩
  | .hbm, ⟨12, _⟩ => ⟨S_, .f32⟩
  | .hbm, ⟨13, _⟩ => ⟨S2048x768, .f32⟩
  | .hbm, ⟨14, _⟩ => ⟨S1x2048x768, .f32⟩
  | .hbm, ⟨15, _⟩ => ⟨S_, .f32⟩
  | .hbm, ⟨16, _⟩ => ⟨S1x2048x768, .f32⟩
  | .hbm, ⟨17, _⟩ => ⟨S1x2048x768, .f32⟩
  | .hbm, ⟨18, _⟩ => ⟨S_, .f32⟩
  | .hbm, ⟨19, _⟩ => ⟨S1x2048x768, .f32⟩
  | .hbm, ⟨20, _⟩ => ⟨S1x2048x768, .f32⟩
  | .hbm, ⟨21, _⟩ => ⟨S1x2048x768, .f32⟩
  | .hbm, ⟨22, _⟩ => ⟨S_, .f32⟩
  | .hbm, ⟨23, _⟩ => ⟨S1x2048x768, .f32⟩
  | .hbm, ⟨24, _⟩ => ⟨S1x2048x768, .f32⟩
  | .hbm, ⟨25, _⟩ => ⟨S1x2048x768, .f32⟩
  | .hbm, ⟨26, _⟩ => ⟨S_, .f32⟩
  | .hbm, ⟨27, _⟩ => ⟨S1x2048x768, .f32⟩
  | .hbm, ⟨28, _⟩ => ⟨S1x2048x768, .f32⟩
  | .hbm, ⟨29, _⟩ => ⟨S1x2048x768, .f32⟩
  | .hbm, ⟨30, _⟩ => ⟨S_, .f32⟩
  | .hbm, ⟨31, _⟩ => ⟨S1x2048x768, .f32⟩
  | .hbm, ⟨32, _⟩ => ⟨S1x2048x768, .f32⟩
  | .hbm, ⟨33, _⟩ => ⟨S_, .f32⟩
  | .hbm, ⟨34, _⟩ => ⟨S1x2048x768, .f32⟩
  | .hbm, ⟨35, _⟩ => ⟨S1x2048x768, .f32⟩
  | .hbm, ⟨36, _⟩ => ⟨S1x2048x768, .f32⟩
  | .hbm, ⟨37, _⟩ => ⟨S_, .f32⟩
  | .hbm, ⟨38, _⟩ => ⟨S1x2048x768, .f32⟩
  | .hbm, ⟨39, _⟩ => ⟨S1x2048x768, .f32⟩
  | .hbm, ⟨40, _⟩ => ⟨S1x2048x768, .f32⟩
  | .hbm, ⟨41, _⟩ => ⟨S_, .f32⟩
  | .hbm, ⟨42, _⟩ => ⟨S1x2048x768, .f32⟩
  | .hbm, ⟨43, _⟩ => ⟨S1x2048x768, .f32⟩
  | .hbm, ⟨44, _⟩ => ⟨S1x2048x768, .f32⟩
  | .hbm, ⟨45, _⟩ => ⟨S_, .f32⟩
  | .hbm, ⟨46, _⟩ => ⟨S1x2048x768, .f32⟩
  | .hbm, ⟨47, _⟩ => ⟨S1x2048x768, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_4 : Ref sig .tc := ⟨.hbm, 30, rfl⟩
abbrev main_v19 : Ref sig .tc := ⟨.hbm, 31, rfl⟩
abbrev main_v20 : Ref sig .tc := ⟨.hbm, 32, rfl⟩
abbrev main_cst_5 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_6 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_7 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst_8 : Ref sig .tc := ⟨.hbm, 45, rfl⟩
abbrev main_v30 : Ref sig .tc := ⟨.hbm, 46, rfl⟩
abbrev main_v31 : Ref sig .tc := ⟨.hbm, 47, rfl⟩

abbrev nD : Nat := 1
abbrev τ : Topo := Topo.v7x

variable {F : FTy → Type} [FloatOps F]
-- ==== Proof.Arith.lean ====
/-
  Facts about the extended reals that the value proofs share: what the float literals of the programs are, and that a
  nonnegative real factor moves through a sum whatever the sum's terms are.
-/
module

public import Idealize.ShloMosaic.Lib.Pointwise
public import Idealize.ShloMosaic.Lib.Pipeline.ValueKit

@[expose] public section

noncomputable section

open Idealize.ShloMosaic

namespace Cert.Arith

theorem lit_zero : Ideal.ofBits .f32 0x00000000#32 = 0 := Ideal.ofBits_zero_f32
theorem lit_one : Ideal.ofBits .f32 0x3F800000#32 = 1 := by
  simp [Ideal.ofBits, Ideal.ieee]; norm_cast; norm_num
theorem lit_two : Ideal.ofBits .f32 0x40000000#32 = ((2 : ℝ) : EReal) := by
  simp [Ideal.ofBits, Ideal.ieee]; norm_cast; norm_num
theorem lit_half : Ideal.ofBits .f32 0x3F000000#32 = ((1 / 2 : ℝ) : EReal) := by
  simp [Ideal.ofBits, Ideal.ieee]; norm_cast; norm_num
theorem lit_2048 : Ideal.ofBits .f32 0x45000000#32 = ((2048 : ℝ) : EReal) := by
  simp [Ideal.ofBits, Ideal.ieee]; norm_cast; norm_num
theorem lit_inv2048 : Ideal.ofBits .f32 0x3A000000#32 = ((1 / 2048 : ℝ) : EReal) := by
  simp [Ideal.ofBits, Ideal.ieee]; norm_cast; norm_num
theorem lit_inv4096 : Ideal.ofBits .f32 0x39800000#32 = ((1 / 4096 : ℝ) : EReal) := by
  simp [Ideal.ofBits, Ideal.ieee]; norm_cast; norm_num

/-- A nonnegative real factor over a sum of any extended reals. -/
theorem coe_mul_sum {ι : Type*} (s : Finset ι) (f : ι → EReal) {r : ℝ} (hr : 0 ≤ r) :
    (r : EReal) * ∑ i ∈ s, f i = ∑ i ∈ s, (r : EReal) * f i := by
  classical
  induction s using Finset.induction_on with
  | empty => simp
  | insert a s ha ih =>
    rw [Finset.sum_insert ha, Finset.sum_insert ha,
      EReal.left_distrib_of_nonneg_of_ne_top (EReal.coe_nonneg.mpr hr) (EReal.coe_ne_top r), ih]

theorem sum_mul_coe {ι : Type*} (s : Finset ι) (f : ι → EReal) {r : ℝ} (hr : 0 ≤ r) :
    (∑ i ∈ s, f i) * (r : EReal) = ∑ i ∈ s, f i * (r : EReal) := by
  rw [mul_comm, coe_mul_sum s f hr]
  exact Finset.sum_congr rfl fun i _ => mul_comm _ _

end Cert.Arith

end
-- ==== Proof.Loss.lean ====
/-
  The loss head: what its kernel leaves over the reals is the derivative of the loss, and the loss.
-/
module

public import proofs.«01_k».proof.Defs
public import proofs.«01_k».proof.Proof.Arith
public import proofs.«01_k».proof.Proof.Gen.LossKernelIdeal.Frame
public import proofs.«01_k».proof.Proof.Gen.LossReferenceIdeal.Run
public import proofs.«01_k».proof.Proof.Gen.LossReferenceIdeal.Read
public import Idealize.ShloMosaic.Lib.Pointwise
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)
open Cert.Arith

namespace Cert.LossKernelIdeal.RefValue

open Cert.LossKernelIdeal Cert.LossKernelIdeal.Gen

variable (m : (ℓ : Loc nD τ sig) → Buf (Elt Ideal) ℓ)

/-- The two arguments of the loss head: the trunk's output and the target. -/
abbrev argY (c : Dev nD) : Vec Ideal S4096x2048 .f32 := m ((c.tc : Thread nD τ).loc main_arg0)
abbrev argT (c : Dev nD) : Vec Ideal S4096x2048 .f32 := m ((c.tc : Thread nD τ).loc main_arg1)

theorem idx : ∀ t : Fin cfg0.N, win0_0.index t = ![t.val, 0] ∧ win0_1.index t = ![t.val, 0]
    ∧ win0_2.index t = ![t.val, 0] ∧ win0_3.index t = ![t.val, 0] :=
  (by decide +kernel : ∀ t : Fin grid0.N, _)

/-- The squared error at one element. -/
def sq (y t : Vec Ideal S4096x2048 .f32) (r : Fin 4096) (d : Fin 2048) : EReal :=
  (y (ix2 r d) - t (ix2 r d)) * (y (ix2 r d) - t (ix2 r d))

theorem dy_eq (e : EReal) : e * Ideal.ofBits .f32 0x3A000000#32
    = Ideal.div (Ideal.ofBits .f32 0x3F000000#32 * Ideal.ofBits .f32 0x3F800000#32) (Ideal.ofBits .f32 0x45000000#32)
      * (Ideal.ofBits .f32 0x40000000#32 * e) := by
  rw [lit_inv2048, lit_half, lit_one, lit_2048, lit_two, mul_one, Ideal.div_coe (by norm_num), ← mul_assoc, mul_comm e]
  congr 1
  norm_cast
  norm_num

theorem ref_dy (y t : Vec Ideal S4096x2048 .f32) (i : S4096x2048.Idx) :
    Cert.LossReferenceIdeal.Read.val_main_v14 (F := Ideal) y t i = (y i - t i) * Ideal.ofBits .f32 0x3A000000#32 := by
  rw [dy_eq]
  rfl

theorem point2 (c : Dev nD) (t : Fin cfg0.N) (y : S256x2048.Idx) :
    k0_pay4 (F := Ideal) (iblk m c 0 t) (iblk m c 1 t) y
      = Cert.LossReferenceIdeal.Read.val_main_v14 (F := Ideal) (argY m c) (argT m c) (ix2 ⟨t.val * 256 + (y 0).val, by
          have := t.isLt; have h : cfg0.N = 16 := N_0; have : (y 0).val < 256 := (y 0).isLt; omega⟩ ⟨(y 1).val, (y 1).isLt⟩) := by
  rw [ref_dy]
  pointwise [k0_pay4, k0_pay3]
  congr 1
  congr 1 <;> blk_ext [iblk, V, idx t]

/-- The window onto the gradient ends as the reference's gradient. -/
theorem final2 (c : Dev nD) : (dats m 0 c).arrAt 2 cfg0.N
    = Cert.LossReferenceIdeal.Read.val_main_v14 (F := Ideal) (argY m c) (argT m c) := by
  refine (dats m 0 c).arrAt_eq_of_covers 2 _ (by decide +kernel) fun t hf y => ?_
  blk_simp
  rw [after0_2]
  trans k0_pay4 (F := Ideal) (iblk m c 0 t) (iblk m c 1 t) y
  · by_cases h : t.val % 16 = 0
    · rw [outsAt0_A m c t h]; frame_out
    · rw [outsAt0_B m c t h]; frame_out
  · rw [point2]
    congr 1
    funext a
    apply Fin.ext
    fin_cases a <;> simp [idx t]

/-- The window onto its rounded copy ends as the reference's. -/
theorem final3 (c : Dev nD) : (dats m 0 c).arrAt 3 cfg0.N
    = Cert.LossReferenceIdeal.Read.val_main_v15 (F := Ideal) (argY m c) (argT m c) := by
  refine (dats m 0 c).arrAt_eq_of_covers 3 _ (by decide +kernel) fun t hf y => ?_
  blk_simp
  rw [after0_3]
  trans k0_pay4 (F := Ideal) (iblk m c 0 t) (iblk m c 1 t) y
  · by_cases h : t.val % 16 = 0
    · rw [outsAt0_A m c t h]; frame_out; rfl
    · rw [outsAt0_B m c t h]; frame_out; rfl
  · rw [point2, Cert.LossReferenceIdeal.Read.val_main_v15_apply, FloatOps.truncf]
    congr 1
    funext a
    apply Fin.ext
    fin_cases a <;> simp [idx t]

/-- A block's squared errors, summed over its rows that are `j 0` modulo 8, in one slice of 128 columns. -/
def slice (y t : Vec Ideal S256x2048 .f32) (j : S8x128.Idx) (l : Fin 16) : EReal :=
  ∑ r : Fin 32, (y (ix2 ⟨r.val * 8 + (j 0).val, by have : (j 0).val < 8 := (j 0).isLt; omega⟩
      ⟨l.val * 128 + (j 1).val, by have : (j 1).val < 128 := (j 1).isLt; omega⟩)
    - t (ix2 ⟨r.val * 8 + (j 0).val, by have : (j 0).val < 8 := (j 0).isLt; omega⟩
      ⟨l.val * 128 + (j 1).val, by have : (j 1).val < 128 := (j 1).isLt; omega⟩))
    * (y (ix2 ⟨r.val * 8 + (j 0).val, by have : (j 0).val < 8 := (j 0).isLt; omega⟩
      ⟨l.val * 128 + (j 1).val, by have : (j 1).val < 128 := (j 1).isLt; omega⟩)
    - t (ix2 ⟨r.val * 8 + (j 0).val, by have : (j 0).val < 8 := (j 0).isLt; omega⟩
      ⟨l.val * 128 + (j 1).val, by have : (j 1).val < 128 := (j 1).isLt; omega⟩))

theorem pay6 (y t : Vec Ideal S256x2048 .f32) (j : S8x128.Idx) :
    k0_pay6 (F := Ideal) y t j = ∑ l : Fin 16, slice y t j l := by
  have e : ∑ l : Fin 16, slice y t j l = slice y t j 0 + slice y t j 1 + slice y t j 2 + slice y t j 3 + slice y t j 4
      + slice y t j 5 + slice y t j 6 + slice y t j 7 + slice y t j 8 + slice y t j 9 + slice y t j 10 + slice y t j 11
      + slice y t j 12 + slice y t j 13 + slice y t j 14 + slice y t j 15 := by
    simp only [Fin.sum_univ_castSucc, Finset.univ_eq_empty, Finset.sum_empty, zero_add]
    rfl
  rw [e]
  idx_vars j
  pointwise [k0_pay6, k0_pay3]
  simp [slice]

theorem pay2 (p : FVec Ideal S8x128 .f32) (acc : Vec Ideal S8x128 .f32) (j : S8x128.Idx) :
    k0_pay2 (F := Ideal) p acc j = acc j + p j * ((1 / 4096 : ℝ) : EReal) := by
  rw [← lit_inv4096]
  pointwise [k0_pay2]

theorem pay1 (j : S8x128.Idx) : k0_pay1 (F := Ideal) j = 0 := by
  pointwise [k0_pay1]

/-- The one block of lane sums, after the last grid point: a sum over the grid. -/
theorem final4 (c : Dev nD) (j : S8x128.Idx) : (dats m 0 c).arrAt 4 cfg0.N j
    = ∑ p : Fin cfg0.N, (∑ l : Fin 16, slice (iblk m c 0 p) (iblk m c 1 p) j l) * ((1 / 4096 : ℝ) : EReal) := by
  suffices h : (dats m 0 c).arrAt 4 cfg0.N = fun j => ∑ p : Fin cfg0.N,
      (∑ l : Fin 16, slice (iblk m c 0 p) (iblk m c 1 p) j l) * ((1 / 4096 : ℝ) : EReal) from congrFun h j
  refine (dats m 0 c).arrAt_eq_of_after_last 4 t0_15 (by decide +kernel) _ fun j => ?_
  rw [after0_4]
  refine (show _ = (outsAt0 m c t0_15.val t0_15.isLt).2.2 j from rfl).trans ?_
  rw [Pipeline.eq_sum_fin_of_reset_step_apply_last (fun n h => (outsAt0 m c n h).2.2) 16 (fun _ => 0)
    (fun p j => (∑ l : Fin 16, slice (iblk m c 0 p) (iblk m c 1 p) j l) * ((1 / 4096 : ℝ) : EReal))
    (fun t h j => by rw [outsAt0_A m c t h]; frame_out; rw [pay2, pay1, pay6])
    (fun t h j => by rw [outsAt0_B m c t h]; frame_out; rw [pay2, pay6])
    (le_of_eq N_0) t0_15 rfl j, zero_add]
  rfl

/-- One lane's sum of a grid point, by rows and columns of the arguments. -/
theorem slice_eq (c : Dev nD) (p : Fin cfg0.N) (j0 : Fin 8) (j1 : Fin 128) (l : Fin 16) :
    slice (iblk m c 0 p) (iblk m c 1 p) (ix2 j0 j1) l = ∑ r : Fin 32, sq (argY m c) (argT m c)
      ⟨p.val * 256 + (r.val * 8 + j0.val), by have := p.isLt; have h : cfg0.N = 16 := N_0; omega⟩
      ⟨l.val * 128 + j1.val, by omega⟩ := by
  unfold slice sq
  refine Finset.sum_congr rfl fun r _ => ?_
  congr 1 <;> congr 1 <;> blk_ext [iblk, V, idx p]

/-- All the squared errors, once through the grid's order and once by rows and columns. -/
theorem reorder (f : Fin 4096 → Fin 2048 → EReal) :
    ∑ j1 : Fin 128, ∑ j0 : Fin 8, ∑ p : Fin 16, ∑ l : Fin 16, ∑ r : Fin 32,
      f ⟨p.val * 256 + (r.val * 8 + j0.val), by omega⟩ ⟨l.val * 128 + j1.val, by omega⟩
    = ∑ a : Fin 4096, ∑ d : Fin 2048, f a d := by
  have h1 : ∀ a, ∑ d : Fin 2048, f a d = ∑ l : Fin 16, ∑ j1 : Fin 128, f a ⟨l.val * 128 + j1.val, by omega⟩ := fun a =>
    (Fin.sum_mul_add_fin 16 128 (f a)).symm
  have h2 : ∀ g : Fin 4096 → EReal, ∑ a, g a = ∑ p : Fin 16, ∑ r : Fin 32, ∑ j0 : Fin 8,
      g ⟨p.val * 256 + (r.val * 8 + j0.val), by omega⟩ := fun g => by
    rw [← Fin.sum_mul_add_fin 16 256 g]
    refine Finset.sum_congr rfl fun p _ => ?_
    rw [← Fin.sum_mul_add_fin 32 8]
  simp only [h1, h2]
  rw [Finset.sum_comm]
  conv_lhs => enter [2, j0]; rw [Finset.sum_comm]
  rw [Finset.sum_comm]
  refine Finset.sum_congr rfl fun p _ => ?_
  conv_rhs => rw [Finset.sum_comm]
  refine Finset.sum_congr rfl fun j0 _ => ?_
  conv_rhs => rw [Finset.sum_comm]
  conv_lhs => rw [Finset.sum_comm]
  refine Finset.sum_congr rfl fun l _ => ?_
  rw [Finset.sum_comm]

/-- The reference's loss. -/
theorem ref_loss (y t : Vec Ideal S4096x2048 .f32) (i : S1x1.Idx) :
    Cert.LossReferenceIdeal.Read.val_main_v16 (F := Ideal) y t i
      = (∑ a : Fin 4096, ∑ d : Fin 2048, sq y t a d) * ((1 / 4096 : ℝ) : EReal) := by
  have h8 : Cert.LossReferenceIdeal.Read.val_main_v16 (F := Ideal) y t i
      = Cert.LossReferenceIdeal.Read.val_main_v8 (F := Ideal) y t (fun a => a.elim0) := by
    unfold Cert.LossReferenceIdeal.Read.val_main_v16
    generalize Cert.LossReferenceIdeal.Read.val_main_v8 (F := Ideal) y t = z
    pointwise
    exact congrArg z (funext fun a => a.elim0)
  rw [h8, Cert.LossReferenceIdeal.Read.val_main_v8_apply, Cert.LossReferenceIdeal.Read.val_main_v7_apply]
  have hv : ∀ a : Fin 4096, Cert.LossReferenceIdeal.Read.val_main_v6 (F := Ideal) y t (ix1 a)
      = (∑ d : Fin 2048, sq y t a d) * ((1 / 2048 : ℝ) : EReal) := fun a => by
    rw [Cert.LossReferenceIdeal.Read.val_main_v6_apply, Cert.LossReferenceIdeal.Read.val_main_v4_apply]
    have e : ∀ k, Cert.LossReferenceIdeal.Read.idx_main_v4 (ix1 a) k = ix2 a k := fun k => by
      funext b; fin_cases b <;> rfl
    simp only [e]
    show Ideal.div (Ideal.ofBits .f32 0x00000000#32 + ∑ d : Fin 2048, sq y t a d) (Ideal.ofBits .f32 0x45000000#32) = _
    rw [lit_zero, zero_add, lit_2048, Ideal.div_coe (by norm_num)]
  rw [sum_idx1]
  simp only [hv]
  show Ideal.ofBits .f32 0x3F000000#32 * (Ideal.ofBits .f32 0x00000000#32 + _) = _
  rw [lit_zero, zero_add, lit_half, ← sum_mul_coe _ _ (by norm_num), mul_comm, mul_assoc]
  congr 1
  norm_cast
  norm_num

/-- The lines after the region sum the block of lane sums. -/
theorem lane_total (c : Dev nD) (A : Vec Ideal S8x128 .f32) (i : S1x1.Idx) :
    broadcastInDim S1x1 ![0] bcast_S1_S1x1_0 (Host.reduceAdd (broadcastInDim S1x128 ![1] bcast_S128_S1x128_1
      (Host.reduceAdd A (constant (F := Ideal) S_ .f32 0x00000000#32) reducesTo_S8x128_S128_d0 h_S_))
      (constant (F := Ideal) S_ .f32 0x00000000#32) reducesTo_S1x128_S1_d1 h_S_) i
    = ∑ j1 : Fin 128, ∑ j0 : Fin 8, A (ix2 j0 j1) := by
  idx_vars i
  pointwise

/-- What the lines after the region leave in the loss's buffer. -/
theorem tail_main_v4 (V : Valuation τ sig (Elt Ideal)) : StableHlo.after hostOps1 V (Proc.devRef .tc main_v4)
    = broadcastInDim S1x1 ![0] bcast_S1_S1x1_0 (Host.reduceAdd (broadcastInDim S1x128 ![1] bcast_S128_S1x128_1
        (Host.reduceAdd (V (Proc.devRef .tc main_v0_2)) (constant (F := Ideal) S_ .f32 0x00000000#32)
          reducesTo_S8x128_S128_d0 h_S_)) (constant (F := Ideal) S_ .f32 0x00000000#32) reducesTo_S1x128_S1_d1 h_S_) := by
  after_results <;> rfl

theorem V4 (c : Dev nD) : Pipeline.withArrays (cfgs (0 : Fin 1)).spec c (V0 m c)
    (fun w => (dats m 0 c).arrAt w (cfgs (0 : Fin 1)).N) (Proc.devRef .tc main_v0_2) = (dats m 0 c).arrAt 4 cfg0.N :=
  Pipeline.withArrays_arr (cfgs (0 : Fin 1)).spec (by decide) c _ _ 4

/-- Lane sums that are the sums over the grid add up to the reference's loss. -/
theorem total_eq (c : Dev nD) (A : Vec Ideal S8x128 .f32) (hA : ∀ j, A j
      = ∑ p : Fin cfg0.N, (∑ l : Fin 16, slice (iblk m c 0 p) (iblk m c 1 p) j l) * ((1 / 4096 : ℝ) : EReal)) :
    broadcastInDim S1x1 ![0] bcast_S1_S1x1_0 (Host.reduceAdd (broadcastInDim S1x128 ![1] bcast_S128_S1x128_1
      (Host.reduceAdd A (constant (F := Ideal) S_ .f32 0x00000000#32) reducesTo_S8x128_S128_d0 h_S_))
      (constant (F := Ideal) S_ .f32 0x00000000#32) reducesTo_S1x128_S1_d1 h_S_)
    = Cert.LossReferenceIdeal.Read.val_main_v16 (F := Ideal) (argY m c) (argT m c) := by
  funext i
  rw [lane_total c, ref_loss, ← reorder, sum_mul_coe _ _ (by norm_num)]
  refine Finset.sum_congr rfl fun j1 _ => ?_
  rw [sum_mul_coe _ _ (by norm_num)]
  refine Finset.sum_congr rfl fun j0 _ => ?_
  rw [hA, sum_mul_coe _ _ (by norm_num)]
  refine Finset.sum_congr rfl fun p _ => ?_
  exact congrArg (· * ((1 / 4096 : ℝ) : EReal)) (Finset.sum_congr rfl fun l _ => slice_eq m c p j0 j1 l)

/-- The loss that the kernel's program returns is the reference's. -/
theorem final_loss (c : Dev nD) : Pipeline.afterTail₀ cfgs (dats m) 0 (V0 m) [hostOps1] c main_v4
    = Cert.LossReferenceIdeal.Read.val_main_v16 (F := Ideal) (argY m c) (argT m c) := by
  unfold Pipeline.afterTail₀
  rw [List.flatten_singleton, tail_main_v4, V4]
  exact total_eq m c _ fun j => final4 m c j

variable (ρ : Dev nD → PrngReg)

/-- The kernel's run, read: its three results are the reference's terms of the arguments, which end unchanged. -/
theorem run : θ_run (defs (F := Ideal)) (onTc (τ := τ) (main (F := Ideal))) ⟨m, fun _ => 0, ρ⟩ fun r => ∀ c : Dev nD,
    r.2.mem ((c.tc : Thread nD τ).loc main_v0_0) = Cert.LossReferenceIdeal.Read.val_main_v14 (F := Ideal) (argY m c) (argT m c)
    ∧ r.2.mem ((c.tc : Thread nD τ).loc main_v0_1) = Cert.LossReferenceIdeal.Read.val_main_v15 (F := Ideal) (argY m c) (argT m c)
    ∧ r.2.mem ((c.tc : Thread nD τ).loc main_v4) = Cert.LossReferenceIdeal.Read.val_main_v16 (F := Ideal) (argY m c) (argT m c)
    ∧ r.2.mem ((c.tc : Thread nD τ).loc main_arg0) = m ((c.tc : Thread nD τ).loc main_arg0)
    ∧ r.2.mem ((c.tc : Thread nD τ).loc main_arg1) = m ((c.tc : Thread nD τ).loc main_arg1) := by
  refine (θ_run (defs (F := Ideal)) _ _).mono (fun _ h c => ?_) (θ_run_and (run_main m ρ) (unchanged m ρ))
  exact ⟨((h.1 c).1 2).trans (final2 m c), ((h.1 c).1 3).trans (final3 m c),
    ((h.1 c).2 main_v4 (by decide)).trans (final_loss m c), h.2 c⟩

end Cert.LossKernelIdeal.RefValue

namespace Cert.LossReferenceIdeal.Named

open Cert.LossReferenceIdeal Cert.LossReferenceIdeal.Gen Cert.LossReferenceIdeal.Read

/-- The reference's run, its results by the names of their terms. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
    r.2.mem ((c.tc : Thread nD τ).loc main_v14)
      = val_main_v14 (F := Ideal) (m ((c.tc : Thread nD τ).loc main_arg0)) (m ((c.tc : Thread nD τ).loc main_arg1))
    ∧ r.2.mem ((c.tc : Thread nD τ).loc main_v15)
      = val_main_v15 (F := Ideal) (m ((c.tc : Thread nD τ).loc main_arg0)) (m ((c.tc : Thread nD τ).loc main_arg1))
    ∧ r.2.mem ((c.tc : Thread nD τ).loc main_v16)
      = val_main_v16 (F := Ideal) (m ((c.tc : Thread nD τ).loc main_arg0)) (m ((c.tc : Thread nD τ).loc main_arg1))
    ∧ r.2.mem ((c.tc : Thread nD τ).loc main_arg0) = m ((c.tc : Thread nD τ).loc main_arg0)
    ∧ r.2.mem ((c.tc : Thread nD τ).loc main_arg1) = m ((c.tc : Thread nD τ).loc main_arg1) :=
  (θ_run (defs (F := Ideal)) _ _).mono (fun _ h c => ⟨(h c).1.trans (val_main_v14_eq _ _),
    (h c).2.1.trans (val_main_v15_eq _ _), (h c).2.2.1.trans (val_main_v16_eq _ _), (h c).2.2.2⟩)
    (Cert.LossReferenceIdeal.Value.run m ρ)

end Cert.LossReferenceIdeal.Named

namespace Cert.Proof.Loss

/-- The kernel's gradient, its rounded copy and its loss are the reference's, over the reals. -/
theorem algebraic : Cert.algebraic_LossKernelIdeal_LossReferenceIdeal := by
  pair_intro
  · run_from Cert.LossKernelIdeal.RefValue.run m g
  · refine θ_run_mono (Cert.LossReferenceIdeal.Named.run m' g') fun r h c => ?_
    obtain ⟨e0, e1⟩ := hagree c
    obtain ⟨h0, h1, h2, h3, h4⟩ := h c
    exact ⟨h0.trans (congrArg₂ _ e0 e1), h1.trans (congrArg₂ _ e0 e1), h2.trans (congrArg₂ _ e0 e1), h3, h4⟩

end Cert.Proof.Loss

end
-- ==== Proof.Norm.lean ====
module

public import proofs.«01_k».proof.Defs
public import proofs.«01_k».proof.Proof.Arith
public import proofs.«01_k».proof.Proof.Gen.NormKernelIdeal.Value
public import proofs.«01_k».proof.Proof.Gen.NormReferenceIdeal.Run
public import proofs.«01_k».proof.Proof.Gen.NormReferenceIdeal.Read
public import Idealize.ShloMosaic.Lib.Pointwise
public import Idealize.ShloMosaic.Lib.Pipeline.ValueKit
public import Idealize.ShloMosaic.Lib.Claim

/-! The gradient of the RMS norm: the kernel's one pass over blocks of 256 rows against the derivative of the
reference's lines. No finiteness is asked: a row's mean square is a nonnegative real or `⊤`, and the identity holds
in both cases. -/

@[expose] public section

set_option maxRecDepth 16384

noncomputable section

open Idealize.ShloMosaic Idealize.ShloMosaic.TcCoe Idealize.SL.Sem
open Idealize.ShloMosaic.Pipeline (Dat)
open Cert.Arith

namespace Cert.NormArith

theorem lit_negHalf : Ideal.ofBits .f32 0xBF000000#32 = ((-(1 / 2) : ℝ) : EReal) := by
  simp [Ideal.ofBits, Ideal.ieee]; norm_cast; norm_num

theorem lit_eps : ∃ e : ℝ, 0 < e ∧ Ideal.ofBits .f32 0x358637BD#32 = (e : EReal) :=
  ⟨8796093 / 2 ^ 43, by norm_num, by simp [Ideal.ofBits, Ideal.ieee]; norm_cast⟩

/-- A sum of squares is a nonnegative real or `⊤`. -/
theorem sum_sq {ι : Type*} (s : Finset ι) (x : ι → EReal) :
    (∑ i ∈ s, x i * x i) = ⊤ ∨ ∃ r : ℝ, 0 ≤ r ∧ (∑ i ∈ s, x i * x i) = (r : EReal) := by
  have h : 0 ≤ ∑ i ∈ s, x i * x i := Finset.sum_nonneg fun i _ => by
    induction x i with
    | bot => simp
    | top => simp
    | coe a => rw [← EReal.coe_mul]; exact EReal.coe_nonneg.mpr (mul_self_nonneg a)
  induction hS : ∑ i ∈ s, x i * x i with
  | bot => rw [hS] at h; simp at h
  | top => exact Or.inl rfl
  | coe r => rw [hS] at h; exact Or.inr ⟨r, EReal.coe_nonneg.mp h, rfl⟩

/-- The gradient of the norm at one element of a row, as the kernel computes it and as the chain rule gives it. -/
theorem row {n : ℕ} (x dy : Fin n → EReal) (dres : EReal) (d : Fin n) (V R : EReal)
    (hV : V = Ideal.div (∑ k, x k * x k) (Ideal.ofBits .f32 0x45000000#32) + Ideal.ofBits .f32 0x358637BD#32)
    (hR : R = Ideal.rsqrt V) :
    dres + R * (dy d - x d * R * Ideal.div (∑ k, dy k * (x k * R)) (Ideal.ofBits .f32 0x45000000#32))
    = dres + dy d * R
      + x d * Ideal.div ((∑ k, x k * dy k) * (Ideal.ofBits .f32 0xBF000000#32 * Ideal.div R V)) (Ideal.ofBits .f32 0x45000000#32)
      + Ideal.div ((∑ k, x k * dy k) * (Ideal.ofBits .f32 0xBF000000#32 * Ideal.div R V)) (Ideal.ofBits .f32 0x45000000#32) * x d := by
  obtain ⟨e, he, hE⟩ := lit_eps
  rw [lit_2048, lit_negHalf]
  rw [lit_2048, hE, Ideal.div_coe (by norm_num)] at hV
  simp only [Ideal.div_coe (show (2048 : ℝ) ≠ 0 by norm_num)]
  rcases sum_sq Finset.univ x with h | ⟨s, hs, h⟩
  · rw [h, EReal.top_mul_coe_of_pos (by norm_num), EReal.top_add_coe] at hV
    subst hV
    rw [Ideal.rsqrt_top] at hR
    subst hR
    have : Ideal.div 0 ⊤ = 0 := by simp [Ideal.div]
    simp [this]
  · rw [h] at hV
    have hV' : V = ((s * (1 / 2048) + e : ℝ) : EReal) := by rw [hV]; norm_cast
    generalize hv : s * (1 / 2048) + e = v at hV'
    have hv0 : 0 < v := by rw [← hv]; positivity
    subst hV'
    rw [Ideal.rsqrt_coe, if_neg (not_lt.mpr hv0.le), if_neg hv0.ne'] at hR
    generalize hr : (Real.sqrt v)⁻¹ = r at hR
    have hr0 : 0 ≤ r := by rw [← hr]; positivity
    have hrr : r * r = 1 / v := by
      rw [← hr, ← mul_inv, Real.mul_self_sqrt hv0.le, one_div]
    subst hR
    rw [Ideal.div_coe hv0.ne']
    have hT : (∑ k, dy k * (x k * (r : EReal))) = (∑ k, x k * dy k) * (r : EReal) := by
      rw [sum_mul_coe _ _ hr0]
      exact Finset.sum_congr rfl fun k _ => by rw [← mul_assoc, mul_comm (dy k)]
    rw [hT]
    generalize (∑ k, x k * dy k) = T
    rw [sub_eq_add_neg, EReal.left_distrib_of_nonneg_of_ne_top (EReal.coe_nonneg.mpr hr0) (EReal.coe_ne_top r)]
    have e1 : (((-(1 / 2) : ℝ) : EReal) * ((r : EReal) * ((1 / v : ℝ) : EReal))) = ((-(1 / 2) * (r * r * r) : ℝ) : EReal) := by
      rw [← hrr]; norm_cast; ring_nf
    have e2 : (r : EReal) * -(x d * r * (T * r * ((1 / 2048 : ℝ) : EReal)))
        = (x d * T) * ((-(r * r * r / 2048) : ℝ) : EReal) := by
      rw [mul_neg]
      have : (r : EReal) * (x d * r * (T * r * ((1 / 2048 : ℝ) : EReal))) = (x d * T) * ((r : EReal) * r * r * ((1 / 2048 : ℝ) : EReal)) := by ac_rfl
      rw [this, ← mul_neg]
      congr 1
      norm_cast
      ring
    have e3 : x d * (T * ((-(1 / 2) * (r * r * r) : ℝ) : EReal) * ((1 / 2048 : ℝ) : EReal))
        = (x d * T) * ((-(r * r * r / 2048) : ℝ) : EReal) * ((1 / 2 : ℝ) : EReal) := by
      rw [mul_assoc T, ← mul_assoc (x d), mul_assoc (x d * T)]
      congr 1
      norm_cast
      ring
    rw [e1, e2, mul_comm _ (x d), e3, add_assoc (dres + _), ← EReal.left_distrib_of_nonneg (EReal.coe_nonneg.mpr (by norm_num)) (EReal.coe_nonneg.mpr (by norm_num)),
      add_assoc, mul_comm (r : EReal)]
    congr 2
    rw [show ((1 / 2 : ℝ) : EReal) + ((1 / 2 : ℝ) : EReal) = 1 by norm_cast; norm_num, mul_one]

end Cert.NormArith

namespace Cert.NormReferenceIdeal.Named

open Cert.NormReferenceIdeal Cert.NormReferenceIdeal.Gen Cert.NormReferenceIdeal.Read

/-- The reference's gradient at one element. -/
theorem ref_dx (x : Vec Ideal S4096x2048 .f32) (g : Vec Ideal S1x2048 .f32) (dh dres : Vec Ideal S4096x2048 .f32)
    (i : Fin 4096) (d : Fin 2048) (V R : EReal)
    (hV : V = Ideal.div (∑ k, x (ix2 i k) * x (ix2 i k)) (Ideal.ofBits .f32 0x45000000#32) + Ideal.ofBits .f32 0x358637BD#32)
    (hR : R = Ideal.rsqrt V) :
    val_main_v34 (F := Ideal) x g dh dres (ix2 i d)
    = dres (ix2 i d) + R * (dh (ix2 i d) * g (ix2 0 d) - x (ix2 i d) * R
      * Ideal.div (∑ k, dh (ix2 i k) * g (ix2 0 k) * (x (ix2 i k) * R)) (Ideal.ofBits .f32 0x45000000#32)) := by
  rw [Cert.NormArith.row (fun k => x (ix2 i k)) (fun k => dh (ix2 i k) * g (ix2 0 k)) (dres (ix2 i d)) d V R hV hR]
  subst hR
  subst hV
  pointwise [val_main_v0, val_main_cst, val_main_v1, val_main_v2, val_main_cst_0, val_main_v3, val_main_v4, val_main_cst_1, val_main_v5, val_main_v6, val_main_v7, val_main_v8, val_main_cst_2,
    val_main_v9, val_main_v10, val_main_v11, val_main_v12, val_main_v13, val_main_v14, val_main_v15, val_main_cst_3, val_main_v16, val_main_v17, val_main_v18, val_main_v19, val_main_v20,
    val_main_cst_4, val_main_v21, val_main_v22, val_main_v23, val_main_v24, val_main_v25, val_main_v26, val_main_cst_5, val_main_v27, val_main_v28, val_main_cst_6, val_main_v29, val_main_v30,
    val_main_v31, val_main_v32, val_main_v33, val_main_v34]
  simp only [Finset.univ_unique, Finset.sum_singleton]

theorem ref_dg (x : Vec Ideal S4096x2048 .f32) (dh : Vec Ideal S4096x2048 .f32) (d : Fin 2048) :
    val_main_v17 (F := Ideal) x dh (ix2 0 d)
    = ∑ i, x (ix2 i d) * Ideal.rsqrt (Ideal.div (∑ k, x (ix2 i k) * x (ix2 i k)) (Ideal.ofBits .f32 0x45000000#32)
        + Ideal.ofBits .f32 0x358637BD#32) * dh (ix2 i d) := by
  pointwise [val_main_v0, val_main_cst, val_main_v1, val_main_v2, val_main_cst_0, val_main_v3, val_main_v4, val_main_cst_1, val_main_v5, val_main_v6, val_main_v7, val_main_v8, val_main_cst_2,
    val_main_v9, val_main_v10, val_main_v11, val_main_v12, val_main_v13, val_main_v14, val_main_v15, val_main_cst_3, val_main_v16, val_main_v17]

/-- The reference's run, its results by the names of their terms. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
    r.2.mem ((c.tc : Thread nD τ).loc main_v34) = val_main_v34 (F := Ideal) (m ((c.tc : Thread nD τ).loc main_arg0))
        (m ((c.tc : Thread nD τ).loc main_arg1)) (m ((c.tc : Thread nD τ).loc main_arg2)) (m ((c.tc : Thread nD τ).loc main_arg3))
    ∧ r.2.mem ((c.tc : Thread nD τ).loc main_v35) = val_main_v35 (F := Ideal) (m ((c.tc : Thread nD τ).loc main_arg0))
        (m ((c.tc : Thread nD τ).loc main_arg1)) (m ((c.tc : Thread nD τ).loc main_arg2)) (m ((c.tc : Thread nD τ).loc main_arg3))
    ∧ r.2.mem ((c.tc : Thread nD τ).loc main_v17)
      = val_main_v17 (F := Ideal) (m ((c.tc : Thread nD τ).loc main_arg0)) (m ((c.tc : Thread nD τ).loc main_arg2))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3) :=
  (θ_run (defs (F := Ideal)) _ _).mono (fun _ h c => ⟨(h c).1.trans (val_main_v34_eq _ _ _ _),
    (h c).2.1.trans (val_main_v35_eq _ _ _ _), (h c).2.2.1.trans (val_main_v17_eq _ _), (h c).2.2.2⟩)
    (Cert.NormReferenceIdeal.Value.run m ρ)

end Cert.NormReferenceIdeal.Named

namespace Cert.NormKernelIdeal.RefValue

open Cert.NormKernelIdeal Cert.NormKernelIdeal.Gen

variable (m : (ℓ : Loc nD τ sig) → Buf (Elt Ideal) ℓ)

/-- The four arguments: the norm's input, its gain, the cotangent of its output, the residual's cotangent. -/
abbrev argX (c : Dev nD) : Vec Ideal S4096x2048 .f32 := m ((c.tc : Thread nD τ).loc main_arg0)
abbrev argG (c : Dev nD) : Vec Ideal S1x2048 .f32 := m ((c.tc : Thread nD τ).loc main_arg1)
abbrev argDh (c : Dev nD) : Vec Ideal S4096x2048 .f32 := m ((c.tc : Thread nD τ).loc main_arg2)
abbrev argDres (c : Dev nD) : Vec Ideal S4096x2048 .f32 := m ((c.tc : Thread nD τ).loc main_arg3)

theorem idx : ∀ t : Fin cfg0.N, win0_0.index t = ![t.val, 0] ∧ win0_1.index t = ![t.val, 0]
    ∧ win0_2.index t = ![0, 0] ∧ win0_3.index t = ![t.val, 0] ∧ win0_4.index t = ![t.val, 0]
    ∧ win0_5.index t = ![t.val, 0] :=
  (by decide +kernel : ∀ t : Fin grid0.N, _)

/-- Row `i` of the block at grid point `t`. -/
abbrev rowAt (t : Fin cfg0.N) (i : Fin 256) : Fin 4096 :=
  ⟨t.val * 256 + i.val, by have := t.isLt; have h : cfg0.N = 16 := N_0; omega⟩

theorem blk0 (c : Dev nD) (t : Fin cfg0.N) (i : Fin 256) (d : Fin 2048) :
    (iblk m c 0 t : Vec Ideal S256x2048 .f32) (ix2 i d) = argDh m c (ix2 (rowAt t i) d) := by
  blk_ext [iblk, V, idx t]
theorem blk1 (c : Dev nD) (t : Fin cfg0.N) (i : Fin 256) (d : Fin 2048) :
    (iblk m c 1 t : Vec Ideal S256x2048 .f32) (ix2 i d) = argX m c (ix2 (rowAt t i) d) := by
  blk_ext [iblk, V, idx t]
theorem blk2 (c : Dev nD) (t : Fin cfg0.N) (d : Fin 2048) :
    (iblk m c 2 t : Vec Ideal S1x2048 .f32) (ix2 0 d) = argG m c (ix2 0 d) := by
  blk_ext [iblk, V, idx t]
theorem blk3 (c : Dev nD) (t : Fin cfg0.N) (i : Fin 256) (d : Fin 2048) :
    (iblk m c 3 t : Vec Ideal S256x2048 .f32) (ix2 i d) = argDres m c (ix2 (rowAt t i) d) := by
  blk_ext [iblk, V, idx t]

theorem point4 (c : Dev nD) (t : Fin cfg0.N) (y : S256x2048.Idx) :
    k0_pay4 (F := Ideal) (iblk m c 1 t) (iblk m c 0 t) (iblk m c 2 t) (iblk m c 3 t) y
      = Cert.NormReferenceIdeal.Read.val_main_v34 (F := Ideal) (argX m c) (argG m c) (argDh m c) (argDres m c)
        (ix2 (rowAt t (y 0)) (y 1)) := by
  idx_vars y
  rw [Cert.NormReferenceIdeal.Named.ref_dx _ _ _ _ _ _ _ _ rfl rfl]
  generalize h0 : (iblk m c 0 t : Vec Ideal S256x2048 .f32) = b0
  generalize h1 : (iblk m c 1 t : Vec Ideal S256x2048 .f32) = b1
  generalize h2 : (iblk m c 2 t : Vec Ideal S1x2048 .f32) = b2
  generalize h3 : (iblk m c 3 t : Vec Ideal S256x2048 .f32) = b3
  pointwise [k0_pay4, k0_pay3, k0_pay2]
  subst h0 h1 h2 h3
  simp only [blk0, blk1, blk2, blk3]

/-- The window onto the gradient ends as the reference's gradient. -/
theorem final4 (c : Dev nD) : (dats m 0 c).arrAt 4 cfg0.N
    = Cert.NormReferenceIdeal.Read.val_main_v34 (F := Ideal) (argX m c) (argG m c) (argDh m c) (argDres m c) := by
  refine (dats m 0 c).arrAt_eq_of_covers 4 _ (by decide +kernel) fun t hf y => ?_
  blk_simp
  rw [after0_4]
  trans k0_pay4 (F := Ideal) (iblk m c 1 t) (iblk m c 0 t) (iblk m c 2 t) (iblk m c 3 t) y
  · by_cases h : t.val % 16 = 0
    · rw [outsAt0_A m c t h]; frame_out
    · rw [outsAt0_B m c t h]; frame_out
  · rw [point4]
    congr 1
    funext a
    apply Fin.ext
    fin_cases a <;> simp [idx t]

/-- The window onto its rounded copy ends as the reference's. -/
theorem final5 (c : Dev nD) : (dats m 0 c).arrAt 5 cfg0.N
    = Cert.NormReferenceIdeal.Read.val_main_v35 (F := Ideal) (argX m c) (argG m c) (argDh m c) (argDres m c) := by
  refine (dats m 0 c).arrAt_eq_of_covers 5 _ (by decide +kernel) fun t hf y => ?_
  blk_simp
  rw [after0_5]
  trans k0_pay4 (F := Ideal) (iblk m c 1 t) (iblk m c 0 t) (iblk m c 2 t) (iblk m c 3 t) y
  · by_cases h : t.val % 16 = 0
    · rw [outsAt0_A m c t h]; frame_out; rfl
    · rw [outsAt0_B m c t h]; frame_out; rfl
  · rw [point4, Cert.NormReferenceIdeal.Read.val_main_v35_apply, FloatOps.truncf]
    congr 1
    funext a
    apply Fin.ext
    fin_cases a <;> simp [idx t]

/-- One block's part of the gain's gradient. -/
def part (x dh : Vec Ideal S256x2048 .f32) (j : S1x2048.Idx) : EReal :=
  ∑ i, dh (ix2 i (j 1)) * k0_pay3 (F := Ideal) x (ix2 i (j 1))

theorem pay1 (x dh : Vec Ideal S256x2048 .f32) (acc : Vec Ideal S1x2048 .f32) (j : S1x2048.Idx) :
    k0_pay1 (F := Ideal) (k0_pay3 x) dh (k0_pay7 acc) j = acc j + part x dh j := by
  idx_vars j
  unfold part
  generalize k0_pay3 (F := Ideal) x = xh
  pointwise [k0_pay1, k0_pay7]

theorem pay6 (j : S1x2048.Idx) : k0_pay6 (F := Ideal) j = 0 := by
  pointwise [k0_pay6]

theorem part_eq (c : Dev nD) (p : Fin cfg0.N) (d : Fin 2048) :
    part (iblk m c 1 p) (iblk m c 0 p) (ix2 0 d)
      = ∑ i, argX m c (ix2 (rowAt p i) d) * Ideal.rsqrt (Ideal.div (∑ k, argX m c (ix2 (rowAt p i) k) * argX m c (ix2 (rowAt p i) k))
          (Ideal.ofBits .f32 0x45000000#32) + Ideal.ofBits .f32 0x358637BD#32) * argDh m c (ix2 (rowAt p i) d) := by
  unfold part
  refine Finset.sum_congr rfl fun i _ => ?_
  rw [mul_comm]
  refine congrArg₂ _ ?_ (blk0 m c p i d)
  show k0_pay3 (F := Ideal) (iblk m c 1 p) (ix2 i d) = _
  generalize h1 : (iblk m c 1 p : Vec Ideal S256x2048 .f32) = b1
  pointwise [k0_pay3, k0_pay2]
  subst h1
  simp only [blk1]

/-- The gain's gradient, summed over the grid, is the reference's. -/
theorem final6 (c : Dev nD) : (dats m 0 c).arrAt 6 cfg0.N
    = Cert.NormReferenceIdeal.Read.val_main_v17 (F := Ideal) (argX m c) (argDh m c) := by
  refine (dats m 0 c).arrAt_eq_of_after_last 6 t0_15 (by decide +kernel) _ fun j => ?_
  rw [after0_6]
  refine (show _ = (outsAt0 m c t0_15.val t0_15.isLt).2.2 j from rfl).trans ?_
  rw [Pipeline.eq_sum_fin_of_reset_step_apply_last (fun n h => (outsAt0 m c n h).2.2) 16 (fun _ => 0)
    (fun p j => part (iblk m c 1 p) (iblk m c 0 p) j)
    (fun t h j => by rw [outsAt0_A m c t h]; frame_out; rw [pay1, pay6])
    (fun t h j => by rw [outsAt0_B m c t h]; frame_out; rw [pay1])
    (le_of_eq N_0) t0_15 rfl j, zero_add]
  refine (show _ = ∑ p : Fin 16, part (iblk m c 1 (Fin.cast N_0.symm p)) (iblk m c 0 (Fin.cast N_0.symm p)) j from rfl).trans ?_
  show _ = Cert.NormReferenceIdeal.Read.val_main_v17 (F := Ideal) (argX m c) (argDh m c) j
  idx_vars j
  obtain rfl : j0 = 0 := Subsingleton.elim _ _
  rw [Cert.NormReferenceIdeal.Named.ref_dg]
  simp only [part_eq]
  exact Fin.sum_mul_add_fin 16 256 fun i : Fin 4096 => argX m c (ix2 i _) * Ideal.rsqrt (Ideal.div (∑ k, argX m c (ix2 i k) * argX m c (ix2 i k))
          (Ideal.ofBits .f32 0x45000000#32) + Ideal.ofBits .f32 0x358637BD#32) * argDh m c (ix2 i _)

variable (ρ : Dev nD → PrngReg)

/-- The kernel's run, read: its three results are the reference's terms of the arguments, which end unchanged. -/
theorem run : θ_run (defs (F := Ideal)) (onTc (τ := τ) (main (F := Ideal))) ⟨m, fun _ => 0, ρ⟩ fun r => ∀ c : Dev nD,
    r.2.mem ((c.tc : Thread nD τ).loc main_v0_0)
      = Cert.NormReferenceIdeal.Read.val_main_v34 (F := Ideal) (argX m c) (argG m c) (argDh m c) (argDres m c)
    ∧ r.2.mem ((c.tc : Thread nD τ).loc main_v0_1)
      = Cert.NormReferenceIdeal.Read.val_main_v35 (F := Ideal) (argX m c) (argG m c) (argDh m c) (argDres m c)
    ∧ r.2.mem ((c.tc : Thread nD τ).loc main_v0_2) = Cert.NormReferenceIdeal.Read.val_main_v17 (F := Ideal) (argX m c) (argDh m c)
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3) := by
  refine θ_run_mono (Cert.NormKernelIdeal.Value.run_blocks m ρ) fun r h c => ?_
  obtain ⟨h4, h5, h6, h⟩ := h c
  exact ⟨h4.trans (final4 m c), h5.trans (final5 m c), h6.trans (final6 m c), h⟩

end Cert.NormKernelIdeal.RefValue

namespace Cert.Proof.Norm

/-- The norm's gradient, its rounded copy and the gain's gradient are the reference's, over the reals. -/
theorem algebraic : Cert.algebraic_NormKernelIdeal_NormReferenceIdeal := by
  pair_intro
  · run_from Cert.NormKernelIdeal.RefValue.run m g
  · refine θ_run_mono (Cert.NormReferenceIdeal.Named.run m' g') fun r h c => ?_
    obtain ⟨e0, e1, e2, e3⟩ := hagree c
    obtain ⟨h0, h1, h2, h⟩ := h c
    exact ⟨h0.trans (by rw [e0, e1, e2, e3]), h1.trans (by rw [e0, e1, e2, e3]), h2.trans (congrArg₂ _ e0 e2), h⟩

end Cert.Proof.Norm

end
-- ==== Proof.Rms.lean ====
module

public import proofs.«01_k».proof.Defs
public import proofs.«01_k».proof.Proof.Arith
public import proofs.«01_k».proof.Proof.Gen.RmsKernelIdeal.Value
public import proofs.«01_k».proof.Proof.Gen.RmsReferenceIdeal.Run
public import proofs.«01_k».proof.Proof.Gen.RmsReferenceIdeal.Read
public import Idealize.ShloMosaic.Lib.Pointwise
public import Idealize.ShloMosaic.Lib.Pipeline.ValueKit
public import Idealize.ShloMosaic.Lib.Claim

/-! The RMS norm with a gain, forward: the kernel's one pass over blocks of 512 rows against the reference's lines. -/

@[expose] public section

set_option maxRecDepth 16384

noncomputable section

open Idealize.ShloMosaic Idealize.ShloMosaic.TcCoe Idealize.SL.Sem
open Idealize.ShloMosaic.Pipeline (Dat)
open Cert.Arith

namespace Cert.RmsReferenceIdeal.Named

open Cert.RmsReferenceIdeal Cert.RmsReferenceIdeal.Gen Cert.RmsReferenceIdeal.Read

/-- The reference's output at one element. -/
theorem ref_h (x : Vec Ideal S4096x2048 .f32) (g : Vec Ideal S1x2048 .f32) (i : Fin 4096) (d : Fin 2048) :
    val_main_v12 (F := Ideal) x g (ix2 i d)
    = x (ix2 i d) * Ideal.rsqrt (Ideal.div (∑ k, x (ix2 i k) * x (ix2 i k)) (Ideal.ofBits .f32 0x45000000#32)
        + Ideal.ofBits .f32 0x358637BD#32) * g (ix2 0 d) := by
  pointwise [val_main_v0, val_main_cst, val_main_v1, val_main_v2, val_main_cst_0, val_main_v3, val_main_v4, val_main_cst_1, val_main_v5, val_main_v6, val_main_v7, val_main_v8, val_main_v9, val_main_v10, val_main_v11, val_main_v12]

/-- The reference's run, its result by the name of its term. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
    r.2.mem ((c.tc : Thread nD τ).loc main_v12) = val_main_v12 (F := Ideal) (m ((c.tc : Thread nD τ).loc main_arg0))
        (m ((c.tc : Thread nD τ).loc main_arg1))
    ∧ r.2.mem ((c.tc : Thread nD τ).loc main_arg0) = m ((c.tc : Thread nD τ).loc main_arg0)
    ∧ r.2.mem ((c.tc : Thread nD τ).loc main_arg1) = m ((c.tc : Thread nD τ).loc main_arg1) :=
  (θ_run (defs (F := Ideal)) _ _).mono (fun _ h c => ⟨(h c).1.trans (val_main_v12_eq _ _), (h c).2⟩)
    (Cert.RmsReferenceIdeal.Value.run m ρ)

end Cert.RmsReferenceIdeal.Named

namespace Cert.RmsKernelIdeal.RefValue

open Cert.RmsKernelIdeal Cert.RmsKernelIdeal.Gen

variable (m : (ℓ : Loc nD τ sig) → Buf (Elt Ideal) ℓ)

abbrev argX (c : Dev nD) : Vec Ideal S4096x2048 .f32 := m ((c.tc : Thread nD τ).loc main_arg0)
abbrev argG (c : Dev nD) : Vec Ideal S1x2048 .f32 := m ((c.tc : Thread nD τ).loc main_arg1)

theorem idx : ∀ t : Fin cfg0.N, win0_0.index t = ![t.val, 0] ∧ win0_1.index t = ![0, 0] ∧ win0_2.index t = ![t.val, 0] :=
  (by decide +kernel : ∀ t : Fin grid0.N, _)

/-- Row `i` of the block at grid point `t`. -/
abbrev rowAt (t : Fin cfg0.N) (i : Fin 512) : Fin 4096 :=
  ⟨t.val * 512 + i.val, by have := t.isLt; have h : cfg0.N = 8 := N_0; omega⟩

theorem blk0 (c : Dev nD) (t : Fin cfg0.N) (i : Fin 512) (d : Fin 2048) :
    (iblk m c 0 t : Vec Ideal S512x2048 .f32) (ix2 i d) = argX m c (ix2 (rowAt t i) d) := by
  blk_ext [iblk, V, idx t]
theorem blk1 (c : Dev nD) (t : Fin cfg0.N) (d : Fin 2048) :
    (iblk m c 1 t : Vec Ideal S1x2048 .f32) (ix2 0 d) = argG m c (ix2 0 d) := by
  blk_ext [iblk, V, idx t]

/-- One point's block is the reference's. -/
theorem point (c : Dev nD) (t : Fin cfg0.N) (y : S512x2048.Idx) :
    k0_pay1 (F := Ideal) (iblk m c 0 t) (iblk m c 1 t) y
      = Cert.RmsReferenceIdeal.Read.val_main_v12 (F := Ideal) (argX m c) (argG m c) (ix2 (rowAt t (y 0)) (y 1)) := by
  idx_vars y
  rw [Cert.RmsReferenceIdeal.Named.ref_h]
  generalize h0 : (iblk m c 0 t : Vec Ideal S512x2048 .f32) = b0
  generalize h1 : (iblk m c 1 t : Vec Ideal S1x2048 .f32) = b1
  pointwise [k0_pay1]
  subst h0 h1
  simp only [blk0, blk1]

/-- The window onto the result ends as the reference's result. -/
theorem final (c : Dev nD) : (dats m 0 c).arrAt 2 cfg0.N
    = Cert.RmsReferenceIdeal.Read.val_main_v12 (F := Ideal) (argX m c) (argG m c) := by
  refine (dats m 0 c).arrAt_eq_of_covers 2 _ (by decide +kernel) fun t hf y => ?_
  blk_simp
  rw [after0_2]
  trans k0_pay1 (F := Ideal) (iblk m c 0 t) (iblk m c 1 t) y
  · frame_out
  · rw [point]
    congr 1
    funext a
    apply Fin.ext
    fin_cases a <;> simp [idx t]

variable (ρ : Dev nD → PrngReg)

/-- The kernel's run, read: its result is the reference's term of the arguments, which end unchanged. -/
theorem run : θ_run (defs (F := Ideal)) (onTc (τ := τ) (main (F := Ideal))) ⟨m, fun _ => 0, ρ⟩ fun r => ∀ c : Dev nD,
    r.2.mem ((c.tc : Thread nD τ).loc main_v0)
      = Cert.RmsReferenceIdeal.Read.val_main_v12 (F := Ideal) (argX m c) (argG m c)
    ∧ r.2.mem ((c.tc : Thread nD τ).loc main_arg0) = m ((c.tc : Thread nD τ).loc main_arg0)
    ∧ r.2.mem ((c.tc : Thread nD τ).loc main_arg1) = m ((c.tc : Thread nD τ).loc main_arg1) := by
  refine θ_run_mono (Cert.RmsKernelIdeal.Value.run_blocks m ρ) fun r h c => ?_
  obtain ⟨h2, h⟩ := h c
  exact ⟨h2.trans (final m c), h⟩

end Cert.RmsKernelIdeal.RefValue

namespace Cert.Proof.Rms

/-- The norm's output is the reference's, over the reals. -/
theorem algebraic : Cert.algebraic_RmsKernelIdeal_RmsReferenceIdeal := by
  pair_intro
  · run_from Cert.RmsKernelIdeal.RefValue.run m g
  · refine θ_run_mono (Cert.RmsReferenceIdeal.Named.run m' g') fun r h c => ?_
    obtain ⟨e0, e1⟩ := hagree c
    obtain ⟨h0, h⟩ := h c
    exact ⟨h0.trans (congrArg₂ _ e0 e1), h⟩

end Cert.Proof.Rms

end
-- ==== Proof.Finite.lean ====
/- Finite arguments: what the preconditions say of an entry, and that sums and products of reals are reals. -/
module

public import proofs.«01_k».proof.Proof.Arith
public import Idealize.ShloMosaic.PureOps

@[expose] public section

noncomputable section

open Idealize.ShloMosaic

namespace Cert.Arith

theorem lit_inf : Ideal.ofBits .f32 0x7F800000#32 = ⊤ := by
  simp [Ideal.ofBits, Ideal.ieee]

/-- An extended real that is a real. -/
def IsReal (x : EReal) : Prop := ∃ r : ℝ, x = r

theorem IsReal.mul {x y : EReal} : IsReal x → IsReal y → IsReal (x * y)
  | ⟨a, ha⟩, ⟨b, hb⟩ => ⟨a * b, by rw [ha, hb, EReal.coe_mul]⟩
theorem IsReal.add {x y : EReal} : IsReal x → IsReal y → IsReal (x + y)
  | ⟨a, ha⟩, ⟨b, hb⟩ => ⟨a + b, by rw [ha, hb, EReal.coe_add]⟩
theorem IsReal.sum {ι : Type*} {s : Finset ι} {f : ι → EReal} (h : ∀ i, IsReal (f i)) : IsReal (∑ i ∈ s, f i) := by
  choose g hg using h
  refine ⟨∑ i ∈ s, g i, ?_⟩
  classical
  induction s using Finset.induction_on with
  | empty => simp
  | insert a s ha ih => rw [Finset.sum_insert ha, Finset.sum_insert ha, EReal.coe_add, ih, hg]

/-- What the preconditions compare: an entry's absolute value is below infinity. -/
theorem fin_of_cmp {s : Shape} (x y : Vec Ideal s .f32) (i : s.Idx) (hy : y i = ⊤)
    (h : cmpf (F := Ideal) (φ := .f32) .olt (Host.absf x) y i = 1#1) : IsReal (x i) := by
  change BitVec.ofBool (decide (max (x i) (-(x i)) < y i)) = 1#1 at h
  rw [hy] at h
  have hlt : max (x i) (-(x i)) < ⊤ := by
    by_contra hn
    rw [decide_eq_false hn] at h
    exact absurd h (by decide)
  refine ⟨(x i).toReal, (EReal.coe_toReal ?_ ?_).symm⟩
  · intro e; rw [e] at hlt; simp at hlt
  · intro e; rw [e] at hlt; simp at hlt

end Cert.Arith

end
-- ==== Proof.Gate.lean ====
module

public import proofs.«01_k».proof.Defs
public import proofs.«01_k».proof.Proof.Finite
public import proofs.«01_k».proof.Proof.Gen.GateKernelIdeal.Frame
public import proofs.«01_k».proof.Proof.Gen.GateReferenceIdeal.Run
public import proofs.«01_k».proof.Proof.Gen.GateReferenceIdeal.Read
public import proofs.«01_k».proof.Proof.Gen.Pre_gate_finite
public import Idealize.ShloMosaic.Lib.Pointwise
public import Idealize.ShloMosaic.Lib.Pipeline.ValueKit
public import Idealize.ShloMosaic.Lib.Claim

/-! The gate: the forward call and the gradient call, tile by tile, against the derivative of the reference's lines. The
two agree as soon as the cotangent of the product of gate and input is a real, which the precondition gives. -/

@[expose] public section

set_option maxRecDepth 16384

noncomputable section

open Idealize.ShloMosaic Idealize.ShloMosaic.TcCoe Idealize.SL.Sem
open Idealize.ShloMosaic.Pipeline (Dat)
open Cert.Arith

namespace Cert.GateSpec

abbrev Rows := Vec Ideal ⟨2, ![4096, 2048]⟩ .f32
abbrev Up := Vec Ideal ⟨2, ![2048, 5632]⟩ .f32
abbrev Down := Vec Ideal ⟨2, ![5632, 2048]⟩ .f32

/-- A row of the input against a column of a projection. -/
def proj (h : Rows) (w : Up) (t : Fin 4096) (f : Fin 5632) : EReal := ∑ k : Fin 2048, h (ix2 t k) * w (ix2 k f)
/-- The cotangent of the gated row. -/
def dact (ct : Rows) (wd : Down) (t : Fin 4096) (f : Fin 5632) : EReal := ∑ k : Fin 2048, ct (ix2 t k) * wd (ix2 f k)

/-- The gated row. -/
def act (g u : EReal) : EReal := g * Ideal.logistic g * u
/-- The gradient in the input, from the gate and the cotangent. -/
def dup (g a : EReal) : EReal := g * Ideal.logistic g * a
/-- The gradient in the gate as the gradient call writes it. -/
def dgate (g a : EReal) : EReal := a * (Ideal.logistic g * (1 + g * (1 - Ideal.logistic g)))

/-- The sum and product rules give the same, whatever the gate, for a real cotangent. -/
theorem dgate_eq (g : EReal) {a : EReal} (ha : IsReal a) :
    a * Ideal.logistic g + g * a * (Ideal.logistic g * (1 - Ideal.logistic g)) = dgate g a := by
  obtain ⟨r, rfl⟩ := ha
  unfold dgate
  induction g with
  | bot => simp
  | top =>
    have h : (1 : EReal) - 1 = 0 := by rw [← EReal.coe_one, ← EReal.coe_sub, sub_self, EReal.coe_zero]
    simp [h]
  | coe x =>
    rw [Ideal.logistic_coe]
    norm_cast
    ring

end Cert.GateSpec

open Cert.GateSpec

namespace Cert.GateReferenceIdeal.Named
open Cert.GateReferenceIdeal Cert.GateReferenceIdeal.Gen Cert.GateReferenceIdeal.Read

variable (h : Vec Ideal S4096x2048 .f32) (wg wu : Vec Ideal S2048x5632 .f32) (wd : Vec Ideal S5632x2048 .f32) (ct : Vec Ideal S4096x2048 .f32)

theorem v0 (t : Fin 4096) (f : Fin 5632) : val_main_v0 (F := Ideal) h wg (ix2 t f) = proj h wg t f := by
  unfold proj; pointwise [val_main_v0]
theorem v1 (t : Fin 4096) (f : Fin 5632) : val_main_v1 (F := Ideal) h wu (ix2 t f) = proj h wu t f := by
  unfold proj; pointwise [val_main_v1]
theorem v5 (t : Fin 4096) (f : Fin 5632) : val_main_v5 (F := Ideal) wd ct (ix2 t f) = dact ct wd t f := by
  unfold dact; pointwise [val_main_v5]
theorem sig (t : Fin 4096) (f : Fin 5632) : val_main_v2_2 (F := Ideal) h wg (ix2 t f) = Ideal.logistic (proj h wg t f) := by
  rw [← v0]
  unfold Ideal.logistic
  pointwise [val_main_v2_2, val_main_call0_v4, val_main_call0_v3, val_main_call0_v2, val_main_call0_v1, val_main_call0_v0, val_main_call0_cst, val_main_call0_cst_0]
theorem act_eq (s : Fin 8) (t : Fin 4096) (l : Fin 704) : val_main_v17 (F := Ideal) h wg wu (ix3 s t l)
    = act (proj h wg t ⟨s.val * 704 + l.val, by omega⟩) (proj h wu t ⟨s.val * 704 + l.val, by omega⟩) := by
  unfold act
  pointwise [val_main_v17, val_main_v16, val_main_v15, val_main_v3, val_main_v2_0]
  rw [sig, v0, v1]
theorem dup_eq (s : Fin 8) (t : Fin 4096) (l : Fin 704) : val_main_v14 (F := Ideal) h wg wd ct (ix3 s t l)
    = dup (proj h wg t ⟨s.val * 704 + l.val, by omega⟩) (dact ct wd t ⟨s.val * 704 + l.val, by omega⟩) := by
  unfold dup
  pointwise [val_main_v14, val_main_v13, val_main_v12, val_main_v6, val_main_v2_0]
  rw [sig, v0, v5]
theorem dgate_eq (s : Fin 8) (t : Fin 4096) (l : Fin 704)
    (hr : IsReal (dact ct wd t ⟨s.val * 704 + l.val, by omega⟩ * proj h wu t ⟨s.val * 704 + l.val, by omega⟩)) :
    val_main_v11 (F := Ideal) h wg wu wd ct (ix3 s t l)
    = dgate (proj h wg t ⟨s.val * 704 + l.val, by omega⟩)
        (dact ct wd t ⟨s.val * 704 + l.val, by omega⟩ * proj h wu t ⟨s.val * 704 + l.val, by omega⟩) := by
  rw [← GateSpec.dgate_eq _ hr]
  pointwise [val_main_v11, val_main_v10, val_main_v9, val_main_v8, val_main_call1_v2, val_main_call1_v1, val_main_call1_v0, val_main_v7, val_main_v2_1,
    val_main_call0_v7, val_main_call0_v6, val_main_call0_cst_1]
  rw [sig, v0, v1, v5]

end Cert.GateReferenceIdeal.Named

namespace Cert.GateKernelIdeal.RefValue
open Cert.GateKernelIdeal Cert.GateKernelIdeal.Gen
variable (m : (ℓ : Loc nD τ sig) → Buf (Elt Ideal) ℓ) (ρ : Dev nD → PrngReg)

abbrev argH (c : Dev nD) : Vec Ideal S4096x2048 .f32 := m ((c.tc : Thread nD τ).loc main_arg0)
abbrev argWg (c : Dev nD) : Vec Ideal S2048x5632 .f32 := m ((c.tc : Thread nD τ).loc main_arg1)
abbrev argWu (c : Dev nD) : Vec Ideal S2048x5632 .f32 := m ((c.tc : Thread nD τ).loc main_arg2)
abbrev argWd (c : Dev nD) : Vec Ideal S5632x2048 .f32 := m ((c.tc : Thread nD τ).loc main_arg3)
abbrev argCt (c : Dev nD) : Vec Ideal S4096x2048 .f32 := m ((c.tc : Thread nD τ).loc main_arg4)

theorem idx0 : ∀ t : Fin cfg0.N, win0_0.index t = ![t.val % 4, 0] ∧ win0_1.index t = ![t.val / 4, 0, 0] ∧ win0_2.index t = ![t.val / 4, 0, 0]
    ∧ win0_3.index t = ![t.val / 4, t.val % 4, 0] ∧ win0_4.index t = ![t.val / 4, t.val % 4, 0] ∧ win0_5.index t = ![t.val / 4, t.val % 4, 0] :=
  (by decide +kernel : ∀ t : Fin grid0.N, _)
theorem idx1 : ∀ t : Fin cfg1.N, win1_0.index t = ![t.val % 4, 0] ∧ win1_1.index t = ![t.val / 4, 0, 0]
    ∧ win1_2.index t = ![t.val / 4, t.val % 4, 0] ∧ win1_3.index t = ![t.val / 4, t.val % 4, 0]
    ∧ win1_4.index t = ![t.val / 4, t.val % 4, 0] ∧ win1_5.index t = ![t.val / 4, t.val % 4, 0] :=
  (by decide +kernel : ∀ t : Fin grid1.N, _)

/-- What the host lines before the forward call leave. -/
theorem V_v0 (c : Dev nD) : (V1 m ρ c main_v0 : Vec Ideal S4096x2048 .bf16) = argH m c := by
  show (StableHlo.after hostOps0 (W0 m ρ c) (Proc.devRef .tc main_v0) : Vec Ideal S4096x2048 .bf16) = _
  entry_read
  rfl
theorem V_v3 (c : Dev nD) (s : Fin 8) (k : Fin 2048) (l : Fin 704) :
    (V1 m ρ c main_v3 : Vec Ideal S8x2048x704 .bf16) (ix3 s k l) = argWg m c (ix2 k ⟨s.val * 704 + l.val, by omega⟩) := by
  have e : (V1 m ρ c main_v3 : Vec Ideal S8x2048x704 .bf16)
      = truncf (F := Ideal) .bf16 (transpose S8x2048x704 [1, 0, 2] (shapeCast _ (argWg m c) shapeCasts_S2048x5632_S2048x8x704) transposes_S2048x8x704_S8x2048x704_1_0_2) bitsLt_bf16_f32 := by
    show (StableHlo.after hostOps0 (W0 m ρ c) (Proc.devRef .tc main_v3) : Vec Ideal S8x2048x704 .bf16) = _
    entry_read
    rfl
  rw [e]
  generalize argWg m c = x
  pointwise
theorem V_v6 (c : Dev nD) (s : Fin 8) (k : Fin 2048) (l : Fin 704) :
    (V1 m ρ c main_v6 : Vec Ideal S8x2048x704 .bf16) (ix3 s k l) = argWu m c (ix2 k ⟨s.val * 704 + l.val, by omega⟩) := by
  have e : (V1 m ρ c main_v6 : Vec Ideal S8x2048x704 .bf16)
      = truncf (F := Ideal) .bf16 (transpose S8x2048x704 [1, 0, 2] (shapeCast _ (argWu m c) shapeCasts_S2048x5632_S2048x8x704) transposes_S2048x8x704_S8x2048x704_1_0_2) bitsLt_bf16_f32 := by
    show (StableHlo.after hostOps0 (W0 m ρ c) (Proc.devRef .tc main_v6) : Vec Ideal S8x2048x704 .bf16) = _
    entry_read
    rfl
  rw [e]
  generalize argWu m c = x
  pointwise

theorem lt32 (t : Fin cfg0.N) : t.val < 32 := by have := t.isLt; have h : cfg0.N = 32 := N_0; omega
theorem lt32' (t : Fin cfg1.N) : t.val < 32 := by have := t.isLt; have h : cfg1.N = 32 := N_1; omega
variable (c : Dev nD)

section forward
variable (t : Fin cfg0.N)
abbrev row (t : Fin cfg0.N) (i : Fin 1024) : Fin 4096 := ⟨t.val % 4 * 1024 + i.val, by omega⟩
abbrev col (t : Fin cfg0.N) (l : Fin 704) : Fin 5632 := ⟨t.val / 4 * 704 + l.val, by have := lt32 t; omega⟩

theorem blk0_0 (i : Fin 1024) (k : Fin 2048) :
    (iblk0 (V1 m ρ) c 0 t : Vec Ideal S1024x2048 .bf16) (ix2 i k) = argH m c (ix2 (row t i) k) := by
  rw [← V_v0 m ρ]
  blk_ext [iblk0, idx0 t]
theorem blk0_1 (k : Fin 2048) (l : Fin 704) :
    (iblk0 (V1 m ρ) c 1 t : Vec Ideal S1x2048x704 .bf16) (ix3 0 k l) = argWg m c (ix2 k (col t l)) := by
  rw [← V_v3 m ρ c ⟨t.val / 4, by have := lt32 t; omega⟩]
  blk_ext [iblk0, idx0 t]
theorem blk0_2 (k : Fin 2048) (l : Fin 704) :
    (iblk0 (V1 m ρ) c 2 t : Vec Ideal S1x2048x704 .bf16) (ix3 0 k l) = argWu m c (ix2 k (col t l)) := by
  rw [← V_v6 m ρ c ⟨t.val / 4, by have := lt32 t; omega⟩]
  blk_ext [iblk0, idx0 t]

theorem gate_blk (i : Fin 1024) (l : Fin 704) : k0_pay2 (F := Ideal) (iblk0 (V1 m ρ) c 0 t) (iblk0 (V1 m ρ) c 1 t) (ix2 i l)
    = proj (argH m c) (argWg m c) (row t i) (col t l) := by
  unfold proj
  simp only [← blk0_0 m ρ, ← blk0_1 m ρ]
  generalize (iblk0 (V1 m ρ) c 0 t : Vec Ideal S1024x2048 .bf16) = b0
  generalize (iblk0 (V1 m ρ) c 1 t : Vec Ideal S1x2048x704 .bf16) = b1
  pointwise [k0_pay2, k0_pay1]
theorem up_blk (i : Fin 1024) (l : Fin 704) : k0_pay3 (F := Ideal) (iblk0 (V1 m ρ) c 0 t) (iblk0 (V1 m ρ) c 2 t) (ix2 i l)
    = proj (argH m c) (argWu m c) (row t i) (col t l) := by
  unfold proj
  simp only [← blk0_0 m ρ, ← blk0_2 m ρ]
  generalize (iblk0 (V1 m ρ) c 0 t : Vec Ideal S1024x2048 .bf16) = b0
  generalize (iblk0 (V1 m ρ) c 2 t : Vec Ideal S1x2048x704 .bf16) = b1
  pointwise [k0_pay3, k0_pay1]

/-- The array of column sections that holds `P`. -/
def arr (P : Fin 4096 → Fin 5632 → EReal) : Vec Ideal S8x4096x704 .f32 := fun j =>
  P ⟨(j 1).val, (j 1).isLt⟩ ⟨(j 0).val * 704 + (j 2).val, by have h0 : (j 0).val < 8 := (j 0).isLt; have h2 : (j 2).val < 704 := (j 2).isLt; omega⟩
theorem arr_at (P : Fin 4096 → Fin 5632 → EReal) (z : S8x4096x704.Idx) (r : Fin 4096) (f : Fin 5632) (h1 : (z 1).val = r.val)
    (h2 : (z 0).val * 704 + (z 2).val = f.val) : arr P z = P r f :=
  congrArg₂ P (Fin.ext h1) (Fin.ext h2)

theorem out3 (b0 : Vec Ideal S1024x2048 .bf16) (b1 b2 : Vec Ideal S1x2048x704 .bf16) (z : Fin 1) (i : Fin 1024) (l : Fin 704) :
    out0_3 (F := Ideal) b0 b1 b2 (ix3 z i l) = k0_pay2 (F := Ideal) b0 b1 (ix2 i l) := by
  unfold out0_3
  frame_out
  generalize hb : k0_pay2 (F := Ideal) b0 b1 = b
  pointwise [k0_pay4]
  rw [hb]
theorem out4 (b0 : Vec Ideal S1024x2048 .bf16) (b1 b2 : Vec Ideal S1x2048x704 .bf16) (z : Fin 1) (i : Fin 1024) (l : Fin 704) :
    out0_4 (F := Ideal) b0 b1 b2 (ix3 z i l) = k0_pay3 (F := Ideal) b0 b2 (ix2 i l) := by
  unfold out0_4
  frame_out
  generalize hb : k0_pay3 (F := Ideal) b0 b2 = b
  pointwise [k0_pay5]
  rw [hb]
theorem out5 (b0 : Vec Ideal S1024x2048 .bf16) (b1 b2 : Vec Ideal S1x2048x704 .bf16) (z : Fin 1) (i : Fin 1024) (l : Fin 704) :
    out0_5 (F := Ideal) b0 b1 b2 (ix3 z i l) = act (k0_pay2 (F := Ideal) b0 b1 (ix2 i l)) (k0_pay3 (F := Ideal) b0 b2 (ix2 i l)) := by
  unfold out0_5 act
  frame_out
  generalize hb : k0_pay3 (F := Ideal) b0 b2 = b
  generalize hb' : k0_pay2 (F := Ideal) b0 b1 = b'
  pointwise [k0_pay6]
  rw [hb, hb']
theorem point3 (y : S1x1024x704.Idx) : out0_3 (F := Ideal) (iblk0 (V1 m ρ) c 0 t) (iblk0 (V1 m ρ) c 1 t) (iblk0 (V1 m ρ) c 2 t) y
    = proj (argH m c) (argWg m c) (row t (y 1)) (col t (y 2)) := by
  idx_vars y
  rw [out3, gate_blk]
theorem point4 (y : S1x1024x704.Idx) : out0_4 (F := Ideal) (iblk0 (V1 m ρ) c 0 t) (iblk0 (V1 m ρ) c 1 t) (iblk0 (V1 m ρ) c 2 t) y
    = proj (argH m c) (argWu m c) (row t (y 1)) (col t (y 2)) := by
  idx_vars y
  rw [out4, up_blk]
theorem point5 (y : S1x1024x704.Idx) : out0_5 (F := Ideal) (iblk0 (V1 m ρ) c 0 t) (iblk0 (V1 m ρ) c 1 t) (iblk0 (V1 m ρ) c 2 t) y
    = act (proj (argH m c) (argWg m c) (row t (y 1)) (col t (y 2))) (proj (argH m c) (argWu m c) (row t (y 1)) (col t (y 2))) := by
  idx_vars y
  rw [out5, gate_blk, up_blk]
theorem place3 (y : S1x1024x704.Idx) : ((win0_3.blk t).view.emb y 1).val = (row t (y 1)).val
    ∧ ((win0_3.blk t).view.emb y 0).val * 704 + ((win0_3.blk t).view.emb y 2).val = (col t (y 2)).val := by
  constructor <;> simp [idx0 t]
theorem place4 (y : S1x1024x704.Idx) : ((win0_4.blk t).view.emb y 1).val = (row t (y 1)).val
    ∧ ((win0_4.blk t).view.emb y 0).val * 704 + ((win0_4.blk t).view.emb y 2).val = (col t (y 2)).val := by
  constructor <;> simp [idx0 t]
theorem place5 (y : S1x1024x704.Idx) : ((win0_5.blk t).view.emb y 1).val = (row t (y 1)).val
    ∧ ((win0_5.blk t).view.emb y 0).val * 704 + ((win0_5.blk t).view.emb y 2).val = (col t (y 2)).val := by
  constructor <;> simp [idx0 t]

def gateArr : Vec Ideal S8x4096x704 .f32 := arr fun r f => proj (argH m c) (argWg m c) r f
def upArr : Vec Ideal S8x4096x704 .f32 := arr fun r f => proj (argH m c) (argWu m c) r f
def actArr : Vec Ideal S8x4096x704 .bf16 := arr fun r f => act (proj (argH m c) (argWg m c) r f) (proj (argH m c) (argWu m c) r f)

theorem final0_3 : (dat0 (V1 m ρ) c).arrAt 3 cfg0.N = gateArr m c := by
  refine (dat0 (V1 m ρ) c).arrAt_eq_of_covers 3 _ (by decide +kernel) fun t hf y => ?_
  blk_simp
  rw [after0_3]
  have e := place3 t y
  have hp := point3 m ρ c t y
  generalize (win0_3.blk t).view.emb y = z at e ⊢
  exact hp.trans (arr_at _ z _ _ e.1 e.2).symm
theorem final0_4 : (dat0 (V1 m ρ) c).arrAt 4 cfg0.N = upArr m c := by
  refine (dat0 (V1 m ρ) c).arrAt_eq_of_covers 4 _ (by decide +kernel) fun t hf y => ?_
  blk_simp
  rw [after0_4]
  have e := place4 t y
  have hp := point4 m ρ c t y
  generalize (win0_4.blk t).view.emb y = z at e ⊢
  exact hp.trans (arr_at _ z _ _ e.1 e.2).symm
theorem final0_5 : (dat0 (V1 m ρ) c).arrAt 5 cfg0.N = actArr m c := by
  refine (dat0 (V1 m ρ) c).arrAt_eq_of_covers 5 _ (by decide +kernel) fun t hf y => ?_
  blk_simp
  rw [after0_5]
  have e := place5 t y
  have hp := point5 m ρ c t y
  generalize (win0_5.blk t).view.emb y = z at e ⊢
  rw [actArr, arr_at _ z _ _ e.1 e.2]
  exact hp
end forward

/-! ## The gradient call, entered from what the forward call leaves -/

theorem V_v8 : (V3 m ρ c main_v8 : Vec Ideal S4096x2048 .bf16) = argCt m c := by
  have e := W2_args m ρ c main_arg4 (by decide)
  show (StableHlo.after hostOps1 (W2 m ρ c) (Proc.devRef .tc main_v8) : Vec Ideal S4096x2048 .bf16) = _
  entry_read
  exact e
theorem V_v10 (s : Fin 8) (l : Fin 704) (k : Fin 2048) :
    (V3 m ρ c main_v10 : Vec Ideal S8x704x2048 .bf16) (ix3 s l k) = argWd m c (ix2 ⟨s.val * 704 + l.val, by omega⟩ k) := by
  have e : (V3 m ρ c main_v10 : Vec Ideal S8x704x2048 .bf16)
      = truncf (F := Ideal) .bf16 (shapeCast S8x704x2048 (argWd m c) shapeCasts_S5632x2048_S8x704x2048) bitsLt_bf16_f32 := by
    have e := W2_args m ρ c main_arg3 (by decide)
    show (StableHlo.after hostOps1 (W2 m ρ c) (Proc.devRef .tc main_v10) : Vec Ideal S8x704x2048 .bf16) = _
    entry_read
    rw [e]
    rfl
  rw [e]
  generalize argWd m c = x
  pointwise
theorem V_gate : (V3 m ρ c main_v7_0 : Vec Ideal S8x4096x704 .f32) = gateArr m c :=
  (W3_of m ρ c main_v7_0 (by decide)).trans ((W2_arr m ρ c 3).trans (final0_3 m ρ c))
theorem V_up : (V3 m ρ c main_v7_1 : Vec Ideal S8x4096x704 .f32) = upArr m c :=
  (W3_of m ρ c main_v7_1 (by decide)).trans ((W2_arr m ρ c 4).trans (final0_4 m ρ c))

section backward
variable (t : Fin cfg1.N)
abbrev brow (t : Fin cfg1.N) (i : Fin 1024) : Fin 4096 := ⟨t.val % 4 * 1024 + i.val, by omega⟩
abbrev bcol (t : Fin cfg1.N) (l : Fin 704) : Fin 5632 := ⟨t.val / 4 * 704 + l.val, by have := lt32' t; omega⟩

theorem blk1_0 (i : Fin 1024) (k : Fin 2048) :
    (iblk1 (V3 m ρ) c 0 t : Vec Ideal S1024x2048 .bf16) (ix2 i k) = argCt m c (ix2 (brow t i) k) := by
  rw [← V_v8 m ρ]
  blk_ext [iblk1, idx1 t]
theorem blk1_1 (l : Fin 704) (k : Fin 2048) :
    (iblk1 (V3 m ρ) c 1 t : Vec Ideal S1x704x2048 .bf16) (ix3 0 l k) = argWd m c (ix2 (bcol t l) k) := by
  rw [← V_v10 m ρ c ⟨t.val / 4, by have := lt32' t; omega⟩]
  blk_ext [iblk1, idx1 t]
theorem blk1_2 (i : Fin 1024) (l : Fin 704) :
    (iblk1 (V3 m ρ) c 2 t : Vec Ideal S1x1024x704 .f32) (ix3 0 i l) = proj (argH m c) (argWg m c) (brow t i) (bcol t l) := by
  rw [show proj (argH m c) (argWg m c) (brow t i) (bcol t l) = gateArr m c (ix3 ⟨t.val / 4, by have := lt32' t; omega⟩ (brow t i) l) from rfl, ← V_gate m ρ]
  blk_ext [iblk1, idx1 t]
theorem blk1_3 (i : Fin 1024) (l : Fin 704) :
    (iblk1 (V3 m ρ) c 3 t : Vec Ideal S1x1024x704 .f32) (ix3 0 i l) = proj (argH m c) (argWu m c) (brow t i) (bcol t l) := by
  rw [show proj (argH m c) (argWu m c) (brow t i) (bcol t l) = upArr m c (ix3 ⟨t.val / 4, by have := lt32' t; omega⟩ (brow t i) l) from rfl, ← V_up m ρ]
  blk_ext [iblk1, idx1 t]

theorem dact_blk (i : Fin 1024) (l : Fin 704) : k1_pay1 (F := Ideal) (iblk1 (V3 m ρ) c 0 t) (iblk1 (V3 m ρ) c 1 t) (ix2 i l)
    = dact (argCt m c) (argWd m c) (brow t i) (bcol t l) := by
  unfold dact
  simp only [← blk1_0 m ρ, ← blk1_1 m ρ]
  generalize (iblk1 (V3 m ρ) c 0 t : Vec Ideal S1024x2048 .bf16) = b0
  generalize (iblk1 (V3 m ρ) c 1 t : Vec Ideal S1x704x2048 .bf16) = b1
  pointwise [k1_pay1]

theorem out14 (b0 : Vec Ideal S1024x2048 .bf16) (b1 : Vec Ideal S1x704x2048 .bf16) (b2 b3 : Vec Ideal S1x1024x704 .f32) (z : Fin 1) (i : Fin 1024) (l : Fin 704) :
    out1_4 (F := Ideal) b0 b1 b2 b3 (ix3 z i l) = dgate (b2 (ix3 0 i l)) (k1_pay1 (F := Ideal) b0 b1 (ix2 i l) * b3 (ix3 0 i l)) := by
  unfold out1_4 dgate
  frame_out
  generalize hb : k1_pay1 (F := Ideal) b0 b1 = b
  pointwise [k1_pay4, k1_pay2, k1_pay3]
  rw [hb]
theorem out15 (b0 : Vec Ideal S1024x2048 .bf16) (b1 : Vec Ideal S1x704x2048 .bf16) (b2 b3 : Vec Ideal S1x1024x704 .f32) (z : Fin 1) (i : Fin 1024) (l : Fin 704) :
    out1_5 (F := Ideal) b0 b1 b2 b3 (ix3 z i l) = dup (b2 (ix3 0 i l)) (k1_pay1 (F := Ideal) b0 b1 (ix2 i l)) := by
  unfold out1_5 dup
  frame_out
  generalize hb : k1_pay1 (F := Ideal) b0 b1 = b
  pointwise [k1_pay5, k1_pay2, k1_pay3]
  rw [hb, mul_comm]
theorem point14 (y : S1x1024x704.Idx) : out1_4 (F := Ideal) (iblk1 (V3 m ρ) c 0 t) (iblk1 (V3 m ρ) c 1 t) (iblk1 (V3 m ρ) c 2 t) (iblk1 (V3 m ρ) c 3 t) y
    = dgate (proj (argH m c) (argWg m c) (brow t (y 1)) (bcol t (y 2)))
        (dact (argCt m c) (argWd m c) (brow t (y 1)) (bcol t (y 2)) * proj (argH m c) (argWu m c) (brow t (y 1)) (bcol t (y 2))) := by
  idx_vars y
  rw [out14, dact_blk, blk1_2, blk1_3]
theorem point15 (y : S1x1024x704.Idx) : out1_5 (F := Ideal) (iblk1 (V3 m ρ) c 0 t) (iblk1 (V3 m ρ) c 1 t) (iblk1 (V3 m ρ) c 2 t) (iblk1 (V3 m ρ) c 3 t) y
    = dup (proj (argH m c) (argWg m c) (brow t (y 1)) (bcol t (y 2))) (dact (argCt m c) (argWd m c) (brow t (y 1)) (bcol t (y 2))) := by
  idx_vars y
  rw [out15, dact_blk, blk1_2]
theorem place14 (y : S1x1024x704.Idx) : ((win1_4.blk t).view.emb y 1).val = (brow t (y 1)).val
    ∧ ((win1_4.blk t).view.emb y 0).val * 704 + ((win1_4.blk t).view.emb y 2).val = (bcol t (y 2)).val := by
  constructor <;> simp [idx1 t]
theorem place15 (y : S1x1024x704.Idx) : ((win1_5.blk t).view.emb y 1).val = (brow t (y 1)).val
    ∧ ((win1_5.blk t).view.emb y 0).val * 704 + ((win1_5.blk t).view.emb y 2).val = (bcol t (y 2)).val := by
  constructor <;> simp [idx1 t]

def dgateArr : Vec Ideal S8x4096x704 .bf16 := arr fun r f =>
  dgate (proj (argH m c) (argWg m c) r f) (dact (argCt m c) (argWd m c) r f * proj (argH m c) (argWu m c) r f)
def dupArr : Vec Ideal S8x4096x704 .bf16 := arr fun r f => dup (proj (argH m c) (argWg m c) r f) (dact (argCt m c) (argWd m c) r f)

theorem final1_4 : (dat1 (V3 m ρ) c).arrAt 4 cfg1.N = dgateArr m c := by
  refine (dat1 (V3 m ρ) c).arrAt_eq_of_covers 4 _ (by decide +kernel) fun t hf y => ?_
  blk_simp
  rw [after1_4]
  have e := place14 t y
  have hp := point14 m ρ c t y
  generalize (win1_4.blk t).view.emb y = z at e ⊢
  rw [dgateArr, arr_at _ z _ _ e.1 e.2]
  exact hp
theorem final1_5 : (dat1 (V3 m ρ) c).arrAt 5 cfg1.N = dupArr m c := by
  refine (dat1 (V3 m ρ) c).arrAt_eq_of_covers 5 _ (by decide +kernel) fun t hf y => ?_
  blk_simp
  rw [after1_5]
  have e := place15 t y
  have hp := point15 m ρ c t y
  generalize (win1_5.blk t).view.emb y = z at e ⊢
  rw [dupArr, arr_at _ z _ _ e.1 e.2]
  exact hp
end backward

theorem exit_dgate : (W4 m ρ c (Proc.devRef .tc main_v11_0) : Vec Ideal S8x4096x704 .bf16) = dgateArr m c :=
  (W4_arr m ρ c 4).trans (final1_4 m ρ c)
theorem exit_dup : (W4 m ρ c (Proc.devRef .tc main_v11_1) : Vec Ideal S8x4096x704 .bf16) = dupArr m c :=
  (W4_arr m ρ c 5).trans (final1_5 m ρ c)
theorem exit_act : (W4 m ρ c (Proc.devRef .tc main_v7_2) : Vec Ideal S8x4096x704 .bf16) = actArr m c :=
  (W4_of_ne m ρ c main_v7_2 (by decide)).trans ((W3_of m ρ c main_v7_2 (by decide)).trans ((W2_arr m ρ c 5).trans (final0_5 m ρ c)))

section launch
open Idealize.ShloMosaic.Tactic Idealize.SL Idealize.SL.RA Idealize.SL.BI Idealize.SL.BI.BIBase Idealize.SL.BI.Laws Idealize.SL.ProofMode
open Idealize.ShloMosaic.Rounds
open scoped Idealize.SL.BI

set_option backward.isDefEq.respectTransparency.types false in
/-- The run, read at every buffer: each ends at the last boundary's contents. -/
theorem exit_run : θ_run defs (onTc (τ := τ) (main (F := Ideal))) ⟨m, fun _ => 0, ρ⟩ (fun r => ∀ c : Dev nD,
    ∀ b ∈ Pipeline.ucRefs τ sig, r.2.mem (((c : Thread nD τ)).1, b) = W4 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz => h)
end launch

end Cert.GateKernelIdeal.RefValue

namespace Cert.Proof.Gate
open Cert.GateKernelIdeal.RefValue

theorem finite (m : (ℓ : Loc Cert.GateKernelIdeal.nD Cert.GateKernelIdeal.τ Cert.GateKernelIdeal.sig) → Buf (Elt Ideal) ℓ)
    (h : Cert.Pre_GateKernelIdeal_gate_finite m) (c : Dev Cert.GateKernelIdeal.nD) (r : Fin 4096) (f : Fin 5632) :
    IsReal (dact (argCt m c) (argWd m c) r f * proj (argH m c) (argWu m c) r f) := by
  obtain ⟨h0, h1, h2, h3⟩ := h c
  refine .mul (.sum fun k => .mul ?_ ?_) (.sum fun k => .mul ?_ ?_)
  · exact fin_of_cmp _ _ _ lit_inf (congrFun h3 _)
  · exact fin_of_cmp _ _ _ lit_inf (congrFun h2 _)
  · exact fin_of_cmp _ _ _ lit_inf (congrFun h0 _)
  · exact fin_of_cmp _ _ _ lit_inf (congrFun h1 _)

/-- The reference's run, its results by the names of their terms. -/
theorem reference_run (m : (ℓ : Loc Cert.GateReferenceIdeal.nD Cert.GateReferenceIdeal.τ Cert.GateReferenceIdeal.sig) → Buf (Elt Ideal) ℓ)
    (ρ : Dev Cert.GateReferenceIdeal.nD → PrngReg) :
    θ_run (Cert.GateReferenceIdeal.defs (F := Ideal)) (onTc (τ := Cert.GateReferenceIdeal.τ) (Cert.GateReferenceIdeal.main (F := Ideal))) ⟨m, fun _ => 0, ρ⟩
      fun r => ∀ c : Dev Cert.GateReferenceIdeal.nD, ∀ a0 a1 a2 a3 a4,
        m ((c.tc : Thread Cert.GateReferenceIdeal.nD Cert.GateReferenceIdeal.τ).loc Cert.GateReferenceIdeal.main_arg0) = a0 →
        m ((c.tc : Thread Cert.GateReferenceIdeal.nD Cert.GateReferenceIdeal.τ).loc Cert.GateReferenceIdeal.main_arg1) = a1 →
        m ((c.tc : Thread Cert.GateReferenceIdeal.nD Cert.GateReferenceIdeal.τ).loc Cert.GateReferenceIdeal.main_arg2) = a2 →
        m ((c.tc : Thread Cert.GateReferenceIdeal.nD Cert.GateReferenceIdeal.τ).loc Cert.GateReferenceIdeal.main_arg3) = a3 →
        m ((c.tc : Thread Cert.GateReferenceIdeal.nD Cert.GateReferenceIdeal.τ).loc Cert.GateReferenceIdeal.main_arg4) = a4 →
        r.2.mem ((c.tc : Thread Cert.GateReferenceIdeal.nD Cert.GateReferenceIdeal.τ).loc Cert.GateReferenceIdeal.main_v11)
          = Cert.GateReferenceIdeal.Read.val_main_v11 (F := Ideal) a0 a1 a2 a3 a4
        ∧ r.2.mem ((c.tc : Thread Cert.GateReferenceIdeal.nD Cert.GateReferenceIdeal.τ).loc Cert.GateReferenceIdeal.main_v14)
          = Cert.GateReferenceIdeal.Read.val_main_v14 (F := Ideal) a0 a1 a3 a4
        ∧ r.2.mem ((c.tc : Thread Cert.GateReferenceIdeal.nD Cert.GateReferenceIdeal.τ).loc Cert.GateReferenceIdeal.main_v17)
          = Cert.GateReferenceIdeal.Read.val_main_v17 (F := Ideal) a0 a1 a2 := by
  refine (θ_run (Cert.GateReferenceIdeal.defs (F := Ideal)) _ _).mono (fun _ h c a0 a1 a2 a3 a4 e0 e1 e2 e3 e4 => ?_) (Cert.GateReferenceIdeal.Value.run m ρ)
  subst e0 e1 e2 e3 e4
  exact ⟨(h c).1.trans (Cert.GateReferenceIdeal.Read.val_main_v11_eq _ _ _ _ _), (h c).2.1.trans (Cert.GateReferenceIdeal.Read.val_main_v14_eq _ _ _ _),
    (h c).2.2.1.trans (Cert.GateReferenceIdeal.Read.val_main_v17_eq _ _ _)⟩

theorem dgate_arr (m : (ℓ : Loc Cert.GateKernelIdeal.nD Cert.GateKernelIdeal.τ Cert.GateKernelIdeal.sig) → Buf (Elt Ideal) ℓ)
    (h : Cert.Pre_GateKernelIdeal_gate_finite m) (c : Dev Cert.GateKernelIdeal.nD) :
    Cert.GateReferenceIdeal.Read.val_main_v11 (F := Ideal) (argH m c) (argWg m c) (argWu m c) (argWd m c) (argCt m c) = dgateArr m c := by
  funext j
  have hr := finite m h c
  unfold dgateArr
  generalize argH m c = x0 at hr ⊢
  generalize argWg m c = x1 at hr ⊢
  generalize argWu m c = x2 at hr ⊢
  generalize argWd m c = x3 at hr ⊢
  generalize argCt m c = x4 at hr ⊢
  idx_vars j
  rw [Cert.GateReferenceIdeal.Named.dgate_eq _ _ _ _ _ _ _ _ (hr _ _)]
  rfl
theorem dup_arr (m : (ℓ : Loc Cert.GateKernelIdeal.nD Cert.GateKernelIdeal.τ Cert.GateKernelIdeal.sig) → Buf (Elt Ideal) ℓ) (c : Dev Cert.GateKernelIdeal.nD) :
    Cert.GateReferenceIdeal.Read.val_main_v14 (F := Ideal) (argH m c) (argWg m c) (argWd m c) (argCt m c) = dupArr m c := by
  funext j
  unfold dupArr
  generalize argH m c = x0
  generalize argWg m c = x1
  generalize argWd m c = x3
  generalize argCt m c = x4
  idx_vars j
  rw [Cert.GateReferenceIdeal.Named.dup_eq]
  rfl
theorem act_arr (m : (ℓ : Loc Cert.GateKernelIdeal.nD Cert.GateKernelIdeal.τ Cert.GateKernelIdeal.sig) → Buf (Elt Ideal) ℓ) (c : Dev Cert.GateKernelIdeal.nD) :
    Cert.GateReferenceIdeal.Read.val_main_v17 (F := Ideal) (argH m c) (argWg m c) (argWu m c) = actArr m c := by
  funext j
  unfold actArr
  generalize argH m c = x0
  generalize argWg m c = x1
  generalize argWu m c = x2
  idx_vars j
  rw [Cert.GateReferenceIdeal.Named.act_eq]
  rfl

/-- The two gradients and the gated rows are the reference's, over the reals. -/
theorem algebraic : Cert.algebraic_GateKernelIdeal_GateReferenceIdeal_pre_gate_finite := by
  intro m g m' g' hpre hagree
  refine ⟨fun c => dgateArr m c, fun c => dupArr m c, fun c => actArr m c, ?_, ?_⟩
  · refine θ_run_mono (θ_run_and (exit_run m g) (Cert.GateKernelIdeal.Gen.unchanged m g)) fun r h c => ?_
    exact ⟨(h.1 c _ (Cert.GateKernelIdeal.Gen.mem_uc _ (by decide))).trans (exit_dgate m g c),
      (h.1 c _ (Cert.GateKernelIdeal.Gen.mem_uc _ (by decide))).trans (exit_dup m g c),
      (h.1 c _ (Cert.GateKernelIdeal.Gen.mem_uc _ (by decide))).trans (exit_act m g c), h.2 c⟩
  · refine θ_run_mono (θ_run_and (reference_run m' g') (Cert.GateReferenceIdeal.Value.run m' g')) fun r h c => ?_
    obtain ⟨e0, e1, e2, e3, e4⟩ := hagree c
    obtain ⟨h0, h1, h2⟩ := h.1 c _ _ _ _ _ e0 e1 e2 e3 e4
    exact ⟨h0.trans (dgate_arr m hpre c), h1.trans (dup_arr m c), h2.trans (act_arr m c), (h.2 c).2.2.2⟩

end Cert.Proof.Gate

end
-- ==== Proof.Conv.lean ====
module

public import proofs.«01_k».proof.Defs
public import proofs.«01_k».proof.Proof.Arith
public import proofs.«01_k».proof.Proof.Gen.ConvKernelIdeal.Frame
public import proofs.«01_k».proof.Proof.Gen.ConvReferenceIdeal.Run
public import proofs.«01_k».proof.Proof.Gen.ConvReferenceIdeal.Read
public import Idealize.ShloMosaic.Lib.Pointwise
public import Idealize.ShloMosaic.Lib.Pipeline.ValueKit
public import Idealize.ShloMosaic.Lib.Claim

/-! The gradient of the short gated convolution: the kernel's tiles of 512 rows with their eight-row halos against the
derivative of the reference's lines. Nothing is asked of the arguments. -/

@[expose] public section

set_option maxRecDepth 16384

noncomputable section

open Idealize.ShloMosaic Idealize.ShloMosaic.TcCoe Idealize.SL.Sem
open Idealize.ShloMosaic.Pipeline (Dat)
open Cert.Arith

namespace Cert.ConvSpec

abbrev Bcx := Vec Ideal ⟨2, ![4096, 6144]⟩ .f32
abbrev Taps := Vec Ideal ⟨2, ![3, 2048]⟩ .f32
abbrev Ct := Vec Ideal ⟨2, ![4096, 2048]⟩ .f32

/-- The gated input at row `t`, zero past the end. -/
def gate (x : Bcx) (t : ℕ) (d : Fin 2048) : EReal :=
  if h : t < 4096 then x (ix2 ⟨t, h⟩ ⟨2048 + d.val, by omega⟩) * x (ix2 ⟨t, h⟩ ⟨4096 + d.val, by omega⟩) else 0

/-- The gated input `n` rows back, zero before the start. -/
def back (x : Bcx) (n t : ℕ) (d : Fin 2048) : EReal := if t < n then 0 else gate x (t - n) d

/-- The cotangent of the convolution at row `t`, zero past the end. -/
def dconv (x : Bcx) (dby : Ct) (t : ℕ) (d : Fin 2048) : EReal :=
  if h : t < 4096 then dby (ix2 ⟨t, h⟩ d) * x (ix2 ⟨t, h⟩ ⟨d.val, by omega⟩) else 0

/-- The cotangent of the gated input. -/
def dgate (x : Bcx) (w : Taps) (dby : Ct) (t : ℕ) (d : Fin 2048) : EReal :=
  w (ix2 2 d) * dconv x dby t d + w (ix2 1 d) * dconv x dby (t + 1) d + w (ix2 0 d) * dconv x dby (t + 2) d

/-- The cotangents of the three sections of the projected input. -/
def sections (x : Bcx) (w : Taps) (dby : Ct) (k : ℕ) (t : Fin 4096) (d : Fin 2048) : EReal :=
  if k = 0 then dby (ix2 t d) * (w (ix2 2 d) * gate x t d + w (ix2 1 d) * back x 1 t d + w (ix2 0 d) * back x 2 t d)
  else if k = 1 then dgate x w dby t d * x (ix2 t ⟨4096 + d.val, by omega⟩)
  else dgate x w dby t d * x (ix2 t ⟨2048 + d.val, by omega⟩)

/-- What tap `k` multiplies at row `t`; zero for the padding rows of the kernel's block of taps. -/
def tap (x : Bcx) (k : ℕ) (t : ℕ) (d : Fin 2048) : EReal :=
  if k < 1 then back x 2 t d else if k - 1 < 1 then back x 1 t d else if k - 1 - 1 < 1 then gate x t d else 0

/-- The gradient of tap `k`. -/
def dtap (x : Bcx) (dby : Ct) (k : ℕ) (d : Fin 2048) : EReal := ∑ t : Fin 4096, dconv x dby t d * tap x k t d

/-- The part of it that the rows of tile `s` give. -/
def dtapTile (x : Bcx) (dby : Ct) (k s : ℕ) (d : Fin 2048) : EReal :=
  ∑ i : Fin 512, dconv x dby (s * 512 + i.val) d * tap x k (s * 512 + i.val) d

theorem dtap_tiles (x : Bcx) (dby : Ct) (k : ℕ) (d : Fin 2048) : dtap x dby k d = ∑ s : Fin 8, dtapTile x dby k s d :=
  (Fin.sum_mul_add_fin 8 512 (L := 4096) (fun t => dconv x dby t d * tap x k t d)).symm

end Cert.ConvSpec

open Cert.ConvSpec

namespace Cert.ConvReferenceIdeal.Named
open Cert.ConvReferenceIdeal Cert.ConvReferenceIdeal.Gen Cert.ConvReferenceIdeal.Read

variable (x : Vec Ideal S4096x6144 .f32) (w : Vec Ideal S3x2048 .f32) (dy : Vec Ideal S4096x2048 .f32)

theorem v3 (t : Fin 4096) (d : Fin 2048) : val_main_v3 (F := Ideal) x (ix2 t d) = gate x t d := by
  rw [gate, dif_pos t.isLt]
  pointwise [val_main_v3, val_main_v2, val_main_v1]
theorem v7 (t : Fin 4096) (d : Fin 2048) : val_main_v7 (F := Ideal) x (ix2 t d) = back x 1 t d := by
  pointwise [val_main_v7, val_main_v6, val_main_v5, val_main_cst]
  unfold back
  split
  · rfl
  · exact v3 x ⟨t.val - 1, by omega⟩ d
theorem v12 (t : Fin 4096) (d : Fin 2048) : val_main_v12 (F := Ideal) x (ix2 t d) = back x 2 t d := by
  pointwise [val_main_v12, val_main_v11, val_main_v10, val_main_cst_1]
  unfold back
  split
  · rfl
  · exact v3 x ⟨t.val - 2, by omega⟩ d
theorem v26 (t : Fin 4096) (d : Fin 2048) : val_main_v26 (F := Ideal) x dy (ix2 t d) = dconv x dy t d := by
  rw [dconv, dif_pos t.isLt, mul_comm]
  pointwise [val_main_v26, val_main_v0]
theorem v24 (t : Fin 4096) (d : Fin 2048) : val_main_v24 (F := Ideal) x w (ix2 t d)
    = w (ix2 2 d) * gate x t d + w (ix2 1 d) * back x 1 t d + w (ix2 0 d) * back x 2 t d := by
  pointwise [val_main_v24, val_main_v23, val_main_v22, val_main_v21, val_main_v20, val_main_v19, val_main_v18, val_main_v17,
    val_main_v16, val_main_v15, val_main_v14]
  rw [v3, v7, v12, mul_comm (w (ix2 2 d)), mul_comm (w (ix2 1 d)), mul_comm (w (ix2 0 d)), add_comm, add_comm (_ * w (ix2 0 d)), add_assoc]
theorem past (n : ℕ) (t : Fin 4096) (d : Fin 2048) (c : EReal) :
    (if h : t.val < 4096 - n then val_main_v26 (F := Ideal) x dy (ix2 ⟨n + t.val, by omega⟩ d) * c else 0) = c * dconv x dy (t + n) d := by
  split
  · rw [v26, mul_comm]
    show c * dconv x dy (n + t.val) d = _
    rw [Nat.add_comm]
  · rw [dconv, dif_neg (by omega), mul_zero]
theorem v55 (t : Fin 4096) (d : Fin 2048) : val_main_v55 (F := Ideal) x w dy (ix2 t d) = dgate x w dy t d := by
  pointwise [val_main_v55, val_main_v54, val_main_v53, val_main_v52, val_main_v51, val_main_v50, val_main_v49, val_main_v48, val_main_v45,
    val_main_v44, val_main_v38, val_main_v37, val_main_v32, val_main_v31, val_main_v14, val_main_v17, val_main_v21, val_main_cst_9, val_main_cst_10]
  have p2 := past x dy 2 t d (w (ix2 0 d))
  have p1 := past x dy 1 t d (w (ix2 1 d))
  simp only [Nat.reduceSub] at p1 p2
  rw [p1, p2, v26, mul_comm, dgate, add_assoc, add_comm (w (ix2 0 d) * _), add_assoc]

theorem sections_eq (k : Fin 3) (t : Fin 4096) (d : Fin 2048) :
    val_main_v66 (F := Ideal) x w dy (ix3 k t d) = sections x w dy k t d := by
  unfold sections
  pointwise [val_main_v66, val_main_v65, val_main_v64, val_main_v63, val_main_v62, val_main_v61, val_main_v60, val_main_v59, val_main_v58,
    val_main_v57, val_main_v56, val_main_v27, val_main_v2, val_main_v1]
  rw [v24, v55]
  fin_vals k with hk
  · simp [hk]
  · simp [hk, mul_comm]
  · simp [hk]
    rw [dif_neg (by omega), dif_neg (by omega)]
    have e : 4096 + d.val - 2048 - 2048 = d.val := by omega
    simp only [e]
    rw [v55, mul_comm]

theorem dtap_eq (k : Fin 3) (d : Fin 2048) : val_main_v47 (F := Ideal) x dy (ix2 k d) = dtap x dy k d := by
  unfold dtap tap
  pointwise [val_main_v47, val_main_v46, val_main_v40, val_main_v39, val_main_v33, val_main_cst_4, val_main_cst_6, val_main_cst_8, val_main_v43,
    val_main_v36, val_main_v30, val_main_v42, val_main_v35, val_main_v29, val_main_v41, val_main_v34, val_main_v28, val_main_cst_3, val_main_cst_5, val_main_cst_7]
  simp only [v3, v7, v12, v26]
  fin_vals k with hk <;> simp [hk, mul_comm]

end Cert.ConvReferenceIdeal.Named

namespace Cert.ConvKernelIdeal.RefValue
open Cert.ConvKernelIdeal Cert.ConvKernelIdeal.Gen
variable (m : (ℓ : Loc nD τ sig) → Buf (Elt Ideal) ℓ)

abbrev argX (c : Dev nD) : Vec Ideal S4096x6144 .f32 := m ((c.tc : Thread nD τ).loc main_arg0)
abbrev argW (c : Dev nD) : Vec Ideal S3x2048 .f32 := m ((c.tc : Thread nD τ).loc main_arg1)
abbrev argDby (c : Dev nD) : Vec Ideal S4096x2048 .f32 := m ((c.tc : Thread nD τ).loc main_arg2)

theorem idx : ∀ t : Fin cfg0.N, win0_0.index t = ![t.val % 8, t.val / 8] ∧ win0_1.index t = ![min ((t.val % 8 + 1) * 64) 511, t.val / 8]
    ∧ win0_2.index t = ![(t.val / 8) / 3, t.val % 8, (t.val / 8) % 3]
    ∧ win0_3.index t = ![(t.val / 8) / 3, min ((t.val % 8 + 1) * 64) 511, (t.val / 8) % 3]
    ∧ win0_4.index t = ![(8 + t.val / 8) / 3, t.val % 8, (8 + t.val / 8) % 3]
    ∧ win0_5.index t = ![(16 + t.val / 8) / 3, t.val % 8, (16 + t.val / 8) % 3]
    ∧ win0_6.index t = ![(8 + t.val / 8) / 3, t.val % 8 * 64 - 1, (8 + t.val / 8) % 3]
    ∧ win0_7.index t = ![(16 + t.val / 8) / 3, t.val % 8 * 64 - 1, (16 + t.val / 8) % 3]
    ∧ win0_8.index t = ![0, t.val / 8] ∧ win0_9.index t = ![0, t.val % 8, t.val / 8] ∧ win0_10.index t = ![0, t.val / 8] :=
  (by decide +kernel : ∀ t : Fin grid0.N, _)

theorem V_v1 (c : Dev nD) (s : Fin 8) (r : Fin 4096) (q : Fin 768) :
    (V m c main_v1 : Vec Ideal S8x4096x768 .f32) (ix3 s r q) = argX m c (ix2 r ⟨s.val * 768 + q.val, by omega⟩) := by
  have e : (V m c main_v1 : Vec Ideal S8x4096x768 .f32)
      = transpose S8x4096x768 [1, 0, 2] (shapeCast _ (argX m c) shapeCasts_S4096x6144_S4096x8x768) transposes_S4096x8x768_S8x4096x768_1_0_2 := by
    entry_read
    rfl
  rw [e]
  generalize argX m c = x
  pointwise

theorem lt64 (t : Fin cfg0.N) : t.val < 64 := by have := t.isLt; have h : cfg0.N = 64 := N_0; omega
abbrev rowAt (t : Fin cfg0.N) (i : Fin 512) : Fin 4096 := ⟨t.val % 8 * 512 + i.val, by omega⟩
abbrev colAt (t : Fin cfg0.N) (l : Fin 256) : Fin 2048 := ⟨t.val / 8 * 256 + l.val, by have := lt64 t; omega⟩

theorem blk0 (c : Dev nD) (t : Fin cfg0.N) (i : Fin 512) (d : Fin 256) :
    (iblk m c 0 t : Vec Ideal S512x256 .f32) (ix2 i d) = argDby m c (ix2 (rowAt t i) (colAt t d)) := by
  blk_ext [iblk, V, idx t]
theorem blk1 (c : Dev nD) (t : Fin cfg0.N) (i : Fin 8) (d : Fin 256) :
    (iblk m c 1 t : Vec Ideal S8x256 .f32) (ix2 i d) = argDby m c (ix2 ⟨min ((t.val % 8 + 1) * 64) 511 * 8 + i.val, by omega⟩ (colAt t d)) := by
  blk_ext [iblk, V, idx t]
theorem col (t : Fin cfg0.N) (d : Fin 256) (k : ℕ) (hk : k < 3) :
    (8 * k + t.val / 8) / 3 * 768 + ((8 * k + t.val / 8) % 3 * 256 + d.val) = 2048 * k + (t.val / 8 * 256 + d.val) := by
  have := lt64 t; omega
/-- Section `k` of the projected input, read through the array of column sections that the kernel is handed. -/
theorem V_sec (c : Dev nD) (t : Fin cfg0.N) (r : Fin 4096) (d : Fin 256) (k : ℕ) (hk : k < 3) (s q : ℕ) (hs : s = (8 * k + t.val / 8) / 3)
    (hq : q = (8 * k + t.val / 8) % 3 * 256 + d.val) (h1 : s < 8) (h2 : q < 768) :
    (V m c main_v1 : Vec Ideal S8x4096x768 .f32) (ix3 ⟨s, h1⟩ r ⟨q, h2⟩)
      = argX m c (ix2 r ⟨2048 * k + (colAt t d).val, by have := (colAt t d).isLt; omega⟩) := by
  rw [V_v1]
  congr 2
  exact Fin.ext ((congrArg₂ (fun a b => a * 768 + b) hs hq).trans (col t d k hk))
theorem blk2 (c : Dev nD) (t : Fin cfg0.N) (i : Fin 512) (d : Fin 256) :
    (iblk m c 2 t : Vec Ideal S1x512x256 .f32) (ix3 0 i d) = argX m c (ix2 (rowAt t i) ⟨2048 * 0 + (colAt t d).val, by omega⟩) := by
  have := lt64 t
  rw [← V_sec m c t (rowAt t i) d 0 (by omega) _ _ rfl rfl (by omega) (by omega)]
  blk_ext [iblk, idx t]
theorem blk4 (c : Dev nD) (t : Fin cfg0.N) (i : Fin 512) (d : Fin 256) :
    (iblk m c 4 t : Vec Ideal S1x512x256 .f32) (ix3 0 i d) = argX m c (ix2 (rowAt t i) ⟨2048 * 1 + (colAt t d).val, by omega⟩) := by
  have := lt64 t
  rw [← V_sec m c t (rowAt t i) d 1 (by omega) _ _ rfl rfl (by omega) (by omega)]
  blk_ext [iblk, idx t]
theorem blk5 (c : Dev nD) (t : Fin cfg0.N) (i : Fin 512) (d : Fin 256) :
    (iblk m c 5 t : Vec Ideal S1x512x256 .f32) (ix3 0 i d) = argX m c (ix2 (rowAt t i) ⟨2048 * 2 + (colAt t d).val, by omega⟩) := by
  have := lt64 t
  rw [← V_sec m c t (rowAt t i) d 2 (by omega) _ _ rfl rfl (by omega) (by omega)]
  blk_ext [iblk, idx t]
theorem blk3 (c : Dev nD) (t : Fin cfg0.N) (i : Fin 8) (d : Fin 256) :
    (iblk m c 3 t : Vec Ideal S1x8x256 .f32) (ix3 0 i d) = argX m c (ix2 ⟨min ((t.val % 8 + 1) * 64) 511 * 8 + i.val, by omega⟩ ⟨2048 * 0 + (colAt t d).val, by omega⟩) := by
  have := lt64 t
  rw [← V_sec m c t ⟨min ((t.val % 8 + 1) * 64) 511 * 8 + i.val, by omega⟩ d 0 (by omega) _ _ rfl rfl (by omega) (by omega)]
  blk_ext [iblk, idx t]
theorem blk6 (c : Dev nD) (t : Fin cfg0.N) (i : Fin 8) (d : Fin 256) :
    (iblk m c 6 t : Vec Ideal S1x8x256 .f32) (ix3 0 i d) = argX m c (ix2 ⟨(t.val % 8 * 64 - 1) * 8 + i.val, by omega⟩ ⟨2048 * 1 + (colAt t d).val, by omega⟩) := by
  have := lt64 t
  rw [← V_sec m c t ⟨(t.val % 8 * 64 - 1) * 8 + i.val, by omega⟩ d 1 (by omega) _ _ rfl rfl (by omega) (by omega)]
  blk_ext [iblk, idx t]
theorem blk7 (c : Dev nD) (t : Fin cfg0.N) (i : Fin 8) (d : Fin 256) :
    (iblk m c 7 t : Vec Ideal S1x8x256 .f32) (ix3 0 i d) = argX m c (ix2 ⟨(t.val % 8 * 64 - 1) * 8 + i.val, by omega⟩ ⟨2048 * 2 + (colAt t d).val, by omega⟩) := by
  have := lt64 t
  rw [← V_sec m c t ⟨(t.val % 8 * 64 - 1) * 8 + i.val, by omega⟩ d 2 (by omega) _ _ rfl rfl (by omega) (by omega)]
  blk_ext [iblk, idx t]
theorem blk8 (c : Dev nD) (t : Fin cfg0.N) (k : Fin 3) (d : Fin 256) :
    (iblk m c 8 t : Vec Ideal S3x256 .f32) (ix2 k d) = argW m c (ix2 k (colAt t d)) := by
  blk_ext [iblk, V, idx t]
theorem coord1 : ∀ t : Fin cfg0.N, (grid0.coords t 1).val = t.val % 8 := (by decide +kernel : ∀ t : Fin grid0.N, _)
theorem flagPrev : ∀ k : Fin 8, (Scalar.extui (Scalar.cmpi .sgt (BitVec.ofNat 32 k.val) 0#32)).toInt = if k.val = 0 then 0 else 1 := by decide
theorem flagNext : ∀ k : Fin 8, (Scalar.extui (Scalar.cmpi .slt (BitVec.ofNat 32 k.val) 7#32)).toInt = if k.val = 7 then 0 else 1 := by decide
variable (c : Dev nD) (t : Fin cfg0.N)

/-- The cotangent block that the grid point reads, and the gated input: the specification's. -/
theorem dconv_blk (i : Fin 512) (d : Fin 256) : k0_pay12 (F := Ideal) (k0_pay3 (iblk m c 2 t)) (iblk m c 0 t) (ix2 i d)
    = dconv (argX m c) (argDby m c) (rowAt t i) (colAt t d) := by
  generalize h2 : (iblk m c 2 t : Vec Ideal S1x512x256 .f32) = b2
  pointwise [k0_pay12, k0_pay3]
  subst h2
  rw [blk0, blk2, dconv, dif_pos (rowAt t i).isLt]
  congr 3
  exact Fin.ext (by simp)

theorem gate_blk (i : Fin 512) (d : Fin 256) : k0_pay6 (F := Ideal) (iblk m c 4 t) (iblk m c 5 t) (ix2 i d)
    = gate (argX m c) (rowAt t i) (colAt t d) := by
  generalize h4 : (iblk m c 4 t : Vec Ideal S1x512x256 .f32) = b4
  generalize h5 : (iblk m c 5 t : Vec Ideal S1x512x256 .f32) = b5
  pointwise [k0_pay6, k0_pay5, k0_pay4]
  subst h4 h5
  rw [blk4, blk5, gate, dif_pos (rowAt t i).isLt]

theorem back_blk (n : ℕ) (h0 : 0 < n) (hn : n ≤ 2) (i : Fin 512) (d : Fin 256) (b4 b5 : Vec Ideal S1x512x256 .f32)
    (b6 b7 : Vec Ideal S1x8x256 .f32) (h4 : iblk m c 4 t = b4) (h5 : iblk m c 5 t = b5) (h6 : iblk m c 6 t = b6) (h7 : iblk m c 7 t = b7) :
    (if h : (8 + i.val + 520 - n) % 520 < 8 then
      b6 (ix3 0 ⟨(8 + i.val + 520 - n) % 520, h⟩ d)
        * b7 (ix3 0 ⟨(8 + i.val + 520 - n) % 520, h⟩ d)
        * (((Scalar.extui (Scalar.cmpi CmpIPredicate.sgt (BitVec.ofNat 32 (grid0.coords t 1).val) 0#32)).toInt : ℝ) : EReal)
    else b4 (ix3 0 ⟨(8 + i.val + 520 - n) % 520 - 8, by omega⟩ d)
        * b5 (ix3 0 ⟨(8 + i.val + 520 - n) % 520 - 8, by omega⟩ d))
    = back (argX m c) n (rowAt t i) (colAt t d) := by
  have e : (8 + i.val + 520 - n) % 520 = 8 + i.val - n := by omega
  have hf := flagPrev ⟨t.val % 8, by omega⟩
  rw [coord1]
  subst h4 h5 h6 h7
  unfold back
  split
  · rename_i h
    rw [hf, blk6, blk7]
    by_cases h8 : t.val % 8 = 0
    · rw [if_pos h8, if_pos (by show t.val % 8 * 512 + i.val < n; omega)]
      simp
    · rw [if_neg h8, if_neg (by show ¬ t.val % 8 * 512 + i.val < n; omega), gate, dif_pos (by show t.val % 8 * 512 + i.val - n < 4096; omega)]
      simp only [Int.cast_one, EReal.coe_one, mul_one]
      congr 2 <;> congr 1 <;> exact Fin.ext (by show (t.val % 8 * 64 - 1) * 8 + (8 + i.val + 520 - n) % 520 = t.val % 8 * 512 + i.val - n; omega)
  · rename_i h
    rw [if_neg (by show ¬ t.val % 8 * 512 + i.val < n; omega), blk4, blk5, gate, dif_pos (by show t.val % 8 * 512 + i.val - n < 4096; omega)]
    congr 2 <;> congr 1 <;> exact Fin.ext (by show t.val % 8 * 512 + ((8 + i.val + 520 - n) % 520 - 8) = t.val % 8 * 512 + i.val - n; omega)

theorem back1_blk (i : Fin 512) (d : Fin 256) :
    k0_pay8 (F := Ideal) (grid0.coords t) (iblk m c 4 t) (iblk m c 5 t) (iblk m c 6 t) (iblk m c 7 t) (ix2 i d)
      = back (argX m c) 1 (rowAt t i) (colAt t d) := by
  refine Eq.trans ?_ (back_blk m c t 1 (by omega) (by omega) i d _ _ _ _ rfl rfl rfl rfl)
  generalize (iblk m c 4 t : Vec Ideal S1x512x256 .f32) = b4
  generalize (iblk m c 5 t : Vec Ideal S1x512x256 .f32) = b5
  generalize (iblk m c 6 t : Vec Ideal S1x8x256 .f32) = b6
  generalize (iblk m c 7 t : Vec Ideal S1x8x256 .f32) = b7
  pointwise [k0_pay8, k0_pay7, k0_pay6, k0_pay5, k0_pay4]
theorem back2_blk (i : Fin 512) (d : Fin 256) :
    k0_pay9 (F := Ideal) (grid0.coords t) (iblk m c 4 t) (iblk m c 5 t) (iblk m c 6 t) (iblk m c 7 t) (ix2 i d)
      = back (argX m c) 2 (rowAt t i) (colAt t d) := by
  refine Eq.trans ?_ (back_blk m c t 2 (by omega) (by omega) i d _ _ _ _ rfl rfl rfl rfl)
  generalize (iblk m c 4 t : Vec Ideal S1x512x256 .f32) = b4
  generalize (iblk m c 5 t : Vec Ideal S1x512x256 .f32) = b5
  generalize (iblk m c 6 t : Vec Ideal S1x8x256 .f32) = b6
  generalize (iblk m c 7 t : Vec Ideal S1x8x256 .f32) = b7
  pointwise [k0_pay9, k0_pay7, k0_pay6, k0_pay5, k0_pay4]

theorem tap_blk (k : Fin 3) (d : Fin 256) (off : Fin 2 → ℕ) (inb) (ho : off = ![k.val, 0]) :
    View.ld (iblk m c 8 t : Vec Ideal S3x256 .f32) (Rect.unit off ![1, 256] inb) (ix2 0 d) = argW m c (ix2 k (colAt t d)) := by
  subst ho
  rw [← blk8]
  generalize (iblk m c 8 t : Vec Ideal S3x256 .f32) = b8
  pointwise
theorem next_blk (n : ℕ) (hp : 0 < n) (hn : n ≤ 2) (i : Fin 512) (d : Fin 256) (b0 : Vec Ideal S512x256 .f32) (b1 : Vec Ideal S8x256 .f32)
    (b2 : Vec Ideal S1x512x256 .f32) (b3 : Vec Ideal S1x8x256 .f32) (h0 : iblk m c 0 t = b0) (h1 : iblk m c 1 t = b1)
    (h2 : iblk m c 2 t = b2) (h3 : iblk m c 3 t = b3) :
    (if h : (i.val + 520 - (520 - n)) % 520 < 512 then k0_pay12 (F := Ideal) (k0_pay3 b2) b0 (ix2 ⟨(i.val + 520 - (520 - n)) % 520, h⟩ d)
    else b1 (ix2 ⟨(i.val + 520 - (520 - n)) % 520 - 512, by omega⟩ d) * b3 (ix3 0 ⟨(i.val + 520 - (520 - n)) % 520 - 512, by omega⟩ d)
        * (((Scalar.extui (Scalar.cmpi CmpIPredicate.slt (BitVec.ofNat 32 (grid0.coords t 1).val) 7#32)).toInt : ℝ) : EReal))
    = dconv (argX m c) (argDby m c) ((rowAt t i).val + n) (colAt t d) := by
  have e : (i.val + 520 - (520 - n)) % 520 = i.val + n := by omega
  have hf := flagNext ⟨t.val % 8, by omega⟩
  rw [coord1]
  subst h0 h1 h2 h3
  split
  · rename_i h
    rw [dconv_blk]
    congr 1
    show t.val % 8 * 512 + (i.val + 520 - (520 - n)) % 520 = t.val % 8 * 512 + i.val + n
    omega
  · rename_i h
    rw [hf, blk1, blk3]
    by_cases h8 : t.val % 8 = 7
    · rw [if_pos h8, dconv, dif_neg (by show ¬ t.val % 8 * 512 + i.val + n < 4096; omega)]
      simp
    · rw [if_neg h8, dconv, dif_pos (by show t.val % 8 * 512 + i.val + n < 4096; omega)]
      simp only [Int.cast_one, EReal.coe_one, mul_one]
      congr 2 <;> congr 1 <;> first
        | exact Fin.ext (by show min ((t.val % 8 + 1) * 64) 511 * 8 + ((i.val + 520 - (520 - n)) % 520 - 512) = t.val % 8 * 512 + i.val + n; omega)
        | exact Fin.ext (by simp)

theorem dgate_blk (i : Fin 512) (d : Fin 256) (v0 v1 v2 : Vec Ideal S1x256 .f32) (h0 : v0 (ix2 0 d) = argW m c (ix2 0 (colAt t d)))
    (h1 : v1 (ix2 0 d) = argW m c (ix2 1 (colAt t d))) (h2 : v2 (ix2 0 d) = argW m c (ix2 2 (colAt t d))) :
    k0_pay13 (F := Ideal) (BitVec.ofNat 32 (grid0.coords t 1).val) v0 v1 v2 (k0_pay3 (iblk m c 2 t)) (iblk m c 0 t) (iblk m c 1 t) (iblk m c 3 t) (ix2 i d)
      = dgate (argX m c) (argW m c) (argDby m c) (rowAt t i) (colAt t d) := by
  rw [dgate, ← next_blk m c t 1 (by omega) (by omega) i d _ _ _ _ rfl rfl rfl rfl, ← next_blk m c t 2 (by omega) (by omega) i d _ _ _ _ rfl rfl rfl rfl,
    ← dconv_blk, ← h0, ← h1, ← h2]
  generalize (k0_pay3 (iblk m c 2 t) : Vec Ideal S512x256 .f32) = b2
  generalize (iblk m c 0 t : Vec Ideal S512x256 .f32) = b0
  generalize (iblk m c 1 t : Vec Ideal S8x256 .f32) = b1
  generalize (iblk m c 3 t : Vec Ideal S1x8x256 .f32) = b3
  pointwise [k0_pay13]

/-- What the output block of the three sections holds after grid point `t`. -/
def block9 (j : S3x512x256.Idx) : Elt Ideal .bf16 :=
  sections (argX m c) (argW m c) (argDby m c) (j 0).val (rowAt t ⟨(j 1).val, (j 1).isLt⟩) (colAt t ⟨(j 2).val, (j 2).isLt⟩)

theorem canon9 (y : S3x512x256.Idx) :
    View.canon (Val := Elt Ideal) (s := S3x512x256) (e := .bf16)
      [⟨Rect.unit ![2, 0, 0] ![1, 512, 256] inb_S3x512x256_S1x512x256_2_0_0,
          k0_pay16 (BitVec.ofNat 32 (grid0.coords t 1).val)
            (View.ld (iblk m c 8 t) (Rect.unit ![0, 0] ![1, 256] inb_S3x256_S1x256_0_0))
            (View.ld (iblk m c 8 t) (Rect.unit ![1, 0] ![1, 256] inb_S3x256_S1x256_1_0))
            (View.ld (iblk m c 8 t) (Rect.unit ![2, 0] ![1, 256] inb_S3x256_S1x256_2_0)) (k0_pay3 (iblk m c 2 t))
            (k0_pay4 (iblk m c 4 t)) (iblk m c 0 t) (iblk m c 1 t) (iblk m c 3 t)⟩,
        ⟨Rect.unit ![1, 0, 0] ![1, 512, 256] inb_S3x512x256_S1x512x256_1_0_0,
          k0_pay15 (BitVec.ofNat 32 (grid0.coords t 1).val)
            (View.ld (iblk m c 8 t) (Rect.unit ![0, 0] ![1, 256] inb_S3x256_S1x256_0_0))
            (View.ld (iblk m c 8 t) (Rect.unit ![1, 0] ![1, 256] inb_S3x256_S1x256_1_0))
            (View.ld (iblk m c 8 t) (Rect.unit ![2, 0] ![1, 256] inb_S3x256_S1x256_2_0)) (k0_pay3 (iblk m c 2 t))
            (k0_pay5 (iblk m c 5 t)) (iblk m c 0 t) (iblk m c 1 t) (iblk m c 3 t)⟩,
        ⟨Rect.unit ![0, 0, 0] ![1, 512, 256] inb_S3x512x256_S1x512x256_0_0_0,
          k0_pay14 (iblk m c 0 t) (k0_pay9 (grid0.coords t) (iblk m c 4 t) (iblk m c 5 t) (iblk m c 6 t) (iblk m c 7 t))
            (k0_pay10 (grid0.coords t) (View.ld (iblk m c 8 t) (Rect.unit ![1, 0] ![1, 256] inb_S3x256_S1x256_1_0))
              (View.ld (iblk m c 8 t) (Rect.unit ![2, 0] ![1, 256] inb_S3x256_S1x256_2_0)) (iblk m c 4 t) (iblk m c 5 t)
              (iblk m c 6 t) (iblk m c 7 t))
            (k0_pay11 (View.ld (iblk m c 8 t) (Rect.unit ![0, 0] ![1, 256] inb_S3x256_S1x256_0_0)))⟩]
      y = block9 m c t y := by
  have w0 := fun d => tap_blk m c t 0 d ![0, 0] inb_S3x256_S1x256_0_0 rfl
  have w1 := fun d => tap_blk m c t 1 d ![1, 0] inb_S3x256_S1x256_1_0 rfl
  have w2 := fun d => tap_blk m c t 2 d ![2, 0] inb_S3x256_S1x256_2_0 rfl
  refine View.canon_apply_of_pieces (block9 m c t) _ ?_ y (View.cover_of_tiledL _ ![1, 512, 256] (by sl_kernel_rfl) y)
  simp only [List.forall_mem_cons, List.not_mem_nil, false_implies, implies_true, and_true]
  refine ⟨fun x => ?_, fun x => ?_, fun x => ?_⟩ <;> idx_vars x
  · refine Eq.trans ?_ (show sections (argX m c) (argW m c) (argDby m c) 2 (rowAt t x1) (colAt t x2) = _ by
      unfold block9; congr 1 <;> first | exact Fin.ext (by simp) | simp)
    generalize h4 : (iblk m c 4 t : Vec Ideal S1x512x256 .f32) = b4
    pointwise [k0_pay16, k0_pay4]
    subst h4
    rw [dgate_blk m c t x1 x2 _ _ _ (w0 x2) (w1 x2) (w2 x2), blk4]
    rfl
  · refine Eq.trans ?_ (show sections (argX m c) (argW m c) (argDby m c) 1 (rowAt t x1) (colAt t x2) = _ by
      unfold block9; congr 1 <;> first | exact Fin.ext (by simp) | simp)
    generalize h5 : (iblk m c 5 t : Vec Ideal S1x512x256 .f32) = b5
    pointwise [k0_pay15, k0_pay5]
    subst h5
    rw [dgate_blk m c t x1 x2 _ _ _ (w0 x2) (w1 x2) (w2 x2), blk5]
    rfl
  · refine Eq.trans ?_ (show sections (argX m c) (argW m c) (argDby m c) 0 (rowAt t x1) (colAt t x2) = _ by
      unfold block9; congr 1 <;> first | exact Fin.ext (by simp) | simp)
    pointwise [k0_pay14, k0_pay10, k0_pay11]
    rw [gate_blk, back1_blk, back2_blk, blk0, blk8, blk8, blk8]
    rfl

theorem final9 : (dats m 0 c).arrAt 9 cfg0.N
    = Cert.ConvReferenceIdeal.Read.val_main_v66 (F := Ideal) (argX m c) (argW m c) (argDby m c) := by
  refine (dats m 0 c).arrAt_eq_of_covers 9 _ (by decide +kernel) fun t hf y => ?_
  blk_simp
  rw [after0_9]
  trans block9 m c t y
  · by_cases h : t.val % 8 = 0
    · rw [outsAt0_A m c t h]; frame_out; exact canon9 m c t y
    · rw [outsAt0_B m c t h]; frame_out; exact canon9 m c t y
  · unfold block9
    rw [← Cert.ConvReferenceIdeal.Named.sections_eq _ _ _ ⟨(y 0).val, (y 0).isLt⟩]
    congr 1
    funext a
    apply Fin.ext
    fin_cases a <;> simp [idx t]

/-- What a grid point adds to the block of taps. -/
def part (p : Fin cfg0.N) (j : S8x256.Idx) : EReal :=
  dtapTile (argX m c) (argDby m c) (j 0).val (p.val % 8) (colAt p ⟨(j 1).val, (j 1).isLt⟩)

theorem pay2_part (acc : Vec Ideal S8x256 .f32) (j : S8x256.Idx) :
    k0_pay2 (F := Ideal) (k0_pay6 (iblk m c 4 t) (iblk m c 5 t)) (k0_pay8 (grid0.coords t) (iblk m c 4 t) (iblk m c 5 t) (iblk m c 6 t) (iblk m c 7 t))
      (k0_pay9 (grid0.coords t) (iblk m c 4 t) (iblk m c 5 t) (iblk m c 6 t) (iblk m c 7 t)) (k0_pay12 (k0_pay3 (iblk m c 2 t)) (iblk m c 0 t)) acc j
      = acc j + part m c t j := by
  idx_vars j
  unfold part dtapTile tap
  generalize hd : (k0_pay12 (F := Ideal) (k0_pay3 (iblk m c 2 t)) (iblk m c 0 t)) = vd
  pointwise [k0_pay2]
  subst hd
  simp only [gate_blk, back1_blk, back2_blk, dconv_blk]
  congr 1
  split
  · rfl
  · split
    · rfl
    · split
      · rfl
      · simp

theorem pay1_zero (j : S8x256.Idx) : k0_pay1 (F := Ideal) j = 0 := by
  pointwise [k0_pay1]

/-- The block of taps ends as the gradient of the taps. -/
theorem final10 : (dats m 0 c).arrAt 10 cfg0.N
    = fun j => dtap (argX m c) (argDby m c) (j 0).val ⟨(j 1).val, (j 1).isLt⟩ := by
  refine (dats m 0 c).arrAt_eq_of_covers 10 _ (by decide +kernel) fun t hf y => ?_
  blk_simp
  rw [after0_10]
  refine (show _ = (outsAt0 m c t.val t.isLt).2 y from rfl).trans ?_
  rw [Pipeline.eq_sum_fin_of_reset_step_apply_of_flush (fun n h => (outsAt0 m c n h).2) 8 (fun _ => 0) (fun p j => part m c p j)
    (fun t h j => by rw [outsAt0_A m c t h]; frame_out; rw [pay2_part, pay1_zero])
    (fun t h j => by rw [outsAt0_B m c t h]; frame_out; rw [pay2_part])
    t ((flush0_10 t).mp hf) y, zero_add]
  have h64 := lt64 t
  idx_vars y
  have hi : win0_10.index t = ![0, t.val / 8] := (idx t).2.2.2.2.2.2.2.2.2.2
  trans dtap (argX m c) (argDby m c) y0.val (colAt t y1)
  · rw [dtap_tiles]
    refine Finset.sum_congr rfl fun s _ => ?_
    unfold part
    congr 1
    · show (8 * (t.val / 8) + s.val) % 8 = s.val
      omega
    · exact Fin.ext (by show (8 * (t.val / 8) + s.val) / 8 * 256 + y1.val = t.val / 8 * 256 + y1.val; omega)
  · have h0 : win0_10.index t 0 = 0 := congrFun hi 0
    have h1 : win0_10.index t 1 = t.val / 8 := congrFun hi 1
    have e0 : y0.val = win0_10.index t 0 * 8 + y0.val := by omega
    have e1 : (colAt t y1).val = win0_10.index t 1 * 256 + y1.val := by rw [h1]
    generalize argX m c = ax
    generalize argDby m c = ay
    exact congrArg₂ (dtap ax ay) e0 (Fin.ext e1)

theorem tail_main_v3 (V : Valuation τ sig (Elt Ideal)) : StableHlo.after hostOps1 V (Proc.devRef .tc main_v3)
    = extractStridedSlice S3x2048 ![0, 0] (V (Proc.devRef .tc main_v2_1)) slices_S8x2048_S3x2048_0_0 := by
  after_results <;> rfl

theorem V10 : Pipeline.withArrays (cfgs (0 : Fin 1)).spec c (V0 m c)
    (fun w => (dats m 0 c).arrAt w (cfgs (0 : Fin 1)).N) (Proc.devRef .tc main_v2_1) = (dats m 0 c).arrAt 10 cfg0.N :=
  (dats m 0 c).withArrays_arrAt sharedIn0 (V0 m c) (A_eq m c) 10

theorem slice_taps (A : Vec Ideal S8x2048 .f32) (hA : A = fun j => dtap (argX m c) (argDby m c) (j 0).val ⟨(j 1).val, (j 1).isLt⟩) :
    extractStridedSlice S3x2048 ![0, 0] A slices_S8x2048_S3x2048_0_0
      = Cert.ConvReferenceIdeal.Read.val_main_v47 (F := Ideal) (argX m c) (argDby m c) := by
  funext j
  idx_vars j
  rw [Cert.ConvReferenceIdeal.Named.dtap_eq]
  have e : ∀ (k : Fin 8) (d : Fin 2048), A (ix2 k d) = dtap (argX m c) (argDby m c) k.val d := fun k d => by rw [hA]; rfl
  clear hA
  pointwise
  rw [e]

theorem final_taps : Pipeline.afterTail₀ cfgs (dats m) 0 (V0 m) [hostOps1] c main_v3
    = Cert.ConvReferenceIdeal.Read.val_main_v47 (F := Ideal) (argX m c) (argDby m c) := by
  unfold Pipeline.afterTail₀
  rw [List.flatten_singleton, tail_main_v3, V10]
  exact slice_taps m c _ (final10 m c)

variable (ρ : Dev nD → PrngReg)

/-- The kernel's run, read: both results are the reference's terms of the arguments, which end unchanged. -/
theorem run : θ_run (defs (F := Ideal)) (onTc (τ := τ) (main (F := Ideal))) ⟨m, fun _ => 0, ρ⟩ fun r => ∀ c : Dev nD,
    r.2.mem ((c.tc : Thread nD τ).loc main_v2_0) = Cert.ConvReferenceIdeal.Read.val_main_v66 (F := Ideal) (argX m c) (argW m c) (argDby m c)
    ∧ r.2.mem ((c.tc : Thread nD τ).loc main_v3) = Cert.ConvReferenceIdeal.Read.val_main_v47 (F := Ideal) (argX m c) (argDby m c)
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2) := by
  refine (θ_run (defs (F := Ideal)) _ _).mono (fun _ h c => ?_) (θ_run_and (run_main m ρ) (unchanged m ρ))
  exact ⟨((h.1 c).1 9).trans (final9 m c), ((h.1 c).2 main_v3 (by decide)).trans (final_taps m c), h.2 c⟩

end Cert.ConvKernelIdeal.RefValue

namespace Cert.ConvReferenceIdeal.Named

open Cert.ConvReferenceIdeal Cert.ConvReferenceIdeal.Gen Cert.ConvReferenceIdeal.Read

/-- The reference's run, its results by the names of their terms. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
    r.2.mem ((c.tc : Thread nD τ).loc main_v66) = val_main_v66 (F := Ideal) (m ((c.tc : Thread nD τ).loc main_arg0))
        (m ((c.tc : Thread nD τ).loc main_arg1)) (m ((c.tc : Thread nD τ).loc main_arg2))
    ∧ r.2.mem ((c.tc : Thread nD τ).loc main_v47) = val_main_v47 (F := Ideal) (m ((c.tc : Thread nD τ).loc main_arg0))
        (m ((c.tc : Thread nD τ).loc main_arg2))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2) :=
  (θ_run (defs (F := Ideal)) _ _).mono (fun _ h c => ⟨(h c).1.trans (val_main_v66_eq m c),
    (h c).2.1.trans (val_main_v47_eq _ _), (h c).2.2⟩) (Cert.ConvReferenceIdeal.Value.run m ρ)

end Cert.ConvReferenceIdeal.Named

namespace Cert.Proof.Conv

/-- The kernel's gradients are the reference's, over the reals. -/
theorem algebraic : Cert.algebraic_ConvKernelIdeal_ConvReferenceIdeal := by
  pair_intro
  · run_from Cert.ConvKernelIdeal.RefValue.run m g
  · refine θ_run_mono (Cert.ConvReferenceIdeal.Named.run m' g') fun r h c => ?_
    obtain ⟨e0, e1, e2⟩ := hagree c
    obtain ⟨h0, h1, h2⟩ := h c
    exact ⟨h0.trans (by rw [e0, e1, e2]), h1.trans (by rw [e0, e2]), h2⟩

end Cert.Proof.Conv

end
-- ==== Proof.Mix.lean ====
module

public import proofs.«01_k».proof.Defs
public import proofs.«01_k».proof.Proof.Conv
public import proofs.«01_k».proof.Proof.Gen.MixKernelIdeal.Value
public import proofs.«01_k».proof.Proof.Gen.MixReferenceIdeal.Run
public import proofs.«01_k».proof.Proof.Gen.MixReferenceIdeal.Read
public import Idealize.ShloMosaic.Lib.Pointwise
public import Idealize.ShloMosaic.Lib.Pipeline.ValueKit
public import Idealize.ShloMosaic.Lib.Claim

/-! The short gated convolution, forward: the kernel's tiles of 512 rows with the eight rows before each, against the
reference's lines. Nothing is asked of the arguments. -/

@[expose] public section

set_option maxRecDepth 16384

noncomputable section

open Idealize.ShloMosaic Idealize.ShloMosaic.TcCoe Idealize.SL.Sem
open Idealize.ShloMosaic.Pipeline (Dat)
open Cert.Arith

open Cert.ConvSpec

namespace Cert.ConvSpec

/-- The convolution's output at row `t`. -/
def mix (x : Bcx) (w : Taps) (t : Fin 4096) (d : Fin 2048) : EReal :=
  x (ix2 t ⟨d.val, by omega⟩) * (w (ix2 2 d) * gate x t d + w (ix2 1 d) * back x 1 t d + w (ix2 0 d) * back x 2 t d)

end Cert.ConvSpec

namespace Cert.MixReferenceIdeal.Named
open Cert.MixReferenceIdeal Cert.MixReferenceIdeal.Gen Cert.MixReferenceIdeal.Read

variable (x : Vec Ideal S4096x6144 .f32) (w : Vec Ideal S3x2048 .f32)

theorem v3 (t : Fin 4096) (d : Fin 2048) : val_main_v3 (F := Ideal) x (ix2 t d) = gate x t d := by
  rw [gate, dif_pos t.isLt]
  pointwise [val_main_v3, val_main_v2, val_main_v1]
theorem v7 (t : Fin 4096) (d : Fin 2048) : val_main_v7 (F := Ideal) x (ix2 t d) = back x 1 t d := by
  pointwise [val_main_v7, val_main_v6, val_main_v5, val_main_cst]
  unfold back
  split
  · rfl
  · exact v3 x ⟨t.val - 1, by omega⟩ d
theorem v11 (t : Fin 4096) (d : Fin 2048) : val_main_v11 (F := Ideal) x (ix2 t d) = back x 2 t d := by
  pointwise [val_main_v11, val_main_v10, val_main_v9, val_main_cst_0]
  unfold back
  split
  · rfl
  · exact v3 x ⟨t.val - 2, by omega⟩ d

/-- The reference's output at one element. -/
theorem mix_eq (t : Fin 4096) (d : Fin 2048) : val_main_v24 (F := Ideal) x w (ix2 t d) = mix x w t d := by
  unfold mix
  pointwise [val_main_v24, val_main_v23, val_main_v22, val_main_v21, val_main_v20, val_main_v19, val_main_v18, val_main_v17, val_main_v16, val_main_v15, val_main_v14, val_main_v13, val_main_v12, val_main_v0]
  refine congrArg (x _ * ·) ?_
  rw [v3, v7, v11, mul_comm (w (ix2 2 d)), mul_comm (w (ix2 1 d)), mul_comm (w (ix2 0 d)), add_comm, add_comm (_ * w (ix2 0 d)), add_assoc]

/-- The reference's run, its result by the name of its term. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
    r.2.mem ((c.tc : Thread nD τ).loc main_v24) = val_main_v24 (F := Ideal) (m ((c.tc : Thread nD τ).loc main_arg0))
        (m ((c.tc : Thread nD τ).loc main_arg1))
    ∧ r.2.mem ((c.tc : Thread nD τ).loc main_arg0) = m ((c.tc : Thread nD τ).loc main_arg0)
    ∧ r.2.mem ((c.tc : Thread nD τ).loc main_arg1) = m ((c.tc : Thread nD τ).loc main_arg1) :=
  (θ_run (defs (F := Ideal)) _ _).mono (fun _ h c => ⟨(h c).1.trans (val_main_v24_eq _ _), (h c).2⟩)
    (Cert.MixReferenceIdeal.Value.run m ρ)

end Cert.MixReferenceIdeal.Named

namespace Cert.MixKernelIdeal.RefValue
open Cert.MixKernelIdeal Cert.MixKernelIdeal.Gen
variable (m : (ℓ : Loc nD τ sig) → Buf (Elt Ideal) ℓ)

abbrev argX (c : Dev nD) : Vec Ideal S4096x6144 .f32 := m ((c.tc : Thread nD τ).loc main_arg0)
abbrev argW (c : Dev nD) : Vec Ideal S3x2048 .f32 := m ((c.tc : Thread nD τ).loc main_arg1)

theorem idx : ∀ t : Fin cfg0.N, win0_0.index t = ![(t.val / 8) / 3, t.val % 8, (t.val / 8) % 3]
    ∧ win0_1.index t = ![(8 + t.val / 8) / 3, t.val % 8, (8 + t.val / 8) % 3]
    ∧ win0_2.index t = ![(16 + t.val / 8) / 3, t.val % 8, (16 + t.val / 8) % 3]
    ∧ win0_3.index t = ![(8 + t.val / 8) / 3, t.val % 8 * 64 - 1, (8 + t.val / 8) % 3]
    ∧ win0_4.index t = ![(16 + t.val / 8) / 3, t.val % 8 * 64 - 1, (16 + t.val / 8) % 3]
    ∧ win0_5.index t = ![0, t.val / 8] ∧ win0_6.index t = ![t.val % 8, t.val / 8] :=
  (by decide +kernel : ∀ t : Fin grid0.N, _)

theorem V_v1 (c : Dev nD) (s : Fin 8) (r : Fin 4096) (q : Fin 768) :
    (V m c main_v1 : Vec Ideal S8x4096x768 .f32) (ix3 s r q) = argX m c (ix2 r ⟨s.val * 768 + q.val, by omega⟩) := by
  have e : (V m c main_v1 : Vec Ideal S8x4096x768 .f32)
      = transpose S8x4096x768 [1, 0, 2] (shapeCast _ (argX m c) shapeCasts_S4096x6144_S4096x8x768) transposes_S4096x8x768_S8x4096x768_1_0_2 := by
    entry_read
    rfl
  rw [e]
  generalize argX m c = x
  pointwise

theorem lt64 (t : Fin cfg0.N) : t.val < 64 := by have := t.isLt; have h : cfg0.N = 64 := N_0; omega
abbrev rowAt (t : Fin cfg0.N) (i : Fin 512) : Fin 4096 := ⟨t.val % 8 * 512 + i.val, by omega⟩
abbrev colAt (t : Fin cfg0.N) (l : Fin 256) : Fin 2048 := ⟨t.val / 8 * 256 + l.val, by have := lt64 t; omega⟩

theorem col (t : Fin cfg0.N) (d : Fin 256) (k : ℕ) (hk : k < 3) :
    (8 * k + t.val / 8) / 3 * 768 + ((8 * k + t.val / 8) % 3 * 256 + d.val) = 2048 * k + (t.val / 8 * 256 + d.val) := by
  have := lt64 t; omega
/-- Section `k` of the projected input, read through the array of column sections that the kernel is handed. -/
theorem V_sec (c : Dev nD) (t : Fin cfg0.N) (r : Fin 4096) (d : Fin 256) (k : ℕ) (hk : k < 3) (s q : ℕ) (hs : s = (8 * k + t.val / 8) / 3)
    (hq : q = (8 * k + t.val / 8) % 3 * 256 + d.val) (h1 : s < 8) (h2 : q < 768) :
    (V m c main_v1 : Vec Ideal S8x4096x768 .f32) (ix3 ⟨s, h1⟩ r ⟨q, h2⟩)
      = argX m c (ix2 r ⟨2048 * k + (colAt t d).val, by have := (colAt t d).isLt; omega⟩) := by
  rw [V_v1]
  congr 2
  exact Fin.ext ((congrArg₂ (fun a b => a * 768 + b) hs hq).trans (col t d k hk))
theorem blk0 (c : Dev nD) (t : Fin cfg0.N) (i : Fin 512) (d : Fin 256) :
    (iblk m c 0 t : Vec Ideal S1x512x256 .f32) (ix3 0 i d) = argX m c (ix2 (rowAt t i) ⟨2048 * 0 + (colAt t d).val, by omega⟩) := by
  have := lt64 t
  rw [← V_sec m c t (rowAt t i) d 0 (by omega) _ _ rfl rfl (by omega) (by omega)]
  blk_ext [iblk, idx t]
theorem blk1 (c : Dev nD) (t : Fin cfg0.N) (i : Fin 512) (d : Fin 256) :
    (iblk m c 1 t : Vec Ideal S1x512x256 .f32) (ix3 0 i d) = argX m c (ix2 (rowAt t i) ⟨2048 * 1 + (colAt t d).val, by omega⟩) := by
  have := lt64 t
  rw [← V_sec m c t (rowAt t i) d 1 (by omega) _ _ rfl rfl (by omega) (by omega)]
  blk_ext [iblk, idx t]
theorem blk2 (c : Dev nD) (t : Fin cfg0.N) (i : Fin 512) (d : Fin 256) :
    (iblk m c 2 t : Vec Ideal S1x512x256 .f32) (ix3 0 i d) = argX m c (ix2 (rowAt t i) ⟨2048 * 2 + (colAt t d).val, by omega⟩) := by
  have := lt64 t
  rw [← V_sec m c t (rowAt t i) d 2 (by omega) _ _ rfl rfl (by omega) (by omega)]
  blk_ext [iblk, idx t]
theorem blk3 (c : Dev nD) (t : Fin cfg0.N) (i : Fin 8) (d : Fin 256) :
    (iblk m c 3 t : Vec Ideal S1x8x256 .f32) (ix3 0 i d) = argX m c (ix2 ⟨(t.val % 8 * 64 - 1) * 8 + i.val, by omega⟩ ⟨2048 * 1 + (colAt t d).val, by omega⟩) := by
  have := lt64 t
  rw [← V_sec m c t ⟨(t.val % 8 * 64 - 1) * 8 + i.val, by omega⟩ d 1 (by omega) _ _ rfl rfl (by omega) (by omega)]
  blk_ext [iblk, idx t]
theorem blk4 (c : Dev nD) (t : Fin cfg0.N) (i : Fin 8) (d : Fin 256) :
    (iblk m c 4 t : Vec Ideal S1x8x256 .f32) (ix3 0 i d) = argX m c (ix2 ⟨(t.val % 8 * 64 - 1) * 8 + i.val, by omega⟩ ⟨2048 * 2 + (colAt t d).val, by omega⟩) := by
  have := lt64 t
  rw [← V_sec m c t ⟨(t.val % 8 * 64 - 1) * 8 + i.val, by omega⟩ d 2 (by omega) _ _ rfl rfl (by omega) (by omega)]
  blk_ext [iblk, idx t]
theorem blk5 (c : Dev nD) (t : Fin cfg0.N) (k : Fin 3) (d : Fin 256) :
    (iblk m c 5 t : Vec Ideal S3x256 .f32) (ix2 k d) = argW m c (ix2 k (colAt t d)) := by
  blk_ext [iblk, V, idx t]
theorem coord1 : ∀ t : Fin cfg0.N, (grid0.coords t 1).val = t.val % 8 := (by decide +kernel : ∀ t : Fin grid0.N, _)
theorem flagPrev : ∀ k : Fin 8, (Scalar.extui (Scalar.cmpi .sgt (BitVec.ofNat 32 k.val) 0#32)).toInt = if k.val = 0 then 0 else 1 := by decide
variable (c : Dev nD) (t : Fin cfg0.N)

theorem back_blk (n : ℕ) (h0 : 0 < n) (hn : n ≤ 2) (i : Fin 512) (d : Fin 256) (b4 b5 : Vec Ideal S1x512x256 .f32)
    (b6 b7 : Vec Ideal S1x8x256 .f32) (h4 : iblk m c 1 t = b4) (h5 : iblk m c 2 t = b5) (h6 : iblk m c 3 t = b6) (h7 : iblk m c 4 t = b7) :
    (if h : (8 + i.val + 520 - n) % 520 < 8 then
      b6 (ix3 0 ⟨(8 + i.val + 520 - n) % 520, h⟩ d)
        * b7 (ix3 0 ⟨(8 + i.val + 520 - n) % 520, h⟩ d)
        * (((Scalar.extui (Scalar.cmpi CmpIPredicate.sgt (BitVec.ofNat 32 (grid0.coords t 1).val) 0#32)).toInt : ℝ) : EReal)
    else b4 (ix3 0 ⟨(8 + i.val + 520 - n) % 520 - 8, by omega⟩ d)
        * b5 (ix3 0 ⟨(8 + i.val + 520 - n) % 520 - 8, by omega⟩ d))
    = back (argX m c) n (rowAt t i) (colAt t d) := by
  have e : (8 + i.val + 520 - n) % 520 = 8 + i.val - n := by omega
  have hf := flagPrev ⟨t.val % 8, by omega⟩
  rw [coord1]
  subst h4 h5 h6 h7
  unfold back
  split
  · rename_i h
    rw [hf, blk3, blk4]
    by_cases h8 : t.val % 8 = 0
    · rw [if_pos h8, if_pos (by show t.val % 8 * 512 + i.val < n; omega)]
      simp
    · rw [if_neg h8, if_neg (by show ¬ t.val % 8 * 512 + i.val < n; omega), gate, dif_pos (by show t.val % 8 * 512 + i.val - n < 4096; omega)]
      simp only [Int.cast_one, EReal.coe_one, mul_one]
      congr 2 <;> congr 1 <;> exact Fin.ext (by show (t.val % 8 * 64 - 1) * 8 + (8 + i.val + 520 - n) % 520 = t.val % 8 * 512 + i.val - n; omega)
  · rename_i h
    rw [if_neg (by show ¬ t.val % 8 * 512 + i.val < n; omega), blk1, blk2, gate, dif_pos (by show t.val % 8 * 512 + i.val - n < 4096; omega)]
    congr 2 <;> congr 1 <;> exact Fin.ext (by show t.val % 8 * 512 + ((8 + i.val + 520 - n) % 520 - 8) = t.val % 8 * 512 + i.val - n; omega)

/-- One point's block is the specification's. -/
theorem point (y : S512x256.Idx) :
    k0_pay2 (F := Ideal) (grid0.coords t) (iblk m c 1 t) (iblk m c 2 t) (iblk m c 3 t) (iblk m c 4 t)
      (View.ld (iblk m c 5 t) (Rect.unit ![0, 0] ![1, 256] inb_S3x256_S1x256_0_0))
      (View.ld (iblk m c 5 t) (Rect.unit ![1, 0] ![1, 256] inb_S3x256_S1x256_1_0))
      (View.ld (iblk m c 5 t) (Rect.unit ![2, 0] ![1, 256] inb_S3x256_S1x256_2_0)) (iblk m c 0 t) y
      = mix (argX m c) (argW m c) (rowAt t ⟨(y 0).val, (y 0).isLt⟩) (colAt t ⟨(y 1).val, (y 1).isLt⟩) := by
  idx_vars y
  have e0 : _ = argX m c (ix2 (rowAt t y0) ⟨(colAt t y1).val, by omega⟩) :=
    (blk0 m c t y0 y1).trans (congrArg (argX m c) (congrArg (ix2 (rowAt t y0)) (Fin.ext (by simp))))
  have e1 : _ = argX m c (ix2 (rowAt t y0) ⟨2048 + (colAt t y1).val, by omega⟩) := blk1 m c t y0 y1
  have e2 : _ = argX m c (ix2 (rowAt t y0) ⟨4096 + (colAt t y1).val, by omega⟩) := blk2 m c t y0 y1
  have w := fun k => blk5 m c t k y1
  have b1 := back_blk m c t 1 (by omega) (by omega) y0 y1 _ _ _ _ rfl rfl rfl rfl
  have b2 := back_blk m c t 2 (by omega) (by omega) y0 y1 _ _ _ _ rfl rfl rfl rfl
  show _ = mix (argX m c) (argW m c) (rowAt t y0) (colAt t y1)
  rw [mix, ← b1, ← b2, ← w 0, ← w 1, ← w 2, gate, dif_pos (rowAt t y0).isLt]
  rw [← e0, ← e1, ← e2]
  clear e0 e1 e2 w b1 b2
  generalize (iblk m c 0 t : Vec Ideal S1x512x256 .f32) = v0
  generalize (iblk m c 1 t : Vec Ideal S1x512x256 .f32) = v1
  generalize (iblk m c 2 t : Vec Ideal S1x512x256 .f32) = v2
  generalize (iblk m c 3 t : Vec Ideal S1x8x256 .f32) = v3
  generalize (iblk m c 4 t : Vec Ideal S1x8x256 .f32) = v4
  generalize (iblk m c 5 t : Vec Ideal S3x256 .f32) = v5
  pointwise [k0_pay2]

/-- The window onto the result ends as the reference's result. -/
theorem final : (dats m 0 c).arrAt 6 cfg0.N
    = Cert.MixReferenceIdeal.Read.val_main_v24 (F := Ideal) (argX m c) (argW m c) := by
  refine (dats m 0 c).arrAt_eq_of_covers 6 _ (by decide +kernel) fun t hf y => ?_
  blk_simp
  rw [after0_6]
  trans mix (argX m c) (argW m c) (rowAt t ⟨(y 0).val, (y 0).isLt⟩) (colAt t ⟨(y 1).val, (y 1).isLt⟩)
  · frame_out
    exact point m c t y
  · rw [← Cert.MixReferenceIdeal.Named.mix_eq]
    congr 1
    funext a
    apply Fin.ext
    fin_cases a <;> simp [idx t]

variable (ρ : Dev nD → PrngReg)

/-- The kernel's run, read: its result is the reference's term of the arguments, which end unchanged. -/
theorem run : θ_run (defs (F := Ideal)) (onTc (τ := τ) (main (F := Ideal))) ⟨m, fun _ => 0, ρ⟩ fun r => ∀ c : Dev nD,
    r.2.mem ((c.tc : Thread nD τ).loc main_v2)
      = Cert.MixReferenceIdeal.Read.val_main_v24 (F := Ideal) (argX m c) (argW m c)
    ∧ r.2.mem ((c.tc : Thread nD τ).loc main_arg0) = m ((c.tc : Thread nD τ).loc main_arg0)
    ∧ r.2.mem ((c.tc : Thread nD τ).loc main_arg1) = m ((c.tc : Thread nD τ).loc main_arg1) := by
  refine θ_run_mono (Cert.MixKernelIdeal.Value.run_blocks m ρ) fun r h c => ?_
  obtain ⟨h6, h⟩ := h c
  exact ⟨h6.trans (final m c), h⟩

end Cert.MixKernelIdeal.RefValue

namespace Cert.Proof.Mix

/-- The convolution's output is the reference's, over the reals. -/
theorem algebraic : Cert.algebraic_MixKernelIdeal_MixReferenceIdeal := by
  pair_intro
  · run_from Cert.MixKernelIdeal.RefValue.run m g
  · refine θ_run_mono (Cert.MixReferenceIdeal.Named.run m' g') fun r h c => ?_
    obtain ⟨e0, e1⟩ := hagree c
    obtain ⟨h0, h⟩ := h c
    exact ⟨h0.trans (congrArg₂ _ e0 e1), h⟩

end Cert.Proof.Mix

end
-- ==== Proof.PoolSpec.lean ====
/-
  The multiscale pool: a window's sum that ends or begins at a row, as both the kernel's doubling sums and the reference's
  differences of running sums give it, and the pool, its mixing and their gradients by rows and groups.
-/
module

public import proofs.«01_k».proof.Proof.Finite
public import Idealize.ShloMosaic.Lib.Pointwise
public import Idealize.ShloMosaic.Lib.Pipeline.ValueKit
public import Idealize.ShloMosaic.PureOps

@[expose] public section

noncomputable section

open Idealize.ShloMosaic Cert.Arith

namespace Cert.PoolSpec

abbrev Rows := Vec Ideal ⟨2, ![4096, 2048]⟩ .f32
abbrev Mix := Vec Ideal ⟨3, ![4, 512, 512]⟩ .f32
abbrev Scale := Vec Ideal ⟨2, ![1, 2048]⟩ .f32

/-- Column `l` of group `g`. -/
abbrev col (g : Fin 4) (l : Fin 512) : Fin 2048 := ⟨g.val * 512 + l.val, by omega⟩
/-- The window of a group. -/
abbrev width (g : Fin 4) : ℕ := 2 ^ (g.val + 1)
/-- How many tokens the window that ends at a row holds. -/
def count (g : Fin 4) (r : ℕ) : ℝ := ((min (r + 1) (width g) : ℕ) : ℝ)

/-- A column's entry at a row, zero past the last. -/
def fill (x : Fin 4096 → EReal) (n : ℕ) : EReal := if h : n < 4096 then x ⟨n, h⟩ else 0
/-- The same, sixteen rows later and zero before. -/
def lead (x : Fin 4096 → EReal) (n : ℕ) : EReal := if 16 ≤ n then fill x (n - 16) else 0
/-- The sum over `w` rows down to row `r`. -/
def trail (x : Fin 4096 → EReal) (w r : ℕ) : EReal := ∑ j ∈ Finset.range w, lead x (r + 16 - j)
/-- The sum over `w` rows from row `r` on. -/
def ahead (x : ℕ → EReal) (w r : ℕ) : EReal := ∑ j ∈ Finset.range w, x (r + j)

variable (h x dx : Rows) (w : Mix) (s : Scale)

/-- The pooled row less the row itself. -/
def pooled (r : Fin 4096) (g : Fin 4) (l : Fin 512) : EReal :=
  trail (fun u => h (ix2 u (col g l))) (width g) r.val * ((1 / count g r.val : ℝ) : EReal) - h (ix2 r (col g l))
def mixed (r : Fin 4096) (g : Fin 4) (d : Fin 512) : EReal := ∑ k : Fin 512, pooled h r g k * w (ix3 g k d)
def dmixed (r : Fin 4096) (g : Fin 4) (d : Fin 512) : EReal := dx (ix2 r (col g d)) * s (ix2 0 (col g d))
def dpooled (r : Fin 4096) (g : Fin 4) (k : Fin 512) : EReal := ∑ l : Fin 512, dmixed dx s r g l * w (ix3 g k l)
/-- What a row of the pool's cotangent gives to each row of its window. -/
def spread (r : Fin 4096) (g : Fin 4) (k : Fin 512) : EReal := dpooled dx w s r g k * ((1 / count g r.val : ℝ) : EReal)

def out (r : Fin 4096) (g : Fin 4) (d : Fin 512) : EReal := x (ix2 r (col g d)) + mixed h w r g d * s (ix2 0 (col g d))
def dh (r : Fin 4096) (g : Fin 4) (k : Fin 512) : EReal :=
  ahead (fill fun u => spread dx w s u g k) (width g) r.val - dpooled dx w s r g k
def dw (g : Fin 4) (k l : Fin 512) : EReal := ∑ r : Fin 4096, pooled h r g k * dmixed dx s r g l
def ds (g : Fin 4) (d : Fin 512) : EReal := ∑ r : Fin 4096, dx (ix2 r (col g d)) * mixed h w r g d

/-- A sum over the rows, tile by tile. -/
theorem rows_tiles (f : Fin 4096 → EReal) : ∑ r, f r = ∑ t : Fin 8, ∑ i : Fin 512, f ⟨t.val * 512 + i.val, by omega⟩ := by
  rw [← Fintype.sum_prod_type', ← (finProdFinEquiv (m := 8) (n := 512)).sum_comp]
  refine Finset.sum_congr rfl fun p _ => congrArg f (Fin.ext ?_)
  show p.2.val + 512 * p.1.val = p.1.val * 512 + p.2.val
  omega

theorem coe_sum {ι : Type*} (s : Finset ι) (f : ι → ℝ) : ((∑ i ∈ s, f i : ℝ) : EReal) = ∑ i ∈ s, ((f i : ℝ) : EReal) :=
  map_sum (⟨⟨Real.toEReal, EReal.coe_zero⟩, EReal.coe_add⟩ : ℝ →+ EReal) f s

/-! ## Doubling -/

theorem double_back (Z : ℕ → EReal) (n r : ℕ) (h : n ≤ r) :
    ∑ j ∈ Finset.range n, Z (r - j) + ∑ j ∈ Finset.range n, Z (r - n - j) = ∑ j ∈ Finset.range (n + n), Z (r - j) := by
  rw [Finset.sum_range_add]
  congr 1
  exact Finset.sum_congr rfl fun j _ => by rw [Nat.sub_sub]
theorem double_ahead (Z : ℕ → EReal) (n r : ℕ) :
    ∑ j ∈ Finset.range n, Z (r + j) + ∑ j ∈ Finset.range n, Z (r + n + j) = ∑ j ∈ Finset.range (n + n), Z (r + j) := by
  rw [Finset.sum_range_add]
  congr 1
  exact Finset.sum_congr rfl fun j _ => by rw [Nat.add_assoc]

/-! ## Differences of running sums of reals -/

/-- The same over the reals. -/
def fillR (f : Fin 4096 → ℝ) (n : ℕ) : ℝ := if h : n < 4096 then f ⟨n, h⟩ else 0
theorem fill_coe (f : Fin 4096 → ℝ) (n : ℕ) : fill (fun u => ((f u : ℝ) : EReal)) n = ((fillR f n : ℝ) : EReal) := by
  unfold fill fillR
  split
  · rfl
  · rw [EReal.coe_zero]
/-- The sum of the first `n` rows, and the sum of all rows from `n` on. -/
def upto (f : Fin 4096 → ℝ) (n : ℕ) : ℝ := ∑ j ∈ Finset.range n, fillR f j
def since (f : Fin 4096 → ℝ) (n : ℕ) : ℝ := ∑ j ∈ Finset.range 4096, fillR f (n + j)

theorem trail_eq (f : Fin 4096 → ℝ) (w : ℕ) (hw : w ≤ 16) (r : ℕ) :
    trail (fun u => ((f u : ℝ) : EReal)) w r = ((upto f (r + 1) - upto f (r + 1 - w) : ℝ) : EReal) := by
  have e := Finset.sum_range_sub' (fun j => upto f (r + 1 - j)) w
  rw [Nat.sub_zero] at e
  rw [← e, coe_sum]
  refine Finset.sum_congr rfl fun j hj => ?_
  have hj' : j < w := Finset.mem_range.mp hj
  unfold lead
  by_cases h : j ≤ r
  · have e1 : r + 1 - j = r - j + 1 := by omega
    have e2 : r + 1 - (j + 1) = r - j := by omega
    have e3 : r + 16 - j - 16 = r - j := by omega
    rw [if_pos (by omega), e1, e2, e3, fill_coe, upto, upto, Finset.sum_range_succ, add_sub_cancel_left]
  · have e1 : r + 1 - j = 0 := by omega
    have e2 : r + 1 - (j + 1) = 0 := by omega
    rw [if_neg (by omega), e1, e2, sub_self, EReal.coe_zero]

theorem ahead_eq (f : Fin 4096 → ℝ) (w r : ℕ) :
    ahead (fill fun u => ((f u : ℝ) : EReal)) w r = ((since f r - since f (r + w) : ℝ) : EReal) := by
  have e := Finset.sum_range_sub' (fun j => since f (r + j)) w
  rw [Nat.add_zero] at e
  rw [← e, coe_sum]
  refine Finset.sum_congr rfl fun j _ => ?_
  rw [fill_coe]
  congr 1
  have hs := Finset.sum_range_succ' (fun k => fillR f (r + j + k)) 4095
  have hl := Finset.sum_range_succ (fun k => fillR f (r + (j + 1) + k)) 4095
  have h0 : fillR f (r + (j + 1) + 4095) = 0 := by rw [fillR, dif_neg (by omega)]
  have hc : ∑ k ∈ Finset.range 4095, fillR f (r + j + (k + 1)) = ∑ k ∈ Finset.range 4095, fillR f (r + (j + 1) + k) :=
    Finset.sum_congr rfl fun k _ => congrArg (fillR f) (by omega)
  unfold since
  rw [show (4096 : ℕ) = 4095 + 1 from rfl, hs, hl, h0, hc]
  simp

end Cert.PoolSpec

end
-- ==== Proof.PoolWin.lean ====
/- The pool's two kernels at one grid point: the doubling sums, the counts and the blocks they read. -/
module

public import proofs.«01_k».proof.Proof.PoolSpec
public import proofs.«01_k».proof.Proof.Gen.PoolKernelIdeal.Frame

@[expose] public section

set_option maxRecDepth 16384

noncomputable section

open Idealize.ShloMosaic Idealize.ShloMosaic.TcCoe Idealize.SL.Sem
open Cert.Arith Cert.PoolSpec

namespace Cert.PoolKernelIdeal.RefValue
open Cert.PoolKernelIdeal Cert.PoolKernelIdeal.Gen

/-! ## Doubling sums of a block of 528 rows -/

abbrev Ext := Vec Ideal S528x512 .f32

/-- The rows and the rows `a` further round. -/
def twice (a : BitVec 32) (v : Ext) : Ext := addf (F := Ideal) (φ := .f32) v (dynamicRotate 0 a none v rotates_S528x512_d0)

theorem at_row (v : Ext) {a b : Fin 528} (l : Fin 512) (h : a.val = b.val) : v (ix2 a l) = v (ix2 b l) := by rw [Fin.ext h]
theorem roll (n : ℕ) (h : n = 1 ∨ n = 2 ∨ n = 4 ∨ n = 8) (v : Ext) (r : Fin 528) (l : Fin 512) (hr : n ≤ r.val) :
    twice (BitVec.ofNat 32 n) v (ix2 r l) = v (ix2 r l) + v (ix2 ⟨r.val - n, by omega⟩ l) := by
  unfold twice
  rcases h with rfl | rfl | rfl | rfl <;> pointwise <;> exact congrArg (v (ix2 r l) + ·) (at_row v l (by dsimp only; omega))
theorem roll_on (n : ℕ) (h : n = 1 ∨ n = 2 ∨ n = 4 ∨ n = 8) (v : Ext) (r : Fin 528) (l : Fin 512) (hr : r.val + n < 528) :
    twice (BitVec.ofNat 32 (528 - n)) v (ix2 r l) = v (ix2 r l) + v (ix2 ⟨r.val + n, hr⟩ l) := by
  unfold twice
  rcases h with rfl | rfl | rfl | rfl <;> pointwise <;> exact congrArg (v (ix2 r l) + ·) (at_row v l (by dsimp only; omega))

theorem back_step (Z : ℕ → EReal) (n : ℕ) (h : n = 1 ∨ n = 2 ∨ n = 4 ∨ n = 8) (v : Ext) (l : Fin 512)
    (hv : ∀ r : Fin 528, n ≤ r.val + 1 → v (ix2 r l) = ∑ j ∈ Finset.range n, Z (r.val - j)) (r : Fin 528) (hr : n + n ≤ r.val + 1) :
    twice (BitVec.ofNat 32 n) v (ix2 r l) = ∑ j ∈ Finset.range (n + n), Z (r.val - j) := by
  rw [roll n h v r l (by omega), hv r (by omega), hv ⟨r.val - n, by omega⟩ (by show n ≤ r.val - n + 1; omega)]
  exact double_back Z n r.val (by omega)
theorem on_step (Z : ℕ → EReal) (n : ℕ) (h : n = 1 ∨ n = 2 ∨ n = 4 ∨ n = 8) (v : Ext) (l : Fin 512)
    (hv : ∀ r : Fin 528, r.val + n ≤ 528 → v (ix2 r l) = ∑ j ∈ Finset.range n, Z (r.val + j)) (r : Fin 528) (hr : r.val + (n + n) ≤ 528) :
    twice (BitVec.ofNat 32 (528 - n)) v (ix2 r l) = ∑ j ∈ Finset.range (n + n), Z (r.val + j) := by
  rw [roll_on n h v r l (by omega), hv r (by omega), hv ⟨r.val + n, by omega⟩ (by show r.val + n + n ≤ 528; omega)]
  exact double_ahead Z n r.val

/-- The number of rows of group `g`'s window that the counter gives. -/
theorem counter (t : Fin 8) (g : Fin 4) (r : Fin 528) :
    (Scalar.minsi (Scalar.addi (Scalar.addi (Scalar.muli (BitVec.ofNat 32 t.val) 512#32) (BitVec.ofNat 32 r.val)) 1#32) (Scalar.shli 2#32 (BitVec.ofNat 32 g.val))).toInt
      = ((min (t.val * 512 + r.val + 1) (width g) : ℕ) : ℤ) := by
  have hs : ∀ g : Fin 4, (Scalar.shli 2#32 (BitVec.ofNat 32 g.val) : BitVec 32) = BitVec.ofNat 32 (width g) := by decide
  have hw : ∀ g : Fin 4, width g ≤ 16 := by decide
  have hwg := hw g
  have ha : (Scalar.addi (Scalar.addi (Scalar.muli (BitVec.ofNat 32 t.val) 512#32) (BitVec.ofNat 32 r.val)) 1#32 : BitVec 32) = BitVec.ofNat 32 (t.val * 512 + r.val + 1) := by
    show BitVec.ofNat 32 t.val * BitVec.ofNat 32 512 + BitVec.ofNat 32 r.val + BitVec.ofNat 32 1 = _
    rw [← BitVec.ofNat_mul, ← BitVec.ofNat_add, ← BitVec.ofNat_add]
  have hi : ∀ n : ℕ, n < 2 ^ 16 → (BitVec.ofNat 32 n).toInt = (n : ℤ) := fun n hn => by
    rw [BitVec.toInt_ofNat', Int.bmod_eq_of_le (by omega) (by omega)]
  rw [hs, ha]
  generalize width g = w at hwg ⊢
  show (if (BitVec.ofNat 32 (t.val * 512 + r.val + 1)).slt (BitVec.ofNat 32 w) then _ else _ : BitVec 32).toInt = _
  rw [BitVec.slt_eq_decide, hi _ (by omega), hi _ (by omega)]
  split
  · rename_i h
    rw [hi _ (by omega), min_eq_left (by simp at h; omega)]
  · rename_i h
    rw [hi _ (by omega), min_eq_right (by simp at h; omega)]

theorem div_count (x : EReal) (t : Fin 8) (g : Fin 4) (r : Fin 528) :
    Ideal.div x (FloatOps.sitofp (F := Ideal) .f32 (IntOp.minsi (IntOp.addi (IntOp.addi (Scalar.muli (BitVec.ofNat 32 t.val) 512#32) (BitVec.ofNat 32 r.val)) 1#32)
      (Scalar.shli 2#32 (BitVec.ofNat 32 g.val)))) = x * ((1 / count g (t.val * 512 + r.val) : ℝ) : EReal) := by
  have h := counter t g r
  have e : (FloatOps.sitofp (F := Ideal) .f32 (IntOp.minsi (IntOp.addi (IntOp.addi (Scalar.muli (BitVec.ofNat 32 t.val) 512#32) (BitVec.ofNat 32 r.val)) 1#32)
      (Scalar.shli 2#32 (BitVec.ofNat 32 g.val))) : EReal) = ((count g (t.val * 512 + r.val) : ℝ) : EReal) := by
    refine congrArg Real.toEReal ((congrArg (Int.cast (R := ℝ)) h).trans ?_)
    rw [Int.cast_natCast, PoolSpec.count]
  rw [e, Ideal.div_coe]
  unfold PoolSpec.count
  have : 0 < width g := Nat.pos_of_ne_zero (by simp [width])
  exact_mod_cast (by omega : min (t.val * 512 + r.val + 1) (width g) ≠ 0)
/-- The choice among the four sums. -/
def pick {α : Type} (g : Fin 4) (a b c d : α) : α := if g = 0 then a else if g = 1 then b else if g = 2 then c else d
theorem pick_eq {α : Type} (g : Fin 4) (a b c d : α) :
    Scalar.select (Scalar.cmpi .eq (BitVec.ofNat 32 g.val) 0#32) a (Scalar.select (Scalar.cmpi .eq (BitVec.ofNat 32 g.val) 1#32) b
      (Scalar.select (Scalar.cmpi .eq (BitVec.ofNat 32 g.val) 2#32) c d)) = pick g a b c d := by
  fin_cases g <;> rfl

def ext (i : grid0.Coords) (v0 : Vec Ideal S512x512 .f32) (v1 : Vec Ideal S16x512 .f32) : Ext :=
  concatenate S528x512 0 [⟨S16x512, mulf (F := Ideal) (φ := .f32) v1 (broadcast S16x512 (Scalar.sitofp (F := Ideal) .f32 (Scalar.extui (Scalar.cmpi .sgt (BitVec.ofNat 32 (i 1).val) 0#32))))⟩, ⟨S512x512, v0⟩]
    concatenates_S16x512_S512x512_S528x512_d0

/-- What the forward kernel makes of the chosen sums. -/
def mean (i : grid0.Coords) (W : Ext) (v0 : Vec Ideal S512x512 .f32) : FVec Ideal S512x512 .bf16 :=
  truncf .bf16 (subf (divf (extractStridedSlice S512x512 ![16, 0] W slices_S528x512_o16_0_S512x512)
    (broadcastTo S512x512 (sitofp (F := Ideal) .f32 (minsi (addi (addi (broadcast S512x1 (Scalar.muli (BitVec.ofNat 32 (i 1).val) 512#32)) (iota .tc S512x1 32 [0] iota_S512x1_d0_w32))
      (broadcast S512x1 1#32)) (broadcast S512x1 (Scalar.shli 2#32 (BitVec.ofNat 32 (i 0).val))))) broadcasts_S512x1_S512x512)) v0) bitsLt_bf16_f32
theorem pay2_mean (i : grid0.Coords) (v0 : Vec Ideal S512x512 .f32) (v1 : Vec Ideal S16x512 .f32) :
    k0_pay2 (F := Ideal) i v0 v1 = mean i (Scalar.select (Scalar.cmpi .eq (BitVec.ofNat 32 (i 0).val) 0#32) (twice 1#32 (ext i v0 v1))
      (Scalar.select (Scalar.cmpi .eq (BitVec.ofNat 32 (i 0).val) 1#32) (twice 2#32 (twice 1#32 (ext i v0 v1)))
      (Scalar.select (Scalar.cmpi .eq (BitVec.ofNat 32 (i 0).val) 2#32) (twice 4#32 (twice 2#32 (twice 1#32 (ext i v0 v1))))
        (twice 8#32 (twice 4#32 (twice 2#32 (twice 1#32 (ext i v0 v1)))))))) v0 := rfl
theorem mean_at (i : grid0.Coords) (W : Ext) (v0 : Vec Ideal S512x512 .f32) (g : Fin 4) (t : Fin 8) (hg : (i 0).val = g.val) (ht : (i 1).val = t.val) (r l : Fin 512) :
    mean i W v0 (ix2 r l) = W (ix2 ⟨16 + r.val, by omega⟩ l) * ((1 / count g (t.val * 512 + r.val) : ℝ) : EReal) - v0 (ix2 r l) := by
  unfold mean
  rw [hg, ht]
  pointwise
  rw [div_count _ t g ⟨r.val, by omega⟩]
theorem flagBack : ∀ k : Fin 8, (Scalar.extui (Scalar.cmpi .sgt (BitVec.ofNat 32 k.val) 0#32) : BitVec 32).toInt = if k.val = 0 then 0 else 1 := by decide
theorem flagOn : ∀ k : Fin 8, (Scalar.extui (Scalar.cmpi .slt (BitVec.ofNat 32 k.val) 7#32) : BitVec 32).toInt = if k.val = 7 then 0 else 1 := by decide
theorem ext_at (i : grid0.Coords) (v0 : Vec Ideal S512x512 .f32) (v1 : Vec Ideal S16x512 .f32) (t : Fin 8) (ht : (i 1).val = t.val) (r : Fin 528) (l : Fin 512) :
    ext i v0 v1 (ix2 r l) = if h : r.val < 16 then v1 (ix2 ⟨r.val, h⟩ l) * (if t.val = 0 then 0 else 1) else v0 (ix2 ⟨r.val - 16, by omega⟩ l) := by
  have hf : (Scalar.sitofp (F := Ideal) .f32 (Scalar.extui (Scalar.cmpi .sgt (BitVec.ofNat 32 t.val) 0#32)) : EReal) = if t.val = 0 then 0 else 1 := by
    refine (congrArg (fun n : ℤ => ((n : ℝ) : EReal)) (flagBack t)).trans ?_
    split <;> simp
  unfold ext
  rw [ht, ← hf]
  generalize (Scalar.sitofp (F := Ideal) .f32 (Scalar.extui (Scalar.cmpi .sgt (BitVec.ofNat 32 t.val) 0#32)) : EReal) = f
  pointwise

/-- The forward kernel's pool, when the rows it reads are those of `x` from sixteen before its tile. -/
theorem pool_at (i : grid0.Coords) (v0 : Vec Ideal S512x512 .f32) (v1 : Vec Ideal S16x512 .f32) (g : Fin 4) (t : Fin 8)
    (hg : (i 0).val = g.val) (ht : (i 1).val = t.val) (l : Fin 512) (x : Fin 4096 → EReal)
    (h0 : ∀ r : Fin 512, v0 (ix2 r l) = x ⟨t.val * 512 + r.val, by omega⟩)
    (h1 : ∀ (r : Fin 16) (hp : 0 < t.val), v1 (ix2 r l) = x ⟨t.val * 512 + r.val - 16, by omega⟩) (r : Fin 512) :
    k0_pay2 (F := Ideal) i v0 v1 (ix2 r l)
      = trail x (width g) (t.val * 512 + r.val) * ((1 / count g (t.val * 512 + r.val) : ℝ) : EReal) - x ⟨t.val * 512 + r.val, by omega⟩ := by
  have hz : ∀ ρ : Fin 528, ext i v0 v1 (ix2 ρ l) = lead x (t.val * 512 + ρ.val) := fun ρ => by
    rw [ext_at i v0 v1 t ht ρ l]
    unfold lead fill
    by_cases h : ρ.val < 16
    · rw [dif_pos h]
      by_cases h8 : t.val = 0
      · rw [if_pos h8, if_neg (by omega), mul_zero]
      · rw [if_neg h8, if_pos (by omega), dif_pos (by omega), h1 _ (by omega), mul_one]
    · rw [dif_neg h, if_pos (by omega), dif_pos (by omega), h0]
      exact congrArg x (Fin.ext (by dsimp only; omega))
  have s1 := back_step (fun n => lead x (t.val * 512 + n)) 1 (by omega) (ext i v0 v1) l (fun ρ _ => by rw [Finset.sum_range_one]; exact hz ρ)
  have s2 := back_step (fun n => lead x (t.val * 512 + n)) 2 (by omega) _ l s1
  have s4 := back_step (fun n => lead x (t.val * 512 + n)) 4 (by omega) _ l s2
  have s8 := back_step (fun n => lead x (t.val * 512 + n)) 8 (by omega) _ l s4
  have e : ∀ w : ℕ, w ≤ 16 → ∑ j ∈ Finset.range w, lead x (t.val * 512 + (16 + r.val - j)) = trail x w (t.val * 512 + r.val) := fun w hw =>
    Finset.sum_congr rfl fun j hj => congrArg (lead x) (by have := Finset.mem_range.mp hj; omega)
  rw [pay2_mean, mean_at i _ v0 g t hg ht r l, h0, hg, pick_eq]
  congr 2
  have h16 : 16 ≤ (⟨16 + r.val, by omega⟩ : Fin 528).val + 1 := by show 16 ≤ 16 + r.val + 1; omega
  fin_cases g
  · exact (s1 _ (by omega)).trans (e 2 (by omega))
  · exact (s2 _ (by omega)).trans (e 4 (by omega))
  · exact (s4 _ (by omega)).trans (e 8 (by omega))
  · exact (s8 _ (by omega)).trans (e 16 (by omega))

theorem pay1_at (p v2 : Vec Ideal S512x512 .f32) (v3 : Vec Ideal S1x512x512 .bf16) (v4 : Vec Ideal S1x512 .f32) (r d : Fin 512) :
    k0_pay1 (F := Ideal) p v2 v3 v4 (ix2 r d) = v2 (ix2 r d) + (∑ k : Fin 512, p (ix2 r k) * v3 (ix3 0 k d)) * v4 (ix2 0 d) := by
  pointwise [k0_pay1]

/-! ## The gradient's rows -/

def spreadOf (i : grid1.Coords) (dp : Ext) : Ext :=
  divf (F := Ideal) (φ := .f32) dp (broadcastTo S528x512 (sitofp (F := Ideal) .f32 (minsi (addi (addi (broadcast S528x1 (Scalar.muli (BitVec.ofNat 32 (i 1).val) 512#32)) (iota .tc S528x1 32 [0] iota_S528x1_d0_w32))
      (broadcast S528x1 1#32)) (broadcast S528x1 (Scalar.shli 2#32 (BitVec.ofNat 32 (i 0).val))))) broadcasts_S528x1_S528x512)
theorem spreadOf_at (i : grid1.Coords) (dp : Ext) (g : Fin 4) (t : Fin 8) (hg : (i 0).val = g.val) (ht : (i 1).val = t.val) (r : Fin 528) (l : Fin 512) :
    spreadOf i dp (ix2 r l) = dp (ix2 r l) * ((1 / count g (t.val * 512 + r.val) : ℝ) : EReal) := by
  unfold spreadOf
  rw [hg, ht]
  pointwise
  rw [div_count _ t g r]

theorem pay8_at (w : Vec Ideal S1x512x512 .bf16) (k l : Fin 512) : k1_pay8 (F := Ideal) w (ix2 k l) = w (ix3 0 k l) := by
  pointwise [k1_pay8]
theorem pay3_at (j : S1x512x512.Idx) : k1_pay3 (F := Ideal) j = 0 := by
  pointwise [k1_pay3]
theorem pay4_at (j : S1x512.Idx) : k1_pay4 (F := Ideal) j = 0 := by
  pointwise [k1_pay4]
theorem pay5_at (b0 : Vec Ideal S512x512 .f32) (w p : Vec Ideal S512x512 .bf16) (acc : Vec Ideal S1x512 .f32) (d : Fin 512) :
    k1_pay5 (F := Ideal) b0 w p acc (ix2 0 d) = acc (ix2 0 d) + ∑ r : Fin 512, b0 (ix2 r d) * ∑ k : Fin 512, p (ix2 r k) * w (ix2 k d) := by
  pointwise [k1_pay5, k1_pay2]
theorem pay6_at (y : Vec Ideal S528x512 .bf16) (p : Vec Ideal S512x512 .bf16) (acc : Vec Ideal S1x512x512 .f32) (k l : Fin 512) :
    k1_pay6 (F := Ideal) y p acc (ix3 0 k l) = acc (ix3 0 k l) + ∑ r : Fin 512, p (ix2 r k) * y (ix2 ⟨r.val, by omega⟩ l) := by
  pointwise [k1_pay6, k1_pay2]

variable (i : grid1.Coords) (v0 : Vec Ideal S512x512 .f32) (v1 : Vec Ideal S16x512 .f32) (v8 : Vec Ideal S1x512 .f32) (v12 : Vec Ideal S1x512x512 .bf16)

theorem pay10_eq : k1_pay10 (F := Ideal) i v0 v1 v8 v12 = twice 527#32 (spreadOf i (k1_pay9 (F := Ideal) i v0 v1 v8 v12)) := rfl
theorem pay11_eq : k1_pay11 (F := Ideal) i v0 v1 v8 v12 = twice 526#32 (k1_pay10 (F := Ideal) i v0 v1 v8 v12) := rfl
theorem pay12_eq : k1_pay12 (F := Ideal) i v0 v1 v8 v12 = Scalar.select (Scalar.cmpi .eq (BitVec.ofNat 32 (i 0).val) 2#32)
    (twice 524#32 (k1_pay11 (F := Ideal) i v0 v1 v8 v12)) (twice 520#32 (twice 524#32 (k1_pay11 (F := Ideal) i v0 v1 v8 v12))) := rfl
theorem pay1_grad (a : BitVec 32) (v14 v28 v30 v36 : Ext) (r l : Fin 512) :
    k1_pay1 (F := Ideal) a v14 v28 v30 v36 (Scalar.cmpi .eq a 1#32) (ix2 r l)
      = Scalar.select (Scalar.cmpi .eq a 0#32) v28 (Scalar.select (Scalar.cmpi .eq a 1#32) v30 v36) (ix2 ⟨r.val, by omega⟩ l) - v14 (ix2 ⟨r.val, by omega⟩ l) := by
  unfold k1_pay1
  generalize Scalar.select (Scalar.cmpi .eq a 0#32) v28 (Scalar.select (Scalar.cmpi .eq a 1#32) v30 v36) = W
  pointwise
theorem pay7_at (t : Fin 8) (ht : (i 1).val = t.val) (r : Fin 528) (l : Fin 512) : k1_pay7 (F := Ideal) i v0 v1 v8 (ix2 r l)
    = (if h : r.val < 512 then v0 (ix2 ⟨r.val, h⟩ l) else v1 (ix2 ⟨r.val - 512, by omega⟩ l) * (if t.val = 7 then 0 else 1)) * v8 (ix2 0 l) := by
  unfold k1_pay7
  rw [ht]
  pointwise
  rw [flagOn]
  congr 1
  split
  · rfl
  · congr 1
    split <;> simp
theorem pay9_at (r : Fin 528) (k : Fin 512) : k1_pay9 (F := Ideal) i v0 v1 v8 v12 (ix2 r k)
    = ∑ l : Fin 512, k1_pay7 (F := Ideal) i v0 v1 v8 (ix2 r l) * v12 (ix3 0 k l) := by
  unfold k1_pay9
  generalize k1_pay7 (F := Ideal) i v0 v1 v8 = w
  pointwise [k1_pay8]

/-- The rows that the gradient call reads at a tile: the tile's own of `y`, and the sixteen after it but at the last tile. -/
def Reads (t : Fin 8) (y : Fin 4096 → Fin 512 → EReal) (v0 : Vec Ideal S512x512 .f32) (v1 : Vec Ideal S16x512 .f32) : Prop :=
  (∀ r l : Fin 512, v0 (ix2 r l) = y ⟨t.val * 512 + r.val, by omega⟩ l)
  ∧ ∀ (r : Fin 16) (l : Fin 512) (h : t.val < 7), v1 (ix2 r l) = y ⟨t.val * 512 + 512 + r.val, by omega⟩ l

variable (t : Fin 8) (y : Fin 4096 → Fin 512 → EReal)

theorem scaled_at (ht : (i 1).val = t.val) (hy : Reads t y v0 v1) (r : Fin 528) (l : Fin 512) :
    k1_pay7 (F := Ideal) i v0 v1 v8 (ix2 r l) = fill (fun u => y u l * v8 (ix2 0 l)) (t.val * 512 + r.val) := by
  rw [pay7_at i v0 v1 v8 t ht]
  unfold fill
  by_cases h : r.val < 512
  · rw [dif_pos h, dif_pos (by omega), hy.1]
  · rw [dif_neg h]
    by_cases h7 : t.val = 7
    · rw [if_pos h7, mul_zero, zero_mul, dif_neg (by omega)]
    · rw [if_neg h7, mul_one, hy.2 _ _ (by omega), dif_pos (by omega)]
      exact congrArg (fun u => y u l * v8 (ix2 0 l)) (Fin.ext (by dsimp only; omega))
theorem back_at (ht : (i 1).val = t.val) (hy : Reads t y v0 v1) (r : Fin 528) (k : Fin 512) : k1_pay9 (F := Ideal) i v0 v1 v8 v12 (ix2 r k)
    = fill (fun u => ∑ l : Fin 512, y u l * v8 (ix2 0 l) * v12 (ix3 0 k l)) (t.val * 512 + r.val) := by
  rw [pay9_at]
  simp only [scaled_at i v0 v1 v8 t y ht hy]
  unfold fill
  split
  · rfl
  · simp
theorem grad_at (ht : (i 1).val = t.val) (hy : Reads t y v0 v1) (g : Fin 4) (hg : (i 0).val = g.val) (r k : Fin 512) :
    k1_pay1 (F := Ideal) (BitVec.ofNat 32 (i 0).val) (k1_pay9 (F := Ideal) i v0 v1 v8 v12) (k1_pay10 (F := Ideal) i v0 v1 v8 v12) (k1_pay11 (F := Ideal) i v0 v1 v8 v12)
        (k1_pay12 (F := Ideal) i v0 v1 v8 v12) (Scalar.cmpi .eq (BitVec.ofNat 32 (i 0).val) 1#32) (ix2 r k)
      = ahead (fill fun u => (∑ l : Fin 512, y u l * v8 (ix2 0 l) * v12 (ix3 0 k l)) * ((1 / count g u.val : ℝ) : EReal)) (width g) (t.val * 512 + r.val)
        - ∑ l : Fin 512, y ⟨t.val * 512 + r.val, by omega⟩ l * v8 (ix2 0 l) * v12 (ix3 0 k l) := by
  have hz : ∀ ρ : Fin 528, spreadOf i (k1_pay9 (F := Ideal) i v0 v1 v8 v12) (ix2 ρ k)
      = fill (fun u => (∑ l : Fin 512, y u l * v8 (ix2 0 l) * v12 (ix3 0 k l)) * ((1 / count g u.val : ℝ) : EReal)) (t.val * 512 + ρ.val) := fun ρ => by
    rw [spreadOf_at i _ g t hg ht, back_at i v0 v1 v8 v12 t y ht hy]
    unfold fill
    split
    · rfl
    · rw [zero_mul]
  have hb := back_at i v0 v1 v8 v12 t y ht hy ⟨r.val, by omega⟩ k
  rw [pay1_grad, hb, hg, pay12_eq, hg, pick_eq, pay11_eq, pay10_eq]
  generalize (fun u : Fin 4096 => (∑ l : Fin 512, y u l * v8 (ix2 0 l) * v12 (ix3 0 k l)) * ((1 / count g u.val : ℝ) : EReal)) = x at hz ⊢
  rw [fill, dif_pos (by dsimp only; omega)]
  congr 1
  generalize spreadOf i (k1_pay9 (F := Ideal) i v0 v1 v8 v12) = E at hz ⊢
  have s1 := on_step (fun n => fill x (t.val * 512 + n)) 1 (by omega) E k (fun ρ _ => by rw [Finset.sum_range_one]; exact hz ρ)
  have s2 := on_step (fun n => fill x (t.val * 512 + n)) 2 (by omega) _ k s1
  have s4 := on_step (fun n => fill x (t.val * 512 + n)) 4 (by omega) _ k s2
  have s8 := on_step (fun n => fill x (t.val * 512 + n)) 8 (by omega) _ k s4
  have e : ∀ w : ℕ, ∑ j ∈ Finset.range w, fill x (t.val * 512 + (r.val + j)) = ahead (fill x) w (t.val * 512 + r.val) := fun w =>
    Finset.sum_congr rfl fun j _ => congrArg (fill x) (Nat.add_assoc _ _ _).symm
  have h16 : (⟨r.val, by omega⟩ : Fin 528).val + 16 ≤ 528 := by show r.val + 16 ≤ 528; omega
  fin_cases g
  · exact (s1 _ (by omega)).trans (e 2)
  · exact (s2 _ (by omega)).trans (e 4)
  · exact (s4 _ (by omega)).trans (e 8)
  · exact (s8 _ (by omega)).trans (e 16)

end Cert.PoolKernelIdeal.RefValue
-- ==== Proof.PoolTiles.lean ====
/- The pool's forward and gradient calls, tile by tile, and what their run leaves. -/
module

public import proofs.«01_k».proof.Proof.PoolWin

@[expose] public section

set_option maxRecDepth 16384

noncomputable section

open Idealize.ShloMosaic Idealize.ShloMosaic.TcCoe Idealize.SL.Sem
open Idealize.ShloMosaic.Pipeline (Dat)
open Cert.Arith Cert.PoolSpec

namespace Cert.PoolKernelIdeal.RefValue
open Cert.PoolKernelIdeal Cert.PoolKernelIdeal.Gen
variable (m : (ℓ : Loc nD τ sig) → Buf (Elt Ideal) ℓ) (ρ : Dev nD → PrngReg) (c : Dev nD)

abbrev argH : Vec Ideal S4096x2048 .f32 := m ((c.tc : Thread nD τ).loc main_arg0)
abbrev argX : Vec Ideal S4096x2048 .f32 := m ((c.tc : Thread nD τ).loc main_arg1)
abbrev argW : Vec Ideal S4x512x512 .f32 := m ((c.tc : Thread nD τ).loc main_arg2)
abbrev argS : Vec Ideal S1x2048 .f32 := m ((c.tc : Thread nD τ).loc main_arg3)
abbrev argDx : Vec Ideal S4096x2048 .f32 := m ((c.tc : Thread nD τ).loc main_arg4)

theorem idx0 : ∀ t : Fin cfg0.N, win0_0.index t = ![t.val % 8, t.val / 8] ∧ win0_1.index t = ![t.val % 8 * 32 - 1, t.val / 8] ∧ win0_2.index t = ![t.val % 8, t.val / 8]
    ∧ win0_3.index t = ![t.val / 8, 0, 0] ∧ win0_4.index t = ![0, t.val / 8] ∧ win0_5.index t = ![t.val % 8, t.val / 8] ∧ win0_6.index t = ![t.val % 8, t.val / 8] :=
  (by decide +kernel : ∀ t : Fin grid0.N, _)
theorem idx1 : ∀ t : Fin cfg1.N, win1_0.index t = ![t.val % 8, t.val / 8] ∧ win1_1.index t = ![min ((t.val % 8 + 1) * 32) 255, t.val / 8] ∧ win1_2.index t = ![t.val % 8, t.val / 8]
    ∧ win1_3.index t = ![t.val / 8, 0, 0] ∧ win1_4.index t = ![0, t.val / 8] ∧ win1_5.index t = ![t.val % 8, t.val / 8]
    ∧ win1_6.index t = ![t.val / 8, 0, 0] ∧ win1_7.index t = ![0, t.val / 8] :=
  (by decide +kernel : ∀ t : Fin grid1.N, _)
theorem lt32 (t : Fin cfg0.N) : t.val < 32 := by have := t.isLt; have h : cfg0.N = 32 := N_0; omega
theorem lt32' (t : Fin cfg1.N) : t.val < 32 := by have := t.isLt; have h : cfg1.N = 32 := N_1; omega
theorem crd0 : ∀ t : Fin cfg0.N, (grid0.coords t 0).val = t.val / 8 ∧ (grid0.coords t 1).val = t.val % 8 := (by decide +kernel : ∀ t : Fin grid0.N, _)
theorem crd1 : ∀ t : Fin cfg1.N, (grid1.coords t 0).val = t.val / 8 ∧ (grid1.coords t 1).val = t.val % 8 := (by decide +kernel : ∀ t : Fin grid1.N, _)

/-- The tile, the group and the row of position `n` of a grid. -/
abbrev til (n : ℕ) : Fin 8 := ⟨n % 8, by omega⟩
abbrev grp (n : ℕ) (h : n < 32) : Fin 4 := ⟨n / 8, by omega⟩
abbrev row (n : ℕ) (i : Fin 512) : Fin 4096 := ⟨n % 8 * 512 + i.val, by omega⟩

theorem V1_arg (a : Ref sig .tc) (h : a ∈ argRefs) : V1 m ρ c a = m ((c.tc : Thread nD τ).loc a) := W1_args m ρ c a h
theorem V1_mix : (V1 m ρ c main_v0 : Vec Ideal S4x512x512 .bf16) = argW m c := by
  show (StableHlo.after hostOps0 (W0 m ρ c) (Proc.devRef .tc main_v0) : Vec Ideal S4x512x512 .bf16) = _
  entry_read
  rfl

section forward
variable (t : Fin cfg0.N)

theorem blk0_0 (i l : Fin 512) : (iblk0 (V1 m ρ) c 0 t : Vec Ideal S512x512 .f32) (ix2 i l) = argH m c (ix2 (row t.val i) (col (grp t.val (lt32 t)) l)) := by
  rw [show argH m c = V1 m ρ c main_arg0 from (V1_arg m ρ c _ (by decide)).symm]
  blk_ext [iblk0, idx0 t]
theorem blk0_1 (i : Fin 16) (l : Fin 512) (hp : 0 < t.val % 8) :
    (iblk0 (V1 m ρ) c 1 t : Vec Ideal S16x512 .f32) (ix2 i l) = argH m c (ix2 ⟨t.val % 8 * 512 + i.val - 16, by omega⟩ (col (grp t.val (lt32 t)) l)) := by
  have e : (⟨t.val % 8 * 512 + i.val - 16, by omega⟩ : Fin 4096) = ⟨(t.val % 8 * 32 - 1) * 16 + i.val, by omega⟩ := Fin.ext (by dsimp only; omega)
  rw [e, show argH m c = V1 m ρ c main_arg0 from (V1_arg m ρ c _ (by decide)).symm]
  blk_ext [iblk0, idx0 t]
theorem blk0_2 (i l : Fin 512) : (iblk0 (V1 m ρ) c 2 t : Vec Ideal S512x512 .f32) (ix2 i l) = argX m c (ix2 (row t.val i) (col (grp t.val (lt32 t)) l)) := by
  rw [show argX m c = V1 m ρ c main_arg1 from (V1_arg m ρ c _ (by decide)).symm]
  blk_ext [iblk0, idx0 t]
theorem blk0_3 (k l : Fin 512) : (iblk0 (V1 m ρ) c 3 t : Vec Ideal S1x512x512 .bf16) (ix3 0 k l) = argW m c (ix3 (grp t.val (lt32 t)) k l) := by
  rw [← V1_mix m ρ]
  blk_ext [iblk0, idx0 t]
theorem blk0_4 (l : Fin 512) : (iblk0 (V1 m ρ) c 4 t : Vec Ideal S1x512 .f32) (ix2 0 l) = argS m c (ix2 0 (col (grp t.val (lt32 t)) l)) := by
  rw [show argS m c = V1 m ρ c main_arg3 from (V1_arg m ρ c _ (by decide)).symm]
  blk_ext [iblk0, idx0 t]

theorem pool_blk (i l : Fin 512) : k0_pay2 (F := Ideal) (grid0.coords t) (iblk0 (V1 m ρ) c 0 t) (iblk0 (V1 m ρ) c 1 t) (ix2 i l)
    = pooled (argH m c) (row t.val i) (grp t.val (lt32 t)) l :=
  pool_at (grid0.coords t) _ _ (grp t.val (lt32 t)) (til t.val) (crd0 t).1 (crd0 t).2 l (fun u => argH m c (ix2 u (col (grp t.val (lt32 t)) l)))
    (fun r => blk0_0 m ρ c t r l) (fun r hp => blk0_1 m ρ c t r l hp) i

/-- The array of rows that holds `P`. -/
def arr (P : Fin 4096 → Fin 4 → Fin 512 → EReal) : Vec Ideal S4096x2048 .f32 := fun j =>
  P ⟨(j 0).val, (j 0).isLt⟩ ⟨(j 1).val / 512, by have h : (j 1).val < 2048 := (j 1).isLt; omega⟩ ⟨(j 1).val % 512, by omega⟩
theorem arr_at (P : Fin 4096 → Fin 4 → Fin 512 → EReal) (z : S4096x2048.Idx) (r : Fin 4096) (g : Fin 4) (l : Fin 512) (h0 : (z 0).val = r.val)
    (h1 : (z 1).val = g.val * 512 + l.val) : arr P z = P r g l := by
  have e0 : (⟨(z 0).val, (z 0).isLt⟩ : Fin 4096) = r := Fin.ext h0
  have hz : (z 1).val < 2048 := (z 1).isLt
  have e1 : (⟨(z 1).val / 512, by omega⟩ : Fin 4) = g := Fin.ext (by dsimp only; omega)
  have e2 : (⟨(z 1).val % 512, by omega⟩ : Fin 512) = l := Fin.ext (by dsimp only; omega)
  show P ⟨(z 0).val, _⟩ ⟨(z 1).val / 512, _⟩ ⟨(z 1).val % 512, _⟩ = _
  rw [e0, e1, e2]

def outArr : Vec Ideal S4096x2048 .f32 := arr (out (argH m c) (argX m c) (argW m c) (argS m c))
def poolArr : Vec Ideal S4096x2048 .bf16 := arr (pooled (argH m c))
def dhArr : Vec Ideal S4096x2048 .f32 := arr (dh (argDx m c) (argW m c) (argS m c))
def dwArr : Vec Ideal S4x512x512 .f32 := fun j => dw (argH m c) (argDx m c) (argS m c) (j 0) (j 1) (j 2)
def dsArr : Vec Ideal S1x2048 .f32 := fun j => ds (argH m c) (argDx m c) (argW m c) ⟨(j 1).val / 512, by have h : (j 1).val < 2048 := (j 1).isLt; omega⟩ ⟨(j 1).val % 512, by omega⟩

theorem point5 (y : S512x512.Idx) : out0_5 (F := Ideal) (grid0.coords t) (iblk0 (V1 m ρ) c 0 t) (iblk0 (V1 m ρ) c 1 t) (iblk0 (V1 m ρ) c 2 t) (iblk0 (V1 m ρ) c 3 t) (iblk0 (V1 m ρ) c 4 t) y
    = out (argH m c) (argX m c) (argW m c) (argS m c) (row t.val (y 0)) (grp t.val (lt32 t)) (y 1) := by
  idx_vars y
  unfold out0_5
  frame_out
  rw [pay1_at, blk0_2, blk0_4]
  simp only [pool_blk, blk0_3]
  rfl
theorem point6 (y : S512x512.Idx) : out0_6 (F := Ideal) (grid0.coords t) (iblk0 (V1 m ρ) c 0 t) (iblk0 (V1 m ρ) c 1 t) (iblk0 (V1 m ρ) c 2 t) (iblk0 (V1 m ρ) c 3 t) (iblk0 (V1 m ρ) c 4 t) y
    = pooled (argH m c) (row t.val (y 0)) (grp t.val (lt32 t)) (y 1) := by
  idx_vars y
  unfold out0_6
  frame_out
  rw [pool_blk]
theorem place5 (y : S512x512.Idx) : ((win0_5.blk t).view.emb y 0).val = (row t.val (y 0)).val
    ∧ ((win0_5.blk t).view.emb y 1).val = (grp t.val (lt32 t)).val * 512 + (y 1).val := by
  constructor <;> simp [idx0 t]
theorem place6 (y : S512x512.Idx) : ((win0_6.blk t).view.emb y 0).val = (row t.val (y 0)).val
    ∧ ((win0_6.blk t).view.emb y 1).val = (grp t.val (lt32 t)).val * 512 + (y 1).val := by
  constructor <;> simp [idx0 t]
theorem final0_5 : (dat0 (V1 m ρ) c).arrAt 5 cfg0.N = outArr m c := by
  refine (dat0 (V1 m ρ) c).arrAt_eq_of_covers 5 _ (by decide +kernel) fun t hf y => ?_
  blk_simp
  rw [after0_5]
  have e := place5 t y
  have hp := point5 m ρ c t y
  generalize (win0_5.blk t).view.emb y = z at e ⊢
  exact hp.trans (arr_at _ z _ _ _ e.1 e.2).symm
theorem final0_6 : (dat0 (V1 m ρ) c).arrAt 6 cfg0.N = poolArr m c := by
  refine (dat0 (V1 m ρ) c).arrAt_eq_of_covers 6 _ (by decide +kernel) fun t hf y => ?_
  blk_simp
  rw [after0_6]
  have e := place6 t y
  have hp := point6 m ρ c t y
  generalize (win0_6.blk t).view.emb y = z at e ⊢
  exact hp.trans (arr_at _ z _ _ _ e.1 e.2).symm
end forward

/-! ## The gradient call, entered from what the forward call leaves -/

theorem V2_arg (a : Ref sig .tc) (h : a ∈ argRefs) : V2 m ρ c a = m ((c.tc : Thread nD τ).loc a) := W2_args m ρ c a h
theorem V2_mix : (V2 m ρ c main_v0 : Vec Ideal S4x512x512 .bf16) = argW m c := (W2_of m ρ c main_v0 (by decide)).trans (V1_mix m ρ c)
theorem V2_pool : (V2 m ρ c main_v1_1 : Vec Ideal S4096x2048 .bf16) = poolArr m c := (W2_arr m ρ c 6).trans (final0_6 m ρ c)

section backward
variable (t : Fin cfg1.N)

theorem blk1_0 (i l : Fin 512) : (iblk1 (V2 m ρ) c 0 t : Vec Ideal S512x512 .f32) (ix2 i l) = argDx m c (ix2 (row t.val i) (col (grp t.val (lt32' t)) l)) := by
  rw [show argDx m c = V2 m ρ c main_arg4 from (V2_arg m ρ c _ (by decide)).symm]
  blk_ext [iblk1, idx1 t]
theorem blk1_1 (i : Fin 16) (l : Fin 512) (hp : t.val % 8 < 7) :
    (iblk1 (V2 m ρ) c 1 t : Vec Ideal S16x512 .f32) (ix2 i l) = argDx m c (ix2 ⟨t.val % 8 * 512 + 512 + i.val, by omega⟩ (col (grp t.val (lt32' t)) l)) := by
  have e : (⟨t.val % 8 * 512 + 512 + i.val, by omega⟩ : Fin 4096) = ⟨min ((t.val % 8 + 1) * 32) 255 * 16 + i.val, by omega⟩ := Fin.ext (by dsimp only; omega)
  rw [e, show argDx m c = V2 m ρ c main_arg4 from (V2_arg m ρ c _ (by decide)).symm]
  blk_ext [iblk1, idx1 t]
theorem blk1_2 (i l : Fin 512) : (iblk1 (V2 m ρ) c 2 t : Vec Ideal S512x512 .bf16) (ix2 i l) = pooled (argH m c) (row t.val i) (grp t.val (lt32' t)) l := by
  have e := arr_at (pooled (argH m c)) (ix2 (row t.val i) (col (grp t.val (lt32' t)) l)) (row t.val i) (grp t.val (lt32' t)) l rfl rfl
  rw [← e, show arr (pooled (argH m c)) = V2 m ρ c main_v1_1 from (V2_pool m ρ c).symm]
  blk_ext [iblk1, idx1 t]
theorem blk1_3 (k l : Fin 512) : (iblk1 (V2 m ρ) c 3 t : Vec Ideal S1x512x512 .bf16) (ix3 0 k l) = argW m c (ix3 (grp t.val (lt32' t)) k l) := by
  rw [← V2_mix m ρ]
  blk_ext [iblk1, idx1 t]
theorem blk1_4 (l : Fin 512) : (iblk1 (V2 m ρ) c 4 t : Vec Ideal S1x512 .f32) (ix2 0 l) = argS m c (ix2 0 (col (grp t.val (lt32' t)) l)) := by
  rw [show argS m c = V2 m ρ c main_arg3 from (V2_arg m ρ c _ (by decide)).symm]
  blk_ext [iblk1, idx1 t]

theorem reads : Reads (til t.val) (fun u l => argDx m c (ix2 u (col (grp t.val (lt32' t)) l))) (iblk1 (V2 m ρ) c 0 t) (iblk1 (V2 m ρ) c 1 t) :=
  ⟨fun r l => blk1_0 m ρ c t r l, fun r l hp => blk1_1 m ρ c t r l hp⟩
theorem dh_blk (y : S512x512.Idx) :
    k1_pay1 (F := Ideal) (BitVec.ofNat 32 (grid1.coords t 0).val) (k1_pay9 (grid1.coords t) (iblk1 (V2 m ρ) c 0 t) (iblk1 (V2 m ρ) c 1 t) (iblk1 (V2 m ρ) c 4 t) (iblk1 (V2 m ρ) c 3 t))
      (k1_pay10 (grid1.coords t) (iblk1 (V2 m ρ) c 0 t) (iblk1 (V2 m ρ) c 1 t) (iblk1 (V2 m ρ) c 4 t) (iblk1 (V2 m ρ) c 3 t))
      (k1_pay11 (grid1.coords t) (iblk1 (V2 m ρ) c 0 t) (iblk1 (V2 m ρ) c 1 t) (iblk1 (V2 m ρ) c 4 t) (iblk1 (V2 m ρ) c 3 t))
      (k1_pay12 (grid1.coords t) (iblk1 (V2 m ρ) c 0 t) (iblk1 (V2 m ρ) c 1 t) (iblk1 (V2 m ρ) c 4 t) (iblk1 (V2 m ρ) c 3 t))
      (Scalar.cmpi .eq (BitVec.ofNat 32 (grid1.coords t 0).val) 1#32) y
    = dh (argDx m c) (argW m c) (argS m c) (row t.val (y 0)) (grp t.val (lt32' t)) (y 1) := by
  idx_vars y
  refine (grad_at (grid1.coords t) _ _ _ _ (til t.val) _ (crd1 t).2 (reads m ρ c t) (grp t.val (lt32' t)) (crd1 t).1 y0 y1).trans ?_
  simp only [blk1_4, blk1_3]
  rfl

/-- What a grid point adds to the gradients of the mixing and of the scale. -/
def partW (p : Fin cfg1.N) (j : S1x512x512.Idx) : EReal :=
  ∑ i : Fin 512, pooled (argH m c) (row p.val i) (grp p.val (lt32' p)) (j 1) * dmixed (argDx m c) (argS m c) (row p.val i) (grp p.val (lt32' p)) (j 2)
def partS (p : Fin cfg1.N) (j : S1x512.Idx) : EReal :=
  ∑ i : Fin 512, argDx m c (ix2 (row p.val i) (col (grp p.val (lt32' p)) (j 1))) * mixed (argH m c) (argW m c) (row p.val i) (grp p.val (lt32' p)) (j 1)

theorem pay6_part (acc : Vec Ideal S1x512x512 .f32) (j : S1x512x512.Idx) :
    k1_pay6 (F := Ideal) (k1_pay7 (grid1.coords t) (iblk1 (V2 m ρ) c 0 t) (iblk1 (V2 m ρ) c 1 t) (iblk1 (V2 m ρ) c 4 t)) (iblk1 (V2 m ρ) c 2 t) acc j = acc j + partW m c t j := by
  obtain ⟨j0, j1, j2, rfl⟩ : ∃ (a : Fin 1) (b d : Fin 512), j = ix3 a b d := ⟨j 0, j 1, j 2, by funext a; fin_cases a <;> rfl⟩
  obtain rfl : j0 = 0 := Subsingleton.elim _ _
  rw [pay6_at]
  congr 1
  refine Finset.sum_congr rfl fun i _ => ?_
  rw [blk1_2, scaled_at (grid1.coords t) _ _ _ (til t.val) _ (crd1 t).2 (reads m ρ c t), blk1_4, fill, dif_pos (by dsimp only; omega)]
  rfl
theorem pay5_part (acc : Vec Ideal S1x512 .f32) (j : S1x512.Idx) :
    k1_pay5 (F := Ideal) (iblk1 (V2 m ρ) c 0 t) (k1_pay8 (iblk1 (V2 m ρ) c 3 t)) (iblk1 (V2 m ρ) c 2 t) acc j = acc j + partS m c t j := by
  obtain ⟨j0, j1, rfl⟩ : ∃ (a : Fin 1) (b : Fin 512), j = ix2 a b := ⟨j 0, j 1, by funext a; fin_cases a <;> rfl⟩
  obtain rfl : j0 = 0 := Subsingleton.elim _ _
  rw [pay5_at]
  congr 1
  refine Finset.sum_congr rfl fun i _ => ?_
  rw [blk1_0]
  congr 1
  refine Finset.sum_congr rfl fun k _ => ?_
  rw [blk1_2, pay8_at, blk1_3]
  rfl
theorem place1_5 (y : S512x512.Idx) : ((win1_5.blk t).view.emb y 0).val = (row t.val (y 0)).val
    ∧ ((win1_5.blk t).view.emb y 1).val = (grp t.val (lt32' t)).val * 512 + (y 1).val := by
  constructor <;> simp [idx1 t]
theorem place1_6 (y : S1x512x512.Idx) : ((win1_6.blk t).view.emb y 0).val = (grp t.val (lt32' t)).val
    ∧ ((win1_6.blk t).view.emb y 1).val = (y 1).val ∧ ((win1_6.blk t).view.emb y 2).val = (y 2).val := by
  refine ⟨?_, ?_, ?_⟩ <;> simp [idx1 t]
theorem place1_7 (y : S1x512.Idx) : ((win1_7.blk t).view.emb y 1).val = (grp t.val (lt32' t)).val * 512 + (y 1).val := by
  simp [idx1 t]

theorem final1_5 : (dat1 (V2 m ρ) c).arrAt 5 cfg1.N = dhArr m c := by
  refine (dat1 (V2 m ρ) c).arrAt_eq_of_covers 5 _ (by decide +kernel) fun t hf y => ?_
  blk_simp
  rw [after1_5]
  have e := place1_5 t y
  have hp : (outsAt1 (V2 m ρ) c t.val t.isLt).1 y = dh (argDx m c) (argW m c) (argS m c) (row t.val (y 0)) (grp t.val (lt32' t)) (y 1) := by
    by_cases h : t.val % 8 = 0
    · rw [outsAt1_A (V2 m ρ) c t h]; frame_out; exact dh_blk m ρ c t y
    · rw [outsAt1_B (V2 m ρ) c t h]; frame_out; exact dh_blk m ρ c t y
  generalize (win1_5.blk t).view.emb y = z at e ⊢
  exact hp.trans (arr_at _ z _ _ _ e.1 e.2).symm

theorem dw_at (z : S4x512x512.Idx) (n : ℕ) (hn : n < 32) (k l : Fin 512) (h0 : (z 0).val = (grp n hn).val) (h1 : (z 1).val = k.val) (h2 : (z 2).val = l.val) :
    dwArr m c z = dw (argH m c) (argDx m c) (argS m c) (grp n hn) k l := by
  show dw _ _ _ (z 0) (z 1) (z 2) = _
  rw [show (z 0 : Fin 4) = grp n hn from Fin.ext h0, show (z 1 : Fin 512) = k from Fin.ext h1, show (z 2 : Fin 512) = l from Fin.ext h2]
theorem ds_at (z : S1x2048.Idx) (n : ℕ) (hn : n < 32) (l : Fin 512) (h : (z 1).val = (grp n hn).val * 512 + l.val) :
    dsArr m c z = ds (argH m c) (argDx m c) (argW m c) (grp n hn) l := by
  have hz : (z 1).val < 2048 := (z 1).isLt
  have e1 : (⟨(z 1).val / 512, by omega⟩ : Fin 4) = grp n hn := Fin.ext (by dsimp only at h ⊢; omega)
  have e2 : (⟨(z 1).val % 512, by omega⟩ : Fin 512) = l := Fin.ext (by dsimp only at h ⊢; omega)
  show ds _ _ _ ⟨(z 1).val / 512, _⟩ ⟨(z 1).val % 512, _⟩ = _
  rw [e1, e2]
/-- The positions of a group: its tiles in order. -/
theorem pos (s : Fin 8) (n : ℕ) (hn : n < 32) (h : 8 * (n / 8) + s.val < 32) (i : Fin 512) :
    row (8 * (n / 8) + s.val) i = ⟨s.val * 512 + i.val, by omega⟩ ∧ grp (8 * (n / 8) + s.val) h = grp n hn :=
  ⟨Fin.ext (by show (8 * (n / 8) + s.val) % 8 * 512 + i.val = s.val * 512 + i.val; omega), Fin.ext (by show (8 * (n / 8) + s.val) / 8 = n / 8; omega)⟩

theorem final1_6 : (dat1 (V2 m ρ) c).arrAt 6 cfg1.N = dwArr m c := by
  refine (dat1 (V2 m ρ) c).arrAt_eq_of_covers 6 _ (by decide +kernel) fun t hf y => ?_
  blk_simp
  rw [after1_6]
  have e := place1_6 t y
  refine (show _ = (outsAt1 (V2 m ρ) c t.val t.isLt).2.1 y from rfl).trans ?_
  rw [Pipeline.eq_sum_fin_of_reset_step_apply_of_flush (fun n h => (outsAt1 (V2 m ρ) c n h).2.1) 8 (fun _ => 0) (fun p j => partW m c p j)
    (fun t h j => by rw [outsAt1_A (V2 m ρ) c t h]; frame_out; rw [pay6_part, pay3_at])
    (fun t h j => by rw [outsAt1_B (V2 m ρ) c t h]; frame_out; rw [pay6_part])
    t ((flush1_6 t).mp hf) y, zero_add]
  generalize (win1_6.blk t).view.emb y = z at e ⊢
  refine Eq.trans ?_ (dw_at m c z t.val (lt32' t) (y 1) (y 2) e.1 e.2.1 e.2.2).symm
  unfold dw
  rw [rows_tiles]
  refine Finset.sum_congr rfl fun s _ => Finset.sum_congr rfl fun i _ => ?_
  have hp := pos s t.val (lt32' t) (by have := lt32' t; omega) i
  exact congrArg₂ (fun r g => pooled (argH m c) r g (y 1) * dmixed (argDx m c) (argS m c) r g (y 2)) hp.1 hp.2

theorem final1_7 : (dat1 (V2 m ρ) c).arrAt 7 cfg1.N = dsArr m c := by
  refine (dat1 (V2 m ρ) c).arrAt_eq_of_covers 7 _ (by decide +kernel) fun t hf y => ?_
  blk_simp
  rw [after1_7]
  have e := place1_7 t y
  refine (show _ = (outsAt1 (V2 m ρ) c t.val t.isLt).2.2 y from rfl).trans ?_
  rw [Pipeline.eq_sum_fin_of_reset_step_apply_of_flush (fun n h => (outsAt1 (V2 m ρ) c n h).2.2) 8 (fun _ => 0) (fun p j => partS m c p j)
    (fun t h j => by rw [outsAt1_A (V2 m ρ) c t h]; frame_out; rw [pay5_part, pay4_at])
    (fun t h j => by rw [outsAt1_B (V2 m ρ) c t h]; frame_out; rw [pay5_part])
    t ((flush1_7 t).mp hf) y, zero_add]
  generalize (win1_7.blk t).view.emb y = z at e ⊢
  refine Eq.trans ?_ (ds_at m c z t.val (lt32' t) (y 1) e).symm
  unfold ds
  rw [rows_tiles]
  refine Finset.sum_congr rfl fun s _ => Finset.sum_congr rfl fun i _ => ?_
  have hp := pos s t.val (lt32' t) (by have := lt32' t; omega) i
  exact congrArg₂ (fun r g => argDx m c (ix2 r (col g (y 1))) * mixed (argH m c) (argW m c) r g (y 1)) hp.1 hp.2
end backward

theorem exit_out : (W3 m ρ c (Proc.devRef .tc main_v1_0) : Vec Ideal S4096x2048 .f32) = outArr m c :=
  (W3_of_ne m ρ c main_v1_0 (by decide)).trans ((W2_arr m ρ c 5).trans (final0_5 m ρ c))
theorem exit_dh : (W3 m ρ c (Proc.devRef .tc main_v2_0) : Vec Ideal S4096x2048 .f32) = dhArr m c := (W3_arr m ρ c 5).trans (final1_5 m ρ c)
theorem exit_dw : (W3 m ρ c (Proc.devRef .tc main_v2_1) : Vec Ideal S4x512x512 .f32) = dwArr m c := (W3_arr m ρ c 6).trans (final1_6 m ρ c)
theorem exit_ds : (W3 m ρ c (Proc.devRef .tc main_v2_2) : Vec Ideal S1x2048 .f32) = dsArr m c := (W3_arr m ρ c 7).trans (final1_7 m ρ c)

section launch
open Idealize.ShloMosaic.Tactic Idealize.SL Idealize.SL.RA Idealize.SL.BI Idealize.SL.BI.BIBase Idealize.SL.BI.Laws Idealize.SL.ProofMode
open Idealize.ShloMosaic.Rounds
open scoped Idealize.SL.BI

set_option backward.isDefEq.respectTransparency.types false in
/-- The run, read at every buffer: each ends at the last boundary's contents. -/
theorem exit_run : θ_run defs (onTc (τ := τ) (main (F := Ideal))) ⟨m, fun _ => 0, ρ⟩ (fun r => ∀ c : Dev nD,
    ∀ b ∈ Pipeline.ucRefs τ sig, r.2.mem (((c : Thread nD τ)).1, b) = W3 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h hz => h)
end launch

end Cert.PoolKernelIdeal.RefValue
-- ==== Proof.PoolRef.lean ====
/- The reference's pool, over the reals: its running sums, their differences, and the gradients that `jax.vjp` makes of them. -/
module

public import proofs.«01_k».proof.Proof.PoolSpec
public import proofs.«01_k».proof.Proof.Gen.PoolReferenceIdeal.Run
public import proofs.«01_k».proof.Proof.Gen.PoolReferenceIdeal.Read

@[expose] public section

set_option maxRecDepth 16384

noncomputable section

open Idealize.ShloMosaic Idealize.ShloMosaic.TcCoe Idealize.ShloMosaic.Tactic
open Cert.Arith Cert.PoolSpec

namespace Cert.PoolReferenceIdeal.Named
open Cert.PoolReferenceIdeal Cert.PoolReferenceIdeal.Gen Cert.PoolReferenceIdeal.Read

/-! ## Running sums along the rows -/

theorem fold_add {ι : Type*} (l : List ι) (g : ι → EReal) (v : EReal) : l.foldl (fun r n => r + g n) v = v + (l.map g).sum := by
  induction l generalizing v with
  | nil => simp
  | cons a l ih => rw [List.foldl_cons, ih, List.map_cons, List.sum_cons, add_assoc]

/-- The positions of a window that spans the rows. -/
def spanRows : (⟨3, ![4096, 1, 1]⟩ : Shape).Idx ≃ Fin 4096 where
  toFun i := i 0
  invFun w := ix3 w 0 0
  left_inv i := by
    idx_vars i
    rw [Fin.fin_one_eq_zero i1, Fin.fin_one_eq_zero i2]
  right_inv w := rfl

/-- Where a window's position lies in the array. -/
def Inside (lo : Fin 3 → ℕ) (j : S4096x4x512.Idx) (i : (⟨3, ![4096, 1, 1]⟩ : Shape).Idx) : Prop :=
  ∀ a : Fin 3, lo a ≤ (j a).val * ![1, 1, 1] a + (i a).val ∧ (j a).val * ![1, 1, 1] a + (i a).val - lo a < S4096x4x512.size a
instance (lo : Fin 3 → ℕ) (j : S4096x4x512.Idx) (i : (⟨3, ![4096, 1, 1]⟩ : Shape).Idx) : Decidable (Inside lo j i) := by unfold Inside; infer_instance

theorem windows (lo hi : Fin 3 → ℕ) (h : S4096x4x512.ReduceWindows ![4096, 1, 1] ![1, 1, 1] lo hi S4096x4x512) (x : S4096x4x512.Idx → EReal) (j : S4096x4x512.Idx)
    (f : ℕ → ℝ)
    (hf : ∀ w : Fin 4096, (if hin : Inside lo j (ix3 w 0 0) then x (fun a => ⟨_, (hin a).2⟩) else 0) = ((f w.val : ℝ) : EReal)) :
    Ideal.hostReduceWindowAdd ![4096, 1, 1] ![1, 1, 1] lo hi h x 0 j = ((∑ w ∈ Finset.range 4096, f w : ℝ) : EReal) := by
  unfold Ideal.hostReduceWindowAdd Host.reduceWindow
  dsimp only
  rw [fold_add, zero_add, ← Fin.sum_univ_def, Finset.sum_range, coe_sum]
  refine (Finset.sum_congr rfl fun n _ => ?_).trans ((Equiv.sum_comp (Shape.rowMajor (⟨3, ![4096, 1, 1]⟩ : Shape)).symm
    (fun i => if hin : Inside lo j i then x (fun a => ⟨_, (hin a).2⟩) else 0)).trans ?_)
  · by_cases hin : Inside lo j ((Shape.rowMajor (⟨3, ![4096, 1, 1]⟩ : Shape)).symm n)
    · exact (dif_pos hin).trans (by rw [dif_pos hin]; rfl)
    · exact (dif_neg hin).trans (by rw [dif_neg hin])
  rw [← Equiv.sum_comp spanRows.symm]
  exact Finset.sum_congr rfl fun w _ => hf w

theorem sum_first (x : FVec Ideal S4096x4x512 .f32) (v : FVec Ideal S_ .f32) (f : Fin 4096 → ℝ) (hv : v (Shape.Idx.first h_S_) = 0) (r : Fin 4096) (g : Fin 4) (l : Fin 512)
    (hx : ∀ u, x (ix3 u g l) = ((f u : ℝ) : EReal)) :
    Host.reduceWindowAdd ![4096, 1, 1] ![1, 1, 1] ![4095, 0, 0] ![0, 0, 0] x v reduceWindows_S4096x4x512_S4096x4x512_w4096s1p4095_0_w1s1p0_0_w1s1p0_0 h_S_ (ix3 r g l)
      = ((upto f (r.val + 1) : ℝ) : EReal) := by
  unfold Host.reduceWindowAdd
  rw [hv, Ideal.hostReduceWindowAdd_def, windows _ _ _ x _ (fun w => if 4095 ≤ r.val + w then fillR f (r.val + w - 4095) else 0)]
  · have e := Finset.sum_range_add (fun w => if 4095 ≤ r.val + w then fillR f (r.val + w - 4095) else 0) (4095 - r.val) (r.val + 1)
    rw [show 4095 - r.val + (r.val + 1) = 4096 by omega] at e
    rw [e, Finset.sum_eq_zero (fun w hw => if_neg (by have := Finset.mem_range.mp hw; omega)), zero_add, upto]
    congr 1
    refine Finset.sum_congr rfl fun k _ => ?_
    have e1 : 4095 ≤ r.val + (4095 - r.val + k) := by omega
    have e2 : r.val + (4095 - r.val + k) - 4095 = k := by omega
    rw [if_pos e1, e2]
  · intro w
    by_cases hw : 4095 ≤ r.val + w.val
    · have hin : Inside ![4095, 0, 0] (ix3 r g l) (ix3 w 0 0) := by
        intro k
        match k with
        | ⟨0, _⟩ => show 4095 ≤ r.val * 1 + w.val ∧ r.val * 1 + w.val - 4095 < 4096; omega
        | ⟨1, _⟩ => show 0 ≤ g.val * 1 + 0 ∧ g.val * 1 + 0 - 0 < 4; omega
        | ⟨2, _⟩ => show 0 ≤ l.val * 1 + 0 ∧ l.val * 1 + 0 - 0 < 512; omega
      have hlt : r.val + w.val - 4095 < 4096 := by omega
      have hi : ∀ lo : ℕ, ∀ hin : Inside ![lo, 0, 0] (ix3 r g l) (ix3 w 0 0), ∀ hlt : r.val + w.val - lo < 4096,
          (fun a => ⟨_, (hin a).2⟩ : S4096x4x512.Idx) = ix3 ⟨r.val + w.val - lo, hlt⟩ g l := by
        intro lo hin hlt
        funext k
        apply Fin.ext
        match k with
        | ⟨0, _⟩ => show r.val * 1 + w.val - lo = r.val + w.val - lo; omega
        | ⟨1, _⟩ => show g.val * 1 + 0 - 0 = g.val; omega
        | ⟨2, _⟩ => show l.val * 1 + 0 - 0 = l.val; omega
      rw [dif_pos hin, if_pos hw, fillR, dif_pos hlt, ← hx, hi 4095 hin hlt]
    · rw [dif_neg, if_neg hw, EReal.coe_zero]
      intro hin
      have h0 : 4095 ≤ r.val * 1 + w.val := (hin 0).1
      omega

theorem sum_rest (x : FVec Ideal S4096x4x512 .f32) (v : FVec Ideal S_ .f32) (f : Fin 4096 → ℝ) (hv : v (Shape.Idx.first h_S_) = 0) (r : Fin 4096) (g : Fin 4) (l : Fin 512)
    (hx : ∀ u, x (ix3 u g l) = ((f u : ℝ) : EReal)) :
    Host.reduceWindowAdd ![4096, 1, 1] ![1, 1, 1] ![0, 0, 0] ![4095, 0, 0] x v reduceWindows_S4096x4x512_S4096x4x512_w4096s1p0_4095_w1s1p0_0_w1s1p0_0 h_S_ (ix3 r g l)
      = ((since f r.val : ℝ) : EReal) := by
  unfold Host.reduceWindowAdd
  rw [hv, Ideal.hostReduceWindowAdd_def, windows _ _ _ x _ (fun w => fillR f (r.val + w))]
  · rfl
  · intro w
    by_cases hw : r.val + w.val < 4096
    · have hin : Inside ![0, 0, 0] (ix3 r g l) (ix3 w 0 0) := by
        intro k
        match k with
        | ⟨0, _⟩ => show 0 ≤ r.val * 1 + w.val ∧ r.val * 1 + w.val - 0 < 4096; omega
        | ⟨1, _⟩ => show 0 ≤ g.val * 1 + 0 ∧ g.val * 1 + 0 - 0 < 4; omega
        | ⟨2, _⟩ => show 0 ≤ l.val * 1 + 0 ∧ l.val * 1 + 0 - 0 < 512; omega
      rw [dif_pos hin, fillR, dif_pos hw, ← hx]
      congr 1
      funext k
      apply Fin.ext
      match k with
      | ⟨0, _⟩ => show r.val * 1 + w.val - 0 = r.val + w.val; omega
      | ⟨1, _⟩ => show g.val * 1 + 0 - 0 = g.val; omega
      | ⟨2, _⟩ => show l.val * 1 + 0 - 0 = l.val; omega
    · rw [dif_neg, fillR, dif_neg hw, EReal.coe_zero]
      intro hin
      have h0 : r.val * 1 + w.val - 0 < 4096 := (hin 0).2
      omega

variable (H : Fin 4096 → Fin 2048 → ℝ)
/-- Rows of reals, as an argument. -/
def rows : Rows := fun i => ((H (i 0) (i 1) : ℝ) : EReal)

theorem v0_at (x0 : Rows) (r : Fin 4096) (g : Fin 4) (l : Fin 512) : val_main_v0 (F := Ideal) x0 (ix3 r g l) = x0 (ix2 r (col g l)) := by
  pointwise [val_main_v0]
theorem zero0 : val_main_call0_call0_v0 (F := Ideal) (Shape.Idx.first h_S_) = 0 := Ideal.ofBits_zero_f32
theorem zero1 : val_main_call1_call0_v0 (F := Ideal) (Shape.Idx.first h_S_) = 0 := Ideal.ofBits_zero_f32
theorem v1_at (r : Fin 4096) (g : Fin 4) (l : Fin 512) :
    val_main_v1 (F := Ideal) (rows H) (ix3 r g l) = ((upto (fun u => H u (col g l)) (r.val + 1) : ℝ) : EReal) :=
  sum_first _ _ _ zero0 r g l fun u => v0_at (rows H) u g l

/-! ## The means over the windows -/

/-- The counter of the window that ends at a row. -/
def cnt (g : Fin 4) (r : Fin 4096) : EReal := FloatOps.sitofp (F := Ideal) .f32 (IntOp.minsi (IntOp.addi 1#32 (BitVec.ofNat 32 r.val)) (BitVec.ofNat 32 (width g)))
theorem width_le : ∀ g : Fin 4, width g ≤ 16 := by decide
theorem count_ne (g : Fin 4) (r : ℕ) : PoolSpec.count g r ≠ 0 := by
  unfold PoolSpec.count
  have : 0 < width g := Nat.pos_of_ne_zero (by simp [width])
  exact_mod_cast (by omega : min (r + 1) (width g) ≠ 0)
theorem cnt_eq (g : Fin 4) (r : Fin 4096) : cnt g r = ((PoolSpec.count g r.val : ℝ) : EReal) := by
  have hwg := width_le g
  have hr := r.isLt
  have hi : ∀ n : ℕ, n < 2 ^ 16 → (BitVec.ofNat 32 n).toInt = (n : ℤ) := fun n hn => by
    rw [BitVec.toInt_ofNat', Int.bmod_eq_of_le (by omega) (by omega)]
  have key : (IntOp.minsi (IntOp.addi 1#32 (BitVec.ofNat 32 r.val)) (BitVec.ofNat 32 (width g)) : BitVec 32).toInt = ((min (r.val + 1) (width g) : ℕ) : ℤ) := by
    have ha : (IntOp.addi 1#32 (BitVec.ofNat 32 r.val) : BitVec 32) = BitVec.ofNat 32 (r.val + 1) := by
      show BitVec.ofNat 32 1 + BitVec.ofNat 32 r.val = _
      rw [← BitVec.ofNat_add, Nat.add_comm]
    rw [ha]
    generalize width g = w at hwg ⊢
    show (if (BitVec.ofNat 32 (r.val + 1)).slt (BitVec.ofNat 32 w) then _ else _ : BitVec 32).toInt = _
    rw [BitVec.slt_eq_decide, hi _ (by omega), hi _ (by omega)]
    split
    · rename_i h
      rw [hi _ (by omega), min_eq_left (by simp at h; omega)]
    · rename_i h
      rw [hi _ (by omega), min_eq_right (by simp at h; omega)]
  refine congrArg Real.toEReal ((congrArg (Int.cast (R := ℝ)) key).trans ?_)
  rw [Int.cast_natCast, PoolSpec.count]
theorem div_cnt (x : EReal) (g : Fin 4) (r : Fin 4096) : Ideal.div x (cnt g r) = x * ((1 / PoolSpec.count g r.val : ℝ) : EReal) := by
  rw [cnt_eq, Ideal.div_coe (count_ne g _)]

/-- A group's pool as the reference forms it. -/
theorem pooled_eq (r : Fin 4096) (g : Fin 4) (l : Fin 512) :
    Ideal.div (val_main_v1 (F := Ideal) (rows H) (ix3 r g l) - if h : r.val < width g then 0 else val_main_v1 (F := Ideal) (rows H) (ix3 ⟨r.val - width g, by omega⟩ g l))
      (cnt g r) - val_main_v0 (F := Ideal) (rows H) (ix3 r g l) = pooled (rows H) r g l := by
  have key : (val_main_v1 (F := Ideal) (rows H) (ix3 r g l) - if h : r.val < width g then 0 else val_main_v1 (F := Ideal) (rows H) (ix3 ⟨r.val - width g, by omega⟩ g l))
      = trail (fun u => rows H (ix2 u (col g l))) (width g) r.val := by
    refine Eq.trans ?_ (trail_eq (fun u => H u (col g l)) (width g) (width_le g) r.val).symm
    rw [v1_at, EReal.coe_sub]
    refine congrArg (((upto (fun u => H u (col g l)) (r.val + 1) : ℝ) : EReal) - ·) ?_
    by_cases h : r.val < width g
    · have e0 : r.val + 1 - width g = 0 := by omega
      rw [dif_pos h, e0, upto, Finset.range_zero, Finset.sum_empty, EReal.coe_zero]
    · have e1 : r.val - width g + 1 = r.val + 1 - width g := by omega
      rw [dif_neg h, v1_at, e1]
  rw [div_cnt, v0_at, pooled, key]

theorem pooled0 (r : Fin 4096) (l : Fin 512) : val_main_v21 (F := Ideal) (rows H) (ix2 r l) = pooled (rows H) r 0 l := by
  refine Eq.trans ?_ (pooled_eq H r 0 l)
  pointwise [val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_cst, val_main_c]
  rfl
theorem pooled1 (r : Fin 4096) (l : Fin 512) : val_main_v38 (F := Ideal) (rows H) (ix2 r l) = pooled (rows H) r 1 l := by
  refine Eq.trans ?_ (pooled_eq H r 1 l)
  pointwise [val_main_v38, val_main_v37, val_main_v36, val_main_v35, val_main_v34, val_main_v33, val_main_v32, val_main_v31, val_main_v30, val_main_v29, val_main_v28, val_main_v27, val_main_v26, val_main_v25, val_main_v24, val_main_v23, val_main_v22, val_main_v4, val_main_v3, val_main_v2, val_main_cst_2, val_main_c]
  rfl
theorem pooled2 (r : Fin 4096) (l : Fin 512) : val_main_v55 (F := Ideal) (rows H) (ix2 r l) = pooled (rows H) r 2 l := by
  refine Eq.trans ?_ (pooled_eq H r 2 l)
  pointwise [val_main_v55, val_main_v54, val_main_v53, val_main_v52, val_main_v51, val_main_v50, val_main_v49, val_main_v48, val_main_v47, val_main_v46, val_main_v45, val_main_v44, val_main_v43, val_main_v42, val_main_v41, val_main_v40, val_main_v39, val_main_v4, val_main_v3, val_main_v2, val_main_cst_5, val_main_c]
  rfl
theorem pooled3 (r : Fin 4096) (l : Fin 512) : val_main_v72 (F := Ideal) (rows H) (ix2 r l) = pooled (rows H) r 3 l := by
  refine Eq.trans ?_ (pooled_eq H r 3 l)
  pointwise [val_main_v72, val_main_v71, val_main_v70, val_main_v69, val_main_v68, val_main_v67, val_main_v66, val_main_v65, val_main_v64, val_main_v63, val_main_v62, val_main_v61, val_main_v60, val_main_v59, val_main_v58, val_main_v57, val_main_v56, val_main_v4, val_main_v3, val_main_v2, val_main_cst_8, val_main_c]
  rfl
theorem v77_at (r : Fin 4096) (g : Fin 4) (l : Fin 512) : val_main_v77 (F := Ideal) (rows H) (ix3 r g l) = pooled (rows H) r g l := by
  pointwise [val_main_v77, val_main_v76, val_main_v75, val_main_v74, val_main_v73]
  rw [pooled0, pooled1, pooled2, pooled3]
  fin_cases g <;> rfl

variable (x dx : Rows) (w : Mix) (s : Scale)
theorem v79_at (g : Fin 4) (r : Fin 4096) (d : Fin 512) : val_main_v79 (F := Ideal) (rows H) w (ix3 r g d) = mixed (rows H) w r g d := by
  pointwise [val_main_v79, val_main_v78]
  exact Finset.sum_congr rfl fun k _ => by rw [v77_at, mul_comm]
theorem col_self (c : Fin 2048) : col ⟨c.val / 512, by omega⟩ ⟨c.val % 512, by omega⟩ = c := Fin.ext (by show c.val / 512 * 512 + c.val % 512 = c.val; omega)
theorem out_eq (r : Fin 4096) (c : Fin 2048) : val_main_v83 (F := Ideal) (rows H) x w s (ix2 r c) = out (rows H) x w s r ⟨c.val / 512, by omega⟩ ⟨c.val % 512, by omega⟩ := by
  pointwise [val_main_v83, val_main_v82, val_main_v81, val_main_v80]
  rw [v79_at, out, col_self]
theorem ds_eq (c : Fin 2048) : val_main_v86 (F := Ideal) (rows H) w dx (ix2 0 c) = ds (rows H) dx w ⟨c.val / 512, by omega⟩ ⟨c.val % 512, by omega⟩ := by
  pointwise [val_main_v86, val_main_v85, val_main_v84, val_main_v80, val_main_cst_11]
  exact Finset.sum_congr rfl fun r _ => by rw [v79_at, col_self, mul_comm]
theorem v90_at (r : Fin 4096) (g : Fin 4) (d : Fin 512) : val_main_v90 (F := Ideal) s dx (ix3 g d r) = dmixed dx s r g d := by
  pointwise [val_main_v90, val_main_v89, val_main_v88, val_main_v87]
  rfl
theorem v92_at (r : Fin 4096) (g : Fin 4) (d : Fin 512) : val_main_v92 (F := Ideal) w s dx (ix3 r g d) = dpooled dx w s r g d := by
  pointwise [val_main_v92, val_main_v91]
  exact Finset.sum_congr rfl fun k _ => by rw [v90_at]
theorem dw_eq (g : Fin 4) (k l : Fin 512) : val_main_v94 (F := Ideal) (rows H) s dx (ix3 g k l) = dw (rows H) dx s g k l := by
  pointwise [val_main_v94, val_main_v93]
  exact Finset.sum_congr rfl fun r _ => by rw [v90_at, v77_at, mul_comm]

/-! ## What the running sums' cotangent holds, and its own running sum from the end -/

/-- A group's cotangent of the running sums at a row: the row's share, less the share of the row one window later. -/
def step (g : Fin 4) (r : Fin 4096) (k : Fin 512) : EReal :=
  Ideal.div (val_main_v92 (F := Ideal) w s dx (ix3 r g k)) (cnt g r)
    + if h : r.val < 4096 - width g then -(Ideal.div (val_main_v92 (F := Ideal) w s dx (ix3 ⟨width g + r.val, by omega⟩ g k)) (cnt g ⟨width g + r.val, by omega⟩)) else 0
theorem step0 (r : Fin 4096) (k : Fin 512) : val_main_v153 (F := Ideal) w s dx (ix2 r k) = step dx w s 0 r k := by
  pointwise [val_main_v147, val_main_v148, val_main_v149, val_main_v150, val_main_v151, val_main_v152, val_main_v153, val_main_v96, val_main_v95, val_main_v11, val_main_v12, val_main_v13, val_main_v14, val_main_v15, val_main_v2, val_main_v3, val_main_v4, val_main_cst_22, val_main_c]
  rfl
theorem step1 (r : Fin 4096) (k : Fin 512) : val_main_v139 (F := Ideal) w s dx (ix2 r k) = step dx w s 1 r k := by
  pointwise [val_main_v133, val_main_v134, val_main_v135, val_main_v136, val_main_v137, val_main_v138, val_main_v139, val_main_v98, val_main_v97, val_main_v28, val_main_v29, val_main_v30, val_main_v31, val_main_v32, val_main_v2, val_main_v3, val_main_v4, val_main_cst_19, val_main_c]
  rfl
theorem step2 (r : Fin 4096) (k : Fin 512) : val_main_v125 (F := Ideal) w s dx (ix2 r k) = step dx w s 2 r k := by
  pointwise [val_main_v119, val_main_v120, val_main_v121, val_main_v122, val_main_v123, val_main_v124, val_main_v125, val_main_v100, val_main_v99, val_main_v45, val_main_v46, val_main_v47, val_main_v48, val_main_v49, val_main_v2, val_main_v3, val_main_v4, val_main_cst_16, val_main_c]
  rfl
theorem step3 (r : Fin 4096) (k : Fin 512) : val_main_v112 (F := Ideal) w s dx (ix2 r k) = step dx w s 3 r k := by
  pointwise [val_main_v106, val_main_v107, val_main_v108, val_main_v109, val_main_v110, val_main_v111, val_main_v112, val_main_v102, val_main_v101, val_main_v62, val_main_v63, val_main_v64, val_main_v65, val_main_v66, val_main_v2, val_main_v3, val_main_v4, val_main_cst_13, val_main_c]
  rfl
theorem v156_at (r : Fin 4096) (g : Fin 4) (k : Fin 512) : val_main_v156 (F := Ideal) w s dx (ix3 r g k) = step dx w s g r k := by
  pointwise [val_main_v156, val_main_v155, val_main_v154, val_main_v142, val_main_v141, val_main_v140, val_main_v128, val_main_v127, val_main_v126, val_main_v114, val_main_v113, val_main_cst_23, val_main_cst_20, val_main_cst_17, val_main_cst_14]
  rw [step0, step1, step2, step3]
  fin_cases g <;> simp
theorem v146_at (r : Fin 4096) (g : Fin 4) (k : Fin 512) : val_main_v146 (F := Ideal) w s dx (ix3 r g k) = -val_main_v92 (F := Ideal) w s dx (ix3 r g k) := by
  pointwise [val_main_v146, val_main_v145, val_main_v144, val_main_v143, val_main_v132, val_main_v131, val_main_v130, val_main_v129, val_main_v118, val_main_v117, val_main_v116, val_main_v115, val_main_v105, val_main_v104, val_main_v103,
    val_main_v102, val_main_v101, val_main_v100, val_main_v99, val_main_v98, val_main_v97, val_main_v96, val_main_v95, val_main_cst_12, val_main_cst_15, val_main_cst_18, val_main_cst_21]
  fin_cases g <;> simp

theorem since_step (f : Fin 4096 → ℝ) (w r : ℕ) : since (fun u => f u - fillR f (u.val + w)) r = since f r - since f (r + w) := by
  unfold since
  rw [← Finset.sum_sub_distrib]
  refine Finset.sum_congr rfl fun j _ => ?_
  have e1 : r + w + j = r + j + w := by omega
  rw [e1]
  generalize r + j = n
  by_cases h : n < 4096
  · rw [fillR, dif_pos h]
    congr 1
    rw [fillR, dif_pos h]
  · have h' : ¬ n + w < 4096 := by omega
    rw [fillR, dif_neg h, fillR, dif_neg h, fillR, dif_neg h', sub_zero]
/-- With real shares, the cotangent of the rows is the specification's. -/
theorem dh_at (P : Fin 4096 → Fin 4 → Fin 512 → ℝ) (hP : ∀ r g k, dpooled dx w s r g k = ((P r g k : ℝ) : EReal)) (r : Fin 4096) (g : Fin 4) (k : Fin 512) :
    val_main_v158 (F := Ideal) w s dx (ix3 r g k) = dh dx w s r g k := by
  have hs : ∀ u, spread dx w s u g k = ((P u g k * (1 / PoolSpec.count g u.val) : ℝ) : EReal) := fun u => by rw [spread, hP, EReal.coe_mul]
  have hst : ∀ u, val_main_v156 (F := Ideal) w s dx (ix3 u g k)
      = (((fun u => P u g k * (1 / PoolSpec.count g u.val)) u - fillR (fun u => P u g k * (1 / PoolSpec.count g u.val)) (u.val + width g) : ℝ) : EReal) := by
    intro u
    rw [v156_at, step, div_cnt, v92_at]
    have e1 : dpooled dx w s u g k * ((1 / PoolSpec.count g u.val : ℝ) : EReal) = ((P u g k * (1 / PoolSpec.count g u.val) : ℝ) : EReal) := hs u
    rw [e1]
    by_cases h : u.val < 4096 - width g
    · have h' : u.val + width g < 4096 := by omega
      have e2 : (⟨width g + u.val, by omega⟩ : Fin 4096) = ⟨u.val + width g, h'⟩ := Fin.ext (Nat.add_comm _ _)
      rw [dif_pos h, fillR, dif_pos h', e2, div_cnt, v92_at, sub_eq_add_neg, EReal.coe_add, EReal.coe_neg]
      have e3 : dpooled dx w s ⟨u.val + width g, h'⟩ g k * ((1 / PoolSpec.count g (u.val + width g) : ℝ) : EReal)
        = ((P ⟨u.val + width g, h'⟩ g k * (1 / PoolSpec.count g (u.val + width g)) : ℝ) : EReal) := hs ⟨u.val + width g, h'⟩
      rw [e3]
    · have h' : ¬ u.val + width g < 4096 := by omega
      rw [dif_neg h, fillR, dif_neg h', sub_zero, add_zero]
  have hrun : val_main_v157 (F := Ideal) w s dx (ix3 r g k) = ahead (fill fun u => spread dx w s u g k) (width g) r.val := by
    refine (sum_rest _ _ _ zero1 r g k hst).trans ?_
    rw [funext hs, ahead_eq, since_step]
  have e : val_main_v158 (F := Ideal) w s dx (ix3 r g k) = val_main_v146 (F := Ideal) w s dx (ix3 r g k) + val_main_v157 (F := Ideal) w s dx (ix3 r g k) := rfl
  rw [e, v146_at, hrun, v92_at, dh, sub_eq_add_neg, add_comm]
theorem dh_eq (P : Fin 4096 → Fin 4 → Fin 512 → ℝ) (hP : ∀ r g k, dpooled dx w s r g k = ((P r g k : ℝ) : EReal)) (r : Fin 4096) (c : Fin 2048) :
    val_main_v159 (F := Ideal) w s dx (ix2 r c) = dh dx w s r ⟨c.val / 512, by omega⟩ ⟨c.val % 512, by omega⟩ := by
  pointwise [val_main_v159]
  rw [dh_at dx w s P hP]
end Cert.PoolReferenceIdeal.Named

end
-- ==== Proof.Pool.lean ====
/- The pool: its forward and gradient calls against the reference and its derivative, over the reals. -/
module

public import proofs.«01_k».proof.Defs
public import proofs.«01_k».proof.Proof.PoolTiles
public import proofs.«01_k».proof.Proof.PoolRef
public import proofs.«01_k».proof.Proof.Gen.Pre_pool_finite
public import Idealize.ShloMosaic.Lib.Claim

@[expose] public section

set_option maxRecDepth 16384

noncomputable section

open Idealize.ShloMosaic Idealize.ShloMosaic.TcCoe Idealize.SL.Sem
open Cert.Arith Cert.PoolSpec Cert.PoolKernelIdeal.RefValue

namespace Cert.Proof.Pool

/-- The precondition makes the rows real, and what reaches the pool in the gradient. -/
theorem finite (m : (ℓ : Loc Cert.PoolKernelIdeal.nD Cert.PoolKernelIdeal.τ Cert.PoolKernelIdeal.sig) → Buf (Elt Ideal) ℓ)
    (h : Cert.Pre_PoolKernelIdeal_pool_finite m) (c : Dev Cert.PoolKernelIdeal.nD) :
    (∃ H : Fin 4096 → Fin 2048 → ℝ, argH m c = Cert.PoolReferenceIdeal.Named.rows H)
      ∧ ∃ P : Fin 4096 → Fin 4 → Fin 512 → ℝ, ∀ r g k, dpooled (argDx m c) (argW m c) (argS m c) r g k = ((P r g k : ℝ) : EReal) := by
  obtain ⟨h0, h1, h2, h3⟩ := h c
  have hh : ∀ j, IsReal (argH m c j) := fun j => fin_of_cmp _ _ _ lit_inf (congrFun h0 j)
  have hw : ∀ j, IsReal (argW m c j) := fun j => fin_of_cmp _ _ _ lit_inf (congrFun h1 j)
  have hs : ∀ j, IsReal (argS m c j) := fun j => fin_of_cmp _ _ _ lit_inf (congrFun h2 j)
  have hd : ∀ j, IsReal (argDx m c j) := fun j => fin_of_cmp _ _ _ lit_inf (congrFun h3 j)
  constructor
  · choose f e using hh
    refine ⟨fun r k => f (ix2 r k), funext fun j => ?_⟩
    idx_vars j
    exact e _
  · have hp : ∀ r g k, IsReal (dpooled (argDx m c) (argW m c) (argS m c) r g k) := fun r g k => .sum fun l => .mul (.mul (hd _) (hs _)) (hw _)
    choose P e using hp
    exact ⟨P, e⟩

/-- The reference's run, its results by the names of their terms. -/
theorem reference_run (m : (ℓ : Loc Cert.PoolReferenceIdeal.nD Cert.PoolReferenceIdeal.τ Cert.PoolReferenceIdeal.sig) → Buf (Elt Ideal) ℓ)
    (ρ : Dev Cert.PoolReferenceIdeal.nD → PrngReg) :
    θ_run (Cert.PoolReferenceIdeal.defs (F := Ideal)) (onTc (τ := Cert.PoolReferenceIdeal.τ) (Cert.PoolReferenceIdeal.main (F := Ideal))) ⟨m, fun _ => 0, ρ⟩
      fun r => ∀ c : Dev Cert.PoolReferenceIdeal.nD, ∀ a0 a1 a2 a3 a4,
        m ((c.tc : Thread Cert.PoolReferenceIdeal.nD Cert.PoolReferenceIdeal.τ).loc Cert.PoolReferenceIdeal.main_arg0) = a0 →
        m ((c.tc : Thread Cert.PoolReferenceIdeal.nD Cert.PoolReferenceIdeal.τ).loc Cert.PoolReferenceIdeal.main_arg1) = a1 →
        m ((c.tc : Thread Cert.PoolReferenceIdeal.nD Cert.PoolReferenceIdeal.τ).loc Cert.PoolReferenceIdeal.main_arg2) = a2 →
        m ((c.tc : Thread Cert.PoolReferenceIdeal.nD Cert.PoolReferenceIdeal.τ).loc Cert.PoolReferenceIdeal.main_arg3) = a3 →
        m ((c.tc : Thread Cert.PoolReferenceIdeal.nD Cert.PoolReferenceIdeal.τ).loc Cert.PoolReferenceIdeal.main_arg4) = a4 →
        r.2.mem ((c.tc : Thread Cert.PoolReferenceIdeal.nD Cert.PoolReferenceIdeal.τ).loc Cert.PoolReferenceIdeal.main_v83)
          = Cert.PoolReferenceIdeal.Read.val_main_v83 (F := Ideal) a0 a1 a2 a3
        ∧ r.2.mem ((c.tc : Thread Cert.PoolReferenceIdeal.nD Cert.PoolReferenceIdeal.τ).loc Cert.PoolReferenceIdeal.main_v159)
          = Cert.PoolReferenceIdeal.Read.val_main_v159 (F := Ideal) a2 a3 a4
        ∧ r.2.mem ((c.tc : Thread Cert.PoolReferenceIdeal.nD Cert.PoolReferenceIdeal.τ).loc Cert.PoolReferenceIdeal.main_v94)
          = Cert.PoolReferenceIdeal.Read.val_main_v94 (F := Ideal) a0 a3 a4
        ∧ r.2.mem ((c.tc : Thread Cert.PoolReferenceIdeal.nD Cert.PoolReferenceIdeal.τ).loc Cert.PoolReferenceIdeal.main_v86)
          = Cert.PoolReferenceIdeal.Read.val_main_v86 (F := Ideal) a0 a2 a4 := by
  refine (θ_run (Cert.PoolReferenceIdeal.defs (F := Ideal)) _ _).mono (fun _ h c a0 a1 a2 a3 a4 e0 e1 e2 e3 e4 => ?_) (Cert.PoolReferenceIdeal.Value.run m ρ)
  subst e0 e1 e2 e3 e4
  exact ⟨(h c).1.trans (Cert.PoolReferenceIdeal.Read.val_main_v83_eq _), (h c).2.1.trans (Cert.PoolReferenceIdeal.Read.val_main_v159_eq _),
    (h c).2.2.1.trans (Cert.PoolReferenceIdeal.Read.val_main_v94_eq _), (h c).2.2.2.1.trans (Cert.PoolReferenceIdeal.Read.val_main_v86_eq _)⟩

theorem out_arr (m : (ℓ : Loc Cert.PoolKernelIdeal.nD Cert.PoolKernelIdeal.τ Cert.PoolKernelIdeal.sig) → Buf (Elt Ideal) ℓ)
    (h : Cert.Pre_PoolKernelIdeal_pool_finite m) (c : Dev Cert.PoolKernelIdeal.nD) :
    Cert.PoolReferenceIdeal.Read.val_main_v83 (F := Ideal) (argH m c) (argX m c) (argW m c) (argS m c) = outArr m c := by
  obtain ⟨⟨H, hH⟩, P, hP⟩ := finite m h c
  funext j
  unfold outArr
  rw [hH]
  generalize argX m c = xX
  generalize argW m c = xW
  generalize argS m c = xS
  idx_vars j
  exact Cert.PoolReferenceIdeal.Named.out_eq H xX xW xS j0 j1
theorem dh_arr (m : (ℓ : Loc Cert.PoolKernelIdeal.nD Cert.PoolKernelIdeal.τ Cert.PoolKernelIdeal.sig) → Buf (Elt Ideal) ℓ)
    (h : Cert.Pre_PoolKernelIdeal_pool_finite m) (c : Dev Cert.PoolKernelIdeal.nD) :
    Cert.PoolReferenceIdeal.Read.val_main_v159 (F := Ideal) (argW m c) (argS m c) (argDx m c) = dhArr m c := by
  obtain ⟨⟨H, hH⟩, P, hP⟩ := finite m h c
  funext j
  unfold dhArr
  generalize argDx m c = xDx at hP ⊢
  generalize argW m c = xW at hP ⊢
  generalize argS m c = xS at hP ⊢
  idx_vars j
  exact Cert.PoolReferenceIdeal.Named.dh_eq xDx xW xS P hP j0 j1
theorem dw_arr (m : (ℓ : Loc Cert.PoolKernelIdeal.nD Cert.PoolKernelIdeal.τ Cert.PoolKernelIdeal.sig) → Buf (Elt Ideal) ℓ)
    (h : Cert.Pre_PoolKernelIdeal_pool_finite m) (c : Dev Cert.PoolKernelIdeal.nD) :
    Cert.PoolReferenceIdeal.Read.val_main_v94 (F := Ideal) (argH m c) (argS m c) (argDx m c) = dwArr m c := by
  obtain ⟨⟨H, hH⟩, P, hP⟩ := finite m h c
  funext j
  unfold dwArr
  rw [hH]
  generalize argDx m c = xDx
  generalize argS m c = xS
  idx_vars j
  exact Cert.PoolReferenceIdeal.Named.dw_eq H xDx xS j0 j1 j2
theorem ds_arr (m : (ℓ : Loc Cert.PoolKernelIdeal.nD Cert.PoolKernelIdeal.τ Cert.PoolKernelIdeal.sig) → Buf (Elt Ideal) ℓ)
    (h : Cert.Pre_PoolKernelIdeal_pool_finite m) (c : Dev Cert.PoolKernelIdeal.nD) :
    Cert.PoolReferenceIdeal.Read.val_main_v86 (F := Ideal) (argH m c) (argW m c) (argDx m c) = dsArr m c := by
  obtain ⟨⟨H, hH⟩, P, hP⟩ := finite m h c
  funext j
  unfold dsArr
  rw [hH]
  generalize argDx m c = xDx
  generalize argW m c = xW
  idx_vars j
  rw [Fin.fin_one_eq_zero j0]
  exact Cert.PoolReferenceIdeal.Named.ds_eq H xDx xW j1

/-- The pooled rows and the three gradients are the reference's, over the reals. -/
theorem algebraic : Cert.algebraic_PoolKernelIdeal_PoolReferenceIdeal_pre_pool_finite := by
  intro m g m' g' hpre hagree
  refine ⟨fun c => outArr m c, fun c => dhArr m c, fun c => dwArr m c, fun c => dsArr m c, ?_, ?_⟩
  · refine θ_run_mono (θ_run_and (exit_run m g) (Cert.PoolKernelIdeal.Gen.unchanged m g)) fun r h c => ?_
    exact ⟨(h.1 c _ (Cert.PoolKernelIdeal.Gen.mem_uc _ (by decide))).trans (exit_out m g c),
      (h.1 c _ (Cert.PoolKernelIdeal.Gen.mem_uc _ (by decide))).trans (exit_dh m g c),
      (h.1 c _ (Cert.PoolKernelIdeal.Gen.mem_uc _ (by decide))).trans (exit_dw m g c),
      (h.1 c _ (Cert.PoolKernelIdeal.Gen.mem_uc _ (by decide))).trans (exit_ds m g c), h.2 c⟩
  · refine θ_run_mono (θ_run_and (reference_run m' g') (Cert.PoolReferenceIdeal.Value.run m' g')) fun r h c => ?_
    obtain ⟨e0, e1, e2, e3, e4⟩ := hagree c
    obtain ⟨h0, h1, h2, h3⟩ := h.1 c _ _ _ _ _ e0 e1 e2 e3 e4
    exact ⟨h0.trans (out_arr m hpre c), h1.trans (dh_arr m hpre c), h2.trans (dw_arr m hpre c), h3.trans (ds_arr m hpre c), (h.2 c).2.2.2.2⟩

end Cert.Proof.Pool

end
-- ==== Proof.AttnRun0.lean ====
module

public import proofs.«01_k».proof.Proof.Gen.AttnKernelIdeal.Loops
public import proofs.«01_k».proof.Proof.Gen.AttnKernelIdeal.Launch
public import proofs.«01_k».proof.Proof.Gen.AttnKernelIdeal.Points
public import Idealize.ShloMosaic.Lib.WritesUnit
public import Idealize.ShloMosaic.Lib.Pointwise

set_option maxRecDepth 16384
@[expose] public section
namespace Cert.Proof.Attn
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.AttnKernelIdeal Cert.AttnKernelIdeal.Gen

variable {F : FTy → Type} [FloatOps F]
variable (𝒱 : Variants) (c : Dev nD) (bd : Option 𝒱.V) (i : grid0.Coords)
  (a1 : Memref sig .tc .vmem S1x4096x128 .f32) (w1 : a1.IsWhole)
  (a2 : Memref sig .tc .vmem S1x4096x128 .f32) (w2 : a2.IsWhole)
  (a3 : Memref sig .tc .vmem S1x4096x128 .f32) (w3 : a3.IsWhole)
  (a4 : Memref sig .tc .vmem S1x128 .f32) (w4 : a4.IsWhole)
  (a5 : Memref sig .tc .vmem S1x128 .f32) (w5 : a5.IsWhole)
  (a6 : Memref sig .tc .vmem S4096x128 .f32) (w6 : a6.IsWhole)
  (a7 : Memref sig .tc .vmem S4096x128 .bf16) (w7 : a7.IsWhole)
  (a8 : Memref sig .tc .vmem S4096x128 .bf16) (w8 : a8.IsWhole)
  (a9 : Memref sig .tc .vmem S4096x128 .bf16) (w9 : a9.IsWhole)
  (a10 : Memref sig .tc .vmem S4096x128 .bf16) (w10 : a10.IsWhole)

/-! ## Row tiles of an array of 4096 rows -/

/-- The 512 rows of `X` from row `512 n` on. -/
def rows {e : EltTy} (X : Vec F S4096x128 e) (n : ℕ) : Vec F S512x128 e :=
  fun y => X (ix2 ⟨(512 * n + (y 0).val) % 4096, Nat.mod_lt _ (by decide)⟩ (y 1))

/-- The same rows of an array with a leading axis of one. -/
def rows3 {e : EltTy} (X : Vec F S1x4096x128 e) (n : ℕ) : Vec F S1x512x128 e :=
  fun y => X (ix3 0 ⟨(512 * n + (y 1).val) % 4096, Nat.mod_lt _ (by decide)⟩ (y 2))

/-- The array whose tile `n` is `p n`. -/
def untile {e : EltTy} (p : ℕ → Vec F S512x128 e) : Vec F S4096x128 e :=
  fun y => p ((y 0).val / 512) (ix2 ⟨(y 0).val % 512, Nat.mod_lt _ (by decide)⟩ (y 1))

/-- `X` with tile `n` replaced by `p`. -/
def upd {e : EltTy} (X : Vec F S4096x128 e) (n : ℕ) (p : Vec F S512x128 e) : Vec F S4096x128 e :=
  fun y => if (y 0).val / 512 = n then p (ix2 ⟨(y 0).val % 512, Nat.mod_lt _ (by decide)⟩ (y 1)) else X y

theorem tile_inb {off : Fin 2 → ℕ} {n : ℕ} (hn : n < 8) (h : off = ![512 * n, 0]) (a : Fin 2) :
    off a + S512x128.size a ≤ S4096x128.size a := by
  subst h; fin_cases a <;> simp [Shape.size] <;> omega

theorem readAt_rows {e : EltTy} {κ : Kind} {sp : Space} (v : View sig κ sp S4096x128 e) {off : Fin 2 → ℕ}
    (inb : ∀ a, off a + S512x128.size a ≤ S4096x128.size a) {n : ℕ} (hn : n < 8) (h : off = ![512 * n, 0])
    (f : v.ty.Contents (Elt F)) :
    v.readAt (Elt F) (Rect.unit (s := S4096x128) off S512x128.size inb).toLoadRect f = rows (v.read (Elt F) f) n := by
  subst h
  funext y
  rw [View.readAt_apply]
  unfold rows
  congr 1
  funext a
  have h0 : (y 0).val < 512 := (y 0).isLt
  match a with
  | 0 => apply Fin.ext; simp [Rect.unit]; omega
  | 1 => apply Fin.ext; simp [Rect.unit]

theorem readAt_rows3 {e : EltTy} {κ : Kind} {sp : Space} (v : View sig κ sp S1x4096x128 e) {off : Fin 3 → ℕ}
    (inb : ∀ a, off a + S1x512x128.size a ≤ S1x4096x128.size a) {n : ℕ} (hn : n < 8) (h : off = ![0, 512 * n, 0])
    (f : v.ty.Contents (Elt F)) :
    v.readAt (Elt F) (Rect.unit (s := S1x4096x128) off S1x512x128.size inb).toLoadRect f = rows3 (v.read (Elt F) f) n := by
  subst h
  funext y
  rw [View.readAt_apply]
  unfold rows3
  congr 1
  funext a
  have h0 : (y 1).val < 512 := (y 1).isLt
  match a with
  | 0 => exact Fin.ext (by have h := (y 0).isLt; change (y 0).val < 1 at h; simp [Rect.unit]; omega)
  | 1 => apply Fin.ext; simp [Rect.unit]; omega
  | 2 => apply Fin.ext; simp [Rect.unit]

theorem read_write_tile {e : EltTy} {κ : Kind} {sp : Space} (v : View sig κ sp S4096x128 e) {off : Fin 2 → ℕ}
    (inb : ∀ a, off a + S512x128.size a ≤ S4096x128.size a) {n : ℕ} (h : off = ![512 * n, 0])
    (f : v.ty.Contents (Elt F)) (p : Vec F S512x128 e) (L : List (View.Piece (Elt F) S4096x128 e)) :
    v.read (Elt F) (v.writes (Elt F) f ((⟨Rect.unit (s := S4096x128) off S512x128.size inb, p⟩ : View.Piece (Elt F) S4096x128 e) :: L))
      = upd (v.read (Elt F) (v.writes (Elt F) f L)) n p := by
  funext y
  unfold upd
  split
  · rename_i hy
    refine View.read_writes_cons_unit_of_mem v f inb p L y (ix2 ⟨(y 0).val % 512, Nat.mod_lt _ (by decide)⟩ (y 1)) h fun a => ?_
    match a with
    | 0 => show (y 0).val = 512 * n + (y 0).val % 512; omega
    | 1 => show (y 1).val = 0 + (y 1).val; omega
  · rename_i hy
    refine View.read_writes_cons_unit_of_not_mem v f inb p L y h 0 ?_
    show (y 0).val < 512 * n ∨ 512 * n + 512 ≤ (y 0).val
    omega

/-- Eight tiles written in turn are the whole array. -/
theorem upd_all {e : EltTy} (p : ℕ → Vec F S512x128 e) (S : ℕ → Vec F S4096x128 e)
    (hS : ∀ n < 8, S (n + 1) = upd (S n) n (p n)) : S 8 = untile p := by
  have key : ∀ n ≤ 8, ∀ y : S4096x128.Idx, (y 0).val < 512 * n → S n y = untile p y := by
    intro n
    induction n with
    | zero => intro _ y hy; omega
    | succ n ih =>
      intro hn y hy
      rw [hS n (by omega)]
      unfold upd
      split
      · rename_i e; unfold untile; rw [e]
      · exact ih (by omega) y (by omega)
  funext y
  have : (y 0).val < 4096 := (y 0).isLt
  exact key 8 le_rfl y (by omega)

theorem rows_untile {e : EltTy} (p : ℕ → Vec F S512x128 e) {n : ℕ} (hn : n < 8) : rows (untile p) n = p n := by
  funext y
  have h0 : (y 0).val < 512 := (y 0).isLt
  unfold rows untile
  have e1 : (512 * n + (y 0).val) % 4096 / 512 = n := by omega
  have e2 : (512 * n + (y 0).val) % 4096 % 512 = (y 0).val := by omega
  show p ((512 * n + (y 0).val) % 4096 / 512) (ix2 ⟨(512 * n + (y 0).val) % 4096 % 512, _⟩ (y 1)) = p n y
  simp only [e1, e2]
  congr 1
  funext a
  match a with
  | 0 => rfl
  | 1 => rfl

/-- The tiles `p 0`, …, `p (n-1)` as writes, the last first. -/
def tiles {e : EltTy} (p : ℕ → Vec F S512x128 e) : ℕ → List (View.Piece (Elt F) S4096x128 e)
  | 0 => []
  | n + 1 => if h : n < 8 then ⟨Rect.unit (s := S4096x128) ![512 * n, 0] S512x128.size (tile_inb h rfl), p n⟩ :: tiles p n else tiles p n

theorem tiles_succ {e : EltTy} (p : ℕ → Vec F S512x128 e) {n : ℕ} (hn : n < 8) {off : Fin 2 → ℕ}
    (inb : ∀ a, off a + S512x128.size a ≤ S4096x128.size a) (h : off = ![512 * n, 0]) :
    tiles p (n + 1) = ⟨Rect.unit (s := S4096x128) off S512x128.size inb, p n⟩ :: tiles p n := by
  subst h
  exact dif_pos hn

theorem read_tiles {e : EltTy} {κ : Kind} {sp : Space} (v : View sig κ sp S4096x128 e) (f : v.ty.Contents (Elt F))
    (p : ℕ → Vec F S512x128 e) : v.read (Elt F) (v.writes (Elt F) f (tiles p 8)) = untile p := by
  refine upd_all p (fun n => v.read (Elt F) (v.writes (Elt F) f (tiles p n))) fun n hn => ?_
  rw [tiles_succ p hn (tile_inb hn rfl) rfl, read_write_tile v (tile_inb hn rfl) rfl]

theorem readAt_whole2 {e : EltTy} {κ : Kind} {sp : Space} {m n : ℕ} (v : View sig κ sp ⟨2, ![m, n]⟩ e)
    (inb : ∀ a, (![0, 0] : Fin 2 → ℕ) a + (⟨2, ![m, n]⟩ : Shape).size a ≤ (⟨2, ![m, n]⟩ : Shape).size a) (f : v.ty.Contents (Elt F)) :
    v.readAt (Elt F) (Rect.unit (s := ⟨2, ![m, n]⟩) ![0, 0] (⟨2, ![m, n]⟩ : Shape).size inb).toLoadRect f = v.read (Elt F) f := by
  funext y
  rw [View.readAt_apply]
  congr 1
  funext a
  match a with
  | 0 => apply Fin.ext; simp [Rect.unit]
  | 1 => apply Fin.ext; simp [Rect.unit]

theorem readAt_whole3 {e : EltTy} {κ : Kind} {sp : Space} {l m n : ℕ} (v : View sig κ sp ⟨3, ![l, m, n]⟩ e)
    (inb : ∀ a, (![0, 0, 0] : Fin 3 → ℕ) a + (⟨3, ![l, m, n]⟩ : Shape).size a ≤ (⟨3, ![l, m, n]⟩ : Shape).size a) (f : v.ty.Contents (Elt F)) :
    v.readAt (Elt F) (Rect.unit (s := ⟨3, ![l, m, n]⟩) ![0, 0, 0] (⟨3, ![l, m, n]⟩ : Shape).size inb).toLoadRect f = v.read (Elt F) f := by
  funext y
  rw [View.readAt_apply]
  congr 1
  funext a
  match a with
  | 0 => apply Fin.ext; simp [Rect.unit]
  | 1 => apply Fin.ext; simp [Rect.unit]
  | 2 => apply Fin.ext; simp [Rect.unit]

theorem read_write_whole2 {e : EltTy} {κ : Kind} {sp : Space} {m n : ℕ} (v : View sig κ sp ⟨2, ![m, n]⟩ e)
    (inb : ∀ a, (![0, 0] : Fin 2 → ℕ) a + (⟨2, ![m, n]⟩ : Shape).size a ≤ (⟨2, ![m, n]⟩ : Shape).size a) (f : v.ty.Contents (Elt F))
    (p : Vec F ⟨2, ![m, n]⟩ e) (L : List (View.Piece (Elt F) ⟨2, ![m, n]⟩ e)) :
    v.read (Elt F) (v.writes (Elt F) f ((⟨Rect.unit (s := ⟨2, ![m, n]⟩) ![0, 0] (⟨2, ![m, n]⟩ : Shape).size inb, p⟩ : View.Piece (Elt F) ⟨2, ![m, n]⟩ e) :: L)) = p := by
  funext y
  refine View.read_writes_cons_unit_of_mem v f inb p L y y rfl fun a => ?_
  match a with
  | 0 => show (y 0).val = 0 + (y 0).val; omega
  | 1 => show (y 1).val = 0 + (y 1).val; omega

/-! ## Offsets and trips -/

theorem off_5 (k : Fin k0_t3_loop.trips) : k0_off5 k = ![512 * k.val, 0] := by revert k; decide +kernel
theorem off_1 (k : Fin k0_t1_loop.trips) : k0_off1 k = ![0, 512 * k.val, 0] := by revert k; decide +kernel
theorem off_2 (k : Fin k0_t1_loop.trips) : k0_off2 k = ![512 * k.val, 0] := by revert k; decide +kernel
theorem off_3 (k : Fin k0_t2_loop.trips) : k0_off3 k = ![0, 512 * k.val, 0] := by revert k; decide +kernel
theorem off_4 (k : Fin k0_t2_loop.trips) : k0_off4 k = ![512 * k.val, 0] := by revert k; decide +kernel
theorem off_6 (k : Fin k0_t3_loop.trips) (j : Fin (k0_t4_loop k).trips) : k0_off6 k j = ![512 * (k.val - 1 - j.val), 0] := by
  revert j; revert k; decide +kernel
theorem trips_4 (k : Fin k0_t3_loop.trips) : (k0_t4_loop k).trips = k.val := by revert k; decide +kernel
theorem trips_5 (k : Fin k0_t3_loop.trips) : (k0_t5_loop k).trips = 0 := by revert k; decide +kernel
theorem trips_3 : k0_t3_loop.trips = 8 := by decide +kernel
theorem trips_1 : k0_t1_loop.trips = 8 := by decide +kernel
theorem trips_2 : k0_t2_loop.trips = 8 := by decide +kernel

/-! ## What one block of queries computes -/

/-- The step on the diagonal: the block's own keys, masked. -/
noncomputable def fwd0 (q k v : Vec F S512x128 .bf16) : FVec F S512x128 .f32 × FVec F S512x128 .f32 :=
  (k0_pay47 k0_pay4 k0_pay5 k0_pay30 (k0_pay31 q k) (k0_pay32 q k) (k0_pay33 k0_pay5 q k) (k0_pay35 k0_pay4 k0_pay5 q k)
      (k0_pay36 k0_pay4 k0_pay5 q k) (k0_pay39 k0_pay5 q k) (k0_pay40 k0_pay4 k0_pay5 q k) v,
    k0_pay46 k0_pay4 (k0_pay33 k0_pay5 q k) (k0_pay36 k0_pay4 k0_pay5 q k) (k0_pay39 k0_pay5 q k) (k0_pay40 k0_pay4 k0_pay5 q k))

/-- The step on an earlier block of keys. -/
noncomputable def fwdStep (q k v : Vec F S512x128 .bf16) (acc : FVec F S512x128 .f32 × FVec F S512x128 .f32) :
    FVec F S512x128 .f32 × FVec F S512x128 .f32 :=
  (k0_pay52 k0_pay4 acc.1 (k0_pay12 q k) (k0_pay13 q k) (k0_pay15 k0_pay4 q acc.2 k) (k0_pay18 k0_pay4 q acc.2 k)
      (k0_pay19 k0_pay4 q acc.2 k) (k0_pay20 q k) v,
    k0_pay51 k0_pay4 (k0_pay13 q k) (k0_pay19 k0_pay4 q acc.2 k) (k0_pay20 q k))

/-- The block of queries `n` after `j` earlier blocks of keys. -/
noncomputable def fwdRow (Q K V : Vec F S4096x128 .bf16) (n : ℕ) : ℕ → FVec F S512x128 .f32 × FVec F S512x128 .f32
  | 0 => fwd0 (rows Q n) (rows K n) (rows V n)
  | j + 1 => fwdStep (rows Q n) (rows K (n - 1 - j)) (rows V (n - 1 - j)) (fwdRow Q K V n j)

/-- The output of the head, at f32 and at bf16. -/
noncomputable def attnO (Q K V : Vec F S4096x128 .bf16) : Vec F S4096x128 .f32 := untile fun n => (fwdRow Q K V n n).1
noncomputable def attnO16 (Q K V : Vec F S4096x128 .bf16) : Vec F S4096x128 .bf16 := untile fun n => k0_pay11 (fwdRow Q K V n n).1

/-- The normalised queries (or keys) of the head. -/
noncomputable def normQ (x : Vec F S1x4096x128 .f32) (g : Vec F S1x128 .f32) : Vec F S4096x128 .bf16 := untile fun n => k0_pay1 (rows3 x n) g
noncomputable def normK (x : Vec F S1x4096x128 .f32) (g : Vec F S1x128 .f32) : Vec F S4096x128 .bf16 := untile fun n => k0_pay2 (rows3 x n) g

/-! ## The loops over the blocks of the head -/

theorem pb1_eq (X : BufTy.Contents (Elt F) a1.view.ty) (G : BufTy.Contents (Elt F) a4.view.ty) (f : BufTy.Contents (Elt F) a8.view.ty) :
    a8.view.read (Elt F) (a8.view.writes (Elt F) f (pb_k0_t1 (F := F) 𝒱 c bd i a1 w1 a2 w2 a3 w3 a4 w4 a5 w5 a6 w6 a7 w7 a8 w8 a9 w9 a10 w10 X G k0_t1_loop.trips)) = normQ (a1.view.read (Elt F) X) (a4.view.read (Elt F) G) := by
  rw [trips_1]
  refine upd_all _ (fun n => a8.view.read (Elt F) (a8.view.writes (Elt F) f (pb_k0_t1 (F := F) 𝒱 c bd i a1 w1 a2 w2 a3 w3 a4 w4 a5 w5 a6 w6 a7 w7 a8 w8 a9 w9 a10 w10 X G n))) fun n hn => ?_
  have hn' : n < k0_t1_loop.trips := by rw [trips_1]; exact hn
  rw [pb_k0_t1_succ (k := ⟨n, hn'⟩)]
  unfold tripL_k0_t1 trip_k0_t1
  dsimp only
  rw [List.singleton_append, read_write_tile a8.view _ (off_2 ⟨n, hn'⟩), ← readAt_rows3 a1.view (k0_off1_inb ⟨n, hn'⟩) hn (off_1 ⟨n, hn'⟩) X,
    ← readAt_whole2 a4.view inb_S1x128_S1x128_0_0]

theorem pb2_eq (X : BufTy.Contents (Elt F) a2.view.ty) (G : BufTy.Contents (Elt F) a5.view.ty) (f : BufTy.Contents (Elt F) a9.view.ty) :
    a9.view.read (Elt F) (a9.view.writes (Elt F) f (pb_k0_t2 (F := F) 𝒱 c bd i a1 w1 a2 w2 a3 w3 a4 w4 a5 w5 a6 w6 a7 w7 a8 w8 a9 w9 a10 w10 X G k0_t2_loop.trips)) = normK (a2.view.read (Elt F) X) (a5.view.read (Elt F) G) := by
  rw [trips_2]
  refine upd_all _ (fun n => a9.view.read (Elt F) (a9.view.writes (Elt F) f (pb_k0_t2 (F := F) 𝒱 c bd i a1 w1 a2 w2 a3 w3 a4 w4 a5 w5 a6 w6 a7 w7 a8 w8 a9 w9 a10 w10 X G n))) fun n hn => ?_
  have hn' : n < k0_t2_loop.trips := by rw [trips_2]; exact hn
  rw [pb_k0_t2_succ (k := ⟨n, hn'⟩)]
  unfold tripL_k0_t2 trip_k0_t2
  dsimp only
  rw [List.singleton_append, read_write_tile a9.view _ (off_4 ⟨n, hn'⟩), ← readAt_rows3 a2.view (k0_off3_inb ⟨n, hn'⟩) hn (off_3 ⟨n, hn'⟩) X,
    ← readAt_whole2 a5.view inb_S1x128_S1x128_0_0]

/-! ## The loop over the earlier blocks of keys -/

theorem st4_eq (v20 : IVec S512x512 1) (k : Fin k0_t3_loop.trips) (a11 : BitVec 32) (q : Vec F S512x128 .bf16) (v26 : FVec F S512x128 .f32) (v28 : BitVec 32) (v33 : FVec F S512x512 .f32) (v45 : FVec F S512x512 .f32) (v47 : FVec F S512x512 .f32) (v58 : FVec F S512x128 .f32) (v59 : FVec F S512x128 .f32) (v64 : FVec F S512x128 .bf16) (v65 : FVec F S512x256 .f32) (X9 : BufTy.Contents (Elt F) a9.view.ty) (X10 : BufTy.Contents (Elt F) a10.view.ty)
    (K V Q : Vec F S4096x128 .bf16) (hK : a9.view.read (Elt F) X9 = K) (hV : a10.view.read (Elt F) X10 = V) (hq : rows Q k.val = q)
    (init : FVec F S512x128 .f32 × FVec F S512x128 .f32) (hi : init = fwdRow Q K V k.val 0) (n : ℕ) (hn : n ≤ (k0_t4_loop k).trips) :
    st_k0_t4 𝒱 c bd i a1 w1 a2 w2 a3 w3 a4 w4 a5 w5 a6 w6 a7 w7 a8 w8 a9 w9 a10 w10 k0_pay4 v20 k a11 q v26 v28 v33 v45 v47 v58 v59 v64 v65 X9 X10 init n = fwdRow Q K V k.val n := by
  have hk : k.val < 8 := Nat.lt_of_lt_of_le k.isLt k0_t3_abs.2.1
  have h4 := trips_4 k
  induction n with
  | zero => exact hi
  | succ n ih =>
    rw [st_k0_t4_succ (k := ⟨n, hn⟩), ih (by omega)]
    unfold tripR_k0_t4 trip_k0_t4
    dsimp only
    unfold trip_k0_t4.sl.r trip_k0_t4.sl.r_1 trip_k0_t4.sl.r_2 trip_k0_t4.sl.r_3 trip_k0_t4.sl.r_4 trip_k0_t4.sl.r_5
    rw [fwdRow, fwdStep, hq, ← hK, ← hV, ← readAt_rows a9.view (k0_off6_inb k ⟨n, hn⟩) (by omega) (off_6 k ⟨n, hn⟩) X9,
      ← readAt_rows a10.view (k0_off6_inb k ⟨n, hn⟩) (by omega) (off_6 k ⟨n, hn⟩) X10]

/-! ## One block of queries -/

noncomputable abbrev At (c : Dev nD) {s : Shape} {e : EltTy} (a : Memref sig .tc .vmem s e) (f : BufTy.Contents (Elt F) a.view.ty) : sProp (MT nD τ sig Unit (Elt F) ℕ (UR sig nD τ) ℕ) :=
  (a.view.loc (c : Thread nD τ) ↦[a.view.set]{fullShare} f)

noncomputable def trip3 (X8 : BufTy.Contents (Elt F) a8.view.ty) (X9 : BufTy.Contents (Elt F) a9.view.ty) (X10 : BufTy.Contents (Elt F) a10.view.ty) (k : Fin k0_t3_loop.trips) :
    Σ' (L6 : List (View.Piece (Elt F) S4096x128 .f32)), { L7 : List (View.Piece (Elt F) S4096x128 .bf16) // ∀ (E : Set ℕ) (f6 : BufTy.Contents (Elt F) a6.view.ty) (f7 : BufTy.Contents (Elt F) a7.view.ty),
      (iprop(At c a8 (X8) ∗ At c a9 (X9) ∗ At c a10 (X10) ∗ At c a6 (f6) ∗ At c a7 (f7)) : sProp (MT nD τ sig Unit (Elt F) ℕ (UR sig nD τ) ℕ))
      ⊢ wp frame (wpE (defs₀ (F := F)) 𝒱 (c : Thread nD τ) bd) E (k0_t3_body (F := F) i a1 w1 a2 w2 a3 w3 a4 w4 a5 w5 a6 w6 a7 w7 a8 w8 a9 w9 a10 w10 k PUnit.unit)
          (fun _ => iprop(At c a8 (X8) ∗ At c a9 (X9) ∗ At c a10 (X10) ∗ At c a6 (a6.view.writes (Elt F) f6 L6) ∗ At c a7 (a7.view.writes (Elt F) f7 L7))) } := by
  have hk : k.val < 8 := Nat.lt_of_lt_of_le k.isLt k0_t3_abs.2.1
  refine ⟨?_, ?_, fun E f6 f7 => ?run⟩
  case run =>
    unfold k0_t3_body
    iintro ⟨H8, H9, H10, H6, H7⟩
    sl_exec
    sl_step
    sl_close

theorem trip3_run (X8 : BufTy.Contents (Elt F) a8.view.ty) (X9 : BufTy.Contents (Elt F) a9.view.ty) (X10 : BufTy.Contents (Elt F) a10.view.ty) (k : Fin k0_t3_loop.trips) :
    ∃ p : Vec F S512x128 .f32 × PUnit.{1}, p.1 = (fwdRow (a8.view.read (Elt F) X8) (a9.view.read (Elt F) X9) (a10.view.read (Elt F) X10) k.val k.val).1
      ∧ (trip3 𝒱 c bd i a1 w1 a2 w2 a3 w3 a4 w4 a5 w5 a6 w6 a7 w7 a8 w8 a9 w9 a10 w10 X8 X9 X10 k).1 = [⟨Rect.unit (s := S4096x128) (k0_off5 k) S512x128.size (k0_off5_inb k), p.1⟩]
      ∧ (trip3 𝒱 c bd i a1 w1 a2 w2 a3 w3 a4 w4 a5 w5 a6 w6 a7 w7 a8 w8 a9 w9 a10 w10 X8 X9 X10 k).2.1 = [⟨Rect.unit (s := S4096x128) (k0_off5 k) S512x128.size (k0_off5_inb k), k0_pay11 p.1⟩] := by
  have hk : k.val < 8 := Nat.lt_of_lt_of_le k.isLt k0_t3_abs.2.1
  refine ⟨⟨_, ⟨⟩⟩, ?_, rfl, rfl⟩
  have h5 : Scf.trips (k0_t5_loop k).lb (k0_t5_loop k).ub (k0_t5_loop k).st = 0 := trips_5 k
  have h4 : Scf.trips (k0_t4_loop k).lb (k0_t4_loop k).ub (k0_t4_loop k).st = k.val := trips_4 k
  dsimp only
  have e5 := fun (a b d v X9 X10 init) => congrArg (st_k0_t5 (F := F) 𝒱 c bd i a1 w1 a2 w2 a3 w3 a4 w4 a5 w5 a6 w6 a7 w7 a8 w8 a9 w9 a10 w10 k a b d v X9 X10 init) h5
  refine (congrArg Prod.fst (e5 _ _ _ _ _ _ _)).trans ?_
  rw [st_k0_t5_zero]
  unfold trip3.sl.r_8
  refine congrArg Prod.fst ((congrArg (st_k0_t4 (F := F) 𝒱 c bd i a1 w1 a2 w2 a3 w3 a4 w4 a5 w5 a6 w6 a7 w7 a8 w8 a9 w9 a10 w10 _ _ k _ _ _ _ _ _ _ _ _ _ _ X9 X10 _) h4).trans ?_)
  refine st4_eq 𝒱 c bd i a1 w1 a2 w2 a3 w3 a4 w4 a5 w5 a6 w6 a7 w7 a8 w8 a9 w9 a10 w10 _ k _ _ _ _ _ _ _ _ _ _ _ X9 X10 _ _ _ rfl rfl ?_ _ ?_ k.val (trips_4 k).ge
  · exact (readAt_rows a8.view (k0_off5_inb k) hk (off_5 k) X8).symm
  · rw [fwdRow, fwd0, ← readAt_rows a8.view (k0_off5_inb k) hk (off_5 k) X8, ← readAt_rows a9.view (k0_off5_inb k) hk (off_5 k) X9,
      ← readAt_rows a10.view (k0_off5_inb k) hk (off_5 k) X10]
    rfl

/-- Before block `k`: the tiles of the blocks before it are written. -/
noncomputable abbrev inv3 (c : Dev nD) (a1 : Memref sig .tc .vmem S1x4096x128 .f32) (w1 : a1.IsWhole) (a2 : Memref sig .tc .vmem S1x4096x128 .f32) (w2 : a2.IsWhole) (a3 : Memref sig .tc .vmem S1x4096x128 .f32) (w3 : a3.IsWhole) (a4 : Memref sig .tc .vmem S1x128 .f32) (w4 : a4.IsWhole) (a5 : Memref sig .tc .vmem S1x128 .f32) (w5 : a5.IsWhole) (a6 : Memref sig .tc .vmem S4096x128 .f32) (w6 : a6.IsWhole) (a7 : Memref sig .tc .vmem S4096x128 .bf16) (w7 : a7.IsWhole) (a8 : Memref sig .tc .vmem S4096x128 .bf16) (w8 : a8.IsWhole) (a9 : Memref sig .tc .vmem S4096x128 .bf16) (w9 : a9.IsWhole) (a10 : Memref sig .tc .vmem S4096x128 .bf16) (w10 : a10.IsWhole) (X8 : BufTy.Contents (Elt F) a8.view.ty) (X9 : BufTy.Contents (Elt F) a9.view.ty) (X10 : BufTy.Contents (Elt F) a10.view.ty) (G6 : BufTy.Contents (Elt F) a6.view.ty) (G7 : BufTy.Contents (Elt F) a7.view.ty) (k : ℕ) (_u : PUnit.{1}) : sProp (MT nD τ sig Unit (Elt F) ℕ (UR sig nD τ) ℕ) :=
  iprop(At c a8 X8 ∗ At c a9 X9 ∗ At c a10 X10
    ∗ (∃ f, At c a6 f ∗ ⌜f = a6.view.writes (Elt F) G6 (tiles (fun n => (fwdRow (a8.view.read (Elt F) X8) (a9.view.read (Elt F) X9) (a10.view.read (Elt F) X10) n n).1) k)⌝)
    ∗ (∃ f, At c a7 f ∗ ⌜f = a7.view.writes (Elt F) G7 (tiles (fun n => k0_pay11 (fwdRow (a8.view.read (Elt F) X8) (a9.view.read (Elt F) X9) (a10.view.read (Elt F) X10) n n).1) k)⌝))

set_option warn.classDefReducibility false in
@[sl_loop] noncomputable def loop3 (𝒱 : Variants) (c : Dev nD) (bd : Option 𝒱.V) (E : Set ℕ) (i : grid0.Coords) (a1 : Memref sig .tc .vmem S1x4096x128 .f32) (w1 : a1.IsWhole) (a2 : Memref sig .tc .vmem S1x4096x128 .f32) (w2 : a2.IsWhole) (a3 : Memref sig .tc .vmem S1x4096x128 .f32) (w3 : a3.IsWhole) (a4 : Memref sig .tc .vmem S1x128 .f32) (w4 : a4.IsWhole) (a5 : Memref sig .tc .vmem S1x128 .f32) (w5 : a5.IsWhole) (a6 : Memref sig .tc .vmem S4096x128 .f32) (w6 : a6.IsWhole) (a7 : Memref sig .tc .vmem S4096x128 .bf16) (w7 : a7.IsWhole) (a8 : Memref sig .tc .vmem S4096x128 .bf16) (w8 : a8.IsWhole) (a9 : Memref sig .tc .vmem S4096x128 .bf16) (w9 : a9.IsWhole) (a10 : Memref sig .tc .vmem S4096x128 .bf16) (w10 : a10.IsWhole) (X8 : BufTy.Contents (Elt F) a8.view.ty) (X9 : BufTy.Contents (Elt F) a9.view.ty) (X10 : BufTy.Contents (Elt F) a10.view.ty) (G6 : BufTy.Contents (Elt F) a6.view.ty) (G7 : BufTy.Contents (Elt F) a7.view.ty) :
    LoopInvTy_k0_t3 (F := F) Unit ℕ (UR sig nD τ) ℕ 𝒱 c bd E i a1 w1 a2 w2 a3 w3 a4 w4 a5 w5 a6 w6 a7 w7 a8 w8 a9 w9 a10 w10 where
  inv := inv3 c a1 w1 a2 w2 a3 w3 a4 w4 a5 w5 a6 w6 a7 w7 a8 w8 a9 w9 a10 w10 X8 X9 X10 G6 G7
  step k acc := by
    have hk : k.val < 8 := Nat.lt_of_lt_of_le k.isLt k0_t3_abs.2.1
    obtain ⟨p, hp, h6, h7⟩ := trip3_run 𝒱 c bd i a1 w1 a2 w2 a3 w3 a4 w4 a5 w5 a6 w6 a7 w7 a8 w8 a9 w9 a10 w10 X8 X9 X10 k
    iintro ⟨H8, H9, H10, ⟨%f6, H6, %e6⟩, ⟨%f7, H7, %e7⟩⟩
    iapply (wp_wand_r Idealize.ShloMosaic.frame (wpE (defs₀ (F := F)) 𝒱 (c : Thread nD τ) bd) E)
    isplitl [H8 H9 H10 H6 H7]
    · iapply ((trip3 (F := F) 𝒱 c bd i a1 w1 a2 w2 a3 w3 a4 w4 a5 w5 a6 w6 a7 w7 a8 w8 a9 w9 a10 w10 X8 X9 X10 k).2.2 E f6 f7)
      isplitl [H8]; · iexact H8
      isplitl [H9]; · iexact H9
      isplitl [H10]; · iexact H10
      isplitl [H6]; · iexact H6
      iexact H7
    · iintro %_ ⟨H8, H9, H10, H6, H7⟩
      isplitl [H8]; · iexact H8
      isplitl [H9]; · iexact H9
      isplitl [H10]; · iexact H10
      isplitl [H6]
      · iexists _; isplitl [H6]; · iexact H6
        ipureintro
        rw [h6, e6, tiles_succ _ hk (k0_off5_inb k) (off_5 k), ← hp, ← View.writes_append]; rfl
      · iexists _; isplitl [H7]; · iexact H7
        ipureintro
        rw [h7, e7, tiles_succ _ hk (k0_off5_inb k) (off_5 k), ← hp, ← View.writes_append]; rfl

/-! ## The body of the forward region -/

theorem owns_of (c : Dev nD) {s : Shape} {e : EltTy} (a : Memref sig .tc .vmem s e) (f : BufTy.Contents (Elt F) a.view.ty) {d : s.Idx → Elt F e}
    (h : a.view.read (Elt F) f = d) : (At c a f : sProp (MT nD τ sig Unit (Elt F) ℕ (UR sig nD τ) ℕ)) ⊢ iprop(∃ f', ⌜a.view.read (Elt F) f' = d⌝ ∗ At c a f') := by
  iintro H
  iexists f
  isplitr
  · ipureintro; exact h
  iexact H

theorem owns_ex (c : Dev nD) {s : Shape} {e : EltTy} (a : Memref sig .tc .vmem s e) (f : BufTy.Contents (Elt F) a.view.ty) :
    (At c a f : sProp (MT nD τ sig Unit (Elt F) ℕ (UR sig nD τ) ℕ)) ⊢ iprop(∃ d f', ⌜a.view.read (Elt F) f' = d⌝ ∗ At c a f') := by
  iintro H
  iexists (a.view.read (Elt F) f)
  iapply (owns_of c a f rfl)
  iexact H

theorem read_O {κ : Kind} {sp : Space} (v : View sig κ sp S4096x128 .f32) (f : v.ty.Contents (Elt F)) {Q Q' K K' V V' : Vec F S4096x128 .bf16} {T : ℕ}
    (hQ : Q = Q') (hK : K = K') (hV : V = V') (hT : T = 8) : v.read (Elt F) (v.writes (Elt F) f (tiles (fun n => (fwdRow Q K V n n).1) T)) = attnO Q' K' V' := by
  subst hQ hK hV hT; exact read_tiles v f _

theorem read_O16 {κ : Kind} {sp : Space} (v : View sig κ sp S4096x128 .bf16) (f : v.ty.Contents (Elt F)) {Q Q' K K' V V' : Vec F S4096x128 .bf16} {T : ℕ}
    (hQ : Q = Q') (hK : K = K') (hV : V = V') (hT : T = 8) : v.read (Elt F) (v.writes (Elt F) f (tiles (fun n => k0_pay11 (fwdRow Q K V n n).1) T)) = attnO16 Q' K' V' := by
  subst hQ hK hV hT; exact read_tiles v f _

set_option maxHeartbeats 1000000 in
theorem sound0 (c : Dev nD) (E : Set ℕ) (i : grid0.Coords) (a1 : Memref sig .tc .vmem S1x4096x128 .f32) (w1 : a1.IsWhole) (a2 : Memref sig .tc .vmem S1x4096x128 .f32) (w2 : a2.IsWhole) (a3 : Memref sig .tc .vmem S1x4096x128 .f32) (w3 : a3.IsWhole) (a4 : Memref sig .tc .vmem S1x128 .f32) (w4 : a4.IsWhole) (a5 : Memref sig .tc .vmem S1x128 .f32) (w5 : a5.IsWhole) (a6 : Memref sig .tc .vmem S4096x128 .f32) (w6 : a6.IsWhole) (a7 : Memref sig .tc .vmem S4096x128 .bf16) (w7 : a7.IsWhole) (a8 : Memref sig .tc .vmem S4096x128 .bf16) (w8 : a8.IsWhole) (a9 : Memref sig .tc .vmem S4096x128 .bf16) (w9 : a9.IsWhole) (a10 : Memref sig .tc .vmem S4096x128 .bf16) (w10 : a10.IsWhole) (x0 x1 x2 : Vec F S1x4096x128 .f32) (g0 g1 : Vec F S1x128 .f32) (K : PUnit → sProp (MT nD τ sig Unit (Elt F) ℕ (UR sig nD τ) ℕ)) :
    iprop(owns (c : Thread nD τ) a1 fullShare x0 ∗ owns (c : Thread nD τ) a2 fullShare x1 ∗ owns (c : Thread nD τ) a3 fullShare x2 ∗ owns (c : Thread nD τ) a4 fullShare g0 ∗ owns (c : Thread nD τ) a5 fullShare g1
        ∗ (∃ d, owns (c : Thread nD τ) a6 fullShare d) ∗ (∃ d, owns (c : Thread nD τ) a7 fullShare d) ∗ (∃ d, owns (c : Thread nD τ) a8 fullShare d) ∗ (∃ d, owns (c : Thread nD τ) a9 fullShare d) ∗ (∃ d, owns (c : Thread nD τ) a10 fullShare d)
        ∗ (iprop(owns (c : Thread nD τ) a1 fullShare x0 ∗ owns (c : Thread nD τ) a2 fullShare x1 ∗ owns (c : Thread nD τ) a3 fullShare x2 ∗ owns (c : Thread nD τ) a4 fullShare g0 ∗ owns (c : Thread nD τ) a5 fullShare g1
          ∗ owns (c : Thread nD τ) a6 fullShare (attnO (normQ x0 g0) (normK x1 g1) (k0_pay3 x2)) ∗ owns (c : Thread nD τ) a7 fullShare (attnO16 (normQ x0 g0) (normK x1 g1) (k0_pay3 x2))
          ∗ (∃ d, owns (c : Thread nD τ) a8 fullShare d) ∗ (∃ d, owns (c : Thread nD τ) a9 fullShare d) ∗ (∃ d, owns (c : Thread nD τ) a10 fullShare d)) -∗ K ⟨⟩))
      ⊢ wp frame (wpE (defs₀ (F := F)) Variants.none c none) E (cc0_attn_fwd i a1 w1 a2 w2 a3 w3 a4 w4 a5 w5 a6 w6 a7 w7 a8 w8 a9 w9 a10 w10) K := by
  simp only [cc0_attn_fwd_eq_skeleton]; unfold cc0_attn_fwd_skel
  unfold owns
  iintro ⟨⟨%f1, %h1, H1⟩, ⟨%f2, %h2, H2⟩, ⟨%f3, %h3, H3⟩, ⟨%f4, %h4, H4⟩, ⟨%f5, %h5, H5⟩, ⟨%d6, %f6, -, H6⟩, ⟨%d7, %f7, -, H7⟩, ⟨%d8, %f8, -, H8⟩, ⟨%d9, %f9, -, H9⟩, ⟨%d10, %f10, -, H10⟩, Hk⟩
  subst h1 h2 h3 h4 h5
  sl_exec
  have e8 := pb1_eq (F := F) Variants.none c none i a1 w1 a2 w2 a3 w3 a4 w4 a5 w5 a6 w6 a7 w7 a8 w8 a9 w9 a10 w10 f1 f4 f8
  have e9 := pb2_eq (F := F) Variants.none c none i a1 w1 a2 w2 a3 w3 a4 w4 a5 w5 a6 w6 a7 w7 a8 w8 a9 w9 a10 w10 f2 f5 f9
  have e10 : View.read (Elt F) a10.view (a10.view.writes (Elt F) a10.view.junk (sound0.sl.H10_1 c a3 f3)) = k0_pay3 (View.read (Elt F) a3.view f3) := by
    unfold sound0.sl.H10_1
    rw [read_write_whole2]
    exact congrArg k0_pay3 (readAt_whole3 a3.view _ f3)
  sl_step
  iapply Hk
  isplitl [H1]; · iapply (owns_of c a1 f1 rfl); iexact H1
  isplitl [H2]; · iapply (owns_of c a2 f2 rfl); iexact H2
  isplitl [H3]; · iapply (owns_of c a3 f3 rfl); iexact H3
  isplitl [H4]; · iapply (owns_of c a4 f4 rfl); iexact H4
  isplitl [H5]; · iapply (owns_of c a5 f5 rfl); iexact H5
  isplitl [H6]; · iapply (owns_of c a6 _ (read_O a6.view f6 e8 e9 e10 trips_3)); iexact H6
  isplitl [H7]; · iapply (owns_of c a7 _ (read_O16 a7.view f7 e8 e9 e10 trips_3)); iexact H7
  isplitl [H8]; · iapply (owns_ex c a8 _); iexact H8
  isplitl [H9]; · iapply (owns_ex c a9 _); iexact H9
  iapply (owns_ex c a10 _); iexact H10

end Cert.Proof.Attn
-- ==== Proof.AttnRun1.lean ====
module

public import proofs.«01_k».proof.Proof.AttnRun0
public import Idealize.ShloMosaic.Lib.WritesUnit
public import Idealize.ShloMosaic.Lib.Pointwise

set_option maxRecDepth 16384
@[expose] public section
namespace Cert.Proof.Attn
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.AttnKernelIdeal Cert.AttnKernelIdeal.Gen

variable {F : FTy → Type} [FloatOps F]
variable (𝒱 : Variants) (c : Dev nD) (bd : Option 𝒱.V) (i : grid1.Coords)
  (a1 : Memref sig .tc .vmem S1x4096x128 .f32) (w1 : a1.IsWhole)
  (a2 : Memref sig .tc .vmem S1x4096x128 .f32) (w2 : a2.IsWhole)
  (a3 : Memref sig .tc .vmem S1x4096x128 .f32) (w3 : a3.IsWhole)
  (a4 : Memref sig .tc .vmem S1x128 .f32) (w4 : a4.IsWhole)
  (a5 : Memref sig .tc .vmem S1x128 .f32) (w5 : a5.IsWhole)
  (a6 : Memref sig .tc .vmem S4096x128 .bf16) (w6 : a6.IsWhole)
  (a7 : Memref sig .tc .vmem S4096x128 .f32) (w7 : a7.IsWhole)
  (a8 : Memref sig .tc .vmem S3x4096x128 .bf16) (w8 : a8.IsWhole)
  (a9 : Memref sig .tc .vmem S1x128 .f32) (w9 : a9.IsWhole)
  (a10 : Memref sig .tc .vmem S1x128 .f32) (w10 : a10.IsWhole)
  (a11 : Memref sig .tc .vmem S4096x128 .bf16) (w11 : a11.IsWhole)
  (a12 : Memref sig .tc .vmem S4096x128 .bf16) (w12 : a12.IsWhole)
  (a13 : Memref sig .tc .vmem S4096x128 .bf16) (w13 : a13.IsWhole)
  (a14 : Memref sig .tc .vmem S4096x128 .f32) (w14 : a14.IsWhole)
  (a15 : Memref sig .tc .vmem S4096x128 .f32) (w15 : a15.IsWhole)
  (a16 : Memref sig .tc .vmem S4096x128 .f32) (w16 : a16.IsWhole)

/-! ## Offsets and trips of the backward region -/

theorem boff_1 (k : Fin k1_t1_loop.trips) : k1_off1 k = ![0, 512 * k.val, 0] := by revert k; decide +kernel
theorem boff_2 (k : Fin k1_t1_loop.trips) : k1_off2 k = ![512 * k.val, 0] := by revert k; decide +kernel
theorem boff_3 (k : Fin k1_t2_loop.trips) : k1_off3 k = ![0, 512 * k.val, 0] := by revert k; decide +kernel
theorem boff_4 (k : Fin k1_t2_loop.trips) : k1_off4 k = ![512 * k.val, 0] := by revert k; decide +kernel
theorem boff_5 (k : Fin k1_t3_loop.trips) : k1_off5 k = ![512 * k.val, 0] := by revert k; decide +kernel
theorem boff_6 (k : Fin k1_t3_loop.trips) (j : Fin (k1_t4_loop k).trips) : k1_off6 k j = ![512 * (k.val - 1 - j.val), 0] := by
  revert j; revert k; decide +kernel
theorem boff_8 (k : Fin k1_t6_loop.trips) : k1_off8 k = ![0, 512 * k.val, 0] := by revert k; decide +kernel
theorem boff_9 (k : Fin k1_t6_loop.trips) : k1_off9 k = ![512 * k.val, 0] := by revert k; decide +kernel
theorem boff_10 (k : Fin k1_t6_loop.trips) : k1_off10 k = ![0, 512 * k.val, 0] := by revert k; decide +kernel
theorem boff_11 (k : Fin k1_t7_loop.trips) : k1_off11 k = ![0, 512 * k.val, 0] := by revert k; decide +kernel
theorem boff_12 (k : Fin k1_t7_loop.trips) : k1_off12 k = ![512 * k.val, 0] := by revert k; decide +kernel
theorem boff_13 (k : Fin k1_t7_loop.trips) : k1_off13 k = ![1, 512 * k.val, 0] := by revert k; decide +kernel
theorem btrips_1 : k1_t1_loop.trips = 8 := by decide +kernel
theorem btrips_2 : k1_t2_loop.trips = 8 := by decide +kernel
theorem btrips_3 : k1_t3_loop.trips = 8 := by decide +kernel
theorem btrips_4 (k : Fin k1_t3_loop.trips) : (k1_t4_loop k).trips = k.val := by revert k; decide +kernel
theorem btrips_5 (k : Fin k1_t3_loop.trips) : (k1_t5_loop k).trips = 0 := by revert k; decide +kernel
theorem btrips_6 : k1_t6_loop.trips = 8 := by decide +kernel
theorem btrips_7 : k1_t7_loop.trips = 8 := by decide +kernel

/-! ## What one block of queries computes -/

/-- The running gradient of the queries with the two carries of the suffix sums. -/
abbrev Acc (F : FTy → Type) [FloatOps F] := FVec F S512x128 .f32 × FVec F S512x128 .f32 × FVec F S512x128 .f32

/-- The masked step on the diagonal, with the new rows of the gradients of the keys and values. -/
noncomputable def bwd0 (tri : FVec F S128x256 .bf16) (msk : IVec S512x512 1) (q k v d : Vec F S512x128 .bf16) (o : Vec F S512x128 .f32)
    (Kr Vr : Vec F S512x128 .f32) : Acc F × FVec F S512x128 .f32 × FVec F S512x128 .f32 :=
  let v46 := k1_pay65 d
  let v53 := k1_pay66 d o
  let v54 : FVec F S512x128 .f32 := k1_pay67
  let v63 := k1_pay68 q k
  let v75 := k1_pay69 q k
  let v77 := k1_pay70 msk q k
  let v79 := k1_pay72 msk q k
  let v82 := k1_pay73 msk q k
  let v133 := k1_pay82 tri msk v54 v63 v75 v77 v79 v82
  let v136 := k1_pay83 v46 v v133
  let v147 := k1_pay85 tri v46 v54 v v133
  let v159 := k1_pay88 tri v46 v54 v v133
  let v171 := k1_pay91 tri v46 v54 v v133
  let v183 := k1_pay94 tri v46 v54 v v133
  ((k1_pay97 msk v53 v54 k v63 v75 v136 v147 v159 v171 v183, k1_pay81 tri v54 v77 v79 v82, k1_pay95 tri v46 v54 v v133),
    k1_pay98 msk q v53 v63 v75 v136 v147 v159 v171 v183 Kr, k1_pay99 v46 v133 Vr)

/-- The step on an earlier block of keys. -/
noncomputable def bwdStep (tri : FVec F S128x256 .bf16) (q : Vec F S512x128 .bf16) (v46 : FVec F S512x128 .bf16) (v53 : FVec F S512x1 .f32)
    (k v : Vec F S512x128 .bf16) (Kr Vr : Vec F S512x128 .f32) (acc : Acc F) : Acc F × FVec F S512x128 .f32 × FVec F S512x128 .f32 :=
  let v239 := k1_pay5 q k
  let v251 := k1_pay6 q k
  let v262 := k1_pay8 tri q acc.2.1 k
  let v263 := k1_pay9 tri q acc.2.1 k
  let v272 := k1_pay11 tri q k
  let v273 := k1_pay12 tri q k
  let v305 := k1_pay18 tri v239 v251 v262 v263 v272 v273
  let v308 := k1_pay19 tri v46 v v239 v251 v262 v263 v272 v273
  let v319 := k1_pay21 tri v46 acc.2.2 v v239 v251 v262 v263 v272 v273
  let v320 := k1_pay22 tri v46 acc.2.2 v v239 v251 v262 v263 v272 v273
  let v322 := k1_pay24 tri v46 v v239 v251 v262 v263 v272 v273
  let v325 := k1_pay25 tri v46 v v239 v251 v262 v263 v272 v273
  let z : FVec F S512x256 .f32 := constant S512x256 .f32 0x00000000#32
  ((k1_pay33 tri v53 acc.1 k v239 v251 v308 v319 v320 v322 v325 z, k1_pay17 tri v251 v263 v273, k1_pay31 tri v308 v320 v322 v325 z),
    k1_pay100 (k1_pay34 tri q v53 v239 v251 v308 v319 v320 v322 v325 z Kr), k1_pay101 v46 v305 Vr)

/-- The block of queries `n` after `j` earlier blocks of keys, with the gradients of all keys and values. -/
noncomputable def bwdRow (tri : FVec F S128x256 .bf16) (msk : IVec S512x512 1) (Q K V D : Vec F S4096x128 .bf16) (O : Vec F S4096x128 .f32)
    (n : ℕ) (S : Vec F S4096x128 .f32 × Vec F S4096x128 .f32) : ℕ → Acc F × Vec F S4096x128 .f32 × Vec F S4096x128 .f32
  | 0 =>
    let s := bwd0 tri msk (rows Q n) (rows K n) (rows V n) (rows D n) (rows O n) (rows S.1 n) (rows S.2 n)
    (s.1, upd S.1 n s.2.1, upd S.2 n s.2.2)
  | j + 1 =>
    let p := bwdRow tri msk Q K V D O n S j
    let m := n - 1 - j
    let s := bwdStep tri (rows Q n) (k1_pay65 (rows D n)) (k1_pay66 (rows D n) (rows O n)) (rows K m) (rows V m) (rows p.2.1 m) (rows p.2.2 m) p.1
    (s.1, upd p.2.1 m s.2.1, upd p.2.2 m s.2.2)

/-- The gradients of the keys and values after the first `n` blocks of queries. -/
noncomputable def bwdAcc (tri : FVec F S128x256 .bf16) (msk : IVec S512x512 1) (Q K V D : Vec F S4096x128 .bf16) (O : Vec F S4096x128 .f32)
    (S : Vec F S4096x128 .f32 × Vec F S4096x128 .f32) : ℕ → Vec F S4096x128 .f32 × Vec F S4096x128 .f32
  | 0 => S
  | n + 1 => (bwdRow tri msk Q K V D O n (bwdAcc tri msk Q K V D O S n) n).2

/-! ## The loop over the earlier blocks of keys -/

theorem bst4_eq (v25 : FVec F S128x256 .bf16) (v28 : IVec S512x512 1) (k : Fin k1_t3_loop.trips) (a17 : BitVec 32) (v41 : BitVec 32) (q : Vec F S512x128 .bf16) (v46 : FVec F S512x128 .bf16) (v53 : FVec F S512x1 .f32) (v54 : FVec F S512x128 .f32) (v56 : BitVec 32) (v58 : Vec F S512x128 .bf16) (v63 : FVec F S512x512 .f32) (v75 : FVec F S512x512 .f32) (v125 : FVec F S512x128 .f32) (v133 : FVec F S512x512 .bf16) (v136 : FVec F S512x512 .f32) (v147 : FVec F S512x128 .f32) (v159 : FVec F S512x128 .f32) (v171 : FVec F S512x128 .f32) (v183 : FVec F S512x128 .f32) (v184 : FVec F S512x128 .f32) (X12 : BufTy.Contents (Elt F) a12.view.ty) (X13 : BufTy.Contents (Elt F) a13.view.ty) (G15 : BufTy.Contents (Elt F) a15.view.ty) (G16 : BufTy.Contents (Elt F) a16.view.ty)
    (K V Q D : Vec F S4096x128 .bf16) (O : Vec F S4096x128 .f32) (S : Vec F S4096x128 .f32 × Vec F S4096x128 .f32) (hK : a12.view.read (Elt F) X12 = K) (hV : a13.view.read (Elt F) X13 = V)
    (hq : rows Q k.val = q) (h46 : k1_pay65 (rows D k.val) = v46) (h53 : k1_pay66 (rows D k.val) (rows O k.val) = v53)
    (init : Acc F) (hi : init = (bwdRow v25 v28 Q K V D O k.val S 0).1) (h15 : a15.view.read (Elt F) G15 = (bwdRow v25 v28 Q K V D O k.val S 0).2.1)
    (h16 : a16.view.read (Elt F) G16 = (bwdRow v25 v28 Q K V D O k.val S 0).2.2) (n : ℕ) (hn : n ≤ (k1_t4_loop k).trips) :
    (st_k1_t4 𝒱 c bd i a1 w1 a2 w2 a3 w3 a4 w4 a5 w5 a6 w6 a7 w7 a8 w8 a9 w9 a10 w10 a11 w11 a12 w12 a13 w13 a14 w14 a15 w15 a16 w16 v25 v28 k a17 v41 q v46 v53 v54 v56 v58 v63 v75 v125 v133 v136 v147 v159 v171 v183 v184 X12 X13 G15 G16 init n).1 = (bwdRow v25 v28 Q K V D O k.val S n).1
    ∧ a15.view.read (Elt F) (a15.view.writes (Elt F) G15 (st_k1_t4 𝒱 c bd i a1 w1 a2 w2 a3 w3 a4 w4 a5 w5 a6 w6 a7 w7 a8 w8 a9 w9 a10 w10 a11 w11 a12 w12 a13 w13 a14 w14 a15 w15 a16 w16 v25 v28 k a17 v41 q v46 v53 v54 v56 v58 v63 v75 v125 v133 v136 v147 v159 v171 v183 v184 X12 X13 G15 G16 init n).2.1) = (bwdRow v25 v28 Q K V D O k.val S n).2.1
    ∧ a16.view.read (Elt F) (a16.view.writes (Elt F) G16 (st_k1_t4 𝒱 c bd i a1 w1 a2 w2 a3 w3 a4 w4 a5 w5 a6 w6 a7 w7 a8 w8 a9 w9 a10 w10 a11 w11 a12 w12 a13 w13 a14 w14 a15 w15 a16 w16 v25 v28 k a17 v41 q v46 v53 v54 v56 v58 v63 v75 v125 v133 v136 v147 v159 v171 v183 v184 X12 X13 G15 G16 init n).2.2) = (bwdRow v25 v28 Q K V D O k.val S n).2.2 := by
  have hk : k.val < 8 := Nat.lt_of_lt_of_le k.isLt k1_t3_abs.2.1
  have h4 := btrips_4 k
  induction n with
  | zero => exact ⟨hi, h15, h16⟩
  | succ n ih =>
    obtain ⟨i1, i2, i3⟩ := ih (by omega)
    rw [st_k1_t4_succ (k := ⟨n, hn⟩)]
    unfold tripR_k1_t4 tripL_k1_t4 trip_k1_t4
    dsimp only
    generalize st_k1_t4 𝒱 c bd i a1 w1 a2 w2 a3 w3 a4 w4 a5 w5 a6 w6 a7 w7 a8 w8 a9 w9 a10 w10 a11 w11 a12 w12 a13 w13 a14 w14 a15 w15 a16 w16 v25 v28 k a17 v41 q v46 v53 v54 v56 v58 v63 v75 v125 v133 v136 v147 v159 v171 v183 v184 X12 X13 G15 G16 init n = st at i1 i2 i3 ⊢
    obtain ⟨acc, L15, L16⟩ := st
    dsimp only at i1 i2 i3 ⊢
    subst i1
    rw [List.singleton_append, List.singleton_append, read_write_tile a15.view _ (boff_6 k ⟨n, hn⟩), read_write_tile a16.view _ (boff_6 k ⟨n, hn⟩), i2, i3]
    rw [bwdRow, bwdStep]
    dsimp only
    rw [hq, h46, h53, ← i2, ← i3, ← hK, ← hV, ← readAt_rows a12.view (k1_off6_inb k ⟨n, hn⟩) (by omega) (boff_6 k ⟨n, hn⟩) X12,
      ← readAt_rows a13.view (k1_off6_inb k ⟨n, hn⟩) (by omega) (boff_6 k ⟨n, hn⟩) X13,
      ← readAt_rows a15.view (k1_off6_inb k ⟨n, hn⟩) (by omega) (boff_6 k ⟨n, hn⟩) (a15.view.writes (Elt F) G15 L15),
      ← readAt_rows a16.view (k1_off6_inb k ⟨n, hn⟩) (by omega) (boff_6 k ⟨n, hn⟩) (a16.view.writes (Elt F) G16 L16)]
    exact ⟨rfl, rfl, rfl⟩

/-! ## One block of queries -/

noncomputable def btrip3 (v25 : FVec F S128x256 .bf16) (v28 : IVec S512x512 1) (c0 : BitVec 32) (X11 : BufTy.Contents (Elt F) a11.view.ty) (X6 : BufTy.Contents (Elt F) a6.view.ty) (X7 : BufTy.Contents (Elt F) a7.view.ty) (X12 : BufTy.Contents (Elt F) a12.view.ty) (X13 : BufTy.Contents (Elt F) a13.view.ty) (k : Fin k1_t3_loop.trips) :
    Σ' (L14 : BufTy.Contents (Elt F) a15.view.ty → BufTy.Contents (Elt F) a16.view.ty → List (View.Piece (Elt F) S4096x128 .f32))
      (L15 : BufTy.Contents (Elt F) a15.view.ty → BufTy.Contents (Elt F) a16.view.ty → List (View.Piece (Elt F) S4096x128 .f32)),
      { L16 : BufTy.Contents (Elt F) a15.view.ty → BufTy.Contents (Elt F) a16.view.ty → List (View.Piece (Elt F) S4096x128 .f32) //
        ∀ (E : Set ℕ) (f14 : BufTy.Contents (Elt F) a14.view.ty) (f15 : BufTy.Contents (Elt F) a15.view.ty) (f16 : BufTy.Contents (Elt F) a16.view.ty),
      (iprop(At c a11 X11 ∗ At c a6 X6 ∗ At c a7 X7 ∗ At c a12 X12 ∗ At c a13 X13 ∗ At c a14 f14 ∗ At c a15 f15 ∗ At c a16 f16) : sProp (MT nD τ sig Unit (Elt F) ℕ (UR sig nD τ) ℕ))
      ⊢ wp frame (wpE (defs₀ (F := F)) 𝒱 (c : Thread nD τ) bd) E (k1_t3_body (F := F) i a1 w1 a2 w2 a3 w3 a4 w4 a5 w5 a6 w6 a7 w7 a8 w8 a9 w9 a10 w10 a11 w11 a12 w12 a13 w13 a14 w14 a15 w15 a16 w16 v25 v28 c0 k PUnit.unit)
          (fun _ => iprop(At c a11 X11 ∗ At c a6 X6 ∗ At c a7 X7 ∗ At c a12 X12 ∗ At c a13 X13
            ∗ At c a14 (a14.view.writes (Elt F) f14 (L14 f15 f16)) ∗ At c a15 (a15.view.writes (Elt F) f15 (L15 f15 f16)) ∗ At c a16 (a16.view.writes (Elt F) f16 (L16 f15 f16)))) } := by
  have hk : k.val < 8 := Nat.lt_of_lt_of_le k.isLt k1_t3_abs.2.1
  refine ⟨?_, ?_, ?_, fun E f14 f15 f16 => ?run⟩
  case run =>
    unfold k1_t3_body
    iintro ⟨H11, H6, H7, H12, H13, H14, H15, H16⟩
    sl_exec
    sl_step
    sl_close

theorem btrip3_aux (v25 : FVec F S128x256 .bf16) (v28 : IVec S512x512 1) (k : Fin k1_t3_loop.trips) (a17 : BitVec 32) (v41 : BitVec 32) (q : Vec F S512x128 .bf16) (v46 : FVec F S512x128 .bf16) (v53 : FVec F S512x1 .f32) (v54 : FVec F S512x128 .f32) (v56 : BitVec 32) (v58 : Vec F S512x128 .bf16) (v63 : FVec F S512x512 .f32) (v75 : FVec F S512x512 .f32) (v125 : FVec F S512x128 .f32) (v133 : FVec F S512x512 .bf16) (v136 : FVec F S512x512 .f32) (v147 : FVec F S512x128 .f32) (v159 : FVec F S512x128 .f32) (v171 : FVec F S512x128 .f32) (v183 : FVec F S512x128 .f32) (v184 : FVec F S512x128 .f32) (v222 : BitVec 32) (X12 : BufTy.Contents (Elt F) a12.view.ty) (X13 : BufTy.Contents (Elt F) a13.view.ty) (f15 : BufTy.Contents (Elt F) a15.view.ty) (f16 : BufTy.Contents (Elt F) a16.view.ty) (L15 L16 : List (View.Piece (Elt F) S4096x128 .f32)) (init : Acc F) (T4 T5 : ℕ)
    (Q K V D : Vec F S4096x128 .bf16) (O : Vec F S4096x128 .f32) (hK : a12.view.read (Elt F) X12 = K) (hV : a13.view.read (Elt F) X13 = V)
    (S : Vec F S4096x128 .f32 × Vec F S4096x128 .f32) (hT4 : T4 = (k1_t4_loop k).trips) (hT5 : T5 = 0)
    (hq : rows Q k.val = q) (h46 : k1_pay65 (rows D k.val) = v46) (h53 : k1_pay66 (rows D k.val) (rows O k.val) = v53)
    (hi : init = (bwdRow v25 v28 Q K V D O k.val S 0).1) (h15 : a15.view.read (Elt F) (a15.view.writes (Elt F) f15 L15) = (bwdRow v25 v28 Q K V D O k.val S 0).2.1)
    (h16 : a16.view.read (Elt F) (a16.view.writes (Elt F) f16 L16) = (bwdRow v25 v28 Q K V D O k.val S 0).2.2)
    (inb : ∀ a, k1_off5 k a + S512x128.size a ≤ S4096x128.size a) :
    ([⟨Rect.unit (s := S4096x128) (k1_off5 k) S512x128.size inb, k1_pay1 (st_k1_t5 𝒱 c bd i a1 w1 a2 w2 a3 w3 a4 w4 a5 w5 a6 w6 a7 w7 a8 w8 a9 w9 a10 w10 a11 w11 a12 w12 a13 w13 a14 w14 a15 w15 a16 w16 v25 v28 k a17 v41 q v46 v53 v54 v56 v58 v63 v75 v125 v133 v136 v147 v159 v171 v183 v184 v222 X12 X13 (a15.view.writes (Elt F) f15 ((st_k1_t4 𝒱 c bd i a1 w1 a2 w2 a3 w3 a4 w4 a5 w5 a6 w6 a7 w7 a8 w8 a9 w9 a10 w10 a11 w11 a12 w12 a13 w13 a14 w14 a15 w15 a16 w16 v25 v28 k a17 v41 q v46 v53 v54 v56 v58 v63 v75 v125 v133 v136 v147 v159 v171 v183 v184 X12 X13 (a15.view.writes (Elt F) f15 L15) (a16.view.writes (Elt F) f16 L16) init T4).2.1 ++ L15)) (a16.view.writes (Elt F) f16 ((st_k1_t4 𝒱 c bd i a1 w1 a2 w2 a3 w3 a4 w4 a5 w5 a6 w6 a7 w7 a8 w8 a9 w9 a10 w10 a11 w11 a12 w12 a13 w13 a14 w14 a15 w15 a16 w16 v25 v28 k a17 v41 q v46 v53 v54 v56 v58 v63 v75 v125 v133 v136 v147 v159 v171 v183 v184 X12 X13 (a15.view.writes (Elt F) f15 L15) (a16.view.writes (Elt F) f16 L16) init T4).2.2 ++ L16)) (st_k1_t4 𝒱 c bd i a1 w1 a2 w2 a3 w3 a4 w4 a5 w5 a6 w6 a7 w7 a8 w8 a9 w9 a10 w10 a11 w11 a12 w12 a13 w13 a14 w14 a15 w15 a16 w16 v25 v28 k a17 v41 q v46 v53 v54 v56 v58 v63 v75 v125 v133 v136 v147 v159 v171 v183 v184 X12 X13 (a15.view.writes (Elt F) f15 L15) (a16.view.writes (Elt F) f16 L16) init T4).1 T5).1.1⟩] : List (View.Piece (Elt F) S4096x128 .f32))
      = [⟨Rect.unit (s := S4096x128) (k1_off5 k) S512x128.size inb, k1_pay1 (bwdRow v25 v28 Q K V D O k.val S k.val).1.1⟩]
    ∧ a15.view.read (Elt F) (a15.view.writes (Elt F) f15 ((st_k1_t5 𝒱 c bd i a1 w1 a2 w2 a3 w3 a4 w4 a5 w5 a6 w6 a7 w7 a8 w8 a9 w9 a10 w10 a11 w11 a12 w12 a13 w13 a14 w14 a15 w15 a16 w16 v25 v28 k a17 v41 q v46 v53 v54 v56 v58 v63 v75 v125 v133 v136 v147 v159 v171 v183 v184 v222 X12 X13 (a15.view.writes (Elt F) f15 ((st_k1_t4 𝒱 c bd i a1 w1 a2 w2 a3 w3 a4 w4 a5 w5 a6 w6 a7 w7 a8 w8 a9 w9 a10 w10 a11 w11 a12 w12 a13 w13 a14 w14 a15 w15 a16 w16 v25 v28 k a17 v41 q v46 v53 v54 v56 v58 v63 v75 v125 v133 v136 v147 v159 v171 v183 v184 X12 X13 (a15.view.writes (Elt F) f15 L15) (a16.view.writes (Elt F) f16 L16) init T4).2.1 ++ L15)) (a16.view.writes (Elt F) f16 ((st_k1_t4 𝒱 c bd i a1 w1 a2 w2 a3 w3 a4 w4 a5 w5 a6 w6 a7 w7 a8 w8 a9 w9 a10 w10 a11 w11 a12 w12 a13 w13 a14 w14 a15 w15 a16 w16 v25 v28 k a17 v41 q v46 v53 v54 v56 v58 v63 v75 v125 v133 v136 v147 v159 v171 v183 v184 X12 X13 (a15.view.writes (Elt F) f15 L15) (a16.view.writes (Elt F) f16 L16) init T4).2.2 ++ L16)) (st_k1_t4 𝒱 c bd i a1 w1 a2 w2 a3 w3 a4 w4 a5 w5 a6 w6 a7 w7 a8 w8 a9 w9 a10 w10 a11 w11 a12 w12 a13 w13 a14 w14 a15 w15 a16 w16 v25 v28 k a17 v41 q v46 v53 v54 v56 v58 v63 v75 v125 v133 v136 v147 v159 v171 v183 v184 X12 X13 (a15.view.writes (Elt F) f15 L15) (a16.view.writes (Elt F) f16 L16) init T4).1 T5).2.1 ++ ((st_k1_t4 𝒱 c bd i a1 w1 a2 w2 a3 w3 a4 w4 a5 w5 a6 w6 a7 w7 a8 w8 a9 w9 a10 w10 a11 w11 a12 w12 a13 w13 a14 w14 a15 w15 a16 w16 v25 v28 k a17 v41 q v46 v53 v54 v56 v58 v63 v75 v125 v133 v136 v147 v159 v171 v183 v184 X12 X13 (a15.view.writes (Elt F) f15 L15) (a16.view.writes (Elt F) f16 L16) init T4).2.1 ++ L15))) = (bwdRow v25 v28 Q K V D O k.val S k.val).2.1
    ∧ a16.view.read (Elt F) (a16.view.writes (Elt F) f16 ((st_k1_t5 𝒱 c bd i a1 w1 a2 w2 a3 w3 a4 w4 a5 w5 a6 w6 a7 w7 a8 w8 a9 w9 a10 w10 a11 w11 a12 w12 a13 w13 a14 w14 a15 w15 a16 w16 v25 v28 k a17 v41 q v46 v53 v54 v56 v58 v63 v75 v125 v133 v136 v147 v159 v171 v183 v184 v222 X12 X13 (a15.view.writes (Elt F) f15 ((st_k1_t4 𝒱 c bd i a1 w1 a2 w2 a3 w3 a4 w4 a5 w5 a6 w6 a7 w7 a8 w8 a9 w9 a10 w10 a11 w11 a12 w12 a13 w13 a14 w14 a15 w15 a16 w16 v25 v28 k a17 v41 q v46 v53 v54 v56 v58 v63 v75 v125 v133 v136 v147 v159 v171 v183 v184 X12 X13 (a15.view.writes (Elt F) f15 L15) (a16.view.writes (Elt F) f16 L16) init T4).2.1 ++ L15)) (a16.view.writes (Elt F) f16 ((st_k1_t4 𝒱 c bd i a1 w1 a2 w2 a3 w3 a4 w4 a5 w5 a6 w6 a7 w7 a8 w8 a9 w9 a10 w10 a11 w11 a12 w12 a13 w13 a14 w14 a15 w15 a16 w16 v25 v28 k a17 v41 q v46 v53 v54 v56 v58 v63 v75 v125 v133 v136 v147 v159 v171 v183 v184 X12 X13 (a15.view.writes (Elt F) f15 L15) (a16.view.writes (Elt F) f16 L16) init T4).2.2 ++ L16)) (st_k1_t4 𝒱 c bd i a1 w1 a2 w2 a3 w3 a4 w4 a5 w5 a6 w6 a7 w7 a8 w8 a9 w9 a10 w10 a11 w11 a12 w12 a13 w13 a14 w14 a15 w15 a16 w16 v25 v28 k a17 v41 q v46 v53 v54 v56 v58 v63 v75 v125 v133 v136 v147 v159 v171 v183 v184 X12 X13 (a15.view.writes (Elt F) f15 L15) (a16.view.writes (Elt F) f16 L16) init T4).1 T5).2.2 ++ ((st_k1_t4 𝒱 c bd i a1 w1 a2 w2 a3 w3 a4 w4 a5 w5 a6 w6 a7 w7 a8 w8 a9 w9 a10 w10 a11 w11 a12 w12 a13 w13 a14 w14 a15 w15 a16 w16 v25 v28 k a17 v41 q v46 v53 v54 v56 v58 v63 v75 v125 v133 v136 v147 v159 v171 v183 v184 X12 X13 (a15.view.writes (Elt F) f15 L15) (a16.view.writes (Elt F) f16 L16) init T4).2.2 ++ L16))) = (bwdRow v25 v28 Q K V D O k.val S k.val).2.2 := by
  subst hT4 hT5
  obtain ⟨e1, e2, e3⟩ := bst4_eq 𝒱 c bd i a1 w1 a2 w2 a3 w3 a4 w4 a5 w5 a6 w6 a7 w7 a8 w8 a9 w9 a10 w10 a11 w11 a12 w12 a13 w13 a14 w14 a15 w15 a16 w16 v25 v28 k a17 v41 q v46 v53 v54 v56 v58 v63 v75 v125 v133 v136 v147 v159 v171 v183 v184 X12 X13 (a15.view.writes (Elt F) f15 L15) (a16.view.writes (Elt F) f16 L16) K V Q D O S hK hV hq h46 h53 init hi h15 h16
    (k1_t4_loop k).trips le_rfl
  rw [btrips_4 k] at e1 e2 e3
  rw [btrips_4 k, st_k1_t5, e1]
  refine ⟨rfl, ?_, ?_⟩
  · rw [← e2, ← View.writes_append]; rfl
  · rw [← e3, ← View.writes_append]; rfl

theorem btrip3_run (v25 : FVec F S128x256 .bf16) (v28 : IVec S512x512 1) (c0 : BitVec 32) (X11 : BufTy.Contents (Elt F) a11.view.ty) (X6 : BufTy.Contents (Elt F) a6.view.ty) (X7 : BufTy.Contents (Elt F) a7.view.ty) (X12 : BufTy.Contents (Elt F) a12.view.ty) (X13 : BufTy.Contents (Elt F) a13.view.ty) (k : Fin k1_t3_loop.trips)
    (Q K V D : Vec F S4096x128 .bf16) (O : Vec F S4096x128 .f32) (hQ : a11.view.read (Elt F) X11 = Q) (hK : a12.view.read (Elt F) X12 = K) (hV : a13.view.read (Elt F) X13 = V) (hD : a6.view.read (Elt F) X6 = D) (hO : a7.view.read (Elt F) X7 = O)
    (S : Vec F S4096x128 .f32 × Vec F S4096x128 .f32) (f15 : BufTy.Contents (Elt F) a15.view.ty) (f16 : BufTy.Contents (Elt F) a16.view.ty) (h15 : a15.view.read (Elt F) f15 = S.1) (h16 : a16.view.read (Elt F) f16 = S.2) :
    (btrip3 𝒱 c bd i a1 w1 a2 w2 a3 w3 a4 w4 a5 w5 a6 w6 a7 w7 a8 w8 a9 w9 a10 w10 a11 w11 a12 w12 a13 w13 a14 w14 a15 w15 a16 w16 v25 v28 c0 X11 X6 X7 X12 X13 k).1 f15 f16 = [⟨Rect.unit (s := S4096x128) (k1_off5 k) S512x128.size (k1_off5_inb k), k1_pay1 (bwdRow v25 v28 Q K V D O k.val S k.val).1.1⟩]
    ∧ a15.view.read (Elt F) (a15.view.writes (Elt F) f15 ((btrip3 𝒱 c bd i a1 w1 a2 w2 a3 w3 a4 w4 a5 w5 a6 w6 a7 w7 a8 w8 a9 w9 a10 w10 a11 w11 a12 w12 a13 w13 a14 w14 a15 w15 a16 w16 v25 v28 c0 X11 X6 X7 X12 X13 k).2.1 f15 f16)) = (bwdRow v25 v28 Q K V D O k.val S k.val).2.1
    ∧ a16.view.read (Elt F) (a16.view.writes (Elt F) f16 ((btrip3 𝒱 c bd i a1 w1 a2 w2 a3 w3 a4 w4 a5 w5 a6 w6 a7 w7 a8 w8 a9 w9 a10 w10 a11 w11 a12 w12 a13 w13 a14 w14 a15 w15 a16 w16 v25 v28 c0 X11 X6 X7 X12 X13 k).2.2.1 f15 f16)) = (bwdRow v25 v28 Q K V D O k.val S k.val).2.2 := by
  have hk : k.val < 8 := Nat.lt_of_lt_of_le k.isLt k1_t3_abs.2.1
  refine btrip3_aux 𝒱 c bd i a1 w1 a2 w2 a3 w3 a4 w4 a5 w5 a6 w6 a7 w7 a8 w8 a9 w9 a10 w10 a11 w11 a12 w12 a13 w13 a14 w14 a15 w15 a16 w16 v25 v28 k _ _ _ _ _ _ _ _ _ _ _ _ _ _ _ _ _ _ _ X12 X13 f15 f16 _ _ _ _ _ Q K V D O hK hV S rfl (btrips_5 k) ?_ ?_ ?_ ?_ ?_ ?_ _
  · rw [← hQ]; exact (readAt_rows a11.view (k1_off5_inb k) hk (boff_5 k) X11).symm
  · rw [← hD]; exact congrArg k1_pay65 (readAt_rows a6.view (k1_off5_inb k) hk (boff_5 k) X6).symm
  · rw [← hD, ← hO]; exact congrArg₂ k1_pay66 (readAt_rows a6.view (k1_off5_inb k) hk (boff_5 k) X6).symm (readAt_rows a7.view (k1_off5_inb k) hk (boff_5 k) X7).symm
  · rw [bwdRow, bwd0, ← hQ, ← hK, ← hV, ← hD, ← hO, ← readAt_rows a6.view (k1_off5_inb k) hk (boff_5 k) X6, ← readAt_rows a7.view (k1_off5_inb k) hk (boff_5 k) X7,
      ← readAt_rows a11.view (k1_off5_inb k) hk (boff_5 k) X11, ← readAt_rows a12.view (k1_off5_inb k) hk (boff_5 k) X12, ← readAt_rows a13.view (k1_off5_inb k) hk (boff_5 k) X13]
    rfl
  · rw [read_write_tile a15.view (k1_off5_inb k) (boff_5 k), bwdRow, bwd0, ← hQ, ← hK, ← hV, ← hD, ← hO, ← h15, ← readAt_rows a6.view (k1_off5_inb k) hk (boff_5 k) X6, ← readAt_rows a7.view (k1_off5_inb k) hk (boff_5 k) X7,
      ← readAt_rows a11.view (k1_off5_inb k) hk (boff_5 k) X11, ← readAt_rows a12.view (k1_off5_inb k) hk (boff_5 k) X12, ← readAt_rows a13.view (k1_off5_inb k) hk (boff_5 k) X13,
      ← readAt_rows a15.view (k1_off5_inb k) hk (boff_5 k) f15]
    rfl
  · rw [read_write_tile a16.view (k1_off5_inb k) (boff_5 k), bwdRow, bwd0, ← hQ, ← hK, ← hV, ← hD, ← hO, ← h16, ← readAt_rows a6.view (k1_off5_inb k) hk (boff_5 k) X6, ← readAt_rows a7.view (k1_off5_inb k) hk (boff_5 k) X7,
      ← readAt_rows a11.view (k1_off5_inb k) hk (boff_5 k) X11, ← readAt_rows a12.view (k1_off5_inb k) hk (boff_5 k) X12, ← readAt_rows a13.view (k1_off5_inb k) hk (boff_5 k) X13,
      ← readAt_rows a16.view (k1_off5_inb k) hk (boff_5 k) f16]
    rfl

/-! ## The loops before and after -/

noncomputable def bnormQ (x : Vec F S1x4096x128 .f32) (g : Vec F S1x128 .f32) : Vec F S4096x128 .bf16 := untile fun n => k1_pay114 (rows3 x n) g
noncomputable def bnormK (x : Vec F S1x4096x128 .f32) (g : Vec F S1x128 .f32) : Vec F S4096x128 .bf16 := untile fun n => k1_pay115 (rows3 x n) g

theorem bpb1_eq (X : BufTy.Contents (Elt F) a1.view.ty) (G : BufTy.Contents (Elt F) a4.view.ty) (f : BufTy.Contents (Elt F) a11.view.ty) :
    a11.view.read (Elt F) (a11.view.writes (Elt F) f (pb_k1_t1 (F := F) 𝒱 c bd i a1 w1 a2 w2 a3 w3 a4 w4 a5 w5 a6 w6 a7 w7 a8 w8 a9 w9 a10 w10 a11 w11 a12 w12 a13 w13 a14 w14 a15 w15 a16 w16 X G k1_t1_loop.trips)) = bnormQ (a1.view.read (Elt F) X) (a4.view.read (Elt F) G) := by
  rw [btrips_1]
  refine upd_all _ (fun n => a11.view.read (Elt F) (a11.view.writes (Elt F) f (pb_k1_t1 (F := F) 𝒱 c bd i a1 w1 a2 w2 a3 w3 a4 w4 a5 w5 a6 w6 a7 w7 a8 w8 a9 w9 a10 w10 a11 w11 a12 w12 a13 w13 a14 w14 a15 w15 a16 w16 X G n))) fun n hn => ?_
  have hn' : n < k1_t1_loop.trips := by rw [btrips_1]; exact hn
  rw [pb_k1_t1_succ (k := ⟨n, hn'⟩)]
  unfold tripL_k1_t1 trip_k1_t1
  dsimp only
  rw [List.singleton_append, read_write_tile a11.view _ (boff_2 ⟨n, hn'⟩), ← readAt_rows3 a1.view (k1_off1_inb ⟨n, hn'⟩) hn (boff_1 ⟨n, hn'⟩) X,
    ← readAt_whole2 a4.view inb_S1x128_S1x128_0_0]

theorem bpb2_eq (X : BufTy.Contents (Elt F) a2.view.ty) (G : BufTy.Contents (Elt F) a5.view.ty) (f : BufTy.Contents (Elt F) a12.view.ty) :
    a12.view.read (Elt F) (a12.view.writes (Elt F) f (pb_k1_t2 (F := F) 𝒱 c bd i a1 w1 a2 w2 a3 w3 a4 w4 a5 w5 a6 w6 a7 w7 a8 w8 a9 w9 a10 w10 a11 w11 a12 w12 a13 w13 a14 w14 a15 w15 a16 w16 X G k1_t2_loop.trips)) = bnormK (a2.view.read (Elt F) X) (a5.view.read (Elt F) G) := by
  rw [btrips_2]
  refine upd_all _ (fun n => a12.view.read (Elt F) (a12.view.writes (Elt F) f (pb_k1_t2 (F := F) 𝒱 c bd i a1 w1 a2 w2 a3 w3 a4 w4 a5 w5 a6 w6 a7 w7 a8 w8 a9 w9 a10 w10 a11 w11 a12 w12 a13 w13 a14 w14 a15 w15 a16 w16 X G n))) fun n hn => ?_
  have hn' : n < k1_t2_loop.trips := by rw [btrips_2]; exact hn
  rw [pb_k1_t2_succ (k := ⟨n, hn'⟩)]
  unfold tripL_k1_t2 trip_k1_t2
  dsimp only
  rw [List.singleton_append, read_write_tile a12.view _ (boff_4 ⟨n, hn'⟩), ← readAt_rows3 a2.view (k1_off3_inb ⟨n, hn'⟩) hn (boff_3 ⟨n, hn'⟩) X,
    ← readAt_whole2 a5.view inb_S1x128_S1x128_0_0]

/-- `X` with tile `n` of plane `l` replaced by `p`. -/
def upd3 {e : EltTy} (X : Vec F S3x4096x128 e) (l n : ℕ) (p : Vec F S1x512x128 e) : Vec F S3x4096x128 e :=
  fun y => if (y 0).val = l ∧ (y 1).val / 512 = n then p (ix3 0 ⟨(y 1).val % 512, Nat.mod_lt _ (by decide)⟩ (y 2)) else X y

theorem read_write_tile3 {e : EltTy} {κ : Kind} {sp : Space} (v : View sig κ sp S3x4096x128 e) {off : Fin 3 → ℕ}
    (inb : ∀ a, off a + S1x512x128.size a ≤ S3x4096x128.size a) {l n : ℕ} (h : off = ![l, 512 * n, 0])
    (f : v.ty.Contents (Elt F)) (p : Vec F S1x512x128 e) (L : List (View.Piece (Elt F) S3x4096x128 e)) :
    v.read (Elt F) (v.writes (Elt F) f ((⟨Rect.unit (s := S3x4096x128) off S1x512x128.size inb, p⟩ : View.Piece (Elt F) S3x4096x128 e) :: L))
      = upd3 (v.read (Elt F) (v.writes (Elt F) f L)) l n p := by
  funext y
  unfold upd3
  split
  · rename_i hy
    refine View.read_writes_cons_unit_of_mem v f inb p L y (ix3 0 ⟨(y 1).val % 512, Nat.mod_lt _ (by decide)⟩ (y 2)) h fun a => ?_
    match a with
    | 0 => show (y 0).val = l + 0; omega
    | 1 => show (y 1).val = 512 * n + (y 1).val % 512; omega
    | 2 => show (y 2).val = 0 + (y 2).val; omega
  · rename_i hy
    by_cases h0 : (y 0).val = l
    · refine View.read_writes_cons_unit_of_not_mem v f inb p L y h 1 ?_
      show (y 1).val < 512 * n ∨ 512 * n + 512 ≤ (y 1).val
      omega
    · refine View.read_writes_cons_unit_of_not_mem v f inb p L y h 0 ?_
      show (y 0).val < l ∨ l + 1 ≤ (y 0).val
      omega

/-- Plane `l` filled by eight tiles. -/
def fill3 {e : EltTy} (X : Vec F S3x4096x128 e) (l : ℕ) (p : ℕ → Vec F S1x512x128 e) : Vec F S3x4096x128 e :=
  fun y => if (y 0).val = l then p ((y 1).val / 512) (ix3 0 ⟨(y 1).val % 512, Nat.mod_lt _ (by decide)⟩ (y 2)) else X y

theorem upd3_all {e : EltTy} (l : ℕ) (p : ℕ → Vec F S1x512x128 e) (S : ℕ → Vec F S3x4096x128 e)
    (hS : ∀ n < 8, S (n + 1) = upd3 (S n) l n (p n)) : S 8 = fill3 (S 0) l p := by
  have key : ∀ n ≤ 8, ∀ y : S3x4096x128.Idx, S n y = if (y 0).val = l ∧ (y 1).val < 512 * n then p ((y 1).val / 512) (ix3 0 ⟨(y 1).val % 512, Nat.mod_lt _ (by decide)⟩ (y 2)) else S 0 y := by
    intro n
    induction n with
    | zero => intro _ y; rw [if_neg (by omega)]
    | succ n ih =>
      intro hn y
      rw [hS n (by omega)]
      unfold upd3
      by_cases h : (y 0).val = l ∧ (y 1).val / 512 = n
      · rw [if_pos h, if_pos ⟨h.1, by omega⟩, h.2]
      · rw [if_neg h, ih (by omega) y]
        by_cases h' : (y 0).val = l ∧ (y 1).val < 512 * n
        · rw [if_pos h', if_pos ⟨h'.1, by omega⟩]
        · rw [if_neg h', if_neg (by omega)]
  funext y
  rw [key 8 le_rfl y]
  unfold fill3
  have h1 : (y 1).val < 4096 := (y 1).isLt
  by_cases h : (y 0).val = l
  · rw [if_pos ⟨h, by omega⟩, if_pos h]
  · rw [if_neg (by omega), if_neg h]

/-- The gradients of the two gains, tile by tile. -/
noncomputable def foldQ (x : Vec F S1x4096x128 .f32) (d : Vec F S4096x128 .f32) (g : Vec F S1x128 .f32) : ℕ → Vec F S1x128 .f32
  | 0 => g
  | n + 1 => k1_pay108 (rows3 x n) (rows d n) (foldQ x d g n)

noncomputable def foldK (x : Vec F S1x4096x128 .f32) (d : Vec F S4096x128 .f32) (g : Vec F S1x128 .f32) : ℕ → Vec F S1x128 .f32
  | 0 => g
  | n + 1 => k1_pay113 (rows3 x n) (rows d n) (foldK x d g n)

theorem bpb6_eq (X1 : BufTy.Contents (Elt F) a1.view.ty) (X4 : BufTy.Contents (Elt F) a4.view.ty) (X14 : BufTy.Contents (Elt F) a14.view.ty) (G8 : BufTy.Contents (Elt F) a8.view.ty) (G9 : BufTy.Contents (Elt F) a9.view.ty) :
    a8.view.read (Elt F) (a8.view.writes (Elt F) G8 (pb_k1_t6 (F := F) 𝒱 c bd i a1 w1 a2 w2 a3 w3 a4 w4 a5 w5 a6 w6 a7 w7 a8 w8 a9 w9 a10 w10 a11 w11 a12 w12 a13 w13 a14 w14 a15 w15 a16 w16 X1 X4 X14 G8 G9 k1_t6_loop.trips).1)
        = fill3 (a8.view.read (Elt F) G8) 0 (fun n => k1_pay107 (rows3 (a1.view.read (Elt F) X1) n) (rows (a14.view.read (Elt F) X14) n) (a4.view.read (Elt F) X4))
    ∧ a9.view.read (Elt F) (a9.view.writes (Elt F) G9 (pb_k1_t6 (F := F) 𝒱 c bd i a1 w1 a2 w2 a3 w3 a4 w4 a5 w5 a6 w6 a7 w7 a8 w8 a9 w9 a10 w10 a11 w11 a12 w12 a13 w13 a14 w14 a15 w15 a16 w16 X1 X4 X14 G8 G9 k1_t6_loop.trips).2)
        = foldQ (a1.view.read (Elt F) X1) (a14.view.read (Elt F) X14) (a9.view.read (Elt F) G9) 8 := by
  rw [btrips_6]
  have step : ∀ n (hn : n < 8),
      a8.view.read (Elt F) (a8.view.writes (Elt F) G8 (pb_k1_t6 (F := F) 𝒱 c bd i a1 w1 a2 w2 a3 w3 a4 w4 a5 w5 a6 w6 a7 w7 a8 w8 a9 w9 a10 w10 a11 w11 a12 w12 a13 w13 a14 w14 a15 w15 a16 w16 X1 X4 X14 G8 G9 (n + 1)).1)
        = upd3 (a8.view.read (Elt F) (a8.view.writes (Elt F) G8 (pb_k1_t6 (F := F) 𝒱 c bd i a1 w1 a2 w2 a3 w3 a4 w4 a5 w5 a6 w6 a7 w7 a8 w8 a9 w9 a10 w10 a11 w11 a12 w12 a13 w13 a14 w14 a15 w15 a16 w16 X1 X4 X14 G8 G9 n).1)) 0 n (k1_pay107 (rows3 (a1.view.read (Elt F) X1) n) (rows (a14.view.read (Elt F) X14) n) (a4.view.read (Elt F) X4))
      ∧ a9.view.read (Elt F) (a9.view.writes (Elt F) G9 (pb_k1_t6 (F := F) 𝒱 c bd i a1 w1 a2 w2 a3 w3 a4 w4 a5 w5 a6 w6 a7 w7 a8 w8 a9 w9 a10 w10 a11 w11 a12 w12 a13 w13 a14 w14 a15 w15 a16 w16 X1 X4 X14 G8 G9 (n + 1)).2)
        = k1_pay108 (rows3 (a1.view.read (Elt F) X1) n) (rows (a14.view.read (Elt F) X14) n) (a9.view.read (Elt F) (a9.view.writes (Elt F) G9 (pb_k1_t6 (F := F) 𝒱 c bd i a1 w1 a2 w2 a3 w3 a4 w4 a5 w5 a6 w6 a7 w7 a8 w8 a9 w9 a10 w10 a11 w11 a12 w12 a13 w13 a14 w14 a15 w15 a16 w16 X1 X4 X14 G8 G9 n).2)) := by
    intro n hn
    have hn' : n < k1_t6_loop.trips := by rw [btrips_6]; exact hn
    rw [pb_k1_t6_succ (k := ⟨n, hn'⟩)]
    unfold tripL_k1_t6 trip_k1_t6
    dsimp only
    generalize pb_k1_t6 (F := F) 𝒱 c bd i a1 w1 a2 w2 a3 w3 a4 w4 a5 w5 a6 w6 a7 w7 a8 w8 a9 w9 a10 w10 a11 w11 a12 w12 a13 w13 a14 w14 a15 w15 a16 w16 X1 X4 X14 G8 G9 n = P
    obtain ⟨P8, P9⟩ := P
    dsimp only
    rw [List.singleton_append, List.singleton_append, read_write_tile3 a8.view _ (boff_10 ⟨n, hn'⟩), read_write_whole2, ← readAt_rows3 a1.view (k1_off8_inb ⟨n, hn'⟩) hn (boff_8 ⟨n, hn'⟩) X1,
      ← readAt_rows a14.view (k1_off9_inb ⟨n, hn'⟩) hn (boff_9 ⟨n, hn'⟩) X14, ← readAt_whole2 a4.view inb_S1x128_S1x128_0_0, ← readAt_whole2 a9.view inb_S1x128_S1x128_0_0]
    exact ⟨rfl, rfl⟩
  constructor
  · exact upd3_all 0 _ (fun n => a8.view.read (Elt F) (a8.view.writes (Elt F) G8 (pb_k1_t6 (F := F) 𝒱 c bd i a1 w1 a2 w2 a3 w3 a4 w4 a5 w5 a6 w6 a7 w7 a8 w8 a9 w9 a10 w10 a11 w11 a12 w12 a13 w13 a14 w14 a15 w15 a16 w16 X1 X4 X14 G8 G9 n).1)) fun n hn => (step n hn).1
  · have key : ∀ n ≤ 8, a9.view.read (Elt F) (a9.view.writes (Elt F) G9 (pb_k1_t6 (F := F) 𝒱 c bd i a1 w1 a2 w2 a3 w3 a4 w4 a5 w5 a6 w6 a7 w7 a8 w8 a9 w9 a10 w10 a11 w11 a12 w12 a13 w13 a14 w14 a15 w15 a16 w16 X1 X4 X14 G8 G9 n).2) = foldQ (a1.view.read (Elt F) X1) (a14.view.read (Elt F) X14) (a9.view.read (Elt F) G9) n := by
      intro n
      induction n with
      | zero => intro _; rfl
      | succ n ih => intro hn; rw [(step n (by omega)).2, ih (by omega), foldQ]
    exact key 8 le_rfl

theorem bpb7_eq (X2 : BufTy.Contents (Elt F) a2.view.ty) (X5 : BufTy.Contents (Elt F) a5.view.ty) (X15 : BufTy.Contents (Elt F) a15.view.ty) (G8 : BufTy.Contents (Elt F) a8.view.ty) (G10 : BufTy.Contents (Elt F) a10.view.ty) :
    a8.view.read (Elt F) (a8.view.writes (Elt F) G8 (pb_k1_t7 (F := F) 𝒱 c bd i a1 w1 a2 w2 a3 w3 a4 w4 a5 w5 a6 w6 a7 w7 a8 w8 a9 w9 a10 w10 a11 w11 a12 w12 a13 w13 a14 w14 a15 w15 a16 w16 X2 X5 X15 G8 G10 k1_t7_loop.trips).1)
        = fill3 (a8.view.read (Elt F) G8) 1 (fun n => k1_pay112 (rows3 (a2.view.read (Elt F) X2) n) (rows (a15.view.read (Elt F) X15) n) (a5.view.read (Elt F) X5))
    ∧ a10.view.read (Elt F) (a10.view.writes (Elt F) G10 (pb_k1_t7 (F := F) 𝒱 c bd i a1 w1 a2 w2 a3 w3 a4 w4 a5 w5 a6 w6 a7 w7 a8 w8 a9 w9 a10 w10 a11 w11 a12 w12 a13 w13 a14 w14 a15 w15 a16 w16 X2 X5 X15 G8 G10 k1_t7_loop.trips).2)
        = foldK (a2.view.read (Elt F) X2) (a15.view.read (Elt F) X15) (a10.view.read (Elt F) G10) 8 := by
  rw [btrips_7]
  have step : ∀ n (hn : n < 8),
      a8.view.read (Elt F) (a8.view.writes (Elt F) G8 (pb_k1_t7 (F := F) 𝒱 c bd i a1 w1 a2 w2 a3 w3 a4 w4 a5 w5 a6 w6 a7 w7 a8 w8 a9 w9 a10 w10 a11 w11 a12 w12 a13 w13 a14 w14 a15 w15 a16 w16 X2 X5 X15 G8 G10 (n + 1)).1)
        = upd3 (a8.view.read (Elt F) (a8.view.writes (Elt F) G8 (pb_k1_t7 (F := F) 𝒱 c bd i a1 w1 a2 w2 a3 w3 a4 w4 a5 w5 a6 w6 a7 w7 a8 w8 a9 w9 a10 w10 a11 w11 a12 w12 a13 w13 a14 w14 a15 w15 a16 w16 X2 X5 X15 G8 G10 n).1)) 1 n (k1_pay112 (rows3 (a2.view.read (Elt F) X2) n) (rows (a15.view.read (Elt F) X15) n) (a5.view.read (Elt F) X5))
      ∧ a10.view.read (Elt F) (a10.view.writes (Elt F) G10 (pb_k1_t7 (F := F) 𝒱 c bd i a1 w1 a2 w2 a3 w3 a4 w4 a5 w5 a6 w6 a7 w7 a8 w8 a9 w9 a10 w10 a11 w11 a12 w12 a13 w13 a14 w14 a15 w15 a16 w16 X2 X5 X15 G8 G10 (n + 1)).2)
        = k1_pay113 (rows3 (a2.view.read (Elt F) X2) n) (rows (a15.view.read (Elt F) X15) n) (a10.view.read (Elt F) (a10.view.writes (Elt F) G10 (pb_k1_t7 (F := F) 𝒱 c bd i a1 w1 a2 w2 a3 w3 a4 w4 a5 w5 a6 w6 a7 w7 a8 w8 a9 w9 a10 w10 a11 w11 a12 w12 a13 w13 a14 w14 a15 w15 a16 w16 X2 X5 X15 G8 G10 n).2)) := by
    intro n hn
    have hn' : n < k1_t7_loop.trips := by rw [btrips_7]; exact hn
    rw [pb_k1_t7_succ (k := ⟨n, hn'⟩)]
    unfold tripL_k1_t7 trip_k1_t7
    dsimp only
    generalize pb_k1_t7 (F := F) 𝒱 c bd i a1 w1 a2 w2 a3 w3 a4 w4 a5 w5 a6 w6 a7 w7 a8 w8 a9 w9 a10 w10 a11 w11 a12 w12 a13 w13 a14 w14 a15 w15 a16 w16 X2 X5 X15 G8 G10 n = P
    obtain ⟨P8, P9⟩ := P
    dsimp only
    rw [List.singleton_append, List.singleton_append, read_write_tile3 a8.view _ (boff_13 ⟨n, hn'⟩), read_write_whole2, ← readAt_rows3 a2.view (k1_off11_inb ⟨n, hn'⟩) hn (boff_11 ⟨n, hn'⟩) X2,
      ← readAt_rows a15.view (k1_off12_inb ⟨n, hn'⟩) hn (boff_12 ⟨n, hn'⟩) X15, ← readAt_whole2 a5.view inb_S1x128_S1x128_0_0, ← readAt_whole2 a10.view inb_S1x128_S1x128_0_0]
    exact ⟨rfl, rfl⟩
  constructor
  · exact upd3_all 1 _ (fun n => a8.view.read (Elt F) (a8.view.writes (Elt F) G8 (pb_k1_t7 (F := F) 𝒱 c bd i a1 w1 a2 w2 a3 w3 a4 w4 a5 w5 a6 w6 a7 w7 a8 w8 a9 w9 a10 w10 a11 w11 a12 w12 a13 w13 a14 w14 a15 w15 a16 w16 X2 X5 X15 G8 G10 n).1)) fun n hn => (step n hn).1
  · have key : ∀ n ≤ 8, a10.view.read (Elt F) (a10.view.writes (Elt F) G10 (pb_k1_t7 (F := F) 𝒱 c bd i a1 w1 a2 w2 a3 w3 a4 w4 a5 w5 a6 w6 a7 w7 a8 w8 a9 w9 a10 w10 a11 w11 a12 w12 a13 w13 a14 w14 a15 w15 a16 w16 X2 X5 X15 G8 G10 n).2) = foldK (a2.view.read (Elt F) X2) (a15.view.read (Elt F) X15) (a10.view.read (Elt F) G10) n := by
      intro n
      induction n with
      | zero => intro _; rfl
      | succ n ih => intro hn; rw [(step n (by omega)).2, ih (by omega), foldK]
    exact key 8 le_rfl

end Cert.Proof.Attn
-- ==== Proof.AttnRun2.lean ====
module

public import proofs.«01_k».proof.Proof.AttnRun1

set_option maxRecDepth 16384
@[expose] public section
namespace Cert.Proof.Attn
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.AttnKernelIdeal Cert.AttnKernelIdeal.Gen

variable {F : FTy → Type} [FloatOps F]
variable (𝒱 : Variants) (c : Dev nD) (bd : Option 𝒱.V) (i : grid1.Coords)
  (a1 : Memref sig .tc .vmem S1x4096x128 .f32) (w1 : a1.IsWhole)
  (a2 : Memref sig .tc .vmem S1x4096x128 .f32) (w2 : a2.IsWhole)
  (a3 : Memref sig .tc .vmem S1x4096x128 .f32) (w3 : a3.IsWhole)
  (a4 : Memref sig .tc .vmem S1x128 .f32) (w4 : a4.IsWhole)
  (a5 : Memref sig .tc .vmem S1x128 .f32) (w5 : a5.IsWhole)
  (a6 : Memref sig .tc .vmem S4096x128 .bf16) (w6 : a6.IsWhole)
  (a7 : Memref sig .tc .vmem S4096x128 .f32) (w7 : a7.IsWhole)
  (a8 : Memref sig .tc .vmem S3x4096x128 .bf16) (w8 : a8.IsWhole)
  (a9 : Memref sig .tc .vmem S1x128 .f32) (w9 : a9.IsWhole)
  (a10 : Memref sig .tc .vmem S1x128 .f32) (w10 : a10.IsWhole)
  (a11 : Memref sig .tc .vmem S4096x128 .bf16) (w11 : a11.IsWhole)
  (a12 : Memref sig .tc .vmem S4096x128 .bf16) (w12 : a12.IsWhole)
  (a13 : Memref sig .tc .vmem S4096x128 .bf16) (w13 : a13.IsWhole)
  (a14 : Memref sig .tc .vmem S4096x128 .f32) (w14 : a14.IsWhole)
  (a15 : Memref sig .tc .vmem S4096x128 .f32) (w15 : a15.IsWhole)
  (a16 : Memref sig .tc .vmem S4096x128 .f32) (w16 : a16.IsWhole)

/-! ## The loop over the blocks of queries -/

/-- The gradient of the head's normalised queries. -/
noncomputable def bwdQ (tri : FVec F S128x256 .bf16) (msk : IVec S512x512 1) (Q K V D : Vec F S4096x128 .bf16) (O : Vec F S4096x128 .f32)
    (S : Vec F S4096x128 .f32 × Vec F S4096x128 .f32) (n : ℕ) : FVec F S512x128 .f32 :=
  k1_pay1 (bwdRow tri msk Q K V D O n (bwdAcc tri msk Q K V D O S n) n).1.1

/-- The pieces of the blocks before `k` on the gradients of the keys and values, the last first. -/
@[irreducible] noncomputable def bpcsStep (v25 : FVec F S128x256 .bf16) (v28 : IVec S512x512 1) (c0 : BitVec 32) (X11 : BufTy.Contents (Elt F) a11.view.ty) (X6 : BufTy.Contents (Elt F) a6.view.ty) (X7 : BufTy.Contents (Elt F) a7.view.ty) (X12 : BufTy.Contents (Elt F) a12.view.ty) (X13 : BufTy.Contents (Elt F) a13.view.ty) (G15 : BufTy.Contents (Elt F) a15.view.ty) (G16 : BufTy.Contents (Elt F) a16.view.ty) (k : ℕ) (prev : List (View.Piece (Elt F) S4096x128 .f32) × List (View.Piece (Elt F) S4096x128 .f32)) : List (View.Piece (Elt F) S4096x128 .f32) × List (View.Piece (Elt F) S4096x128 .f32) :=
  if h : k < k1_t3_loop.trips then
      ((btrip3 𝒱 c bd i a1 w1 a2 w2 a3 w3 a4 w4 a5 w5 a6 w6 a7 w7 a8 w8 a9 w9 a10 w10 a11 w11 a12 w12 a13 w13 a14 w14 a15 w15 a16 w16 v25 v28 c0 X11 X6 X7 X12 X13 ⟨k, h⟩).2.1 (a15.view.writes (Elt F) G15 prev.1) (a16.view.writes (Elt F) G16 prev.2) ++ prev.1,
        (btrip3 𝒱 c bd i a1 w1 a2 w2 a3 w3 a4 w4 a5 w5 a6 w6 a7 w7 a8 w8 a9 w9 a10 w10 a11 w11 a12 w12 a13 w13 a14 w14 a15 w15 a16 w16 v25 v28 c0 X11 X6 X7 X12 X13 ⟨k, h⟩).2.2.1 (a15.view.writes (Elt F) G15 prev.1) (a16.view.writes (Elt F) G16 prev.2) ++ prev.2)
    else prev

noncomputable def bpcs (𝒱 : Variants) (c : Dev nD) (bd : Option 𝒱.V) (i : grid1.Coords) (a1 : Memref sig .tc .vmem S1x4096x128 .f32) (w1 : a1.IsWhole) (a2 : Memref sig .tc .vmem S1x4096x128 .f32) (w2 : a2.IsWhole) (a3 : Memref sig .tc .vmem S1x4096x128 .f32) (w3 : a3.IsWhole) (a4 : Memref sig .tc .vmem S1x128 .f32) (w4 : a4.IsWhole) (a5 : Memref sig .tc .vmem S1x128 .f32) (w5 : a5.IsWhole) (a6 : Memref sig .tc .vmem S4096x128 .bf16) (w6 : a6.IsWhole) (a7 : Memref sig .tc .vmem S4096x128 .f32) (w7 : a7.IsWhole) (a8 : Memref sig .tc .vmem S3x4096x128 .bf16) (w8 : a8.IsWhole) (a9 : Memref sig .tc .vmem S1x128 .f32) (w9 : a9.IsWhole) (a10 : Memref sig .tc .vmem S1x128 .f32) (w10 : a10.IsWhole) (a11 : Memref sig .tc .vmem S4096x128 .bf16) (w11 : a11.IsWhole) (a12 : Memref sig .tc .vmem S4096x128 .bf16) (w12 : a12.IsWhole) (a13 : Memref sig .tc .vmem S4096x128 .bf16) (w13 : a13.IsWhole) (a14 : Memref sig .tc .vmem S4096x128 .f32) (w14 : a14.IsWhole) (a15 : Memref sig .tc .vmem S4096x128 .f32) (w15 : a15.IsWhole) (a16 : Memref sig .tc .vmem S4096x128 .f32) (w16 : a16.IsWhole) (v25 : FVec F S128x256 .bf16) (v28 : IVec S512x512 1) (c0 : BitVec 32) (X11 : BufTy.Contents (Elt F) a11.view.ty) (X6 : BufTy.Contents (Elt F) a6.view.ty) (X7 : BufTy.Contents (Elt F) a7.view.ty) (X12 : BufTy.Contents (Elt F) a12.view.ty) (X13 : BufTy.Contents (Elt F) a13.view.ty) (G15 : BufTy.Contents (Elt F) a15.view.ty) (G16 : BufTy.Contents (Elt F) a16.view.ty) : ℕ → List (View.Piece (Elt F) S4096x128 .f32) × List (View.Piece (Elt F) S4096x128 .f32)
  | 0 => ([], [])
  | k + 1 => bpcsStep 𝒱 c bd i a1 w1 a2 w2 a3 w3 a4 w4 a5 w5 a6 w6 a7 w7 a8 w8 a9 w9 a10 w10 a11 w11 a12 w12 a13 w13 a14 w14 a15 w15 a16 w16 v25 v28 c0 X11 X6 X7 X12 X13 G15 G16 k (bpcs 𝒱 c bd i a1 w1 a2 w2 a3 w3 a4 w4 a5 w5 a6 w6 a7 w7 a8 w8 a9 w9 a10 w10 a11 w11 a12 w12 a13 w13 a14 w14 a15 w15 a16 w16 v25 v28 c0 X11 X6 X7 X12 X13 G15 G16 k)

theorem bpcs_succ (v25 : FVec F S128x256 .bf16) (v28 : IVec S512x512 1) (c0 : BitVec 32) (X11 : BufTy.Contents (Elt F) a11.view.ty) (X6 : BufTy.Contents (Elt F) a6.view.ty) (X7 : BufTy.Contents (Elt F) a7.view.ty) (X12 : BufTy.Contents (Elt F) a12.view.ty) (X13 : BufTy.Contents (Elt F) a13.view.ty) (G15 : BufTy.Contents (Elt F) a15.view.ty) (G16 : BufTy.Contents (Elt F) a16.view.ty) (k : Fin k1_t3_loop.trips) :
    bpcs 𝒱 c bd i a1 w1 a2 w2 a3 w3 a4 w4 a5 w5 a6 w6 a7 w7 a8 w8 a9 w9 a10 w10 a11 w11 a12 w12 a13 w13 a14 w14 a15 w15 a16 w16 v25 v28 c0 X11 X6 X7 X12 X13 G15 G16 (k.val + 1) = ((btrip3 𝒱 c bd i a1 w1 a2 w2 a3 w3 a4 w4 a5 w5 a6 w6 a7 w7 a8 w8 a9 w9 a10 w10 a11 w11 a12 w12 a13 w13 a14 w14 a15 w15 a16 w16 v25 v28 c0 X11 X6 X7 X12 X13 k).2.1 (a15.view.writes (Elt F) G15 (bpcs 𝒱 c bd i a1 w1 a2 w2 a3 w3 a4 w4 a5 w5 a6 w6 a7 w7 a8 w8 a9 w9 a10 w10 a11 w11 a12 w12 a13 w13 a14 w14 a15 w15 a16 w16 v25 v28 c0 X11 X6 X7 X12 X13 G15 G16 k.val).1) (a16.view.writes (Elt F) G16 (bpcs 𝒱 c bd i a1 w1 a2 w2 a3 w3 a4 w4 a5 w5 a6 w6 a7 w7 a8 w8 a9 w9 a10 w10 a11 w11 a12 w12 a13 w13 a14 w14 a15 w15 a16 w16 v25 v28 c0 X11 X6 X7 X12 X13 G15 G16 k.val).2) ++ (bpcs 𝒱 c bd i a1 w1 a2 w2 a3 w3 a4 w4 a5 w5 a6 w6 a7 w7 a8 w8 a9 w9 a10 w10 a11 w11 a12 w12 a13 w13 a14 w14 a15 w15 a16 w16 v25 v28 c0 X11 X6 X7 X12 X13 G15 G16 k.val).1,
        (btrip3 𝒱 c bd i a1 w1 a2 w2 a3 w3 a4 w4 a5 w5 a6 w6 a7 w7 a8 w8 a9 w9 a10 w10 a11 w11 a12 w12 a13 w13 a14 w14 a15 w15 a16 w16 v25 v28 c0 X11 X6 X7 X12 X13 k).2.2.1 (a15.view.writes (Elt F) G15 (bpcs 𝒱 c bd i a1 w1 a2 w2 a3 w3 a4 w4 a5 w5 a6 w6 a7 w7 a8 w8 a9 w9 a10 w10 a11 w11 a12 w12 a13 w13 a14 w14 a15 w15 a16 w16 v25 v28 c0 X11 X6 X7 X12 X13 G15 G16 k.val).1) (a16.view.writes (Elt F) G16 (bpcs 𝒱 c bd i a1 w1 a2 w2 a3 w3 a4 w4 a5 w5 a6 w6 a7 w7 a8 w8 a9 w9 a10 w10 a11 w11 a12 w12 a13 w13 a14 w14 a15 w15 a16 w16 v25 v28 c0 X11 X6 X7 X12 X13 G15 G16 k.val).2) ++ (bpcs 𝒱 c bd i a1 w1 a2 w2 a3 w3 a4 w4 a5 w5 a6 w6 a7 w7 a8 w8 a9 w9 a10 w10 a11 w11 a12 w12 a13 w13 a14 w14 a15 w15 a16 w16 v25 v28 c0 X11 X6 X7 X12 X13 G15 G16 k.val).2) := by
  rw [bpcs.eq_2]; unfold bpcsStep; exact dif_pos k.isLt

theorem bpcs_eq (v25 : FVec F S128x256 .bf16) (v28 : IVec S512x512 1) (c0 : BitVec 32) (X11 : BufTy.Contents (Elt F) a11.view.ty) (X6 : BufTy.Contents (Elt F) a6.view.ty) (X7 : BufTy.Contents (Elt F) a7.view.ty) (X12 : BufTy.Contents (Elt F) a12.view.ty) (X13 : BufTy.Contents (Elt F) a13.view.ty) (G15 : BufTy.Contents (Elt F) a15.view.ty) (G16 : BufTy.Contents (Elt F) a16.view.ty) (k : ℕ) (hk : k ≤ k1_t3_loop.trips) :
    a15.view.read (Elt F) (a15.view.writes (Elt F) G15 (bpcs 𝒱 c bd i a1 w1 a2 w2 a3 w3 a4 w4 a5 w5 a6 w6 a7 w7 a8 w8 a9 w9 a10 w10 a11 w11 a12 w12 a13 w13 a14 w14 a15 w15 a16 w16 v25 v28 c0 X11 X6 X7 X12 X13 G15 G16 k).1) = (bwdAcc v25 v28 (a11.view.read (Elt F) X11) (a12.view.read (Elt F) X12) (a13.view.read (Elt F) X13) (a6.view.read (Elt F) X6) (a7.view.read (Elt F) X7) (a15.view.read (Elt F) G15, a16.view.read (Elt F) G16) k).1
    ∧ a16.view.read (Elt F) (a16.view.writes (Elt F) G16 (bpcs 𝒱 c bd i a1 w1 a2 w2 a3 w3 a4 w4 a5 w5 a6 w6 a7 w7 a8 w8 a9 w9 a10 w10 a11 w11 a12 w12 a13 w13 a14 w14 a15 w15 a16 w16 v25 v28 c0 X11 X6 X7 X12 X13 G15 G16 k).2) = (bwdAcc v25 v28 (a11.view.read (Elt F) X11) (a12.view.read (Elt F) X12) (a13.view.read (Elt F) X13) (a6.view.read (Elt F) X6) (a7.view.read (Elt F) X7) (a15.view.read (Elt F) G15, a16.view.read (Elt F) G16) k).2 := by
  induction k with
  | zero => exact ⟨rfl, rfl⟩
  | succ k ih =>
    have h : k < k1_t3_loop.trips := hk
    obtain ⟨e15, e16⟩ := ih h.le
    have hr := btrip3_run 𝒱 c bd i a1 w1 a2 w2 a3 w3 a4 w4 a5 w5 a6 w6 a7 w7 a8 w8 a9 w9 a10 w10 a11 w11 a12 w12 a13 w13 a14 w14 a15 w15 a16 w16 v25 v28 c0 X11 X6 X7 X12 X13 ⟨k, h⟩ _ _ _ _ _ rfl rfl rfl rfl rfl _ _ _ e15 e16
    rw [bpcs_succ (k := ⟨k, h⟩), bwdAcc]
    refine ⟨?_, ?_⟩
    · rw [View.writes_append]; exact hr.2.1
    · rw [View.writes_append]; exact hr.2.2

/-- Before block `k`: the tiles of the blocks before it are written, the gradients of the keys and values are theirs. -/
noncomputable abbrev binv3 (v25 : FVec F S128x256 .bf16) (v28 : IVec S512x512 1) (c0 : BitVec 32) (X11 : BufTy.Contents (Elt F) a11.view.ty) (X6 : BufTy.Contents (Elt F) a6.view.ty) (X7 : BufTy.Contents (Elt F) a7.view.ty) (X12 : BufTy.Contents (Elt F) a12.view.ty) (X13 : BufTy.Contents (Elt F) a13.view.ty) (G14 : BufTy.Contents (Elt F) a14.view.ty) (G15 : BufTy.Contents (Elt F) a15.view.ty) (G16 : BufTy.Contents (Elt F) a16.view.ty) (k : ℕ) (_u : PUnit.{1}) : sProp (MT nD τ sig Unit (Elt F) ℕ (UR sig nD τ) ℕ) :=
  iprop(At c a11 X11 ∗ At c a6 X6 ∗ At c a7 X7 ∗ At c a12 X12 ∗ At c a13 X13
    ∗ (∃ f, At c a14 f ∗ ⌜f = a14.view.writes (Elt F) G14 (tiles (bwdQ v25 v28 (a11.view.read (Elt F) X11) (a12.view.read (Elt F) X12) (a13.view.read (Elt F) X13) (a6.view.read (Elt F) X6) (a7.view.read (Elt F) X7) (a15.view.read (Elt F) G15, a16.view.read (Elt F) G16)) k)⌝)
    ∗ (∃ f, At c a15 f ∗ ⌜f = a15.view.writes (Elt F) G15 (bpcs 𝒱 c bd i a1 w1 a2 w2 a3 w3 a4 w4 a5 w5 a6 w6 a7 w7 a8 w8 a9 w9 a10 w10 a11 w11 a12 w12 a13 w13 a14 w14 a15 w15 a16 w16 v25 v28 c0 X11 X6 X7 X12 X13 G15 G16 k).1⌝)
    ∗ (∃ f, At c a16 f ∗ ⌜f = a16.view.writes (Elt F) G16 (bpcs 𝒱 c bd i a1 w1 a2 w2 a3 w3 a4 w4 a5 w5 a6 w6 a7 w7 a8 w8 a9 w9 a10 w10 a11 w11 a12 w12 a13 w13 a14 w14 a15 w15 a16 w16 v25 v28 c0 X11 X6 X7 X12 X13 G15 G16 k).2⌝))

set_option warn.classDefReducibility false in
@[sl_loop] noncomputable def bloop3 (𝒱 : Variants) (c : Dev nD) (bd : Option 𝒱.V) (E : Set ℕ) (i : grid1.Coords) (a1 : Memref sig .tc .vmem S1x4096x128 .f32) (w1 : a1.IsWhole) (a2 : Memref sig .tc .vmem S1x4096x128 .f32) (w2 : a2.IsWhole) (a3 : Memref sig .tc .vmem S1x4096x128 .f32) (w3 : a3.IsWhole) (a4 : Memref sig .tc .vmem S1x128 .f32) (w4 : a4.IsWhole) (a5 : Memref sig .tc .vmem S1x128 .f32) (w5 : a5.IsWhole) (a6 : Memref sig .tc .vmem S4096x128 .bf16) (w6 : a6.IsWhole) (a7 : Memref sig .tc .vmem S4096x128 .f32) (w7 : a7.IsWhole) (a8 : Memref sig .tc .vmem S3x4096x128 .bf16) (w8 : a8.IsWhole) (a9 : Memref sig .tc .vmem S1x128 .f32) (w9 : a9.IsWhole) (a10 : Memref sig .tc .vmem S1x128 .f32) (w10 : a10.IsWhole) (a11 : Memref sig .tc .vmem S4096x128 .bf16) (w11 : a11.IsWhole) (a12 : Memref sig .tc .vmem S4096x128 .bf16) (w12 : a12.IsWhole) (a13 : Memref sig .tc .vmem S4096x128 .bf16) (w13 : a13.IsWhole) (a14 : Memref sig .tc .vmem S4096x128 .f32) (w14 : a14.IsWhole) (a15 : Memref sig .tc .vmem S4096x128 .f32) (w15 : a15.IsWhole) (a16 : Memref sig .tc .vmem S4096x128 .f32) (w16 : a16.IsWhole) (v25 : FVec F S128x256 .bf16) (v28 : IVec S512x512 1) (c0 : BitVec 32) (X11 : BufTy.Contents (Elt F) a11.view.ty) (X6 : BufTy.Contents (Elt F) a6.view.ty) (X7 : BufTy.Contents (Elt F) a7.view.ty) (X12 : BufTy.Contents (Elt F) a12.view.ty) (X13 : BufTy.Contents (Elt F) a13.view.ty) (G14 : BufTy.Contents (Elt F) a14.view.ty) (G15 : BufTy.Contents (Elt F) a15.view.ty) (G16 : BufTy.Contents (Elt F) a16.view.ty) :
    LoopInvTy_k1_t3 (F := F) Unit ℕ (UR sig nD τ) ℕ 𝒱 c bd E i a1 w1 a2 w2 a3 w3 a4 w4 a5 w5 a6 w6 a7 w7 a8 w8 a9 w9 a10 w10 a11 w11 a12 w12 a13 w13 a14 w14 a15 w15 a16 w16 v25 v28 c0 where
  inv := binv3 𝒱 c bd i a1 w1 a2 w2 a3 w3 a4 w4 a5 w5 a6 w6 a7 w7 a8 w8 a9 w9 a10 w10 a11 w11 a12 w12 a13 w13 a14 w14 a15 w15 a16 w16 v25 v28 c0 X11 X6 X7 X12 X13 G14 G15 G16
  step k acc := by
    have hk : k.val < 8 := Nat.lt_of_lt_of_le k.isLt k1_t3_abs.2.1
    iintro ⟨H11, H6, H7, H12, H13, ⟨%f14, H14, %e14⟩, ⟨%f15, H15, %e15⟩, ⟨%f16, H16, %e16⟩⟩
    have hp := bpcs_eq 𝒱 c bd i a1 w1 a2 w2 a3 w3 a4 w4 a5 w5 a6 w6 a7 w7 a8 w8 a9 w9 a10 w10 a11 w11 a12 w12 a13 w13 a14 w14 a15 w15 a16 w16 v25 v28 c0 X11 X6 X7 X12 X13 G15 G16 k.val k.isLt.le
    have hr := btrip3_run 𝒱 c bd i a1 w1 a2 w2 a3 w3 a4 w4 a5 w5 a6 w6 a7 w7 a8 w8 a9 w9 a10 w10 a11 w11 a12 w12 a13 w13 a14 w14 a15 w15 a16 w16 v25 v28 c0 X11 X6 X7 X12 X13 k _ _ _ _ _ rfl rfl rfl rfl rfl _ f15 f16 (e15 ▸ hp.1) (e16 ▸ hp.2)
    iapply (wp_wand_r Idealize.ShloMosaic.frame (wpE (defs₀ (F := F)) 𝒱 (c : Thread nD τ) bd) E)
    isplitl [H11 H6 H7 H12 H13 H14 H15 H16]
    · iapply ((btrip3 (F := F) 𝒱 c bd i a1 w1 a2 w2 a3 w3 a4 w4 a5 w5 a6 w6 a7 w7 a8 w8 a9 w9 a10 w10 a11 w11 a12 w12 a13 w13 a14 w14 a15 w15 a16 w16 v25 v28 c0 X11 X6 X7 X12 X13 k).2.2.2 E f14 f15 f16)
      isplitl [H11]; · iexact H11
      isplitl [H6]; · iexact H6
      isplitl [H7]; · iexact H7
      isplitl [H12]; · iexact H12
      isplitl [H13]; · iexact H13
      isplitl [H14]; · iexact H14
      isplitl [H15]; · iexact H15
      iexact H16
    · iintro %_ ⟨H11, H6, H7, H12, H13, H14, H15, H16⟩
      isplitl [H11]; · iexact H11
      isplitl [H6]; · iexact H6
      isplitl [H7]; · iexact H7
      isplitl [H12]; · iexact H12
      isplitl [H13]; · iexact H13
      isplitl [H14]
      · iexists _; isplitl [H14]; · iexact H14
        ipureintro
        rw [hr.1, e14, tiles_succ _ hk (k1_off5_inb k) (boff_5 k), ← View.writes_append]; rfl
      isplitl [H15]
      · iexists _; isplitl [H15]; · iexact H15
        ipureintro
        rw [bpcs_succ, View.writes_append, ← e15, ← e16]
      · iexists _; isplitl [H16]; · iexact H16
        ipureintro
        rw [bpcs_succ, View.writes_append, ← e15, ← e16]

/-! ## The body of the backward region -/

theorem read_write_plane {e : EltTy} {κ : Kind} {sp : Space} (v : View sig κ sp S3x4096x128 e)
    (inb : ∀ a, (![2, 0, 0] : Fin 3 → ℕ) a + S1x4096x128.size a ≤ S3x4096x128.size a)
    (f : v.ty.Contents (Elt F)) (p : Vec F S1x4096x128 e) (L : List (View.Piece (Elt F) S3x4096x128 e)) :
    v.read (Elt F) (v.writes (Elt F) f ((⟨Rect.unit (s := S3x4096x128) ![2, 0, 0] S1x4096x128.size inb, p⟩ : View.Piece (Elt F) S3x4096x128 e) :: L))
      = fun y => if (y 0).val = 2 then p (ix3 0 (y 1) (y 2)) else v.read (Elt F) (v.writes (Elt F) f L) y := by
  funext y
  split
  · rename_i hy
    refine View.read_writes_cons_unit_of_mem v f inb p L y (ix3 0 (y 1) (y 2)) rfl fun a => ?_
    match a with
    | 0 => show (y 0).val = 2 + 0; omega
    | 1 => show (y 1).val = 0 + (y 1).val; omega
    | 2 => show (y 2).val = 0 + (y 2).val; omega
  · rename_i hy
    refine View.read_writes_cons_unit_of_not_mem v f inb p L y rfl 0 ?_
    have h3 : (y 0).val < 3 := (y 0).isLt
    show (y 0).val < 2 ∨ 2 + 1 ≤ (y 0).val
    omega

/-- The three planes of the gradient of the projections: queries and keys by tiles, values whole. -/
def planes {e : EltTy} (p0 p1 : ℕ → Vec F S1x512x128 e) (w : Vec F S1x4096x128 e) : Vec F S3x4096x128 e :=
  fun y => if (y 0).val = 2 then w (ix3 0 (y 1) (y 2))
    else if (y 0).val = 1 then p1 ((y 1).val / 512) (ix3 0 ⟨(y 1).val % 512, Nat.mod_lt _ (by decide)⟩ (y 2))
    else p0 ((y 1).val / 512) (ix3 0 ⟨(y 1).val % 512, Nat.mod_lt _ (by decide)⟩ (y 2))

theorem planes_eq {e : EltTy} (p0 p1 : ℕ → Vec F S1x512x128 e) (w : Vec F S1x4096x128 e) (X Y : Vec F S3x4096x128 e)
    (hY : Y = fill3 (fill3 X 0 p0) 1 p1) : (fun y => if (y 0).val = 2 then w (ix3 0 (y 1) (y 2)) else Y y) = planes p0 p1 w := by
  subst hY
  funext y
  unfold planes fill3
  have h3 : (y 0).val < 3 := (y 0).isLt
  by_cases h : (y 0).val = 2
  · rw [if_pos h, if_pos h]
  · by_cases h1 : (y 0).val = 1
    · rw [if_neg h, if_neg h, if_pos h1, if_pos h1]
    · rw [if_neg h, if_neg h, if_neg h1, if_neg h1, if_pos (by omega)]

/-- The head's gradients of the normalised queries, the normalised keys and the values. -/
noncomputable def headQ (x0 x1 x2 : Vec F S1x4096x128 .f32) (g0 g1 : Vec F S1x128 .f32) (d : Vec F S4096x128 .bf16) (o : Vec F S4096x128 .f32) : Vec F S4096x128 .f32 :=
  untile (bwdQ k1_pay119 k1_pay120 (bnormQ x0 g0) (bnormK x1 g1) (k1_pay116 x2) d o (k1_pay117, k1_pay118))
noncomputable def headKV (x0 x1 x2 : Vec F S1x4096x128 .f32) (g0 g1 : Vec F S1x128 .f32) (d : Vec F S4096x128 .bf16) (o : Vec F S4096x128 .f32) : Vec F S4096x128 .f32 × Vec F S4096x128 .f32 :=
  bwdAcc k1_pay119 k1_pay120 (bnormQ x0 g0) (bnormK x1 g1) (k1_pay116 x2) d o (k1_pay117, k1_pay118) 8

/-- What the head leaves: the gradient of its projections, and the running gradients of the two gains. -/
noncomputable def headD3 (x0 x1 x2 : Vec F S1x4096x128 .f32) (g0 g1 : Vec F S1x128 .f32) (d : Vec F S4096x128 .bf16) (o : Vec F S4096x128 .f32) : Vec F S3x4096x128 .bf16 :=
  planes (fun n => k1_pay107 (rows3 x0 n) (rows (headQ x0 x1 x2 g0 g1 d o) n) g0) (fun n => k1_pay112 (rows3 x1 n) (rows (headKV x0 x1 x2 g0 g1 d o).1 n) g1) (k1_pay4 (headKV x0 x1 x2 g0 g1 d o).2)

abbrev cond1 (i : grid1.Coords) : Prop := (Scalar.cmpi .ne (Scalar.extui (Scalar.cmpi .eq (BitVec.ofNat 32 (i 0).val) 0#32)) 0#32) = 1#1

noncomputable def headG0 (x0 x1 x2 : Vec F S1x4096x128 .f32) (g0 g1 : Vec F S1x128 .f32) (d : Vec F S4096x128 .bf16) (o : Vec F S4096x128 .f32) (y : Vec F S1x128 .f32) : Vec F S1x128 .f32 :=
  foldQ x0 (headQ x0 x1 x2 g0 g1 d o) y 8
noncomputable def headG1 (x0 x1 x2 : Vec F S1x4096x128 .f32) (g0 g1 : Vec F S1x128 .f32) (d : Vec F S4096x128 .bf16) (o : Vec F S4096x128 .f32) (y : Vec F S1x128 .f32) : Vec F S1x128 .f32 :=
  foldK x1 (headKV x0 x1 x2 g0 g1 d o).1 y 8

theorem fin15 (v25 : FVec F S128x256 .bf16) (v28 : IVec S512x512 1) (c0 : BitVec 32) (X11 : BufTy.Contents (Elt F) a11.view.ty) (X6 : BufTy.Contents (Elt F) a6.view.ty) (X7 : BufTy.Contents (Elt F) a7.view.ty) (X12 : BufTy.Contents (Elt F) a12.view.ty) (X13 : BufTy.Contents (Elt F) a13.view.ty) {Q K V D : Vec F S4096x128 .bf16} {O S1 S2 : Vec F S4096x128 .f32} (f15 : BufTy.Contents (Elt F) a15.view.ty) (f16 : BufTy.Contents (Elt F) a16.view.ty) {L15 L16 : List (View.Piece (Elt F) S4096x128 .f32)}
    (hQ : a11.view.read (Elt F) X11 = Q) (hK : a12.view.read (Elt F) X12 = K) (hV : a13.view.read (Elt F) X13 = V) (hD : a6.view.read (Elt F) X6 = D) (hO : a7.view.read (Elt F) X7 = O)
    (h15 : a15.view.read (Elt F) (a15.view.writes (Elt F) f15 L15) = S1) (h16 : a16.view.read (Elt F) (a16.view.writes (Elt F) f16 L16) = S2) {T : ℕ} (hT : T = k1_t3_loop.trips) :
    a15.view.read (Elt F) (a15.view.writes (Elt F) f15 ((bpcs 𝒱 c bd i a1 w1 a2 w2 a3 w3 a4 w4 a5 w5 a6 w6 a7 w7 a8 w8 a9 w9 a10 w10 a11 w11 a12 w12 a13 w13 a14 w14 a15 w15 a16 w16 v25 v28 c0 X11 X6 X7 X12 X13 (a15.view.writes (Elt F) f15 L15) (a16.view.writes (Elt F) f16 L16) T).1 ++ L15)) = (bwdAcc v25 v28 Q K V D O (S1, S2) 8).1
    ∧ a16.view.read (Elt F) (a16.view.writes (Elt F) f16 ((bpcs 𝒱 c bd i a1 w1 a2 w2 a3 w3 a4 w4 a5 w5 a6 w6 a7 w7 a8 w8 a9 w9 a10 w10 a11 w11 a12 w12 a13 w13 a14 w14 a15 w15 a16 w16 v25 v28 c0 X11 X6 X7 X12 X13 (a15.view.writes (Elt F) f15 L15) (a16.view.writes (Elt F) f16 L16) T).2 ++ L16)) = (bwdAcc v25 v28 Q K V D O (S1, S2) 8).2 := by
  subst hT hQ hK hV hD hO h15 h16
  have h := bpcs_eq 𝒱 c bd i a1 w1 a2 w2 a3 w3 a4 w4 a5 w5 a6 w6 a7 w7 a8 w8 a9 w9 a10 w10 a11 w11 a12 w12 a13 w13 a14 w14 a15 w15 a16 w16 v25 v28 c0 X11 X6 X7 X12 X13 (a15.view.writes (Elt F) f15 L15) (a16.view.writes (Elt F) f16 L16) k1_t3_loop.trips le_rfl
  have e : bwdAcc v25 v28 (a11.view.read (Elt F) X11) (a12.view.read (Elt F) X12) (a13.view.read (Elt F) X13) (a6.view.read (Elt F) X6) (a7.view.read (Elt F) X7)
      (a15.view.read (Elt F) (a15.view.writes (Elt F) f15 L15), a16.view.read (Elt F) (a16.view.writes (Elt F) f16 L16)) k1_t3_loop.trips = bwdAcc v25 v28 (a11.view.read (Elt F) X11) (a12.view.read (Elt F) X12) (a13.view.read (Elt F) X13) (a6.view.read (Elt F) X6) (a7.view.read (Elt F) X7)
      (a15.view.read (Elt F) (a15.view.writes (Elt F) f15 L15), a16.view.read (Elt F) (a16.view.writes (Elt F) f16 L16)) 8 := congrArg _ btrips_3
  rw [← e, ← h.1, ← h.2, View.writes_append, View.writes_append]
  exact ⟨rfl, rfl⟩

theorem fin14 {κ : Kind} {sp : Space} (v : View sig κ sp S4096x128 .f32) (f : v.ty.Contents (Elt F)) (v25 : FVec F S128x256 .bf16) (v28 : IVec S512x512 1) {Q Q' K K' V V' D D' : Vec F S4096x128 .bf16} {O O' S1 S1' S2 S2' : Vec F S4096x128 .f32}
    (hQ : Q = Q') (hK : K = K') (hV : V = V') (hD : D = D') (hO : O = O') (h1 : S1 = S1') (h2 : S2 = S2') {T : ℕ} (hT : T = 8) :
    v.read (Elt F) (v.writes (Elt F) f (tiles (bwdQ v25 v28 Q K V D O (S1, S2)) T)) = untile (bwdQ v25 v28 Q' K' V' D' O' (S1', S2')) := by
  subst hQ hK hV hD hO h1 h2 hT; exact read_tiles v f _

theorem fin8 (X1 : BufTy.Contents (Elt F) a1.view.ty) (X2 : BufTy.Contents (Elt F) a2.view.ty) (X4 : BufTy.Contents (Elt F) a4.view.ty) (X5 : BufTy.Contents (Elt F) a5.view.ty) (X14 : BufTy.Contents (Elt F) a14.view.ty) (X15 : BufTy.Contents (Elt F) a15.view.ty)
    (f8 : BufTy.Contents (Elt F) a8.view.ty) (G9 : BufTy.Contents (Elt F) a9.view.ty) (G10 : BufTy.Contents (Elt F) a10.view.ty) {dQ dK : Vec F S4096x128 .f32} {w w' : Vec F S1x4096x128 .bf16} {T6 T7 : ℕ}
    (hQ : a14.view.read (Elt F) X14 = dQ) (hK : a15.view.read (Elt F) X15 = dK) (hw : w = w') (h6 : T6 = k1_t6_loop.trips) (h7 : T7 = k1_t7_loop.trips)
    (inb : ∀ a, (![2, 0, 0] : Fin 3 → ℕ) a + S1x4096x128.size a ≤ S3x4096x128.size a) :
    a8.view.read (Elt F) (a8.view.writes (Elt F) f8 ((⟨Rect.unit (s := S3x4096x128) ![2, 0, 0] S1x4096x128.size inb, w⟩ : View.Piece (Elt F) S3x4096x128 .bf16) ::
        ((pb_k1_t7 (F := F) 𝒱 c bd i a1 w1 a2 w2 a3 w3 a4 w4 a5 w5 a6 w6 a7 w7 a8 w8 a9 w9 a10 w10 a11 w11 a12 w12 a13 w13 a14 w14 a15 w15 a16 w16 X2 X5 X15 (a8.view.writes (Elt F) f8 (pb_k1_t6 (F := F) 𝒱 c bd i a1 w1 a2 w2 a3 w3 a4 w4 a5 w5 a6 w6 a7 w7 a8 w8 a9 w9 a10 w10 a11 w11 a12 w12 a13 w13 a14 w14 a15 w15 a16 w16 X1 X4 X14 f8 G9 T6).1) G10 T7).1 ++ (pb_k1_t6 (F := F) 𝒱 c bd i a1 w1 a2 w2 a3 w3 a4 w4 a5 w5 a6 w6 a7 w7 a8 w8 a9 w9 a10 w10 a11 w11 a12 w12 a13 w13 a14 w14 a15 w15 a16 w16 X1 X4 X14 f8 G9 T6).1)))
      = planes (fun n => k1_pay107 (rows3 (a1.view.read (Elt F) X1) n) (rows dQ n) (a4.view.read (Elt F) X4)) (fun n => k1_pay112 (rows3 (a2.view.read (Elt F) X2) n) (rows dK n) (a5.view.read (Elt F) X5)) w' := by
  subst hQ hK hw h6 h7
  rw [read_write_plane]
  refine planes_eq _ _ _ (a8.view.read (Elt F) f8) _ ?_
  rw [View.writes_append, (bpb7_eq 𝒱 c bd i a1 w1 a2 w2 a3 w3 a4 w4 a5 w5 a6 w6 a7 w7 a8 w8 a9 w9 a10 w10 a11 w11 a12 w12 a13 w13 a14 w14 a15 w15 a16 w16 X2 X5 X15 _ G10).1, (bpb6_eq 𝒱 c bd i a1 w1 a2 w2 a3 w3 a4 w4 a5 w5 a6 w6 a7 w7 a8 w8 a9 w9 a10 w10 a11 w11 a12 w12 a13 w13 a14 w14 a15 w15 a16 w16 X1 X4 X14 f8 G9).1]

theorem fin9 (X1 : BufTy.Contents (Elt F) a1.view.ty) (X4 : BufTy.Contents (Elt F) a4.view.ty) (X14 : BufTy.Contents (Elt F) a14.view.ty)
    (f8 : BufTy.Contents (Elt F) a8.view.ty) (f9 : BufTy.Contents (Elt F) a9.view.ty) {L9 : List (View.Piece (Elt F) S1x128 .f32)} {dQ : Vec F S4096x128 .f32} {y : Vec F S1x128 .f32} {T6 : ℕ}
    (hQ : a14.view.read (Elt F) X14 = dQ) (hy : a9.view.read (Elt F) (a9.view.writes (Elt F) f9 L9) = y) (h6 : T6 = k1_t6_loop.trips) :
    a9.view.read (Elt F) (a9.view.writes (Elt F) f9 ((pb_k1_t6 (F := F) 𝒱 c bd i a1 w1 a2 w2 a3 w3 a4 w4 a5 w5 a6 w6 a7 w7 a8 w8 a9 w9 a10 w10 a11 w11 a12 w12 a13 w13 a14 w14 a15 w15 a16 w16 X1 X4 X14 f8 (a9.view.writes (Elt F) f9 L9) T6).2 ++ L9)) = foldQ (a1.view.read (Elt F) X1) dQ y 8 := by
  subst hQ hy h6
  rw [View.writes_append, (bpb6_eq 𝒱 c bd i a1 w1 a2 w2 a3 w3 a4 w4 a5 w5 a6 w6 a7 w7 a8 w8 a9 w9 a10 w10 a11 w11 a12 w12 a13 w13 a14 w14 a15 w15 a16 w16 X1 X4 X14 f8 _).2]

theorem fin10 (X2 : BufTy.Contents (Elt F) a2.view.ty) (X5 : BufTy.Contents (Elt F) a5.view.ty) (X15 : BufTy.Contents (Elt F) a15.view.ty)
    (G8 : BufTy.Contents (Elt F) a8.view.ty) (f10 : BufTy.Contents (Elt F) a10.view.ty) {L10 : List (View.Piece (Elt F) S1x128 .f32)} {dK : Vec F S4096x128 .f32} {y : Vec F S1x128 .f32} {T7 : ℕ}
    (hK : a15.view.read (Elt F) X15 = dK) (hy : a10.view.read (Elt F) (a10.view.writes (Elt F) f10 L10) = y) (h7 : T7 = k1_t7_loop.trips) :
    a10.view.read (Elt F) (a10.view.writes (Elt F) f10 ((pb_k1_t7 (F := F) 𝒱 c bd i a1 w1 a2 w2 a3 w3 a4 w4 a5 w5 a6 w6 a7 w7 a8 w8 a9 w9 a10 w10 a11 w11 a12 w12 a13 w13 a14 w14 a15 w15 a16 w16 X2 X5 X15 G8 (a10.view.writes (Elt F) f10 L10) T7).2 ++ L10)) = foldK (a2.view.read (Elt F) X2) dK y 8 := by
  subst hK hy h7
  rw [View.writes_append, (bpb7_eq 𝒱 c bd i a1 w1 a2 w2 a3 w3 a4 w4 a5 w5 a6 w6 a7 w7 a8 w8 a9 w9 a10 w10 a11 w11 a12 w12 a13 w13 a14 w14 a15 w15 a16 w16 X2 X5 X15 G8 _).2]

theorem fin9b (X1 : BufTy.Contents (Elt F) a1.view.ty) (X4 : BufTy.Contents (Elt F) a4.view.ty) (X14 : BufTy.Contents (Elt F) a14.view.ty)
    (f8 : BufTy.Contents (Elt F) a8.view.ty) (f9 : BufTy.Contents (Elt F) a9.view.ty) {dQ : Vec F S4096x128 .f32} {T6 : ℕ}
    (hQ : a14.view.read (Elt F) X14 = dQ) (h6 : T6 = k1_t6_loop.trips) :
    a9.view.read (Elt F) (a9.view.writes (Elt F) f9 (pb_k1_t6 (F := F) 𝒱 c bd i a1 w1 a2 w2 a3 w3 a4 w4 a5 w5 a6 w6 a7 w7 a8 w8 a9 w9 a10 w10 a11 w11 a12 w12 a13 w13 a14 w14 a15 w15 a16 w16 X1 X4 X14 f8 f9 T6).2) = foldQ (a1.view.read (Elt F) X1) dQ (a9.view.read (Elt F) f9) 8 := by
  subst hQ h6
  exact (bpb6_eq 𝒱 c bd i a1 w1 a2 w2 a3 w3 a4 w4 a5 w5 a6 w6 a7 w7 a8 w8 a9 w9 a10 w10 a11 w11 a12 w12 a13 w13 a14 w14 a15 w15 a16 w16 X1 X4 X14 f8 f9).2

theorem fin10b (X2 : BufTy.Contents (Elt F) a2.view.ty) (X5 : BufTy.Contents (Elt F) a5.view.ty) (X15 : BufTy.Contents (Elt F) a15.view.ty)
    (G8 : BufTy.Contents (Elt F) a8.view.ty) (f10 : BufTy.Contents (Elt F) a10.view.ty) {dK : Vec F S4096x128 .f32} {T7 : ℕ}
    (hK : a15.view.read (Elt F) X15 = dK) (h7 : T7 = k1_t7_loop.trips) :
    a10.view.read (Elt F) (a10.view.writes (Elt F) f10 (pb_k1_t7 (F := F) 𝒱 c bd i a1 w1 a2 w2 a3 w3 a4 w4 a5 w5 a6 w6 a7 w7 a8 w8 a9 w9 a10 w10 a11 w11 a12 w12 a13 w13 a14 w14 a15 w15 a16 w16 X2 X5 X15 G8 f10 T7).2) = foldK (a2.view.read (Elt F) X2) dK (a10.view.read (Elt F) f10) 8 := by
  subst hK h7
  exact (bpb7_eq 𝒱 c bd i a1 w1 a2 w2 a3 w3 a4 w4 a5 w5 a6 w6 a7 w7 a8 w8 a9 w9 a10 w10 a11 w11 a12 w12 a13 w13 a14 w14 a15 w15 a16 w16 X2 X5 X15 G8 f10).2

set_option maxHeartbeats 2000000 in
theorem sound1A (c : Dev nD) (E : Set ℕ) (i : grid1.Coords) (a1 : Memref sig .tc .vmem S1x4096x128 .f32) (w1 : a1.IsWhole) (a2 : Memref sig .tc .vmem S1x4096x128 .f32) (w2 : a2.IsWhole) (a3 : Memref sig .tc .vmem S1x4096x128 .f32) (w3 : a3.IsWhole) (a4 : Memref sig .tc .vmem S1x128 .f32) (w4 : a4.IsWhole) (a5 : Memref sig .tc .vmem S1x128 .f32) (w5 : a5.IsWhole) (a6 : Memref sig .tc .vmem S4096x128 .bf16) (w6 : a6.IsWhole) (a7 : Memref sig .tc .vmem S4096x128 .f32) (w7 : a7.IsWhole) (a8 : Memref sig .tc .vmem S3x4096x128 .bf16) (w8 : a8.IsWhole) (a9 : Memref sig .tc .vmem S1x128 .f32) (w9 : a9.IsWhole) (a10 : Memref sig .tc .vmem S1x128 .f32) (w10 : a10.IsWhole) (a11 : Memref sig .tc .vmem S4096x128 .bf16) (w11 : a11.IsWhole) (a12 : Memref sig .tc .vmem S4096x128 .bf16) (w12 : a12.IsWhole) (a13 : Memref sig .tc .vmem S4096x128 .bf16) (w13 : a13.IsWhole) (a14 : Memref sig .tc .vmem S4096x128 .f32) (w14 : a14.IsWhole) (a15 : Memref sig .tc .vmem S4096x128 .f32) (w15 : a15.IsWhole) (a16 : Memref sig .tc .vmem S4096x128 .f32) (w16 : a16.IsWhole) (hc : cond1 i) (x0 x1 x2 : Vec F S1x4096x128 .f32) (g0 g1 : Vec F S1x128 .f32) (d : Vec F S4096x128 .bf16) (o : Vec F S4096x128 .f32) (K : PUnit → sProp (MT nD τ sig Unit (Elt F) ℕ (UR sig nD τ) ℕ)) :
    iprop(owns (c : Thread nD τ) a1 fullShare x0 ∗ owns (c : Thread nD τ) a2 fullShare x1 ∗ owns (c : Thread nD τ) a3 fullShare x2 ∗ owns (c : Thread nD τ) a4 fullShare g0 ∗ owns (c : Thread nD τ) a5 fullShare g1 ∗ owns (c : Thread nD τ) a6 fullShare d ∗ owns (c : Thread nD τ) a7 fullShare o
        ∗ (∃ d, owns (c : Thread nD τ) a8 fullShare d) ∗ (∃ d, owns (c : Thread nD τ) a9 fullShare d) ∗ (∃ d, owns (c : Thread nD τ) a10 fullShare d) ∗ (∃ d, owns (c : Thread nD τ) a11 fullShare d) ∗ (∃ d, owns (c : Thread nD τ) a12 fullShare d) ∗ (∃ d, owns (c : Thread nD τ) a13 fullShare d) ∗ (∃ d, owns (c : Thread nD τ) a14 fullShare d) ∗ (∃ d, owns (c : Thread nD τ) a15 fullShare d) ∗ (∃ d, owns (c : Thread nD τ) a16 fullShare d)
        ∗ (iprop(owns (c : Thread nD τ) a1 fullShare x0 ∗ owns (c : Thread nD τ) a2 fullShare x1 ∗ owns (c : Thread nD τ) a3 fullShare x2 ∗ owns (c : Thread nD τ) a4 fullShare g0 ∗ owns (c : Thread nD τ) a5 fullShare g1 ∗ owns (c : Thread nD τ) a6 fullShare d ∗ owns (c : Thread nD τ) a7 fullShare o
          ∗ owns (c : Thread nD τ) a8 fullShare (headD3 x0 x1 x2 g0 g1 d o) ∗ owns (c : Thread nD τ) a9 fullShare (headG0 x0 x1 x2 g0 g1 d o k1_pay2) ∗ owns (c : Thread nD τ) a10 fullShare (headG1 x0 x1 x2 g0 g1 d o k1_pay3)
          ∗ (∃ d, owns (c : Thread nD τ) a11 fullShare d) ∗ (∃ d, owns (c : Thread nD τ) a12 fullShare d) ∗ (∃ d, owns (c : Thread nD τ) a13 fullShare d) ∗ (∃ d, owns (c : Thread nD τ) a14 fullShare d) ∗ (∃ d, owns (c : Thread nD τ) a15 fullShare d) ∗ (∃ d, owns (c : Thread nD τ) a16 fullShare d)) -∗ K ⟨⟩))
      ⊢ wp frame (wpE (defs₀ (F := F)) Variants.none c none) E (cc1_attn_bwd i a1 w1 a2 w2 a3 w3 a4 w4 a5 w5 a6 w6 a7 w7 a8 w8 a9 w9 a10 w10 a11 w11 a12 w12 a13 w13 a14 w14 a15 w15 a16 w16) K := by
  simp only [cc1_attn_bwd_eq_skeleton]; unfold cc1_attn_bwd_skel
  unfold owns
  iintro ⟨⟨%f1, %h1, H1⟩, ⟨%f2, %h2, H2⟩, ⟨%f3, %h3, H3⟩, ⟨%f4, %h4, H4⟩, ⟨%f5, %h5, H5⟩, ⟨%f6, %h6, H6⟩, ⟨%f7, %h7, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, Hk⟩
  subst h1 h2 h3 h4 h5 h6 h7
  sl_exec (disch := first | sl_exact hc)
  have e11 := bpb1_eq (F := F) Variants.none c none i a1 w1 a2 w2 a3 w3 a4 w4 a5 w5 a6 w6 a7 w7 a8 w8 a9 w9 a10 w10 a11 w11 a12 w12 a13 w13 a14 w14 a15 w15 a16 w16 f1 f4 f11
  have e12 := bpb2_eq (F := F) Variants.none c none i a1 w1 a2 w2 a3 w3 a4 w4 a5 w5 a6 w6 a7 w7 a8 w8 a9 w9 a10 w10 a11 w11 a12 w12 a13 w13 a14 w14 a15 w15 a16 w16 f2 f5 f12
  have e13 : View.read (Elt F) a13.view (a13.view.writes (Elt F) a13.view.junk (sound1A.sl.H13_1 c a3 f3)) = k1_pay116 (View.read (Elt F) a3.view f3) := by
    unfold sound1A.sl.H13_1
    rw [read_write_whole2]
    exact congrArg k1_pay116 (readAt_whole3 a3.view _ f3)
  have e15 : View.read (Elt F) a15.view (a15.view.writes (Elt F) a15.view.junk (sound1A.sl.H15_1 (F := F))) = k1_pay117 := by
    unfold sound1A.sl.H15_1
    rw [read_write_whole2]
  have e16 : View.read (Elt F) a16.view (a16.view.writes (Elt F) a16.view.junk (sound1A.sl.H16_1 (F := F))) = k1_pay118 := by
    unfold sound1A.sl.H16_1
    rw [read_write_whole2]
  have eKV := fin15 (F := F) Variants.none c none i a1 w1 a2 w2 a3 w3 a4 w4 a5 w5 a6 w6 a7 w7 a8 w8 a9 w9 a10 w10 a11 w11 a12 w12 a13 w13 a14 w14 a15 w15 a16 w16 k1_pay119 k1_pay120 0#32 _ f6 f7 _ _ a15.view.junk a16.view.junk e11 e12 e13 rfl rfl e15 e16 rfl
  have eQ := fin14 (F := F) a14.view a14.view.junk k1_pay119 k1_pay120 e11 e12 e13 (rfl : View.read (Elt F) a6.view f6 = _) (rfl : View.read (Elt F) a7.view f7 = _) e15 e16 btrips_3
  sl_step
  iapply Hk
  isplitl [H1]; · iapply (owns_of c a1 f1 rfl); iexact H1
  isplitl [H2]; · iapply (owns_of c a2 f2 rfl); iexact H2
  isplitl [H3]; · iapply (owns_of c a3 f3 rfl); iexact H3
  isplitl [H4]; · iapply (owns_of c a4 f4 rfl); iexact H4
  isplitl [H5]; · iapply (owns_of c a5 f5 rfl); iexact H5
  isplitl [H6]; · iapply (owns_of c a6 f6 rfl); iexact H6
  isplitl [H7]; · iapply (owns_of c a7 f7 rfl); iexact H7
  isplitl [H8]
  · iapply (owns_of c a8 _ (fin8 (F := F) Variants.none c none i a1 w1 a2 w2 a3 w3 a4 w4 a5 w5 a6 w6 a7 w7 a8 w8 a9 w9 a10 w10 a11 w11 a12 w12 a13 w13 a14 w14 a15 w15 a16 w16 f1 f2 f4 f5 _ _ f8 _ _ eQ eKV.1 (congrArg k1_pay4 ((readAt_whole2 a16.view _ _).trans eKV.2)) rfl rfl _)); iexact H8
  isplitl [H9]
  · iapply (owns_of c a9 _ (fin9 (F := F) Variants.none c none i a1 w1 a2 w2 a3 w3 a4 w4 a5 w5 a6 w6 a7 w7 a8 w8 a9 w9 a10 w10 a11 w11 a12 w12 a13 w13 a14 w14 a15 w15 a16 w16 f1 f4 _ f8 _ eQ (read_write_whole2 a9.view inb_S1x128_S1x128_0_0 _ (k1_pay2 (F := F)) []) rfl)); iexact H9
  isplitl [H10]
  · iapply (owns_of c a10 _ (fin10 (F := F) Variants.none c none i a1 w1 a2 w2 a3 w3 a4 w4 a5 w5 a6 w6 a7 w7 a8 w8 a9 w9 a10 w10 a11 w11 a12 w12 a13 w13 a14 w14 a15 w15 a16 w16 f2 f5 _ _ _ eKV.1 (read_write_whole2 a10.view inb_S1x128_S1x128_0_0 _ (k1_pay3 (F := F)) []) rfl)); iexact H10
  isplitl [H11]; · iapply (owns_ex c a11 _); iexact H11
  isplitl [H12]; · iapply (owns_ex c a12 _); iexact H12
  isplitl [H13]; · iapply (owns_ex c a13 _); iexact H13
  isplitl [H14]; · iapply (owns_ex c a14 _); iexact H14
  isplitl [H15]; · iapply (owns_ex c a15 _); iexact H15
  iapply (owns_ex c a16 _); iexact H16

set_option maxHeartbeats 2000000 in
theorem sound1B (c : Dev nD) (E : Set ℕ) (i : grid1.Coords) (a1 : Memref sig .tc .vmem S1x4096x128 .f32) (w1 : a1.IsWhole) (a2 : Memref sig .tc .vmem S1x4096x128 .f32) (w2 : a2.IsWhole) (a3 : Memref sig .tc .vmem S1x4096x128 .f32) (w3 : a3.IsWhole) (a4 : Memref sig .tc .vmem S1x128 .f32) (w4 : a4.IsWhole) (a5 : Memref sig .tc .vmem S1x128 .f32) (w5 : a5.IsWhole) (a6 : Memref sig .tc .vmem S4096x128 .bf16) (w6 : a6.IsWhole) (a7 : Memref sig .tc .vmem S4096x128 .f32) (w7 : a7.IsWhole) (a8 : Memref sig .tc .vmem S3x4096x128 .bf16) (w8 : a8.IsWhole) (a9 : Memref sig .tc .vmem S1x128 .f32) (w9 : a9.IsWhole) (a10 : Memref sig .tc .vmem S1x128 .f32) (w10 : a10.IsWhole) (a11 : Memref sig .tc .vmem S4096x128 .bf16) (w11 : a11.IsWhole) (a12 : Memref sig .tc .vmem S4096x128 .bf16) (w12 : a12.IsWhole) (a13 : Memref sig .tc .vmem S4096x128 .bf16) (w13 : a13.IsWhole) (a14 : Memref sig .tc .vmem S4096x128 .f32) (w14 : a14.IsWhole) (a15 : Memref sig .tc .vmem S4096x128 .f32) (w15 : a15.IsWhole) (a16 : Memref sig .tc .vmem S4096x128 .f32) (w16 : a16.IsWhole) (hc : ¬ cond1 i) (x0 x1 x2 : Vec F S1x4096x128 .f32) (g0 g1 : Vec F S1x128 .f32) (d : Vec F S4096x128 .bf16) (o : Vec F S4096x128 .f32) (y9 y10 : Vec F S1x128 .f32) (K : PUnit → sProp (MT nD τ sig Unit (Elt F) ℕ (UR sig nD τ) ℕ)) :
    iprop(owns (c : Thread nD τ) a1 fullShare x0 ∗ owns (c : Thread nD τ) a2 fullShare x1 ∗ owns (c : Thread nD τ) a3 fullShare x2 ∗ owns (c : Thread nD τ) a4 fullShare g0 ∗ owns (c : Thread nD τ) a5 fullShare g1 ∗ owns (c : Thread nD τ) a6 fullShare d ∗ owns (c : Thread nD τ) a7 fullShare o
        ∗ (∃ d, owns (c : Thread nD τ) a8 fullShare d) ∗ owns (c : Thread nD τ) a9 fullShare y9 ∗ owns (c : Thread nD τ) a10 fullShare y10 ∗ (∃ d, owns (c : Thread nD τ) a11 fullShare d) ∗ (∃ d, owns (c : Thread nD τ) a12 fullShare d) ∗ (∃ d, owns (c : Thread nD τ) a13 fullShare d) ∗ (∃ d, owns (c : Thread nD τ) a14 fullShare d) ∗ (∃ d, owns (c : Thread nD τ) a15 fullShare d) ∗ (∃ d, owns (c : Thread nD τ) a16 fullShare d)
        ∗ (iprop(owns (c : Thread nD τ) a1 fullShare x0 ∗ owns (c : Thread nD τ) a2 fullShare x1 ∗ owns (c : Thread nD τ) a3 fullShare x2 ∗ owns (c : Thread nD τ) a4 fullShare g0 ∗ owns (c : Thread nD τ) a5 fullShare g1 ∗ owns (c : Thread nD τ) a6 fullShare d ∗ owns (c : Thread nD τ) a7 fullShare o
          ∗ owns (c : Thread nD τ) a8 fullShare (headD3 x0 x1 x2 g0 g1 d o) ∗ owns (c : Thread nD τ) a9 fullShare (headG0 x0 x1 x2 g0 g1 d o y9) ∗ owns (c : Thread nD τ) a10 fullShare (headG1 x0 x1 x2 g0 g1 d o y10)
          ∗ (∃ d, owns (c : Thread nD τ) a11 fullShare d) ∗ (∃ d, owns (c : Thread nD τ) a12 fullShare d) ∗ (∃ d, owns (c : Thread nD τ) a13 fullShare d) ∗ (∃ d, owns (c : Thread nD τ) a14 fullShare d) ∗ (∃ d, owns (c : Thread nD τ) a15 fullShare d) ∗ (∃ d, owns (c : Thread nD τ) a16 fullShare d)) -∗ K ⟨⟩))
      ⊢ wp frame (wpE (defs₀ (F := F)) Variants.none c none) E (cc1_attn_bwd i a1 w1 a2 w2 a3 w3 a4 w4 a5 w5 a6 w6 a7 w7 a8 w8 a9 w9 a10 w10 a11 w11 a12 w12 a13 w13 a14 w14 a15 w15 a16 w16) K := by
  simp only [cc1_attn_bwd_eq_skeleton]; unfold cc1_attn_bwd_skel
  unfold owns
  iintro ⟨⟨%f1, %h1, H1⟩, ⟨%f2, %h2, H2⟩, ⟨%f3, %h3, H3⟩, ⟨%f4, %h4, H4⟩, ⟨%f5, %h5, H5⟩, ⟨%f6, %h6, H6⟩, ⟨%f7, %h7, H7⟩, ⟨%d8, %f8, -, H8⟩, ⟨%f9, %h9, H9⟩, ⟨%f10, %h10, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, Hk⟩
  subst h1 h2 h3 h4 h5 h6 h7 h9 h10
  sl_exec (disch := first | sl_exact hc)
  have e11 := bpb1_eq (F := F) Variants.none c none i a1 w1 a2 w2 a3 w3 a4 w4 a5 w5 a6 w6 a7 w7 a8 w8 a9 w9 a10 w10 a11 w11 a12 w12 a13 w13 a14 w14 a15 w15 a16 w16 f1 f4 f11
  have e12 := bpb2_eq (F := F) Variants.none c none i a1 w1 a2 w2 a3 w3 a4 w4 a5 w5 a6 w6 a7 w7 a8 w8 a9 w9 a10 w10 a11 w11 a12 w12 a13 w13 a14 w14 a15 w15 a16 w16 f2 f5 f12
  have e13 : View.read (Elt F) a13.view (a13.view.writes (Elt F) a13.view.junk (sound1B.sl.H13_1 c a3 f3)) = k1_pay116 (View.read (Elt F) a3.view f3) := by
    unfold sound1B.sl.H13_1
    rw [read_write_whole2]
    exact congrArg k1_pay116 (readAt_whole3 a3.view _ f3)
  have e15 : View.read (Elt F) a15.view (a15.view.writes (Elt F) a15.view.junk (sound1B.sl.H15_1 (F := F))) = k1_pay117 := by
    unfold sound1B.sl.H15_1
    rw [read_write_whole2]
  have e16 : View.read (Elt F) a16.view (a16.view.writes (Elt F) a16.view.junk (sound1B.sl.H16_1 (F := F))) = k1_pay118 := by
    unfold sound1B.sl.H16_1
    rw [read_write_whole2]
  have eKV := fin15 (F := F) Variants.none c none i a1 w1 a2 w2 a3 w3 a4 w4 a5 w5 a6 w6 a7 w7 a8 w8 a9 w9 a10 w10 a11 w11 a12 w12 a13 w13 a14 w14 a15 w15 a16 w16 k1_pay119 k1_pay120 0#32 _ f6 f7 _ _ a15.view.junk a16.view.junk e11 e12 e13 rfl rfl e15 e16 rfl
  have eQ := fin14 (F := F) a14.view a14.view.junk k1_pay119 k1_pay120 e11 e12 e13 (rfl : View.read (Elt F) a6.view f6 = _) (rfl : View.read (Elt F) a7.view f7 = _) e15 e16 btrips_3
  sl_step
  iapply Hk
  isplitl [H1]; · iapply (owns_of c a1 f1 rfl); iexact H1
  isplitl [H2]; · iapply (owns_of c a2 f2 rfl); iexact H2
  isplitl [H3]; · iapply (owns_of c a3 f3 rfl); iexact H3
  isplitl [H4]; · iapply (owns_of c a4 f4 rfl); iexact H4
  isplitl [H5]; · iapply (owns_of c a5 f5 rfl); iexact H5
  isplitl [H6]; · iapply (owns_of c a6 f6 rfl); iexact H6
  isplitl [H7]; · iapply (owns_of c a7 f7 rfl); iexact H7
  isplitl [H8]
  · iapply (owns_of c a8 _ (fin8 (F := F) Variants.none c none i a1 w1 a2 w2 a3 w3 a4 w4 a5 w5 a6 w6 a7 w7 a8 w8 a9 w9 a10 w10 a11 w11 a12 w12 a13 w13 a14 w14 a15 w15 a16 w16 f1 f2 f4 f5 _ _ f8 _ _ eQ eKV.1 (congrArg k1_pay4 ((readAt_whole2 a16.view _ _).trans eKV.2)) rfl rfl _)); iexact H8
  isplitl [H9]
  · iapply (owns_of c a9 _ (fin9b (F := F) Variants.none c none i a1 w1 a2 w2 a3 w3 a4 w4 a5 w5 a6 w6 a7 w7 a8 w8 a9 w9 a10 w10 a11 w11 a12 w12 a13 w13 a14 w14 a15 w15 a16 w16 f1 f4 _ f8 f9 eQ rfl)); iexact H9
  isplitl [H10]
  · iapply (owns_of c a10 _ (fin10b (F := F) Variants.none c none i a1 w1 a2 w2 a3 w3 a4 w4 a5 w5 a6 w6 a7 w7 a8 w8 a9 w9 a10 w10 a11 w11 a12 w12 a13 w13 a14 w14 a15 w15 a16 w16 f2 f5 _ _ f10 eKV.1 rfl)); iexact H10
  isplitl [H11]; · iapply (owns_ex c a11 _); iexact H11
  isplitl [H12]; · iapply (owns_ex c a12 _); iexact H12
  isplitl [H13]; · iapply (owns_ex c a13 _); iexact H13
  isplitl [H14]; · iapply (owns_ex c a14 _); iexact H14
  isplitl [H15]; · iapply (owns_ex c a15 _); iexact H15
  iapply (owns_ex c a16 _); iexact H16

end Cert.Proof.Attn
-- ==== Proof.AttnFrame.lean ====
module

public import proofs.«01_k».proof.Proof.AttnRun2
public import proofs.«01_k».proof.Proof.Gen.AttnKernelIdeal.Points
public import proofs.«01_k».proof.Proof.Gen.AttnKernelIdeal.Regions
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.WordCmp

set_option maxRecDepth 16384
@[expose] public section
namespace Cert.Proof.Attn
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.AttnKernelIdeal
open Cert.AttnKernelIdeal.Gen hiding V1 V2 V3 V4 V1_of V2_of V3_of V4_of adm segs seg0 seg2

/-! The execution of the program from its launch: what each of the two pipelines leaves in its arrays. -/

variable {F : FTy → Type} [FloatOps F]

abbrev 𝕄 (F : FTy → Type) [FloatOps F] := MT nD τ sig Unit (Elt F) ℕ (UR sig nD τ) ℕ
/-- The contents of a core's buffers. -/
abbrev Contents (F : FTy → Type) [FloatOps F] := (c : Dev nD) → (b : Ref sig .tc) → Buf (Elt F) ((c : Thread nD τ).loc b)

noncomputable section

section Regions
variable (V : Contents F)

/-- A whole buffer, held as a memref at some contents, and back. -/
theorem whole_owns (c : Dev nD) (b : Ref sig .tc) (f : Buf (Elt F) ((c : Thread nD τ).loc b)) :
    (((c : Thread nD τ).loc b) ↦{fullShare} f : sProp (𝕄 F)) ⊢ iprop(∃ d, owns (c : Thread nD τ) (Memref.whole b) fullShare d) := by
  iintro H
  iexists f
  rw [owns_whole]
  iexact H
theorem owns_buf (c : Dev nD) (b : Ref sig .tc) (d) :
    (owns (c : Thread nD τ) (Memref.whole b) fullShare d : sProp (𝕄 F)) ⊢ iprop(∃ f : Buf (Elt F) ((c : Thread nD τ).loc b), ((c : Thread nD τ).loc b) ↦{fullShare} f) := by
  iintro H
  iexists d
  rw [← owns_whole]
  iexact H

/-- The block of window `w` at point `t`. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The proof data of pipeline 0: the inputs keep their blocks, the outputs are what the body computes of them. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => blk0 V c 2 t
    | ⟨3, _⟩ => blk0 V c 3 t
    | ⟨4, _⟩ => blk0 V c 4 t
    | ⟨5, _⟩ => attnO (normQ (blk0 V c 0 t) (blk0 V c 3 t)) (normK (blk0 V c 1 t) (blk0 V c 4 t)) (k0_pay3 (blk0 V c 2 t))
    | ⟨6, _⟩ => attnO16 (normQ (blk0 V c 0 t) (blk0 V c 3 t)) (normK (blk0 V c 1 t) (blk0 V c 4 t)) (k0_pay3 (blk0 V c 2 t))
  Φ _ := Pipeline.ΦA spec0 c
  q w := Pipeline.shareOf spec0 w
  owed _ := 0

theorem arr0 (c : Dev nD) (w : Fin cfg0.W) : (dat0 V c).A w = V c (Pipeline.arrRef spec0 w) := by
  dsimp only [dat0]
theorem after0_0 (c : Dev nD) (t : Fin cfg0.N) : (dat0 V c).after 0 t = blk0 V c 0 t := by dsimp only [dat0]
theorem after0_1 (c : Dev nD) (t : Fin cfg0.N) : (dat0 V c).after 1 t = blk0 V c 1 t := by dsimp only [dat0]
theorem after0_2 (c : Dev nD) (t : Fin cfg0.N) : (dat0 V c).after 2 t = blk0 V c 2 t := by dsimp only [dat0]
theorem after0_3 (c : Dev nD) (t : Fin cfg0.N) : (dat0 V c).after 3 t = blk0 V c 3 t := by dsimp only [dat0]
theorem after0_4 (c : Dev nD) (t : Fin cfg0.N) : (dat0 V c).after 4 t = blk0 V c 4 t := by dsimp only [dat0]
theorem after0_5 (c : Dev nD) (t : Fin cfg0.N) : (dat0 V c).after 5 t = attnO (normQ (blk0 V c 0 t) (blk0 V c 3 t)) (normK (blk0 V c 1 t) (blk0 V c 4 t)) (k0_pay3 (blk0 V c 2 t)) := by dsimp only [dat0]
theorem after0_6 (c : Dev nD) (t : Fin cfg0.N) : (dat0 V c).after 6 t = attnO16 (normQ (blk0 V c 0 t) (blk0 V c 3 t)) (normK (blk0 V c 1 t) (blk0 V c 4 t)) (k0_pay3 (blk0 V c 2 t)) := by dsimp only [dat0]
theorem before0_0 (c : Dev nD) (t : Fin cfg0.N) (d) : (dat0 V c).before 0 t d = blk0 V c 0 t :=
  ((dat0 V c).before_in_eq_fetched 0 rfl (fun _ => rfl) (fun _ _ _ => rfl) (fun t => by rw [after0_0]; unfold Dat.blockOf blk0; rw [arr0]; try rfl) t d).trans
    (by unfold Dat.fetched Dat.blockOf blk0; rw [arr0]; try rfl)
theorem before0_1 (c : Dev nD) (t : Fin cfg0.N) (d) : (dat0 V c).before 1 t d = blk0 V c 1 t :=
  ((dat0 V c).before_in_eq_fetched 1 rfl (fun _ => rfl) (fun _ _ _ => rfl) (fun t => by rw [after0_1]; unfold Dat.blockOf blk0; rw [arr0]; try rfl) t d).trans
    (by unfold Dat.fetched Dat.blockOf blk0; rw [arr0]; try rfl)
theorem before0_2 (c : Dev nD) (t : Fin cfg0.N) (d) : (dat0 V c).before 2 t d = blk0 V c 2 t :=
  ((dat0 V c).before_in_eq_fetched 2 rfl (fun _ => rfl) (fun _ _ _ => rfl) (fun t => by rw [after0_2]; unfold Dat.blockOf blk0; rw [arr0]; try rfl) t d).trans
    (by unfold Dat.fetched Dat.blockOf blk0; rw [arr0]; try rfl)
theorem before0_3 (c : Dev nD) (t : Fin cfg0.N) (d) : (dat0 V c).before 3 t d = blk0 V c 3 t :=
  ((dat0 V c).before_in_eq_fetched 3 rfl (fun _ => rfl) (fun _ _ _ => rfl) (fun t => by rw [after0_3]; unfold Dat.blockOf blk0; rw [arr0]; try rfl) t d).trans
    (by unfold Dat.fetched Dat.blockOf blk0; rw [arr0]; try rfl)
theorem before0_4 (c : Dev nD) (t : Fin cfg0.N) (d) : (dat0 V c).before 4 t d = blk0 V c 4 t :=
  ((dat0 V c).before_in_eq_fetched 4 rfl (fun _ => rfl) (fun _ _ _ => rfl) (fun t => by rw [after0_4]; unfold Dat.blockOf blk0; rw [arr0]; try rfl) t d).trans
    (by unfold Dat.fetched Dat.blockOf blk0; rw [arr0]; try rfl)

def pre0 (c : Dev nD) (t : Fin cfg0.N) : sProp (𝕄 F) :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

def post0 (c : Dev nD) (t : Fin cfg0.N) : sProp (𝕄 F) :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

theorem split0 (c : Dev nD) :
    (Pipeline.scopedRest (Ix := Unit) (Name := ℕ) (U := UR sig nD τ) (Lvl := ℕ) (Val := Elt F) spec0 c : sProp (𝕄 F))
      = iprop(iprop((∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ (∃ f : Buf (Elt F) ((c : Thread nD τ).loc cc0_scratch2), ((c : Thread nD τ).loc cc0_scratch2) ↦{fullShare} f))
          ∗ Pipeline.scopedRestBut (Ix := Unit) (Name := ℕ) (U := UR sig nD τ) (Lvl := ℕ) (Val := Elt F) spec0 c [cc0_scratch0, cc0_scratch1, cc0_scratch2]) :=
  Pipeline.scopedRest_split_of_list spec0 c [cc0_scratch0, cc0_scratch1, cc0_scratch2] (by decide) (by decide)

theorem body0 (c : Dev nD) (t : Fin cfg0.N) :
    pre0 V c t ⊢ wp frame (wpE (defs₀ (F := F)) Variants.none c none) Set.univ (bodyAt0 t) (fun _ => post0 V c t) := by
  unfold pre0 post0 bodyAt0
  simp only [before0_0, before0_1, before0_2, before0_3, before0_4]
  rw [show (dat0 V c).Φ t.succ = Pipeline.ΦA spec0 c from rfl, show (dat0 V c).Φ t.castSucc = Pipeline.ΦA spec0 c from rfl,
    show (dat0 V c).owesAt () t.succ = (dat0 V c).owesAt () t.castSucc from rfl,
    after0_0, after0_1, after0_2, after0_3, after0_4, after0_5, after0_6]
  unfold Pipeline.ΦA
  rw [split0 c]
  iintro ⟨⟨Hr, Hp⟩, Ho, ⟨%d0, H0⟩, ⟨%d1, H1⟩, ⟨%d2, H2⟩, ⟨%d3, H3⟩, ⟨%d4, H4⟩, ⟨%d5, H5⟩, ⟨%d6, H6⟩⟩
  icases Hr with ⟨⟨⟨%s0, S0⟩, ⟨%s1, S1⟩, ⟨%s2, S2⟩⟩, Hr⟩
  iapply (sound0 c Set.univ (grid0.coords t) _ _ _ _ _ _ _ _ _ _ _ _ _ _ _ _ _ _ _ _ (blk0 V c 0 t) (blk0 V c 1 t) (blk0 V c 2 t) (blk0 V c 3 t) (blk0 V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [S0]; · iapply (whole_owns c _ s0); iexact S0
  isplitl [S1]; · iapply (whole_owns c _ s1); iexact S1
  isplitl [S2]; · iapply (whole_owns c _ s2); iexact S2
  iintro ⟨H0, H1, H2, H3, H4, H5, H6, ⟨%e0, S0⟩, ⟨%e1, S1⟩, ⟨%e2, S2⟩⟩
  isplitl [Hr Hp S0 S1 S2]
  · isplitl [Hr S0 S1 S2]
    · isplitl [S0 S1 S2]
      · isplitl [S0]; · iapply (owns_buf c _ e0); iexact S0
        isplitl [S1]; · iapply (owns_buf c _ e1); iexact S1
        iapply (owns_buf c _ e2); iexact S2
      iexact Hr
    iexact Hp
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem row0 (t : Fin cfg0.N) :
    defs₀ (F := F) .tc cfg0.body (cfg0.bodyArgs t (cfg0.slots t)) = bodyAt0 t := by
  unfold defs₀; rw [Defs.onTc_tc]

theorem obligation0 (c : Dev nD) : BodyObligation (dat0 (F := F) V c) (defs₀ (F := F)) Variants.none () Set.univ := fun t => by
  rw [bigSep_W0, bigSep_W0, row0]
  exact triple_restated (body0 V c t) rfl .rfl fun _ => .rfl

/-- The block of window `w` at point `t`. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem cond1_iff : ∀ t : Fin cfg1.N, cond1 (grid1.coords t) ↔ t.val = 0 :=
  (fun t => by
    have ht : t.val < 16 := Nat.lt_of_lt_of_eq t.isLt N_1
    have e0 : (grid1.coords t 0).val = t.val / 1 % 16 := Pipeline.Grid.coords_val t 0 (by decide) rfl
    simp only [cond1, e0]
    word_cmp
   : ∀ t : Fin grid1.N, cond1 (grid1.coords t) ↔ t.val = 0)

/-- The gradient of gain 0 after the heads up to `n`. -/
def gains0 (c : Dev nD) : (n : ℕ) → n < cfg1.N → Vec F S1x128 .f32
  | 0, hn => headG0 (blk1 V c 0 ⟨0, hn⟩) (blk1 V c 1 ⟨0, hn⟩) (blk1 V c 2 ⟨0, hn⟩) (blk1 V c 3 ⟨0, hn⟩) (blk1 V c 4 ⟨0, hn⟩) (blk1 V c 5 ⟨0, hn⟩) (blk1 V c 6 ⟨0, hn⟩) k1_pay2
  | n + 1, hn => headG0 (blk1 V c 0 ⟨n + 1, hn⟩) (blk1 V c 1 ⟨n + 1, hn⟩) (blk1 V c 2 ⟨n + 1, hn⟩) (blk1 V c 3 ⟨n + 1, hn⟩) (blk1 V c 4 ⟨n + 1, hn⟩) (blk1 V c 5 ⟨n + 1, hn⟩) (blk1 V c 6 ⟨n + 1, hn⟩) (gains0 c n (Nat.lt_of_succ_lt hn))

theorem gains0_zero (c : Dev nD) (t : Fin cfg1.N) (h : t.val = 0) :
    gains0 V c t.val t.isLt = headG0 (blk1 V c 0 t) (blk1 V c 1 t) (blk1 V c 2 t) (blk1 V c 3 t) (blk1 V c 4 t) (blk1 V c 5 t) (blk1 V c 6 t) k1_pay2 := by
  obtain ⟨n, hn⟩ := t
  cases n with
  | zero => exact rfl
  | succ n => exact absurd h (Nat.succ_ne_zero n)

theorem gains0_pos (c : Dev nD) (t : Fin cfg1.N) (h : ¬ t.val = 0) :
    gains0 V c t.val t.isLt = headG0 (blk1 V c 0 t) (blk1 V c 1 t) (blk1 V c 2 t) (blk1 V c 3 t) (blk1 V c 4 t) (blk1 V c 5 t) (blk1 V c 6 t) (gains0 V c (t.val - 1) (Nat.lt_of_le_of_lt (Nat.sub_le _ _) t.isLt)) := by
  obtain ⟨n, hn⟩ := t
  cases n with
  | zero => exact absurd rfl h
  | succ n => exact rfl

/-- The gradient of gain 1 after the heads up to `n`. -/
def gains1 (c : Dev nD) : (n : ℕ) → n < cfg1.N → Vec F S1x128 .f32
  | 0, hn => headG1 (blk1 V c 0 ⟨0, hn⟩) (blk1 V c 1 ⟨0, hn⟩) (blk1 V c 2 ⟨0, hn⟩) (blk1 V c 3 ⟨0, hn⟩) (blk1 V c 4 ⟨0, hn⟩) (blk1 V c 5 ⟨0, hn⟩) (blk1 V c 6 ⟨0, hn⟩) k1_pay3
  | n + 1, hn => headG1 (blk1 V c 0 ⟨n + 1, hn⟩) (blk1 V c 1 ⟨n + 1, hn⟩) (blk1 V c 2 ⟨n + 1, hn⟩) (blk1 V c 3 ⟨n + 1, hn⟩) (blk1 V c 4 ⟨n + 1, hn⟩) (blk1 V c 5 ⟨n + 1, hn⟩) (blk1 V c 6 ⟨n + 1, hn⟩) (gains1 c n (Nat.lt_of_succ_lt hn))

theorem gains1_zero (c : Dev nD) (t : Fin cfg1.N) (h : t.val = 0) :
    gains1 V c t.val t.isLt = headG1 (blk1 V c 0 t) (blk1 V c 1 t) (blk1 V c 2 t) (blk1 V c 3 t) (blk1 V c 4 t) (blk1 V c 5 t) (blk1 V c 6 t) k1_pay3 := by
  obtain ⟨n, hn⟩ := t
  cases n with
  | zero => exact rfl
  | succ n => exact absurd h (Nat.succ_ne_zero n)

theorem gains1_pos (c : Dev nD) (t : Fin cfg1.N) (h : ¬ t.val = 0) :
    gains1 V c t.val t.isLt = headG1 (blk1 V c 0 t) (blk1 V c 1 t) (blk1 V c 2 t) (blk1 V c 3 t) (blk1 V c 4 t) (blk1 V c 5 t) (blk1 V c 6 t) (gains1 V c (t.val - 1) (Nat.lt_of_le_of_lt (Nat.sub_le _ _) t.isLt)) := by
  obtain ⟨n, hn⟩ := t
  cases n with
  | zero => exact absurd rfl h
  | succ n => exact rfl

/-- The proof data of pipeline 1: the inputs keep their blocks, the outputs are what the body computes of them. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => blk1 V c 3 t
    | ⟨4, _⟩ => blk1 V c 4 t
    | ⟨5, _⟩ => blk1 V c 5 t
    | ⟨6, _⟩ => blk1 V c 6 t
    | ⟨7, _⟩ => headD3 (blk1 V c 0 t) (blk1 V c 1 t) (blk1 V c 2 t) (blk1 V c 3 t) (blk1 V c 4 t) (blk1 V c 5 t) (blk1 V c 6 t)
    | ⟨8, _⟩ => gains0 V c t.val t.isLt
    | ⟨9, _⟩ => gains1 V c t.val t.isLt
  Φ _ := Pipeline.ΦA spec1 c
  q w := Pipeline.shareOf spec1 w
  owed _ := 0

theorem arr1 (c : Dev nD) (w : Fin cfg1.W) : (dat1 V c).A w = V c (Pipeline.arrRef spec1 w) := by
  dsimp only [dat1]
theorem after1_0 (c : Dev nD) (t : Fin cfg1.N) : (dat1 V c).after 0 t = blk1 V c 0 t := by dsimp only [dat1]
theorem after1_1 (c : Dev nD) (t : Fin cfg1.N) : (dat1 V c).after 1 t = blk1 V c 1 t := by dsimp only [dat1]
theorem after1_2 (c : Dev nD) (t : Fin cfg1.N) : (dat1 V c).after 2 t = blk1 V c 2 t := by dsimp only [dat1]
theorem after1_3 (c : Dev nD) (t : Fin cfg1.N) : (dat1 V c).after 3 t = blk1 V c 3 t := by dsimp only [dat1]
theorem after1_4 (c : Dev nD) (t : Fin cfg1.N) : (dat1 V c).after 4 t = blk1 V c 4 t := by dsimp only [dat1]
theorem after1_5 (c : Dev nD) (t : Fin cfg1.N) : (dat1 V c).after 5 t = blk1 V c 5 t := by dsimp only [dat1]
theorem after1_6 (c : Dev nD) (t : Fin cfg1.N) : (dat1 V c).after 6 t = blk1 V c 6 t := by dsimp only [dat1]
theorem after1_7 (c : Dev nD) (t : Fin cfg1.N) : (dat1 V c).after 7 t = headD3 (blk1 V c 0 t) (blk1 V c 1 t) (blk1 V c 2 t) (blk1 V c 3 t) (blk1 V c 4 t) (blk1 V c 5 t) (blk1 V c 6 t) := by dsimp only [dat1]
theorem after1_8 (c : Dev nD) (t : Fin cfg1.N) : (dat1 V c).after 8 t = gains0 V c t.val t.isLt := by dsimp only [dat1]
theorem after1_9 (c : Dev nD) (t : Fin cfg1.N) : (dat1 V c).after 9 t = gains1 V c t.val t.isLt := by dsimp only [dat1]
theorem before1_0 (c : Dev nD) (t : Fin cfg1.N) (d) : (dat1 V c).before 0 t d = blk1 V c 0 t :=
  ((dat1 V c).before_in_eq_fetched 0 rfl (fun _ => rfl) (fun _ _ _ => rfl) (fun t => by rw [after1_0]; unfold Dat.blockOf blk1; rw [arr1]; try rfl) t d).trans
    (by unfold Dat.fetched Dat.blockOf blk1; rw [arr1]; try rfl)
theorem before1_1 (c : Dev nD) (t : Fin cfg1.N) (d) : (dat1 V c).before 1 t d = blk1 V c 1 t :=
  ((dat1 V c).before_in_eq_fetched 1 rfl (fun _ => rfl) (fun _ _ _ => rfl) (fun t => by rw [after1_1]; unfold Dat.blockOf blk1; rw [arr1]; try rfl) t d).trans
    (by unfold Dat.fetched Dat.blockOf blk1; rw [arr1]; try rfl)
theorem before1_2 (c : Dev nD) (t : Fin cfg1.N) (d) : (dat1 V c).before 2 t d = blk1 V c 2 t :=
  ((dat1 V c).before_in_eq_fetched 2 rfl (fun _ => rfl) (fun _ _ _ => rfl) (fun t => by rw [after1_2]; unfold Dat.blockOf blk1; rw [arr1]; try rfl) t d).trans
    (by unfold Dat.fetched Dat.blockOf blk1; rw [arr1]; try rfl)
theorem before1_3 (c : Dev nD) (t : Fin cfg1.N) (d) : (dat1 V c).before 3 t d = blk1 V c 3 t :=
  ((dat1 V c).before_in_eq_fetched 3 rfl (fun _ => rfl) (fun _ _ _ => rfl) (fun t => by rw [after1_3]; unfold Dat.blockOf blk1; rw [arr1]; try rfl) t d).trans
    (by unfold Dat.fetched Dat.blockOf blk1; rw [arr1]; try rfl)
theorem before1_4 (c : Dev nD) (t : Fin cfg1.N) (d) : (dat1 V c).before 4 t d = blk1 V c 4 t :=
  ((dat1 V c).before_in_eq_fetched 4 rfl (fun _ => rfl) (fun _ _ _ => rfl) (fun t => by rw [after1_4]; unfold Dat.blockOf blk1; rw [arr1]; try rfl) t d).trans
    (by unfold Dat.fetched Dat.blockOf blk1; rw [arr1]; try rfl)
theorem before1_5 (c : Dev nD) (t : Fin cfg1.N) (d) : (dat1 V c).before 5 t d = blk1 V c 5 t :=
  ((dat1 V c).before_in_eq_fetched 5 rfl (fun _ => rfl) (fun _ _ _ => rfl) (fun t => by rw [after1_5]; unfold Dat.blockOf blk1; rw [arr1]; try rfl) t d).trans
    (by unfold Dat.fetched Dat.blockOf blk1; rw [arr1]; try rfl)
theorem before1_6 (c : Dev nD) (t : Fin cfg1.N) (d) : (dat1 V c).before 6 t d = blk1 V c 6 t :=
  ((dat1 V c).before_in_eq_fetched 6 rfl (fun _ => rfl) (fun _ _ _ => rfl) (fun t => by rw [after1_6]; unfold Dat.blockOf blk1; rw [arr1]; try rfl) t d).trans
    (by unfold Dat.fetched Dat.blockOf blk1; rw [arr1]; try rfl)
theorem before1_8 (c : Dev nD) (t : Fin cfg1.N) (h0 : ¬ t.val = 0) (d) :
    (dat1 V c).before 8 t d = gains0 V c (t.val - 1) (Nat.lt_of_le_of_lt (Nat.sub_le _ _) t.isLt) := by
  have hN : t.val < 16 := lt_of_lt_of_eq t.isLt (show cfg1.N = 16 from N_1)
  rw [Dat.before_out_kept _ 8 rfl t (by omega) (Bool.eq_false_iff.mpr fun h => by have := (flush1_8 _).mp h; dsimp only at this; omega)
    (fun _ => rfl) (fun _ _ => rfl)]
  dsimp only [dat1]
theorem before1_9 (c : Dev nD) (t : Fin cfg1.N) (h0 : ¬ t.val = 0) (d) :
    (dat1 V c).before 9 t d = gains1 V c (t.val - 1) (Nat.lt_of_le_of_lt (Nat.sub_le _ _) t.isLt) := by
  have hN : t.val < 16 := lt_of_lt_of_eq t.isLt (show cfg1.N = 16 from N_1)
  rw [Dat.before_out_kept _ 9 rfl t (by omega) (Bool.eq_false_iff.mpr fun h => by have := (flush1_9 _).mp h; dsimp only at this; omega)
    (fun _ => rfl) (fun _ _ => rfl)]
  dsimp only [dat1]

def pre1 (c : Dev nD) (t : Fin cfg1.N) : sProp (𝕄 F) :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d)))

def post1 (c : Dev nD) (t : Fin cfg1.N) : sProp (𝕄 F) :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t))

theorem split1 (c : Dev nD) :
    (Pipeline.scopedRest (Ix := Unit) (Name := ℕ) (U := UR sig nD τ) (Lvl := ℕ) (Val := Elt F) spec1 c : sProp (𝕄 F))
      = iprop(iprop((∃ f : Buf (Elt F) ((c : Thread nD τ).loc cc1_scratch0), ((c : Thread nD τ).loc cc1_scratch0) ↦{fullShare} f) ∗ (∃ f : Buf (Elt F) ((c : Thread nD τ).loc cc1_scratch1), ((c : Thread nD τ).loc cc1_scratch1) ↦{fullShare} f) ∗ (∃ f : Buf (Elt F) ((c : Thread nD τ).loc cc1_scratch2), ((c : Thread nD τ).loc cc1_scratch2) ↦{fullShare} f) ∗ (∃ f : Buf (Elt F) ((c : Thread nD τ).loc cc1_scratch3), ((c : Thread nD τ).loc cc1_scratch3) ↦{fullShare} f) ∗ (∃ f : Buf (Elt F) ((c : Thread nD τ).loc cc1_scratch4), ((c : Thread nD τ).loc cc1_scratch4) ↦{fullShare} f) ∗ (∃ f : Buf (Elt F) ((c : Thread nD τ).loc cc1_scratch5), ((c : Thread nD τ).loc cc1_scratch5) ↦{fullShare} f))
          ∗ Pipeline.scopedRestBut (Ix := Unit) (Name := ℕ) (U := UR sig nD τ) (Lvl := ℕ) (Val := Elt F) spec1 c [cc1_scratch0, cc1_scratch1, cc1_scratch2, cc1_scratch3, cc1_scratch4, cc1_scratch5]) :=
  Pipeline.scopedRest_split_of_list spec1 c [cc1_scratch0, cc1_scratch1, cc1_scratch2, cc1_scratch3, cc1_scratch4, cc1_scratch5] (by decide) (by decide)

theorem body1 (c : Dev nD) (t : Fin cfg1.N) :
    pre1 V c t ⊢ wp frame (wpE (defs₀ (F := F)) Variants.none c none) Set.univ (bodyAt1 t) (fun _ => post1 V c t) := by
  unfold pre1 post1 bodyAt1
  simp only [before1_0, before1_1, before1_2, before1_3, before1_4, before1_5, before1_6]
  rw [show (dat1 V c).Φ t.succ = Pipeline.ΦA spec1 c from rfl, show (dat1 V c).Φ t.castSucc = Pipeline.ΦA spec1 c from rfl,
    show (dat1 V c).owesAt () t.succ = (dat1 V c).owesAt () t.castSucc from rfl,
    after1_0, after1_1, after1_2, after1_3, after1_4, after1_5, after1_6, after1_7, after1_8, after1_9]
  unfold Pipeline.ΦA
  by_cases h0 : t.val = 0
  · rw [gains0_zero V c t h0, gains1_zero V c t h0]
    rw [split1 c]
    iintro ⟨⟨Hr, Hp⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    icases Hr with ⟨⟨⟨%s0, S0⟩, ⟨%s1, S1⟩, ⟨%s2, S2⟩, ⟨%s3, S3⟩, ⟨%s4, S4⟩, ⟨%s5, S5⟩⟩, Hr⟩
    iapply (sound1A c Set.univ (grid1.coords t) _ _ _ _ _ _ _ _ _ _ _ _ _ _ _ _ _ _ _ _ _ _ _ _ _ _ _ _ _ _ _ _ ((cond1_iff t).mpr h0) (blk1 V c 0 t) (blk1 V c 1 t) (blk1 V c 2 t) (blk1 V c 3 t) (blk1 V c 4 t) (blk1 V c 5 t) (blk1 V c 6 t) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [H9]; · iexists _; iexact H9
    isplitl [S0]; · iapply (whole_owns c _ s0); iexact S0
    isplitl [S1]; · iapply (whole_owns c _ s1); iexact S1
    isplitl [S2]; · iapply (whole_owns c _ s2); iexact S2
    isplitl [S3]; · iapply (whole_owns c _ s3); iexact S3
    isplitl [S4]; · iapply (whole_owns c _ s4); iexact S4
    isplitl [S5]; · iapply (whole_owns c _ s5); iexact S5
    iintro ⟨H0, H1, H2, H3, H4, H5, H6, H7, H8, H9, ⟨%e0, S0⟩, ⟨%e1, S1⟩, ⟨%e2, S2⟩, ⟨%e3, S3⟩, ⟨%e4, S4⟩, ⟨%e5, S5⟩⟩
    isplitl [Hr Hp S0 S1 S2 S3 S4 S5]
    · isplitl [Hr S0 S1 S2 S3 S4 S5]
      · isplitl [S0 S1 S2 S3 S4 S5]
        · isplitl [S0]; · iapply (owns_buf c _ e0); iexact S0
          isplitl [S1]; · iapply (owns_buf c _ e1); iexact S1
          isplitl [S2]; · iapply (owns_buf c _ e2); iexact S2
          isplitl [S3]; · iapply (owns_buf c _ e3); iexact S3
          isplitl [S4]; · iapply (owns_buf c _ e4); iexact S4
          iapply (owns_buf c _ e5); iexact S5
        iexact Hr
      iexact Hp
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  · rw [gains0_pos V c t h0, gains1_pos V c t h0]
    simp only [before1_8 V c t h0, before1_9 V c t h0]
    rw [split1 c]
    iintro ⟨⟨Hr, Hp⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    icases Hr with ⟨⟨⟨%s0, S0⟩, ⟨%s1, S1⟩, ⟨%s2, S2⟩, ⟨%s3, S3⟩, ⟨%s4, S4⟩, ⟨%s5, S5⟩⟩, Hr⟩
    iapply (sound1B c Set.univ (grid1.coords t) _ _ _ _ _ _ _ _ _ _ _ _ _ _ _ _ _ _ _ _ _ _ _ _ _ _ _ _ _ _ _ _ (fun h => h0 ((cond1_iff t).mp h)) (blk1 V c 0 t) (blk1 V c 1 t) (blk1 V c 2 t) (blk1 V c 3 t) (blk1 V c 4 t) (blk1 V c 5 t) (blk1 V c 6 t) _ _ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexact H8
    isplitl [H9]; · iexact H9
    isplitl [S0]; · iapply (whole_owns c _ s0); iexact S0
    isplitl [S1]; · iapply (whole_owns c _ s1); iexact S1
    isplitl [S2]; · iapply (whole_owns c _ s2); iexact S2
    isplitl [S3]; · iapply (whole_owns c _ s3); iexact S3
    isplitl [S4]; · iapply (whole_owns c _ s4); iexact S4
    isplitl [S5]; · iapply (whole_owns c _ s5); iexact S5
    iintro ⟨H0, H1, H2, H3, H4, H5, H6, H7, H8, H9, ⟨%e0, S0⟩, ⟨%e1, S1⟩, ⟨%e2, S2⟩, ⟨%e3, S3⟩, ⟨%e4, S4⟩, ⟨%e5, S5⟩⟩
    isplitl [Hr Hp S0 S1 S2 S3 S4 S5]
    · isplitl [Hr S0 S1 S2 S3 S4 S5]
      · isplitl [S0 S1 S2 S3 S4 S5]
        · isplitl [S0]; · iapply (owns_buf c _ e0); iexact S0
          isplitl [S1]; · iapply (owns_buf c _ e1); iexact S1
          isplitl [S2]; · iapply (owns_buf c _ e2); iexact S2
          isplitl [S3]; · iapply (owns_buf c _ e3); iexact S3
          isplitl [S4]; · iapply (owns_buf c _ e4); iexact S4
          iapply (owns_buf c _ e5); iexact S5
        iexact Hr
      iexact Hp
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9

theorem row1 (t : Fin cfg1.N) :
    defs₀ (F := F) .tc cfg1.body (cfg1.bodyArgs t (cfg1.slots t)) = bodyAt1 t := by
  unfold defs₀; rw [Defs.onTc_tc]

theorem obligation1 (c : Dev nD) : BodyObligation (dat1 (F := F) V c) (defs₀ (F := F)) Variants.none () Set.univ := fun t => by
  rw [bigSep_W1, bigSep_W1, row1]
  exact triple_restated (body1 V c t) rfl .rfl fun _ => .rfl

end Regions

/-! ## The contents of the buffers between the parts of the program -/

variable (m : (ℓ : Loc nD τ sig) → Buf (Elt F) ℓ) (ρ : Dev nD → PrngReg)

abbrev argRefs : List (Ref sig .tc) := [main_arg0, main_arg1, main_arg2, main_arg3]

abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl

abbrev W1 : Dev nD → Valuation τ sig (Elt F) := fun c => StableHlo.after hostOps0 (W0 m ρ c)
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a ((ListAll.forall_mem_of_all_decide (by decide +kernel) : ∀ a ∈ argRefs, a ∉ hostOps0_W) a ha)).trans (W0_args m ρ c a ha)
abbrev V1 : Contents F := fun c b => W1 m ρ c b

def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact (dat0 (V1 m ρ) c).withArrays_arrAt launch₀0.sharedIn _ (arr0 (V1 m ρ) c) w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (arr0 (V1 m ρ) c w))
  · exact W2_of_ne m ρ c r fun w e => hw ⟨w, e⟩
theorem W2_args (c : Dev nD) : ∀ a ∈ argRefs, W2 m ρ c (Proc.devRef .tc a) = m ((c : Thread nD τ).loc a) :=
  fun a ha => (W2_of m ρ c a ((ListAll.forall_mem_of_all_decide (by decide +kernel) :
    ∀ a ∈ argRefs, ∀ w : Fin cfg0.W, Pipeline.arrRef spec0 w = a → (cfg0.win w).isOut = false) a ha)).trans (W1_args m ρ c a ha)
abbrev V2 : Contents F := fun c b => W2 m ρ c b

abbrev W3 : Dev nD → Valuation τ sig (Elt F) := fun c => StableHlo.after hostOps1 (W2 m ρ c)
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h
theorem W3_args (c : Dev nD) : ∀ a ∈ argRefs, W3 m ρ c (Proc.devRef .tc a) = m ((c : Thread nD τ).loc a) :=
  fun a ha => (W3_of m ρ c a ((ListAll.forall_mem_of_all_decide (by decide +kernel) : ∀ a ∈ argRefs, a ∉ hostOps1_W) a ha)).trans (W2_args m ρ c a ha)
abbrev V3 : Contents F := fun c b => W3 m ρ c b

def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact (dat1 (V3 m ρ) c).withArrays_arrAt launch₀1.sharedIn _ (arr1 (V3 m ρ) c) w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
theorem W4_of (c : Dev nD) (r : Ref sig .tc) (h : ∀ w : Fin cfg1.W, Pipeline.arrRef spec1 w = r → (cfg1.win w).isOut = false) :
    W4 m ρ c (Proc.devRef .tc r) = W3 m ρ c (Proc.devRef .tc r) := by
  by_cases hw : ∃ w : Fin cfg1.W, Pipeline.arrRef spec1 w = r
  · obtain ⟨w, rfl⟩ := hw
    exact (W4_arr m ρ c w).trans (((dat1 (V3 m ρ) c).arrAt_in w (h w rfl) _).trans (arr1 (V3 m ρ) c w))
  · exact W4_of_ne m ρ c r fun w e => hw ⟨w, e⟩
theorem W4_args (c : Dev nD) : ∀ a ∈ argRefs, W4 m ρ c (Proc.devRef .tc a) = m ((c : Thread nD τ).loc a) :=
  fun a ha => (W4_of m ρ c a ((ListAll.forall_mem_of_all_decide (by decide +kernel) :
    ∀ a ∈ argRefs, ∀ w : Fin cfg1.W, Pipeline.arrRef spec1 w = a → (cfg1.win w).isOut = false) a ha)).trans (W3_args m ρ c a ha)
abbrev V4 : Contents F := fun c b => W4 m ρ c b

/-! ## The launch -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev L : GSem nD τ sig → Finset Unit := fun _ => ∅
abbrev lv : GSem nD τ sig → Unit → ℕ := fun _ _ => 0
/-- The generator register and the dues, which ride beside the buffers. -/
abbrev Beside (c : Dev nD) : sProp (𝕄 F) := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ Variants.none L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Beside
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- Pipeline 0 as a segment, from the contents `W1` to `W2`. -/
def reg0 : Pipeline.RegionSeg (pcfgs (F := F)) adm (pdats m ρ) () defs₀ Variants.none L lv 0 where
  win := launch₀0.win
  block_pos := launch₀0.block_pos
  stage_whole := launch₀0.stage_whole
  K := PEmpty
  osem k := k.elim
  ho := Pipeline.OwnSemFacts.none _
  hbody c := (obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ Beside c)
  post c := iprop(StableHlo.held (c : Thread nD τ) (Pipeline.ucRefs τ sig) (W2 m ρ c) ∗ Beside c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs_shared (p := 0) (pcfgs (F := F)) adm (pdats m ρ) launch₀0.win launch₀0.sharedIn launch₀0.arr_whole c
      (fun _ _ => rfl) (V1 m ρ c) (arr0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays_shared (p := 0) (pcfgs (F := F)) adm (Ix := Unit) (Name := ℕ) (U := UR sig nD τ) (Lvl := ℕ)
      launch₀0.win launch₀0.sharedIn launch₀0.arr_whole c (pdats m ρ) (fun _ _ => rfl)
      (V1 m ρ c) (V2 m ρ c) ((pdats m ρ 0 c).arrAt · cfg0.N) (fun w => (W2_arr m ρ c w).symm)
      (fun b hb => W2_of_ne m ρ c b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Pipeline 1 as a segment, from the contents `W3` to `W4`. -/
def reg1 : Pipeline.RegionSeg (pcfgs (F := F)) adm (pdats m ρ) () defs₀ Variants.none L lv 1 where
  win := launch₀1.win
  block_pos := launch₀1.block_pos
  stage_whole := launch₀1.stage_whole
  K := PEmpty
  osem k := k.elim
  ho := Pipeline.OwnSemFacts.none _
  hbody c := (obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ Beside c)
  post c := iprop(iprop(StableHlo.held (c : Thread nD τ) (Pipeline.ucRefs τ sig) (W4 m ρ c) ∗ ∃ r, prngReg c r) ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs_shared (p := 1) (pcfgs (F := F)) adm (pdats m ρ) launch₀1.win launch₀1.sharedIn launch₀1.arr_whole c
      (fun _ _ => rfl) (V3 m ρ c) (arr1 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays_shared (p := 1) (pcfgs (F := F)) adm (Ix := Unit) (Name := ℕ) (U := UR sig nD τ) (Lvl := ℕ)
      launch₀1.win launch₀1.sharedIn launch₀1.arr_whole c (pdats m ρ) (fun _ _ => rfl)
      (V3 m ρ c) (V4 m ρ c) ((pdats m ρ 1 c).arrAt · cfg1.N) (fun w => (W4_arr m ρ c w).symm)
      (fun b hb => W4_of_ne m ρ c b fun w e => hb (Finset.mem_image.mpr ⟨w, Finset.mem_univ _, e⟩))
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

abbrev segs : List (Pipeline.Seg (pcfgs (F := F)) adm (pdats m ρ) () defs₀ Variants.none L lv) :=
  [ .host (hseg hostOps0 hostOps0_sub hostOps0_fresh (W0 m ρ)),
    .region (reg0 m ρ),
    .host (hseg hostOps1 hostOps1_sub hostOps1_fresh (W2 m ρ)),
    .region (reg1 m ρ) ]
theorem main_run (c : Dev nD) : main (F := F) c = Pipeline.Seg.run (segs m ρ) := (main_chain c).trans (by chain_rfl)

set_option backward.isDefEq.respectTransparency.types false in
/-- Every execution ends with the unscoped buffers at `W4` and every counter at zero. -/
theorem exit_run : θ_run defs (onTc (τ := τ) (main (F := F))) ⟨m, fun _ => 0, ρ⟩ (fun r =>
      (∀ c : Dev nD, ∀ b ∈ Pipeline.ucRefs τ sig, r.2.mem (((c : Thread nD τ)).1, b) = W4 m ρ c b) ∧ r.2.sem = fun _ => 0) :=
  Pipeline.θ_run_regions_kit_sems (pcfgs (F := F)) adm (pdats m ρ) () cellOf_inj emb₁ defs₀ Variants.none L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (𝕄 F))
            ⊢ BI.own (emb₁ (initOf (Pipeline.cells cfgs cellOf_inj) (Pipeline.launchToks cfgs cellOf_inj))) from .rfl)
        iexact Hu
      iapply (show (BI.emp : sProp (𝕄 F)) ⊢ bigSep Finset.univ (fun _ : Dev nD => (BI.emp : sProp (𝕄 F))) from by rw [BI.bigSep_emp_const])
      iempintro)
    (T₀ := fun c => iprop(StableHlo.held (c : Thread nD τ) (Pipeline.ucRefs τ sig) (W0 m ρ c) ∗ Beside c))
    (Tₙ := fun c => iprop(StableHlo.held (c : Thread nD τ) (Pipeline.ucRefs τ sig) (W4 m ρ c) ∗ ∃ r, prngReg c r))
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz => ⟨h, funext fun g => hz g (.inr (regions_no_unscoped g.2))⟩)

/-- The frame, over any floats. -/
theorem frame_any : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨fun c =>
    ⟨(h.1 c _ (mem_uc main_arg0 (by decide))).trans (W4_args m ρ c main_arg0 (by decide)),
     (h.1 c _ (mem_uc main_arg1 (by decide))).trans (W4_args m ρ c main_arg1 (by decide)),
     (h.1 c _ (mem_uc main_arg2 (by decide))).trans (W4_args m ρ c main_arg2 (by decide)),
     (h.1 c _ (mem_uc main_arg3 (by decide))).trans (W4_args m ρ c main_arg3 (by decide))⟩, h.2⟩) (exit_run m ρ)

end
end Cert.Proof.Attn
-- ==== Proof.AttnBits.lean ====
module

public import proofs.«01_k».proof.Proof.AttnFrame
public import proofs.«01_k».proof.Proof.Gen.AttnKernel.Launch

set_option maxRecDepth 16384
@[expose] public section
namespace Cert.Proof.Attn
open Idealize.ShloMosaic Idealize.ShloMosaic.TcCoe

/-! The program over floats and the idealized one are the same text, so one run serves both. -/

theorem body0_eq : @Cert.AttnKernel.cc0_attn_fwd Bits _ _ = @Cert.AttnKernelIdeal.cc0_attn_fwd Bits _ _ := rfl
theorem body1_eq : @Cert.AttnKernel.cc1_attn_bwd Bits _ _ = @Cert.AttnKernelIdeal.cc1_attn_bwd Bits _ _ := rfl
theorem main_eq : @Cert.AttnKernel.main Bits _ _ = @Cert.AttnKernelIdeal.main Bits _ _ := rfl
theorem defs₀_eq : @Cert.AttnKernel.defs₀ Bits _ _ = @Cert.AttnKernelIdeal.defs₀ Bits _ _ := by chain_rfl
theorem defs_eq : @Cert.AttnKernel.defs Bits _ _ = @Cert.AttnKernelIdeal.defs Bits _ _ :=
  (congrArg (Pipeline.defs (Cert.AttnKernel.pcfgs (F := Bits))) defs₀_eq).trans rfl

theorem frame_bits (m : (ℓ : Loc Cert.AttnKernel.nD Cert.AttnKernel.τ Cert.AttnKernel.sig) → Buf (Elt Bits) ℓ) (g : Dev Cert.AttnKernel.nD → PrngReg) :
    θ_run (Cert.AttnKernel.defs (F := Bits)) (onTc (τ := Cert.AttnKernel.τ) (Cert.AttnKernel.main (F := Bits))) ⟨m, fun _ => 0, g⟩ (fun r => (∀ c : Dev Cert.AttnKernel.nD,
      r.2.mem ((c.tc : Thread Cert.AttnKernel.nD Cert.AttnKernel.τ).loc Cert.AttnKernel.main_arg0) = m ((c.tc : Thread Cert.AttnKernel.nD Cert.AttnKernel.τ).loc Cert.AttnKernel.main_arg0)
      ∧ r.2.mem ((c.tc : Thread Cert.AttnKernel.nD Cert.AttnKernel.τ).loc Cert.AttnKernel.main_arg1) = m ((c.tc : Thread Cert.AttnKernel.nD Cert.AttnKernel.τ).loc Cert.AttnKernel.main_arg1)
      ∧ r.2.mem ((c.tc : Thread Cert.AttnKernel.nD Cert.AttnKernel.τ).loc Cert.AttnKernel.main_arg2) = m ((c.tc : Thread Cert.AttnKernel.nD Cert.AttnKernel.τ).loc Cert.AttnKernel.main_arg2)
      ∧ r.2.mem ((c.tc : Thread Cert.AttnKernel.nD Cert.AttnKernel.τ).loc Cert.AttnKernel.main_arg3) = m ((c.tc : Thread Cert.AttnKernel.nD Cert.AttnKernel.τ).loc Cert.AttnKernel.main_arg3))
      ∧ r.2.sem = fun _ => 0) := by
  rw [defs_eq, main_eq]
  exact frame_any (F := Bits) m g

end Cert.Proof.Attn
-- ==== Proof.AttnUp.lean ====
/- Arrays of reals: what the operations of the attention kernel do to them at the ideal values. -/
module

public import proofs.«01_k».proof.Proof.AttnRun0
public import proofs.«01_k».proof.Proof.Finite
public import Idealize.ShloMosaic.Lib.Pointwise
public import Idealize.ShloMosaic.PureOps

set_option maxRecDepth 16384
@[expose] public section
namespace Cert.Proof.Attn
open Idealize.ShloMosaic Idealize.ShloMosaic.TcCoe Idealize.ShloMosaic.Tactic
open Cert.AttnKernelIdeal Cert.AttnKernelIdeal.Gen Cert.Arith

/-- The array of the reals `f`. -/
noncomputable def up {a b : ℕ} {φ : FTy} (f : Fin a → Fin b → ℝ) : FVec Ideal ⟨2, ![a, b]⟩ φ := fun i => ((f (i 0) (i 1) : ℝ) : EReal)

theorem up_at {a b : ℕ} {φ : FTy} (f : Fin a → Fin b → ℝ) (i : Fin a) (j : Fin b) : up (φ := φ) f (ix2 i j) = ((f i j : ℝ) : EReal) := rfl

theorem coe_sum {ι : Type*} (s : Finset ι) (f : ι → ℝ) : ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

theorem coe_max (x y : ℝ) : ((max x y : ℝ) : EReal) = max (x : EReal) (y : EReal) := EReal.coe_strictMono.monotone.map_max

section
variable {a b : ℕ} {φ ψ : FTy} (x y : Fin a → Fin b → ℝ)

theorem up_add : addf (F := Ideal) (φ := φ) (up x) (up y) = up fun i j => x i j + y i j := by
  funext i; exact (EReal.coe_add _ _).symm
theorem up_sub : subf (F := Ideal) (φ := φ) (up x) (up y) = up fun i j => x i j - y i j := by
  funext i; exact (EReal.coe_sub _ _).symm
theorem up_mul : mulf (F := Ideal) (φ := φ) (up x) (up y) = up fun i j => x i j * y i j := by
  funext i; exact (EReal.coe_mul _ _).symm
theorem up_exp : exp (F := Ideal) (φ := φ) (up x) = up fun i j => Real.exp (x i j) := by
  funext i; rfl
theorem up_zero : broadcast (⟨2, ![a, b]⟩ : Shape) (Scalar.ofBits (F := Ideal) .f32 0x00000000#32) = up (a := a) (b := b) (φ := .f32) fun _ _ => 0 := by
  funext i; exact lit_zero
theorem up_one : broadcast (⟨2, ![a, b]⟩ : Shape) (Scalar.ofBits (F := Ideal) .f32 0x3F800000#32) = up (a := a) (b := b) (φ := .f32) fun _ _ => 1 := by
  funext i; exact lit_one
theorem up_trunc (h) : truncf (F := Ideal) (φ := φ) ψ (up x) h = up x := by
  funext i; rfl
theorem up_ext (h) : extf (F := Ideal) (φ := φ) ψ (up x) h = up x := by
  funext i; rfl
end

/-! ## The logarithm of the sigmoid of the negated score -/

/-- `log σ(−z)`, as the kernel computes it. -/
noncomputable def lk (z : FVec Ideal S512x512 .f32) : FVec Ideal S512x512 .f32 :=
  subf (broadcast S512x512 (Scalar.ofBits (F := Ideal) .f32 0x00000000#32))
    (addf (maximumf z (broadcast S512x512 (Scalar.ofBits (F := Ideal) .f32 0x00000000#32)))
      (log (addf (broadcast S512x512 (Scalar.ofBits (F := Ideal) .f32 0x3F800000#32))
        (exp (subf (broadcast S512x512 (Scalar.ofBits (F := Ideal) .f32 0x00000000#32)) (absf z))))))

noncomputable def lkR (z : ℝ) : ℝ := -(max z 0 + Real.log (1 + Real.exp (-|z|)))

theorem up_lk (z : Fin 512 → Fin 512 → ℝ) : lk (up z) = up fun i j => lkR (z i j) := by
  funext i
  generalize hi : z (i 0) (i 1) = w
  have e1 : max ((w : ℝ) : EReal) (-((w : ℝ) : EReal)) = ((|w| : ℝ) : EReal) := by
    rw [← EReal.coe_neg, ← coe_max]; rfl
  have h : lk (up z) i = (0 : EReal) - (max ((w : ℝ) : EReal) 0 + Ideal.log (1 + Ideal.exp (0 - max ((w : ℝ) : EReal) (-((w : ℝ) : EReal))))) := by
    rw [← hi, ← lit_zero, ← lit_one]; rfl
  rw [h, e1]
  show _ = ((lkR (z (i 0) (i 1)) : ℝ) : EReal)
  rw [hi, lkR, ← EReal.coe_zero, ← EReal.coe_one, ← EReal.coe_sub, Ideal.exp_coe, ← EReal.coe_add, Ideal.log_coe,
    if_neg (not_le.mpr (by positivity)), ← coe_max, ← EReal.coe_add, ← EReal.coe_sub]
  congr 1
  simp

/-! ## The products -/

/-- The scores of a block of queries against a block of keys. -/
noncomputable def score (q k : FVec Ideal S512x128 .bf16) : FVec Ideal S512x512 .f32 :=
  mulf (matmul (φ₁ := .bf16) (φ₂ := .bf16) dot_S512x128_S512x128_S512x512_1_1_0_0_n_n none q k (constant S512x512 .f32 0x00000000#32))
    (broadcast S512x512 (Scalar.ofBits (F := Ideal) .f32 0x3DB504F3#32))

/-- The scale of the scores. -/
noncomputable def sc : ℝ := (Ideal.ofBits .f32 0x3DB504F3#32).toReal
theorem sc_eq : Ideal.ofBits .f32 0x3DB504F3#32 = ((sc : ℝ) : EReal) := by
  have h : ∃ r : ℝ, Ideal.ofBits .f32 0x3DB504F3#32 = r := by
    simp only [Ideal.ofBits, Ideal.ieee]
    exact ⟨_, (EReal.coe_mul _ _).symm⟩
  obtain ⟨r, hr⟩ := h
  rw [sc, hr, EReal.toReal_coe]

/-- Two arrays of reals, summed over products. -/
theorem coe_sum_mul {n : ℕ} (f g : Fin n → ℝ) : ∑ k, ((f k : ℝ) : EReal) * ((g k : ℝ) : EReal) = ((∑ k, f k * g k : ℝ) : EReal) := by
  rw [coe_sum]; simp only [EReal.coe_mul]

theorem up_nt (q k : Fin 512 → Fin 128 → ℝ) :
    matmul (F := Ideal) (φ₁ := .bf16) (φ₂ := .bf16) dot_S512x128_S512x128_S512x512_1_1_0_0_n_n none (up q) (up k) (constant S512x512 .f32 0x00000000#32)
      = up fun i j => ∑ d, q i d * k j d := by
  funext y
  idx_vars y
  pointwise []
  exact coe_sum_mul (fun d => q y0 d) (fun d => k y1 d)

theorem up_nn (p : Fin 512 → Fin 512 → ℝ) (v : Fin 512 → Fin 128 → ℝ) :
    matmul (F := Ideal) (φ₁ := .bf16) (φ₂ := .bf16) dot_S512x512_S512x128_S512x128_1_0_0_1_n_n none (up p) (up v) (constant S512x128 .f32 0x00000000#32)
      = up fun i d => ∑ j, p i j * v j d := by
  funext y
  idx_vars y
  pointwise []
  exact coe_sum_mul (fun d => p y0 d) (fun d => v d y1)

theorem up_tn (p : Fin 512 → Fin 512 → ℝ) (v : Fin 512 → Fin 128 → ℝ) :
    matmul (F := Ideal) (φ₁ := .bf16) (φ₂ := .bf16) dot_S512x512_S512x128_S512x128_0_0_1_1_n_n none (up p) (up v) (constant S512x128 .f32 0x00000000#32)
      = up fun j d => ∑ i, p i j * v i d := by
  funext y
  idx_vars y
  pointwise []
  exact coe_sum_mul (fun d => p d y0) (fun d => v d y1)

theorem up_score (q k : Fin 512 → Fin 128 → ℝ) : score (up q) (up k) = up fun i j => (∑ d, q i d * k j d) * sc := by
  unfold score
  rw [up_nt]
  funext y
  show ((_ : ℝ) : EReal) * Ideal.ofBits .f32 0x3DB504F3#32 = _
  rw [sc_eq, ← EReal.coe_mul]
  rfl

/-! ## The mask and the sums over later keys -/

theorem slt_ofNat {a b : ℕ} (ha : a < 2 ^ 31) (hb : b < 2 ^ 31) : (BitVec.ofNat 32 a).slt (BitVec.ofNat 32 b) = decide (a < b) := by
  have h1 : (BitVec.ofNat 32 a).toInt = a := by rw [BitVec.toInt_ofNat']; simp [Int.bmod]; omega
  have h2 : (BitVec.ofNat 32 b).toInt = b := by rw [BitVec.toInt_ofNat']; simp [Int.bmod]; omega
  rw [BitVec.slt, h1, h2]; simp

theorem sle_ofNat {a b : ℕ} (ha : a < 2 ^ 31) (hb : b < 2 ^ 31) : (BitVec.ofNat 32 a).sle (BitVec.ofNat 32 b) = decide (a ≤ b) := by
  have h1 : (BitVec.ofNat 32 a).toInt = a := by rw [BitVec.toInt_ofNat']; simp [Int.bmod]; omega
  have h2 : (BitVec.ofNat 32 b).toInt = b := by rw [BitVec.toInt_ofNat']; simp [Int.bmod]; omega
  rw [BitVec.sle, h1, h2]; simp

/-- The mask of a block on the diagonal: keys before the query. -/
theorem msk_apply (i j : Fin 512) : k0_pay5 (ix2 i j) = BitVec.ofBool (decide (j < i)) := by
  pointwise [k0_pay5]
  have hj := j.isLt
  have hi := i.isLt
  exact congrArg BitVec.ofBool (slt_ofNat (by omega) (by omega))

theorem tri_apply (i : Fin 128) (j : Fin 256) : k0_pay4 (F := Ideal) (ix2 i j) = (((if j.val ≤ i.val ∨ 128 ≤ j.val then 1 else 0) : ℝ) : EReal) := by
  pointwise [k0_pay4]
  have hi := i.isLt
  have hj := j.isLt
  have e1 : IntOp.cmpi .sge (BitVec.ofNat 32 i.val) (BitVec.ofNat 32 j.val) = BitVec.ofBool (decide (j.val ≤ i.val)) :=
    congrArg BitVec.ofBool (sle_ofNat (by omega) (by omega))
  have e2 : IntOp.cmpi .sge (BitVec.ofNat 32 j.val) 128#32 = BitVec.ofBool (decide (128 ≤ j.val)) :=
    congrArg BitVec.ofBool (sle_ofNat (a := 128) (by omega) (by omega))
  rw [e1, e2]
  by_cases h1 : j.val ≤ i.val <;> by_cases h2 : 128 ≤ j.val <;> simp [h1, h2, IntOp.ori, Scalar.select]

theorem up_select (x : Fin 512 → Fin 512 → ℝ) :
    select k0_pay5 (up x) (broadcast S512x512 (Scalar.ofBits (F := Ideal) .f32 0x00000000#32)) = up (φ := .f32) fun i j => if j < i then x i j else 0 := by
  funext y
  idx_vars y
  pointwise []
  rw [msk_apply]
  by_cases h : y1 < y0
  · rw [up_at, up_at, if_pos h, decide_eq_true h]; rfl
  · rw [up_at, up_at, if_neg h, decide_eq_false h]; rfl

/-- A chunk of 128 columns against the two triangles: the sums over the later columns, and over all. -/
noncomputable def two (c : FVec Ideal S512x128 .f32) : FVec Ideal S512x256 .f32 :=
  addf (matmul (φ₁ := .bf16) (φ₂ := .bf16) dot_S512x128_S128x256_S512x256_1_0_0_1_n_n none (truncf .bf16 c bitsLt_bf16_f32) k0_pay4 (constant S512x256 .f32 0x00000000#32))
    (matmul (φ₁ := .bf16) (φ₂ := .bf16) dot_S512x128_S128x256_S512x256_1_0_0_1_n_n none
      (truncf .bf16 (subf c (extf .f32 (truncf .bf16 c bitsLt_bf16_f32) bitsLt_bf16_f32)) bitsLt_bf16_f32) k0_pay4 (constant S512x256 .f32 0x00000000#32))

noncomputable def inc (c C : FVec Ideal S512x128 .f32) : FVec Ideal S512x128 .f32 :=
  addf (extractStridedSlice S512x128 ![0, 0] (two c) slices_S512x256_o0_0_S512x128) C
noncomputable def nxt (c C : FVec Ideal S512x128 .f32) : FVec Ideal S512x128 .f32 :=
  addf C (extractStridedSlice S512x128 ![0, 128] (two c) slices_S512x256_o0_128_S512x128)

/-- The sums over the later columns of a block and of the blocks after it, whose sums are in `C`. -/
noncomputable def wide (L : FVec Ideal S512x512 .f32) (C : FVec Ideal S512x128 .f32) : FVec Ideal S512x512 .f32 :=
  let c0 := extractStridedSlice S512x128 ![0, 0] L slices_S512x512_o0_0_S512x128
  let c1 := extractStridedSlice S512x128 ![0, 128] L slices_S512x512_o0_128_S512x128
  let c2 := extractStridedSlice S512x128 ![0, 256] L slices_S512x512_o0_256_S512x128
  let c3 := extractStridedSlice S512x128 ![0, 384] L slices_S512x512_o0_384_S512x128
  concatenate S512x512 1 [⟨S512x128, inc c0 (nxt c1 (nxt c2 (nxt c3 C)))⟩, ⟨S512x128, inc c1 (nxt c2 (nxt c3 C))⟩,
    ⟨S512x128, inc c2 (nxt c3 C)⟩, ⟨S512x128, inc c3 C⟩] concatenates_S512x128_S512x128_S512x128_S512x128_S512x512_d1

/-- The sums with this block's. -/
noncomputable def wideC (L : FVec Ideal S512x512 .f32) (C : FVec Ideal S512x128 .f32) : FVec Ideal S512x128 .f32 :=
  nxt (extractStridedSlice S512x128 ![0, 0] L slices_S512x512_o0_0_S512x128) (nxt (extractStridedSlice S512x128 ![0, 128] L slices_S512x512_o0_128_S512x128)
    (nxt (extractStridedSlice S512x128 ![0, 256] L slices_S512x512_o0_256_S512x128) (nxt (extractStridedSlice S512x128 ![0, 384] L slices_S512x512_o0_384_S512x128) C)))

/-- The columns of a chunk. -/
def chunk (L : Fin 512 → Fin 512 → ℝ) (o : ℕ) (h : o ≤ 384) (i : Fin 512) (j : Fin 128) : ℝ := L i ⟨o + j.val, by have := j.isLt; omega⟩

theorem up_slice (L : Fin 512 → Fin 512 → ℝ) (o : ℕ) (h : o ≤ 384) (hs) :
    extractStridedSlice S512x128 ![0, o] (up (φ := .f32) L) hs = up (φ := .f32) (chunk L o h) := by
  funext y
  idx_vars y
  unfold extractStridedSlice
  unfold up chunk
  show ((L ⟨0 + y0.val, _⟩ ⟨o + y1.val, _⟩ : ℝ) : EReal) = ((L y0 ⟨o + y1.val, _⟩ : ℝ) : EReal)
  simp only [Nat.zero_add]

theorem two_sum (c f : Fin 128 → ℝ) (g : Fin 128 → ℝ) (h : ∀ k, c k * f k = g k) :
    ∑ k, ((c k : ℝ) : EReal) * ((f k : ℝ) : EReal) + ∑ k, (((c k : ℝ) : EReal) - ((c k : ℝ) : EReal)) * ((f k : ℝ) : EReal) = ((∑ k, g k : ℝ) : EReal) := by
  have h0 : ∀ k, ((c k : ℝ) : EReal) - ((c k : ℝ) : EReal) = 0 := fun k => by rw [← EReal.coe_sub, sub_self, EReal.coe_zero]
  simp only [h0, zero_mul, Finset.sum_const_zero, add_zero]
  rw [coe_sum_mul]
  simp only [h]

theorem two_lo (c : Fin 512 → Fin 128 → ℝ) (hs) : extractStridedSlice S512x128 ![0, 0] (two (up c)) hs
    = up (φ := .f32) fun i j => ∑ k, if j ≤ k then c i k else 0 := by
  funext y
  idx_vars y
  pointwise [two]
  simp only [tri_apply]
  rw [up_at]
  exact two_sum (c y0) _ _ fun k => by
    have := y1.isLt
    by_cases h : y1 ≤ k
    · rw [if_pos (Or.inl (Fin.le_def.mp h)), if_pos h, mul_one]
    · rw [if_neg (by rw [Fin.le_def] at h; show ¬ (y1.val ≤ k.val ∨ 128 ≤ y1.val); omega), if_neg h, mul_zero]

theorem two_hi (c : Fin 512 → Fin 128 → ℝ) (hs) : extractStridedSlice S512x128 ![0, 128] (two (up c)) hs
    = up (φ := .f32) fun i j => ∑ k, c i k := by
  funext y
  idx_vars y
  pointwise [two]
  simp only [tri_apply]
  rw [up_at]
  exact two_sum (c y0) _ _ fun k => by
    rw [if_pos (Or.inr (Nat.le_add_right _ _)), mul_one]

theorem up_nxt (c : Fin 512 → Fin 128 → ℝ) (C : Fin 512 → ℝ) :
    nxt (up c) (up fun i _ => C i) = up fun i _ => C i + ∑ k, c i k := by
  unfold nxt; rw [two_hi, up_add]

theorem up_inc (c : Fin 512 → Fin 128 → ℝ) (C : Fin 512 → ℝ) :
    inc (up c) (up fun i _ => C i) = up fun i j => (∑ k, if j ≤ k then c i k else 0) + C i := by
  unfold inc; rw [two_lo, up_add]

theorem sum_512 (f : Fin 512 → ℝ) : ∑ j, f j = ∑ k : Fin 128, f ⟨0 + k.val, by have := k.isLt; omega⟩ + ∑ k : Fin 128, f ⟨128 + k.val, by have := k.isLt; omega⟩
    + ∑ k : Fin 128, f ⟨256 + k.val, by have := k.isLt; omega⟩ + ∑ k : Fin 128, f ⟨384 + k.val, by have := k.isLt; omega⟩ := by
  rw [Fin.sum_univ_add (a := 128) (b := 384) f, Fin.sum_univ_add (a := 128) (b := 256), Fin.sum_univ_add (a := 128) (b := 128)]
  simp only [add_assoc]
  refine congrArg₂ _ (Finset.sum_congr rfl fun k _ => congrArg f (Fin.ext ?_)) (congrArg₂ _ (Finset.sum_congr rfl fun k _ => congrArg f (Fin.ext ?_)) (congrArg₂ _ (Finset.sum_congr rfl fun k _ => congrArg f (Fin.ext ?_)) (Finset.sum_congr rfl fun k _ => congrArg f (Fin.ext ?_)))) <;> simp <;> omega

theorem up_wideC (L : Fin 512 → Fin 512 → ℝ) (C : Fin 512 → ℝ) :
    wideC (up L) (up fun i _ => C i) = up fun i _ => C i + ∑ j, L i j := by
  unfold wideC
  rw [up_slice L 0 (by decide), up_slice L 128 (by decide), up_slice L 256 (by decide), up_slice L 384 (by decide), up_nxt, up_nxt, up_nxt, up_nxt]
  congr 1
  funext i _
  rw [sum_512]
  unfold chunk
  ring

section
variable (L : Fin 512 → Fin 512 → ℝ) (o : ℕ) (h : o ≤ 384) (i j : Fin 512)

theorem chunk_at (r : Fin 128) (hr : j.val = o + r.val) :
    (∑ k : Fin 128, if j ≤ (⟨o + k.val, by have := k.isLt; omega⟩ : Fin 512) then L i ⟨o + k.val, by have := k.isLt; omega⟩ else 0)
      = ∑ k, if r ≤ k then chunk L o h i k else 0 :=
  Finset.sum_congr rfl fun k _ => if_congr (by rw [Fin.le_def, Fin.le_def]; show j.val ≤ o + k.val ↔ _; omega) rfl rfl

theorem chunk_after (hj : j.val ≤ o) :
    (∑ k : Fin 128, if j ≤ (⟨o + k.val, by have := k.isLt; omega⟩ : Fin 512) then L i ⟨o + k.val, by have := k.isLt; omega⟩ else 0)
      = ∑ k, chunk L o h i k :=
  Finset.sum_congr rfl fun k _ => if_pos (by rw [Fin.le_def]; show j.val ≤ o + k.val; omega)

theorem chunk_before (hj : o + 128 ≤ j.val) :
    (∑ k : Fin 128, if j ≤ (⟨o + k.val, by have := k.isLt; omega⟩ : Fin 512) then L i ⟨o + k.val, by have := k.isLt; omega⟩ else 0) = 0 :=
  Finset.sum_eq_zero fun k _ => if_neg (by rw [Fin.le_def]; show ¬ j.val ≤ o + k.val; have := k.isLt; omega)
end

theorem up_wide (L : Fin 512 → Fin 512 → ℝ) (C : Fin 512 → ℝ) :
    wide (up L) (up fun i _ => C i) = up fun i j => (∑ j', if j ≤ j' then L i j' else 0) + C i := by
  unfold wide
  rw [up_slice L 0 (by decide), up_slice L 128 (by decide), up_slice L 256 (by decide), up_slice L 384 (by decide)]
  funext y
  idx_vars y
  pointwise []
  have hy := y1.isLt
  rw [up_at, sum_512]
  split
  · rename_i h
    rw [up_nxt, up_nxt, up_nxt, up_inc, up_at, chunk_at L 0 (by decide) y0 y1 ⟨y1.val, h⟩ (by simp), chunk_after L 128 (by decide) y0 y1 (by omega),
      chunk_after L 256 (by decide) y0 y1 (by omega), chunk_after L 384 (by decide) y0 y1 (by omega)]
    congr 1; ring
  · rename_i h1
    split
    · rename_i h
      rw [up_nxt, up_nxt, up_inc, up_at, chunk_before L 0 y0 y1 (by omega), chunk_at L 128 (by decide) y0 y1 ⟨y1.val - 128, h⟩ (by simp; omega),
        chunk_after L 256 (by decide) y0 y1 (by omega), chunk_after L 384 (by decide) y0 y1 (by omega)]
      congr 1; ring
    · rename_i h2
      split
      · rename_i h
        rw [up_nxt, up_inc, up_at, chunk_before L 0 y0 y1 (by omega), chunk_before L 128 y0 y1 (by omega),
          chunk_at L 256 (by decide) y0 y1 ⟨y1.val - 128 - 128, h⟩ (by simp; omega), chunk_after L 384 (by decide) y0 y1 (by omega)]
        congr 1; ring
      · rename_i h3
        rw [up_inc, up_at, chunk_before L 0 y0 y1 (by omega), chunk_before L 128 y0 y1 (by omega),
          chunk_before L 256 y0 y1 (by omega), chunk_at L 384 (by decide) y0 y1 ⟨y1.val - 128 - 128 - 128, by omega⟩ (by simp; omega)]
        congr 1; ring

end Cert.Proof.Attn
-- ==== Proof.AttnCore.lean ====
/- What one block of queries computes against one block of keys, on arrays of reals. -/
module

public import proofs.«01_k».proof.Proof.AttnUp
public import proofs.«01_k».proof.Proof.AttnRun1

set_option maxRecDepth 16384
@[expose] public section
namespace Cert.Proof.Attn
open Idealize.ShloMosaic Idealize.ShloMosaic.TcCoe Idealize.ShloMosaic.Tactic
open Cert.AttnKernelIdeal Cert.AttnKernelIdeal.Gen Cert.Arith

/-- Zero at every entry. -/
noncomputable abbrev nil (s : Shape) : FVec Ideal s .f32 := broadcast s (Scalar.ofBits (F := Ideal) .f32 0x00000000#32)

/-- The weights of an earlier block of keys, whose later keys have the sums `C`. -/
noncomputable def wts (z : FVec Ideal S512x512 .f32) (C : FVec Ideal S512x128 .f32) : FVec Ideal S512x512 .bf16 :=
  truncf .bf16 (exp (addf (addf z (lk z)) (subf (wide (lk z) C) (lk z)))) bitsLt_bf16_f32

/-- The masked logarithms of the block on the diagonal. -/
noncomputable def lk0 (z : FVec Ideal S512x512 .f32) : FVec Ideal S512x512 .f32 := select k0_pay5 (lk z) (nil S512x512)

/-- The weights of the block on the diagonal. -/
noncomputable def wts0 (z : FVec Ideal S512x512 .f32) : FVec Ideal S512x512 .bf16 :=
  truncf .bf16 (select k0_pay5 (exp (addf (addf z (lk z)) (subf (wide (lk0 z) (nil S512x128)) (lk0 z)))) (nil S512x512)) bitsLt_bf16_f32

noncomputable def nn (p : FVec Ideal S512x512 .bf16) (v : FVec Ideal S512x128 .bf16) : FVec Ideal S512x128 .f32 :=
  matmul (φ₁ := .bf16) (φ₂ := .bf16) dot_S512x512_S512x128_S512x128_1_0_0_1_n_n none p v (constant S512x128 .f32 0x00000000#32)
noncomputable def tn (p : FVec Ideal S512x512 .bf16) (v : FVec Ideal S512x128 .bf16) : FVec Ideal S512x128 .f32 :=
  matmul (φ₁ := .bf16) (φ₂ := .bf16) dot_S512x512_S512x128_S512x128_0_0_1_1_n_n none p v (constant S512x128 .f32 0x00000000#32)
noncomputable def nt (p : FVec Ideal S512x128 .bf16) (v : FVec Ideal S512x128 .bf16) : FVec Ideal S512x512 .f32 :=
  matmul (φ₁ := .bf16) (φ₂ := .bf16) dot_S512x128_S512x128_S512x512_1_1_0_0_n_n none p v (constant S512x512 .f32 0x00000000#32)

theorem fwd0_eq (q k v : FVec Ideal S512x128 .bf16) :
    fwd0 (F := Ideal) q k v = (addf (nil S512x128) (nn (wts0 (score q k)) v), wideC (lk0 (score q k)) (nil S512x128)) := rfl

theorem fwdStep_eq (q k v : FVec Ideal S512x128 .bf16) (acc : FVec Ideal S512x128 .f32 × FVec Ideal S512x128 .f32) :
    fwdStep (F := Ideal) q k v acc = (addf acc.1 (nn (wts (score q k) acc.2) v), wideC (lk (score q k)) acc.2) := rfl

/-- The gradient of the logarithms of the weights. -/
noncomputable def dla (a : FVec Ideal S512x512 .bf16) (d v : FVec Ideal S512x128 .bf16) : FVec Ideal S512x512 .f32 :=
  mulf (extf .f32 a bitsLt_bf16_f32) (nt d v)

noncomputable def unit : FVec Ideal S512x512 .f32 := broadcast S512x512 (Scalar.ofBits (F := Ideal) .f32 0x3F800000#32)
noncomputable def scl : FVec Ideal S512x512 .f32 := broadcast S512x512 (Scalar.ofBits (F := Ideal) .f32 0x3DB504F3#32)

/-- The gradient of the scores. -/
noncomputable def dz (z g : FVec Ideal S512x512 .f32) (T : FVec Ideal S512x1 .f32) (C : FVec Ideal S512x128 .f32) : FVec Ideal S512x512 .bf16 :=
  truncf .bf16 (mulf (subf (mulf g (subf unit (exp (addf z (lk z)))))
    (mulf (subf (broadcastTo S512x512 T broadcasts_S512x1_S512x512) (wide g C)) (exp (addf z (lk z))))) scl) bitsLt_bf16_f32
noncomputable def dz0 (z g : FVec Ideal S512x512 .f32) (T : FVec Ideal S512x1 .f32) (C : FVec Ideal S512x128 .f32) : FVec Ideal S512x512 .bf16 :=
  truncf .bf16 (mulf (subf (mulf g (subf unit (exp (addf z (lk z)))))
    (select k0_pay5 (mulf (subf (broadcastTo S512x512 T broadcasts_S512x1_S512x512) (wide g C)) (exp (addf z (lk z)))) (nil S512x512))) scl) bitsLt_bf16_f32

noncomputable abbrev same {φ : FTy} (x : FVec Ideal S512x128 φ) : FVec Ideal S512x128 φ := shapeCast S512x128 x shapeCasts_S512x128_S512x128

theorem same_eq {φ : FTy} (x : FVec Ideal S512x128 φ) : same x = x := by
  funext y
  idx_vars y
  unfold same
  pointwise []

theorem pay65_eq (d : FVec Ideal S512x128 .bf16) : k1_pay65 (F := Ideal) d = d := same_eq (φ := .bf16) d

theorem bwd0_eq (q k v d : FVec Ideal S512x128 .bf16) (o Kr Vr : FVec Ideal S512x128 .f32) :
    bwd0 (F := Ideal) k0_pay4 k0_pay5 q k v d o Kr Vr
      = ((addf (nil S512x128) (nn (dz0 (score q k) (dla (wts0 (score q k)) (k1_pay65 d) v) (k1_pay66 d o) (nil S512x128)) k),
          wideC (lk0 (score q k)) (nil S512x128), wideC (dla (wts0 (score q k)) (k1_pay65 d) v) (nil S512x128)),
        same (addf Kr (tn (dz0 (score q k) (dla (wts0 (score q k)) (k1_pay65 d) v) (k1_pay66 d o) (nil S512x128)) q)),
        same (addf Vr (tn (wts0 (score q k)) (k1_pay65 d)))) := rfl

theorem bwdStep_eq (q k v d : FVec Ideal S512x128 .bf16) (T : FVec Ideal S512x1 .f32) (Kr Vr : FVec Ideal S512x128 .f32) (acc : Acc Ideal) :
    bwdStep (F := Ideal) k0_pay4 q d T k v Kr Vr acc
      = ((addf acc.1 (nn (dz (score q k) (dla (wts (score q k) acc.2.1) d v) T acc.2.2) k),
          wideC (lk (score q k)) acc.2.1, wideC (dla (wts (score q k) acc.2.1) d v) acc.2.2),
        same (addf Kr (tn (dz (score q k) (dla (wts (score q k) acc.2.1) d v) T acc.2.2) q)),
        same (addf Vr (tn (wts (score q k) acc.2.1) d))) := rfl

end Cert.Proof.Attn
-- ==== Proof.AttnBlk.lean ====
/- The block steps of the attention kernel on arrays of reals. -/
module

public import proofs.«01_k».proof.Proof.AttnCore

set_option maxRecDepth 16384
@[expose] public section
namespace Cert.Proof.Attn
open Idealize.ShloMosaic Idealize.ShloMosaic.TcCoe Idealize.ShloMosaic.Tactic
open Cert.AttnKernelIdeal Cert.AttnKernelIdeal.Gen Cert.Arith

section
variable (q k v d o : Fin 512 → Fin 128 → ℝ) (z g : Fin 512 → Fin 512 → ℝ) (C T : Fin 512 → ℝ)

/-- The arrays of reals at the two float types. -/
noncomputable abbrev upb {a b : ℕ} (f : Fin a → Fin b → ℝ) : FVec Ideal ⟨2, ![a, b]⟩ .bf16 := up f
noncomputable abbrev upf {a b : ℕ} (f : Fin a → Fin b → ℝ) : FVec Ideal ⟨2, ![a, b]⟩ .f32 := up f

theorem nil_up (a b : ℕ) : nil ⟨2, ![a, b]⟩ = up fun _ _ => 0 := up_zero

/-- The later columns of row `i`, column `j` with them. -/
def later (i j : Fin 512) : ℝ := (∑ j', if j ≤ j' then g i j' else 0) + C i

noncomputable def zR (i j : Fin 512) : ℝ := (∑ d, q i d * k j d) * sc
noncomputable def lR0 (i j : Fin 512) : ℝ := if j < i then lkR (z i j) else 0
noncomputable def aR (i j : Fin 512) : ℝ := Real.exp (z i j + lkR (z i j) + (later (fun i j => lkR (z i j)) C i j - lkR (z i j)))
noncomputable def aR0 (i j : Fin 512) : ℝ := if j < i then Real.exp (z i j + lkR (z i j) + (later (lR0 z) (fun _ => 0) i j - lR0 z i j)) else 0
noncomputable def gR (a : Fin 512 → Fin 512 → ℝ) (i j : Fin 512) : ℝ := a i j * ∑ e, d i e * v j e
noncomputable def dzR (i j : Fin 512) : ℝ :=
  (g i j * (1 - Real.exp (z i j + lkR (z i j))) - (T i - later g C i j) * Real.exp (z i j + lkR (z i j))) * sc
noncomputable def dzR0 (i j : Fin 512) : ℝ :=
  (g i j * (1 - Real.exp (z i j + lkR (z i j))) - if j < i then (T i - later g C i j) * Real.exp (z i j + lkR (z i j)) else 0) * sc

theorem up_wide' : wide (up g) (up fun i _ => C i) = up (later g C) := up_wide g C

theorem up_wts : wts (up z) (up fun i _ => C i) = up (aR z C) := by
  unfold wts
  rw [up_lk, up_add, up_wide', up_sub, up_add, up_exp, up_trunc]
  rfl

theorem up_lk0 : lk0 (up z) = up (lR0 z) := by
  unfold lk0
  rw [up_lk]
  exact up_select _

theorem up_wts0 : wts0 (up z) = up (aR0 z) := by
  unfold wts0
  rw [up_lk0, up_lk, up_add, show nil S512x128 = up (fun i _ => (fun _ => (0 : ℝ)) i) from nil_up 512 128, up_wide', up_sub, up_add, up_exp]
  rw [show select k0_pay5 _ (nil S512x512) = _ from up_select _, up_trunc]
  rfl

theorem up_dla (a : Fin 512 → Fin 512 → ℝ) : dla (up a) (up d) (up v) = up (gR v d a) := by
  unfold dla nt
  rw [up_nt, up_ext, up_mul]
  rfl

theorem up_bcast (h) : broadcastTo S512x512 (up (φ := .f32) fun (i : Fin 512) (_ : Fin 1) => T i) h = up (φ := .f32) fun i (_ : Fin 512) => T i := by
  funext y
  idx_vars y
  pointwise []
  rfl

theorem up_unit : unit = up fun _ _ => 1 := up_one
theorem up_scl : scl = up fun _ _ => sc := by
  funext y; exact sc_eq

theorem up_dz : dz (up z) (up g) (up fun i _ => T i) (up fun i _ => C i) = up (dzR z g C T) := by
  unfold dz
  rw [up_lk, up_add, up_exp, up_unit, up_sub, up_mul, up_wide', up_bcast, up_sub, up_mul, up_sub, up_scl, up_mul, up_trunc]
  rfl

theorem up_dz0 : dz0 (up z) (up g) (up fun i _ => T i) (up fun i _ => C i) = up (dzR0 z g C T) := by
  unfold dz0
  rw [up_lk, up_add, up_exp, up_unit, up_sub, up_mul, up_wide', up_bcast, up_sub, up_mul]
  rw [show select k0_pay5 _ (nil S512x512) = _ from up_select _, up_sub, up_scl, up_mul, up_trunc]
  rfl

theorem up_score' : score (up q) (up k) = up (zR q k) := up_score q k

theorem up_nn' (p : Fin 512 → Fin 512 → ℝ) : nn (up p) (up v) = up fun i d => ∑ j, p i j * v j d := up_nn p v
theorem up_tn' (p : Fin 512 → Fin 512 → ℝ) : tn (up p) (up v) = up fun j d => ∑ i, p i j * v i d := up_tn p v

theorem up_pay66 : k1_pay66 (F := Ideal) (upb d) (upf o) = up (φ := .f32) fun i (_ : Fin 1) => ∑ e, d i e * o i e := by
  funext y
  idx_vars y
  unfold k1_pay66
  rw [pay65_eq, show shapeCast S512x128 (up (φ := .f32) o) shapeCasts_S512x128_S512x128 = up o from same_eq _, up_ext, up_mul]
  pointwise []
  exact (coe_sum _ _).symm

/-! ## The steps -/

theorem up_fwd0 : fwd0 (F := Ideal) (upb q) (upb k) (upb v)
    = (upf fun i d => ∑ j, aR0 (zR q k) i j * v j d, upf fun i _ => ∑ j, lR0 (zR q k) i j) := by
  rw [fwd0_eq, up_score', up_wts0, up_lk0, up_nn', show nil S512x128 = up (fun i _ => (fun _ => (0 : ℝ)) i) from nil_up 512 128, up_wideC, up_add]
  simp only [zero_add]

theorem up_fwdStep (p : Fin 512 → Fin 128 → ℝ) : fwdStep (F := Ideal) (upb q) (upb k) (upb v) (upf p, upf fun i _ => C i)
    = (upf fun i d => p i d + ∑ j, aR (zR q k) C i j * v j d, upf fun i _ => C i + ∑ j, lkR (zR q k i j)) := by
  rw [fwdStep_eq, up_score', up_wts, up_lk, up_nn', up_wideC, up_add]

theorem up_bwd0 (Kr Vr : Fin 512 → Fin 128 → ℝ) (T : Fin 512 → ℝ) (hT : k1_pay66 (F := Ideal) (upb d) (upf o) = upf fun i (_ : Fin 1) => T i) :
    bwd0 (F := Ideal) k0_pay4 k0_pay5 (upb q) (upb k) (upb v) (upb d) (upf o) (upf Kr) (upf Vr)
      = ((upf fun i e => ∑ j, dzR0 (zR q k) (gR v d (aR0 (zR q k))) (fun _ => 0) T i j * k j e,
          upf fun i _ => ∑ j, lR0 (zR q k) i j, upf fun i _ => ∑ j, gR v d (aR0 (zR q k)) i j),
        upf fun j e => Kr j e + ∑ i, dzR0 (zR q k) (gR v d (aR0 (zR q k))) (fun _ => 0) T i j * q i e,
        upf fun j e => Vr j e + ∑ i, aR0 (zR q k) i j * d i e) := by
  rw [bwd0_eq, hT, pay65_eq, up_score', up_wts0, up_lk0, up_dla, show nil S512x128 = up (fun i _ => (fun _ => (0 : ℝ)) i) from nil_up 512 128,
    up_dz0, up_wideC, up_wideC, up_nn', up_add, up_tn', up_add, up_tn', up_add, same_eq, same_eq]
  simp only [zero_add]

theorem up_bwdStep (Kr Vr p : Fin 512 → Fin 128 → ℝ) (B : Fin 512 → ℝ) :
    bwdStep (F := Ideal) k0_pay4 (upb q) (upb d) (upf fun (i : Fin 512) (_ : Fin 1) => T i) (upb k) (upb v) (upf Kr) (upf Vr) (upf p, upf fun i _ => C i, upf fun i _ => B i)
      = ((upf fun i e => p i e + ∑ j, dzR (zR q k) (gR v d (aR (zR q k) C)) B T i j * k j e,
          up fun i _ => C i + ∑ j, lkR (zR q k i j), upf fun i _ => B i + ∑ j, gR v d (aR (zR q k) C) i j),
        upf fun j e => Kr j e + ∑ i, dzR (zR q k) (gR v d (aR (zR q k) C)) B T i j * q i e,
        upf fun j e => Vr j e + ∑ i, aR (zR q k) C i j * d i e) := by
  rw [bwdStep_eq, up_score', up_wts, up_lk, up_dla, up_dz, up_wideC, up_wideC, up_nn', up_add, up_tn', up_add, up_tn', up_add, same_eq, same_eq]
end

end Cert.Proof.Attn
-- ==== Proof.AttnSpec.lean ====
/- Stick-breaking attention over the reals, and the blocked loop of the forward kernel. -/
module

public import proofs.«01_k».proof.Proof.AttnBlk

set_option maxRecDepth 16384
@[expose] public section
namespace Cert.Proof.Attn
open Idealize.ShloMosaic Idealize.ShloMosaic.TcCoe Idealize.ShloMosaic.Tactic
open Cert.AttnKernelIdeal Cert.AttnKernelIdeal.Gen Cert.Arith

/-! ## The mathematics of one head -/

section
variable (Q K V D : Fin 4096 → Fin 128 → ℝ)

/-- The score of query `t` and key `s`. -/
noncomputable def zG (t s : Fin 4096) : ℝ := (∑ d, Q t d * K s d) * sc
/-- The masked logarithm of the share a key leaves to the earlier ones. -/
noncomputable def lG (t s : Fin 4096) : ℝ := if s < t then lkR (zG Q K t s) else 0
/-- The sum from entry `n` on. -/
def suf (f : Fin 4096 → ℝ) (n : ℕ) : ℝ := ∑ s : Fin 4096, if n ≤ s.val then f s else 0
/-- The weight of key `s` for query `t`. -/
noncomputable def aG (t s : Fin 4096) : ℝ :=
  if s < t then Real.exp (zG Q K t s + lkR (zG Q K t s) + (suf (lG Q K t) s.val - lG Q K t s)) else 0
/-- The attention's output. -/
noncomputable def oG (t : Fin 4096) (d : Fin 128) : ℝ := ∑ s, aG Q K t s * V s d
/-- The gradient of the logarithm of the weight. -/
noncomputable def gG (t s : Fin 4096) : ℝ := aG Q K t s * ∑ e, D t e * V s e
noncomputable def sG (t s : Fin 4096) : ℝ := Real.exp (zG Q K t s + lkR (zG Q K t s))
/-- The gradient of the scores, times the scale. -/
noncomputable def dzG (t s : Fin 4096) : ℝ :=
  (gG Q K V D t s * (1 - sG Q K t s) - if s < t then ((∑ e, D t e * oG Q K V t e) - suf (gG Q K V D t) s.val) * sG Q K t s else 0) * sc
end

/-! ## Blocks of 512 -/

/-- Row `i` of block `n`. -/
def row (n : ℕ) (i : Fin 512) : Fin 4096 := ⟨(512 * n + i.val) % 4096, Nat.mod_lt _ (by decide)⟩

theorem row_val {n : ℕ} (hn : n < 8) (i : Fin 512) : (row n i).val = 512 * n + i.val := by
  have := i.isLt
  show (512 * n + i.val) % 4096 = _
  omega

theorem sum_block (f : Fin 4096 → ℝ) {n : ℕ} (hn : n < 8) : (∑ s : Fin 4096, if s.val / 512 = n then f s else 0) = ∑ j, f (row n j) := by
  rw [← Finset.sum_filter]
  refine Finset.sum_nbij' (fun s => ⟨s.val % 512, Nat.mod_lt _ (by decide)⟩) (fun j => row n j) ?_ ?_ ?_ ?_ ?_
  · intro s _; exact Finset.mem_univ _
  · intro j _
    have := j.isLt
    simp only [Finset.mem_filter, Finset.mem_univ, true_and, row_val hn]; omega
  · intro s hs
    simp only [Finset.mem_filter, Finset.mem_univ, true_and] at hs
    apply Fin.ext; rw [row_val hn]; show 512 * n + s.val % 512 = s.val; omega
  · intro j _
    have := j.isLt
    apply Fin.ext; show (row n j).val % 512 = j.val; rw [row_val hn]; omega
  · intro s hs
    simp only [Finset.mem_filter, Finset.mem_univ, true_and] at hs
    congr 1; apply Fin.ext; rw [row_val hn]; show s.val = 512 * n + s.val % 512; omega

theorem suf_block (f : Fin 4096 → ℝ) {m : ℕ} (hm : m < 8) (j : Fin 512) :
    suf f (row m j).val = (∑ j', if j ≤ j' then f (row m j') else 0) + suf f (512 * (m + 1)) := by
  have hj := j.isLt
  unfold suf
  rw [show (∑ j', if j ≤ j' then f (row m j') else 0) = ∑ j', (fun s : Fin 4096 => if (row m j).val ≤ s.val then f s else 0) (row m j') from
    Finset.sum_congr rfl fun j' _ => if_congr (by rw [row_val hm, row_val hm, Fin.le_def]; omega) rfl rfl, ← sum_block (fun s : Fin 4096 => if (row m j).val ≤ s.val then f s else 0) hm, ← Finset.sum_add_distrib]
  refine Finset.sum_congr rfl fun s _ => ?_
  rw [row_val hm]
  by_cases h1 : 512 * (m + 1) ≤ s.val
  · rw [if_pos (by omega), if_neg (by omega), if_pos h1, zero_add]
  · by_cases h2 : s.val / 512 = m
    · rw [if_pos h2, if_neg h1, add_zero]
    · rw [if_neg h2, if_neg h1, if_neg (by omega), add_zero]

theorem suf_succ (f : Fin 4096 → ℝ) {m : ℕ} (hm : m < 8) : suf f (512 * m) = suf f (512 * (m + 1)) + ∑ j, f (row m j) := by
  have h := suf_block f hm 0
  rw [row_val hm] at h
  simp only [Fin.zero_le, if_true] at h
  rw [add_comm, ← h]; rfl

theorem suf_zero (f : Fin 4096 → ℝ) : suf f 0 = ∑ s, f s := by
  unfold suf; simp

theorem suf_none (f : Fin 4096 → ℝ) (n : ℕ) (h : ∀ s : Fin 4096, n ≤ s.val → f s = 0) : suf f n = 0 :=
  Finset.sum_eq_zero fun s _ => by split <;> [exact h s ‹_›; rfl]

/-! ## The blocks of the whole -/

section
variable (Q K V D : Fin 4096 → Fin 128 → ℝ)

/-- A block of rows. -/
def blk (X : Fin 4096 → Fin 128 → ℝ) (n : ℕ) (i : Fin 512) (d : Fin 128) : ℝ := X (row n i) d

theorem rows_upb (X : Fin 4096 → Fin 128 → ℝ) (n : ℕ) : rows (F := Ideal) (e := .bf16) (upb X) n = upb (blk X n) := rfl
theorem rows_upf (X : Fin 4096 → Fin 128 → ℝ) (n : ℕ) : rows (F := Ideal) (e := .f32) (upf X) n = upf (blk X n) := rfl

theorem zR_blk (n m : ℕ) (i j : Fin 512) : zR (blk Q n) (blk K m) i j = zG Q K (row n i) (row m j) := rfl

theorem row_lt {n : ℕ} (hn : n < 8) (i j : Fin 512) : row n j < row n i ↔ j < i := by
  rw [Fin.lt_def, Fin.lt_def, row_val hn, row_val hn]; omega
theorem row_lt' {n m : ℕ} (hn : n < 8) (hm : m < n) (i j : Fin 512) : row m j < row n i := by
  have := j.isLt
  rw [Fin.lt_def, row_val hn, row_val (by omega)]; omega

theorem lG_none {n : ℕ} (hn : n < 8) (i : Fin 512) : suf (lG Q K (row n i)) (512 * (n + 1)) = 0 :=
  suf_none _ _ fun s hs => if_neg (by have := i.isLt; rw [Fin.lt_def, row_val hn]; omega)
theorem aG_none {n : ℕ} (hn : n < 8) (i : Fin 512) (f : Fin 4096 → ℝ) : suf (fun s => aG Q K (row n i) s * f s) (512 * (n + 1)) = 0 :=
  suf_none _ _ fun s hs => by
    rw [aG, if_neg (by have := i.isLt; rw [Fin.lt_def, row_val hn]; omega), zero_mul]

theorem lR0_blk {n : ℕ} (hn : n < 8) (i j : Fin 512) : lR0 (zR (blk Q n) (blk K n)) i j = lG Q K (row n i) (row n j) :=
  if_congr (row_lt hn i j).symm rfl rfl
theorem lkR_blk {n m : ℕ} (hn : n < 8) (hm : m < n) (i j : Fin 512) : lkR (zR (blk Q n) (blk K m) i j) = lG Q K (row n i) (row m j) :=
  (if_pos (row_lt' hn hm i j)).symm

theorem aR0_blk {n : ℕ} (hn : n < 8) (i j : Fin 512) : aR0 (zR (blk Q n) (blk K n)) i j = aG Q K (row n i) (row n j) := by
  unfold aR0 aG
  refine if_congr (row_lt hn i j).symm ?_ rfl
  rw [suf_block _ hn, lG_none Q K hn, lR0_blk Q K hn, later, zR_blk]
  simp only [lR0_blk Q K hn]

theorem aR_blk {n m : ℕ} (hn : n < 8) (hm : m < n) (i j : Fin 512) :
    aR (zR (blk Q n) (blk K m)) (fun i => suf (lG Q K (row n i)) (512 * (m + 1))) i j = aG Q K (row n i) (row m j) := by
  unfold aR aG
  rw [if_pos (row_lt' hn hm i j), suf_block _ (by omega), later, lkR_blk Q K hn hm, zR_blk]
  simp only [lkR_blk Q K hn hm]
  rw [lG, if_pos (row_lt' hn hm i j)]

theorem fwdRow_eq {n : ℕ} (hn : n < 8) (j : ℕ) (hj : j ≤ n) :
    fwdRow (F := Ideal) (upb Q) (upb K) (upb V) n j
      = (upf fun i d => suf (fun s => aG Q K (row n i) s * V s d) (512 * (n - j)), upf fun i _ => suf (lG Q K (row n i)) (512 * (n - j))) := by
  induction j with
  | zero =>
    rw [fwdRow, rows_upb, rows_upb, rows_upb, up_fwd0]
    simp only [aR0_blk Q K hn, lR0_blk Q K hn, Nat.sub_zero, suf_succ _ hn, aG_none Q K hn, lG_none Q K hn, zero_add]
    rfl
  | succ j ih =>
    have hm : n - 1 - j < n := by omega
    have e : 512 * (n - j) = 512 * (n - 1 - j + 1) := by omega
    have e' : n - (j + 1) = n - 1 - j := by omega
    rw [fwdRow, rows_upb, rows_upb, rows_upb, ih (by omega), up_fwdStep, e, e']
    simp only [lkR_blk Q K hn hm, aR_blk Q K hn hm, suf_succ _ (show n - 1 - j < 8 by omega)]
    rfl

theorem row_div (t : Fin 4096) : row (t.val / 512) ⟨t.val % 512, Nat.mod_lt _ (by decide)⟩ = t := by
  apply Fin.ext
  have := t.isLt
  rw [row_val (by omega)]
  show 512 * (t.val / 512) + t.val % 512 = t.val
  omega

theorem untile_up (p : ℕ → Vec Ideal S512x128 .f32) (f : Fin 4096 → Fin 128 → ℝ) (h : ∀ n < 8, p n = upf (blk f n)) :
    untile (F := Ideal) (e := .f32) p = upf f := by
  funext y
  have hy : (y 0).val < 4096 := (y 0).isLt
  unfold untile
  rw [h _ (by omega)]
  show ((f (row ((y 0).val / 512) ⟨(y 0).val % 512, _⟩) (y 1) : ℝ) : EReal) = _
  rw [row_div (y 0)]
  rfl

theorem attnO_eq : attnO (F := Ideal) (upb Q) (upb K) (upb V) = upf (oG Q K V) :=
  untile_up _ _ fun n hn => by
    show (fwdRow (F := Ideal) (upb Q) (upb K) (upb V) n n).1 = _
    rw [fwdRow_eq Q K V hn n le_rfl]
    simp only [Nat.sub_self, Nat.mul_zero, suf_zero]
    rfl
end

end Cert.Proof.Attn
-- ==== Proof.AttnBwd.lean ====
/- The blocked loops of the backward kernel of the attention, over the reals. -/
module

public import proofs.«01_k».proof.Proof.AttnSpec

set_option maxRecDepth 16384
@[expose] public section
namespace Cert.Proof.Attn
open Idealize.ShloMosaic Idealize.ShloMosaic.TcCoe Idealize.ShloMosaic.Tactic
open Cert.AttnKernelIdeal Cert.AttnKernelIdeal.Gen Cert.Arith

/-- The sum over the entries of the blocks before `n`. -/
def pre (f : Fin 4096 → ℝ) (n : ℕ) : ℝ := ∑ t : Fin 4096, if t.val / 512 < n then f t else 0

theorem pre_zero (f : Fin 4096 → ℝ) : pre f 0 = 0 := by unfold pre; simp
theorem pre_all (f : Fin 4096 → ℝ) : pre f 8 = ∑ t, f t :=
  Finset.sum_congr rfl fun t _ => if_pos (by have := t.isLt; omega)
theorem pre_succ (f : Fin 4096 → ℝ) {n : ℕ} (hn : n < 8) : pre f (n + 1) = pre f n + ∑ i, f (row n i) := by
  unfold pre
  rw [← sum_block f hn, ← Finset.sum_add_distrib]
  refine Finset.sum_congr rfl fun t _ => ?_
  by_cases h1 : t.val / 512 < n
  · rw [if_pos (by omega), if_pos h1, if_neg (by omega), add_zero]
  · by_cases h2 : t.val / 512 = n
    · rw [if_pos (by omega), if_neg h1, if_pos h2, zero_add]
    · rw [if_neg (by omega), if_neg h1, if_neg h2, zero_add]

theorem upd_up (X Y : Fin 4096 → Fin 128 → ℝ) (m : ℕ) (p : Fin 512 → Fin 128 → ℝ) (h1 : ∀ j e, p j e = Y (row m j) e)
    (h2 : ∀ s e, s.val / 512 ≠ m → X s e = Y s e) : upd (F := Ideal) (e := .f32) (upf X) m (upf p) = upf Y := by
  funext y
  idx_vars y
  show (if y0.val / 512 = m then ((p ⟨y0.val % 512, Nat.mod_lt _ (by decide)⟩ y1 : ℝ) : EReal) else ((X y0 y1 : ℝ) : EReal)) = ((Y y0 y1 : ℝ) : EReal)
  split
  · rename_i h
    rw [h1, ← h, row_div y0]
  · rename_i h
    rw [h2 _ _ h]

section
variable (Q K V D : Fin 4096 → Fin 128 → ℝ)

theorem aG_zero {t s : Fin 4096} (h : ¬ s < t) : aG Q K t s = 0 := if_neg h
theorem gG_zero {t s : Fin 4096} (h : ¬ s < t) : gG Q K V D t s = 0 := by rw [gG, aG_zero Q K h, zero_mul]
theorem dzG_zero {t s : Fin 4096} (h : ¬ s < t) : dzG Q K V D t s = 0 := by
  rw [dzG, gG_zero Q K V D h, if_neg h]; simp

theorem gG_none {n : ℕ} (hn : n < 8) (i : Fin 512) : suf (gG Q K V D (row n i)) (512 * (n + 1)) = 0 :=
  suf_none _ _ fun s hs => gG_zero Q K V D (by have := i.isLt; rw [Fin.lt_def, row_val hn]; omega)
theorem dzG_none {n : ℕ} (hn : n < 8) (i : Fin 512) (f : Fin 4096 → ℝ) : suf (fun s => dzG Q K V D (row n i) s * f s) (512 * (n + 1)) = 0 :=
  suf_none _ _ fun s hs => by
    rw [dzG_zero Q K V D (by have := i.isLt; rw [Fin.lt_def, row_val hn]; omega), zero_mul]

/-- The sum of the gradients of the logarithms of a row's weights. -/
noncomputable def tot (t : Fin 4096) : ℝ := ∑ e, D t e * oG Q K V t e

theorem gR0_blk {n : ℕ} (hn : n < 8) (i j : Fin 512) :
    gR (blk V n) (blk D n) (aR0 (zR (blk Q n) (blk K n))) i j = gG Q K V D (row n i) (row n j) := by
  unfold gR; rw [aR0_blk Q K hn]; rfl

theorem gR_blk {n m : ℕ} (hn : n < 8) (hm : m < n) (i j : Fin 512) :
    gR (blk V m) (blk D n) (aR (zR (blk Q n) (blk K m)) (fun i => suf (lG Q K (row n i)) (512 * (m + 1)))) i j = gG Q K V D (row n i) (row m j) := by
  unfold gR; rw [aR_blk Q K hn hm]; rfl

theorem dzR0_blk {n : ℕ} (hn : n < 8) (i j : Fin 512) :
    dzR0 (zR (blk Q n) (blk K n)) (gR (blk V n) (blk D n) (aR0 (zR (blk Q n) (blk K n)))) (fun _ => 0) (fun i => tot Q K V D (row n i)) i j
      = dzG Q K V D (row n i) (row n j) := by
  unfold dzR0 dzG
  rw [gR0_blk Q K V D hn, zR_blk, later, suf_block _ hn, gG_none Q K V D hn]
  simp only [gR0_blk Q K V D hn, row_lt hn]
  rfl

theorem dzR_blk {n m : ℕ} (hn : n < 8) (hm : m < n) (i j : Fin 512) :
    dzR (zR (blk Q n) (blk K m)) (gR (blk V m) (blk D n) (aR (zR (blk Q n) (blk K m)) (fun i => suf (lG Q K (row n i)) (512 * (m + 1)))))
      (fun i => suf (gG Q K V D (row n i)) (512 * (m + 1))) (fun i => tot Q K V D (row n i)) i j = dzG Q K V D (row n i) (row m j) := by
  unfold dzR dzG
  rw [gR_blk Q K V D hn hm, zR_blk, later, suf_block _ (show m < 8 by omega), if_pos (row_lt' hn hm i j)]
  simp only [gR_blk Q K V D hn hm]
  rfl

/-- The gradients of keys and values from the blocks of queries before `n`. -/
noncomputable def kA (n : ℕ) (s : Fin 4096) (e : Fin 128) : ℝ := pre (fun t => dzG Q K V D t s * Q t e) n
noncomputable def vA (n : ℕ) (s : Fin 4096) (e : Fin 128) : ℝ := pre (fun t => aG Q K t s * D t e) n

/-- The same with block `n`'s, on the blocks of keys from `m` on. -/
noncomputable def kB (n m : ℕ) (s : Fin 4096) (e : Fin 128) : ℝ := kA Q K V D n s e + if m ≤ s.val / 512 then ∑ i, dzG Q K V D (row n i) s * Q (row n i) e else 0
noncomputable def vB (n m : ℕ) (s : Fin 4096) (e : Fin 128) : ℝ := vA Q K D n s e + if m ≤ s.val / 512 then ∑ i, aG Q K (row n i) s * D (row n i) e else 0

theorem far {n : ℕ} (hn : n < 8) {s : Fin 4096} (h : n < s.val / 512) (i : Fin 512) : ¬ s < row n i := by
  have := i.isLt
  rw [Fin.lt_def, row_val hn]; omega

theorem row_blk {n : ℕ} (hn : n < 8) (j : Fin 512) : (row n j).val / 512 = n := by
  have := j.isLt
  rw [row_val hn]; omega

theorem bwdRow_eq {n : ℕ} (hn : n < 8) (j : ℕ) (hj : j ≤ n) :
    bwdRow (F := Ideal) k0_pay4 k0_pay5 (upb Q) (upb K) (upb V) (upb D) (upf (oG Q K V)) n (upf (kA Q K V D n), upf (vA Q K D n)) j
      = ((upf fun i e => suf (fun s => dzG Q K V D (row n i) s * K s e) (512 * (n - j)), upf fun i _ => suf (lG Q K (row n i)) (512 * (n - j)),
          upf fun i _ => suf (gG Q K V D (row n i)) (512 * (n - j))), upf (kB Q K V D n (n - j)), upf (vB Q K D n (n - j))) := by
  have hT : k1_pay66 (F := Ideal) (upb (blk D n)) (upf (blk (oG Q K V) n)) = upf fun (i : Fin 512) (_ : Fin 1) => tot Q K V D (row n i) := up_pay66 _ _
  induction j with
  | zero =>
    rw [bwdRow]
    simp only [rows_upb, rows_upf, Nat.sub_zero]
    rw [up_bwd0 _ _ _ _ _ _ _ _ hT]
    simp only [dzR0_blk Q K V D hn, aR0_blk Q K hn, lR0_blk Q K hn, gR0_blk Q K V D hn]
    rw [upd_up _ (kB Q K V D n n), upd_up _ (vB Q K D n n)]
    · simp only [suf_succ _ hn, dzG_none Q K V D hn, lG_none Q K hn, gG_none Q K V D hn, zero_add]
      rfl
    · intro j e; rw [vB, if_pos (row_blk hn j).ge]; rfl
    · intro s e hs
      rw [vB]
      split
      · rw [Finset.sum_eq_zero fun i _ => by rw [aG_zero Q K (far hn (by omega) i), zero_mul], add_zero]
      · rw [add_zero]
    · intro j e; rw [kB, if_pos (row_blk hn j).ge]; rfl
    · intro s e hs
      rw [kB]
      split
      · rw [Finset.sum_eq_zero fun i _ => by rw [dzG_zero Q K V D (far hn (by omega) i), zero_mul], add_zero]
      · rw [add_zero]
  | succ j ih =>
    have hm : n - 1 - j < n := by omega
    have hm8 : n - 1 - j < 8 := by omega
    have e : 512 * (n - j) = 512 * (n - 1 - j + 1) := by omega
    have e0 : n - j = n - 1 - j + 1 := by omega
    have e' : n - (j + 1) = n - 1 - j := by omega
    rw [bwdRow]
    simp only [rows_upb, rows_upf, pay65_eq]
    rw [ih (by omega), hT]
    simp only [rows_upf]
    rw [e, up_bwdStep, e', e0]
    simp only [dzR_blk Q K V D hn hm, aR_blk Q K hn hm, lkR_blk Q K hn hm, gR_blk Q K V D hn hm]
    rw [upd_up _ (kB Q K V D n (n - 1 - j)), upd_up _ (vB Q K D n (n - 1 - j))]
    · simp only [suf_succ _ hm8]
      rfl
    · intro j' e
      rw [vB, if_pos (row_blk hm8 j').ge, blk, vB, if_neg (by rw [row_blk hm8]; omega), add_zero]; rfl
    · intro s e hs
      rw [vB, vB]; exact congrArg _ (if_congr (by omega) rfl rfl)
    · intro j' e
      rw [kB, if_pos (row_blk hm8 j').ge, blk, kB, if_neg (by rw [row_blk hm8]; omega), add_zero]; rfl
    · intro s e hs
      rw [kB, kB]; exact congrArg _ (if_congr (by omega) rfl rfl)

theorem bwdAcc_eq (n : ℕ) (hn : n ≤ 8) :
    bwdAcc (F := Ideal) k0_pay4 k0_pay5 (upb Q) (upb K) (upb V) (upb D) (upf (oG Q K V)) (upf fun _ _ => 0, upf fun _ _ => 0) n
      = (upf (kA Q K V D n), upf (vA Q K D n)) := by
  induction n with
  | zero =>
    rw [bwdAcc]
    congr 2 <;> funext s e <;> exact (pre_zero _).symm
  | succ n ih =>
    rw [bwdAcc, ih (by omega), bwdRow_eq Q K V D (by omega) n le_rfl]
    show (upf (kB Q K V D n (n - n)), upf (vB Q K D n (n - n))) = _
    congr 2 <;> funext s e
    · rw [kB, if_pos (by omega), kA, kA, pre_succ _ (by omega)]
    · rw [vB, if_pos (by omega), vA, vA, pre_succ _ (by omega)]

/-- The gradients of one head. -/
noncomputable def dqG (t : Fin 4096) (e : Fin 128) : ℝ := ∑ s, dzG Q K V D t s * K s e
noncomputable def dkG (s : Fin 4096) (e : Fin 128) : ℝ := ∑ t, dzG Q K V D t s * Q t e
noncomputable def dvG (s : Fin 4096) (e : Fin 128) : ℝ := ∑ t, aG Q K t s * D t e

theorem acc_eq : bwdAcc (F := Ideal) k0_pay4 k0_pay5 (upb Q) (upb K) (upb V) (upb D) (upf (oG Q K V)) (upf fun _ _ => 0, upf fun _ _ => 0) 8
      = (upf (dkG Q K V D), upf (dvG Q K D)) := by
  rw [bwdAcc_eq Q K V D 8 le_rfl]
  congr 2 <;> funext s e <;> exact pre_all _
end

end Cert.Proof.Attn
-- ==== Proof.AttnNorm.lean ====
/- The head norms and their gradients, over the reals. -/
module

public import proofs.«01_k».proof.Proof.AttnBwd
public import proofs.«01_k».proof.Proof.AttnRun2

set_option maxRecDepth 16384
@[expose] public section
namespace Cert.Proof.Attn
open Idealize.ShloMosaic Idealize.ShloMosaic.TcCoe Idealize.ShloMosaic.Tactic
open Cert.AttnKernelIdeal Cert.AttnKernelIdeal.Gen Cert.Arith

/-- An array of reals with a leading axis of one. -/
noncomputable def up3 {a b : ℕ} (f : Fin a → Fin b → ℝ) : Vec Ideal ⟨3, ![1, a, b]⟩ .f32 := fun i => ((f (i 1) (i 2) : ℝ) : EReal)
/-- A row of reals. -/
noncomputable def up1 {b : ℕ} (g : Fin b → ℝ) : Vec Ideal ⟨2, ![1, b]⟩ .f32 := fun i => ((g (i 1) : ℝ) : EReal)

theorem up3_at {a b : ℕ} (f : Fin a → Fin b → ℝ) (z : Fin 1) (i : Fin a) (j : Fin b) : up3 f (ix3 z i j) = ((f i j : ℝ) : EReal) := rfl
theorem up1_at {b : ℕ} (g : Fin b → ℝ) (z : Fin 1) (j : Fin b) : up1 g (ix2 z j) = ((g j : ℝ) : EReal) := rfl

/-- The constant added to the mean square. -/
noncomputable def eps : ℝ := (Ideal.ofBits .f32 0x358637BD#32).toReal
theorem eps_spec : Ideal.ofBits .f32 0x358637BD#32 = ((eps : ℝ) : EReal) ∧ 0 < eps := by
  have h : ∃ r : ℝ, Ideal.ofBits .f32 0x358637BD#32 = r ∧ 0 < r := by
    simp only [Ideal.ofBits, Ideal.ieee]
    refine ⟨_, (EReal.coe_mul _ _).symm, ?_⟩
    rw [if_neg (by decide)]
    positivity
  obtain ⟨r, hr, h0⟩ := h
  rw [eps, hr, EReal.toReal_coe]
  exact ⟨rfl, h0⟩

theorem lit_128 : Ideal.ofBits .f32 0x43000000#32 = ((128 : ℝ) : EReal) := by
  simp [Ideal.ofBits, Ideal.ieee]; norm_cast; norm_num

section
variable (x : Fin 4096 → Fin 128 → ℝ) (g : Fin 128 → ℝ) (dn : Fin 4096 → Fin 128 → ℝ)

/-- The reciprocal root of the mean square of a row. -/
noncomputable def rG (f : Fin 128 → ℝ) : ℝ := (Real.sqrt ((∑ e, f e * f e) / 128 + eps))⁻¹
/-- The normalised row. -/
noncomputable def nG (t : Fin 4096) (e : Fin 128) : ℝ := x t e * rG (x t) * g e
/-- The gradients of the row and of the gain, from that of the normalised row. -/
noncomputable def dxG (t : Fin 4096) (e : Fin 128) : ℝ :=
  rG (x t) * (dn t e * g e - x t e * rG (x t) * ((∑ d, dn t d * g d * (x t d * rG (x t))) / 128))
noncomputable def dgG (e : Fin 128) : ℝ := ∑ t, dn t e * (x t e * rG (x t))

theorem rows3_up3 (n : ℕ) : rows3 (F := Ideal) (e := .f32) (up3 x) n = up3 (blk x n) := rfl

theorem coe_mean (f : Fin 128 → ℝ) : Ideal.div (∑ d, ((f d : ℝ) : EReal)) (Ideal.ofBits .f32 0x43000000#32) = (((∑ d, f d) / 128 : ℝ) : EReal) := by
  rw [← coe_sum, lit_128, Ideal.div_coe (by norm_num), ← EReal.coe_mul, ← div_eq_mul_one_div]

theorem rms_coe (f : Fin 128 → ℝ) : Ideal.rsqrt (Ideal.div (∑ d, ((f d : ℝ) : EReal) * ((f d : ℝ) : EReal)) (Ideal.ofBits .f32 0x43000000#32) + Ideal.ofBits .f32 0x358637BD#32)
    = ((rG f : ℝ) : EReal) := by
  have hp := eps_spec.2
  have h0 : 0 ≤ ∑ d, f d * f d := Finset.sum_nonneg fun d _ => mul_self_nonneg _
  have h1 : 0 < (∑ d, f d * f d) * (1 / 128) + eps := by positivity
  rw [coe_sum_mul, lit_128, Ideal.div_coe (by norm_num), eps_spec.1, ← EReal.coe_mul, ← EReal.coe_add, Ideal.rsqrt_coe, if_neg (not_lt.mpr h1.le), if_neg h1.ne', rG,
    div_eq_mul_one_div (∑ e, f e * f e)]

theorem pay1_eq (n : ℕ) : k0_pay1 (F := Ideal) (up3 (blk x n)) (up1 g) = upb (blk (nG x g) n) := by
  funext y
  idx_vars y
  pointwise [k0_pay1]
  simp only [up3_at, up1_at, up_at]
  rw [rms_coe, ← EReal.coe_mul, ← EReal.coe_mul]
  rfl

theorem pay107_eq (n : ℕ) : k1_pay107 (F := Ideal) (up3 (blk x n)) (upf (blk dn n)) (up1 g) = up3 (blk (dxG x g dn) n) := by
  funext y
  idx_vars y
  pointwise [k1_pay107, k1_pay106, k1_pay105, k1_pay104]
  simp only [up3_at, up1_at, up_at, rms_coe]
  simp only [← EReal.coe_mul]
  rw [coe_mean, ← EReal.coe_mul, ← EReal.coe_sub, ← EReal.coe_mul]
  rfl

theorem pay108_eq (n : ℕ) (w : Fin 128 → ℝ) : k1_pay108 (F := Ideal) (up3 (blk x n)) (upf (blk dn n)) (up1 w)
    = up1 fun e => w e + ∑ i, dn (row n i) e * (x (row n i) e * rG (x (row n i))) := by
  funext y
  idx_vars y
  pointwise [k1_pay108, k1_pay106, k1_pay105, k1_pay104]
  simp only [up3_at, up1_at, up_at, rms_coe]
  simp only [← EReal.coe_mul]
  rw [← coe_sum, ← EReal.coe_add]
  rfl
theorem untile_upb (p : ℕ → Vec Ideal S512x128 .bf16) (f : Fin 4096 → Fin 128 → ℝ) (h : ∀ n < 8, p n = upb (blk f n)) :
    untile (F := Ideal) (e := .bf16) p = upb f := untile_up p f h

theorem normQ_eq : normQ (F := Ideal) (up3 x) (up1 g) = upb (nG x g) := untile_upb _ _ fun n _ => pay1_eq x g n
theorem normK_eq : normK (F := Ideal) (up3 x) (up1 g) = upb (nG x g) := untile_upb _ _ fun n _ => pay1_eq x g n
theorem bnormQ_eq : bnormQ (F := Ideal) (up3 x) (up1 g) = upb (nG x g) := untile_upb _ _ fun n _ => pay1_eq x g n
theorem bnormK_eq : bnormK (F := Ideal) (up3 x) (up1 g) = upb (nG x g) := untile_upb _ _ fun n _ => pay1_eq x g n

theorem pay3_eq : k0_pay3 (F := Ideal) (up3 x) = upb x := by
  funext y
  idx_vars y
  pointwise [k0_pay3]
  rfl
theorem pay116_eq : k1_pay116 (F := Ideal) (up3 x) = upb x := pay3_eq x
theorem pay117_eq : k1_pay117 (F := Ideal) = upf fun _ _ => 0 := by
  funext y
  idx_vars y
  pointwise [k1_pay117]
  rfl
theorem pay118_eq : k1_pay118 (F := Ideal) = upf fun _ _ => 0 := pay117_eq

theorem attnO16_eq (Q K V : Fin 4096 → Fin 128 → ℝ) : attnO16 (F := Ideal) (upb Q) (upb K) (upb V) = upb (oG Q K V) := attnO_eq Q K V

/-- Adding the blocks' parts in turn. -/
theorem foldQ_eq (w : Fin 128 → ℝ) (n : ℕ) (hn : n ≤ 8) : foldQ (F := Ideal) (up3 x) (upf dn) (up1 w) n
    = up1 fun e => w e + pre (fun t => dn t e * (x t e * rG (x t))) n := by
  induction n with
  | zero => rw [foldQ]; simp only [pre_zero, add_zero]
  | succ n ih =>
    rw [foldQ, ih (by omega), rows3_up3, rows_upf, pay108_eq]
    simp only [pre_succ _ (show n < 8 by omega), add_assoc]

theorem foldQ_all (w : Fin 128 → ℝ) : foldQ (F := Ideal) (up3 x) (upf dn) (up1 w) 8 = up1 fun e => w e + dgG x dn e := by
  rw [foldQ_eq x dn w 8 le_rfl]
  simp only [pre_all]
  rfl
theorem foldK_eq (w : Vec Ideal S1x128 .f32) (n : ℕ) : foldK (F := Ideal) (up3 x) (upf dn) w n = foldQ (F := Ideal) (up3 x) (upf dn) w n := by
  induction n with
  | zero => rfl
  | succ n ih => rw [foldK, foldQ, ih]; rfl
end

/-! ## One head -/

section
variable (xq xk xv D : Fin 4096 → Fin 128 → ℝ) (gq gk : Fin 128 → ℝ)

/-- The gradients of the head's normalised queries and keys. -/
noncomputable def hq : Fin 4096 → Fin 128 → ℝ := dqG (nG xq gq) (nG xk gk) xv D
noncomputable def hk : Fin 4096 → Fin 128 → ℝ := dkG (nG xq gq) (nG xk gk) xv D
noncomputable def hv : Fin 4096 → Fin 128 → ℝ := dvG (nG xq gq) (nG xk gk) D
/-- The head's output. -/
noncomputable def ho : Fin 4096 → Fin 128 → ℝ := oG (nG xq gq) (nG xk gk) xv

theorem headKV_eq : headKV (F := Ideal) (up3 xq) (up3 xk) (up3 xv) (up1 gq) (up1 gk) (upb D) (upf (ho xq xk xv gq gk))
    = (upf (hk xq xk xv D gq gk), upf (hv xq xk D gq gk)) := by
  unfold headKV
  rw [bnormQ_eq, bnormK_eq, pay116_eq, pay117_eq, pay118_eq]
  exact acc_eq _ _ _ _

theorem headQ_eq : headQ (F := Ideal) (up3 xq) (up3 xk) (up3 xv) (up1 gq) (up1 gk) (upb D) (upf (ho xq xk xv gq gk))
    = upf (hq xq xk xv D gq gk) := by
  unfold headQ
  rw [bnormQ_eq, bnormK_eq, pay116_eq, pay117_eq, pay118_eq]
  refine untile_up _ _ fun n hn => ?_
  unfold bwdQ
  rw [show bwdAcc (F := Ideal) k1_pay119 k1_pay120 (upb (nG xq gq)) (upb (nG xk gk)) (upb xv) (upb D) (upf (ho xq xk xv gq gk)) (upf fun _ _ => 0, upf fun _ _ => 0) n
      = _ from bwdAcc_eq _ _ _ _ n (by omega),
    show bwdRow (F := Ideal) k1_pay119 k1_pay120 (upb (nG xq gq)) (upb (nG xk gk)) (upb xv) (upb D) (upf (ho xq xk xv gq gk)) n _ n = _ from bwdRow_eq _ _ _ _ hn n le_rfl]
  simp only [Nat.sub_self, Nat.mul_zero, suf_zero]
  exact same_eq (φ := .f32) _

/-- The three planes of the head's gradient. -/
noncomputable def h3 (p : ℕ) (t : Fin 4096) (e : Fin 128) : ℝ :=
  if p = 2 then hv xq xk D gq gk t e else if p = 1 then dxG xk gk (hk xq xk xv D gq gk) t e else dxG xq gq (hq xq xk xv D gq gk) t e

theorem headD3_eq (y : S3x4096x128.Idx) : headD3 (F := Ideal) (up3 xq) (up3 xk) (up3 xv) (up1 gq) (up1 gk) (upb D) (upf (ho xq xk xv gq gk)) y
    = ((h3 xq xk xv D gq gk (y 0).val (y 1) (y 2) : ℝ) : EReal) := by
  idx_vars y
  unfold headD3 planes h3
  rw [headKV_eq, headQ_eq]
  show (if y0.val = 2 then k1_pay4 (F := Ideal) (upf (hv xq xk D gq gk)) (ix3 0 y1 y2)
    else if y0.val = 1 then k1_pay112 (F := Ideal) (rows3 (up3 xk) (y1.val / 512)) (rows (upf (hk xq xk xv D gq gk)) (y1.val / 512)) (up1 gk) (ix3 0 ⟨y1.val % 512, _⟩ y2)
    else k1_pay107 (F := Ideal) (rows3 (up3 xq) (y1.val / 512)) (rows (upf (hq xq xk xv D gq gk)) (y1.val / 512)) (up1 gq) (ix3 0 ⟨y1.val % 512, _⟩ y2))
    = ((if y0.val = 2 then hv xq xk D gq gk y1 y2 else if y0.val = 1 then dxG xk gk (hk xq xk xv D gq gk) y1 y2 else dxG xq gq (hq xq xk xv D gq gk) y1 y2 : ℝ) : EReal)
  split
  · pointwise [k1_pay4]
    rfl
  · split
    · rw [rows3_up3, rows_upf, show k1_pay112 (F := Ideal) _ _ _ = _ from pay107_eq xk gk (hk xq xk xv D gq gk) (y1.val / 512), up3_at, blk, row_div y1]
    · rw [rows3_up3, rows_upf, pay107_eq, up3_at, blk, row_div y1]

theorem headG0_eq (w : Fin 128 → ℝ) : headG0 (F := Ideal) (up3 xq) (up3 xk) (up3 xv) (up1 gq) (up1 gk) (upb D) (upf (ho xq xk xv gq gk)) (up1 w)
    = up1 fun e => w e + dgG xq (hq xq xk xv D gq gk) e := by
  unfold headG0
  rw [headQ_eq, foldQ_all]
theorem headG1_eq (w : Fin 128 → ℝ) : headG1 (F := Ideal) (up3 xq) (up3 xk) (up3 xv) (up1 gq) (up1 gk) (upb D) (upf (ho xq xk xv gq gk)) (up1 w)
    = up1 fun e => w e + dgG xk (hk xq xk xv D gq gk) e := by
  unfold headG1
  rw [headKV_eq, foldK_eq, foldQ_all]
end

end Cert.Proof.Attn
-- ==== Proof.AttnHost.lean ====
/- The attention program over the reals: the blocks each head reads, and the arrays the two calls leave. -/
module

public import proofs.«01_k».proof.Proof.AttnNorm
public import proofs.«01_k».proof.Proof.AttnFrame

set_option maxRecDepth 16384
@[expose] public section
namespace Cert.Proof.Attn
open Idealize.ShloMosaic Idealize.ShloMosaic.TcCoe Idealize.ShloMosaic.Tactic
open Idealize.ShloMosaic.Pipeline (Dat)
open Cert.AttnKernelIdeal Cert.Arith
open Cert.AttnKernelIdeal.Gen hiding V1 V2 V3 V4 V1_of V2_of V3_of V4_of adm segs seg0 seg2
variable (m : (ℓ : Loc nD τ sig) → Buf (Elt Ideal) ℓ) (ρ : Dev nD → PrngReg)

abbrev argX (c : Dev nD) : Vec Ideal S4096x6144 .f32 := m ((c.tc : Thread nD τ).loc main_arg0)
abbrev argGq (c : Dev nD) : Vec Ideal S1x128 .f32 := m ((c.tc : Thread nD τ).loc main_arg1)
abbrev argGk (c : Dev nD) : Vec Ideal S1x128 .f32 := m ((c.tc : Thread nD τ).loc main_arg2)
abbrev argD (c : Dev nD) : Vec Ideal S4096x2048 .f32 := m ((c.tc : Thread nD τ).loc main_arg3)

/-- The column of head `h` in part `p` (queries, keys, values) of the projection. -/
abbrev xcol (p : Fin 3) (h : Fin 16) (e : Fin 128) : Fin 6144 := ⟨(16 * p.val + h.val) * 128 + e.val, by omega⟩
/-- The column of head `h`. -/
abbrev ocol (h : Fin 16) (e : Fin 128) : Fin 2048 := ⟨h.val * 128 + e.val, by omega⟩
/-- One head's part of the projection, and of the output's gradient. -/
def xs (X : Fin 4096 → Fin 6144 → ℝ) (p : Fin 3) (h : Fin 16) (t : Fin 4096) (e : Fin 128) : ℝ := X t (xcol p h e)
def ds (D : Fin 4096 → Fin 2048 → ℝ) (h : Fin 16) (t : Fin 4096) (e : Fin 128) : ℝ := D t (ocol h e)
/-- The head and the place in it of a column. -/
abbrev hd (j : Fin 2048) : Fin 16 := ⟨j.val / 128, by omega⟩
abbrev pl (j : Fin 2048) : Fin 128 := ⟨j.val % 128, by omega⟩

section spec
variable (X : Fin 4096 → Fin 6144 → ℝ) (gq gk : Fin 128 → ℝ) (D : Fin 4096 → Fin 2048 → ℝ)
/-- The head's output and gradients, of the whole arrays. -/
noncomputable def oH (h : Fin 16) : Fin 4096 → Fin 128 → ℝ := ho (xs X 0 h) (xs X 1 h) (xs X 2 h) gq gk
noncomputable def qH (h : Fin 16) : Fin 4096 → Fin 128 → ℝ := hq (xs X 0 h) (xs X 1 h) (xs X 2 h) (ds D h) gq gk
noncomputable def kH (h : Fin 16) : Fin 4096 → Fin 128 → ℝ := hk (xs X 0 h) (xs X 1 h) (xs X 2 h) (ds D h) gq gk
noncomputable def dH (h : Fin 16) : ℕ → Fin 4096 → Fin 128 → ℝ := h3 (xs X 0 h) (xs X 1 h) (xs X 2 h) (ds D h) gq gk
/-- The results. -/
noncomputable def oArr : Vec Ideal S4096x2048 .f32 := fun j => ((oH X gq gk (hd (j 1)) (j 0) (pl (j 1)) : ℝ) : EReal)
noncomputable def dArr : Vec Ideal S3x4096x2048 .bf16 := fun j => ((dH X gq gk D (hd (j 2)) (j 0).val (j 1) (pl (j 2)) : ℝ) : EReal)
noncomputable def gqArr : Vec Ideal S1x128 .f32 := up1 fun e => ∑ h : Fin 16, dgG (xs X 0 h) (qH X gq gk D h) e
noncomputable def gkArr : Vec Ideal S1x128 .f32 := up1 fun e => ∑ h : Fin 16, dgG (xs X 1 h) (kH X gq gk D h) e

theorem oArr_at (z : S4096x2048.Idx) (h : Fin 16) (t : Fin 4096) (e : Fin 128) (h0 : (z 0).val = t.val) (h1 : (z 1).val = h.val * 128 + e.val) :
    oArr X gq gk z = ((oH X gq gk h t e : ℝ) : EReal) := by
  have a : z 0 = t := Fin.ext h0
  have b : hd (z 1) = h := Fin.ext (by show (z 1).val / 128 = h.val; omega)
  have d : pl (z 1) = e := Fin.ext (by show (z 1).val % 128 = e.val; omega)
  unfold oArr
  rw [a, b, d]
theorem dArr_at (z : S3x4096x2048.Idx) (p : Fin 3) (h : Fin 16) (t : Fin 4096) (e : Fin 128) (hp : (z 0).val = p.val) (h0 : (z 1).val = t.val) (h1 : (z 2).val = h.val * 128 + e.val) :
    dArr X gq gk D z = ((dH X gq gk D h p.val t e : ℝ) : EReal) := by
  have a : z 1 = t := Fin.ext h0
  have b : hd (z 2) = h := Fin.ext (by show (z 2).val / 128 = h.val; omega)
  have d : pl (z 2) = e := Fin.ext (by show (z 2).val % 128 = e.val; omega)
  unfold dArr
  rw [a, b, d, hp]
end spec

theorem lt0 (t : Fin cfg0.N) : t.val < 16 := by have := t.isLt; have h : cfg0.N = 16 := N_0; omega
theorem lt1 (t : Fin cfg1.N) : t.val < 16 := by have := t.isLt; have h : cfg1.N = 16 := N_1; omega
abbrev th0 (t : Fin cfg0.N) : Fin 16 := ⟨t.val, lt0 t⟩
abbrev th1 (t : Fin cfg1.N) : Fin 16 := ⟨t.val, lt1 t⟩

theorem idx0 : ∀ t : Fin cfg0.N, win0_0.index t = ![t.val / 6, 0, t.val % 6] ∧ win0_1.index t = ![(16 + t.val) / 6, 0, (16 + t.val) % 6]
    ∧ win0_2.index t = ![(32 + t.val) / 6, 0, (32 + t.val) % 6] ∧ win0_3.index t = ![0, 0] ∧ win0_4.index t = ![0, 0] ∧ win0_5.index t = ![0, t.val] :=
  (by decide +kernel : ∀ t : Fin grid0.N, _)
theorem idx1 : ∀ t : Fin cfg1.N, win1_0.index t = ![t.val / 6, 0, t.val % 6] ∧ win1_1.index t = ![(16 + t.val) / 6, 0, (16 + t.val) % 6]
    ∧ win1_2.index t = ![(32 + t.val) / 6, 0, (32 + t.val) % 6] ∧ win1_3.index t = ![0, 0] ∧ win1_4.index t = ![0, 0] ∧ win1_5.index t = ![0, t.val]
    ∧ win1_6.index t = ![0, t.val] ∧ win1_7.index t = ![0, 0, t.val] ∧ win1_8.index t = ![0, 0] ∧ win1_9.index t = ![0, 0] :=
  (by decide +kernel : ∀ t : Fin grid1.N, _)

/-- What the host lines before the forward call leave. -/
theorem V_v1 (c : Dev nD) (s : Fin 8) (t : Fin 4096) (l : Fin 768) :
    (V1 m ρ c main_v1 : Vec Ideal S8x4096x768 .f32) (ix3 s t l) = argX m c (ix2 t ⟨s.val * 768 + l.val, by omega⟩) := by
  have e : (V1 m ρ c main_v1 : Vec Ideal S8x4096x768 .f32)
      = transpose S8x4096x768 [1, 0, 2] (shapeCast _ (argX m c) shapeCasts_S4096x6144_S4096x8x768) transposes_S4096x8x768_S8x4096x768_1_0_2 := by
    show (StableHlo.after hostOps0 (W0 m ρ c) (Proc.devRef .tc main_v1) : Vec Ideal S8x4096x768 .f32) = _
    entry_read
    rfl
  rw [e]
  generalize argX m c = x
  pointwise
theorem V_gq (c : Dev nD) : (V1 m ρ c main_arg1 : Vec Ideal S1x128 .f32) = argGq m c := W1_args m ρ c main_arg1 (by decide)
theorem V_gk (c : Dev nD) : (V1 m ρ c main_arg2 : Vec Ideal S1x128 .f32) = argGk m c := W1_args m ρ c main_arg2 (by decide)

/-- The arguments are these arrays of reals. -/
structure Reals (c : Dev nD) (X : Fin 4096 → Fin 6144 → ℝ) (gq gk : Fin 128 → ℝ) (D : Fin 4096 → Fin 2048 → ℝ) : Prop where
  x : argX m c = upf X
  q : argGq m c = up1 gq
  k : argGk m c = up1 gk
  d : argD m c = upf D

variable (c : Dev nD) (X : Fin 4096 → Fin 6144 → ℝ) (gq gk : Fin 128 → ℝ) (D : Fin 4096 → Fin 2048 → ℝ)

/-- The projection's entry, as the host lines arrange it. -/
theorem V_part (hR : Reals m c X gq gk D) (p : Fin 3) (h : Fin 16) (t : Fin 4096) (e : Fin 128) (s : Fin 8) (l : Fin 768) (hs : s.val = (16 * p.val + h.val) / 6)
    (hl : l.val = (16 * p.val + h.val) % 6 * 128 + e.val) :
    ((xs X p h t e : ℝ) : EReal) = (V1 m ρ c main_v1 : Vec Ideal S8x4096x768 .f32) (ix3 s t l) := by
  have a : (⟨s.val * 768 + l.val, by omega⟩ : Fin 6144) = xcol p h e := Fin.ext (by show s.val * 768 + l.val = (16 * p.val + h.val) * 128 + e.val; omega)
  rw [V_v1, hR.x, a]
  rfl

section forward
variable (t : Fin cfg0.N) (hR : Reals m c X gq gk D)
include hR

theorem blk00 : (blk0 (V1 m ρ) c 0 t : Vec Ideal S1x4096x128 .f32) = up3 (xs X 0 (th0 t)) := by
  have := lt0 t
  funext y
  idx_vars y
  rw [show up3 (xs X 0 (th0 t)) (ix3 y0 y1 y2) = _ from V_part m ρ c X gq gk D hR 0 (th0 t) y1 y2 ⟨t.val / 6, by omega⟩ ⟨t.val % 6 * 128 + y2.val, by omega⟩ (by simp) (by simp)]
  blk_ext [blk0, idx0 t]
theorem blk01 : (blk0 (V1 m ρ) c 1 t : Vec Ideal S1x4096x128 .f32) = up3 (xs X 1 (th0 t)) := by
  have := lt0 t
  funext y
  idx_vars y
  rw [show up3 (xs X 1 (th0 t)) (ix3 y0 y1 y2) = _ from V_part m ρ c X gq gk D hR 1 (th0 t) y1 y2 ⟨(16 + t.val) / 6, by omega⟩ ⟨(16 + t.val) % 6 * 128 + y2.val, by omega⟩ (by simp) (by simp)]
  blk_ext [blk0, idx0 t]
theorem blk02 : (blk0 (V1 m ρ) c 2 t : Vec Ideal S1x4096x128 .f32) = up3 (xs X 2 (th0 t)) := by
  have := lt0 t
  funext y
  idx_vars y
  rw [show up3 (xs X 2 (th0 t)) (ix3 y0 y1 y2) = _ from V_part m ρ c X gq gk D hR 2 (th0 t) y1 y2 ⟨(32 + t.val) / 6, by omega⟩ ⟨(32 + t.val) % 6 * 128 + y2.val, by omega⟩ (by simp) (by simp)]
  blk_ext [blk0, idx0 t]
theorem blk03 : (blk0 (V1 m ρ) c 3 t : Vec Ideal S1x128 .f32) = up1 gq := by
  rw [← hR.q, ← V_gq m ρ]
  funext y
  idx_vars y
  blk_ext [blk0, idx0 t]
theorem blk04 : (blk0 (V1 m ρ) c 4 t : Vec Ideal S1x128 .f32) = up1 gk := by
  rw [← hR.k, ← V_gk m ρ]
  funext y
  idx_vars y
  blk_ext [blk0, idx0 t]

theorem fwd_head : attnO (F := Ideal) (normQ (blk0 (V1 m ρ) c 0 t) (blk0 (V1 m ρ) c 3 t)) (normK (blk0 (V1 m ρ) c 1 t) (blk0 (V1 m ρ) c 4 t)) (k0_pay3 (blk0 (V1 m ρ) c 2 t))
    = upf (oH X gq gk (th0 t)) := by
  rw [show (blk0 (V1 m ρ) c 0 t : Vec Ideal S1x4096x128 .f32) = _ from blk00 m ρ c X gq gk D t hR, show (blk0 (V1 m ρ) c 1 t : Vec Ideal S1x4096x128 .f32) = _ from blk01 m ρ c X gq gk D t hR,
    show (blk0 (V1 m ρ) c 2 t : Vec Ideal S1x4096x128 .f32) = _ from blk02 m ρ c X gq gk D t hR, show (blk0 (V1 m ρ) c 3 t : Vec Ideal S1x128 .f32) = _ from blk03 m ρ c X gq gk D t hR,
    show (blk0 (V1 m ρ) c 4 t : Vec Ideal S1x128 .f32) = _ from blk04 m ρ c X gq gk D t hR, normQ_eq, normK_eq, pay3_eq, attnO_eq]
  rfl

omit hR in
theorem place05 (y : S4096x128.Idx) : ((win0_5.blk t).view.emb y 0).val = (y 0).val ∧ ((win0_5.blk t).view.emb y 1).val = (th0 t).val * 128 + (y 1).val := by
  constructor <;> simp [idx0 t]
end forward

theorem final0_5 (hR : Reals m c X gq gk D) : (dat0 (V1 m ρ) c).arrAt 5 cfg0.N = oArr X gq gk := by
  refine (dat0 (V1 m ρ) c).arrAt_eq_of_covers 5 _ (by decide +kernel) fun t hf y => ?_
  blk_simp
  rw [after0_5]
  have e := place05 t y
  have hp := congrFun (fwd_head m ρ c X gq gk D t hR) y
  generalize (win0_5.blk t).view.emb y = z at e ⊢
  exact hp.trans (oArr_at X gq gk z (th0 t) (y 0) (y 1) e.1 e.2).symm

/-! ## The gradient call, entered from what the forward call leaves -/

theorem V3_v1 : V3 m ρ c main_v1 = V1 m ρ c main_v1 := (W3_of m ρ c main_v1 (by decide)).trans (W2_of m ρ c main_v1 (by decide +kernel))
theorem V3_gq : (V3 m ρ c main_arg1 : Vec Ideal S1x128 .f32) = argGq m c := W3_args m ρ c main_arg1 (by decide)
theorem V3_gk : (V3 m ρ c main_arg2 : Vec Ideal S1x128 .f32) = argGk m c := W3_args m ρ c main_arg2 (by decide)
theorem V3_v3 : (V3 m ρ c main_v3 : Vec Ideal S4096x2048 .bf16) = argD m c := by
  have e := W2_args m ρ c main_arg3 (by decide)
  show (StableHlo.after hostOps1 (W2 m ρ c) (Proc.devRef .tc main_v3) : Vec Ideal S4096x2048 .bf16) = _
  entry_read
  exact e
theorem V3_o (hR : Reals m c X gq gk D) : (V3 m ρ c main_v2_0 : Vec Ideal S4096x2048 .f32) = oArr X gq gk :=
  (W3_of m ρ c main_v2_0 (by decide)).trans ((W2_arr m ρ c 5).trans (final0_5 m ρ c X gq gk D hR))

theorem V3_part (hR : Reals m c X gq gk D) (p : Fin 3) (h : Fin 16) (t : Fin 4096) (e : Fin 128) (s : Fin 8) (l : Fin 768) (hs : s.val = (16 * p.val + h.val) / 6)
    (hl : l.val = (16 * p.val + h.val) % 6 * 128 + e.val) :
    ((xs X p h t e : ℝ) : EReal) = (V3 m ρ c main_v1 : Vec Ideal S8x4096x768 .f32) (ix3 s t l) := by
  rw [V3_v1]
  exact V_part m ρ c X gq gk D hR p h t e s l hs hl

section backward
variable (t : Fin cfg1.N) (hR : Reals m c X gq gk D)
include hR

theorem blk10 : (blk1 (V3 m ρ) c 0 t : Vec Ideal S1x4096x128 .f32) = up3 (xs X 0 (th1 t)) := by
  have := lt1 t
  funext y
  idx_vars y
  rw [show up3 (xs X 0 (th1 t)) (ix3 y0 y1 y2) = _ from V3_part m ρ c X gq gk D hR 0 (th1 t) y1 y2 ⟨t.val / 6, by omega⟩ ⟨t.val % 6 * 128 + y2.val, by omega⟩ (by simp) (by simp)]
  blk_ext [blk1, idx1 t]
theorem blk11 : (blk1 (V3 m ρ) c 1 t : Vec Ideal S1x4096x128 .f32) = up3 (xs X 1 (th1 t)) := by
  have := lt1 t
  funext y
  idx_vars y
  rw [show up3 (xs X 1 (th1 t)) (ix3 y0 y1 y2) = _ from V3_part m ρ c X gq gk D hR 1 (th1 t) y1 y2 ⟨(16 + t.val) / 6, by omega⟩ ⟨(16 + t.val) % 6 * 128 + y2.val, by omega⟩ (by simp) (by simp)]
  blk_ext [blk1, idx1 t]
theorem blk12 : (blk1 (V3 m ρ) c 2 t : Vec Ideal S1x4096x128 .f32) = up3 (xs X 2 (th1 t)) := by
  have := lt1 t
  funext y
  idx_vars y
  rw [show up3 (xs X 2 (th1 t)) (ix3 y0 y1 y2) = _ from V3_part m ρ c X gq gk D hR 2 (th1 t) y1 y2 ⟨(32 + t.val) / 6, by omega⟩ ⟨(32 + t.val) % 6 * 128 + y2.val, by omega⟩ (by simp) (by simp)]
  blk_ext [blk1, idx1 t]
theorem blk13 : (blk1 (V3 m ρ) c 3 t : Vec Ideal S1x128 .f32) = up1 gq := by
  rw [← hR.q, ← V3_gq m ρ]
  funext y
  idx_vars y
  blk_ext [blk1, idx1 t]
theorem blk14 : (blk1 (V3 m ρ) c 4 t : Vec Ideal S1x128 .f32) = up1 gk := by
  rw [← hR.k, ← V3_gk m ρ]
  funext y
  idx_vars y
  blk_ext [blk1, idx1 t]
theorem blk15 : (blk1 (V3 m ρ) c 5 t : Vec Ideal S4096x128 .bf16) = upb (ds D (th1 t)) := by
  have := lt1 t
  funext y
  idx_vars y
  rw [show upb (ds D (th1 t)) (ix2 y0 y1) = argD m c (ix2 y0 (ocol (th1 t) y1)) from by rw [hR.d]; rfl, ← V3_v3 m ρ]
  blk_ext [blk1, idx1 t]
theorem blk16 : (blk1 (V3 m ρ) c 6 t : Vec Ideal S4096x128 .f32) = upf (oH X gq gk (th1 t)) := by
  have := lt1 t
  funext y
  idx_vars y
  rw [show upf (oH X gq gk (th1 t)) (ix2 y0 y1) = oArr X gq gk (ix2 y0 (ocol (th1 t) y1)) from (oArr_at X gq gk _ (th1 t) y0 y1 rfl rfl).symm, ← V3_o m ρ c X gq gk D hR]
  blk_ext [blk1, idx1 t]

theorem bwd_planes (y : S3x4096x128.Idx) : headD3 (F := Ideal) (blk1 (V3 m ρ) c 0 t) (blk1 (V3 m ρ) c 1 t) (blk1 (V3 m ρ) c 2 t) (blk1 (V3 m ρ) c 3 t) (blk1 (V3 m ρ) c 4 t) (blk1 (V3 m ρ) c 5 t) (blk1 (V3 m ρ) c 6 t) y
    = ((dH X gq gk D (th1 t) (y 0).val (y 1) (y 2) : ℝ) : EReal) := by
  rw [show (blk1 (V3 m ρ) c 0 t : Vec Ideal S1x4096x128 .f32) = _ from blk10 m ρ c X gq gk D t hR, show (blk1 (V3 m ρ) c 1 t : Vec Ideal S1x4096x128 .f32) = _ from blk11 m ρ c X gq gk D t hR,
    show (blk1 (V3 m ρ) c 2 t : Vec Ideal S1x4096x128 .f32) = _ from blk12 m ρ c X gq gk D t hR, show (blk1 (V3 m ρ) c 3 t : Vec Ideal S1x128 .f32) = _ from blk13 m ρ c X gq gk D t hR,
    show (blk1 (V3 m ρ) c 4 t : Vec Ideal S1x128 .f32) = _ from blk14 m ρ c X gq gk D t hR, show (blk1 (V3 m ρ) c 5 t : Vec Ideal S4096x128 .bf16) = _ from blk15 m ρ c X gq gk D t hR,
    show (blk1 (V3 m ρ) c 6 t : Vec Ideal S4096x128 .f32) = _ from blk16 m ρ c X gq gk D t hR]
  exact headD3_eq _ _ _ _ _ _ y

theorem bwd_gain0 (w : Fin 128 → ℝ) : headG0 (F := Ideal) (blk1 (V3 m ρ) c 0 t) (blk1 (V3 m ρ) c 1 t) (blk1 (V3 m ρ) c 2 t) (blk1 (V3 m ρ) c 3 t) (blk1 (V3 m ρ) c 4 t) (blk1 (V3 m ρ) c 5 t) (blk1 (V3 m ρ) c 6 t) (up1 w)
    = up1 fun e => w e + dgG (xs X 0 (th1 t)) (qH X gq gk D (th1 t)) e := by
  rw [show (blk1 (V3 m ρ) c 0 t : Vec Ideal S1x4096x128 .f32) = _ from blk10 m ρ c X gq gk D t hR, show (blk1 (V3 m ρ) c 1 t : Vec Ideal S1x4096x128 .f32) = _ from blk11 m ρ c X gq gk D t hR,
    show (blk1 (V3 m ρ) c 2 t : Vec Ideal S1x4096x128 .f32) = _ from blk12 m ρ c X gq gk D t hR, show (blk1 (V3 m ρ) c 3 t : Vec Ideal S1x128 .f32) = _ from blk13 m ρ c X gq gk D t hR,
    show (blk1 (V3 m ρ) c 4 t : Vec Ideal S1x128 .f32) = _ from blk14 m ρ c X gq gk D t hR, show (blk1 (V3 m ρ) c 5 t : Vec Ideal S4096x128 .bf16) = _ from blk15 m ρ c X gq gk D t hR,
    show (blk1 (V3 m ρ) c 6 t : Vec Ideal S4096x128 .f32) = _ from blk16 m ρ c X gq gk D t hR]
  exact headG0_eq _ _ _ _ _ _ w
theorem bwd_gain1 (w : Fin 128 → ℝ) : headG1 (F := Ideal) (blk1 (V3 m ρ) c 0 t) (blk1 (V3 m ρ) c 1 t) (blk1 (V3 m ρ) c 2 t) (blk1 (V3 m ρ) c 3 t) (blk1 (V3 m ρ) c 4 t) (blk1 (V3 m ρ) c 5 t) (blk1 (V3 m ρ) c 6 t) (up1 w)
    = up1 fun e => w e + dgG (xs X 1 (th1 t)) (kH X gq gk D (th1 t)) e := by
  rw [show (blk1 (V3 m ρ) c 0 t : Vec Ideal S1x4096x128 .f32) = _ from blk10 m ρ c X gq gk D t hR, show (blk1 (V3 m ρ) c 1 t : Vec Ideal S1x4096x128 .f32) = _ from blk11 m ρ c X gq gk D t hR,
    show (blk1 (V3 m ρ) c 2 t : Vec Ideal S1x4096x128 .f32) = _ from blk12 m ρ c X gq gk D t hR, show (blk1 (V3 m ρ) c 3 t : Vec Ideal S1x128 .f32) = _ from blk13 m ρ c X gq gk D t hR,
    show (blk1 (V3 m ρ) c 4 t : Vec Ideal S1x128 .f32) = _ from blk14 m ρ c X gq gk D t hR, show (blk1 (V3 m ρ) c 5 t : Vec Ideal S4096x128 .bf16) = _ from blk15 m ρ c X gq gk D t hR,
    show (blk1 (V3 m ρ) c 6 t : Vec Ideal S4096x128 .f32) = _ from blk16 m ρ c X gq gk D t hR]
  exact headG1_eq _ _ _ _ _ _ w

omit hR in
theorem place17 (y : S3x4096x128.Idx) : ((win1_7.blk t).view.emb y 0).val = (y 0).val ∧ ((win1_7.blk t).view.emb y 1).val = (y 1).val
    ∧ ((win1_7.blk t).view.emb y 2).val = (th1 t).val * 128 + (y 2).val := by
  refine ⟨?_, ?_, ?_⟩ <;> simp [idx1 t]
omit hR in
theorem place18 (y : S1x128.Idx) : (win1_8.blk t).view.emb y = y := by
  funext a
  refine Fin.ext ?_
  fin_cases a <;> simp [idx1 t]
omit hR in
theorem place19 (y : S1x128.Idx) : (win1_9.blk t).view.emb y = y := by
  funext a
  refine Fin.ext ?_
  fin_cases a <;> simp [idx1 t]
end backward

theorem final1_7 (hR : Reals m c X gq gk D) : (dat1 (V3 m ρ) c).arrAt 7 cfg1.N = dArr X gq gk D := by
  refine (dat1 (V3 m ρ) c).arrAt_eq_of_covers 7 _ (by decide +kernel) fun t hf y => ?_
  blk_simp
  rw [after1_7]
  have e := place17 t y
  have hp := bwd_planes m ρ c X gq gk D t hR y
  generalize (win1_7.blk t).view.emb y = z at e ⊢
  exact hp.trans (dArr_at X gq gk D z (y 0) (th1 t) (y 1) (y 2) e.1 e.2.1 e.2.2).symm

/-- The sum over the heads up to `n`. -/
noncomputable def upto (f : Fin 16 → ℝ) (n : ℕ) : ℝ := ∑ h : Fin 16, if h.val ≤ n then f h else 0
theorem upto_zero (f : Fin 16 → ℝ) : upto f 0 = f 0 := by
  rw [upto, Fin.sum_univ_succ]
  simp
theorem upto_succ (f : Fin 16 → ℝ) (n : ℕ) (h : n + 1 < 16) : upto f (n + 1) = upto f n + f ⟨n + 1, h⟩ := by
  rw [upto, upto, ← Finset.sum_ite_eq' Finset.univ (⟨n + 1, h⟩ : Fin 16) f |>.trans (if_pos (Finset.mem_univ _)), ← Finset.sum_add_distrib]
  refine Finset.sum_congr rfl fun k _ => ?_
  by_cases e : k.val = n + 1
  · rw [if_pos (by omega), if_neg (by omega), if_pos (Fin.ext e), zero_add]
  · rw [if_neg (fun h => e (congrArg Fin.val h)), add_zero]
    by_cases e' : k.val ≤ n
    · rw [if_pos e', if_pos (by omega)]
    · rw [if_neg e', if_neg (by omega)]
theorem upto_all (f : Fin 16 → ℝ) : upto f 15 = ∑ h, f h :=
  Finset.sum_congr rfl fun h _ => if_pos (by omega)

theorem zero2 : (k1_pay2 (F := Ideal) : Vec Ideal S1x128 .f32) = up1 fun _ => 0 := by
  funext y
  idx_vars y
  pointwise [k1_pay2]
  rfl
theorem gains0_eq (hR : Reals m c X gq gk D) (n : ℕ) (hn : n < cfg1.N) :
    gains0 (V3 m ρ) c n hn = up1 fun e => upto (fun h => dgG (xs X 0 h) (qH X gq gk D h) e) n := by
  induction n with
  | zero =>
    refine (gains0_zero (V3 m ρ) c ⟨0, hn⟩ rfl).trans ?_
    rw [zero2, bwd_gain0 m ρ c X gq gk D _ hR]
    simp only [upto_zero, zero_add]
    rfl
  | succ n ih =>
    refine (gains0_pos (V3 m ρ) c ⟨n + 1, hn⟩ (Nat.succ_ne_zero n)).trans ?_
    rw [show gains0 (V3 m ρ) c ((⟨n + 1, hn⟩ : Fin cfg1.N).val - 1) _ = _ from ih (Nat.lt_of_succ_lt hn), bwd_gain0 m ρ c X gq gk D _ hR]
    simp only [upto_succ _ n (lt1 ⟨n + 1, hn⟩)]
theorem gains1_eq (hR : Reals m c X gq gk D) (n : ℕ) (hn : n < cfg1.N) :
    gains1 (V3 m ρ) c n hn = up1 fun e => upto (fun h => dgG (xs X 1 h) (kH X gq gk D h) e) n := by
  induction n with
  | zero =>
    refine (gains1_zero (V3 m ρ) c ⟨0, hn⟩ rfl).trans ?_
    rw [show (k1_pay3 (F := Ideal) : Vec Ideal S1x128 .f32) = _ from zero2, bwd_gain1 m ρ c X gq gk D _ hR]
    simp only [upto_zero, zero_add]
    rfl
  | succ n ih =>
    refine (gains1_pos (V3 m ρ) c ⟨n + 1, hn⟩ (Nat.succ_ne_zero n)).trans ?_
    rw [show gains1 (V3 m ρ) c ((⟨n + 1, hn⟩ : Fin cfg1.N).val - 1) _ = _ from ih (Nat.lt_of_succ_lt hn), bwd_gain1 m ρ c X gq gk D _ hR]
    simp only [upto_succ _ n (lt1 ⟨n + 1, hn⟩)]

theorem last (t : Fin cfg1.N) (h : t.val % 16 = 15) : t.val = 15 := by have := lt1 t; omega

theorem final1_8 (hR : Reals m c X gq gk D) : (dat1 (V3 m ρ) c).arrAt 8 cfg1.N = gqArr X gq gk D := by
  refine (dat1 (V3 m ρ) c).arrAt_eq_of_covers 8 _ (by decide +kernel) fun t hf y => ?_
  blk_simp
  rw [after1_8]
  have e := place18 t y
  have hp := congrFun (gains0_eq m ρ c X gq gk D hR t.val t.isLt) y
  generalize (win1_8.blk t).view.emb y = z at e ⊢
  subst e
  refine hp.trans ?_
  rw [last t ((flush1_8 t).mp hf)]
  simp only [upto_all]
  rfl
theorem final1_9 (hR : Reals m c X gq gk D) : (dat1 (V3 m ρ) c).arrAt 9 cfg1.N = gkArr X gq gk D := by
  refine (dat1 (V3 m ρ) c).arrAt_eq_of_covers 9 _ (by decide +kernel) fun t hf y => ?_
  blk_simp
  rw [after1_9]
  have e := place19 t y
  have hp := congrFun (gains1_eq m ρ c X gq gk D hR t.val t.isLt) y
  generalize (win1_9.blk t).view.emb y = z at e ⊢
  subst e
  refine hp.trans ?_
  rw [last t ((flush1_9 t).mp hf)]
  simp only [upto_all]
  rfl

/-! ## What the program leaves -/

section
variable (hR : Reals m c X gq gk D)
include hR
theorem exit_o : (W4 m ρ c (Proc.devRef .tc main_v2_0) : Vec Ideal S4096x2048 .f32) = oArr X gq gk :=
  (W4_of m ρ c main_v2_0 (by decide +kernel)).trans (V3_o m ρ c X gq gk D hR)
theorem exit_d : (W4 m ρ c (Proc.devRef .tc main_v4_0) : Vec Ideal S3x4096x2048 .bf16) = dArr X gq gk D :=
  (W4_arr m ρ c 7).trans (final1_7 m ρ c X gq gk D hR)
theorem exit_gq : (W4 m ρ c (Proc.devRef .tc main_v4_1) : Vec Ideal S1x128 .f32) = gqArr X gq gk D :=
  (W4_arr m ρ c 8).trans (final1_8 m ρ c X gq gk D hR)
theorem exit_gk : (W4 m ρ c (Proc.devRef .tc main_v4_2) : Vec Ideal S1x128 .f32) = gkArr X gq gk D :=
  (W4_arr m ρ c 9).trans (final1_9 m ρ c X gq gk D hR)
end

end Cert.Proof.Attn
-- ==== Proof.AttnRef0.lean ====
/- The reference's attention, over the reals: the head norms, the scores, the running sums and the weights. -/
module

public import proofs.«01_k».proof.Proof.AttnHost
public import proofs.«01_k».proof.Proof.Gen.AttnReferenceIdeal.Run
public import proofs.«01_k».proof.Proof.Gen.AttnReferenceIdeal.Read

set_option maxRecDepth 16384
@[expose] public section
namespace Cert.Proof.Attn.Ref
open Idealize.ShloMosaic Idealize.ShloMosaic.TcCoe Idealize.ShloMosaic.Tactic
open Cert.AttnReferenceIdeal Cert.AttnReferenceIdeal.Gen Cert.AttnReferenceIdeal.Read Cert.Arith

/-! ## A running sum along the last axis, and a sum over the first two -/

theorem foldl_sum {ι : Type*} (l : List ι) (g : ι → EReal) (v : EReal) : l.foldl (fun r n => r + g n) v = v + (l.map g).sum := by
  induction l generalizing v with
  | nil => simp
  | cons a l ih => rw [List.foldl_cons, ih, List.map_cons, List.sum_cons, add_assoc]

/-- The positions of a window that spans the last axis. -/
def spanE : (⟨3, ![1, 1, 4096]⟩ : Shape).Idx ≃ Fin 4096 where
  toFun i := i 2
  invFun w := ix3 0 0 w
  left_inv i := by
    idx_vars i
    rw [Fin.fin_one_eq_zero i0, Fin.fin_one_eq_zero i1]
  right_inv w := rfl

theorem win (lo hi : Fin 3 → ℕ) (h : S16x4096x4096.ReduceWindows ![1, 1, 4096] ![1, 1, 1] lo hi S16x4096x4096) (x : S16x4096x4096.Idx → EReal) (j : S16x4096x4096.Idx)
    (f : Fin 4096 → EReal)
    (hf : ∀ w : Fin 4096, (if hin : ∀ a : Fin 3, lo a ≤ (j a).val * ![1, 1, 1] a + ((ix3 0 0 w : (⟨3, ![1, 1, 4096]⟩ : Shape).Idx) a).val
        ∧ (j a).val * ![1, 1, 1] a + ((ix3 0 0 w : (⟨3, ![1, 1, 4096]⟩ : Shape).Idx) a).val - lo a < S16x4096x4096.size a
      then x (fun a => ⟨_, (hin a).2⟩) else 0) = f w) :
    Ideal.hostReduceWindowAdd ![1, 1, 4096] ![1, 1, 1] lo hi h x 0 j = ∑ w, f w := by
  unfold Ideal.hostReduceWindowAdd Host.reduceWindow
  dsimp only
  rw [foldl_sum, zero_add, ← Fin.sum_univ_def]
  refine (Finset.sum_congr rfl fun n _ => ?_).trans ((Equiv.sum_comp (Shape.rowMajor (⟨3, ![1, 1, 4096]⟩ : Shape)).symm
    (fun i => if hin : ∀ a : Fin 3, lo a ≤ (j a).val * ![1, 1, 1] a + (i a).val ∧ (j a).val * ![1, 1, 1] a + (i a).val - lo a < S16x4096x4096.size a
      then x (fun a => ⟨_, (hin a).2⟩) else 0)).trans ?_)
  · by_cases hin : ∀ a : Fin 3, lo a ≤ (j a).val * ![1, 1, 1] a + ((Shape.rowMajor (⟨3, ![1, 1, 4096]⟩ : Shape)).symm n a).val
        ∧ (j a).val * ![1, 1, 1] a + ((Shape.rowMajor (⟨3, ![1, 1, 4096]⟩ : Shape)).symm n a).val - lo a < S16x4096x4096.size a
    · exact (dif_pos hin).trans (by rw [dif_pos hin]; rfl)
    · exact (dif_neg hin).trans (by rw [dif_neg hin])
  rw [← Equiv.sum_comp spanE.symm]
  exact Finset.sum_congr rfl fun w _ => hf w

theorem sum_up (h : S16x4096x4096.ReduceWindows ![1, 1, 4096] ![1, 1, 1] ![0, 0, 0] ![0, 0, 4095] S16x4096x4096) (x : S16x4096x4096.Idx → EReal) (f : Fin 4096 → ℝ) (a : Fin 16) (t s : Fin 4096)
    (hx : ∀ s, x (ix3 a t s) = ((f s : ℝ) : EReal)) :
    Ideal.hostReduceWindowAdd ![1, 1, 4096] ![1, 1, 1] ![0, 0, 0] ![0, 0, 4095] h x 0 (ix3 a t s) = ((suf f s.val : ℝ) : EReal) := by
  rw [win _ _ h x (ix3 a t s) (fun w => ((if hw : s.val + w.val < 4096 then f ⟨s.val + w.val, hw⟩ else 0 : ℝ) : EReal))]
  · rw [← coe_sum, suf, ← Finset.sum_filter, Finset.sum_dite, Finset.sum_const_zero, add_zero]
    congr 1
    refine Finset.sum_bij (fun w _ => ⟨s.val + w.1.val, (Finset.mem_filter.mp w.2).2⟩) ?_ ?_ ?_ ?_
    · intro w _; exact Finset.mem_filter.mpr ⟨Finset.mem_univ _, Nat.le_add_right _ _⟩
    · intro w _ w' _ e
      have h1 : s.val + w.1.val = s.val + w'.1.val := congrArg Fin.val e
      exact Subtype.ext (Fin.ext (by omega))
    · intro b hb
      have hb' : s.val ≤ b.val := (Finset.mem_filter.mp hb).2
      exact ⟨⟨⟨b.val - s.val, by omega⟩, Finset.mem_filter.mpr ⟨Finset.mem_univ _, by show s.val + (b.val - s.val) < 4096; omega⟩⟩, Finset.mem_attach _ _,
        Fin.ext (by show s.val + (b.val - s.val) = b.val; omega)⟩
    · intro w _; rfl
  · intro w
    by_cases hw : s.val + w.val < 4096
    · rw [dif_pos, dif_pos hw, ← hx]
      · congr 1
        funext k
        apply Fin.ext
        match k with
        | ⟨0, _⟩ => show a.val * 1 + 0 - 0 = a.val; omega
        | ⟨1, _⟩ => show t.val * 1 + 0 - 0 = t.val; omega
        | ⟨2, _⟩ => show s.val * 1 + w.val - 0 = s.val + w.val; omega
      · intro k
        match k with
        | ⟨0, _⟩ => show 0 ≤ a.val * 1 + 0 ∧ a.val * 1 + 0 - 0 < 16; omega
        | ⟨1, _⟩ => show 0 ≤ t.val * 1 + 0 ∧ t.val * 1 + 0 - 0 < 4096; omega
        | ⟨2, _⟩ => show 0 ≤ s.val * 1 + w.val ∧ s.val * 1 + w.val - 0 < 4096; omega
    · rw [dif_neg, dif_neg hw]; rfl
      intro hin
      have h2 : s.val * 1 + w.val - 0 < 4096 := (hin 2).2
      omega

theorem sum_down (h : S16x4096x4096.ReduceWindows ![1, 1, 4096] ![1, 1, 1] ![0, 0, 4095] ![0, 0, 0] S16x4096x4096) (x : S16x4096x4096.Idx → EReal) (f : Fin 4096 → ℝ) (a : Fin 16) (t s : Fin 4096)
    (hx : ∀ s, x (ix3 a t s) = ((f s : ℝ) : EReal)) :
    Ideal.hostReduceWindowAdd ![1, 1, 4096] ![1, 1, 1] ![0, 0, 4095] ![0, 0, 0] h x 0 (ix3 a t s) = ((∑ u, (if u ≤ s then f u else 0) : ℝ) : EReal) := by
  rw [win _ _ h x (ix3 a t s) (fun w => ((if hw : 4095 ≤ s.val + w.val then f ⟨s.val + w.val - 4095, by omega⟩ else 0 : ℝ) : EReal))]
  · rw [← coe_sum, ← Finset.sum_filter, Finset.sum_dite, Finset.sum_const_zero, add_zero]
    congr 1
    refine Finset.sum_bij (fun w _ => ⟨s.val + w.1.val - 4095, by omega⟩) ?_ ?_ ?_ ?_
    · intro w _
      have h1 := w.1.isLt
      simp only [Finset.mem_filter, Finset.mem_univ, true_and, Fin.le_def]
      omega
    · intro w _ w' _ e
      simp only [Fin.mk.injEq] at e
      have h2 : 4095 ≤ s.val + w.1.val := (Finset.mem_filter.mp w.2).2
      have h3 : 4095 ≤ s.val + w'.1.val := (Finset.mem_filter.mp w'.2).2
      exact Subtype.ext (Fin.ext (by omega))
    · intro b hb
      have hb' : b.val ≤ s.val := (Finset.mem_filter.mp hb).2
      exact ⟨⟨⟨b.val + 4095 - s.val, by omega⟩, Finset.mem_filter.mpr ⟨Finset.mem_univ _, by show 4095 ≤ s.val + (b.val + 4095 - s.val); omega⟩⟩, Finset.mem_attach _ _,
        Fin.ext (by simp only []; omega)⟩
    · intro w _; rfl
  · intro w
    by_cases hw : 4095 ≤ s.val + w.val
    · rw [dif_pos, dif_pos hw, ← hx]
      · congr 1
        funext k
        apply Fin.ext
        match k with
        | ⟨0, _⟩ => show a.val * 1 + 0 - 0 = a.val; omega
        | ⟨1, _⟩ => show t.val * 1 + 0 - 0 = t.val; omega
        | ⟨2, _⟩ => show s.val * 1 + w.val - 4095 = s.val + w.val - 4095; omega
      · intro k
        match k with
        | ⟨0, _⟩ => show 0 ≤ a.val * 1 + 0 ∧ a.val * 1 + 0 - 0 < 16; omega
        | ⟨1, _⟩ => show 0 ≤ t.val * 1 + 0 ∧ t.val * 1 + 0 - 0 < 4096; omega
        | ⟨2, _⟩ => show 4095 ≤ s.val * 1 + w.val ∧ s.val * 1 + w.val - 4095 < 4096; omega
    · rw [dif_neg, dif_neg hw]; rfl
      intro hin
      have h2 : 4095 ≤ s.val * 1 + w.val := (hin 2).1
      omega

theorem drop01 {n m : ℕ} (h : (⟨3, ![n, m, 128]⟩ : Shape).ReducesTo [0, 1] S128) (x : (⟨3, ![n, m, 128]⟩ : Shape).Idx → EReal) (e : Fin 128) :
    Ideal.hostReduceAdd h x 0 (ix1 e) = ∑ a : Fin n, ∑ b : Fin m, x (ix3 a b e) := by
  unfold Ideal.hostReduceAdd
  rw [zero_add, ← Finset.sum_product', ]
  have hd : ∀ i : (⟨3, ![n, m, 128]⟩ : Shape).Idx, h.drop i = ix1 e ↔ i 2 = e := by
    intro i
    constructor
    · intro hi
      have h0 := congrArg Fin.val (congrFun hi 0)
      exact Fin.ext h0
    · intro hi
      funext k
      apply Fin.ext
      match k with
      | ⟨0, _⟩ => exact congrArg Fin.val hi
  have hix : ∀ i : (⟨3, ![n, m, 128]⟩ : Shape).Idx, i 2 = e → ix3 (i 0) (i 1) e = i := by
    intro i hi
    funext k
    match k with
    | ⟨0, _⟩ => rfl
    | ⟨1, _⟩ => rfl
    | ⟨2, _⟩ => exact hi.symm
  refine Finset.sum_nbij' (fun i => (i 0, i 1)) (fun p => ix3 p.1 p.2 e) ?_ ?_ ?_ ?_ ?_
  · intro i _; simp
  · intro p _
    rw [Finset.mem_filter]
    exact ⟨Finset.mem_univ _, (hd _).mpr rfl⟩
  · intro i hi
    exact hix i ((hd i).mp (Finset.mem_filter.mp hi).2)
  · intro p _; rfl
  · intro i hi
    exact congrArg x (hix i ((hd i).mp (Finset.mem_filter.mp hi).2)).symm
/-! ## Scalars -/

/-- The two logarithms of sigmoids, and the sigmoids. -/
theorem exp_lk (z : ℝ) : Real.exp (lkR z) = (1 + Real.exp z)⁻¹ := by
  have h : Real.exp (max z 0) * (1 + Real.exp (-|z|)) = 1 + Real.exp z := by
    rcases le_total 0 z with hz | hz
    · rw [max_eq_left hz, abs_of_nonneg hz, mul_add, mul_one, ← Real.exp_add, add_neg_cancel, Real.exp_zero, add_comm]
    · rw [max_eq_right hz, abs_of_nonpos hz, neg_neg, Real.exp_zero, one_mul]
  rw [lkR, Real.exp_neg, Real.exp_add, Real.exp_log (by positivity), h]
theorem lk_neg (z : ℝ) : lkR (-z) = z + lkR z := by
  have h : max (-z) 0 = max z 0 - z := by
    rcases le_total 0 z with hz | hz
    · rw [max_eq_left hz, max_eq_right (by linarith)]; ring
    · rw [max_eq_right hz, max_eq_left (by linarith)]; ring
  rw [lkR, lkR, abs_neg, h]
  ring
theorem sig_neg (z : ℝ) : Real.exp (lkR z) = 1 - Real.exp (z + lkR z) := by
  rw [Real.exp_add, exp_lk]
  have : (1 + Real.exp z) ≠ 0 := by positivity
  field_simp
  ring

/-- The reference's `softplus` at a real. -/
theorem softplus_coe (z : ℝ) : (if ((z : ℝ) : EReal) ≠ ((z : ℝ) : EReal) then ((z : ℝ) : EReal) else max ((z : ℝ) : EReal) 0
      + Ideal.log1p (Ideal.exp (-(FloatOps.absf (F := Ideal) (φ := .f32) ((z : ℝ) : EReal))))) = ((-lkR z : ℝ) : EReal) := by
  have e1 : FloatOps.absf (F := Ideal) (φ := .f32) ((z : ℝ) : EReal) = ((|z| : ℝ) : EReal) := by
    show max ((z : ℝ) : EReal) (-((z : ℝ) : EReal)) = _
    rw [← EReal.coe_neg, ← coe_max]; rfl
  rw [if_neg (fun h => h rfl), e1, ← EReal.coe_neg, Ideal.exp_coe]
  show _ + Ideal.log (1 + _) = _
  rw [← EReal.coe_one, ← EReal.coe_add, Ideal.log_coe, if_neg (not_le.mpr (by positivity)), ← EReal.coe_zero, ← coe_max, ← EReal.coe_add, lkR, neg_neg]

theorem ne_inf (z : ℝ) : ((z : ℝ) : EReal) ≠ Ideal.ofBits .f32 0x7F800000#32 := by
  rw [lit_inf]; exact EReal.coe_ne_top z

section
variable (X : Fin 4096 → Fin 6144 → ℝ) (gq gk : Fin 128 → ℝ) (D : Fin 4096 → Fin 2048 → ℝ)

/-- The head's normalised queries and keys. -/
noncomputable abbrev Qn (h : Fin 16) : Fin 4096 → Fin 128 → ℝ := nG (xs X 0 h) gq
noncomputable abbrev Kn (h : Fin 16) : Fin 4096 → Fin 128 → ℝ := nG (xs X 1 h) gk

theorem upf_at {a b : ℕ} (f : Fin a → Fin b → ℝ) (i : Fin a) (j j' : Fin b) (h : j.val = j'.val) : upf f (ix2 i j) = ((f i j' : ℝ) : EReal) := by
  rw [Fin.ext h]; rfl

/-! ## The sections and their norms -/

variable (t s : Fin 4096) (h : Fin 16) (e : Fin 128) (z : Fin 1)

theorem v3 : val_main_v3 (F := Ideal) (upf X) (ix3 t h e) = ((xs X 0 h t e : ℝ) : EReal) := by
  pointwise [val_main_v3, val_main_v0]
  exact upf_at X _ _ (xcol 0 h e) (by simp [xcol])
theorem v20 : val_main_v20 (F := Ideal) (upf X) (ix3 t h e) = ((xs X 1 h t e : ℝ) : EReal) := by
  pointwise [val_main_v20, val_main_v1]
  exact upf_at X _ _ (xcol 1 h e) (by simp [xcol]; omega)
theorem v37 : val_main_v37 (F := Ideal) (upf X) (ix3 t h e) = ((xs X 2 h t e : ℝ) : EReal) := by
  pointwise [val_main_v37, val_main_v2]
  exact upf_at X _ _ (xcol 2 h e) (by simp [xcol]; omega)
theorem v11 : val_main_v11 (F := Ideal) (upf X) (ix3 t h z) = ((rG (xs X 0 h t) : ℝ) : EReal) := by
  pointwise [val_main_v11, val_main_v10, val_main_v9, val_main_v8, val_main_v7, val_main_v6, val_main_v5, val_main_v4, val_main_cst, val_main_cst_0, val_main_cst_1]
  simp only [v3]
  exact rms_coe _
theorem v28 : val_main_v28 (F := Ideal) (upf X) (ix3 t h z) = ((rG (xs X 1 h t) : ℝ) : EReal) := by
  pointwise [val_main_v28, val_main_v27, val_main_v26, val_main_v25, val_main_v24, val_main_v23, val_main_v22, val_main_v21, val_main_cst_3, val_main_cst_4, val_main_cst_5]
  simp only [v20]
  exact rms_coe _
theorem v16 : val_main_v16 (F := Ideal) (upf X) (ix3 t h e) = ((xs X 0 h t e * rG (xs X 0 h t) : ℝ) : EReal) := by
  pointwise [val_main_v16, val_main_v15]
  rw [v3, v11, EReal.coe_mul]
theorem v33 : val_main_v33 (F := Ideal) (upf X) (ix3 t h e) = ((xs X 1 h t e * rG (xs X 1 h t) : ℝ) : EReal) := by
  pointwise [val_main_v33, val_main_v32]
  rw [v20, v28, EReal.coe_mul]
theorem v19 : val_main_v19 (F := Ideal) (upf X) (up1 gq) (ix3 t h e) = ((Qn X gq h t e : ℝ) : EReal) := by
  pointwise [val_main_v19, val_main_v18, val_main_v17]
  rw [v16, up1_at, ← EReal.coe_mul]; rfl
theorem v36 : val_main_v36 (F := Ideal) (upf X) (up1 gk) (ix3 t h e) = ((Kn X gk h t e : ℝ) : EReal) := by
  pointwise [val_main_v36, val_main_v35, val_main_v34]
  rw [v33, up1_at, ← EReal.coe_mul]; rfl

/-! ## The scores, the mask and the logarithms -/

theorem v40 : val_main_v40 (F := Ideal) (upf X) (up1 gq) (up1 gk) (ix3 h t s) = ((zG (Qn X gq h) (Kn X gk h) t s : ℝ) : EReal) := by
  pointwise [val_main_v40, val_main_v39, val_main_v38, val_main_cst_7]
  simp only [v19, v36]
  rw [coe_sum_mul, sc_eq, ← EReal.coe_mul]; rfl
theorem v47 : val_main_v47 (F := Ideal) (ix2 t s) = if s < t then 1#1 else 0#1 := by
  pointwise [val_main_v47, val_main_v46, val_main_v45, val_main_v44, val_main_v43, val_main_v42, val_main_v41]
  show BitVec.ofBool ((BitVec.ofNat 32 s.val).slt (BitVec.ofNat 32 t.val)) = _
  rw [slt_ofNat (by omega) (by omega)]
  by_cases hst : s < t
  · rw [if_pos hst, decide_eq_true (Fin.lt_def.mp hst)]; rfl
  · rw [if_neg hst, decide_eq_false (fun h => hst (Fin.lt_def.mpr h))]; rfl
theorem sel (x : ℝ) : Scalar.select (val_main_v47 (F := Ideal) (ix2 t s)) ((x : ℝ) : EReal) (constant (F := Ideal) S_ .f32 0x00000000#32 ix0)
    = ((if s < t then x else 0 : ℝ) : EReal) := by
  rw [v47]
  by_cases hst : s < t
  · rw [if_pos hst, if_pos hst]; rfl
  · rw [if_neg hst, if_neg hst]
    exact Ideal.ofBits_zero .f32
theorem z0 : val_main_call0_v0 (F := Ideal) (upf X) (up1 gq) (up1 gk) (ix3 h t s) = ((zG (Qn X gq h) (Kn X gk h) t s : ℝ) : EReal) := by
  pointwise [val_main_call0_v0, val_main_v48]
  rw [v40, neg_neg]
theorem z3 : val_main_call3_v0 (F := Ideal) (upf X) (up1 gq) (up1 gk) (ix3 h t s) = ((-zG (Qn X gq h) (Kn X gk h) t s : ℝ) : EReal) := by
  pointwise [val_main_call3_v0]
  rw [v40, EReal.coe_neg]
theorem sp0 : val_main_call0_v1_0 (F := Ideal) (upf X) (up1 gq) (up1 gk) (ix3 h t s) = ((-lkR (zG (Qn X gq h) (Kn X gk h) t s) : ℝ) : EReal) := by
  pointwise [val_main_call0_v1_0, val_main_call0_call0_v4, val_main_call0_call0_v6, val_main_call0_call0_v11, val_main_call0_call0_v10, val_main_call0_call0_v9, val_main_call0_call0_v8, val_main_call0_call0_v7,
    val_main_call0_call0_v5, val_main_call0_call0_v3, val_main_call0_call0_v2, val_main_call0_call0_v1, val_main_call0_call0_v0, val_main_call0_call0_cst]
  rw [z0]
  exact softplus_coe _
theorem sp3 : val_main_call3_v1_0 (F := Ideal) (upf X) (up1 gq) (up1 gk) (ix3 h t s) = ((-lkR (-zG (Qn X gq h) (Kn X gk h) t s) : ℝ) : EReal) := by
  pointwise [val_main_call3_v1_0, val_main_call3_call0_v4, val_main_call3_call0_v6, val_main_call3_call0_v11, val_main_call3_call0_v10, val_main_call3_call0_v9, val_main_call3_call0_v8, val_main_call3_call0_v7,
    val_main_call3_call0_v5, val_main_call3_call0_v3, val_main_call3_call0_v2, val_main_call3_call0_v1, val_main_call3_call0_v0, val_main_call3_call0_cst]
  rw [z3]
  exact softplus_coe _
theorem v49_0 : val_main_v49_0 (F := Ideal) (upf X) (up1 gq) (up1 gk) (ix3 h t s) = ((lkR (zG (Qn X gq h) (Kn X gk h) t s) : ℝ) : EReal) := by
  pointwise [val_main_v49_0]
  rw [sp0, ← EReal.coe_neg, neg_neg]
theorem v53_0 : val_main_v53_0 (F := Ideal) (upf X) (up1 gq) (up1 gk) (ix3 h t s)
    = ((zG (Qn X gq h) (Kn X gk h) t s + lkR (zG (Qn X gq h) (Kn X gk h) t s) : ℝ) : EReal) := by
  pointwise [val_main_v53_0]
  rw [sp3, ← EReal.coe_neg, neg_neg, lk_neg]
theorem v49_1 : val_main_v49_1 (F := Ideal) (upf X) (up1 gq) (up1 gk) (ix3 h t s) = ((sG (Qn X gq h) (Kn X gk h) t s : ℝ) : EReal) := by
  pointwise [val_main_v49_1, val_main_call0_call0_v21, val_main_call0_call0_v20, val_main_call0_call0_v19, val_main_call0_call0_v18, val_main_call0_call0_v17, val_main_call0_call0_v16, val_main_call0_call0_v15, val_main_call0_call0_v14,
    val_main_call0_call0_v13, val_main_call0_call0_cst_0, val_main_call0_call0_cst_1, val_main_call0_call0_cst_2, val_main_call0_call0_cst_3]
  rw [z0, sp0, if_neg (ne_inf _), if_neg (ne_inf _), ← EReal.coe_sub, Ideal.exp_coe, sub_neg_eq_add]; rfl
theorem v53_1 : val_main_v53_1 (F := Ideal) (upf X) (up1 gq) (up1 gk) (ix3 h t s) = ((1 - sG (Qn X gq h) (Kn X gk h) t s : ℝ) : EReal) := by
  pointwise [val_main_v53_1, val_main_call3_call0_v21, val_main_call3_call0_v20, val_main_call3_call0_v19, val_main_call3_call0_v18, val_main_call3_call0_v17, val_main_call3_call0_v16, val_main_call3_call0_v15, val_main_call3_call0_v14,
    val_main_call3_call0_v13, val_main_call3_call0_cst_0, val_main_call3_call0_cst_1, val_main_call3_call0_cst_2, val_main_call3_call0_cst_3]
  rw [z3, sp3, if_neg (ne_inf _), if_neg (ne_inf _), ← EReal.coe_sub, Ideal.exp_coe, sub_neg_eq_add, lk_neg, neg_add_cancel_left, sig_neg]; rfl
theorem v50_0 : val_main_v50_0 (F := Ideal) (upf X) (up1 gq) (up1 gk) (ix3 h t s) = ((lG (Qn X gq h) (Kn X gk h) t s : ℝ) : EReal) := by
  pointwise [val_main_v50_0, val_main_v50_1, val_main_call1_v2, val_main_call1_v0, val_main_cst_8]
  rw [v49_0]
  exact sel t s _
end

end Cert.Proof.Attn.Ref
-- ==== Proof.AttnRef1.lean ====
/- The reference's attention, over the reals: the running sum, the weights, the output and the gradients of the heads. -/
module

public import proofs.«01_k».proof.Proof.AttnRef0

set_option maxRecDepth 16384
@[expose] public section
namespace Cert.Proof.Attn.Ref
open Idealize.ShloMosaic Idealize.ShloMosaic.TcCoe Idealize.ShloMosaic.Tactic
open Cert.AttnReferenceIdeal Cert.AttnReferenceIdeal.Gen Cert.AttnReferenceIdeal.Read Cert.Arith

theorem host_up (x : FVec Ideal S16x4096x4096 .f32) (v : FVec Ideal S_ .f32) (f : Fin 4096 → ℝ) (hv : v (Shape.Idx.first h_S_) = 0) (a : Fin 16) (t s : Fin 4096)
    (hx : ∀ s, x (ix3 a t s) = ((f s : ℝ) : EReal)) :
    Host.reduceWindowAdd ![1, 1, 4096] ![1, 1, 1] ![0, 0, 0] ![0, 0, 4095] x v reduceWindows_S16x4096x4096_S16x4096x4096_w1s1p0_0_w1s1p0_0_w4096s1p0_4095 h_S_ (ix3 a t s)
      = ((suf f s.val : ℝ) : EReal) := by
  unfold Host.reduceWindowAdd
  rw [hv, Ideal.hostReduceWindowAdd_def]
  exact sum_up _ x f a t s hx
theorem host_down (x : FVec Ideal S16x4096x4096 .f32) (v : FVec Ideal S_ .f32) (f : Fin 4096 → ℝ) (hv : v (Shape.Idx.first h_S_) = 0) (a : Fin 16) (t s : Fin 4096)
    (hx : ∀ s, x (ix3 a t s) = ((f s : ℝ) : EReal)) :
    Host.reduceWindowAdd ![1, 1, 4096] ![1, 1, 1] ![0, 0, 4095] ![0, 0, 0] x v reduceWindows_S16x4096x4096_S16x4096x4096_w1s1p0_0_w1s1p0_0_w4096s1p4095_0 h_S_ (ix3 a t s)
      = ((∑ u, (if u ≤ s then f u else 0) : ℝ) : EReal) := by
  unfold Host.reduceWindowAdd
  rw [hv, Ideal.hostReduceWindowAdd_def]
  exact sum_down _ x f a t s hx
/-- A choice by the mask. -/
theorem sel' (t s : Fin 4096) (x : ℝ) : Scalar.select (val_main_v47 (F := Ideal) (ix2 t s)) ((x : ℝ) : EReal) (0 : EReal) = ((if s < t then x else 0 : ℝ) : EReal) := by
  rw [v47]
  by_cases hst : s < t
  · rw [if_pos hst, if_pos hst]; rfl
  · rw [if_neg hst, if_neg hst]; rfl

/-- What is summed up to an entry, without it, and what is summed from it on make the whole. -/
theorem down_up (f : Fin 4096 → ℝ) (s : Fin 4096) : -f s + ∑ u, (if u ≤ s then f u else 0) = (∑ u, f u) - suf f s.val := by
  have h : (∑ u, (if u ≤ s then f u else 0)) + suf f s.val = (∑ u, f u) + ∑ u, (if u = s then f u else 0) := by
    rw [suf, ← Finset.sum_add_distrib, ← Finset.sum_add_distrib]
    refine Finset.sum_congr rfl fun u _ => ?_
    rcases lt_trichotomy u s with hu | hu | hu
    · rw [if_pos hu.le, if_neg (not_le.mpr (Fin.lt_def.mp hu)), if_neg hu.ne]
    · rw [if_pos hu.le, if_pos (Fin.le_def.mp hu.ge), if_pos hu]
    · rw [if_neg (not_le.mpr hu), if_pos (Fin.le_def.mp hu.le), if_neg hu.ne', add_comm]
  rw [Finset.sum_ite_eq' Finset.univ s f, if_pos (Finset.mem_univ s)] at h
  linarith

/-- The whole of the gradient of a query's logarithms is the output's gradient against the output. -/
theorem sum_gG (Q K V D : Fin 4096 → Fin 128 → ℝ) (t : Fin 4096) : ∑ s, gG Q K V D t s = ∑ e, D t e * oG Q K V t e := by
  simp only [gG, oG, Finset.mul_sum]
  rw [Finset.sum_comm]
  exact Finset.sum_congr rfl fun e _ => Finset.sum_congr rfl fun s _ => by ring

section
variable (X : Fin 4096 → Fin 6144 → ℝ) (gq gk : Fin 128 → ℝ) (D : Fin 4096 → Fin 2048 → ℝ)
variable (t s : Fin 4096) (h : Fin 16) (e : Fin 128) (z : Fin 1)

/-! ## The weights and the output -/

theorem v51 : val_main_v51 (F := Ideal) (upf X) (up1 gq) (up1 gk) (ix3 h t s) = ((suf (lG (Qn X gq h) (Kn X gk h) t) s.val : ℝ) : EReal) := by
  have e0 : val_main_call2_v0 (F := Ideal) (Shape.Idx.first h_S_) = 0 := by
    pointwise [val_main_call2_v0, val_main_call2_cst]
  exact host_up _ _ _ e0 h t s fun s => v50_0 X gq gk t s h
theorem v55 : val_main_v55 (F := Ideal) (upf X) (up1 gq) (up1 gk) (ix3 h t s)
    = ((Real.exp (zG (Qn X gq h) (Kn X gk h) t s + lkR (zG (Qn X gq h) (Kn X gk h) t s)
        + (suf (lG (Qn X gq h) (Kn X gk h) t) s.val - lG (Qn X gq h) (Kn X gk h) t s)) : ℝ) : EReal) := by
  pointwise [val_main_v55, val_main_v54, val_main_v52]
  rw [v53_0, v51, v50_0, ← EReal.coe_sub, ← EReal.coe_add, Ideal.exp_coe]
theorem v56 : val_main_v56_0 (F := Ideal) (upf X) (up1 gq) (up1 gk) (ix3 h t s) = ((aG (Qn X gq h) (Kn X gk h) t s : ℝ) : EReal) := by
  pointwise [val_main_v56_0, val_main_v56_1, val_main_call4_v2, val_main_call4_v0, val_main_cst_9]
  rw [v55]
  exact sel t s _
theorem v58 : val_main_v58 (F := Ideal) (upf X) (up1 gq) (up1 gk) (ix3 t h e) = ((oH X gq gk h t e : ℝ) : EReal) := by
  pointwise [val_main_v58, val_main_v57]
  simp only [v37, v56]
  rw [coe_sum_mul]
  exact congrArg _ (Finset.sum_congr rfl fun s _ => mul_comm _ _)
theorem v59 : val_main_v59 (F := Ideal) (upf X) (up1 gq) (up1 gk) = oArr X gq gk := by
  funext j
  idx_vars j
  pointwise [val_main_v59]
  rw [v58]
  rfl

/-! ## The gradients of the heads -/
theorem v61 : val_main_v61 (F := Ideal) (upf D) (ix3 h e t) = ((ds D h t e : ℝ) : EReal) := by
  pointwise [val_main_v61, val_main_v60]
  exact upf_at D _ _ (ocol h e) (by simp [ocol])
theorem v62 : val_main_v62 (F := Ideal) (upf X) (upf D) (ix3 h t s) = ((∑ e, ds D h t e * xs X 2 h s e : ℝ) : EReal) := by
  pointwise [val_main_v62]
  simp only [v61, v37]
  exact coe_sum_mul _ _
theorem v64 : val_main_v64 (F := Ideal) (upf X) (up1 gq) (up1 gk) (upf D) (ix3 s h e) = ((dvG (Qn X gq h) (Kn X gk h) (ds D h) s e : ℝ) : EReal) := by
  pointwise [val_main_v64, val_main_v63]
  simp only [v61, v56]
  rw [coe_sum_mul, dvG]
  simp only [mul_comm]
theorem v66 : val_main_v66 (F := Ideal) (upf X) (up1 gq) (up1 gk) (upf D) (ix3 h t s) = ((gG (Qn X gq h) (Kn X gk h) (xs X 2 h) (ds D h) t s : ℝ) : EReal) := by
  pointwise [val_main_v66, val_main_v65, val_main_v56_1, val_main_call5_v0, val_main_call5_cst]
  rw [v62, v55, ← EReal.coe_mul, sel', gG, aG, ite_mul, zero_mul, mul_comm]
theorem v69 : val_main_v69 (F := Ideal) (upf X) (up1 gq) (up1 gk) (upf D) (ix3 h t s)
    = ((∑ u, (if u ≤ s then gG (Qn X gq h) (Kn X gk h) (xs X 2 h) (ds D h) t u else 0) : ℝ) : EReal) := by
  have e0 : val_main_call7_v0 (F := Ideal) (Shape.Idx.first h_S_) = 0 := by
    pointwise [val_main_call7_v0, val_main_call7_cst]
  exact host_down _ _ _ e0 h t s fun s => v66 X gq gk D t s h
/-- The gradient's part below the diagonal, summed before a key. -/
theorem v70 : val_main_v70 (F := Ideal) (upf X) (up1 gq) (up1 gk) (upf D) (ix3 h t s)
    = (((∑ e, ds D h t e * oG (Qn X gq h) (Kn X gk h) (xs X 2 h) t e) - suf (gG (Qn X gq h) (Kn X gk h) (xs X 2 h) (ds D h) t) s.val : ℝ) : EReal) := by
  pointwise [val_main_v70, val_main_v68]
  rw [v66, v69, ← EReal.coe_neg, ← EReal.coe_add, down_up, sum_gG]
theorem v76 : val_main_v76 (F := Ideal) (upf X) (up1 gq) (up1 gk) (upf D) (ix3 h t s) = ((dzG (Qn X gq h) (Kn X gk h) (xs X 2 h) (ds D h) t s : ℝ) : EReal) := by
  pointwise [val_main_v76, val_main_v75, val_main_v74, val_main_v73, val_main_v67, val_main_call6_v0, val_main_call6_v1, val_main_v72, val_main_call9_v0, val_main_call9_v1, val_main_v71, val_main_v50_1, val_main_call8_v0, val_main_call8_cst, val_main_cst_10]
  rw [v66, v53_1, v49_1, v70, sel', sc_eq]
  simp only [← EReal.coe_neg, ← EReal.coe_mul, ← EReal.coe_add]
  rw [dzG]
  congr 1
  split_ifs <;> ring
theorem v78 : val_main_v78 (F := Ideal) (upf X) (up1 gq) (up1 gk) (upf D) (ix3 s h e) = ((kH X gq gk D h s e : ℝ) : EReal) := by
  pointwise [val_main_v78, val_main_v77]
  simp only [v19, v76]
  rw [coe_sum_mul]; rfl
theorem v80 : val_main_v80 (F := Ideal) (upf X) (up1 gq) (up1 gk) (upf D) (ix3 t h e) = ((qH X gq gk D h t e : ℝ) : EReal) := by
  pointwise [val_main_v80, val_main_v79]
  simp only [v36, v76]
  rw [coe_sum_mul]; rfl
end
end Cert.Proof.Attn.Ref
-- ==== Proof.AttnRef2.lean ====
/- The reference's attention, over the reals: the gradients through the head norms, and the results. -/
module

public import proofs.«01_k».proof.Proof.AttnRef1

set_option maxRecDepth 16384
@[expose] public section
namespace Cert.Proof.Attn.Ref
open Idealize.ShloMosaic Idealize.ShloMosaic.TcCoe Idealize.ShloMosaic.Tactic
open Cert.AttnReferenceIdeal Cert.AttnReferenceIdeal.Gen Cert.AttnReferenceIdeal.Read Cert.Arith

/-! ## The norm's gradient -/

theorem lit_nhalf : Ideal.ofBits .f32 0xBF000000#32 = ((-(1 / 2) : ℝ) : EReal) := by
  simp [Ideal.ofBits, Ideal.ieee]; norm_cast; norm_num

/-- A row's mean square, with the constant. -/
noncomputable def mG (f : Fin 128 → ℝ) : ℝ := (∑ e, f e * f e) / 128 + eps
theorem mG_pos (f : Fin 128 → ℝ) : 0 < mG f := by
  have hp := eps_spec.2
  have h0 : 0 ≤ ∑ d, f d * f d := Finset.sum_nonneg fun d _ => mul_self_nonneg _
  rw [mG]; positivity
theorem mG_coe (f : Fin 128 → ℝ) : Ideal.div (∑ d, ((f d : ℝ) : EReal) * ((f d : ℝ) : EReal)) (Ideal.ofBits .f32 0x43000000#32) + Ideal.ofBits .f32 0x358637BD#32 = ((mG f : ℝ) : EReal) := by
  simp only [← EReal.coe_mul]
  rw [coe_mean, eps_spec.1, ← EReal.coe_add, mG]
theorem rG_div (f : Fin 128 → ℝ) : rG f * (1 / mG f) = rG f * (rG f * rG f) := by
  have h : rG f * rG f = 1 / mG f := by
    rw [show rG f = (Real.sqrt (mG f))⁻¹ from rfl, ← mul_inv, Real.mul_self_sqrt (mG_pos f).le, one_div]
  rw [h]

/-- The gradient of a row as the reference writes it: its own term, and twice the mean square's. -/
theorem back (f u : Fin 128 → ℝ) (c : ℝ) (hc : c = (∑ d, f d * u d) * (-(1 / 2) * (rG f * (rG f * rG f))) / 128) (e : Fin 128) :
    u e * rG f + f e * c + c * f e = rG f * (u e - f e * rG f * ((∑ d, u d * (f d * rG f)) / 128)) := by
  have h : ∑ d, u d * (f d * rG f) = (∑ d, f d * u d) * rG f := by
    rw [Finset.sum_mul]
    exact Finset.sum_congr rfl fun d _ => by ring
  rw [h, hc]
  ring

theorem host_add01 {n m : ℕ} (hr : (⟨3, ![n, m, 128]⟩ : Shape).ReducesTo [0, 1] S128) (x : FVec Ideal ⟨3, ![n, m, 128]⟩ .f32) (v : FVec Ideal S_ .f32) (hv : v (Shape.Idx.first h_S_) = 0) (e : Fin 128) :
    Host.reduceAdd x v hr h_S_ (ix1 e) = ∑ a : Fin n, ∑ b : Fin m, x (ix3 a b e) := by
  unfold Host.reduceAdd
  rw [hv]
  exact drop01 hr x e

section
variable (X : Fin 4096 → Fin 6144 → ℝ) (gq gk : Fin 128 → ℝ) (D : Fin 4096 → Fin 2048 → ℝ)
variable (t : Fin 4096) (h : Fin 16) (e : Fin 128) (z : Fin 1)

theorem v14 : val_main_v14 (F := Ideal) (upf X) (ix3 t h z) = ((-(1 / 2) * (rG (xs X 0 h t) * (rG (xs X 0 h t) * rG (xs X 0 h t))) : ℝ) : EReal) := by
  have e10 : val_main_v10 (F := Ideal) (upf X) (ix3 t h z) = ((mG (xs X 0 h t) : ℝ) : EReal) := by
    pointwise [val_main_v10, val_main_v9, val_main_v8, val_main_v7, val_main_v6, val_main_v5, val_main_v4, val_main_cst, val_main_cst_0, val_main_cst_1]
    simp only [v3]
    exact mG_coe _
  pointwise [val_main_v14, val_main_v13, val_main_v12, val_main_cst_2]
  rw [v11, e10, Ideal.div_coe (mG_pos _).ne', lit_nhalf, ← EReal.coe_mul, ← EReal.coe_mul, rG_div]
theorem v31 : val_main_v31 (F := Ideal) (upf X) (ix3 t h z) = ((-(1 / 2) * (rG (xs X 1 h t) * (rG (xs X 1 h t) * rG (xs X 1 h t))) : ℝ) : EReal) := by
  have e27 : val_main_v27 (F := Ideal) (upf X) (ix3 t h z) = ((mG (xs X 1 h t) : ℝ) : EReal) := by
    pointwise [val_main_v27, val_main_v26, val_main_v25, val_main_v24, val_main_v23, val_main_v22, val_main_v21, val_main_cst_3, val_main_cst_4, val_main_cst_5]
    simp only [v20]
    exact mG_coe _
  pointwise [val_main_v31, val_main_v30, val_main_v29, val_main_cst_6]
  rw [v28, e27, Ideal.div_coe (mG_pos _).ne', lit_nhalf, ← EReal.coe_mul, ← EReal.coe_mul, rG_div]

theorem v86 : val_main_v86 (F := Ideal) (upf X) (up1 gq) (up1 gk) (upf D) (ix3 t h e) = ((kH X gq gk D h t e * gk e : ℝ) : EReal) := by
  pointwise [val_main_v86, val_main_v85, val_main_v34]
  rw [v78, up1_at, EReal.coe_mul]
theorem v108 : val_main_v108 (F := Ideal) (upf X) (up1 gq) (up1 gk) (upf D) (ix3 t h e) = ((qH X gq gk D h t e * gq e : ℝ) : EReal) := by
  pointwise [val_main_v108, val_main_v107, val_main_v17]
  rw [v80, up1_at, EReal.coe_mul]

theorem v97 : val_main_v97 (F := Ideal) (upf X) (up1 gq) (up1 gk) (upf D) (ix2 t h)
    = (((∑ d, xs X 1 h t d * (kH X gq gk D h t d * gk d)) * (-(1 / 2) * (rG (xs X 1 h t) * (rG (xs X 1 h t) * rG (xs X 1 h t)))) / 128 : ℝ) : EReal) := by
  pointwise [val_main_v97, val_main_v96, val_main_v95, val_main_v94, val_main_v91, val_main_v90, val_main_v89, val_main_cst_13, val_main_cst_14, val_main_cst_15]
  simp only [v20, v86, v31]
  rw [Fin.sum_univ_one, coe_sum_mul, ← EReal.coe_mul, lit_128, Ideal.div_coe (by norm_num), ← EReal.coe_mul, ← div_eq_mul_one_div]
theorem v102 : val_main_v102 (F := Ideal) (upf X) (up1 gq) (up1 gk) (upf D) (ix3 t h e) = ((dxG (xs X 1 h) gk (kH X gq gk D h) t e : ℝ) : EReal) := by
  pointwise [val_main_v102, val_main_v101, val_main_v100, val_main_v99, val_main_v98, val_main_v93, val_main_v92]
  rw [v86, v28, v20, v97]
  simp only [← EReal.coe_mul, ← EReal.coe_add]
  exact congrArg _ (back (xs X 1 h t) (fun d => kH X gq gk D h t d * gk d) _ rfl e)
theorem v83 : val_main_v83 (F := Ideal) (upf X) (up1 gq) (up1 gk) (upf D) (ix1 e) = ((∑ h, dgG (xs X 1 h) (kH X gq gk D h) e : ℝ) : EReal) := by
  refine (host_add01 _ (val_main_v82 (F := Ideal) (upf X) (up1 gq) (up1 gk) (upf D)) _ (by pointwise [val_main_cst_11]) e).trans ?_
  pointwise [val_main_v82]
  simp only [v33, v78, dgG, coe_sum, EReal.coe_mul]
  rw [Finset.sum_comm]
  exact Finset.sum_congr rfl fun h _ => Finset.sum_congr rfl fun t _ => mul_comm _ _
theorem v88 : val_main_v88 (F := Ideal) (upf X) (up1 gq) (up1 gk) (upf D) = gkArr X gq gk D := by
  funext j
  idx_vars j
  pointwise [val_main_v88]
  refine (host_add01 _ (val_main_v84 (F := Ideal) (upf X) (up1 gq) (up1 gk) (upf D)) _ (by pointwise [val_main_cst_12]) j1).trans ?_
  rw [Fin.sum_univ_one, Fin.sum_univ_one]
  pointwise [val_main_v84]
  exact v83 X gq gk D j1

theorem v119 : val_main_v119 (F := Ideal) (upf X) (up1 gq) (up1 gk) (upf D) (ix2 t h)
    = (((∑ d, xs X 0 h t d * (qH X gq gk D h t d * gq d)) * (-(1 / 2) * (rG (xs X 0 h t) * (rG (xs X 0 h t) * rG (xs X 0 h t)))) / 128 : ℝ) : EReal) := by
  pointwise [val_main_v119, val_main_v118, val_main_v117, val_main_v116, val_main_v113, val_main_v112, val_main_v111, val_main_cst_18, val_main_cst_19, val_main_cst_20]
  simp only [v3, v108, v14]
  rw [Fin.sum_univ_one, coe_sum_mul, ← EReal.coe_mul, lit_128, Ideal.div_coe (by norm_num), ← EReal.coe_mul, ← div_eq_mul_one_div]
theorem v124 : val_main_v124 (F := Ideal) (upf X) (up1 gq) (up1 gk) (upf D) (ix3 t h e) = ((dxG (xs X 0 h) gq (qH X gq gk D h) t e : ℝ) : EReal) := by
  pointwise [val_main_v124, val_main_v123, val_main_v122, val_main_v121, val_main_v120, val_main_v115, val_main_v114]
  rw [v108, v11, v3, v119]
  simp only [← EReal.coe_mul, ← EReal.coe_add]
  exact congrArg _ (back (xs X 0 h t) (fun d => qH X gq gk D h t d * gq d) _ rfl e)
theorem v105 : val_main_v105 (F := Ideal) (upf X) (up1 gq) (up1 gk) (upf D) (ix1 e) = ((∑ h, dgG (xs X 0 h) (qH X gq gk D h) e : ℝ) : EReal) := by
  refine (host_add01 _ (val_main_v104 (F := Ideal) (upf X) (up1 gq) (up1 gk) (upf D)) _ (by pointwise [val_main_cst_16]) e).trans ?_
  pointwise [val_main_v104]
  simp only [v16, v80, dgG, coe_sum, EReal.coe_mul]
  rw [Finset.sum_comm]
  exact Finset.sum_congr rfl fun h _ => Finset.sum_congr rfl fun t _ => mul_comm _ _
theorem v110 : val_main_v110 (F := Ideal) (upf X) (up1 gq) (up1 gk) (upf D) = gqArr X gq gk D := by
  funext j
  idx_vars j
  pointwise [val_main_v110]
  refine (host_add01 _ (val_main_v106 (F := Ideal) (upf X) (up1 gq) (up1 gk) (upf D)) _ (by pointwise [val_main_cst_17]) j1).trans ?_
  rw [Fin.sum_univ_one, Fin.sum_univ_one]
  pointwise [val_main_v106]
  exact v105 X gq gk D j1

theorem v134 : val_main_v134 (F := Ideal) (upf X) (up1 gq) (up1 gk) (upf D) = dArr X gq gk D := by
  funext j
  idx_vars j
  pointwise [val_main_v134, val_main_v133, val_main_v132, val_main_v131, val_main_v130, val_main_v129, val_main_v128, val_main_v127, val_main_v126, val_main_v125, val_main_v103, val_main_v81]
  show _ = ((dH X gq gk D (hd j2) j0.val j1 (pl j2) : ℝ) : EReal)
  rw [dH, h3]
  by_cases c0 : j0.val < 1
  · rw [dif_pos c0, if_neg (by omega), if_neg (by omega), v124]
    rfl
  · rw [dif_neg c0]
    by_cases c1 : j0.val - 1 < 1
    · rw [dif_pos c1, if_neg (by omega), if_pos (by omega), v102]
      rfl
    · have hj := j0.isLt
      have c2 : j0.val = 2 := by clear c0; omega
      have c3 : ¬ (4096 + j2.val < 2048) := by clear c1 c2 c0 hj; omega
      have c4 : ¬ (4096 + j2.val - 2048 < 2048) := by clear c1 c2 c0 hj c3; omega
      rw [dif_neg c1, dif_neg c3, dif_neg c4, if_pos c2]
      have hc : 4096 + j2.val - 2048 - 2048 = j2.val := by omega
      simp only [hc]
      exact v64 X gq gk D j1 (hd j2) (pl j2)
end
end Cert.Proof.Attn.Ref
-- ==== Proof.Attn.lean ====
/- The attention: the kernel's results are the reference's, over the reals. -/
module

public import proofs.«01_k».proof.Defs
public import proofs.«01_k».proof.Proof.AttnBits
public import proofs.«01_k».proof.Proof.AttnHost
public import proofs.«01_k».proof.Proof.AttnRef2
public import proofs.«01_k».proof.Proof.Finite
public import proofs.«01_k».proof.Proof.Gen.Pre_attn_finite

set_option maxRecDepth 16384
@[expose] public section
noncomputable section
namespace Cert.Proof.Attn
open Idealize.ShloMosaic Idealize.ShloMosaic.TcCoe Idealize.SL.Sem
open Cert.Arith

/-- Under the precondition the arguments are arrays of reals. -/
theorem reals (m : (ℓ : Loc Cert.AttnKernelIdeal.nD Cert.AttnKernelIdeal.τ Cert.AttnKernelIdeal.sig) → Buf (Elt Ideal) ℓ)
    (h : Cert.Pre_AttnKernelIdeal_attn_finite m) (c : Dev Cert.AttnKernelIdeal.nD) : ∃ X gq gk D, Reals m c X gq gk D := by
  obtain ⟨h0, h1, h2, h3⟩ := h c
  have r0 : ∀ j, IsReal (argX m c j) := fun j => fin_of_cmp _ _ _ lit_inf (congrFun h0 j)
  have r1 : ∀ j, IsReal (argGq m c j) := fun j => fin_of_cmp _ _ _ lit_inf (congrFun h1 j)
  have r2 : ∀ j, IsReal (argGk m c j) := fun j => fin_of_cmp _ _ _ lit_inf (congrFun h2 j)
  have r3 : ∀ j, IsReal (argD m c j) := fun j => fin_of_cmp _ _ _ lit_inf (congrFun h3 j)
  choose f0 e0 using r0
  choose f1 e1 using r1
  choose f2 e2 using r2
  choose f3 e3 using r3
  refine ⟨fun t j => f0 (ix2 t j), fun j => f1 (ix2 0 j), fun j => f2 (ix2 0 j), fun t j => f3 (ix2 t j), ⟨?_, ?_, ?_, ?_⟩⟩
  · funext j; idx_vars j; exact e0 _
  · funext j; idx_vars j; rw [Fin.fin_one_eq_zero j0]; exact e1 _
  · funext j; idx_vars j; rw [Fin.fin_one_eq_zero j0]; exact e2 _
  · funext j; idx_vars j; exact e3 _

/-- The reference's run, its results by the names of their terms. -/
theorem reference_run (m : (ℓ : Loc Cert.AttnReferenceIdeal.nD Cert.AttnReferenceIdeal.τ Cert.AttnReferenceIdeal.sig) → Buf (Elt Ideal) ℓ)
    (ρ : Dev Cert.AttnReferenceIdeal.nD → PrngReg) :
    θ_run (Cert.AttnReferenceIdeal.defs (F := Ideal)) (onTc (τ := Cert.AttnReferenceIdeal.τ) (Cert.AttnReferenceIdeal.main (F := Ideal))) ⟨m, fun _ => 0, ρ⟩
      fun r => ∀ c : Dev Cert.AttnReferenceIdeal.nD, ∀ a0 a1 a2 a3,
        m ((c.tc : Thread Cert.AttnReferenceIdeal.nD Cert.AttnReferenceIdeal.τ).loc Cert.AttnReferenceIdeal.main_arg0) = a0 →
        m ((c.tc : Thread Cert.AttnReferenceIdeal.nD Cert.AttnReferenceIdeal.τ).loc Cert.AttnReferenceIdeal.main_arg1) = a1 →
        m ((c.tc : Thread Cert.AttnReferenceIdeal.nD Cert.AttnReferenceIdeal.τ).loc Cert.AttnReferenceIdeal.main_arg2) = a2 →
        m ((c.tc : Thread Cert.AttnReferenceIdeal.nD Cert.AttnReferenceIdeal.τ).loc Cert.AttnReferenceIdeal.main_arg3) = a3 →
        r.2.mem ((c.tc : Thread Cert.AttnReferenceIdeal.nD Cert.AttnReferenceIdeal.τ).loc Cert.AttnReferenceIdeal.main_v59)
          = Cert.AttnReferenceIdeal.Read.val_main_v59 (F := Ideal) a0 a1 a2
        ∧ r.2.mem ((c.tc : Thread Cert.AttnReferenceIdeal.nD Cert.AttnReferenceIdeal.τ).loc Cert.AttnReferenceIdeal.main_v134)
          = Cert.AttnReferenceIdeal.Read.val_main_v134 (F := Ideal) a0 a1 a2 a3
        ∧ r.2.mem ((c.tc : Thread Cert.AttnReferenceIdeal.nD Cert.AttnReferenceIdeal.τ).loc Cert.AttnReferenceIdeal.main_v110)
          = Cert.AttnReferenceIdeal.Read.val_main_v110 (F := Ideal) a0 a1 a2 a3
        ∧ r.2.mem ((c.tc : Thread Cert.AttnReferenceIdeal.nD Cert.AttnReferenceIdeal.τ).loc Cert.AttnReferenceIdeal.main_v88)
          = Cert.AttnReferenceIdeal.Read.val_main_v88 (F := Ideal) a0 a1 a2 a3 := by
  refine (θ_run (Cert.AttnReferenceIdeal.defs (F := Ideal)) _ _).mono (fun _ h c a0 a1 a2 a3 e0 e1 e2 e3 => ?_) (Cert.AttnReferenceIdeal.Value.run m ρ)
  subst e0 e1 e2 e3
  exact ⟨(h c).1.trans (Cert.AttnReferenceIdeal.Read.val_main_v59_eq _), (h c).2.1.trans (Cert.AttnReferenceIdeal.Read.val_main_v134_eq _),
    (h c).2.2.1.trans (Cert.AttnReferenceIdeal.Read.val_main_v110_eq _), (h c).2.2.2.1.trans (Cert.AttnReferenceIdeal.Read.val_main_v88_eq _)⟩

/-- The output and the three gradients are the reference's, over the reals. -/
theorem algebraic : Cert.algebraic_AttnKernelIdeal_AttnReferenceIdeal_pre_attn_finite := by
  intro m g m' g' hpre hagree
  choose X gq gk D hR using fun c => reals m hpre c
  refine ⟨fun c => oArr (X c) (gq c) (gk c), fun c => dArr (X c) (gq c) (gk c) (D c), fun c => gqArr (X c) (gq c) (gk c) (D c), fun c => gkArr (X c) (gq c) (gk c) (D c), ?_, ?_⟩
  · refine θ_run_mono (θ_run_and (exit_run m g) (frame_any m g)) fun r h c => ?_
    exact ⟨(h.1.1 c _ (mem_uc _ (by decide))).trans (exit_o m g c _ _ _ _ (hR c)),
      (h.1.1 c _ (mem_uc _ (by decide))).trans (exit_d m g c _ _ _ _ (hR c)),
      (h.1.1 c _ (mem_uc _ (by decide))).trans (exit_gq m g c _ _ _ _ (hR c)),
      (h.1.1 c _ (mem_uc _ (by decide))).trans (exit_gk m g c _ _ _ _ (hR c)), h.2.1 c⟩
  · refine θ_run_mono (θ_run_and (reference_run m' g') (Cert.AttnReferenceIdeal.Value.run m' g')) fun r h c => ?_
    obtain ⟨e0, e1, e2, e3⟩ := hagree c
    obtain ⟨h0, h1, h2, h3⟩ := h.1 c _ _ _ _ (e0.trans (hR c).x) (e1.trans (hR c).q) (e2.trans (hR c).k) (e3.trans (hR c).d)
    exact ⟨h0.trans (Ref.v59 _ _ _), h1.trans (Ref.v134 _ _ _ _), h2.trans (Ref.v110 _ _ _ _), h3.trans (Ref.v88 _ _ _ _), (h.2 c).2.2.2.2⟩

end Cert.Proof.Attn
end
-- ==== Proof.Products.lean ====
module

public import proofs.«01_k».proof.Defs
public import proofs.«01_k».proof.Proof.Arith
public import proofs.«01_k».proof.Proof.Gen.ProjKernelIdeal.Value
public import proofs.«01_k».proof.Proof.Gen.ProjReferenceIdeal.Run
public import proofs.«01_k».proof.Proof.Gen.ProjReferenceIdeal.Read
public import proofs.«01_k».proof.Proof.Gen.ResKernelIdeal.Value
public import proofs.«01_k».proof.Proof.Gen.ResReferenceIdeal.Run
public import proofs.«01_k».proof.Proof.Gen.ResReferenceIdeal.Read
public import proofs.«01_k».proof.Proof.Gen.DownKernelIdeal.Value
public import proofs.«01_k».proof.Proof.Gen.DownReferenceIdeal.Run
public import proofs.«01_k».proof.Proof.Gen.DownReferenceIdeal.Read
public import Idealize.ShloMosaic.Lib.Pointwise
public import Idealize.ShloMosaic.Lib.Pipeline.ValueKit
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)
open Cert.Arith

/-! The projection by eight column shards, forward: one block of rows and one shard at each grid point. -/

namespace Cert.ProjReferenceIdeal.Named

open Cert.ProjReferenceIdeal Cert.ProjReferenceIdeal.Gen Cert.ProjReferenceIdeal.Read

theorem ref_at (x : Vec Ideal S4096x2048 .f32) (w : Vec Ideal S2048x6144 .f32) (s : Fin 8) (r : Fin 4096) (q : Fin 768) :
    val_main_v2 (F := Ideal) x w (ix3 s r q) = ∑ k, x (ix2 r k) * w (ix2 k ⟨s.val * 768 + q.val, by omega⟩) := by
  pointwise [val_main_v0, val_main_v1, val_main_v2]

end Cert.ProjReferenceIdeal.Named

namespace Cert.ProjKernelIdeal.RefValue

open Cert.ProjKernelIdeal Cert.ProjKernelIdeal.Gen

variable (m : (ℓ : Loc nD τ sig) → Buf (Elt Ideal) ℓ)

abbrev argX (c : Dev nD) : Vec Ideal S4096x2048 .f32 := m ((c.tc : Thread nD τ).loc main_arg0)
abbrev argW (c : Dev nD) : Vec Ideal S2048x6144 .f32 := m ((c.tc : Thread nD τ).loc main_arg1)

theorem ltN (t : Fin cfg0.N) : t.val < 32 := by have := t.isLt; have h : cfg0.N = 32 := N_0; omega

theorem idx : ∀ t : Fin cfg0.N, win0_0.index t = ![t.val % 4, 0] ∧ win0_1.index t = ![t.val / 4, 0, 0] ∧ win0_2.index t = ![t.val / 4, t.val % 4, 0] :=
  (by decide +kernel : ∀ t : Fin grid0.N, _)

abbrev shard (t : Fin cfg0.N) : Fin 8 := ⟨t.val / 4, by have := ltN t; omega⟩
abbrev rowAt (t : Fin cfg0.N) (i : Fin 1024) : Fin 4096 := ⟨t.val % 4 * 1024 + i.val, by omega⟩

theorem V_v2 (c : Dev nD) (i) : (V m c main_v2 : Vec Ideal S4096x2048 .bf16) i = argX m c i := by
  have e : (V m c main_v2 : Vec Ideal S4096x2048 .bf16) = truncf (F := Ideal) .bf16 (argX m c) bitsLt_bf16_f32 := by
    entry_read
    rfl
  rw [e]
  rfl

theorem V_v3 (c : Dev nD) (s : Fin 8) (r : Fin 2048) (q : Fin 768) :
    (V m c main_v3 : Vec Ideal S8x2048x768 .bf16) (ix3 s r q) = argW m c (ix2 r ⟨s.val * 768 + q.val, by omega⟩) := by
  have e : (V m c main_v3 : Vec Ideal S8x2048x768 .bf16) = truncf (F := Ideal) .bf16
      (transpose S8x2048x768 [1, 0, 2] (shapeCast _ (argW m c) shapeCasts_S2048x6144_S2048x8x768) transposes_S2048x8x768_S8x2048x768_1_0_2)
      bitsLt_bf16_f32 := by
    entry_read
    rfl
  rw [e]
  generalize argW m c = x
  pointwise

theorem blk0 (c : Dev nD) (t : Fin cfg0.N) (i : Fin 1024) (k : Fin 2048) :
    (iblk m c 0 t : Vec Ideal S1024x2048 .bf16) (ix2 i k) = argX m c (ix2 (rowAt t i) k) := by
  rw [← V_v2]
  blk_ext [iblk, idx t]

theorem blk1 (c : Dev nD) (t : Fin cfg0.N) (k : Fin 2048) (q : Fin 768) :
    (iblk m c 1 t : Vec Ideal S1x2048x768 .bf16) (ix3 0 k q) = argW m c (ix2 k ⟨(shard t).val * 768 + q.val, by have := (shard t).isLt; omega⟩) := by
  rw [← V_v3]
  blk_ext [iblk, idx t]

/-- One point's block is the reference's. -/
theorem point (c : Dev nD) (t : Fin cfg0.N) (y : S1x1024x768.Idx) :
    k0_pay1 (F := Ideal) (iblk m c 0 t) (iblk m c 1 t) y
      = Cert.ProjReferenceIdeal.Read.val_main_v2 (F := Ideal) (argX m c) (argW m c) (ix3 (shard t) (rowAt t (y 1)) (y 2)) := by
  idx_vars y
  rw [Cert.ProjReferenceIdeal.Named.ref_at]
  generalize h0 : (iblk m c 0 t : Vec Ideal S1024x2048 .bf16) = b0
  generalize h1 : (iblk m c 1 t : Vec Ideal S1x2048x768 .bf16) = b1
  pointwise [k0_pay1]
  subst h0 h1
  simp only [blk0, blk1]

theorem final (c : Dev nD) : (dats m 0 c).arrAt 2 cfg0.N = Cert.ProjReferenceIdeal.Read.val_main_v2 (F := Ideal) (argX m c) (argW m c) := by
  refine (dats m 0 c).arrAt_eq_of_covers 2 _ (by decide +kernel) fun t hf y => ?_
  blk_simp
  rw [after0_2]
  trans k0_pay1 (F := Ideal) (iblk m c 0 t) (iblk m c 1 t) y
  · frame_out
  · rw [point]
    congr 1
    funext a
    apply Fin.ext
    fin_cases a <;> simp [idx t]

theorem run (ρ : Dev nD → PrngReg) :
    θ_run (defs (F := Ideal)) (onTc (τ := τ) (main (F := Ideal))) ⟨m, fun _ => 0, ρ⟩ fun r => ∀ c : Dev nD,
    r.2.mem ((c.tc : Thread nD τ).loc main_v4) = Cert.ProjReferenceIdeal.Read.val_main_v2 (F := Ideal) (argX m c) (argW m c)
    ∧ r.2.mem ((c.tc : Thread nD τ).loc main_arg0) = m ((c.tc : Thread nD τ).loc main_arg0)
    ∧ r.2.mem ((c.tc : Thread nD τ).loc main_arg1) = m ((c.tc : Thread nD τ).loc main_arg1) := by
  refine θ_run_mono (Cert.ProjKernelIdeal.Value.run_blocks m ρ) fun r h c => ?_
  obtain ⟨h0, h⟩ := h c
  exact ⟨h0.trans (final m c), h⟩

end Cert.ProjKernelIdeal.RefValue

namespace Cert.Proof.Proj

/-- The call's results are the reference's, over the reals. -/
theorem algebraic : Cert.algebraic_ProjKernelIdeal_ProjReferenceIdeal := by
  pair_intro
  · run_from Cert.ProjKernelIdeal.RefValue.run m g
  · refine θ_run_mono (Cert.ProjReferenceIdeal.Value.run m' g') fun r h c => ?_
    obtain ⟨e0, e1⟩ := hagree c
    obtain ⟨h0, h⟩ := h c
    exact ⟨(h0.trans (Cert.ProjReferenceIdeal.Read.val_main_v2_eq _ _)).trans (congrArg₂ _ e0 e1), h⟩

end Cert.Proof.Proj

/-! A product added to the residual stream: one block of rows and one of columns at each grid point. -/

namespace Cert.ResReferenceIdeal.Named

open Cert.ResReferenceIdeal Cert.ResReferenceIdeal.Gen Cert.ResReferenceIdeal.Read

theorem ref_at (a : Vec Ideal S4096x2048 .f32) (w : Vec Ideal S2048x2048 .f32) (x : Vec Ideal S4096x2048 .f32) (r : Fin 4096) (q : Fin 2048) :
    val_main_v1 (F := Ideal) a w x (ix2 r q) = x (ix2 r q) + ∑ k, a (ix2 r k) * w (ix2 k q) := by
  pointwise [val_main_v0, val_main_v1]

end Cert.ResReferenceIdeal.Named

namespace Cert.ResKernelIdeal.RefValue

open Cert.ResKernelIdeal Cert.ResKernelIdeal.Gen

variable (m : (ℓ : Loc nD τ sig) → Buf (Elt Ideal) ℓ)

abbrev argA (c : Dev nD) : Vec Ideal S4096x2048 .f32 := m ((c.tc : Thread nD τ).loc main_arg0)
abbrev argW (c : Dev nD) : Vec Ideal S2048x2048 .f32 := m ((c.tc : Thread nD τ).loc main_arg1)
abbrev argX (c : Dev nD) : Vec Ideal S4096x2048 .f32 := m ((c.tc : Thread nD τ).loc main_arg2)

theorem ltN (t : Fin cfg0.N) : t.val < 16 := by have := t.isLt; have h : cfg0.N = 16 := N_0; omega

theorem idx : ∀ t : Fin cfg0.N, win0_0.index t = ![t.val % 8, 0] ∧ win0_1.index t = ![0, t.val / 8] ∧ win0_2.index t = ![t.val % 8, t.val / 8] ∧ win0_3.index t = ![t.val % 8, t.val / 8] :=
  (by decide +kernel : ∀ t : Fin grid0.N, _)

abbrev rowAt (t : Fin cfg0.N) (i : Fin 512) : Fin 4096 := ⟨t.val % 8 * 512 + i.val, by omega⟩
abbrev colAt (t : Fin cfg0.N) (j : Fin 1024) : Fin 2048 := ⟨t.val / 8 * 1024 + j.val, by have := ltN t; omega⟩

theorem V_v0 (c : Dev nD) (i) : (V m c main_v0 : Vec Ideal S4096x2048 .bf16) i = argA m c i := by
  have e : (V m c main_v0 : Vec Ideal S4096x2048 .bf16) = truncf (F := Ideal) .bf16 (argA m c) bitsLt_bf16_f32 := by
    entry_read
    rfl
  rw [e]
  rfl

theorem V_v1 (c : Dev nD) (i) : (V m c main_v1 : Vec Ideal S2048x2048 .bf16) i = argW m c i := by
  have e : (V m c main_v1 : Vec Ideal S2048x2048 .bf16) = truncf (F := Ideal) .bf16 (argW m c) bitsLt_bf16_f32 := by
    entry_read
    rfl
  rw [e]
  rfl

theorem blk0 (c : Dev nD) (t : Fin cfg0.N) (i : Fin 512) (k : Fin 2048) :
    (iblk m c 0 t : Vec Ideal S512x2048 .bf16) (ix2 i k) = argA m c (ix2 (rowAt t i) k) := by
  rw [← V_v0]
  blk_ext [iblk, idx t]

theorem blk1 (c : Dev nD) (t : Fin cfg0.N) (k : Fin 2048) (q : Fin 1024) :
    (iblk m c 1 t : Vec Ideal S2048x1024 .bf16) (ix2 k q) = argW m c (ix2 k (colAt t q)) := by
  rw [← V_v1]
  blk_ext [iblk, idx t]

theorem blk2 (c : Dev nD) (t : Fin cfg0.N) (i : Fin 512) (q : Fin 1024) :
    (iblk m c 2 t : Vec Ideal S512x1024 .f32) (ix2 i q) = argX m c (ix2 (rowAt t i) (colAt t q)) := by
  blk_ext [iblk, V, idx t]

/-- One point's block is the reference's. -/
theorem point (c : Dev nD) (t : Fin cfg0.N) (y : S512x1024.Idx) :
    k0_pay1 (F := Ideal) (iblk m c 2 t) (iblk m c 0 t) (iblk m c 1 t) y
      = Cert.ResReferenceIdeal.Read.val_main_v1 (F := Ideal) (argA m c) (argW m c) (argX m c) (ix2 (rowAt t (y 0)) (colAt t (y 1))) := by
  idx_vars y
  rw [Cert.ResReferenceIdeal.Named.ref_at]
  generalize h0 : (iblk m c 0 t : Vec Ideal S512x2048 .bf16) = b0
  generalize h1 : (iblk m c 1 t : Vec Ideal S2048x1024 .bf16) = b1
  generalize h2 : (iblk m c 2 t : Vec Ideal S512x1024 .f32) = b2
  pointwise [k0_pay1]
  subst h0 h1 h2
  simp only [blk0, blk1, blk2]

theorem final (c : Dev nD) : (dats m 0 c).arrAt 3 cfg0.N = Cert.ResReferenceIdeal.Read.val_main_v1 (F := Ideal) (argA m c) (argW m c) (argX m c) := by
  refine (dats m 0 c).arrAt_eq_of_covers 3 _ (by decide +kernel) fun t hf y => ?_
  blk_simp
  rw [after0_3]
  trans k0_pay1 (F := Ideal) (iblk m c 2 t) (iblk m c 0 t) (iblk m c 1 t) y
  · frame_out
  · rw [point]
    congr 1
    funext a
    apply Fin.ext
    fin_cases a <;> simp [idx t]

theorem run (ρ : Dev nD → PrngReg) :
    θ_run (defs (F := Ideal)) (onTc (τ := τ) (main (F := Ideal))) ⟨m, fun _ => 0, ρ⟩ fun r => ∀ c : Dev nD,
    r.2.mem ((c.tc : Thread nD τ).loc main_v2) = Cert.ResReferenceIdeal.Read.val_main_v1 (F := Ideal) (argA m c) (argW m c) (argX m c)
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2) := by
  refine θ_run_mono (Cert.ResKernelIdeal.Value.run_blocks m ρ) fun r h c => ?_
  obtain ⟨h0, h⟩ := h c
  exact ⟨h0.trans (final m c), h⟩

end Cert.ResKernelIdeal.RefValue

namespace Cert.Proof.Res

/-- The call's results are the reference's, over the reals. -/
theorem algebraic : Cert.algebraic_ResKernelIdeal_ResReferenceIdeal := by
  pair_intro
  · run_from Cert.ResKernelIdeal.RefValue.run m g
  · refine θ_run_mono (Cert.ResReferenceIdeal.Value.run m' g') fun r h c => ?_
    obtain ⟨e0, e1, e2⟩ := hagree c
    obtain ⟨h0, h⟩ := h c
    refine ⟨(h0.trans (Cert.ResReferenceIdeal.Read.val_main_v1_eq _ _ _)).trans ?_, h⟩
    rw [e0, e1, e2]

end Cert.Proof.Res

/-! A product over eight shards added to the residual stream: the kernel starts from the residual's block and adds two shards at each step of its grid. -/

namespace Cert.DownReferenceIdeal.Named

open Cert.DownReferenceIdeal Cert.DownReferenceIdeal.Gen Cert.DownReferenceIdeal.Read

theorem ref_at (u : Vec Ideal S4096x5632 .f32) (w : Vec Ideal S5632x2048 .f32) (x : Vec Ideal S4096x2048 .f32) (r : Fin 4096) (q : Fin 2048) :
    val_main_v1 (F := Ideal) u w x (ix2 r q) = x (ix2 r q) + ∑ k : Fin 5632, u (ix2 r k) * w (ix2 k q) := by
  pointwise [val_main_v0, val_main_v1]

end Cert.DownReferenceIdeal.Named

namespace Cert.DownKernelIdeal.RefValue

open Cert.DownKernelIdeal Cert.DownKernelIdeal.Gen

variable (m : (ℓ : Loc nD τ sig) → Buf (Elt Ideal) ℓ)

abbrev argU (c : Dev nD) : Vec Ideal S4096x5632 .f32 := m ((c.tc : Thread nD τ).loc main_arg0)
abbrev argW (c : Dev nD) : Vec Ideal S5632x2048 .f32 := m ((c.tc : Thread nD τ).loc main_arg1)
abbrev argX (c : Dev nD) : Vec Ideal S4096x2048 .f32 := m ((c.tc : Thread nD τ).loc main_arg2)

theorem ltN (t : Fin cfg0.N) : t.val < 32 := by have := t.isLt; have h : cfg0.N = 32 := N_0; omega

theorem idx : ∀ t : Fin cfg0.N, win0_0.index t = ![t.val % 4, t.val / 8, 0] ∧ win0_1.index t = ![t.val % 4, 0, t.val / 4 % 2] ∧ win0_2.index t = ![t.val / 8, t.val / 4 % 2] ∧ win0_3.index t = ![t.val / 8, t.val / 4 % 2] :=
  (by decide +kernel : ∀ t : Fin grid0.N, _)

abbrev rowAt (t : Fin cfg0.N) (i : Fin 1024) : Fin 4096 := ⟨t.val / 8 * 1024 + i.val, by have := ltN t; omega⟩
abbrev colAt (t : Fin cfg0.N) (j : Fin 1024) : Fin 2048 := ⟨t.val / 4 % 2 * 1024 + j.val, by omega⟩
abbrev stepAt (t : Fin cfg0.N) : Fin 4 := ⟨t.val % 4, by omega⟩
/-- The shard `a` of the two that step `s` reads. -/
abbrev pair (s : Fin 4) (a : Fin 2) : Fin 8 := ⟨s.val * 2 + a.val, by omega⟩
abbrev inner (b : Fin 8) (k : Fin 704) : Fin 5632 := ⟨b.val * 704 + k.val, by omega⟩

theorem sum_pairs (g : Fin 8 → EReal) : ∑ s : Fin 4, (g (pair s 0) + g (pair s 1)) = ∑ b, g b := by
  simp only [Fin.sum_univ_four, Fin.sum_univ_eight, add_assoc]
  rfl

theorem V_v2 (c : Dev nD) (s : Fin 8) (r : Fin 4096) (q : Fin 704) :
    (V m c main_v2 : Vec Ideal S8x4096x704 .bf16) (ix3 s r q) = argU m c (ix2 r ⟨s.val * 704 + q.val, by omega⟩) := by
  have e : (V m c main_v2 : Vec Ideal S8x4096x704 .bf16) = truncf (F := Ideal) .bf16
      (transpose S8x4096x704 [1, 0, 2] (shapeCast _ (argU m c) shapeCasts_S4096x5632_S4096x8x704) transposes_S4096x8x704_S8x4096x704_1_0_2)
      bitsLt_bf16_f32 := by
    entry_read
    rfl
  rw [e]
  generalize argU m c = x
  pointwise

theorem V_v4 (c : Dev nD) (s : Fin 8) (r : Fin 704) (q : Fin 2048) :
    (V m c main_v4 : Vec Ideal S8x704x2048 .bf16) (ix3 s r q) = argW m c (ix2 ⟨s.val * 704 + r.val, by omega⟩ q) := by
  have e : (V m c main_v4 : Vec Ideal S8x704x2048 .bf16) = truncf (F := Ideal) .bf16
      (shapeCast _ (argW m c) shapeCasts_S5632x2048_S8x704x2048) bitsLt_bf16_f32 := by
    entry_read
    rfl
  rw [e]
  generalize argW m c = x
  pointwise

theorem blk0 (c : Dev nD) (t : Fin cfg0.N) (a : Fin 2) (i : Fin 1024) (k : Fin 704) :
    (iblk m c 0 t : Vec Ideal S2x1024x704 .bf16) (ix3 a i k) = argU m c (ix2 (rowAt t i) (inner (pair (stepAt t) a) k)) := by
  rw [← V_v2]
  blk_ext [iblk, idx t]

theorem blk1 (c : Dev nD) (t : Fin cfg0.N) (a : Fin 2) (k : Fin 704) (q : Fin 1024) :
    (iblk m c 1 t : Vec Ideal S2x704x1024 .bf16) (ix3 a k q) = argW m c (ix2 (inner (pair (stepAt t) a) k) (colAt t q)) := by
  rw [← V_v4]
  blk_ext [iblk, idx t]

theorem blk2 (c : Dev nD) (t : Fin cfg0.N) (i : Fin 1024) (q : Fin 1024) :
    (iblk m c 2 t : Vec Ideal S1024x1024 .f32) (ix2 i q) = argX m c (ix2 (rowAt t i) (colAt t q)) := by
  blk_ext [iblk, V, idx t]

theorem ld0 (c : Dev nD) (t : Fin cfg0.N) (a : Fin 2) (off : Fin 3 → ℕ) (inb) (ho : off = ![a.val, 0, 0]) (i : Fin 1024) (k : Fin 704) :
    View.ld (iblk m c 0 t : Vec Ideal S2x1024x704 .bf16) (Rect.unit off ![1, 1024, 704] inb) (ix3 0 i k) = (iblk m c 0 t : Vec Ideal S2x1024x704 .bf16) (ix3 a i k) := by
  subst ho
  generalize (iblk m c 0 t : Vec Ideal S2x1024x704 .bf16) = b
  pointwise

theorem ld1 (c : Dev nD) (t : Fin cfg0.N) (a : Fin 2) (off : Fin 3 → ℕ) (inb) (ho : off = ![a.val, 0, 0]) (k : Fin 704) (q : Fin 1024) :
    View.ld (iblk m c 1 t : Vec Ideal S2x704x1024 .bf16) (Rect.unit off ![1, 704, 1024] inb) (ix3 0 k q) = (iblk m c 1 t : Vec Ideal S2x704x1024 .bf16) (ix3 a k q) := by
  subst ho
  generalize (iblk m c 1 t : Vec Ideal S2x704x1024 .bf16) = b
  pointwise

/-- One shard's share of an element of the product, and the share of a step: its two shards', and at the first step the residual. -/
def share (c : Dev nD) (i : Fin 4096) (q : Fin 2048) (b : Fin 8) : EReal :=
  ∑ k : Fin 704, argU m c (ix2 i (inner b k)) * argW m c (ix2 (inner b k) q)
def tile (c : Dev nD) (i : Fin 4096) (q : Fin 2048) (s : Fin 4) : EReal :=
  (if s.val = 0 then argX m c (ix2 i q) else 0) + (share m c i q (pair s 0) + share m c i q (pair s 1))
theorem tiles (c : Dev nD) (i : Fin 4096) (q : Fin 2048) :
    ∑ s, tile m c i q s = argX m c (ix2 i q) + ∑ k : Fin 5632, argU m c (ix2 i k) * argW m c (ix2 k q) := by
  unfold tile
  rw [Finset.sum_add_distrib, sum_pairs (share m c i q)]
  refine congrArg₂ (· + ·) ?_ (Fin.sum_mul_add_fin 8 704 (L := 5632) (fun k => argU m c (ix2 i k) * argW m c (ix2 k q)))
  simp [Fin.sum_univ_four]
def part (c : Dev nD) (p : Fin cfg0.N) (j : S1024x1024.Idx) : EReal := tile m c (rowAt p (j 0)) (colAt p (j 1)) (stepAt p)

/-- The body's step on what the scratch holds. -/
def step (c : Dev nD) (t : Fin cfg0.N) (a : Vec Ideal S1024x1024 .f32) : Vec Ideal S1024x1024 .f32 :=
  k0_pay2 a (View.ld (iblk m c 0 t : Vec Ideal S2x1024x704 .bf16) (Rect.unit ![0, 0, 0] ![1, 1024, 704] inb_S2x1024x704_S1x1024x704_0_0_0)) (View.ld (iblk m c 1 t : Vec Ideal S2x704x1024 .bf16) (Rect.unit ![0, 0, 0] ![1, 704, 1024] inb_S2x704x1024_S1x704x1024_0_0_0))
    (View.ld (iblk m c 0 t : Vec Ideal S2x1024x704 .bf16) (Rect.unit ![1, 0, 0] ![1, 1024, 704] inb_S2x1024x704_S1x1024x704_1_0_0)) (View.ld (iblk m c 1 t : Vec Ideal S2x704x1024 .bf16) (Rect.unit ![1, 0, 0] ![1, 704, 1024] inb_S2x704x1024_S1x704x1024_1_0_0))

theorem step_add (c : Dev nD) (t : Fin cfg0.N) (a : Vec Ideal S1024x1024 .f32) (i q : Fin 1024) :
    step m c t a (ix2 i q) = a (ix2 i q) + (share m c (rowAt t i) (colAt t q) (pair (stepAt t) 0) + share m c (rowAt t i) (colAt t q) (pair (stepAt t) 1)) := by
  have u0 := fun k => (ld0 m c t 0 _ inb_S2x1024x704_S1x1024x704_0_0_0 rfl i k).trans (blk0 m c t 0 i k)
  have u1 := fun k => (ld0 m c t 1 _ inb_S2x1024x704_S1x1024x704_1_0_0 rfl i k).trans (blk0 m c t 1 i k)
  have w0 := fun k => (ld1 m c t 0 _ inb_S2x704x1024_S1x704x1024_0_0_0 rfl k q).trans (blk1 m c t 0 k q)
  have w1 := fun k => (ld1 m c t 1 _ inb_S2x704x1024_S1x704x1024_1_0_0 rfl k q).trans (blk1 m c t 1 k q)
  unfold step share
  simp only [← u0, ← u1, ← w0, ← w1]
  clear u0 u1 w0 w1
  generalize View.ld (iblk m c 0 t : Vec Ideal S2x1024x704 .bf16) (Rect.unit ![0, 0, 0] ![1, 1024, 704] inb_S2x1024x704_S1x1024x704_0_0_0) = p0
  generalize View.ld (iblk m c 0 t : Vec Ideal S2x1024x704 .bf16) (Rect.unit ![1, 0, 0] ![1, 1024, 704] inb_S2x1024x704_S1x1024x704_1_0_0) = p1
  generalize View.ld (iblk m c 1 t : Vec Ideal S2x704x1024 .bf16) (Rect.unit ![0, 0, 0] ![1, 704, 1024] inb_S2x704x1024_S1x704x1024_0_0_0) = p2
  generalize View.ld (iblk m c 1 t : Vec Ideal S2x704x1024 .bf16) (Rect.unit ![1, 0, 0] ![1, 704, 1024] inb_S2x704x1024_S1x704x1024_1_0_0) = p3
  pointwise [k0_pay2]

theorem first_copy (v : Vec Ideal S1024x1024 .f32) (j : S1024x1024.Idx) : k0_pay1 (F := Ideal) v j = v j := by
  pointwise [k0_pay1]

theorem step_first (c : Dev nD) (t : Fin cfg0.N) (h : t.val % 4 = 0) (j : S1024x1024.Idx) :
    step m c t (k0_pay1 (F := Ideal) (iblk m c 2 t)) j = part m c t j := by
  idx_vars j
  rw [step_add, first_copy, blk2]
  unfold part tile
  rw [if_pos h]
  rfl

theorem step_next (c : Dev nD) (t : Fin cfg0.N) (h : ¬t.val % 4 = 0) (a : Vec Ideal S1024x1024 .f32) (j : S1024x1024.Idx) :
    step m c t a j = a j + part m c t j := by
  idx_vars j
  rw [step_add]
  unfold part tile
  rw [if_neg h, zero_add]
  rfl

/-- The last step of a run stores what the scratch then holds. -/
theorem out_scratch (c : Dev nD) (t : Fin cfg0.N) (h : t.val % 4 = 3) (y : S1024x1024.Idx) :
    (outsAt0 m c t.val t.isLt).1 y = (outsAt0 m c t.val t.isLt).2 y := by
  rw [outsAt0_C m c t (by omega) h]
  trans step m c t (outsAt0 m c (t.val - 1) (Nat.lt_of_le_of_lt (Nat.sub_le _ _) t.isLt)).2 y
  · frame_out; rw [read_unread_whole]; rfl
  · symm; frame_out; rw [read_unread_whole]; rfl

theorem final (c : Dev nD) : (dats m 0 c).arrAt 3 cfg0.N = Cert.DownReferenceIdeal.Read.val_main_v1 (F := Ideal) (argU m c) (argW m c) (argX m c) := by
  refine (dats m 0 c).arrAt_eq_of_covers 3 _ (by decide +kernel) fun t hf y => ?_
  blk_simp
  rw [after0_3]
  have hm := (flush0_3 t).mp hf
  refine (out_scratch m c t hm y).trans ?_
  rw [Pipeline.eq_sum_fin_of_reset_step_apply_of_flush (fun n h => (outsAt0 m c n h).2) 4 (fun _ => 0) (part m c)
    (fun t h j => by
      rw [outsAt0_A m c t h (by omega)]
      trans step m c t (k0_pay1 (F := Ideal) (iblk m c 2 t)) j
      · frame_out; rfl
      · rw [step_first m c t h, zero_add])
    (fun t h j => by
      trans step m c t (outsAt0 m c (t.val - 1) (Nat.lt_of_le_of_lt (Nat.sub_le _ _) t.isLt)).2 j
      · by_cases h' : t.val % 4 = 3
        · rw [outsAt0_C m c t h h']; frame_out; rw [read_unread_whole]; rfl
        · rw [outsAt0_B m c t h h']; frame_out; rw [read_unread_whole]; rfl
      · exact step_next m c t h _ j)
    t hm y, zero_add]
  idx_vars y
  trans Cert.DownReferenceIdeal.Read.val_main_v1 (F := Ideal) (argU m c) (argW m c) (argX m c) (ix2 (rowAt t y0) (colAt t y1))
  · rw [Cert.DownReferenceIdeal.Named.ref_at, ← tiles]
    refine Finset.sum_congr rfl fun s _ => ?_
    unfold part
    congr 1 <;> exact Fin.ext (by simp <;> omega)
  · congr 1
    funext a
    apply Fin.ext
    fin_cases a <;> simp [idx t]

theorem run (ρ : Dev nD → PrngReg) :
    θ_run (defs (F := Ideal)) (onTc (τ := τ) (main (F := Ideal))) ⟨m, fun _ => 0, ρ⟩ fun r => ∀ c : Dev nD,
    r.2.mem ((c.tc : Thread nD τ).loc main_v5) = Cert.DownReferenceIdeal.Read.val_main_v1 (F := Ideal) (argU m c) (argW m c) (argX m c)
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2) := by
  refine θ_run_mono (Cert.DownKernelIdeal.Value.run_blocks m ρ) fun r h c => ?_
  obtain ⟨h0, h⟩ := h c
  exact ⟨h0.trans (final m c), h⟩

end Cert.DownKernelIdeal.RefValue

namespace Cert.Proof.Down

/-- The call's results are the reference's, over the reals. -/
theorem algebraic : Cert.algebraic_DownKernelIdeal_DownReferenceIdeal := by
  pair_intro
  · run_from Cert.DownKernelIdeal.RefValue.run m g
  · refine θ_run_mono (Cert.DownReferenceIdeal.Value.run m' g') fun r h c => ?_
    obtain ⟨e0, e1, e2⟩ := hagree c
    obtain ⟨h0, h⟩ := h c
    refine ⟨(h0.trans (Cert.DownReferenceIdeal.Read.val_main_v1_eq _ _ _)).trans ?_, h⟩
    rw [e0, e1, e2]

end Cert.Proof.Down

end
-- ==== Proof.BackProducts.lean ====
module

public import proofs.«01_k».proof.Defs
public import proofs.«01_k».proof.Proof.Arith
public import proofs.«01_k».proof.Proof.Gen.BackKernelIdeal.Value
public import proofs.«01_k».proof.Proof.Gen.BackReferenceIdeal.Run
public import proofs.«01_k».proof.Proof.Gen.BackReferenceIdeal.Read
public import proofs.«01_k».proof.Proof.Gen.FfdhKernelIdeal.Value
public import proofs.«01_k».proof.Proof.Gen.FfdhReferenceIdeal.Run
public import proofs.«01_k».proof.Proof.Gen.FfdhReferenceIdeal.Read
public import proofs.«01_k».proof.Proof.Gen.SectKernelIdeal.Value
public import proofs.«01_k».proof.Proof.Gen.SectReferenceIdeal.Run
public import proofs.«01_k».proof.Proof.Gen.SectReferenceIdeal.Read
public import Idealize.ShloMosaic.Lib.Pointwise
public import Idealize.ShloMosaic.Lib.Pipeline.ValueKit
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)
open Cert.Arith

/-! A product with the transposed matrix, by eight row shards: one shard of columns of the result at each grid point. -/

namespace Cert.BackReferenceIdeal.Named

open Cert.BackReferenceIdeal Cert.BackReferenceIdeal.Gen Cert.BackReferenceIdeal.Read

theorem ref_at (d : Vec Ideal S4096x2048 .f32) (w : Vec Ideal S2048x2048 .f32) (r : Fin 4096) (q : Fin 2048) :
    val_main_v0 (F := Ideal) d w (ix2 r q) = ∑ k, d (ix2 r k) * w (ix2 q k) := by
  pointwise [val_main_v0]

end Cert.BackReferenceIdeal.Named

namespace Cert.BackKernelIdeal.RefValue

open Cert.BackKernelIdeal Cert.BackKernelIdeal.Gen

variable (m : (ℓ : Loc nD τ sig) → Buf (Elt Ideal) ℓ)

abbrev argD (c : Dev nD) : Vec Ideal S4096x2048 .f32 := m ((c.tc : Thread nD τ).loc main_arg0)
abbrev argW (c : Dev nD) : Vec Ideal S2048x2048 .f32 := m ((c.tc : Thread nD τ).loc main_arg1)

theorem ltN (t : Fin cfg0.N) : t.val < 32 := by have := t.isLt; have h : cfg0.N = 32 := N_0; omega

theorem idx : ∀ t : Fin cfg0.N, win0_0.index t = ![t.val % 4, 0] ∧ win0_1.index t = ![t.val / 4, 0, 0] ∧ win0_2.index t = ![t.val % 4, t.val / 4] :=
  (by decide +kernel : ∀ t : Fin grid0.N, _)

abbrev rowAt (t : Fin cfg0.N) (i : Fin 1024) : Fin 4096 := ⟨t.val % 4 * 1024 + i.val, by omega⟩
abbrev colAt (t : Fin cfg0.N) (j : Fin 256) : Fin 2048 := ⟨t.val / 4 * 256 + j.val, by have := ltN t; omega⟩
abbrev shard (t : Fin cfg0.N) : Fin 8 := ⟨t.val / 4, by have := ltN t; omega⟩

theorem V_v0 (c : Dev nD) (i) : (V m c main_v0 : Vec Ideal S4096x2048 .bf16) i = argD m c i := by
  have e : (V m c main_v0 : Vec Ideal S4096x2048 .bf16) = truncf (F := Ideal) .bf16 (argD m c) bitsLt_bf16_f32 := by
    entry_read
    rfl
  rw [e]
  rfl

theorem V_v2 (c : Dev nD) (s : Fin 8) (r : Fin 256) (q : Fin 2048) :
    (V m c main_v2 : Vec Ideal S8x256x2048 .bf16) (ix3 s r q) = argW m c (ix2 ⟨s.val * 256 + r.val, by omega⟩ q) := by
  have e : (V m c main_v2 : Vec Ideal S8x256x2048 .bf16) = truncf (F := Ideal) .bf16
      (shapeCast _ (argW m c) shapeCasts_S2048x2048_S8x256x2048) bitsLt_bf16_f32 := by
    entry_read
    rfl
  rw [e]
  generalize argW m c = x
  pointwise

theorem blk0 (c : Dev nD) (t : Fin cfg0.N) (i : Fin 1024) (k : Fin 2048) :
    (iblk m c 0 t : Vec Ideal S1024x2048 .bf16) (ix2 i k) = argD m c (ix2 (rowAt t i) k) := by
  rw [← V_v0]
  blk_ext [iblk, idx t]

theorem blk1 (c : Dev nD) (t : Fin cfg0.N) (q : Fin 256) (k : Fin 2048) :
    (iblk m c 1 t : Vec Ideal S1x256x2048 .bf16) (ix3 0 q k) = argW m c (ix2 (colAt t q) k) := by
  have e := V_v2 m c (shard t) q k
  refine Eq.trans ?_ e
  blk_ext [iblk, idx t]

/-- One point's block is the reference's. -/
theorem point (c : Dev nD) (t : Fin cfg0.N) (y : S1024x256.Idx) :
    k0_pay1 (F := Ideal) (iblk m c 0 t) (iblk m c 1 t) y
      = Cert.BackReferenceIdeal.Read.val_main_v0 (F := Ideal) (argD m c) (argW m c) (ix2 (rowAt t (y 0)) (colAt t (y 1))) := by
  idx_vars y
  rw [Cert.BackReferenceIdeal.Named.ref_at]
  generalize h0 : (iblk m c 0 t : Vec Ideal S1024x2048 .bf16) = b0
  generalize h1 : (iblk m c 1 t : Vec Ideal S1x256x2048 .bf16) = b1
  pointwise [k0_pay1]
  subst h0 h1
  simp only [blk0, blk1]

theorem final (c : Dev nD) : (dats m 0 c).arrAt 2 cfg0.N = Cert.BackReferenceIdeal.Read.val_main_v0 (F := Ideal) (argD m c) (argW m c) := by
  refine (dats m 0 c).arrAt_eq_of_covers 2 _ (by decide +kernel) fun t hf y => ?_
  blk_simp
  rw [after0_2]
  trans k0_pay1 (F := Ideal) (iblk m c 0 t) (iblk m c 1 t) y
  · frame_out
  · rw [point]
    congr 1
    funext a
    apply Fin.ext
    fin_cases a <;> simp [idx t]

theorem run (ρ : Dev nD → PrngReg) :
    θ_run (defs (F := Ideal)) (onTc (τ := τ) (main (F := Ideal))) ⟨m, fun _ => 0, ρ⟩ fun r => ∀ c : Dev nD,
    r.2.mem ((c.tc : Thread nD τ).loc main_v3) = Cert.BackReferenceIdeal.Read.val_main_v0 (F := Ideal) (argD m c) (argW m c)
    ∧ r.2.mem ((c.tc : Thread nD τ).loc main_arg0) = m ((c.tc : Thread nD τ).loc main_arg0)
    ∧ r.2.mem ((c.tc : Thread nD τ).loc main_arg1) = m ((c.tc : Thread nD τ).loc main_arg1) := by
  refine θ_run_mono (Cert.BackKernelIdeal.Value.run_blocks m ρ) fun r h c => ?_
  obtain ⟨h0, h⟩ := h c
  exact ⟨h0.trans (final m c), h⟩

end Cert.BackKernelIdeal.RefValue

namespace Cert.Proof.Back

/-- The call's results are the reference's, over the reals. -/
theorem algebraic : Cert.algebraic_BackKernelIdeal_BackReferenceIdeal := by
  pair_intro
  · run_from Cert.BackKernelIdeal.RefValue.run m g
  · refine θ_run_mono (Cert.BackReferenceIdeal.Value.run m' g') fun r h c => ?_
    obtain ⟨e0, e1⟩ := hagree c
    obtain ⟨h0, h⟩ := h c
    exact ⟨(h0.trans (Cert.BackReferenceIdeal.Read.val_main_v0_eq _ _)).trans (congrArg₂ _ e0 e1), h⟩

end Cert.Proof.Back

/-! Two products with transposed matrices, summed over eight shards: the kernel adds two shards of both at each step of its grid. -/

namespace Cert.FfdhReferenceIdeal.Named

open Cert.FfdhReferenceIdeal Cert.FfdhReferenceIdeal.Gen Cert.FfdhReferenceIdeal.Read

theorem ref_at (g u : Vec Ideal S4096x5632 .f32) (a b : Vec Ideal S2048x5632 .f32) (r : Fin 4096) (q : Fin 2048) :
    val_main_v2 (F := Ideal) g u a b (ix2 r q) = ∑ k : Fin 5632, u (ix2 r k) * b (ix2 q k) + ∑ k : Fin 5632, g (ix2 r k) * a (ix2 q k) := by
  pointwise [val_main_v0, val_main_v1, val_main_v2]

end Cert.FfdhReferenceIdeal.Named

namespace Cert.FfdhKernelIdeal.RefValue

open Cert.FfdhKernelIdeal Cert.FfdhKernelIdeal.Gen

variable (m : (ℓ : Loc nD τ sig) → Buf (Elt Ideal) ℓ)

abbrev argG (c : Dev nD) : Vec Ideal S4096x5632 .f32 := m ((c.tc : Thread nD τ).loc main_arg0)
abbrev argU (c : Dev nD) : Vec Ideal S4096x5632 .f32 := m ((c.tc : Thread nD τ).loc main_arg1)
abbrev argWg (c : Dev nD) : Vec Ideal S2048x5632 .f32 := m ((c.tc : Thread nD τ).loc main_arg2)
abbrev argWu (c : Dev nD) : Vec Ideal S2048x5632 .f32 := m ((c.tc : Thread nD τ).loc main_arg3)

theorem ltN (t : Fin cfg0.N) : t.val < 32 := by have := t.isLt; have h : cfg0.N = 32 := N_0; omega

theorem idx : ∀ t : Fin cfg0.N, win0_0.index t = ![t.val % 4, t.val / 8, 0] ∧ win0_1.index t = ![t.val % 4, t.val / 8, 0] ∧ win0_2.index t = ![t.val % 4, t.val / 4 % 2, 0] ∧ win0_3.index t = ![t.val % 4, t.val / 4 % 2, 0] ∧ win0_4.index t = ![t.val / 8, t.val / 4 % 2] :=
  (by decide +kernel : ∀ t : Fin grid0.N, _)

abbrev rowAt (t : Fin cfg0.N) (i : Fin 1024) : Fin 4096 := ⟨t.val / 8 * 1024 + i.val, by have := ltN t; omega⟩
abbrev colAt (t : Fin cfg0.N) (j : Fin 1024) : Fin 2048 := ⟨t.val / 4 % 2 * 1024 + j.val, by omega⟩
abbrev stepAt (t : Fin cfg0.N) : Fin 4 := ⟨t.val % 4, by omega⟩
/-- The shard `a` of the two that step `s` reads. -/
abbrev pair (s : Fin 4) (a : Fin 2) : Fin 8 := ⟨s.val * 2 + a.val, by omega⟩
abbrev inner (b : Fin 8) (k : Fin 704) : Fin 5632 := ⟨b.val * 704 + k.val, by omega⟩

theorem sum_pairs (g : Fin 8 → EReal) : ∑ s : Fin 4, (g (pair s 0) + g (pair s 1)) = ∑ b, g b := by
  simp only [Fin.sum_univ_four, Fin.sum_univ_eight, add_assoc]
  rfl

theorem V_v2 (c : Dev nD) (s : Fin 8) (r : Fin 4096) (q : Fin 704) :
    (V m c main_v2 : Vec Ideal S8x4096x704 .bf16) (ix3 s r q) = argG m c (ix2 r ⟨s.val * 704 + q.val, by omega⟩) := by
  have e : (V m c main_v2 : Vec Ideal S8x4096x704 .bf16) = truncf (F := Ideal) .bf16
      (transpose S8x4096x704 [1, 0, 2] (shapeCast _ (argG m c) shapeCasts_S4096x5632_S4096x8x704) transposes_S4096x8x704_S8x4096x704_1_0_2)
      bitsLt_bf16_f32 := by
    entry_read
    rfl
  rw [e]
  generalize argG m c = x
  pointwise

theorem V_v5 (c : Dev nD) (s : Fin 8) (r : Fin 4096) (q : Fin 704) :
    (V m c main_v5 : Vec Ideal S8x4096x704 .bf16) (ix3 s r q) = argU m c (ix2 r ⟨s.val * 704 + q.val, by omega⟩) := by
  have e : (V m c main_v5 : Vec Ideal S8x4096x704 .bf16) = truncf (F := Ideal) .bf16
      (transpose S8x4096x704 [1, 0, 2] (shapeCast _ (argU m c) shapeCasts_S4096x5632_S4096x8x704) transposes_S4096x8x704_S8x4096x704_1_0_2)
      bitsLt_bf16_f32 := by
    entry_read
    rfl
  rw [e]
  generalize argU m c = x
  pointwise

theorem V_v8 (c : Dev nD) (s : Fin 8) (r : Fin 2048) (q : Fin 704) :
    (V m c main_v8 : Vec Ideal S8x2048x704 .bf16) (ix3 s r q) = argWg m c (ix2 r ⟨s.val * 704 + q.val, by omega⟩) := by
  have e : (V m c main_v8 : Vec Ideal S8x2048x704 .bf16) = truncf (F := Ideal) .bf16
      (transpose S8x2048x704 [1, 0, 2] (shapeCast _ (argWg m c) shapeCasts_S2048x5632_S2048x8x704) transposes_S2048x8x704_S8x2048x704_1_0_2)
      bitsLt_bf16_f32 := by
    entry_read
    rfl
  rw [e]
  generalize argWg m c = x
  pointwise

theorem V_v11 (c : Dev nD) (s : Fin 8) (r : Fin 2048) (q : Fin 704) :
    (V m c main_v11 : Vec Ideal S8x2048x704 .bf16) (ix3 s r q) = argWu m c (ix2 r ⟨s.val * 704 + q.val, by omega⟩) := by
  have e : (V m c main_v11 : Vec Ideal S8x2048x704 .bf16) = truncf (F := Ideal) .bf16
      (transpose S8x2048x704 [1, 0, 2] (shapeCast _ (argWu m c) shapeCasts_S2048x5632_S2048x8x704) transposes_S2048x8x704_S8x2048x704_1_0_2)
      bitsLt_bf16_f32 := by
    entry_read
    rfl
  rw [e]
  generalize argWu m c = x
  pointwise

theorem blk0 (c : Dev nD) (t : Fin cfg0.N) (a : Fin 2) (i : Fin 1024) (k : Fin 704) :
    (iblk m c 0 t : Vec Ideal S2x1024x704 .bf16) (ix3 a i k) = argG m c (ix2 (rowAt t i) (inner (pair (stepAt t) a) k)) := by
  rw [← V_v2]
  blk_ext [iblk, idx t]

theorem blk1 (c : Dev nD) (t : Fin cfg0.N) (a : Fin 2) (i : Fin 1024) (k : Fin 704) :
    (iblk m c 1 t : Vec Ideal S2x1024x704 .bf16) (ix3 a i k) = argU m c (ix2 (rowAt t i) (inner (pair (stepAt t) a) k)) := by
  rw [← V_v5]
  blk_ext [iblk, idx t]

theorem blk2 (c : Dev nD) (t : Fin cfg0.N) (a : Fin 2) (i : Fin 1024) (k : Fin 704) :
    (iblk m c 2 t : Vec Ideal S2x1024x704 .bf16) (ix3 a i k) = argWg m c (ix2 (colAt t i) (inner (pair (stepAt t) a) k)) := by
  rw [← V_v8]
  blk_ext [iblk, idx t]

theorem blk3 (c : Dev nD) (t : Fin cfg0.N) (a : Fin 2) (i : Fin 1024) (k : Fin 704) :
    (iblk m c 3 t : Vec Ideal S2x1024x704 .bf16) (ix3 a i k) = argWu m c (ix2 (colAt t i) (inner (pair (stepAt t) a) k)) := by
  rw [← V_v11]
  blk_ext [iblk, idx t]

theorem ld_at (v : Vec Ideal S2x1024x704 .bf16) (a : Fin 2) (off : Fin 3 → ℕ) (inb) (ho : off = ![a.val, 0, 0]) (i : Fin 1024) (k : Fin 704) :
    View.ld v (Rect.unit off ![1, 1024, 704] inb) (ix3 0 i k) = v (ix3 a i k) := by
  subst ho
  pointwise

/-- One shard's share of an element of the result, of both products; a step adds two shards'. -/
def share (c : Dev nD) (i : Fin 4096) (q : Fin 2048) (b : Fin 8) : EReal :=
  ∑ k : Fin 704, argG m c (ix2 i (inner b k)) * argWg m c (ix2 q (inner b k)) + ∑ k : Fin 704, argU m c (ix2 i (inner b k)) * argWu m c (ix2 q (inner b k))
def tile (c : Dev nD) (i : Fin 4096) (q : Fin 2048) (s : Fin 4) : EReal := share m c i q (pair s 0) + share m c i q (pair s 1)
theorem tiles (c : Dev nD) (i : Fin 4096) (q : Fin 2048) :
    ∑ s, tile m c i q s = ∑ k : Fin 5632, argU m c (ix2 i k) * argWu m c (ix2 q k) + ∑ k : Fin 5632, argG m c (ix2 i k) * argWg m c (ix2 q k) := by
  unfold tile
  rw [sum_pairs (share m c i q), add_comm]
  unfold share
  rw [Finset.sum_add_distrib]
  exact congrArg₂ (· + ·) (Fin.sum_mul_add_fin 8 704 (L := 5632) (fun k => argG m c (ix2 i k) * argWg m c (ix2 q k)))
    (Fin.sum_mul_add_fin 8 704 (L := 5632) (fun k => argU m c (ix2 i k) * argWu m c (ix2 q k)))
def part (c : Dev nD) (p : Fin cfg0.N) (j : S1024x1024.Idx) : EReal := tile m c (rowAt p (j 0)) (colAt p (j 1)) (stepAt p)

/-- The body's step on what the scratch holds. -/
def step (c : Dev nD) (t : Fin cfg0.N) (a : Vec Ideal S1024x1024 .f32) : Vec Ideal S1024x1024 .f32 :=
  k0_pay1 a (k0_pay3 (View.ld (iblk m c 0 t : Vec Ideal S2x1024x704 .bf16) (Rect.unit ![0, 0, 0] ![1, 1024, 704] inb_S2x1024x704_S1x1024x704_0_0_0)) (View.ld (iblk m c 2 t : Vec Ideal S2x1024x704 .bf16) (Rect.unit ![0, 0, 0] ![1, 1024, 704] inb_S2x1024x704_S1x1024x704_0_0_0))
      (View.ld (iblk m c 1 t : Vec Ideal S2x1024x704 .bf16) (Rect.unit ![0, 0, 0] ![1, 1024, 704] inb_S2x1024x704_S1x1024x704_0_0_0)) (View.ld (iblk m c 3 t : Vec Ideal S2x1024x704 .bf16) (Rect.unit ![0, 0, 0] ![1, 1024, 704] inb_S2x1024x704_S1x1024x704_0_0_0)))
    (k0_pay4 (View.ld (iblk m c 0 t : Vec Ideal S2x1024x704 .bf16) (Rect.unit ![1, 0, 0] ![1, 1024, 704] inb_S2x1024x704_S1x1024x704_1_0_0)) (View.ld (iblk m c 2 t : Vec Ideal S2x1024x704 .bf16) (Rect.unit ![1, 0, 0] ![1, 1024, 704] inb_S2x1024x704_S1x1024x704_1_0_0)))
    (k0_pay5 (View.ld (iblk m c 1 t : Vec Ideal S2x1024x704 .bf16) (Rect.unit ![1, 0, 0] ![1, 1024, 704] inb_S2x1024x704_S1x1024x704_1_0_0))) (View.ld (iblk m c 3 t : Vec Ideal S2x1024x704 .bf16) (Rect.unit ![1, 0, 0] ![1, 1024, 704] inb_S2x1024x704_S1x1024x704_1_0_0))

theorem step_at (c : Dev nD) (t : Fin cfg0.N) (a : Vec Ideal S1024x1024 .f32) (i q : Fin 1024) :
    step m c t a (ix2 i q) = a (ix2 i q) + tile m c (rowAt t i) (colAt t q) (stepAt t) := by
  have p00 := fun k => (ld_at (iblk m c 0 t : Vec Ideal S2x1024x704 .bf16) 0 _ inb_S2x1024x704_S1x1024x704_0_0_0 rfl i k).trans (blk0 m c t 0 i k)
  have p01 := fun k => (ld_at (iblk m c 0 t : Vec Ideal S2x1024x704 .bf16) 1 _ inb_S2x1024x704_S1x1024x704_1_0_0 rfl i k).trans (blk0 m c t 1 i k)
  have p10 := fun k => (ld_at (iblk m c 1 t : Vec Ideal S2x1024x704 .bf16) 0 _ inb_S2x1024x704_S1x1024x704_0_0_0 rfl i k).trans (blk1 m c t 0 i k)
  have p11 := fun k => (ld_at (iblk m c 1 t : Vec Ideal S2x1024x704 .bf16) 1 _ inb_S2x1024x704_S1x1024x704_1_0_0 rfl i k).trans (blk1 m c t 1 i k)
  have p20 := fun k => (ld_at (iblk m c 2 t : Vec Ideal S2x1024x704 .bf16) 0 _ inb_S2x1024x704_S1x1024x704_0_0_0 rfl q k).trans (blk2 m c t 0 q k)
  have p21 := fun k => (ld_at (iblk m c 2 t : Vec Ideal S2x1024x704 .bf16) 1 _ inb_S2x1024x704_S1x1024x704_1_0_0 rfl q k).trans (blk2 m c t 1 q k)
  have p30 := fun k => (ld_at (iblk m c 3 t : Vec Ideal S2x1024x704 .bf16) 0 _ inb_S2x1024x704_S1x1024x704_0_0_0 rfl q k).trans (blk3 m c t 0 q k)
  have p31 := fun k => (ld_at (iblk m c 3 t : Vec Ideal S2x1024x704 .bf16) 1 _ inb_S2x1024x704_S1x1024x704_1_0_0 rfl q k).trans (blk3 m c t 1 q k)
  unfold step tile share
  simp only [← p00, ← p01, ← p10, ← p11, ← p20, ← p21, ← p30, ← p31]
  clear p00 p01 p10 p11 p20 p21 p30 p31
  generalize View.ld (iblk m c 0 t : Vec Ideal S2x1024x704 .bf16) (Rect.unit ![0, 0, 0] ![1, 1024, 704] inb_S2x1024x704_S1x1024x704_0_0_0) = v00
  generalize View.ld (iblk m c 0 t : Vec Ideal S2x1024x704 .bf16) (Rect.unit ![1, 0, 0] ![1, 1024, 704] inb_S2x1024x704_S1x1024x704_1_0_0) = v01
  generalize View.ld (iblk m c 1 t : Vec Ideal S2x1024x704 .bf16) (Rect.unit ![0, 0, 0] ![1, 1024, 704] inb_S2x1024x704_S1x1024x704_0_0_0) = v10
  generalize View.ld (iblk m c 1 t : Vec Ideal S2x1024x704 .bf16) (Rect.unit ![1, 0, 0] ![1, 1024, 704] inb_S2x1024x704_S1x1024x704_1_0_0) = v11
  generalize View.ld (iblk m c 2 t : Vec Ideal S2x1024x704 .bf16) (Rect.unit ![0, 0, 0] ![1, 1024, 704] inb_S2x1024x704_S1x1024x704_0_0_0) = v20
  generalize View.ld (iblk m c 2 t : Vec Ideal S2x1024x704 .bf16) (Rect.unit ![1, 0, 0] ![1, 1024, 704] inb_S2x1024x704_S1x1024x704_1_0_0) = v21
  generalize View.ld (iblk m c 3 t : Vec Ideal S2x1024x704 .bf16) (Rect.unit ![0, 0, 0] ![1, 1024, 704] inb_S2x1024x704_S1x1024x704_0_0_0) = v30
  generalize View.ld (iblk m c 3 t : Vec Ideal S2x1024x704 .bf16) (Rect.unit ![1, 0, 0] ![1, 1024, 704] inb_S2x1024x704_S1x1024x704_1_0_0) = v31
  pointwise [k0_pay1, k0_pay3, k0_pay4, k0_pay5]

theorem pay_zero (j : S1024x1024.Idx) : k0_pay2 (F := Ideal) j = 0 := by
  pointwise [k0_pay2]

theorem step_part (c : Dev nD) (t : Fin cfg0.N) (a : Vec Ideal S1024x1024 .f32) (j : S1024x1024.Idx) :
    step m c t a j = a j + part m c t j := by
  idx_vars j
  exact step_at m c t a j0 j1

/-- The last step of a run stores what the scratch then holds. -/
theorem out_scratch (c : Dev nD) (t : Fin cfg0.N) (h : t.val % 4 = 3) (y : S1024x1024.Idx) :
    (outsAt0 m c t.val t.isLt).1 y = (outsAt0 m c t.val t.isLt).2 y := by
  rw [outsAt0_C m c t (by omega) h]
  trans step m c t (outsAt0 m c (t.val - 1) (Nat.lt_of_le_of_lt (Nat.sub_le _ _) t.isLt)).2 y
  · frame_out; rw [read_unread_whole]; rfl
  · symm; frame_out; rw [read_unread_whole]; rfl

theorem final (c : Dev nD) : (dats m 0 c).arrAt 4 cfg0.N = Cert.FfdhReferenceIdeal.Read.val_main_v2 (F := Ideal) (argG m c) (argU m c) (argWg m c) (argWu m c) := by
  refine (dats m 0 c).arrAt_eq_of_covers 4 _ (by decide +kernel) fun t hf y => ?_
  blk_simp
  rw [after0_4]
  have hm := (flush0_4 t).mp hf
  refine (out_scratch m c t hm y).trans ?_
  rw [Pipeline.eq_sum_fin_of_reset_step_apply_of_flush (fun n h => (outsAt0 m c n h).2) 4 (fun _ => 0) (part m c)
    (fun t h j => by
      rw [outsAt0_A m c t h (by omega)]
      trans step m c t (k0_pay2 (F := Ideal)) j
      · frame_out; rfl
      · rw [step_part, pay_zero])
    (fun t h j => by
      trans step m c t (outsAt0 m c (t.val - 1) (Nat.lt_of_le_of_lt (Nat.sub_le _ _) t.isLt)).2 j
      · by_cases h' : t.val % 4 = 3
        · rw [outsAt0_C m c t h h']; frame_out; rw [read_unread_whole]; rfl
        · rw [outsAt0_B m c t h h']; frame_out; rw [read_unread_whole]; rfl
      · rw [step_part])
    t hm y, zero_add]
  idx_vars y
  trans Cert.FfdhReferenceIdeal.Read.val_main_v2 (F := Ideal) (argG m c) (argU m c) (argWg m c) (argWu m c) (ix2 (rowAt t y0) (colAt t y1))
  · rw [Cert.FfdhReferenceIdeal.Named.ref_at, ← tiles]
    refine Finset.sum_congr rfl fun s _ => ?_
    unfold part
    congr 1 <;> exact Fin.ext (by simp <;> omega)
  · congr 1
    funext a
    apply Fin.ext
    fin_cases a <;> simp [idx t]

theorem run (ρ : Dev nD → PrngReg) :
    θ_run (defs (F := Ideal)) (onTc (τ := τ) (main (F := Ideal))) ⟨m, fun _ => 0, ρ⟩ fun r => ∀ c : Dev nD,
    r.2.mem ((c.tc : Thread nD τ).loc main_v12) = Cert.FfdhReferenceIdeal.Read.val_main_v2 (F := Ideal) (argG m c) (argU m c) (argWg m c) (argWu m c)
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3) := by
  refine θ_run_mono (Cert.FfdhKernelIdeal.Value.run_blocks m ρ) fun r h c => ?_
  obtain ⟨h0, h⟩ := h c
  exact ⟨h0.trans (final m c), h⟩

end Cert.FfdhKernelIdeal.RefValue

namespace Cert.Proof.Ffdh

/-- The call's results are the reference's, over the reals. -/
theorem algebraic : Cert.algebraic_FfdhKernelIdeal_FfdhReferenceIdeal := by
  pair_intro
  · run_from Cert.FfdhKernelIdeal.RefValue.run m g
  · refine θ_run_mono (Cert.FfdhReferenceIdeal.Value.run m' g') fun r h c => ?_
    obtain ⟨e0, e1, e2, e3⟩ := hagree c
    obtain ⟨h0, h⟩ := h c
    refine ⟨(h0.trans (Cert.FfdhReferenceIdeal.Read.val_main_v2_eq _ _ _ _)).trans ?_, h⟩
    rw [e0, e1, e2, e3]

end Cert.Proof.Ffdh

/-! The product of three sections with the transposed matrix: the kernel adds one section at each step of its grid. -/

namespace Cert.SectReferenceIdeal.Named

open Cert.SectReferenceIdeal Cert.SectReferenceIdeal.Gen Cert.SectReferenceIdeal.Read

theorem ref_at (d : Vec Ideal S4096x6144 .f32) (w : Vec Ideal S2048x6144 .f32) (r : Fin 4096) (q : Fin 2048) :
    val_main_v0 (F := Ideal) d w (ix2 r q) = ∑ k : Fin 6144, d (ix2 r k) * w (ix2 q k) := by
  pointwise [val_main_v0]

end Cert.SectReferenceIdeal.Named

namespace Cert.SectKernelIdeal.RefValue

open Cert.SectKernelIdeal Cert.SectKernelIdeal.Gen

variable (m : (ℓ : Loc nD τ sig) → Buf (Elt Ideal) ℓ)

abbrev argD (c : Dev nD) : Vec Ideal S4096x6144 .f32 := m ((c.tc : Thread nD τ).loc main_arg0)
abbrev argW (c : Dev nD) : Vec Ideal S2048x6144 .f32 := m ((c.tc : Thread nD τ).loc main_arg1)

theorem ltN (t : Fin cfg0.N) : t.val < 24 := by have := t.isLt; have h : cfg0.N = 24 := N_0; omega

theorem idx : ∀ t : Fin cfg0.N, win0_0.index t = ![t.val % 3, t.val / 6, 0] ∧ win0_1.index t = ![t.val / 3 % 2, t.val % 3] ∧ win0_2.index t = ![t.val / 6, t.val / 3 % 2] :=
  (by decide +kernel : ∀ t : Fin grid0.N, _)

abbrev rowAt (t : Fin cfg0.N) (i : Fin 1024) : Fin 4096 := ⟨t.val / 6 * 1024 + i.val, by have := ltN t; omega⟩
abbrev colAt (t : Fin cfg0.N) (j : Fin 1024) : Fin 2048 := ⟨t.val / 3 % 2 * 1024 + j.val, by omega⟩
abbrev stepAt (t : Fin cfg0.N) : Fin 3 := ⟨t.val % 3, by omega⟩
/-- Column `k` of section `s`. -/
abbrev inner (s : Fin 3) (k : Fin 2048) : Fin 6144 := ⟨s.val * 2048 + k.val, by omega⟩

theorem V_v2 (c : Dev nD) (s : Fin 3) (r : Fin 4096) (q : Fin 2048) :
    (V m c main_v2 : Vec Ideal S3x4096x2048 .bf16) (ix3 s r q) = argD m c (ix2 r ⟨s.val * 2048 + q.val, by omega⟩) := by
  have e : (V m c main_v2 : Vec Ideal S3x4096x2048 .bf16) = truncf (F := Ideal) .bf16
      (transpose S3x4096x2048 [1, 0, 2] (shapeCast _ (argD m c) shapeCasts_S4096x6144_S4096x3x2048) transposes_S4096x3x2048_S3x4096x2048_1_0_2)
      bitsLt_bf16_f32 := by
    entry_read
    rfl
  rw [e]
  generalize argD m c = x
  pointwise

theorem V_v3 (c : Dev nD) (i) : (V m c main_v3 : Vec Ideal S2048x6144 .bf16) i = argW m c i := by
  have e : (V m c main_v3 : Vec Ideal S2048x6144 .bf16) = truncf (F := Ideal) .bf16 (argW m c) bitsLt_bf16_f32 := by
    entry_read
    rfl
  rw [e]
  rfl

theorem blk0 (c : Dev nD) (t : Fin cfg0.N) (i : Fin 1024) (k : Fin 2048) :
    (iblk m c 0 t : Vec Ideal S1x1024x2048 .bf16) (ix3 0 i k) = argD m c (ix2 (rowAt t i) (inner (stepAt t) k)) := by
  rw [← V_v2]
  blk_ext [iblk, idx t]

theorem blk1 (c : Dev nD) (t : Fin cfg0.N) (j : Fin 1024) (k : Fin 2048) :
    (iblk m c 1 t : Vec Ideal S1024x2048 .bf16) (ix2 j k) = argW m c (ix2 (colAt t j) (inner (stepAt t) k)) := by
  rw [← V_v3]
  blk_ext [iblk, idx t]

/-- One section's share of an element of the result. -/
def tile (c : Dev nD) (i : Fin 4096) (q : Fin 2048) (s : Fin 3) : EReal :=
  ∑ k : Fin 2048, argD m c (ix2 i (inner s k)) * argW m c (ix2 q (inner s k))
theorem tiles (c : Dev nD) (i : Fin 4096) (q : Fin 2048) :
    ∑ s, tile m c i q s = ∑ k : Fin 6144, argD m c (ix2 i k) * argW m c (ix2 q k) :=
  Fin.sum_mul_add_fin 3 2048 (L := 6144) (fun k => argD m c (ix2 i k) * argW m c (ix2 q k))
def part (c : Dev nD) (p : Fin cfg0.N) (j : S1024x1024.Idx) : EReal := tile m c (rowAt p (j 0)) (colAt p (j 1)) (stepAt p)

theorem pay_part (c : Dev nD) (t : Fin cfg0.N) (a : Vec Ideal S1024x1024 .f32) (j : S1024x1024.Idx) :
    k0_pay2 (F := Ideal) a (iblk m c 0 t) (iblk m c 1 t) j = a j + part m c t j := by
  idx_vars j
  unfold part tile
  generalize h0 : (iblk m c 0 t : Vec Ideal S1x1024x2048 .bf16) = b0
  generalize h1 : (iblk m c 1 t : Vec Ideal S1024x2048 .bf16) = b1
  pointwise [k0_pay2]
  subst h0 h1
  simp only [blk0, blk1]

theorem pay_zero (j : S1024x1024.Idx) : k0_pay1 (F := Ideal) j = 0 := by
  pointwise [k0_pay1]

/-- The last step of a run stores what the scratch then holds. -/
theorem out_scratch (c : Dev nD) (t : Fin cfg0.N) (h : t.val % 3 = 2) (y : S1024x1024.Idx) :
    (outsAt0 m c t.val t.isLt).1 y = (outsAt0 m c t.val t.isLt).2 y := by
  rw [outsAt0_C m c t (by omega) h]
  trans k0_pay2 (F := Ideal) (outsAt0 m c (t.val - 1) (Nat.lt_of_le_of_lt (Nat.sub_le _ _) t.isLt)).2 (iblk m c 0 t) (iblk m c 1 t) y
  · frame_out; rw [read_unread_whole]
  · symm; frame_out; rw [read_unread_whole]

theorem final (c : Dev nD) : (dats m 0 c).arrAt 2 cfg0.N = Cert.SectReferenceIdeal.Read.val_main_v0 (F := Ideal) (argD m c) (argW m c) := by
  refine (dats m 0 c).arrAt_eq_of_covers 2 _ (by decide +kernel) fun t hf y => ?_
  blk_simp
  rw [after0_2]
  have hm := (flush0_2 t).mp hf
  refine (out_scratch m c t hm y).trans ?_
  rw [Pipeline.eq_sum_fin_of_reset_step_apply_of_flush (fun n h => (outsAt0 m c n h).2) 3 (fun _ => 0) (part m c)
    (fun t h j => by rw [outsAt0_A m c t h (by omega)]; frame_out; rw [pay_part, pay_zero])
    (fun t h j => by
      by_cases h' : t.val % 3 = 2
      · rw [outsAt0_C m c t h h']; frame_out; rw [pay_part, read_unread_whole]
      · rw [outsAt0_B m c t h h']; frame_out; rw [pay_part, read_unread_whole])
    t hm y, zero_add]
  idx_vars y
  trans Cert.SectReferenceIdeal.Read.val_main_v0 (F := Ideal) (argD m c) (argW m c) (ix2 (rowAt t y0) (colAt t y1))
  · rw [Cert.SectReferenceIdeal.Named.ref_at, ← tiles]
    refine Finset.sum_congr rfl fun s _ => ?_
    unfold part
    congr 1 <;> exact Fin.ext (by simp <;> omega)
  · congr 1
    funext a
    apply Fin.ext
    fin_cases a <;> simp [idx t]

theorem run (ρ : Dev nD → PrngReg) :
    θ_run (defs (F := Ideal)) (onTc (τ := τ) (main (F := Ideal))) ⟨m, fun _ => 0, ρ⟩ fun r => ∀ c : Dev nD,
    r.2.mem ((c.tc : Thread nD τ).loc main_v4) = Cert.SectReferenceIdeal.Read.val_main_v0 (F := Ideal) (argD m c) (argW m c)
    ∧ r.2.mem ((c.tc : Thread nD τ).loc main_arg0) = m ((c.tc : Thread nD τ).loc main_arg0)
    ∧ r.2.mem ((c.tc : Thread nD τ).loc main_arg1) = m ((c.tc : Thread nD τ).loc main_arg1) := by
  refine θ_run_mono (Cert.SectKernelIdeal.Value.run_blocks m ρ) fun r h c => ?_
  obtain ⟨h0, h⟩ := h c
  exact ⟨h0.trans (final m c), h⟩

end Cert.SectKernelIdeal.RefValue

namespace Cert.Proof.Sect

/-- The call's results are the reference's, over the reals. -/
theorem algebraic : Cert.algebraic_SectKernelIdeal_SectReferenceIdeal := by
  pair_intro
  · run_from Cert.SectKernelIdeal.RefValue.run m g
  · refine θ_run_mono (Cert.SectReferenceIdeal.Value.run m' g') fun r h c => ?_
    obtain ⟨e0, e1⟩ := hagree c
    obtain ⟨h0, h⟩ := h c
    exact ⟨(h0.trans (Cert.SectReferenceIdeal.Read.val_main_v0_eq _ _)).trans (congrArg₂ _ e0 e1), h⟩

end Cert.Proof.Sect

end
-- ==== Proof.WeightProducts.lean ====
module

public import proofs.«01_k».proof.Defs
public import proofs.«01_k».proof.Proof.Arith
public import proofs.«01_k».proof.Proof.Gen.WcolKernelIdeal.Value
public import proofs.«01_k».proof.Proof.Gen.WcolReferenceIdeal.Run
public import proofs.«01_k».proof.Proof.Gen.WcolReferenceIdeal.Read
public import proofs.«01_k».proof.Proof.Gen.WrowKernelIdeal.Value
public import proofs.«01_k».proof.Proof.Gen.WrowReferenceIdeal.Run
public import proofs.«01_k».proof.Proof.Gen.WrowReferenceIdeal.Read
public import proofs.«01_k».proof.Proof.Gen.WstdKernelIdeal.Value
public import proofs.«01_k».proof.Proof.Gen.WstdReferenceIdeal.Run
public import proofs.«01_k».proof.Proof.Gen.WstdReferenceIdeal.Read
public import proofs.«01_k».proof.Proof.Gen.WsecKernelIdeal.Value
public import proofs.«01_k».proof.Proof.Gen.WsecReferenceIdeal.Run
public import proofs.«01_k».proof.Proof.Gen.WsecReferenceIdeal.Read
public import Idealize.ShloMosaic.Lib.Pointwise
public import Idealize.ShloMosaic.Lib.Pipeline.ValueKit
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)
open Cert.Arith

/-! The gradients of two weights split by columns over eight shards: the kernel adds half of the tokens at each step of its grid. -/

namespace Cert.WcolReferenceIdeal.Named

open Cert.WcolReferenceIdeal Cert.WcolReferenceIdeal.Gen Cert.WcolReferenceIdeal.Read

theorem ref_gate (x : Vec Ideal S4096x2048 .f32) (d : Vec Ideal S4096x5632 .f32) (s : Fin 8) (i : Fin 2048) (q : Fin 704) :
    val_main_v5 (F := Ideal) x d (ix3 s i q) = ∑ k : Fin 4096, d (ix2 k ⟨s.val * 704 + q.val, by omega⟩) * x (ix2 k i) := by
  pointwise [val_main_v2, val_main_v3, val_main_v4, val_main_v5]
theorem ref_up (x : Vec Ideal S4096x2048 .f32) (d : Vec Ideal S4096x5632 .f32) (s : Fin 8) (i : Fin 2048) (q : Fin 704) :
    val_main_v7 (F := Ideal) x d (ix3 s i q) = ∑ k : Fin 4096, d (ix2 k ⟨s.val * 704 + q.val, by omega⟩) * x (ix2 k i) := by
  pointwise [val_main_v0, val_main_v1, val_main_v6, val_main_v7]

end Cert.WcolReferenceIdeal.Named

namespace Cert.WcolKernelIdeal.RefValue

open Cert.WcolKernelIdeal Cert.WcolKernelIdeal.Gen

variable (m : (ℓ : Loc nD τ sig) → Buf (Elt Ideal) ℓ)

abbrev argX (c : Dev nD) : Vec Ideal S4096x2048 .f32 := m ((c.tc : Thread nD τ).loc main_arg0)
abbrev argG (c : Dev nD) : Vec Ideal S4096x5632 .f32 := m ((c.tc : Thread nD τ).loc main_arg1)
abbrev argU (c : Dev nD) : Vec Ideal S4096x5632 .f32 := m ((c.tc : Thread nD τ).loc main_arg2)

theorem ltN (t : Fin cfg0.N) : t.val < 32 := by have := t.isLt; have h : cfg0.N = 32 := N_0; omega

theorem idx : ∀ t : Fin cfg0.N, win0_0.index t = ![t.val % 2, t.val / 2 % 2] ∧ win0_1.index t = ![t.val / 4, t.val % 2, 0] ∧ win0_2.index t = ![t.val / 4, t.val % 2, 0] ∧ win0_3.index t = ![t.val / 4, t.val / 2 % 2, 0] ∧ win0_4.index t = ![t.val / 4, t.val / 2 % 2, 0] :=
  (by decide +kernel : ∀ t : Fin grid0.N, _)

abbrev shard (t : Fin cfg0.N) : Fin 8 := ⟨t.val / 4, by have := ltN t; omega⟩
abbrev rowAt (t : Fin cfg0.N) (i : Fin 1024) : Fin 2048 := ⟨t.val / 2 % 2 * 1024 + i.val, by omega⟩
abbrev colAt (t : Fin cfg0.N) (j : Fin 704) : Fin 5632 := ⟨(shard t).val * 704 + j.val, by have := (shard t).isLt; omega⟩
abbrev stepAt (t : Fin cfg0.N) : Fin 2 := ⟨t.val % 2, by omega⟩
abbrev inner (s : Fin 2) (k : Fin 2048) : Fin 4096 := ⟨s.val * 2048 + k.val, by omega⟩

theorem V_v0 (c : Dev nD) (i) : (V m c main_v0 : Vec Ideal S4096x2048 .bf16) i = argX m c i := by
  have e : (V m c main_v0 : Vec Ideal S4096x2048 .bf16) = truncf (F := Ideal) .bf16 (argX m c) bitsLt_bf16_f32 := by
    entry_read
    rfl
  rw [e]
  rfl

theorem V_v3 (c : Dev nD) (s : Fin 8) (r : Fin 4096) (q : Fin 704) :
    (V m c main_v3 : Vec Ideal S8x4096x704 .bf16) (ix3 s r q) = argG m c (ix2 r ⟨s.val * 704 + q.val, by omega⟩) := by
  have e : (V m c main_v3 : Vec Ideal S8x4096x704 .bf16) = truncf (F := Ideal) .bf16
      (transpose S8x4096x704 [1, 0, 2] (shapeCast _ (argG m c) shapeCasts_S4096x5632_S4096x8x704) transposes_S4096x8x704_S8x4096x704_1_0_2)
      bitsLt_bf16_f32 := by
    entry_read
    rfl
  rw [e]
  generalize argG m c = x
  pointwise

theorem V_v6 (c : Dev nD) (s : Fin 8) (r : Fin 4096) (q : Fin 704) :
    (V m c main_v6 : Vec Ideal S8x4096x704 .bf16) (ix3 s r q) = argU m c (ix2 r ⟨s.val * 704 + q.val, by omega⟩) := by
  have e : (V m c main_v6 : Vec Ideal S8x4096x704 .bf16) = truncf (F := Ideal) .bf16
      (transpose S8x4096x704 [1, 0, 2] (shapeCast _ (argU m c) shapeCasts_S4096x5632_S4096x8x704) transposes_S4096x8x704_S8x4096x704_1_0_2)
      bitsLt_bf16_f32 := by
    entry_read
    rfl
  rw [e]
  generalize argU m c = x
  pointwise

theorem blk0 (c : Dev nD) (t : Fin cfg0.N) (k : Fin 2048) (i : Fin 1024) :
    (iblk m c 0 t : Vec Ideal S2048x1024 .bf16) (ix2 k i) = argX m c (ix2 (inner (stepAt t) k) (rowAt t i)) := by
  rw [← V_v0]
  blk_ext [iblk, idx t]

theorem blk1 (c : Dev nD) (t : Fin cfg0.N) (k : Fin 2048) (j : Fin 704) :
    (iblk m c 1 t : Vec Ideal S1x2048x704 .bf16) (ix3 0 k j) = argG m c (ix2 (inner (stepAt t) k) (colAt t j)) := by
  rw [← V_v3]
  blk_ext [iblk, idx t]

theorem blk2 (c : Dev nD) (t : Fin cfg0.N) (k : Fin 2048) (j : Fin 704) :
    (iblk m c 2 t : Vec Ideal S1x2048x704 .bf16) (ix3 0 k j) = argU m c (ix2 (inner (stepAt t) k) (colAt t j)) := by
  rw [← V_v6]
  blk_ext [iblk, idx t]

/-- What one step adds to an element of the result. -/
def tile3 (c : Dev nD) (i : Fin 2048) (q : Fin 5632) (s : Fin 2) : EReal :=
  ∑ k : Fin 2048, argX m c (ix2 (inner s k) i) * argG m c (ix2 (inner s k) q)
theorem tiles3 (c : Dev nD) (i : Fin 2048) (q : Fin 5632) :
    ∑ s, tile3 m c i q s = ∑ k : Fin 4096, argG m c (ix2 k q) * argX m c (ix2 k i) :=
  (Fin.sum_mul_add_fin 2 2048 (L := 4096) (fun k => argX m c (ix2 k i) * argG m c (ix2 k q))).trans
    (Finset.sum_congr rfl fun k _ => mul_comm _ _)
def part3 (c : Dev nD) (p : Fin cfg0.N) (j : S1024x704.Idx) : EReal := tile3 m c (rowAt p (j 0)) (colAt p (j 1)) (stepAt p)

theorem pay_part3 (c : Dev nD) (t : Fin cfg0.N) (a : Vec Ideal S1024x704 .f32) (j : S1024x704.Idx) :
    k0_pay4 (F := Ideal) (iblk m c 0 t) a (iblk m c 1 t) j = a j + part3 m c t j := by
  idx_vars j
  unfold part3 tile3
  generalize h0 : (iblk m c 0 t : Vec Ideal S2048x1024 .bf16) = b0
  generalize h1 : (iblk m c 1 t : Vec Ideal S1x2048x704 .bf16) = b1
  pointwise [k0_pay4, k0_pay2]
  subst h0 h1
  simp only [blk0, blk1]

theorem pay_zero3 (j : S1024x704.Idx) : k0_pay3 (F := Ideal) j = 0 := by
  pointwise [k0_pay3]

theorem copy3 (v : Vec Ideal S1024x704 .f32) (i j) : k0_pay5 (F := Ideal) v (ix3 0 i j) = v (ix2 i j) := by
  pointwise [k0_pay5]

/-- The last step of a run stores what the scratch then holds. -/
theorem out_scratch3 (c : Dev nD) (t : Fin cfg0.N) (h : t.val % 2 = 1) (i j) :
    (outsAt0 m c t.val t.isLt).1 (ix3 0 i j) = (outsAt0 m c t.val t.isLt).2.2.1 (ix2 i j) := by
  rw [outsAt0_B m c t (by omega) h (by omega) h]
  trans k0_pay4 (F := Ideal) (iblk m c 0 t) (outsAt0 m c (t.val - 1) (Nat.lt_of_le_of_lt (Nat.sub_le _ _) t.isLt)).2.2.1 (iblk m c 1 t) (ix2 i j)
  · frame_out; rw [copy3, read_unread_whole]
  · symm; frame_out; rw [read_unread_whole]

theorem final3 (c : Dev nD) : (dats m 0 c).arrAt 3 cfg0.N = Cert.WcolReferenceIdeal.Read.val_main_v5 (F := Ideal) (argX m c) (argG m c) := by
  refine (dats m 0 c).arrAt_eq_of_covers 3 _ (by decide +kernel) fun t hf y => ?_
  blk_simp
  rw [after0_3]
  have hm := (flush0_3 t).mp hf
  idx_vars y
  obtain rfl : y0 = 0 := Subsingleton.elim _ _
  refine (out_scratch3 m c t hm y1 y2).trans ?_
  rw [Pipeline.eq_sum_fin_of_reset_step_apply_of_flush (fun n h => (outsAt0 m c n h).2.2.1) 2 (fun _ => 0) (part3 m c)
    (fun t h j => by rw [outsAt0_A m c t h (by omega) h (by omega)]; frame_out; rw [pay_part3, pay_zero3])
    (fun t h j => by rw [outsAt0_B m c t (by omega) (by omega) (by omega) (by omega)]; frame_out; rw [pay_part3, read_unread_whole])
    t hm (ix2 y1 y2), zero_add]
  trans Cert.WcolReferenceIdeal.Read.val_main_v5 (F := Ideal) (argX m c) (argG m c) (ix3 (shard t) (rowAt t y1) y2)
  · rw [Cert.WcolReferenceIdeal.Named.ref_gate, ← tiles3]
    refine Finset.sum_congr rfl fun s _ => ?_
    unfold part3
    congr 1 <;> exact Fin.ext (by simp <;> omega)
  · congr 1
    funext a
    apply Fin.ext
    fin_cases a <;> simp [idx t]

/-- What one step adds to an element of the result. -/
def tile4 (c : Dev nD) (i : Fin 2048) (q : Fin 5632) (s : Fin 2) : EReal :=
  ∑ k : Fin 2048, argX m c (ix2 (inner s k) i) * argU m c (ix2 (inner s k) q)
theorem tiles4 (c : Dev nD) (i : Fin 2048) (q : Fin 5632) :
    ∑ s, tile4 m c i q s = ∑ k : Fin 4096, argU m c (ix2 k q) * argX m c (ix2 k i) :=
  (Fin.sum_mul_add_fin 2 2048 (L := 4096) (fun k => argX m c (ix2 k i) * argU m c (ix2 k q))).trans
    (Finset.sum_congr rfl fun k _ => mul_comm _ _)
def part4 (c : Dev nD) (p : Fin cfg0.N) (j : S1024x704.Idx) : EReal := tile4 m c (rowAt p (j 0)) (colAt p (j 1)) (stepAt p)

theorem pay_part4 (c : Dev nD) (t : Fin cfg0.N) (a : Vec Ideal S1024x704 .f32) (j : S1024x704.Idx) :
    k0_pay7 (F := Ideal) (iblk m c 0 t) a (iblk m c 2 t) j = a j + part4 m c t j := by
  idx_vars j
  unfold part4 tile4
  generalize h0 : (iblk m c 0 t : Vec Ideal S2048x1024 .bf16) = b0
  generalize h2 : (iblk m c 2 t : Vec Ideal S1x2048x704 .bf16) = b2
  pointwise [k0_pay7, k0_pay2]
  subst h0 h2
  simp only [blk0, blk2]

theorem pay_zero4 (j : S1024x704.Idx) : k0_pay6 (F := Ideal) j = 0 := by
  pointwise [k0_pay6]

theorem copy4 (v : Vec Ideal S1024x704 .f32) (i j) : k0_pay1 (F := Ideal) v (ix3 0 i j) = v (ix2 i j) := by
  pointwise [k0_pay1]

/-- The last step of a run stores what the scratch then holds. -/
theorem out_scratch4 (c : Dev nD) (t : Fin cfg0.N) (h : t.val % 2 = 1) (i j) :
    (outsAt0 m c t.val t.isLt).2.1 (ix3 0 i j) = (outsAt0 m c t.val t.isLt).2.2.2 (ix2 i j) := by
  rw [outsAt0_B m c t (by omega) h (by omega) h]
  trans k0_pay7 (F := Ideal) (iblk m c 0 t) (outsAt0 m c (t.val - 1) (Nat.lt_of_le_of_lt (Nat.sub_le _ _) t.isLt)).2.2.2 (iblk m c 2 t) (ix2 i j)
  · frame_out; rw [copy4, read_unread_whole]
  · symm; frame_out; rw [read_unread_whole]

theorem final4 (c : Dev nD) : (dats m 0 c).arrAt 4 cfg0.N = Cert.WcolReferenceIdeal.Read.val_main_v7 (F := Ideal) (argX m c) (argU m c) := by
  refine (dats m 0 c).arrAt_eq_of_covers 4 _ (by decide +kernel) fun t hf y => ?_
  blk_simp
  rw [after0_4]
  have hm := (flush0_4 t).mp hf
  idx_vars y
  obtain rfl : y0 = 0 := Subsingleton.elim _ _
  refine (out_scratch4 m c t hm y1 y2).trans ?_
  rw [Pipeline.eq_sum_fin_of_reset_step_apply_of_flush (fun n h => (outsAt0 m c n h).2.2.2) 2 (fun _ => 0) (part4 m c)
    (fun t h j => by rw [outsAt0_A m c t h (by omega) h (by omega)]; frame_out; rw [pay_part4, pay_zero4])
    (fun t h j => by rw [outsAt0_B m c t (by omega) (by omega) (by omega) (by omega)]; frame_out; rw [pay_part4, read_unread_whole])
    t hm (ix2 y1 y2), zero_add]
  trans Cert.WcolReferenceIdeal.Read.val_main_v7 (F := Ideal) (argX m c) (argU m c) (ix3 (shard t) (rowAt t y1) y2)
  · rw [Cert.WcolReferenceIdeal.Named.ref_up, ← tiles4]
    refine Finset.sum_congr rfl fun s _ => ?_
    unfold part4
    congr 1 <;> exact Fin.ext (by simp <;> omega)
  · congr 1
    funext a
    apply Fin.ext
    fin_cases a <;> simp [idx t]

theorem run (ρ : Dev nD → PrngReg) :
    θ_run (defs (F := Ideal)) (onTc (τ := τ) (main (F := Ideal))) ⟨m, fun _ => 0, ρ⟩ fun r => ∀ c : Dev nD,
    r.2.mem ((c.tc : Thread nD τ).loc main_v7_0) = Cert.WcolReferenceIdeal.Read.val_main_v5 (F := Ideal) (argX m c) (argG m c)
    ∧ r.2.mem ((c.tc : Thread nD τ).loc main_v7_1) = Cert.WcolReferenceIdeal.Read.val_main_v7 (F := Ideal) (argX m c) (argU m c)
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2) := by
  refine θ_run_mono (Cert.WcolKernelIdeal.Value.run_blocks m ρ) fun r h c => ?_
  obtain ⟨h0, h1, h⟩ := h c
  exact ⟨h0.trans (final3 m c), h1.trans (final4 m c), h⟩

end Cert.WcolKernelIdeal.RefValue

namespace Cert.Proof.Wcol

/-- The call's results are the reference's, over the reals. -/
theorem algebraic : Cert.algebraic_WcolKernelIdeal_WcolReferenceIdeal := by
  pair_intro
  · run_from Cert.WcolKernelIdeal.RefValue.run m g
  · refine θ_run_mono (Cert.WcolReferenceIdeal.Value.run m' g') fun r h c => ?_
    obtain ⟨e0, e1, e2⟩ := hagree c
    obtain ⟨h0, h1, h⟩ := h c
    exact ⟨(h0.trans (Cert.WcolReferenceIdeal.Read.val_main_v5_eq _ _)).trans (congrArg₂ _ e0 e1), (h1.trans (Cert.WcolReferenceIdeal.Read.val_main_v7_eq _ _)).trans (congrArg₂ _ e0 e2), h⟩

end Cert.Proof.Wcol

/-! The gradient of a weight split by rows over eight shards: the kernel adds half of the tokens at each step of its grid. -/

namespace Cert.WrowReferenceIdeal.Named

open Cert.WrowReferenceIdeal Cert.WrowReferenceIdeal.Gen Cert.WrowReferenceIdeal.Read

theorem ref_at (u : Vec Ideal S4096x5632 .f32) (d : Vec Ideal S4096x2048 .f32) (s : Fin 8) (i : Fin 704) (q : Fin 2048) :
    val_main_v2 (F := Ideal) u d (ix3 s i q) = ∑ k : Fin 4096, d (ix2 k q) * u (ix2 k ⟨s.val * 704 + i.val, by omega⟩) := by
  pointwise [val_main_v0, val_main_v1, val_main_v2]

end Cert.WrowReferenceIdeal.Named

namespace Cert.WrowKernelIdeal.RefValue

open Cert.WrowKernelIdeal Cert.WrowKernelIdeal.Gen

variable (m : (ℓ : Loc nD τ sig) → Buf (Elt Ideal) ℓ)

abbrev argU (c : Dev nD) : Vec Ideal S4096x5632 .f32 := m ((c.tc : Thread nD τ).loc main_arg0)
abbrev argD (c : Dev nD) : Vec Ideal S4096x2048 .f32 := m ((c.tc : Thread nD τ).loc main_arg1)

theorem ltN (t : Fin cfg0.N) : t.val < 32 := by have := t.isLt; have h : cfg0.N = 32 := N_0; omega

theorem idx : ∀ t : Fin cfg0.N, win0_0.index t = ![t.val / 4, t.val % 2, 0] ∧ win0_1.index t = ![t.val % 2, t.val / 2 % 2] ∧ win0_2.index t = ![t.val / 4, 0, t.val / 2 % 2] :=
  (by decide +kernel : ∀ t : Fin grid0.N, _)

abbrev shard (t : Fin cfg0.N) : Fin 8 := ⟨t.val / 4, by have := ltN t; omega⟩
abbrev rowAt (t : Fin cfg0.N) (i : Fin 704) : Fin 5632 := ⟨(shard t).val * 704 + i.val, by have := (shard t).isLt; omega⟩
abbrev colAt (t : Fin cfg0.N) (j : Fin 1024) : Fin 2048 := ⟨t.val / 2 % 2 * 1024 + j.val, by omega⟩
abbrev stepAt (t : Fin cfg0.N) : Fin 2 := ⟨t.val % 2, by omega⟩
abbrev inner (s : Fin 2) (k : Fin 2048) : Fin 4096 := ⟨s.val * 2048 + k.val, by omega⟩

theorem V_v2 (c : Dev nD) (s : Fin 8) (r : Fin 4096) (q : Fin 704) :
    (V m c main_v2 : Vec Ideal S8x4096x704 .bf16) (ix3 s r q) = argU m c (ix2 r ⟨s.val * 704 + q.val, by omega⟩) := by
  have e : (V m c main_v2 : Vec Ideal S8x4096x704 .bf16) = truncf (F := Ideal) .bf16
      (transpose S8x4096x704 [1, 0, 2] (shapeCast _ (argU m c) shapeCasts_S4096x5632_S4096x8x704) transposes_S4096x8x704_S8x4096x704_1_0_2)
      bitsLt_bf16_f32 := by
    entry_read
    rfl
  rw [e]
  generalize argU m c = x
  pointwise

theorem V_v3 (c : Dev nD) (i) : (V m c main_v3 : Vec Ideal S4096x2048 .bf16) i = argD m c i := by
  have e : (V m c main_v3 : Vec Ideal S4096x2048 .bf16) = truncf (F := Ideal) .bf16 (argD m c) bitsLt_bf16_f32 := by
    entry_read
    rfl
  rw [e]
  rfl

theorem blk0 (c : Dev nD) (t : Fin cfg0.N) (k : Fin 2048) (i : Fin 704) :
    (iblk m c 0 t : Vec Ideal S1x2048x704 .bf16) (ix3 0 k i) = argU m c (ix2 (inner (stepAt t) k) (rowAt t i)) := by
  rw [← V_v2]
  blk_ext [iblk, idx t]

theorem blk1 (c : Dev nD) (t : Fin cfg0.N) (k : Fin 2048) (j : Fin 1024) :
    (iblk m c 1 t : Vec Ideal S2048x1024 .bf16) (ix2 k j) = argD m c (ix2 (inner (stepAt t) k) (colAt t j)) := by
  rw [← V_v3]
  blk_ext [iblk, idx t]

/-- What one step adds to an element of the result. -/
def tile (c : Dev nD) (i : Fin 5632) (q : Fin 2048) (s : Fin 2) : EReal :=
  ∑ k : Fin 2048, argU m c (ix2 (inner s k) i) * argD m c (ix2 (inner s k) q)
theorem tiles (c : Dev nD) (i : Fin 5632) (q : Fin 2048) :
    ∑ s, tile m c i q s = ∑ k : Fin 4096, argD m c (ix2 k q) * argU m c (ix2 k i) :=
  (Fin.sum_mul_add_fin 2 2048 (L := 4096) (fun k => argU m c (ix2 k i) * argD m c (ix2 k q))).trans
    (Finset.sum_congr rfl fun k _ => mul_comm _ _)
def part (c : Dev nD) (p : Fin cfg0.N) (j : S704x1024.Idx) : EReal := tile m c (rowAt p (j 0)) (colAt p (j 1)) (stepAt p)

theorem pay_part (c : Dev nD) (t : Fin cfg0.N) (a : Vec Ideal S704x1024 .f32) (j : S704x1024.Idx) :
    k0_pay2 (F := Ideal) (iblk m c 0 t) a (iblk m c 1 t) j = a j + part m c t j := by
  idx_vars j
  unfold part tile
  generalize h0 : (iblk m c 0 t : Vec Ideal S1x2048x704 .bf16) = b0
  generalize h1 : (iblk m c 1 t : Vec Ideal S2048x1024 .bf16) = b1
  pointwise [k0_pay2]
  subst h0 h1
  simp only [blk0, blk1]

theorem pay_zero (j : S704x1024.Idx) : k0_pay1 (F := Ideal) j = 0 := by
  pointwise [k0_pay1]

theorem copy (v : Vec Ideal S704x1024 .f32) (i j) : k0_pay3 (F := Ideal) v (ix3 0 i j) = v (ix2 i j) := by
  pointwise [k0_pay3]

/-- The last step of a run stores what the scratch then holds. -/
theorem out_scratch (c : Dev nD) (t : Fin cfg0.N) (h : t.val % 2 = 1) (i j) :
    (outsAt0 m c t.val t.isLt).1 (ix3 0 i j) = (outsAt0 m c t.val t.isLt).2 (ix2 i j) := by
  rw [outsAt0_B m c t (by omega) h]
  trans k0_pay2 (F := Ideal) (iblk m c 0 t) (outsAt0 m c (t.val - 1) (Nat.lt_of_le_of_lt (Nat.sub_le _ _) t.isLt)).2 (iblk m c 1 t) (ix2 i j)
  · frame_out; rw [copy, read_unread_whole]
  · symm; frame_out; rw [read_unread_whole]

theorem final (c : Dev nD) : (dats m 0 c).arrAt 2 cfg0.N = Cert.WrowReferenceIdeal.Read.val_main_v2 (F := Ideal) (argU m c) (argD m c) := by
  refine (dats m 0 c).arrAt_eq_of_covers 2 _ (by decide +kernel) fun t hf y => ?_
  blk_simp
  rw [after0_2]
  have hm := (flush0_2 t).mp hf
  idx_vars y
  obtain rfl : y0 = 0 := Subsingleton.elim _ _
  refine (out_scratch m c t hm y1 y2).trans ?_
  rw [Pipeline.eq_sum_fin_of_reset_step_apply_of_flush (fun n h => (outsAt0 m c n h).2) 2 (fun _ => 0) (part m c)
    (fun t h j => by rw [outsAt0_A m c t h (by omega)]; frame_out; rw [pay_part, pay_zero])
    (fun t h j => by rw [outsAt0_B m c t (by omega) (by omega)]; frame_out; rw [pay_part, read_unread_whole])
    t hm (ix2 y1 y2), zero_add]
  trans Cert.WrowReferenceIdeal.Read.val_main_v2 (F := Ideal) (argU m c) (argD m c) (ix3 (shard t) y1 (colAt t y2))
  · rw [Cert.WrowReferenceIdeal.Named.ref_at, ← tiles]
    refine Finset.sum_congr rfl fun s _ => ?_
    unfold part
    congr 1 <;> exact Fin.ext (by simp <;> omega)
  · congr 1
    funext a
    apply Fin.ext
    fin_cases a <;> simp [idx t]

theorem run (ρ : Dev nD → PrngReg) :
    θ_run (defs (F := Ideal)) (onTc (τ := τ) (main (F := Ideal))) ⟨m, fun _ => 0, ρ⟩ fun r => ∀ c : Dev nD,
    r.2.mem ((c.tc : Thread nD τ).loc main_v4) = Cert.WrowReferenceIdeal.Read.val_main_v2 (F := Ideal) (argU m c) (argD m c)
    ∧ r.2.mem ((c.tc : Thread nD τ).loc main_arg0) = m ((c.tc : Thread nD τ).loc main_arg0)
    ∧ r.2.mem ((c.tc : Thread nD τ).loc main_arg1) = m ((c.tc : Thread nD τ).loc main_arg1) := by
  refine θ_run_mono (Cert.WrowKernelIdeal.Value.run_blocks m ρ) fun r h c => ?_
  obtain ⟨h0, h⟩ := h c
  exact ⟨h0.trans (final m c), h⟩

end Cert.WrowKernelIdeal.RefValue

namespace Cert.Proof.Wrow

/-- The call's results are the reference's, over the reals. -/
theorem algebraic : Cert.algebraic_WrowKernelIdeal_WrowReferenceIdeal := by
  pair_intro
  · run_from Cert.WrowKernelIdeal.RefValue.run m g
  · refine θ_run_mono (Cert.WrowReferenceIdeal.Value.run m' g') fun r h c => ?_
    obtain ⟨e0, e1⟩ := hagree c
    obtain ⟨h0, h⟩ := h c
    exact ⟨(h0.trans (Cert.WrowReferenceIdeal.Read.val_main_v2_eq _ _)).trans (congrArg₂ _ e0 e1), h⟩

end Cert.Proof.Wrow

/-! A weight's gradient, rows and columns whole: the kernel adds half of the tokens at each step of its grid. -/

namespace Cert.WstdReferenceIdeal.Named

open Cert.WstdReferenceIdeal Cert.WstdReferenceIdeal.Gen Cert.WstdReferenceIdeal.Read

theorem ref_at (x d : Vec Ideal S4096x2048 .f32) (i q : Fin 2048) :
    val_main_v1 (F := Ideal) x d (ix2 i q) = ∑ k : Fin 4096, d (ix2 k q) * x (ix2 k i) := by
  pointwise [val_main_v0, val_main_v1]

end Cert.WstdReferenceIdeal.Named

namespace Cert.WstdKernelIdeal.RefValue

open Cert.WstdKernelIdeal Cert.WstdKernelIdeal.Gen

variable (m : (ℓ : Loc nD τ sig) → Buf (Elt Ideal) ℓ)

abbrev argX (c : Dev nD) : Vec Ideal S4096x2048 .f32 := m ((c.tc : Thread nD τ).loc main_arg0)
abbrev argD (c : Dev nD) : Vec Ideal S4096x2048 .f32 := m ((c.tc : Thread nD τ).loc main_arg1)

theorem ltN (t : Fin cfg0.N) : t.val < 8 := by have := t.isLt; have h : cfg0.N = 8 := N_0; omega

theorem idx : ∀ t : Fin cfg0.N, win0_0.index t = ![t.val % 2, t.val / 4] ∧ win0_1.index t = ![t.val % 2, t.val / 2 % 2] ∧ win0_2.index t = ![t.val / 4, t.val / 2 % 2] :=
  (by decide +kernel : ∀ t : Fin grid0.N, _)

abbrev rowAt (t : Fin cfg0.N) (i : Fin 1024) : Fin 2048 := ⟨t.val / 4 * 1024 + i.val, by have := ltN t; omega⟩
abbrev colAt (t : Fin cfg0.N) (j : Fin 1024) : Fin 2048 := ⟨t.val / 2 % 2 * 1024 + j.val, by omega⟩
abbrev stepAt (t : Fin cfg0.N) : Fin 2 := ⟨t.val % 2, by omega⟩
abbrev inner (s : Fin 2) (k : Fin 2048) : Fin 4096 := ⟨s.val * 2048 + k.val, by omega⟩

theorem V_v0 (c : Dev nD) (i) : (V m c main_v0 : Vec Ideal S4096x2048 .bf16) i = argX m c i := by
  have e : (V m c main_v0 : Vec Ideal S4096x2048 .bf16) = truncf (F := Ideal) .bf16 (argX m c) bitsLt_bf16_f32 := by
    entry_read
    rfl
  rw [e]
  rfl

theorem V_v1 (c : Dev nD) (i) : (V m c main_v1 : Vec Ideal S4096x2048 .bf16) i = argD m c i := by
  have e : (V m c main_v1 : Vec Ideal S4096x2048 .bf16) = truncf (F := Ideal) .bf16 (argD m c) bitsLt_bf16_f32 := by
    entry_read
    rfl
  rw [e]
  rfl

theorem blk0 (c : Dev nD) (t : Fin cfg0.N) (k : Fin 2048) (i : Fin 1024) :
    (iblk m c 0 t : Vec Ideal S2048x1024 .bf16) (ix2 k i) = argX m c (ix2 (inner (stepAt t) k) (rowAt t i)) := by
  rw [← V_v0]
  blk_ext [iblk, idx t]

theorem blk1 (c : Dev nD) (t : Fin cfg0.N) (k : Fin 2048) (j : Fin 1024) :
    (iblk m c 1 t : Vec Ideal S2048x1024 .bf16) (ix2 k j) = argD m c (ix2 (inner (stepAt t) k) (colAt t j)) := by
  rw [← V_v1]
  blk_ext [iblk, idx t]

/-- What one step adds to an element of the result. -/
def tile (c : Dev nD) (i : Fin 2048) (q : Fin 2048) (s : Fin 2) : EReal :=
  ∑ k : Fin 2048, argX m c (ix2 (inner s k) i) * argD m c (ix2 (inner s k) q)
theorem tiles (c : Dev nD) (i : Fin 2048) (q : Fin 2048) :
    ∑ s, tile m c i q s = ∑ k : Fin 4096, argD m c (ix2 k q) * argX m c (ix2 k i) :=
  (Fin.sum_mul_add_fin 2 2048 (L := 4096) (fun k => argX m c (ix2 k i) * argD m c (ix2 k q))).trans
    (Finset.sum_congr rfl fun k _ => mul_comm _ _)
def part (c : Dev nD) (p : Fin cfg0.N) (j : S1024x1024.Idx) : EReal := tile m c (rowAt p (j 0)) (colAt p (j 1)) (stepAt p)

theorem pay_part (c : Dev nD) (t : Fin cfg0.N) (a : Vec Ideal S1024x1024 .f32) (j : S1024x1024.Idx) :
    k0_pay2 (F := Ideal) (iblk m c 0 t) a (iblk m c 1 t) j = a j + part m c t j := by
  idx_vars j
  unfold part tile
  generalize h0 : (iblk m c 0 t : Vec Ideal S2048x1024 .bf16) = b0
  generalize h1 : (iblk m c 1 t : Vec Ideal S2048x1024 .bf16) = b1
  pointwise [k0_pay2]
  subst h0 h1
  simp only [blk0, blk1]

theorem pay_zero (j : S1024x1024.Idx) : k0_pay1 (F := Ideal) j = 0 := by
  pointwise [k0_pay1]

/-- The last step of a run stores what the scratch then holds. -/
theorem out_scratch (c : Dev nD) (t : Fin cfg0.N) (h : t.val % 2 = 1) (y : S1024x1024.Idx) :
    (outsAt0 m c t.val t.isLt).1 y = (outsAt0 m c t.val t.isLt).2 y := by
  rw [outsAt0_B m c t (by omega) h]
  trans k0_pay2 (F := Ideal) (iblk m c 0 t) (outsAt0 m c (t.val - 1) (Nat.lt_of_le_of_lt (Nat.sub_le _ _) t.isLt)).2 (iblk m c 1 t) y
  · frame_out; rw [read_unread_whole]
  · symm; frame_out; rw [read_unread_whole]

theorem final (c : Dev nD) : (dats m 0 c).arrAt 2 cfg0.N = Cert.WstdReferenceIdeal.Read.val_main_v1 (F := Ideal) (argX m c) (argD m c) := by
  refine (dats m 0 c).arrAt_eq_of_covers 2 _ (by decide +kernel) fun t hf y => ?_
  blk_simp
  rw [after0_2]
  have hm := (flush0_2 t).mp hf
  refine (out_scratch m c t hm y).trans ?_
  rw [Pipeline.eq_sum_fin_of_reset_step_apply_of_flush (fun n h => (outsAt0 m c n h).2) 2 (fun _ => 0) (part m c)
    (fun t h j => by rw [outsAt0_A m c t h (by omega)]; frame_out; rw [pay_part, pay_zero])
    (fun t h j => by rw [outsAt0_B m c t (by omega) (by omega)]; frame_out; rw [pay_part, read_unread_whole])
    t hm y, zero_add]
  idx_vars y
  trans Cert.WstdReferenceIdeal.Read.val_main_v1 (F := Ideal) (argX m c) (argD m c) (ix2 (rowAt t y0) (colAt t y1))
  · rw [Cert.WstdReferenceIdeal.Named.ref_at, ← tiles]
    refine Finset.sum_congr rfl fun s _ => ?_
    unfold part
    congr 1 <;> exact Fin.ext (by simp <;> omega)
  · congr 1
    funext a
    apply Fin.ext
    fin_cases a <;> simp [idx t]

theorem run (ρ : Dev nD → PrngReg) :
    θ_run (defs (F := Ideal)) (onTc (τ := τ) (main (F := Ideal))) ⟨m, fun _ => 0, ρ⟩ fun r => ∀ c : Dev nD,
    r.2.mem ((c.tc : Thread nD τ).loc main_v2) = Cert.WstdReferenceIdeal.Read.val_main_v1 (F := Ideal) (argX m c) (argD m c)
    ∧ r.2.mem ((c.tc : Thread nD τ).loc main_arg0) = m ((c.tc : Thread nD τ).loc main_arg0)
    ∧ r.2.mem ((c.tc : Thread nD τ).loc main_arg1) = m ((c.tc : Thread nD τ).loc main_arg1) := by
  refine θ_run_mono (Cert.WstdKernelIdeal.Value.run_blocks m ρ) fun r h c => ?_
  obtain ⟨h0, h⟩ := h c
  exact ⟨h0.trans (final m c), h⟩

end Cert.WstdKernelIdeal.RefValue

namespace Cert.Proof.Wstd

/-- The call's results are the reference's, over the reals. -/
theorem algebraic : Cert.algebraic_WstdKernelIdeal_WstdReferenceIdeal := by
  pair_intro
  · run_from Cert.WstdKernelIdeal.RefValue.run m g
  · refine θ_run_mono (Cert.WstdReferenceIdeal.Value.run m' g') fun r h c => ?_
    obtain ⟨e0, e1⟩ := hagree c
    obtain ⟨h0, h⟩ := h c
    exact ⟨(h0.trans (Cert.WstdReferenceIdeal.Read.val_main_v1_eq _ _)).trans (congrArg₂ _ e0 e1), h⟩

end Cert.Proof.Wstd

/-! The gradient of a weight of three sections, split by columns over eight shards: one tile of the result at each grid point. -/

namespace Cert.WsecReferenceIdeal.Named

open Cert.WsecReferenceIdeal Cert.WsecReferenceIdeal.Gen Cert.WsecReferenceIdeal.Read

theorem ref_at (x : Vec Ideal S4096x2048 .f32) (d : Vec Ideal S4096x6144 .f32) (s : Fin 8) (i : Fin 2048) (q : Fin 768) :
    val_main_v3 (F := Ideal) x d (ix3 s i q) = ∑ k : Fin 4096, d (ix2 k ⟨s.val * 768 + q.val, by omega⟩) * x (ix2 k i) := by
  pointwise [val_main_v0, val_main_v1, val_main_v2, val_main_v3]

end Cert.WsecReferenceIdeal.Named

namespace Cert.WsecKernelIdeal.RefValue

open Cert.WsecKernelIdeal Cert.WsecKernelIdeal.Gen

variable (m : (ℓ : Loc nD τ sig) → Buf (Elt Ideal) ℓ)

abbrev argX (c : Dev nD) : Vec Ideal S4096x2048 .f32 := m ((c.tc : Thread nD τ).loc main_arg0)
abbrev argD (c : Dev nD) : Vec Ideal S4096x6144 .f32 := m ((c.tc : Thread nD τ).loc main_arg1)

theorem ltN (t : Fin cfg0.N) : t.val < 48 := by have := t.isLt; have h : cfg0.N = 48 := N_0; omega

theorem idx : ∀ t : Fin cfg0.N, win0_0.index t = ![0, t.val / 24] ∧ win0_1.index t = ![t.val % 24 / 8, 0, t.val % 8] ∧ win0_2.index t = ![t.val % 24 / 3, t.val / 24, t.val % 3] :=
  (by decide +kernel : ∀ t : Fin grid0.N, _)

abbrev shard (t : Fin cfg0.N) : Fin 8 := ⟨t.val % 24 / 3, by omega⟩
abbrev rowAt (t : Fin cfg0.N) (i : Fin 1024) : Fin 2048 := ⟨t.val / 24 * 1024 + i.val, by have := ltN t; omega⟩
/-- Column `j` of the tile, inside its shard. -/
abbrev colAt (t : Fin cfg0.N) (j : Fin 256) : Fin 768 := ⟨t.val % 3 * 256 + j.val, by omega⟩
/-- The same column, of the whole matrix. -/
abbrev wide (t : Fin cfg0.N) (j : Fin 256) : Fin 6144 := ⟨(shard t).val * 768 + (colAt t j).val, by have := (shard t).isLt; have := (colAt t j).isLt; omega⟩

theorem V_v3 (c : Dev nD) (s : Fin 3) (r : Fin 4096) (q : Fin 2048) :
    (V m c main_v3 : Vec Ideal S3x4096x2048 .bf16) (ix3 s r q) = argD m c (ix2 r ⟨s.val * 2048 + q.val, by omega⟩) := by
  have e : (V m c main_v3 : Vec Ideal S3x4096x2048 .bf16) = truncf (F := Ideal) .bf16
      (transpose S3x4096x2048 [1, 0, 2] (shapeCast _ (argD m c) shapeCasts_S4096x6144_S4096x3x2048) transposes_S4096x3x2048_S3x4096x2048_1_0_2)
      bitsLt_bf16_f32 := by
    entry_read
    rfl
  rw [e]
  generalize argD m c = x
  pointwise

theorem V_v2 (c : Dev nD) (i) : (V m c main_v2 : Vec Ideal S4096x2048 .bf16) i = argX m c i := by
  have e : (V m c main_v2 : Vec Ideal S4096x2048 .bf16) = truncf (F := Ideal) .bf16 (argX m c) bitsLt_bf16_f32 := by
    entry_read
    rfl
  rw [e]
  rfl

theorem blk0 (c : Dev nD) (t : Fin cfg0.N) (k : Fin 4096) (i : Fin 1024) :
    (iblk m c 0 t : Vec Ideal S4096x1024 .bf16) (ix2 k i) = argX m c (ix2 k (rowAt t i)) := by
  rw [← V_v2]
  blk_ext [iblk, idx t]

theorem blk1 (c : Dev nD) (t : Fin cfg0.N) (k : Fin 4096) (j : Fin 256) :
    (iblk m c 1 t : Vec Ideal S1x4096x256 .bf16) (ix3 0 k j) = argD m c (ix2 k (wide t j)) := by
  have e := V_v3 m c ⟨t.val % 24 / 8, by omega⟩ k ⟨t.val % 8 * 256 + j.val, by omega⟩
  refine Eq.trans ?_ (e.trans (congrArg (fun q => argD m c (ix2 k q)) (Fin.ext ?_)))
  · blk_ext [iblk, idx t]
  · show t.val % 24 / 8 * 2048 + (t.val % 8 * 256 + j.val) = t.val % 24 / 3 * 768 + (t.val % 3 * 256 + j.val)
    omega

/-- One point's block is the reference's. -/
theorem point (c : Dev nD) (t : Fin cfg0.N) (y : S1x1024x256.Idx) :
    k0_pay3 (F := Ideal) (k0_pay2 (iblk m c 0 t) (k0_pay1 (F := Ideal)) (iblk m c 1 t)) y
      = Cert.WsecReferenceIdeal.Read.val_main_v3 (F := Ideal) (argX m c) (argD m c) (ix3 (shard t) (rowAt t (y 1)) (colAt t (y 2))) := by
  idx_vars y
  rw [Cert.WsecReferenceIdeal.Named.ref_at]
  generalize h0 : (iblk m c 0 t : Vec Ideal S4096x1024 .bf16) = b0
  generalize h1 : (iblk m c 1 t : Vec Ideal S1x4096x256 .bf16) = b1
  pointwise [k0_pay1, k0_pay2, k0_pay3]
  subst h0 h1
  simp only [blk0, blk1]
  exact Finset.sum_congr rfl fun k _ => mul_comm _ _

theorem final (c : Dev nD) : (dats m 0 c).arrAt 2 cfg0.N
    = Cert.WsecReferenceIdeal.Read.val_main_v3 (F := Ideal) (argX m c) (argD m c) := by
  refine (dats m 0 c).arrAt_eq_of_covers 2 _ (by decide +kernel) fun t hf y => ?_
  blk_simp
  rw [after0_2]
  trans k0_pay3 (F := Ideal) (k0_pay2 (iblk m c 0 t) (k0_pay1 (F := Ideal)) (iblk m c 1 t)) y
  · unfold outsAt0; frame_out
  · rw [point]
    congr 1
    funext a
    apply Fin.ext
    fin_cases a <;> simp [idx t]

theorem run (ρ : Dev nD → PrngReg) :
    θ_run (defs (F := Ideal)) (onTc (τ := τ) (main (F := Ideal))) ⟨m, fun _ => 0, ρ⟩ fun r => ∀ c : Dev nD,
    r.2.mem ((c.tc : Thread nD τ).loc main_v4) = Cert.WsecReferenceIdeal.Read.val_main_v3 (F := Ideal) (argX m c) (argD m c)
    ∧ r.2.mem ((c.tc : Thread nD τ).loc main_arg0) = m ((c.tc : Thread nD τ).loc main_arg0)
    ∧ r.2.mem ((c.tc : Thread nD τ).loc main_arg1) = m ((c.tc : Thread nD τ).loc main_arg1) := by
  refine θ_run_mono (Cert.WsecKernelIdeal.Value.run_blocks m ρ) fun r h c => ?_
  obtain ⟨h0, h⟩ := h c
  exact ⟨h0.trans (final m c), h⟩

end Cert.WsecKernelIdeal.RefValue

namespace Cert.Proof.Wsec

/-- The call's results are the reference's, over the reals. -/
theorem algebraic : Cert.algebraic_WsecKernelIdeal_WsecReferenceIdeal := by
  pair_intro
  · run_from Cert.WsecKernelIdeal.RefValue.run m g
  · refine θ_run_mono (Cert.WsecReferenceIdeal.Value.run m' g') fun r h c => ?_
    obtain ⟨e0, e1⟩ := hagree c
    obtain ⟨h0, h⟩ := h c
    exact ⟨(h0.trans (Cert.WsecReferenceIdeal.Read.val_main_v3_eq _ _)).trans (congrArg₂ _ e0 e1), h⟩

end Cert.Proof.Wsec

end
-- ==== Proof.Update.lean ====
module

public import proofs.«01_k».proof.Defs
public import proofs.«01_k».proof.Proof.Arith
public import proofs.«01_k».proof.Proof.Gen.AdamKernelIdeal.Value
public import proofs.«01_k».proof.Proof.Gen.AdamReferenceIdeal.Run
public import proofs.«01_k».proof.Proof.Gen.AdamReferenceIdeal.Read
public import proofs.«01_k».proof.Proof.Gen.ChipKernelIdeal.Frame
public import proofs.«01_k».proof.Proof.Gen.ChipKernel.Frame
public import proofs.«01_k».proof.Proof.Gen.UpdKernel.Frame
public import proofs.«01_k».proof.Proof.Gen.ChipReferenceIdeal.Run
public import proofs.«01_k».proof.Proof.Gen.ChipReferenceIdeal.Read
public import proofs.«01_k».proof.Proof.Gen.UpdKernelIdeal.Frame
public import proofs.«01_k».proof.Proof.Gen.UpdReferenceIdeal.Run
public import proofs.«01_k».proof.Proof.Gen.UpdReferenceIdeal.Read
public import Idealize.ShloMosaic.Lib.Pointwise
public import Idealize.ShloMosaic.Lib.Pipeline.ValueKit
public import Idealize.ShloMosaic.Lib.ValueLayout
public import Idealize.ShloMosaic.Lib.Claim
/-! Adding the two cores' gradients, adding the four chips' and stepping the weights, and stepping the small weights: each
call against the sum, or AdamW's lines, written over the whole arrays. -/

@[expose] public section

set_option maxRecDepth 16384

noncomputable section

open Idealize.ShloMosaic Idealize.ShloMosaic.TcCoe Idealize.SL.Sem
open Idealize.ShloMosaic.Pipeline (Dat)
open Idealize.ShloMosaic.ValueIdx (shapeCast_ab_1ab_apply shapeCast_1ab_ab_apply)
open Cert.Arith

namespace Cert.AdamKernelIdeal.RefValue

open Cert.AdamKernelIdeal Cert.AdamKernelIdeal.Gen
open Cert.AdamReferenceIdeal.Read (val_main_v10 val_main_v23 val_main_v4)

variable (m : (ℓ : Loc nD τ sig) → Buf (Elt Ideal) ℓ)

abbrev arr0 (c : Dev nD) : Vec Ideal S160x128 .f32 := m ((c.tc : Thread nD τ).loc main_arg0)
abbrev arr1 (c : Dev nD) : Vec Ideal S160x128 .f32 := m ((c.tc : Thread nD τ).loc main_arg1)
abbrev arr2 (c : Dev nD) : Vec Ideal S160x128 .f32 := m ((c.tc : Thread nD τ).loc main_arg2)
abbrev arr3 (c : Dev nD) : Vec Ideal S160x128 .f32 := m ((c.tc : Thread nD τ).loc main_arg3)

theorem idx : ∀ t : Fin cfg0.N, win0_0.index t = ![0, 0] ∧ win0_1.index t = ![0, 0] ∧ win0_2.index t = ![0, 0]
    ∧ win0_3.index t = ![0, 0] ∧ win0_4.index t = ![0, 0] ∧ win0_5.index t = ![0, 0] ∧ win0_6.index t = ![0, 0] :=
  (by decide +kernel : ∀ t : Fin grid0.N, _)

theorem blk (c : Dev nD) (t : Fin cfg0.N) : (iblk m c 0 t : Vec Ideal S160x128 .f32) = arr0 m c
    ∧ (iblk m c 1 t : Vec Ideal S160x128 .f32) = arr1 m c ∧ (iblk m c 2 t : Vec Ideal S160x128 .f32) = arr2 m c
    ∧ (iblk m c 3 t : Vec Ideal S160x128 .f32) = arr3 m c := by
  refine ⟨?_, ?_, ?_, ?_⟩ <;> funext y <;> blk_ext [iblk, V, idx t]

theorem final4 (c : Dev nD) : (dats m 0 c).arrAt 4 cfg0.N
    = val_main_v23 (F := Ideal) (arr0 m c) (arr1 m c) (arr2 m c) (arr3 m c) := by
  refine (dats m 0 c).arrAt_eq_of_covers 4 _ (by decide +kernel) fun t hf y => ?_
  blk_simp
  rw [after0_4]
  trans k0_pay3 (F := Ideal) (iblk m c 0 t) (iblk m c 1 t) (iblk m c 2 t) (iblk m c 3 t) y
  · frame_out
  obtain ⟨e0, e1, e2, e3⟩ := blk m c t
  rw [e0, e1, e2, e3]
  trans val_main_v23 (F := Ideal) (arr0 m c) (arr1 m c) (arr2 m c) (arr3 m c) y
  · rfl
  · congr 1
    funext a
    apply Fin.ext
    fin_cases a <;> simp [idx t]

theorem final5 (c : Dev nD) : (dats m 0 c).arrAt 5 cfg0.N
    = val_main_v4 (F := Ideal) (arr1 m c) (arr2 m c) := by
  refine (dats m 0 c).arrAt_eq_of_covers 5 _ (by decide +kernel) fun t hf y => ?_
  blk_simp
  rw [after0_5]
  trans k0_pay1 (F := Ideal) (iblk m c 1 t) (iblk m c 2 t) y
  · frame_out
  obtain ⟨e0, e1, e2, e3⟩ := blk m c t
  rw [e1, e2]
  trans val_main_v4 (F := Ideal) (arr1 m c) (arr2 m c) y
  · rfl
  · congr 1
    funext a
    apply Fin.ext
    fin_cases a <;> simp [idx t]

theorem final6 (c : Dev nD) : (dats m 0 c).arrAt 6 cfg0.N
    = val_main_v10 (F := Ideal) (arr1 m c) (arr3 m c) := by
  refine (dats m 0 c).arrAt_eq_of_covers 6 _ (by decide +kernel) fun t hf y => ?_
  blk_simp
  rw [after0_6]
  trans k0_pay2 (F := Ideal) (iblk m c 1 t) (iblk m c 3 t) y
  · frame_out
  obtain ⟨e0, e1, e2, e3⟩ := blk m c t
  rw [e1, e3]
  trans val_main_v10 (F := Ideal) (arr1 m c) (arr3 m c) y
  · rfl
  · congr 1
    funext a
    apply Fin.ext
    fin_cases a <;> simp [idx t]

variable (ρ : Dev nD → PrngReg)

/-- The kernel's run, read: its three results are the reference's terms of the arguments, which end unchanged. -/
theorem run : θ_run (defs (F := Ideal)) (onTc (τ := τ) (main (F := Ideal))) ⟨m, fun _ => 0, ρ⟩ fun r => ∀ c : Dev nD,
    r.2.mem ((c.tc : Thread nD τ).loc main_v0_0)
      = val_main_v23 (F := Ideal) (arr0 m c) (arr1 m c) (arr2 m c) (arr3 m c)
    ∧ r.2.mem ((c.tc : Thread nD τ).loc main_v0_1) = val_main_v4 (F := Ideal) (arr1 m c) (arr2 m c)
    ∧ r.2.mem ((c.tc : Thread nD τ).loc main_v0_2) = val_main_v10 (F := Ideal) (arr1 m c) (arr3 m c)
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3) := by
  refine θ_run_mono (Cert.AdamKernelIdeal.Value.run_blocks m ρ) fun r h c => ?_
  obtain ⟨h4, h5, h6, h⟩ := h c
  exact ⟨h4.trans (final4 m c), h5.trans (final5 m c), h6.trans (final6 m c), h⟩

end Cert.AdamKernelIdeal.RefValue

namespace Cert.Proof.Adam

/-- The step, the new first moment and the new second moment are AdamW's, over the reals. -/
theorem algebraic : Cert.algebraic_AdamKernelIdeal_AdamReferenceIdeal := by
  pair_intro
  · run_from Cert.AdamKernelIdeal.RefValue.run m g
  · refine θ_run_mono (Cert.AdamReferenceIdeal.Value.run m' g') fun r h c => ?_
    obtain ⟨e0, e1, e2, e3⟩ := hagree c
    obtain ⟨h0, h1, h2, h⟩ := h c
    rw [e0, e1, e2, e3] at h0
    rw [e1, e2] at h1
    rw [e1, e3] at h2
    exact ⟨h0, h1, h2, h⟩

end Cert.Proof.Adam

namespace Cert.Table

/-- A word that is at least 0 and less than a small `n` as a signed word is less than `n`. -/
theorem small {v : BitVec 32} (n : ℕ) (hn : n < 16) (h : IntOp.andi (IntOp.cmpi .sge v 0#32) (IntOp.cmpi .slt v (BitVec.ofNat 32 n)) = 1#1) :
    v.toNat < n := by
  have ab (p q : Bool) : IntOp.andi (BitVec.ofBool p) (BitVec.ofBool q) = BitVec.ofBool (p && q) := by
    cases p <;> cases q <;> decide
  have ob (p : Bool) : (BitVec.ofBool p = 1#1) ↔ p = true := by cases p <;> decide
  simp only [IntOp.cmpi, ab, ob, Bool.and_eq_true, BitVec.sle_eq_decide, BitVec.slt_eq_decide, decide_eq_true_eq,
    BitVec.toInt_eq_toNat_cond, BitVec.toNat_ofNat, Nat.reducePow, Nat.reduceMod] at h
  omega

/-- Twice a chip's number and the core's, as words. -/
theorem pos {v : BitVec 32} {k : ℕ} (hk : k < 4) (hv : v.toNat < 2) :
    (Scalar.addi (Scalar.muli 2#32 (BitVec.ofNat 32 k)) v).toNat = 2 * k + v.toNat := by
  simp only [Scalar.muli, Scalar.addi, IntOp.muli, IntOp.addi, BitVec.toNat_add, BitVec.toNat_mul, BitVec.toNat_ofNat]
  omega

theorem ofNat {k : ℕ} (hk : k < 16) : (BitVec.ofNat 32 k).toNat = k := by
  simp only [BitVec.toNat_ofNat]
  omega

theorem one (i j : (⟨1, ![1]⟩ : Shape).Idx) : i = j := funext fun a => by
  obtain rfl := Subsingleton.elim a 0
  exact Subsingleton.elim (α := Fin 1) _ _

end Cert.Table

namespace Cert.ChipKernelIdeal.RefValue

open Cert.ChipKernelIdeal Cert.ChipKernelIdeal.Gen

variable {F : FTy → Type} [FloatOps F] (m : (ℓ : Loc nD τ sig) → Buf (Elt F) ℓ)

/-- The core's number, as the call's table has it. -/
abbrev core : BitVec 32 := (m (((0 : Dev nD).tc : Thread nD τ).loc main_arg0) : IVec S1 32) (Shape.Idx.first (s := S1) (numel1_S1.symm ▸ Nat.one_pos))

theorem at_core : (tbl m).at 0 (Rect.unit (s := S1) ![0] S1.size inb_S1_S1_0) numel1_S1 = core m :=
  congrArg (m (((0 : Dev nD).tc : Thread nD τ).loc main_arg0) : IVec S1 32) (Cert.Table.one _ _)

theorem ix (i : grid0.Coords) (h : (core m).toNat < 2) :
    cc0_transform_0 inb_S1_S1_0 numel1_S1 (tbl m) i = ![2 * (i 0).val + (core m).toNat, (i 1).val, 0] := by
  have h0 : (i 0).val < 4 := (i 0).isLt
  have h1 : (i 1).val < 4 := (i 1).isLt
  unfold cc0_transform_0
  rw [at_core]
  dsimp only
  rw [Cert.Table.pos h0 h, Cert.Table.ofNat (by omega)]
  rfl

theorem ok (h : (core m).toNat < 2) : Ok m := by
  intro i
  have h0 : (i 0).val < 4 := (i 0).isLt
  have h1 : (i 1).val < 4 := (i 1).isLt
  refine ⟨fun a => ?_, .inl rfl⟩
  rw [ix m i h]
  fin_cases a <;> simp <;> omega

end Cert.ChipKernelIdeal.RefValue

namespace Cert.ChipKernelIdeal.RefValue

open Cert.ChipKernelIdeal Cert.ChipKernelIdeal.Gen
open Cert.ChipReferenceIdeal.Read (val_main_v6)

variable (m : (ℓ : Loc nD τ sig) → Buf (Elt Ideal) ℓ) (hO : Ok m)

abbrev argC (c : Dev nD) : IVec S1 32 := m ((c.tc : Thread nD τ).loc main_arg0)
abbrev argG (c : Dev nD) : Vec Ideal S8x2048x768 .f32 := m ((c.tc : Thread nD τ).loc main_arg1)
abbrev argB (c : Dev nD) : Vec Ideal S4x2048x768 .f32 := m ((c.tc : Thread nD τ).loc main_arg2)

theorem covers : ((cfgM m hO).win 2).Covers := by
  have h : ((cfgM (F := Ideal) (fun ℓ => fun _ => (default : Elt Ideal _)) (ok _ (by decide))).win 2).Covers := by decide +kernel
  exact h

theorem pay (u : Vec Ideal S1x512x768 .f32) (v : Vec Ideal S1x512x768 .f32) (y : S1x512x768.Idx) :
    k0_pay1 (F := Ideal) u v y = FloatOps.truncf (F := Ideal) .bf16 bitsLt_bf16_f32 (FloatOps.addf (F := Ideal) (φ := .f32) (u y) (v y)) := by
  idx_vars y
  unfold k0_pay1
  refine (shapeCast_ab_1ab_apply _ _ y0 y1 y2).trans ?_
  show FloatOps.truncf (F := Ideal) .bf16 bitsLt_bf16_f32 (FloatOps.addf (F := Ideal) (φ := .f32) (shapeCast S512x768 u _ _) (shapeCast S512x768 v _ _)) = _
  obtain rfl := Subsingleton.elim y0 0
  congr 2
  · exact shapeCast_1ab_ab_apply _ _ y1 y2
  · exact shapeCast_1ab_ab_apply _ _ y1 y2

theorem ref (h : (core m).toNat < 2) (c : Dev nD) (j : S4x2048x768.Idx) (i : S8x2048x768.Idx)
    (h0 : (i 0).val = 2 * (j 0).val + (core m).toNat) (h1 : (i 1).val = (j 1).val) (h2 : (i 2).val = (j 2).val) :
    val_main_v6 (F := Ideal) (argC m c) (argG m c) (argB m c) j
      = FloatOps.truncf (F := Ideal) .bf16 bitsLt_bf16_f32 (FloatOps.addf (F := Ideal) (φ := .f32) (argG m c i) (argB m c j)) := by
  show FloatOps.truncf (F := Ideal) .bf16 bitsLt_bf16_f32 (FloatOps.addf (F := Ideal) (φ := .f32)
    (Scalar.select (IntOp.cmpi .eq (argC m c _) 0#32) (argG m c _) (argG m c _)) _) = _
  congr 2
  obtain rfl : c = 0 := Subsingleton.elim _ _
  rw [show argC m 0 _ = core m from congrArg (argC m 0) (Cert.Table.one _ _)]
  rcases (by omega : (core m).toNat = 0 ∨ (core m).toNat = 1) with e | e
  · rw [show core m = 0#32 from BitVec.eq_of_toNat_eq e]
    refine congrArg (argG m 0) (funext fun a => Fin.ext ?_)
    fin_cases a
    · show 0 + 2 * (j 0).val = (i 0).val
      omega
    · show 0 + 1 * (j 1).val = (i 1).val
      omega
    · show 0 + 1 * (j 2).val = (i 2).val
      omega
  · rw [show core m = 1#32 from BitVec.eq_of_toNat_eq e]
    refine congrArg (argG m 0) (funext fun a => Fin.ext ?_)
    fin_cases a
    · show 1 + 2 * (j 0).val = (i 0).val
      omega
    · show 0 + 1 * (j 1).val = (i 1).val
      omega
    · show 0 + 1 * (j 2).val = (i 2).val
      omega

theorem places (h : (core m).toNat < 2) (t : Fin (cfgM m hO).grid.N) :
    ((cfgM m hO).win 0).index t (0 : Fin 3) = 2 * ((cfgM m hO).win 2).index t (0 : Fin 3) + (core m).toNat
    ∧ ((cfgM m hO).win 0).index t (1 : Fin 3) = ((cfgM m hO).win 2).index t (1 : Fin 3)
    ∧ ((cfgM m hO).win 0).index t (2 : Fin 3) = ((cfgM m hO).win 2).index t (2 : Fin 3) := by
  have h0 : (grid0.coords t 0).val < 4 := (grid0.coords t 0).isLt
  have e : cc0_transform_2 (grid0.coords t) (0 : Fin 3) = (grid0.coords t 0).val := Cert.Table.ofNat (by omega)
  refine ⟨(congrFun (ix m (grid0.coords t) h) 0).trans (congrArg (2 * · + (core m).toNat) e).symm, ?_, ?_⟩ <;> rfl

theorem final (h : (core m).toNat < 2) (c : Dev nD) : (dats m hO 0 c).arrAt 2 (cfgM m hO).N
    = val_main_v6 (F := Ideal) (argC m c) (argG m c) (argB m c) := by
  refine (dats m hO 0 c).arrAt_eq_of_covers 2 _ (covers m hO) fun t hf y => ?_
  blk_simp
  rw [after0_2]
  trans k0_pay1 (F := Ideal) (iblk m hO c 0 t) (iblk m hO c 1 t) y
  · unfold outsAt0 out0_A_2
    frame_out
    exact congrFun (congr_arg₂ (k0_pay1 (F := Ideal)) (Memref.IsWhole.read_unread _ _) (Memref.IsWhole.read_unread _ _)) y
  refine (pay _ _ y).trans ?_
  refine Eq.trans ?_ (ref m h c _ ((((cfgM m hO).win 0).blk t).view.emb y) ?_ ?_ ?_).symm
  · congr 2
  · blk_simp
    exact (places m hO h t).1
  · blk_simp
    exact congrArg (· * 512 + (y (1 : Fin 3)).val) (places m hO h t).2.1
  · blk_simp
    exact congrArg (· * 768 + (y (2 : Fin 3)).val) (places m hO h t).2.2

variable (ρ : Dev nD → PrngReg)

/-- The kernel's run, read: its result is the reference's term of the arguments, which end unchanged. -/
theorem run (h : (core m).toNat < 2) : θ_run (defs (F := Ideal)) (onTc (τ := τ) (main (F := Ideal))) ⟨m, fun _ => 0, ρ⟩ fun r => ∀ c : Dev nD,
    r.2.mem ((c.tc : Thread nD τ).loc main_v0) = val_main_v6 (F := Ideal) (argC m c) (argG m c) (argB m c)
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2) := by
  have hO := ok m h
  refine θ_run_mono (run_main m ρ hO) fun r hr c => ?_
  refine ⟨((hr c).1 2).trans (final m hO h c), ?_, ?_, ?_⟩
  · exact ((hr c).2 main_arg0 (by decide : main_arg0 ∈ Pipeline.restRefs sig spec0)).trans (V_main_arg0 m c)
  · exact ((hr c).1 0).trans (((dats m hO 0 c).arrAt_in 0 rfl _).trans ((A_eq m hO c 0).trans (V_main_arg1 m c)))
  · exact ((hr c).1 1).trans (((dats m hO 0 c).arrAt_in 1 rfl _).trans ((A_eq m hO c 1).trans (V_main_arg2 m c)))

end Cert.ChipKernelIdeal.RefValue

namespace Cert.UpdKernelIdeal.RefValue

open Cert.UpdKernelIdeal Cert.UpdKernelIdeal.Gen

variable {F : FTy → Type} [FloatOps F] (m : (ℓ : Loc nD τ sig) → Buf (Elt F) ℓ)

abbrev core : BitVec 32 := (m (((0 : Dev nD).tc : Thread nD τ).loc main_arg0) : IVec S1 32) (Shape.Idx.first (s := S1) (numel1_S1.symm ▸ Nat.one_pos))

theorem at_core : (tbl m).at 0 (Rect.unit (s := S1) ![0] S1.size inb_S1_S1_0) numel1_S1 = core m :=
  congrArg (m (((0 : Dev nD).tc : Thread nD τ).loc main_arg0) : IVec S1 32) (Cert.Table.one _ _)

theorem ix (i : grid0.Coords) : cc0_transform_0 inb_S1_S1_0 numel1_S1 (tbl m) i = ![(core m).toNat, (i 0).val, 0] := by
  have h0 : (i 0).val < 8 := (i 0).isLt
  unfold cc0_transform_0
  rw [at_core]
  dsimp only
  rw [Cert.Table.ofNat (by omega)]
  rfl

theorem ok (h : (core m).toNat < 4) : Ok m := by
  intro i
  have h0 : (i 0).val < 8 := (i 0).isLt
  refine ⟨fun a => ?_, .inr ?_⟩
  · rw [ix m i]
    fin_cases a <;> simp <;> omega
  · exact Affine.block_words_dvd (of_decide_eq_true rfl) (by decide)

end Cert.UpdKernelIdeal.RefValue

namespace Cert.UpdKernelIdeal.RefValue

open Cert.UpdKernelIdeal Cert.UpdKernelIdeal.Gen
open Cert.UpdReferenceIdeal.Read (val_main_v12 val_main_v18 val_main_v31 val_main_v7)

variable (m : (ℓ : Loc nD τ sig) → Buf (Elt Ideal) ℓ) (hO : Ok m)

abbrev argC (c : Dev nD) : IVec S1 32 := m ((c.tc : Thread nD τ).loc main_arg0)
abbrev argO (c : Dev nD) : Vec Ideal S4x2048x768 .bf16 := m ((c.tc : Thread nD τ).loc main_arg1)
abbrev argL (c : Dev nD) : Vec Ideal S4x2048x768 .bf16 := m ((c.tc : Thread nD τ).loc main_arg2)
abbrev argP (c : Dev nD) : Vec Ideal S1x2048x768 .f32 := m ((c.tc : Thread nD τ).loc main_arg3)
abbrev argM (c : Dev nD) : Vec Ideal S1x2048x768 .f32 := m ((c.tc : Thread nD τ).loc main_arg4)
abbrev argV (c : Dev nD) : Vec Ideal S1x2048x768 .f32 := m ((c.tc : Thread nD τ).loc main_arg5)

theorem covers : ((cfgM m hO).win 5).Covers ∧ ((cfgM m hO).win 6).Covers ∧ ((cfgM m hO).win 7).Covers ∧ ((cfgM m hO).win 8).Covers := by
  let K := cfgM (F := Ideal) (fun ℓ => fun _ => (default : Elt Ideal _)) (ok _ (by decide))
  have h : (K.win 5).Covers ∧ (K.win 6).Covers ∧ (K.win 7).Covers ∧ (K.win 8).Covers := by decide +kernel
  exact h

/-- One chip's share: its own where the number is the chip's, else the landed one. -/
def pick (b : BitVec 1) (x y : EReal) : EReal := Scalar.select b x y

theorem pick_apply {s : Shape} (b : BitVec 1) (x y : Vec Ideal s .bf16) (i : s.Idx) :
    (Scalar.select b x y : Vec Ideal s .bf16) i = pick b (x i) (y i) := by
  unfold pick Scalar.select
  split <;> rfl

theorem pick_ne {v w : BitVec 32} (h : v ≠ w) (x y : EReal) : pick (IntOp.cmpi .eq v w) x y = y := by
  have e : IntOp.cmpi .eq v w = 0#1 := by
    simp only [IntOp.cmpi, beq_eq_false_iff_ne.2 h]
    rfl
  rw [e]
  rfl

/-- The four shares, added in the call's order. -/
def four (w : BitVec 32) (o a b c d : EReal) : EReal :=
  pick (Scalar.cmpi .eq w 0#32) o a + pick (Scalar.cmpi .eq w 1#32) o b + pick (Scalar.cmpi .eq w 2#32) o c
    + pick (Scalar.cmpi .eq w 3#32) o d

def moment (g x : Ideal .f32) : Ideal .f32 :=
  FloatOps.addf (FloatOps.mulf (FloatOps.ofBits .f32 0x3F666666#32) x) (FloatOps.mulf (FloatOps.ofBits .f32 0x3DCCCCCD#32) g)
def square (g x : Ideal .f32) : Ideal .f32 :=
  FloatOps.addf (FloatOps.mulf (FloatOps.ofBits .f32 0x3F7FBE77#32) x) (FloatOps.mulf (FloatOps.ofBits .f32 0x3A83126F#32) (FloatOps.mulf g g))
def step (g p x z : Ideal .f32) : Ideal .f32 :=
  FloatOps.mulf (FloatOps.ofBits .f32 0xBA83126F#32) (FloatOps.addf
    (FloatOps.divf (FloatOps.divf (moment g x) (FloatOps.ofBits .f32 0x3F26BD02#32))
      (FloatOps.addf (FloatOps.sqrt (FloatOps.divf (square g z) (FloatOps.ofBits .f32 0x3C231ACC#32))) (FloatOps.ofBits .f32 0x322BCC77#32)))
    (FloatOps.mulf (FloatOps.ofBits .f32 0x3C23D70A#32) p))

section Pay
variable (w : BitVec 32) (o a b c d : Vec Ideal S1x256x768 .bf16) (p x z : Vec Ideal S1x256x768 .f32) (y1 : Fin 256) (y2 : Fin 768)

theorem pay6 : k0_pay6 (F := Ideal) (k0_pay4 (F := Ideal) w o a o b o c) (k0_pay5 (F := Ideal) w o d) (ix2 y1 y2)
    = four w (o (ix3 0 y1 y2)) (a (ix3 0 y1 y2)) (b (ix3 0 y1 y2)) (c (ix3 0 y1 y2)) (d (ix3 0 y1 y2)) := by
  unfold k0_pay6 k0_pay4 k0_pay5 four
  have e (v : Vec Ideal S1x256x768 .bf16) : shapeCast S256x768 v shapeCasts_S1x256x768_S256x768 (ix2 y1 y2) = v (ix3 0 y1 y2) :=
    shapeCast_1ab_ab_apply _ _ y1 y2
  rw [← e o, ← e a, ← e b, ← e c, ← e d, ← pick_apply, ← pick_apply, ← pick_apply, ← pick_apply]
  rfl

theorem low (v : Vec Ideal S1x256x768 .f32) : shapeCast S256x768 v shapeCasts_S1x256x768_S256x768 (ix2 y1 y2) = v (ix3 0 y1 y2) :=
  shapeCast_1ab_ab_apply _ _ y1 y2

variable (A : FVec Ideal S256x768 .f32) (B : FVec Ideal S256x768 .bf16)

theorem up (v : Vec Ideal S256x768 .f32) : shapeCast S1x256x768 v shapeCasts_S256x768_S1x256x768 (ix3 0 y1 y2) = v (ix2 y1 y2) :=
  shapeCast_ab_1ab_apply _ _ 0 y1 y2

theorem pay7 : k0_pay7 (F := Ideal) A B (ix3 0 y1 y2) = k0_pay6 (F := Ideal) A B (ix2 y1 y2) := by
  unfold k0_pay7
  exact up y1 y2 _

theorem pay2 : k0_pay2 (F := Ideal) (k0_pay8 (F := Ideal) A B x) (ix3 0 y1 y2)
    = moment (k0_pay6 (F := Ideal) A B (ix2 y1 y2)) (x (ix3 0 y1 y2)) := by
  unfold k0_pay2
  rw [up, ← low y1 y2 x]
  rfl

theorem pay3 : k0_pay3 (F := Ideal) (k0_pay9 (F := Ideal) A B z) (ix3 0 y1 y2)
    = square (k0_pay6 (F := Ideal) A B (ix2 y1 y2)) (z (ix3 0 y1 y2)) := by
  unfold k0_pay3
  rw [up, ← low y1 y2 z]
  rfl

theorem pay1 : k0_pay1 (F := Ideal) (k0_pay10 (F := Ideal) A B p x z) (ix3 0 y1 y2)
    = step (k0_pay6 (F := Ideal) A B (ix2 y1 y2)) (p (ix3 0 y1 y2)) (x (ix3 0 y1 y2)) (z (ix3 0 y1 y2)) := by
  unfold k0_pay1
  rw [up, ← low y1 y2 p, ← low y1 y2 x, ← low y1 y2 z]
  rfl

end Pay

section Reference
open Cert.UpdReferenceIdeal.Read

variable (x0 : IVec S1 32) (x1 x2 : Vec Ideal S4x2048x768 .bf16) (x3 x4 x5 : Vec Ideal S1x2048x768 .f32) (i : S1x2048x768.Idx)

theorem ref12 : val_main_v12 (F := Ideal) x0 x1 x2 x4 i = moment (val_main_v7 (F := Ideal) x0 x1 x2 i) (x4 i) := rfl
theorem ref18 : val_main_v18 (F := Ideal) x0 x1 x2 x5 i = square (val_main_v7 (F := Ideal) x0 x1 x2 i) (x5 i) := rfl
theorem ref31 : val_main_v31 (F := Ideal) x0 x1 x2 x3 x4 x5 i = step (val_main_v7 (F := Ideal) x0 x1 x2 i) (x3 i) (x4 i) (x5 i) := rfl

theorem ref7 (w : BitVec 32) (hw : ∀ k, x0 k = w) (hw4 : w.toNat < 4) : val_main_v7 (F := Ideal) x0 x1 x2 i
    = four w (x1 (ix3 ⟨w.toNat, hw4⟩ (i 1) (i 2))) (x2 (ix3 0 (i 1) (i 2))) (x2 (ix3 1 (i 1) (i 2))) (x2 (ix3 2 (i 1) (i 2))) (x2 (ix3 3 (i 1) (i 2))) := by
  have e (k : Fin 4) : val_main_v5 (F := Ideal) x0 x1 x2 (idx_main_v6 (idx_main_v7 i) k)
      = pick (Scalar.cmpi .eq w (BitVec.ofNat 32 k.val)) (x1 (ix3 ⟨w.toNat, hw4⟩ (i 1) (i 2))) (x2 (ix3 k (i 1) (i 2))) := by
    have e1 : val_main_v5 (F := Ideal) x0 x1 x2 (idx_main_v6 (idx_main_v7 i) k)
      = pick (IntOp.cmpi .eq (BitVec.ofNat 32 k.val) (x0 _)) (x1 (idx_main_v6 (idx_main_v7 i) k)) (x2 (idx_main_v6 (idx_main_v7 i) k)) := rfl
    have e2 : idx_main_v6 (idx_main_v7 i) k = ix3 k (i 1) (i 2) := funext fun a => Fin.ext (by fin_cases a <;> rfl)
    rw [e1, hw, e2]
    by_cases q : w = BitVec.ofNat 32 k.val
    · have hk : w.toNat = k.val := by rw [q, Cert.Table.ofNat (by omega)]
      refine congr_arg₂ (fun b x => pick b x (x2 (ix3 k (i 1) (i 2)))) ?_ (congrArg x1 (funext fun a => Fin.ext ?_))
      · rw [q]
        rfl
      · fin_cases a
        · exact hk.symm
        · rfl
        · rfl
    · exact (pick_ne (Ne.symm q) _ _).trans (pick_ne q _ _).symm
  rw [val_main_v7_apply, val_main_v6_apply, Fin.sum_univ_four, e, e, e, e]
  exact (congrArg (· + _) lit_zero).trans (zero_add _)

end Reference

theorem places (t : Fin (cfgM m hO).grid.N) :
    ((cfgM m hO).win 0).index t (0 : Fin 3) = (core m).toNat
    ∧ ((cfgM m hO).win 0).index t (1 : Fin 3) = ((cfgM m hO).win 5).index t (1 : Fin 3)
    ∧ ((cfgM m hO).win 0).index t (2 : Fin 3) = ((cfgM m hO).win 5).index t (2 : Fin 3) := by
  refine ⟨congrFun (ix m (grid0.coords t)) 0, ?_, ?_⟩ <;> rfl

/-- The gradient's entry that the call adds is the reference's, at the entry's place in the array. -/
theorem sums (h : (core m).toNat < 4) (c : Dev nD) (t : Fin (cfgM m hO).grid.N) (y1 : Fin 256) (y2 : Fin 768) (w : BitVec 32)
    (o : Vec Ideal S1x256x768 .bf16) (L : Vec Ideal S4x256x768 .bf16) (hw : w = core m) (ho : o = iblk m hO c 0 t) (hL : L = iblk m hO c 1 t) :
    k0_pay6 (F := Ideal) (k0_pay4 (F := Ideal) w o (View.ld L (Rect.unit (s := S4x256x768) ![0, 0, 0] ![1, 256, 768] inb_S4x256x768_S1x256x768_0_0_0))
        o (View.ld L (Rect.unit (s := S4x256x768) ![1, 0, 0] ![1, 256, 768] inb_S4x256x768_S1x256x768_1_0_0))
        o (View.ld L (Rect.unit (s := S4x256x768) ![2, 0, 0] ![1, 256, 768] inb_S4x256x768_S1x256x768_2_0_0)))
      (k0_pay5 (F := Ideal) w o (View.ld L (Rect.unit (s := S4x256x768) ![3, 0, 0] ![1, 256, 768] inb_S4x256x768_S1x256x768_3_0_0))) (ix2 y1 y2)
      = val_main_v7 (F := Ideal) (argC m c) (argO m c) (argL m c)
        ((((cfgM m hO).win 5).blk t).view.emb (ix3 0 y1 y2)) := by
  obtain rfl : c = 0 := Subsingleton.elim _ _
  subst hw
  rw [pay6]
  refine Eq.trans ?_ (ref7 (argC m 0) (argO m 0) (argL m 0) _ (core m) (fun k => congrArg (argC m 0) (Cert.Table.one _ _)) h).symm
  rw [ho]
  obtain ⟨p0, p1, p2⟩ := places m hO t
  have v1 : (((((cfgM m hO).win 5).blk t).view.emb (ix3 0 y1 y2)) (1 : Fin 3)).val = ((cfgM m hO).win 5).index t (1 : Fin 3) * 256 + y1.val := by
    blk_simp
  have v2 : (((((cfgM m hO).win 5).blk t).view.emb (ix3 0 y1 y2)) (2 : Fin 3)).val = ((cfgM m hO).win 5).index t (2 : Fin 3) * 768 + y2.val := by
    blk_simp
  have d (k : Fin 4) (r) (hr : ∀ a : Fin 3, (r a).val = (ix3 k y1 y2 a).val) : L r = L (ix3 k y1 y2) :=
    congrArg L (funext fun a => Fin.ext (hr a))
  have l (k : Fin 4) : (iblk m hO 0 1 t : Vec Ideal S4x256x768 .bf16) (ix3 k y1 y2)
      = argL m 0 (ix3 k (((((cfgM m hO).win 5).blk t).view.emb (ix3 0 y1 y2)) (1 : Fin 3)) (((((cfgM m hO).win 5).blk t).view.emb (ix3 0 y1 y2)) (2 : Fin 3))) := by
    refine congrArg (argL m 0) (funext fun a => Fin.ext ?_)
    fin_cases a
    · blk_simp
      exact Nat.zero_add _
    · blk_simp
      exact v1.symm
    · blk_simp
      exact v2.symm
  have q : (iblk m hO 0 0 t : Vec Ideal S1x256x768 .bf16) (ix3 0 y1 y2)
      = argO m 0 (ix3 ⟨(core m).toNat, h⟩ (((((cfgM m hO).win 5).blk t).view.emb (ix3 0 y1 y2)) (1 : Fin 3)) (((((cfgM m hO).win 5).blk t).view.emb (ix3 0 y1 y2)) (2 : Fin 3))) := by
    refine congrArg (argO m 0) (funext fun a => Fin.ext ?_)
    fin_cases a
    · blk_simp
      exact p0
    · blk_simp
      exact (congrArg (· * 256 + y1.val) p1).trans v1.symm
    · blk_simp
      exact (congrArg (· * 768 + y2.val) p2).trans v2.symm
  rw [← hL] at l
  refine (congr (congr (congr (congr (congrArg (four (core m)) q) ((d 0 _ ?_).trans (l 0))) ((d 1 _ ?_).trans (l 1))) ((d 2 _ ?_).trans (l 2))) ((d 3 _ ?_).trans (l 3)))
  all_goals
    intro a
    fin_cases a
    · rfl
    · exact (Nat.zero_add _).trans (Nat.one_mul _)
    · exact (Nat.zero_add _).trans (Nat.one_mul _)

theorem final5 (h : (core m).toNat < 4) (c : Dev nD) : (dats m hO 0 c).arrAt 5 (cfgM m hO).N
    = val_main_v7 (F := Ideal) (argC m c) (argO m c) (argL m c) := by
  refine (dats m hO 0 c).arrAt_eq_of_covers 5 _ (covers m hO).1 fun t hf y => ?_
  rw [after0_5]
  unfold outsAt0 out0_A_5
  frame_out
  revert y
  show ∀ y : S1x256x768.Idx, _
  intro y
  idx_vars y
  obtain rfl := Subsingleton.elim y0 0
  refine (pay7 y1 y2 _ _).trans ?_
  · refine sums m hO h c t y1 y2 _ _ _ ?_ ?_ ?_
    · exact congrArg (argC m 0) (Cert.Table.one _ _)
    · exact Memref.IsWhole.read_unread _ _
    · exact Memref.IsWhole.read_unread _ _

theorem final6 (h : (core m).toNat < 4) (c : Dev nD) : (dats m hO 0 c).arrAt 6 (cfgM m hO).N
    = val_main_v31 (F := Ideal) (argC m c) (argO m c) (argL m c) (argP m c) (argM m c) (argV m c) := by
  refine (dats m hO 0 c).arrAt_eq_of_covers 6 _ (covers m hO).2.1 fun t hf y => ?_
  rw [after0_6]
  unfold outsAt0 out0_A_6
  frame_out
  revert y
  show ∀ y : S1x256x768.Idx, _
  intro y
  idx_vars y
  obtain rfl := Subsingleton.elim y0 0
  refine (pay1 _ _ _ y1 y2 _ _).trans (Eq.trans ?_ (ref31 _ _ _ _ _ _ _).symm)
  refine congr (congr (congr (congrArg step ?_) ?_) ?_) ?_
  · refine sums m hO h c t y1 y2 _ _ _ ?_ ?_ ?_
    · exact congrArg (argC m 0) (Cert.Table.one _ _)
    · exact Memref.IsWhole.read_unread _ _
    · exact Memref.IsWhole.read_unread _ _
  · exact congrFun (Memref.IsWhole.read_unread _ _) _
  · exact congrFun (Memref.IsWhole.read_unread _ _) _
  · exact congrFun (Memref.IsWhole.read_unread _ _) _

theorem final7 (h : (core m).toNat < 4) (c : Dev nD) : (dats m hO 0 c).arrAt 7 (cfgM m hO).N
    = val_main_v12 (F := Ideal) (argC m c) (argO m c) (argL m c) (argM m c) := by
  refine (dats m hO 0 c).arrAt_eq_of_covers 7 _ (covers m hO).2.2.1 fun t hf y => ?_
  rw [after0_7]
  unfold outsAt0 out0_A_7
  frame_out
  revert y
  show ∀ y : S1x256x768.Idx, _
  intro y
  idx_vars y
  obtain rfl := Subsingleton.elim y0 0
  refine (pay2 _ y1 y2 _ _).trans (Eq.trans ?_ (ref12 _ _ _ _ _).symm)
  refine congr (congrArg moment ?_) ?_
  · refine sums m hO h c t y1 y2 _ _ _ ?_ ?_ ?_
    · exact congrArg (argC m 0) (Cert.Table.one _ _)
    · exact Memref.IsWhole.read_unread _ _
    · exact Memref.IsWhole.read_unread _ _
  · exact congrFun (Memref.IsWhole.read_unread _ _) _

theorem final8 (h : (core m).toNat < 4) (c : Dev nD) : (dats m hO 0 c).arrAt 8 (cfgM m hO).N
    = val_main_v18 (F := Ideal) (argC m c) (argO m c) (argL m c) (argV m c) := by
  refine (dats m hO 0 c).arrAt_eq_of_covers 8 _ (covers m hO).2.2.2 fun t hf y => ?_
  rw [after0_8]
  unfold outsAt0 out0_A_8
  frame_out
  revert y
  show ∀ y : S1x256x768.Idx, _
  intro y
  idx_vars y
  obtain rfl := Subsingleton.elim y0 0
  refine (pay3 _ y1 y2 _ _).trans (Eq.trans ?_ (ref18 _ _ _ _ _).symm)
  refine congr (congrArg square ?_) ?_
  · refine sums m hO h c t y1 y2 _ _ _ ?_ ?_ ?_
    · exact congrArg (argC m 0) (Cert.Table.one _ _)
    · exact Memref.IsWhole.read_unread _ _
    · exact Memref.IsWhole.read_unread _ _
  · exact congrFun (Memref.IsWhole.read_unread _ _) _

variable (ρ : Dev nD → PrngReg)

/-- The kernel's run, read: its four results are the reference's terms of the arguments, which end unchanged. -/
theorem run (h : (core m).toNat < 4) : θ_run (defs (F := Ideal)) (onTc (τ := τ) (main (F := Ideal))) ⟨m, fun _ => 0, ρ⟩ fun r => ∀ c : Dev nD,
    r.2.mem ((c.tc : Thread nD τ).loc main_v0_0) = val_main_v7 (F := Ideal) (argC m c) (argO m c) (argL m c)
    ∧ r.2.mem ((c.tc : Thread nD τ).loc main_v0_1)
      = val_main_v31 (F := Ideal) (argC m c) (argO m c) (argL m c) (argP m c) (argM m c) (argV m c)
    ∧ r.2.mem ((c.tc : Thread nD τ).loc main_v0_2) = val_main_v12 (F := Ideal) (argC m c) (argO m c) (argL m c) (argM m c)
    ∧ r.2.mem ((c.tc : Thread nD τ).loc main_v0_3) = val_main_v18 (F := Ideal) (argC m c) (argO m c) (argL m c) (argV m c)
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5) := by
  have hO := ok m h
  refine θ_run_mono (run_main m ρ hO) fun r hr c => ?_
  have kept (w : Fin 9) (hw) : r.2.mem _ = V m c (Pipeline.arrRef spec0 w) :=
    ((hr c).1 w).trans (((dats m hO 0 c).arrAt_in w hw _).trans (A_eq m hO c w))
  exact ⟨((hr c).1 5).trans (final5 m hO h c), ((hr c).1 6).trans (final6 m hO h c), ((hr c).1 7).trans (final7 m hO h c),
    ((hr c).1 8).trans (final8 m hO h c), ((hr c).2 main_arg0 (by decide : main_arg0 ∈ Pipeline.restRefs sig spec0)).trans (V_main_arg0 m c),
    kept 0 rfl, kept 1 rfl, kept 2 rfl, kept 3 rfl, kept 4 rfl⟩

end Cert.UpdKernelIdeal.RefValue

namespace Cert.ChipKernel.RefValue

open Cert.ChipKernel Cert.ChipKernel.Gen

variable {F : FTy → Type} [FloatOps F] (m : (ℓ : Loc nD τ sig) → Buf (Elt F) ℓ)

/-- The core's number, as the call's table has it. -/
abbrev core : BitVec 32 := (m (((0 : Dev nD).tc : Thread nD τ).loc main_arg0) : IVec S1 32) (Shape.Idx.first (s := S1) (numel1_S1.symm ▸ Nat.one_pos))

theorem at_core : (tbl m).at 0 (Rect.unit (s := S1) ![0] S1.size inb_S1_S1_0) numel1_S1 = core m :=
  congrArg (m (((0 : Dev nD).tc : Thread nD τ).loc main_arg0) : IVec S1 32) (Cert.Table.one _ _)

theorem ix (i : grid0.Coords) (h : (core m).toNat < 2) :
    cc0_transform_0 inb_S1_S1_0 numel1_S1 (tbl m) i = ![2 * (i 0).val + (core m).toNat, (i 1).val, 0] := by
  have h0 : (i 0).val < 4 := (i 0).isLt
  have h1 : (i 1).val < 4 := (i 1).isLt
  unfold cc0_transform_0
  rw [at_core]
  dsimp only
  rw [Cert.Table.pos h0 h, Cert.Table.ofNat (by omega)]
  rfl

theorem ok (h : (core m).toNat < 2) : Ok m := by
  intro i
  have h0 : (i 0).val < 4 := (i 0).isLt
  have h1 : (i 1).val < 4 := (i 1).isLt
  refine ⟨fun a => ?_, .inl rfl⟩
  rw [ix m i h]
  fin_cases a <;> simp <;> omega

end Cert.ChipKernel.RefValue

namespace Cert.UpdKernel.RefValue

open Cert.UpdKernel Cert.UpdKernel.Gen

variable {F : FTy → Type} [FloatOps F] (m : (ℓ : Loc nD τ sig) → Buf (Elt F) ℓ)

abbrev core : BitVec 32 := (m (((0 : Dev nD).tc : Thread nD τ).loc main_arg0) : IVec S1 32) (Shape.Idx.first (s := S1) (numel1_S1.symm ▸ Nat.one_pos))

theorem at_core : (tbl m).at 0 (Rect.unit (s := S1) ![0] S1.size inb_S1_S1_0) numel1_S1 = core m :=
  congrArg (m (((0 : Dev nD).tc : Thread nD τ).loc main_arg0) : IVec S1 32) (Cert.Table.one _ _)

theorem ix (i : grid0.Coords) : cc0_transform_0 inb_S1_S1_0 numel1_S1 (tbl m) i = ![(core m).toNat, (i 0).val, 0] := by
  have h0 : (i 0).val < 8 := (i 0).isLt
  unfold cc0_transform_0
  rw [at_core]
  dsimp only
  rw [Cert.Table.ofNat (by omega)]
  rfl

theorem ok (h : (core m).toNat < 4) : Ok m := by
  intro i
  have h0 : (i 0).val < 8 := (i 0).isLt
  refine ⟨fun a => ?_, .inr ?_⟩
  · rw [ix m i]
    fin_cases a <;> simp <;> omega
  · exact Affine.block_words_dvd (of_decide_eq_true rfl) (by decide)

end Cert.UpdKernel.RefValue

namespace Cert.Proof.Chip

variable [Cert.Pre_chip_core.Facts]

theorem small {F : FTy → Type} [FloatOps F] {x : IVec Cert.Pre_chip_core.S1 32} {u v} (h : Cert.Pre_chip_core.fn (F := F) x u v = fun _ => 1#1) (i) :
    (x i).toNat < 2 := by
  have e := congrFun h (fun a => a.elim0)
  rw [Cert.Table.one i _]
  exact Cert.Table.small 2 (by decide) e

theorem bits : Cert.quiescent_ChipKernel := fun m ρ h => Cert.ChipKernel.Gen.frame m ρ (Cert.ChipKernel.RefValue.ok m (small (h 0) _))
theorem ideal : Cert.quiescent_ChipKernelIdeal := fun m ρ h =>
  Cert.ChipKernelIdeal.Gen.frame m ρ (Cert.ChipKernelIdeal.RefValue.ok m (small (h 0) _))

/-- The two cores' sum, over the reals. -/
theorem algebraic : Cert.algebraic_ChipKernelIdeal_ChipReferenceIdeal := by
  pair_intro
  · run_from Cert.ChipKernelIdeal.RefValue.run m g (small (hpre 0) _)
  · refine θ_run_mono (Cert.ChipReferenceIdeal.Value.run m' g') fun r h c => ?_
    obtain ⟨e0, e1, e2⟩ := hagree c
    obtain ⟨h0, h⟩ := h c
    rw [e0, e1, e2] at h0
    exact ⟨h0, h⟩

end Cert.Proof.Chip

namespace Cert.Proof.Upd

variable [Cert.Pre_upd_chip.Facts]

theorem small {F : FTy → Type} [FloatOps F] {x : IVec Cert.Pre_upd_chip.S1 32} {u v p q r} (h : Cert.Pre_upd_chip.fn (F := F) x u v p q r = fun _ => 1#1) (i) :
    (x i).toNat < 4 := by
  have e := congrFun h (fun a => a.elim0)
  rw [Cert.Table.one i _]
  exact Cert.Table.small 4 (by decide) e

theorem bits : Cert.quiescent_UpdKernel := fun m ρ h => Cert.UpdKernel.Gen.frame m ρ (Cert.UpdKernel.RefValue.ok m (small (h 0) _))
theorem ideal : Cert.quiescent_UpdKernelIdeal := fun m ρ h =>
  Cert.UpdKernelIdeal.Gen.frame m ρ (Cert.UpdKernelIdeal.RefValue.ok m (small (h 0) _))

/-- The four chips' sum, the step and the two new moments are the reference's, over the reals. -/
theorem algebraic : Cert.algebraic_UpdKernelIdeal_UpdReferenceIdeal := by
  pair_intro
  · run_from Cert.UpdKernelIdeal.RefValue.run m g (small (hpre 0) _)
  · refine θ_run_mono (Cert.UpdReferenceIdeal.Value.run m' g') fun r h c => ?_
    obtain ⟨e0, e1, e2, e3, e4, e5⟩ := hagree c
    obtain ⟨h0, h1, h2, h3, h⟩ := h c
    rw [e0, e1, e2] at h0
    rw [e0, e1, e2, e3, e4, e5] at h1
    rw [e0, e1, e2, e4] at h2
    rw [e0, e1, e2, e5] at h3
    exact ⟨h0, h1, h2, h3, h⟩

end Cert.Proof.Upd

end
-- ==== Proof.lean ====
/- The claims of `Cert.Claim`, each from the module that proves it. -/
module

public import proofs.«01_k».proof.Defs
public import proofs.«01_k».proof.Proof.Gen.LossKernel.Frame
public import proofs.«01_k».proof.Proof.Loss
public import proofs.«01_k».proof.Proof.Gen.NormKernel.Frame
public import proofs.«01_k».proof.Proof.Norm
public import proofs.«01_k».proof.Proof.Gen.RmsKernel.Frame
public import proofs.«01_k».proof.Proof.Rms
public import proofs.«01_k».proof.Proof.Gen.GateKernel.Frame
public import proofs.«01_k».proof.Proof.Gate
public import proofs.«01_k».proof.Proof.Gen.ConvKernel.Frame
public import proofs.«01_k».proof.Proof.Gen.MixKernel.Frame
public import proofs.«01_k».proof.Proof.Mix
public import proofs.«01_k».proof.Proof.Gen.PoolKernel.Frame
public import proofs.«01_k».proof.Proof.Pool
public import proofs.«01_k».proof.Proof.Gen.AttnKernel.Points
public import proofs.«01_k».proof.Proof.Gen.AttnKernel.Loops
public import proofs.«01_k».proof.Proof.Gen.AttnKernel.Regions
public import proofs.«01_k».proof.Proof.Attn
public import proofs.«01_k».proof.Proof.Gen.ProjKernel.Frame
public import proofs.«01_k».proof.Proof.Products
public import proofs.«01_k».proof.Proof.Gen.ResKernel.Frame
public import proofs.«01_k».proof.Proof.Gen.DownKernel.Frame
public import proofs.«01_k».proof.Proof.Gen.BackKernel.Frame
public import proofs.«01_k».proof.Proof.BackProducts
public import proofs.«01_k».proof.Proof.Gen.FfdhKernel.Frame
public import proofs.«01_k».proof.Proof.Gen.SectKernel.Frame
public import proofs.«01_k».proof.Proof.Gen.WcolKernel.Frame
public import proofs.«01_k».proof.Proof.WeightProducts
public import proofs.«01_k».proof.Proof.Gen.WrowKernel.Frame
public import proofs.«01_k».proof.Proof.Gen.WstdKernel.Frame
public import proofs.«01_k».proof.Proof.Gen.WsecKernel.Frame
public import proofs.«01_k».proof.Proof.Gen.AdamKernel.Frame
public import proofs.«01_k».proof.Proof.Update
public import proofs.«01_k».proof.Proof.Gen.Pre_chip_core
public import proofs.«01_k».proof.Proof.Gen.Pre_upd_chip
public import Idealize.ShloMosaic.Adequacy
public import Idealize.ShloMosaic.Init

@[expose] public section

noncomputable section

namespace Cert.Proof

open Idealize.ShloMosaic Idealize.SL.Sem

/-- Every claim: the generated frames, the idealizations without rewrites, and the values proved in this directory. -/
theorem claim : Cert.Claim :=
  ⟨Cert.LossKernel.Gen.facts, Cert.LossKernelIdeal.Gen.facts, Cert.LossReferenceIdeal.Gen.facts, Cert.NormKernel.Gen.facts, Cert.NormKernelIdeal.Gen.facts, Cert.NormReferenceIdeal.Gen.facts, Cert.RmsKernel.Gen.facts, Cert.RmsKernelIdeal.Gen.facts, Cert.RmsReferenceIdeal.Gen.facts, Cert.GateKernel.Gen.facts, Cert.GateKernelIdeal.Gen.facts, Cert.GateReferenceIdeal.Gen.facts, Cert.ConvKernel.Gen.facts, Cert.ConvKernelIdeal.Gen.facts, Cert.ConvReferenceIdeal.Gen.facts, Cert.MixKernel.Gen.facts, Cert.MixKernelIdeal.Gen.facts, Cert.MixReferenceIdeal.Gen.facts, Cert.PoolKernel.Gen.facts, Cert.PoolKernelIdeal.Gen.facts, Cert.PoolReferenceIdeal.Gen.facts, Cert.AttnKernel.Gen.facts, Cert.AttnKernelIdeal.Gen.facts, Cert.AttnReferenceIdeal.Gen.facts, Cert.ProjKernel.Gen.facts, Cert.ProjKernelIdeal.Gen.facts, Cert.ProjReferenceIdeal.Gen.facts, Cert.ResKernel.Gen.facts, Cert.ResKernelIdeal.Gen.facts, Cert.ResReferenceIdeal.Gen.facts, Cert.DownKernel.Gen.facts, Cert.DownKernelIdeal.Gen.facts, Cert.DownReferenceIdeal.Gen.facts, Cert.BackKernel.Gen.facts, Cert.BackKernelIdeal.Gen.facts, Cert.BackReferenceIdeal.Gen.facts, Cert.FfdhKernel.Gen.facts, Cert.FfdhKernelIdeal.Gen.facts, Cert.FfdhReferenceIdeal.Gen.facts, Cert.SectKernel.Gen.facts, Cert.SectKernelIdeal.Gen.facts, Cert.SectReferenceIdeal.Gen.facts, Cert.WcolKernel.Gen.facts, Cert.WcolKernelIdeal.Gen.facts, Cert.WcolReferenceIdeal.Gen.facts, Cert.WrowKernel.Gen.facts, Cert.WrowKernelIdeal.Gen.facts, Cert.WrowReferenceIdeal.Gen.facts, Cert.WstdKernel.Gen.facts, Cert.WstdKernelIdeal.Gen.facts, Cert.WstdReferenceIdeal.Gen.facts, Cert.WsecKernel.Gen.facts, Cert.WsecKernelIdeal.Gen.facts, Cert.WsecReferenceIdeal.Gen.facts, Cert.AdamKernel.Gen.facts, Cert.AdamKernelIdeal.Gen.facts, Cert.AdamReferenceIdeal.Gen.facts, Cert.ChipKernel.Gen.facts, Cert.ChipKernelIdeal.Gen.facts, Cert.ChipReferenceIdeal.Gen.facts, Cert.UpdKernel.Gen.facts, Cert.UpdKernelIdeal.Gen.facts, Cert.UpdReferenceIdeal.Gen.facts, Cert.Pre_gate_finite.Gen.facts, Cert.Pre_pool_finite.Gen.facts, Cert.Pre_attn_finite.Gen.facts, Cert.Pre_chip_core.Gen.facts, Cert.Pre_upd_chip.Gen.facts,
    fun m ρ _ => Cert.LossKernel.Gen.frame m ρ,
    fun m ρ _ => Cert.LossKernelIdeal.Gen.frame m ρ,
    fun m ρ _ => (θ_run Cert.LossReferenceIdeal.defs _ _).mono (fun r h => ⟨fun c => (h c).2.2.2, sem_eq_zero_of_no_sems (by decide) r.2⟩) (Cert.LossReferenceIdeal.Value.run m ρ),
    fun m ρ _ => Cert.NormKernel.Gen.frame m ρ,
    fun m ρ _ => Cert.NormKernelIdeal.Gen.frame m ρ,
    fun m ρ _ => (θ_run Cert.NormReferenceIdeal.defs _ _).mono (fun r h => ⟨fun c => (h c).2.2.2, sem_eq_zero_of_no_sems (by decide) r.2⟩) (Cert.NormReferenceIdeal.Value.run m ρ),
    fun m ρ _ => Cert.RmsKernel.Gen.frame m ρ,
    fun m ρ _ => Cert.RmsKernelIdeal.Gen.frame m ρ,
    fun m ρ _ => (θ_run Cert.RmsReferenceIdeal.defs _ _).mono (fun r h => ⟨fun c => (h c).2, sem_eq_zero_of_no_sems (by decide) r.2⟩) (Cert.RmsReferenceIdeal.Value.run m ρ),
    fun m ρ _ => Cert.GateKernel.Gen.frame m ρ,
    fun m ρ _ => Cert.GateKernelIdeal.Gen.frame m ρ,
    fun m ρ _ => Cert.GateKernelIdeal.Gen.frame m ρ,
    fun m ρ _ => (θ_run Cert.GateReferenceIdeal.defs _ _).mono (fun r h => ⟨fun c => (h c).2.2.2, sem_eq_zero_of_no_sems (by decide) r.2⟩) (Cert.GateReferenceIdeal.Value.run m ρ),
    fun m ρ _ => (θ_run Cert.GateReferenceIdeal.defs _ _).mono (fun r h => ⟨fun c => (h c).2.2.2, sem_eq_zero_of_no_sems (by decide) r.2⟩) (Cert.GateReferenceIdeal.Value.run m ρ),
    fun m ρ _ => Cert.ConvKernel.Gen.frame m ρ,
    fun m ρ _ => Cert.ConvKernelIdeal.Gen.frame m ρ,
    fun m ρ _ => (θ_run Cert.ConvReferenceIdeal.defs _ _).mono (fun r h => ⟨fun c => (h c).2.2, sem_eq_zero_of_no_sems (by decide) r.2⟩) (Cert.ConvReferenceIdeal.Value.run m ρ),
    fun m ρ _ => Cert.MixKernel.Gen.frame m ρ,
    fun m ρ _ => Cert.MixKernelIdeal.Gen.frame m ρ,
    fun m ρ _ => (θ_run Cert.MixReferenceIdeal.defs _ _).mono (fun r h => ⟨fun c => (h c).2, sem_eq_zero_of_no_sems (by decide) r.2⟩) (Cert.MixReferenceIdeal.Value.run m ρ),
    fun m ρ _ => Cert.PoolKernel.Gen.frame m ρ,
    fun m ρ _ => Cert.PoolKernelIdeal.Gen.frame m ρ,
    fun m ρ _ => Cert.PoolKernelIdeal.Gen.frame m ρ,
    fun m ρ _ => (θ_run Cert.PoolReferenceIdeal.defs _ _).mono (fun r h => ⟨fun c => (h c).2.2.2.2, sem_eq_zero_of_no_sems (by decide) r.2⟩) (Cert.PoolReferenceIdeal.Value.run m ρ),
    fun m ρ _ => (θ_run Cert.PoolReferenceIdeal.defs _ _).mono (fun r h => ⟨fun c => (h c).2.2.2.2, sem_eq_zero_of_no_sems (by decide) r.2⟩) (Cert.PoolReferenceIdeal.Value.run m ρ),
    fun m ρ _ => Cert.Proof.Attn.frame_bits m ρ,
    fun m ρ _ => Cert.Proof.Attn.frame_any m ρ,
    fun m ρ _ => Cert.Proof.Attn.frame_any m ρ,
    fun m ρ _ => (θ_run Cert.AttnReferenceIdeal.defs _ _).mono (fun r h => ⟨fun c => (h c).2.2.2.2, sem_eq_zero_of_no_sems (by decide) r.2⟩) (Cert.AttnReferenceIdeal.Value.run m ρ),
    fun m ρ _ => (θ_run Cert.AttnReferenceIdeal.defs _ _).mono (fun r h => ⟨fun c => (h c).2.2.2.2, sem_eq_zero_of_no_sems (by decide) r.2⟩) (Cert.AttnReferenceIdeal.Value.run m ρ),
    fun m ρ _ => Cert.ProjKernel.Gen.frame m ρ,
    fun m ρ _ => Cert.ProjKernelIdeal.Gen.frame m ρ,
    fun m ρ _ => (θ_run Cert.ProjReferenceIdeal.defs _ _).mono (fun r h => ⟨fun c => (h c).2, sem_eq_zero_of_no_sems (by decide) r.2⟩) (Cert.ProjReferenceIdeal.Value.run m ρ),
    fun m ρ _ => Cert.ResKernel.Gen.frame m ρ,
    fun m ρ _ => Cert.ResKernelIdeal.Gen.frame m ρ,
    fun m ρ _ => (θ_run Cert.ResReferenceIdeal.defs _ _).mono (fun r h => ⟨fun c => (h c).2, sem_eq_zero_of_no_sems (by decide) r.2⟩) (Cert.ResReferenceIdeal.Value.run m ρ),
    fun m ρ _ => Cert.DownKernel.Gen.frame m ρ,
    fun m ρ _ => Cert.DownKernelIdeal.Gen.frame m ρ,
    fun m ρ _ => (θ_run Cert.DownReferenceIdeal.defs _ _).mono (fun r h => ⟨fun c => (h c).2, sem_eq_zero_of_no_sems (by decide) r.2⟩) (Cert.DownReferenceIdeal.Value.run m ρ),
    fun m ρ _ => Cert.BackKernel.Gen.frame m ρ,
    fun m ρ _ => Cert.BackKernelIdeal.Gen.frame m ρ,
    fun m ρ _ => (θ_run Cert.BackReferenceIdeal.defs _ _).mono (fun r h => ⟨fun c => (h c).2, sem_eq_zero_of_no_sems (by decide) r.2⟩) (Cert.BackReferenceIdeal.Value.run m ρ),
    fun m ρ _ => Cert.FfdhKernel.Gen.frame m ρ,
    fun m ρ _ => Cert.FfdhKernelIdeal.Gen.frame m ρ,
    fun m ρ _ => (θ_run Cert.FfdhReferenceIdeal.defs _ _).mono (fun r h => ⟨fun c => (h c).2, sem_eq_zero_of_no_sems (by decide) r.2⟩) (Cert.FfdhReferenceIdeal.Value.run m ρ),
    fun m ρ _ => Cert.SectKernel.Gen.frame m ρ,
    fun m ρ _ => Cert.SectKernelIdeal.Gen.frame m ρ,
    fun m ρ _ => (θ_run Cert.SectReferenceIdeal.defs _ _).mono (fun r h => ⟨fun c => (h c).2, sem_eq_zero_of_no_sems (by decide) r.2⟩) (Cert.SectReferenceIdeal.Value.run m ρ),
    fun m ρ _ => Cert.WcolKernel.Gen.frame m ρ,
    fun m ρ _ => Cert.WcolKernelIdeal.Gen.frame m ρ,
    fun m ρ _ => (θ_run Cert.WcolReferenceIdeal.defs _ _).mono (fun r h => ⟨fun c => (h c).2.2, sem_eq_zero_of_no_sems (by decide) r.2⟩) (Cert.WcolReferenceIdeal.Value.run m ρ),
    fun m ρ _ => Cert.WrowKernel.Gen.frame m ρ,
    fun m ρ _ => Cert.WrowKernelIdeal.Gen.frame m ρ,
    fun m ρ _ => (θ_run Cert.WrowReferenceIdeal.defs _ _).mono (fun r h => ⟨fun c => (h c).2, sem_eq_zero_of_no_sems (by decide) r.2⟩) (Cert.WrowReferenceIdeal.Value.run m ρ),
    fun m ρ _ => Cert.WstdKernel.Gen.frame m ρ,
    fun m ρ _ => Cert.WstdKernelIdeal.Gen.frame m ρ,
    fun m ρ _ => (θ_run Cert.WstdReferenceIdeal.defs _ _).mono (fun r h => ⟨fun c => (h c).2, sem_eq_zero_of_no_sems (by decide) r.2⟩) (Cert.WstdReferenceIdeal.Value.run m ρ),
    fun m ρ _ => Cert.WsecKernel.Gen.frame m ρ,
    fun m ρ _ => Cert.WsecKernelIdeal.Gen.frame m ρ,
    fun m ρ _ => (θ_run Cert.WsecReferenceIdeal.defs _ _).mono (fun r h => ⟨fun c => (h c).2, sem_eq_zero_of_no_sems (by decide) r.2⟩) (Cert.WsecReferenceIdeal.Value.run m ρ),
    fun m ρ _ => Cert.AdamKernel.Gen.frame m ρ,
    fun m ρ _ => Cert.AdamKernelIdeal.Gen.frame m ρ,
    fun m ρ _ => (θ_run Cert.AdamReferenceIdeal.defs _ _).mono (fun r h => ⟨fun c => (h c).2.2.2, sem_eq_zero_of_no_sems (by decide) r.2⟩) (Cert.AdamReferenceIdeal.Value.run m ρ),
    Cert.Proof.Chip.bits,
    Cert.Proof.Chip.ideal,
    fun m ρ _ => (θ_run Cert.ChipReferenceIdeal.defs _ _).mono (fun r h => ⟨fun c => (h c).2, sem_eq_zero_of_no_sems (by decide) r.2⟩) (Cert.ChipReferenceIdeal.Value.run m ρ),
    Cert.Proof.Upd.bits,
    Cert.Proof.Upd.ideal,
    fun m ρ _ => (θ_run Cert.UpdReferenceIdeal.defs _ _).mono (fun r h => ⟨fun c => (h c).2.2.2.2, sem_eq_zero_of_no_sems (by decide) r.2⟩) (Cert.UpdReferenceIdeal.Value.run m ρ),
    trivial,
    Cert.Proof.Loss.algebraic,
    trivial,
    Cert.Proof.Norm.algebraic,
    trivial,
    Cert.Proof.Rms.algebraic,
    trivial,
    Cert.Proof.Gate.algebraic,
    trivial,
    Cert.Proof.Conv.algebraic,
    trivial,
    Cert.Proof.Mix.algebraic,
    trivial,
    Cert.Proof.Pool.algebraic,
    trivial,
    Cert.Proof.Attn.algebraic,
    trivial,
    Cert.Proof.Proj.algebraic,
    trivial,
    Cert.Proof.Res.algebraic,
    trivial,
    Cert.Proof.Down.algebraic,
    trivial,
    Cert.Proof.Back.algebraic,
    trivial,
    Cert.Proof.Ffdh.algebraic,
    trivial,
    Cert.Proof.Sect.algebraic,
    trivial,
    Cert.Proof.Wcol.algebraic,
    trivial,
    Cert.Proof.Wrow.algebraic,
    trivial,
    Cert.Proof.Wstd.algebraic,
    trivial,
    Cert.Proof.Wsec.algebraic,
    trivial,
    Cert.Proof.Adam.algebraic,
    trivial,
    Cert.Proof.Chip.algebraic,
    trivial,
    Cert.Proof.Upd.algebraic⟩

end Cert.Proof

end
